-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_cross [hPre_finite_cross : Cert.Pre_finite_cross.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_cross.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_cross [hPre_finite_cross : Cert.Pre_finite_cross.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_cross.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_cross [hKernel3Ideal : Cert.Kernel3Ideal.Facts] [hPre_finite_cross : Cert.Pre_finite_cross.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_cross m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_cross [hReference3Ideal : Cert.Reference3Ideal.Facts] [hPre_finite_cross : Cert.Pre_finite_cross.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_cross m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27)
      ∧ r.2.mem ((c.tc : Thread Cert.Kernel6.nD Cert.Kernel6.τ).loc Cert.Kernel6.main_arg28) = m ((c.tc : Thread Cert.Kernel6.nD Cert.Kernel6.τ).loc Cert.Kernel6.main_arg28)
      ∧ r.2.mem ((c.tc : Thread Cert.Kernel6.nD Cert.Kernel6.τ).loc Cert.Kernel6.main_arg29) = m ((c.tc : Thread Cert.Kernel6.nD Cert.Kernel6.τ).loc Cert.Kernel6.main_arg29)
      ∧ r.2.mem ((c.tc : Thread Cert.Kernel6.nD Cert.Kernel6.τ).loc Cert.Kernel6.main_arg30) = m ((c.tc : Thread Cert.Kernel6.nD Cert.Kernel6.τ).loc Cert.Kernel6.main_arg30)
      ∧ r.2.mem ((c.tc : Thread Cert.Kernel6.nD Cert.Kernel6.τ).loc Cert.Kernel6.main_arg31) = m ((c.tc : Thread Cert.Kernel6.nD Cert.Kernel6.τ).loc Cert.Kernel6.main_arg31)
      ∧ r.2.mem ((c.tc : Thread Cert.Kernel6.nD Cert.Kernel6.τ).loc Cert.Kernel6.main_arg32) = m ((c.tc : Thread Cert.Kernel6.nD Cert.Kernel6.τ).loc Cert.Kernel6.main_arg32)
      ∧ r.2.mem ((c.tc : Thread Cert.Kernel6.nD Cert.Kernel6.τ).loc Cert.Kernel6.main_arg33) = m ((c.tc : Thread Cert.Kernel6.nD Cert.Kernel6.τ).loc Cert.Kernel6.main_arg33)
      ∧ r.2.mem ((c.tc : Thread Cert.Kernel6.nD Cert.Kernel6.τ).loc Cert.Kernel6.main_arg34) = m ((c.tc : Thread Cert.Kernel6.nD Cert.Kernel6.τ).loc Cert.Kernel6.main_arg34)
      ∧ r.2.mem ((c.tc : Thread Cert.Kernel6.nD Cert.Kernel6.τ).loc Cert.Kernel6.main_arg35) = m ((c.tc : Thread Cert.Kernel6.nD Cert.Kernel6.τ).loc Cert.Kernel6.main_arg35))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
      ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
      ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
      ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
      ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33)
      ∧ r.2.mem ((c.tc : Thread Cert.Kernel6Ideal.nD Cert.Kernel6Ideal.τ).loc Cert.Kernel6Ideal.main_arg34) = m ((c.tc : Thread Cert.Kernel6Ideal.nD Cert.Kernel6Ideal.τ).loc Cert.Kernel6Ideal.main_arg34)
      ∧ r.2.mem ((c.tc : Thread Cert.Kernel6Ideal.nD Cert.Kernel6Ideal.τ).loc Cert.Kernel6Ideal.main_arg35) = m ((c.tc : Thread Cert.Kernel6Ideal.nD Cert.Kernel6Ideal.τ).loc Cert.Kernel6Ideal.main_arg35))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29)
      ∧ r.2.mem ((c.tc : Thread Cert.Reference6Ideal.nD Cert.Reference6Ideal.τ).loc Cert.Reference6Ideal.main_arg30) = m ((c.tc : Thread Cert.Reference6Ideal.nD Cert.Reference6Ideal.τ).loc Cert.Reference6Ideal.main_arg30)
      ∧ r.2.mem ((c.tc : Thread Cert.Reference6Ideal.nD Cert.Reference6Ideal.τ).loc Cert.Reference6Ideal.main_arg31) = m ((c.tc : Thread Cert.Reference6Ideal.nD Cert.Reference6Ideal.τ).loc Cert.Reference6Ideal.main_arg31)
      ∧ r.2.mem ((c.tc : Thread Cert.Reference6Ideal.nD Cert.Reference6Ideal.τ).loc Cert.Reference6Ideal.main_arg32) = m ((c.tc : Thread Cert.Reference6Ideal.nD Cert.Reference6Ideal.τ).loc Cert.Reference6Ideal.main_arg32)
      ∧ r.2.mem ((c.tc : Thread Cert.Reference6Ideal.nD Cert.Reference6Ideal.τ).loc Cert.Reference6Ideal.main_arg33) = m ((c.tc : Thread Cert.Reference6Ideal.nD Cert.Reference6Ideal.τ).loc Cert.Reference6Ideal.main_arg33)
      ∧ r.2.mem ((c.tc : Thread Cert.Reference6Ideal.nD Cert.Reference6Ideal.τ).loc Cert.Reference6Ideal.main_arg34) = m ((c.tc : Thread Cert.Reference6Ideal.nD Cert.Reference6Ideal.τ).loc Cert.Reference6Ideal.main_arg34)
      ∧ r.2.mem ((c.tc : Thread Cert.Reference6Ideal.nD Cert.Reference6Ideal.τ).loc Cert.Reference6Ideal.main_arg35) = m ((c.tc : Thread Cert.Reference6Ideal.nD Cert.Reference6Ideal.τ).loc Cert.Reference6Ideal.main_arg35))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v196_0)) (v1 : (c : Dev Cert.KernelIdeal.nD) → Buf (Elt Ideal) ((c.tc : Thread Cert.KernelIdeal.nD Cert.KernelIdeal.τ).loc Cert.KernelIdeal.main_v196_1)) (v2 : (c : Dev Cert.KernelIdeal.nD) → Buf (Elt Ideal) ((c.tc : Thread Cert.KernelIdeal.nD Cert.KernelIdeal.τ).loc Cert.KernelIdeal.main_v196_2)) (v3 : (c : Dev Cert.KernelIdeal.nD) → Buf (Elt Ideal) ((c.tc : Thread Cert.KernelIdeal.nD Cert.KernelIdeal.τ).loc Cert.KernelIdeal.main_v196_3)) (v4 : (c : Dev Cert.KernelIdeal.nD) → Buf (Elt Ideal) ((c.tc : Thread Cert.KernelIdeal.nD Cert.KernelIdeal.τ).loc Cert.KernelIdeal.main_v196_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v196_0) = v0 c
          ∧ r.2.mem ((c.tc : Thread Cert.KernelIdeal.nD Cert.KernelIdeal.τ).loc Cert.KernelIdeal.main_v196_1) = v1 c
          ∧ r.2.mem ((c.tc : Thread Cert.KernelIdeal.nD Cert.KernelIdeal.τ).loc Cert.KernelIdeal.main_v196_2) = v2 c
          ∧ r.2.mem ((c.tc : Thread Cert.KernelIdeal.nD Cert.KernelIdeal.τ).loc Cert.KernelIdeal.main_v196_3) = v3 c
          ∧ r.2.mem ((c.tc : Thread Cert.KernelIdeal.nD Cert.KernelIdeal.τ).loc Cert.KernelIdeal.main_v196_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v14)) (v2 : (c : Dev Cert.Kernel2Ideal.nD) → Buf (Elt Ideal) ((c.tc : Thread Cert.Kernel2Ideal.nD Cert.Kernel2Ideal.τ).loc Cert.Kernel2Ideal.main_v12)) (v3 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v14) = v1 c
          ∧ r.2.mem ((c.tc : Thread Cert.Kernel2Ideal.nD Cert.Kernel2Ideal.τ).loc Cert.Kernel2Ideal.main_v12) = v2 c
          ∧ r.2.mem ((c.tc : Thread Cert.Kernel2Ideal.nD Cert.Kernel2Ideal.τ).loc Cert.Kernel2Ideal.main_v11) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_cross [hKernel3Ideal : Cert.Kernel3Ideal.Facts] [hReference3Ideal : Cert.Reference3Ideal.Facts] [hPre_finite_cross : Cert.Pre_finite_cross.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_cross m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v15)) (v2 : (c : Dev Cert.Kernel3Ideal.nD) → Buf (Elt Ideal) ((c.tc : Thread Cert.Kernel3Ideal.nD Cert.Kernel3Ideal.τ).loc Cert.Kernel3Ideal.main_v18)) (v3 : (c : Dev Cert.Kernel3Ideal.nD) → Buf (Elt Ideal) ((c.tc : Thread Cert.Kernel3Ideal.nD Cert.Kernel3Ideal.τ).loc Cert.Kernel3Ideal.main_v14)) (v4 : (c : Dev Cert.Kernel3Ideal.nD) → Buf (Elt Ideal) ((c.tc : Thread Cert.Kernel3Ideal.nD Cert.Kernel3Ideal.τ).loc Cert.Kernel3Ideal.main_v17)) (v5 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v15) = v1 c
          ∧ r.2.mem ((c.tc : Thread Cert.Kernel3Ideal.nD Cert.Kernel3Ideal.τ).loc Cert.Kernel3Ideal.main_v18) = v2 c
          ∧ r.2.mem ((c.tc : Thread Cert.Kernel3Ideal.nD Cert.Kernel3Ideal.τ).loc Cert.Kernel3Ideal.main_v14) = v3 c
          ∧ r.2.mem ((c.tc : Thread Cert.Kernel3Ideal.nD Cert.Kernel3Ideal.τ).loc Cert.Kernel3Ideal.main_v17) = v4 c
          ∧ r.2.mem ((c.tc : Thread Cert.Kernel3Ideal.nD Cert.Kernel3Ideal.τ).loc Cert.Kernel3Ideal.main_v12) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v77) = v1 c
          ∧ r.2.mem ((c.tc : Thread Cert.Reference3Ideal.nD Cert.Reference3Ideal.τ).loc Cert.Reference3Ideal.main_v73) = v2 c
          ∧ r.2.mem ((c.tc : Thread Cert.Reference3Ideal.nD Cert.Reference3Ideal.τ).loc Cert.Reference3Ideal.main_v76) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v43) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v24)) (v1 : (c : Dev Cert.Kernel4Ideal.nD) → Buf (Elt Ideal) ((c.tc : Thread Cert.Kernel4Ideal.nD Cert.Kernel4Ideal.τ).loc Cert.Kernel4Ideal.main_v25)) (v2 : (c : Dev Cert.Kernel4Ideal.nD) → Buf (Elt Ideal) ((c.tc : Thread Cert.Kernel4Ideal.nD Cert.Kernel4Ideal.τ).loc Cert.Kernel4Ideal.main_v26)) (v3 : (c : Dev Cert.Kernel4Ideal.nD) → Buf (Elt Ideal) ((c.tc : Thread Cert.Kernel4Ideal.nD Cert.Kernel4Ideal.τ).loc Cert.Kernel4Ideal.main_v27)) (v4 : (c : Dev Cert.Kernel4Ideal.nD) → Buf (Elt Ideal) ((c.tc : Thread Cert.Kernel4Ideal.nD Cert.Kernel4Ideal.τ).loc Cert.Kernel4Ideal.main_v28)) (v5 : (c : Dev Cert.Kernel4Ideal.nD) → Buf (Elt Ideal) ((c.tc : Thread Cert.Kernel4Ideal.nD Cert.Kernel4Ideal.τ).loc Cert.Kernel4Ideal.main_v29)) (v6 : (c : Dev Cert.Kernel4Ideal.nD) → Buf (Elt Ideal) ((c.tc : Thread Cert.Kernel4Ideal.nD Cert.Kernel4Ideal.τ).loc Cert.Kernel4Ideal.main_v30)) (v7 : (c : Dev Cert.Kernel4Ideal.nD) → Buf (Elt Ideal) ((c.tc : Thread Cert.Kernel4Ideal.nD Cert.Kernel4Ideal.τ).loc Cert.Kernel4Ideal.main_v31)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_v25) = v1 c
          ∧ r.2.mem ((c.tc : Thread Cert.Kernel4Ideal.nD Cert.Kernel4Ideal.τ).loc Cert.Kernel4Ideal.main_v26) = v2 c
          ∧ r.2.mem ((c.tc : Thread Cert.Kernel4Ideal.nD Cert.Kernel4Ideal.τ).loc Cert.Kernel4Ideal.main_v27) = v3 c
          ∧ r.2.mem ((c.tc : Thread Cert.Kernel4Ideal.nD Cert.Kernel4Ideal.τ).loc Cert.Kernel4Ideal.main_v28) = v4 c
          ∧ r.2.mem ((c.tc : Thread Cert.Kernel4Ideal.nD Cert.Kernel4Ideal.τ).loc Cert.Kernel4Ideal.main_v29) = v5 c
          ∧ r.2.mem ((c.tc : Thread Cert.Kernel4Ideal.nD Cert.Kernel4Ideal.τ).loc Cert.Kernel4Ideal.main_v30) = v6 c
          ∧ r.2.mem ((c.tc : Thread Cert.Kernel4Ideal.nD Cert.Kernel4Ideal.τ).loc Cert.Kernel4Ideal.main_v31) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v19) = v4 c
          ∧ r.2.mem ((c.tc : Thread Cert.Reference4Ideal.nD Cert.Reference4Ideal.τ).loc Cert.Reference4Ideal.main_v30) = v5 c
          ∧ r.2.mem ((c.tc : Thread Cert.Reference4Ideal.nD Cert.Reference4Ideal.τ).loc Cert.Reference4Ideal.main_v32) = v6 c
          ∧ r.2.mem ((c.tc : Thread Cert.Reference4Ideal.nD Cert.Reference4Ideal.τ).loc Cert.Reference4Ideal.main_v3) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v19)) (v1 : (c : Dev Cert.Kernel5Ideal.nD) → Buf (Elt Ideal) ((c.tc : Thread Cert.Kernel5Ideal.nD Cert.Kernel5Ideal.τ).loc Cert.Kernel5Ideal.main_v20)) (v2 : (c : Dev Cert.Kernel5Ideal.nD) → Buf (Elt Ideal) ((c.tc : Thread Cert.Kernel5Ideal.nD Cert.Kernel5Ideal.τ).loc Cert.Kernel5Ideal.main_v21)) (v3 : (c : Dev Cert.Kernel5Ideal.nD) → Buf (Elt Ideal) ((c.tc : Thread Cert.Kernel5Ideal.nD Cert.Kernel5Ideal.τ).loc Cert.Kernel5Ideal.main_v22)) (v4 : (c : Dev Cert.Kernel5Ideal.nD) → Buf (Elt Ideal) ((c.tc : Thread Cert.Kernel5Ideal.nD Cert.Kernel5Ideal.τ).loc Cert.Kernel5Ideal.main_v23)) (v5 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_v20) = v1 c
          ∧ r.2.mem ((c.tc : Thread Cert.Kernel5Ideal.nD Cert.Kernel5Ideal.τ).loc Cert.Kernel5Ideal.main_v21) = v2 c
          ∧ r.2.mem ((c.tc : Thread Cert.Kernel5Ideal.nD Cert.Kernel5Ideal.τ).loc Cert.Kernel5Ideal.main_v22) = v3 c
          ∧ r.2.mem ((c.tc : Thread Cert.Kernel5Ideal.nD Cert.Kernel5Ideal.τ).loc Cert.Kernel5Ideal.main_v23) = v4 c
          ∧ r.2.mem ((c.tc : Thread Cert.Kernel5Ideal.nD Cert.Kernel5Ideal.τ).loc Cert.Kernel5Ideal.main_v24) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v6) = v3 c
          ∧ r.2.mem ((c.tc : Thread Cert.Reference5Ideal.nD Cert.Reference5Ideal.τ).loc Cert.Reference5Ideal.main_v20) = v4 c
          ∧ r.2.mem ((c.tc : Thread Cert.Reference5Ideal.nD Cert.Reference5Ideal.τ).loc Cert.Reference5Ideal.main_v3) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)
      ∧ m' ((c.tc : Thread Cert.Reference6Ideal.nD Cert.Reference6Ideal.τ).loc Cert.Reference6Ideal.main_arg30) = m ((c.tc : Thread Cert.Kernel6Ideal.nD Cert.Kernel6Ideal.τ).loc Cert.Kernel6Ideal.main_arg30)
      ∧ m' ((c.tc : Thread Cert.Reference6Ideal.nD Cert.Reference6Ideal.τ).loc Cert.Reference6Ideal.main_arg31) = m ((c.tc : Thread Cert.Kernel6Ideal.nD Cert.Kernel6Ideal.τ).loc Cert.Kernel6Ideal.main_arg31)
      ∧ m' ((c.tc : Thread Cert.Reference6Ideal.nD Cert.Reference6Ideal.τ).loc Cert.Reference6Ideal.main_arg32) = m ((c.tc : Thread Cert.Kernel6Ideal.nD Cert.Kernel6Ideal.τ).loc Cert.Kernel6Ideal.main_arg32)
      ∧ m' ((c.tc : Thread Cert.Reference6Ideal.nD Cert.Reference6Ideal.τ).loc Cert.Reference6Ideal.main_arg33) = m ((c.tc : Thread Cert.Kernel6Ideal.nD Cert.Kernel6Ideal.τ).loc Cert.Kernel6Ideal.main_arg33)
      ∧ m' ((c.tc : Thread Cert.Reference6Ideal.nD Cert.Reference6Ideal.τ).loc Cert.Reference6Ideal.main_arg34) = m ((c.tc : Thread Cert.Kernel6Ideal.nD Cert.Kernel6Ideal.τ).loc Cert.Kernel6Ideal.main_arg34)
      ∧ m' ((c.tc : Thread Cert.Reference6Ideal.nD Cert.Reference6Ideal.τ).loc Cert.Reference6Ideal.main_arg35) = m ((c.tc : Thread Cert.Kernel6Ideal.nD Cert.Kernel6Ideal.τ).loc Cert.Kernel6Ideal.main_arg35)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v1_0)) (v4 : (c : Dev Cert.Kernel6Ideal.nD) → Buf (Elt Ideal) ((c.tc : Thread Cert.Kernel6Ideal.nD Cert.Kernel6Ideal.τ).loc Cert.Kernel6Ideal.main_v1_1)) (v5 : (c : Dev Cert.Kernel6Ideal.nD) → Buf (Elt Ideal) ((c.tc : Thread Cert.Kernel6Ideal.nD Cert.Kernel6Ideal.τ).loc Cert.Kernel6Ideal.main_v1_2)) (v6 : (c : Dev Cert.Kernel6Ideal.nD) → Buf (Elt Ideal) ((c.tc : Thread Cert.Kernel6Ideal.nD Cert.Kernel6Ideal.τ).loc Cert.Kernel6Ideal.main_v2_0)) (v7 : (c : Dev Cert.Kernel6Ideal.nD) → Buf (Elt Ideal) ((c.tc : Thread Cert.Kernel6Ideal.nD Cert.Kernel6Ideal.τ).loc Cert.Kernel6Ideal.main_v2_1)) (v8 : (c : Dev Cert.Kernel6Ideal.nD) → Buf (Elt Ideal) ((c.tc : Thread Cert.Kernel6Ideal.nD Cert.Kernel6Ideal.τ).loc Cert.Kernel6Ideal.main_v2_2)) (v9 : (c : Dev Cert.Kernel6Ideal.nD) → Buf (Elt Ideal) ((c.tc : Thread Cert.Kernel6Ideal.nD Cert.Kernel6Ideal.τ).loc Cert.Kernel6Ideal.main_v3_0)) (v10 : (c : Dev Cert.Kernel6Ideal.nD) → Buf (Elt Ideal) ((c.tc : Thread Cert.Kernel6Ideal.nD Cert.Kernel6Ideal.τ).loc Cert.Kernel6Ideal.main_v3_1)) (v11 : (c : Dev Cert.Kernel6Ideal.nD) → Buf (Elt Ideal) ((c.tc : Thread Cert.Kernel6Ideal.nD Cert.Kernel6Ideal.τ).loc Cert.Kernel6Ideal.main_v3_2)) (v12 : (c : Dev Cert.Kernel6Ideal.nD) → Buf (Elt Ideal) ((c.tc : Thread Cert.Kernel6Ideal.nD Cert.Kernel6Ideal.τ).loc Cert.Kernel6Ideal.main_v4_0)) (v13 : (c : Dev Cert.Kernel6Ideal.nD) → Buf (Elt Ideal) ((c.tc : Thread Cert.Kernel6Ideal.nD Cert.Kernel6Ideal.τ).loc Cert.Kernel6Ideal.main_v4_1)) (v14 : (c : Dev Cert.Kernel6Ideal.nD) → Buf (Elt Ideal) ((c.tc : Thread Cert.Kernel6Ideal.nD Cert.Kernel6Ideal.τ).loc Cert.Kernel6Ideal.main_v4_2)) (v15 : (c : Dev Cert.Kernel6Ideal.nD) → Buf (Elt Ideal) ((c.tc : Thread Cert.Kernel6Ideal.nD Cert.Kernel6Ideal.τ).loc Cert.Kernel6Ideal.main_v5_0)) (v16 : (c : Dev Cert.Kernel6Ideal.nD) → Buf (Elt Ideal) ((c.tc : Thread Cert.Kernel6Ideal.nD Cert.Kernel6Ideal.τ).loc Cert.Kernel6Ideal.main_v5_1)) (v17 : (c : Dev Cert.Kernel6Ideal.nD) → Buf (Elt Ideal) ((c.tc : Thread Cert.Kernel6Ideal.nD Cert.Kernel6Ideal.τ).loc Cert.Kernel6Ideal.main_v5_2)) (v18 : (c : Dev Cert.Kernel6Ideal.nD) → Buf (Elt Ideal) ((c.tc : Thread Cert.Kernel6Ideal.nD Cert.Kernel6Ideal.τ).loc Cert.Kernel6Ideal.main_v6_0)) (v19 : (c : Dev Cert.Kernel6Ideal.nD) → Buf (Elt Ideal) ((c.tc : Thread Cert.Kernel6Ideal.nD Cert.Kernel6Ideal.τ).loc Cert.Kernel6Ideal.main_v6_1)) (v20 : (c : Dev Cert.Kernel6Ideal.nD) → Buf (Elt Ideal) ((c.tc : Thread Cert.Kernel6Ideal.nD Cert.Kernel6Ideal.τ).loc Cert.Kernel6Ideal.main_v6_2)) (v21 : (c : Dev Cert.Kernel6Ideal.nD) → Buf (Elt Ideal) ((c.tc : Thread Cert.Kernel6Ideal.nD Cert.Kernel6Ideal.τ).loc Cert.Kernel6Ideal.main_v7_0)) (v22 : (c : Dev Cert.Kernel6Ideal.nD) → Buf (Elt Ideal) ((c.tc : Thread Cert.Kernel6Ideal.nD Cert.Kernel6Ideal.τ).loc Cert.Kernel6Ideal.main_v7_1)) (v23 : (c : Dev Cert.Kernel6Ideal.nD) → Buf (Elt Ideal) ((c.tc : Thread Cert.Kernel6Ideal.nD Cert.Kernel6Ideal.τ).loc Cert.Kernel6Ideal.main_v7_2)) (v24 : (c : Dev Cert.Kernel6Ideal.nD) → Buf (Elt Ideal) ((c.tc : Thread Cert.Kernel6Ideal.nD Cert.Kernel6Ideal.τ).loc Cert.Kernel6Ideal.main_v8_0)) (v25 : (c : Dev Cert.Kernel6Ideal.nD) → Buf (Elt Ideal) ((c.tc : Thread Cert.Kernel6Ideal.nD Cert.Kernel6Ideal.τ).loc Cert.Kernel6Ideal.main_v8_1)) (v26 : (c : Dev Cert.Kernel6Ideal.nD) → Buf (Elt Ideal) ((c.tc : Thread Cert.Kernel6Ideal.nD Cert.Kernel6Ideal.τ).loc Cert.Kernel6Ideal.main_v8_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v1_0) = v3 c
          ∧ r.2.mem ((c.tc : Thread Cert.Kernel6Ideal.nD Cert.Kernel6Ideal.τ).loc Cert.Kernel6Ideal.main_v1_1) = v4 c
          ∧ r.2.mem ((c.tc : Thread Cert.Kernel6Ideal.nD Cert.Kernel6Ideal.τ).loc Cert.Kernel6Ideal.main_v1_2) = v5 c
          ∧ r.2.mem ((c.tc : Thread Cert.Kernel6Ideal.nD Cert.Kernel6Ideal.τ).loc Cert.Kernel6Ideal.main_v2_0) = v6 c
          ∧ r.2.mem ((c.tc : Thread Cert.Kernel6Ideal.nD Cert.Kernel6Ideal.τ).loc Cert.Kernel6Ideal.main_v2_1) = v7 c
          ∧ r.2.mem ((c.tc : Thread Cert.Kernel6Ideal.nD Cert.Kernel6Ideal.τ).loc Cert.Kernel6Ideal.main_v2_2) = v8 c
          ∧ r.2.mem ((c.tc : Thread Cert.Kernel6Ideal.nD Cert.Kernel6Ideal.τ).loc Cert.Kernel6Ideal.main_v3_0) = v9 c
          ∧ r.2.mem ((c.tc : Thread Cert.Kernel6Ideal.nD Cert.Kernel6Ideal.τ).loc Cert.Kernel6Ideal.main_v3_1) = v10 c
          ∧ r.2.mem ((c.tc : Thread Cert.Kernel6Ideal.nD Cert.Kernel6Ideal.τ).loc Cert.Kernel6Ideal.main_v3_2) = v11 c
          ∧ r.2.mem ((c.tc : Thread Cert.Kernel6Ideal.nD Cert.Kernel6Ideal.τ).loc Cert.Kernel6Ideal.main_v4_0) = v12 c
          ∧ r.2.mem ((c.tc : Thread Cert.Kernel6Ideal.nD Cert.Kernel6Ideal.τ).loc Cert.Kernel6Ideal.main_v4_1) = v13 c
          ∧ r.2.mem ((c.tc : Thread Cert.Kernel6Ideal.nD Cert.Kernel6Ideal.τ).loc Cert.Kernel6Ideal.main_v4_2) = v14 c
          ∧ r.2.mem ((c.tc : Thread Cert.Kernel6Ideal.nD Cert.Kernel6Ideal.τ).loc Cert.Kernel6Ideal.main_v5_0) = v15 c
          ∧ r.2.mem ((c.tc : Thread Cert.Kernel6Ideal.nD Cert.Kernel6Ideal.τ).loc Cert.Kernel6Ideal.main_v5_1) = v16 c
          ∧ r.2.mem ((c.tc : Thread Cert.Kernel6Ideal.nD Cert.Kernel6Ideal.τ).loc Cert.Kernel6Ideal.main_v5_2) = v17 c
          ∧ r.2.mem ((c.tc : Thread Cert.Kernel6Ideal.nD Cert.Kernel6Ideal.τ).loc Cert.Kernel6Ideal.main_v6_0) = v18 c
          ∧ r.2.mem ((c.tc : Thread Cert.Kernel6Ideal.nD Cert.Kernel6Ideal.τ).loc Cert.Kernel6Ideal.main_v6_1) = v19 c
          ∧ r.2.mem ((c.tc : Thread Cert.Kernel6Ideal.nD Cert.Kernel6Ideal.τ).loc Cert.Kernel6Ideal.main_v6_2) = v20 c
          ∧ r.2.mem ((c.tc : Thread Cert.Kernel6Ideal.nD Cert.Kernel6Ideal.τ).loc Cert.Kernel6Ideal.main_v7_0) = v21 c
          ∧ r.2.mem ((c.tc : Thread Cert.Kernel6Ideal.nD Cert.Kernel6Ideal.τ).loc Cert.Kernel6Ideal.main_v7_1) = v22 c
          ∧ r.2.mem ((c.tc : Thread Cert.Kernel6Ideal.nD Cert.Kernel6Ideal.τ).loc Cert.Kernel6Ideal.main_v7_2) = v23 c
          ∧ r.2.mem ((c.tc : Thread Cert.Kernel6Ideal.nD Cert.Kernel6Ideal.τ).loc Cert.Kernel6Ideal.main_v8_0) = v24 c
          ∧ r.2.mem ((c.tc : Thread Cert.Kernel6Ideal.nD Cert.Kernel6Ideal.τ).loc Cert.Kernel6Ideal.main_v8_1) = v25 c
          ∧ r.2.mem ((c.tc : Thread Cert.Kernel6Ideal.nD Cert.Kernel6Ideal.τ).loc Cert.Kernel6Ideal.main_v8_2) = v26 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
          ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
          ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
          ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
          ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33)
          ∧ r.2.mem ((c.tc : Thread Cert.Kernel6Ideal.nD Cert.Kernel6Ideal.τ).loc Cert.Kernel6Ideal.main_arg34) = m ((c.tc : Thread Cert.Kernel6Ideal.nD Cert.Kernel6Ideal.τ).loc Cert.Kernel6Ideal.main_arg34)
          ∧ r.2.mem ((c.tc : Thread Cert.Kernel6Ideal.nD Cert.Kernel6Ideal.τ).loc Cert.Kernel6Ideal.main_arg35) = m ((c.tc : Thread Cert.Kernel6Ideal.nD Cert.Kernel6Ideal.τ).loc Cert.Kernel6Ideal.main_arg35))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v28) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_v71) = v6 c
          ∧ r.2.mem ((c.tc : Thread Cert.Reference6Ideal.nD Cert.Reference6Ideal.τ).loc Cert.Reference6Ideal.main_v52) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_v95) = v9 c
          ∧ r.2.mem ((c.tc : Thread Cert.Reference6Ideal.nD Cert.Reference6Ideal.τ).loc Cert.Reference6Ideal.main_v76) = v10 c
          ∧ r.2.mem ((c.tc : Thread Cert.Reference6Ideal.nD Cert.Reference6Ideal.τ).loc Cert.Reference6Ideal.main_v82) = v11 c
          ∧ r.2.mem ((c.tc : Thread Cert.Reference6Ideal.nD Cert.Reference6Ideal.τ).loc Cert.Reference6Ideal.main_v119) = v12 c
          ∧ r.2.mem ((c.tc : Thread Cert.Reference6Ideal.nD Cert.Reference6Ideal.τ).loc Cert.Reference6Ideal.main_v100) = v13 c
          ∧ r.2.mem ((c.tc : Thread Cert.Reference6Ideal.nD Cert.Reference6Ideal.τ).loc Cert.Reference6Ideal.main_v106) = v14 c
          ∧ r.2.mem ((c.tc : Thread Cert.Reference6Ideal.nD Cert.Reference6Ideal.τ).loc Cert.Reference6Ideal.main_v143) = v15 c
          ∧ r.2.mem ((c.tc : Thread Cert.Reference6Ideal.nD Cert.Reference6Ideal.τ).loc Cert.Reference6Ideal.main_v124) = v16 c
          ∧ r.2.mem ((c.tc : Thread Cert.Reference6Ideal.nD Cert.Reference6Ideal.τ).loc Cert.Reference6Ideal.main_v130) = v17 c
          ∧ r.2.mem ((c.tc : Thread Cert.Reference6Ideal.nD Cert.Reference6Ideal.τ).loc Cert.Reference6Ideal.main_v167) = v18 c
          ∧ r.2.mem ((c.tc : Thread Cert.Reference6Ideal.nD Cert.Reference6Ideal.τ).loc Cert.Reference6Ideal.main_v148) = v19 c
          ∧ r.2.mem ((c.tc : Thread Cert.Reference6Ideal.nD Cert.Reference6Ideal.τ).loc Cert.Reference6Ideal.main_v154) = v20 c
          ∧ r.2.mem ((c.tc : Thread Cert.Reference6Ideal.nD Cert.Reference6Ideal.τ).loc Cert.Reference6Ideal.main_v191) = v21 c
          ∧ r.2.mem ((c.tc : Thread Cert.Reference6Ideal.nD Cert.Reference6Ideal.τ).loc Cert.Reference6Ideal.main_v172) = v22 c
          ∧ r.2.mem ((c.tc : Thread Cert.Reference6Ideal.nD Cert.Reference6Ideal.τ).loc Cert.Reference6Ideal.main_v178) = v23 c
          ∧ r.2.mem ((c.tc : Thread Cert.Reference6Ideal.nD Cert.Reference6Ideal.τ).loc Cert.Reference6Ideal.main_v215) = v24 c
          ∧ r.2.mem ((c.tc : Thread Cert.Reference6Ideal.nD Cert.Reference6Ideal.τ).loc Cert.Reference6Ideal.main_v196) = v25 c
          ∧ r.2.mem ((c.tc : Thread Cert.Reference6Ideal.nD Cert.Reference6Ideal.τ).loc Cert.Reference6Ideal.main_v202) = v26 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29)
          ∧ r.2.mem ((c.tc : Thread Cert.Reference6Ideal.nD Cert.Reference6Ideal.τ).loc Cert.Reference6Ideal.main_arg30) = m' ((c.tc : Thread Cert.Reference6Ideal.nD Cert.Reference6Ideal.τ).loc Cert.Reference6Ideal.main_arg30)
          ∧ r.2.mem ((c.tc : Thread Cert.Reference6Ideal.nD Cert.Reference6Ideal.τ).loc Cert.Reference6Ideal.main_arg31) = m' ((c.tc : Thread Cert.Reference6Ideal.nD Cert.Reference6Ideal.τ).loc Cert.Reference6Ideal.main_arg31)
          ∧ r.2.mem ((c.tc : Thread Cert.Reference6Ideal.nD Cert.Reference6Ideal.τ).loc Cert.Reference6Ideal.main_arg32) = m' ((c.tc : Thread Cert.Reference6Ideal.nD Cert.Reference6Ideal.τ).loc Cert.Reference6Ideal.main_arg32)
          ∧ r.2.mem ((c.tc : Thread Cert.Reference6Ideal.nD Cert.Reference6Ideal.τ).loc Cert.Reference6Ideal.main_arg33) = m' ((c.tc : Thread Cert.Reference6Ideal.nD Cert.Reference6Ideal.τ).loc Cert.Reference6Ideal.main_arg33)
          ∧ r.2.mem ((c.tc : Thread Cert.Reference6Ideal.nD Cert.Reference6Ideal.τ).loc Cert.Reference6Ideal.main_arg34) = m' ((c.tc : Thread Cert.Reference6Ideal.nD Cert.Reference6Ideal.τ).loc Cert.Reference6Ideal.main_arg34)
          ∧ r.2.mem ((c.tc : Thread Cert.Reference6Ideal.nD Cert.Reference6Ideal.τ).loc Cert.Reference6Ideal.main_arg35) = m' ((c.tc : Thread Cert.Reference6Ideal.nD Cert.Reference6Ideal.τ).loc Cert.Reference6Ideal.main_arg35))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_arguments : Cert.Pre_finite_arguments.Facts) (hPre_finite_ffn : Cert.Pre_finite_ffn.Facts) (hPre_finite_cross : Cert.Pre_finite_cross.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Kernel3Ideal_pre_finite_cross (hKernel3Ideal := hKernel3Ideal) (hPre_finite_cross := hPre_finite_cross)
    ∧ quiescent_Reference3Ideal (hReference3Ideal := hReference3Ideal)
    ∧ quiescent_Reference3Ideal_pre_finite_cross (hReference3Ideal := hReference3Ideal) (hPre_finite_cross := hPre_finite_cross)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal_pre_finite_cross (hKernel3Ideal := hKernel3Ideal) (hReference3Ideal := hReference3Ideal) (hPre_finite_cross := hPre_finite_cross)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_arguments.lean ====
abbrev S2048x3200 : Shape := ⟨2, ![2048, 3200]⟩
abbrev S8x2048 : Shape := ⟨2, ![8, 2048]⟩
abbrev S2048x1024 : Shape := ⟨2, ![2048, 1024]⟩
abbrev S2048x8 : Shape := ⟨2, ![2048, 8]⟩
abbrev S2048x4232 : Shape := ⟨2, ![2048, 4232]⟩
abbrev S_ : Shape := ⟨0, ![]⟩

class Facts : Prop where
  transposes_S8x2048_S2048x8_1_0 : S8x2048.Transposes [1, 0] S2048x8
  concatenates_S2048x3200_S2048x1024_S2048x8_S2048x4232_d1 : Shape.Concatenates [S2048x3200, S2048x1024, S2048x8] S2048x4232 1
  bcast_S_S2048x4232 : S_.BroadcastsInDim S2048x4232 (![] : Fin 0 → Fin S2048x4232.rank)

variable [Facts]

def fn {F : FTy → Type} [FloatOps F] (main_arg0 : FVec F S2048x3200 .f32) (main_arg1 : FVec F S8x2048 .f32) (main_arg2 : FVec F S2048x1024 .f32) : IVec S2048x4232 1 :=
  let main_v0 : FVec F S2048x8 .f32 := (transpose S2048x8 [1, 0] · transposes_S8x2048_S2048x8_1_0) main_arg1
  let main_v1 : FVec F S2048x4232 .f32 := concatenate S2048x4232 1 [⟨S2048x3200, main_arg0⟩, ⟨S2048x1024, main_arg2⟩, ⟨S2048x8, main_v0⟩] concatenates_S2048x3200_S2048x1024_S2048x8_S2048x4232_d1
  let main_v2 : FVec F S2048x4232 .f32 := Host.absf main_v1
  let main_cst : FVec F S_ .f32 := constant S_ .f32 0x7F800000#32
  let main_v3 : FVec F S2048x4232 .f32 := broadcastInDim S2048x4232 ![] bcast_S_S2048x4232 main_cst
  let main_v4 : IVec S2048x4232 1 := cmpf .olt main_v2 main_v3
  main_v4
-- ==== Pre_finite_cross.lean ====
abbrev S2048x1024 : Shape := ⟨2, ![2048, 1024]⟩
abbrev S256x1024 : Shape := ⟨2, ![256, 1024]⟩
abbrev S1024x1024 : Shape := ⟨2, ![1024, 1024]⟩
abbrev S1024x2048 : Shape := ⟨2, ![1024, 2048]⟩
abbrev S4352x1024 : Shape := ⟨2, ![4352, 1024]⟩
abbrev S_ : Shape := ⟨0, ![]⟩

class Facts : Prop where
  slices_S1024x2048_S1024x1024_0_0 : S1024x2048.Slices ![0, 0] S1024x1024
  transposes_S1024x1024_S1024x1024_1_0 : S1024x1024.Transposes [1, 0] S1024x1024
  concatenates_S2048x1024_S256x1024_S1024x1024_S1024x1024_S4352x1024_d0 : Shape.Concatenates [S2048x1024, S256x1024, S1024x1024, S1024x1024] S4352x1024 0
  bcast_S_S4352x1024 : S_.BroadcastsInDim S4352x1024 (![] : Fin 0 → Fin S4352x1024.rank)

variable [Facts]

def fn {F : FTy → Type} [FloatOps F] (main_arg0 : FVec F S2048x1024 .f32) (main_arg1 : FVec F S256x1024 .f32) (main_arg2 : FVec F S1024x1024 .f32) (main_arg3 : FVec F S1024x2048 .f32) (main_arg4 : FVec F S1024x1024 .f32) (main_arg5 : FVec F S2048x1024 .f32) : IVec S4352x1024 1 :=
  let main_v0 : FVec F S1024x1024 .f32 := (extractStridedSlice S1024x1024 ![0, 0] · slices_S1024x2048_S1024x1024_0_0) main_arg3
  let main_v1 : FVec F S1024x1024 .f32 := (transpose S1024x1024 [1, 0] · transposes_S1024x1024_S1024x1024_1_0) main_v0
  let main_v2 : FVec F S4352x1024 .f32 := concatenate S4352x1024 0 [⟨S2048x1024, main_arg0⟩, ⟨S256x1024, main_arg1⟩, ⟨S1024x1024, main_arg2⟩, ⟨S1024x1024, main_v1⟩] concatenates_S2048x1024_S256x1024_S1024x1024_S1024x1024_S4352x1024_d0
  let main_v3 : FVec F S4352x1024 .f32 := Host.absf main_v2
  let main_cst : FVec F S_ .f32 := constant S_ .f32 0x7F800000#32
  let main_v4 : FVec F S4352x1024 .f32 := broadcastInDim S4352x1024 ![] bcast_S_S4352x1024 main_cst
  let main_v5 : IVec S4352x1024 1 := cmpf .olt main_v3 main_v4
  main_v5
-- ==== Pre_finite_ffn.lean ====
abbrev S2048x1024 : Shape := ⟨2, ![2048, 1024]⟩
abbrev S1024x5632 : Shape := ⟨2, ![1024, 5632]⟩
abbrev S2816x1024 : Shape := ⟨2, ![2816, 1024]⟩
abbrev S1024x2816 : Shape := ⟨2, ![1024, 2816]⟩
abbrev S9728x1024 : Shape := ⟨2, ![9728, 1024]⟩
abbrev S_ : Shape := ⟨0, ![]⟩

class Facts : Prop where
  slices_S1024x5632_S1024x2816_0_2816 : S1024x5632.Slices ![0, 2816] S1024x2816
  transposes_S1024x2816_S2816x1024_1_0 : S1024x2816.Transposes [1, 0] S2816x1024
  concatenates_S2048x1024_S2816x1024_S2816x1024_S2048x1024_S9728x1024_d0 : Shape.Concatenates [S2048x1024, S2816x1024, S2816x1024, S2048x1024] S9728x1024 0
  bcast_S_S9728x1024 : S_.BroadcastsInDim S9728x1024 (![] : Fin 0 → Fin S9728x1024.rank)

variable [Facts]

def fn {F : FTy → Type} [FloatOps F] (main_arg0 : FVec F S2048x1024 .f32) (main_arg1 : FVec F S1024x5632 .f32) (main_arg2 : FVec F S2816x1024 .f32) (main_arg3 : FVec F S2048x1024 .f32) : IVec S9728x1024 1 :=
  let main_v0 : FVec F S1024x2816 .f32 := (extractStridedSlice S1024x2816 ![0, 2816] · slices_S1024x5632_S1024x2816_0_2816) main_arg1
  let main_v1 : FVec F S2816x1024 .f32 := (transpose S2816x1024 [1, 0] · transposes_S1024x2816_S2816x1024_1_0) main_v0
  let main_v2 : FVec F S9728x1024 .f32 := concatenate S9728x1024 0 [⟨S2048x1024, main_arg0⟩, ⟨S2816x1024, main_v1⟩, ⟨S2816x1024, main_arg2⟩, ⟨S2048x1024, main_arg3⟩] concatenates_S2048x1024_S2816x1024_S2816x1024_S2048x1024_S9728x1024_d0
  let main_v3 : FVec F S9728x1024 .f32 := Host.absf main_v2
  let main_cst : FVec F S_ .f32 := constant S_ .f32 0x7F800000#32
  let main_v4 : FVec F S9728x1024 .f32 := broadcastInDim S9728x1024 ![] bcast_S_S9728x1024 main_cst
  let main_v5 : IVec S9728x1024 1 := cmpf .olt main_v3 main_v4
  main_v5
-- ==== Kernel.lean ====
abbrev S2048x3200 : Shape := ⟨2, ![2048, 3200]⟩
abbrev S8x2048 : Shape := ⟨2, ![8, 2048]⟩
abbrev S2048x1024 : Shape := ⟨2, ![2048, 1024]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x2048x128 : Shape := ⟨3, ![8, 2048, 128]⟩
abbrev S4x2x2048x128 : Shape := ⟨4, ![4, 2, 2048, 128]⟩
abbrev S4x2048x128 : Shape := ⟨3, ![4, 2048, 128]⟩
abbrev S2048x4x128 : Shape := ⟨3, ![2048, 4, 128]⟩
abbrev S4x1x2048x128 : Shape := ⟨4, ![4, 1, 2048, 128]⟩
abbrev S8x4x16x512 : Shape := ⟨4, ![8, 4, 16, 512]⟩
abbrev S2x512x128 : Shape := ⟨3, ![2, 512, 128]⟩
abbrev S512x128 : Shape := ⟨2, ![512, 128]⟩
abbrev S2048x128 : Shape := ⟨2, ![2048, 128]⟩
abbrev S2x1x512 : Shape := ⟨3, ![2, 1, 512]⟩
abbrev S2x4x16x512 : Shape := ⟨4, ![2, 4, 16, 512]⟩
abbrev S16x512 : Shape := ⟨2, ![16, 512]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S1x1x16x512 : Shape := ⟨4, ![1, 1, 16, 512]⟩

abbrev nBuf : Space → Nat
  | .hbm => 287
  | .vmem => 22
  | .smem => 0
  | _ => 0

abbrev hbmTy0_0 (i : Nat) : BufTy := match i % 128 with
  | 0 => ⟨S2048x3200, .f32⟩
  | 1 => ⟨S8x2048, .f32⟩
  | 2 => ⟨S2048x1024, .f32⟩
  | 3 => ⟨S2048x512, .f32⟩
  | 4 => ⟨S2048x512, .f32⟩
  | 5 => ⟨S2048x512, .f32⟩
  | 6 => ⟨S2048x8x64, .f32⟩
  | 7 => ⟨S2048x8x64, .f32⟩
  | 8 => ⟨S8x2048x2048, .f32⟩
  | 9 => ⟨S_, .f32⟩
  | 10 => ⟨S8x2048x2048, .f32⟩
  | 11 => ⟨S8x2048x2048, .f32⟩
  | 12 => ⟨S8x2048x1, .f32⟩
  | 13 => ⟨S8x2048x2048, .f32⟩
  | 14 => ⟨S8x2048x2048, .f32⟩
  | 15 => ⟨S8x1x2048, .f32⟩
  | 16 => ⟨S8x2048x2048, .f32⟩
  | 17 => ⟨S8x2048x2048, .f32⟩
  | 18 => ⟨S2048, .i32⟩
  | 19 => ⟨S2048x1, .i32⟩
  | 20 => ⟨S2048, .i32⟩
  | 21 => ⟨S1x2048, .i32⟩
  | 22 => ⟨S2048x2048, .i32⟩
  | 23 => ⟨S2048x2048, .i32⟩
  | 24 => ⟨S2048x2048, .i1⟩
  | 25 => ⟨S_, .f32⟩
  | 26 => ⟨S_, .f32⟩
  | 27 => ⟨S8x2048x2048, .i1⟩
  | 28 => ⟨S8x2048x2048, .f32⟩
  | 29 => ⟨S8x2048x2048, .f32⟩
  | 30 => ⟨S_, .f32⟩
  | 31 => ⟨S8x2048, .f32⟩
  | 32 => ⟨S8x2048x1, .f32⟩
  | 33 => ⟨S8x2048x2048, .f32⟩
  | 34 => ⟨S8x2048x2048, .f32⟩
  | 35 => ⟨S8x2048x2048, .f32⟩
  | 36 => ⟨S_, .f32⟩
  | 37 => ⟨S8x2048, .f32⟩
  | 38 => ⟨S8x2048x1, .f32⟩
  | 39 => ⟨S8x2048x2048, .f32⟩
  | 40 => ⟨S8x2048x2048, .f32⟩
  | 41 => ⟨S2048x8x64, .f32⟩
  | 42 => ⟨S8x64x2048, .f32⟩
  | 43 => ⟨S2048x8x64, .f32⟩
  | 44 => ⟨S2048x512, .f32⟩
  | 45 => ⟨S8x2048x1, .f32⟩
  | 46 => ⟨S8x2048x1, .f32⟩
  | 47 => ⟨S8x2048x128, .f32⟩
  | 48 => ⟨S8x2048x1, .f32⟩
  | 49 => ⟨S8x2048x128, .f32⟩
  | 50 => ⟨S4x2x2048x128, .f32⟩
  | 51 => ⟨S4x2048x128, .i32⟩
  | 52 => ⟨S2048x4x128, .f32⟩
  | 53 => ⟨S4x2048x128, .f32⟩
  | 54 => ⟨S2048x4x128, .f32⟩
  | 55 => ⟨S4x2048x128, .f32⟩
  | 56 => ⟨S4x1x2048x128, .f32⟩
  | 57 => ⟨S4x2048x128, .f32⟩
  | 58 => ⟨S4x1x2048x128, .f32⟩
  | 59 => ⟨S4x2048x128, .f32⟩
  | 60 => ⟨S_, .i32⟩
  | 61 => ⟨S4x2048x128, .i32⟩
  | 62 => ⟨S4x2048x128, .i1⟩
  | 63 => ⟨S_, .f32⟩
  | 64 => ⟨S4x2048x128, .f32⟩
  | 65 => ⟨S4x2048x128, .f32⟩
  | 66 => ⟨S_, .f32⟩
  | 67 => ⟨S_, .f32⟩
  | 68 => ⟨S4x2048x128, .f32⟩
  | 69 => ⟨S4x2048x128, .f32⟩
  | 70 => ⟨S_, .f32⟩
  | 71 => ⟨S_, .f32⟩
  | 72 => ⟨S4x2048x128, .f32⟩
  | 73 => ⟨S4x2048x128, .f32⟩
  | 74 => ⟨S4x2048x128, .bf16⟩
  | 75 => ⟨S4x2048x128, .f32⟩
  | 76 => ⟨S4x2048x128, .f32⟩
  | 77 => ⟨S4x2048x128, .bf16⟩
  | 78 => ⟨S4x2048x128, .f32⟩
  | 79 => ⟨S4x2048x128, .f32⟩
  | 80 => ⟨S4x2048x128, .f32⟩
  | 81 => ⟨S4x2048x128, .bf16⟩
  | 82 => ⟨S4x2048x128, .f32⟩
  | 83 => ⟨S4x2048x128, .bf16⟩
  | 84 => ⟨S4x2048x128, .f32⟩
  | 85 => ⟨S4x2048x128, .f32⟩
  | 86 => ⟨S4x2048x128, .bf16⟩
  | 87 => ⟨S4x2048x128, .f32⟩
  | 88 => ⟨S4x2048x128, .f32⟩
  | 89 => ⟨S4x2048x128, .f32⟩
  | 90 => ⟨S4x2048x128, .bf16⟩
  | 91 => ⟨S4x2048x128, .f32⟩
  | 92 => ⟨S_, .i32⟩
  | 93 => ⟨S4x2048x128, .i32⟩
  | 94 => ⟨S4x2048x128, .i1⟩
  | 95 => ⟨S_, .i32⟩
  | 96 => ⟨S4x2048x128, .i32⟩
  | 97 => ⟨S4x2048x128, .i1⟩
  | 98 => ⟨S_, .f32⟩
  | 99 => ⟨S_, .f32⟩
  | 100 => ⟨S4x2048x128, .f32⟩
  | 101 => ⟨S4x2048x128, .f32⟩
  | 102 => ⟨S4x2048x128, .f32⟩
  | 103 => ⟨S_, .i32⟩
  | 104 => ⟨S4x2048x128, .i32⟩
  | 105 => ⟨S4x2048x128, .i1⟩
  | 106 => ⟨S_, .i32⟩
  | 107 => ⟨S4x2048x128, .i32⟩
  | 108 => ⟨S4x2048x128, .i1⟩
  | 109 => ⟨S4x2048x128, .f32⟩
  | 110 => ⟨S4x2048x128, .f32⟩
  | 111 => ⟨S_, .f32⟩
  | 112 => ⟨S_, .f32⟩
  | 113 => ⟨S4x2048x128, .f32⟩
  | 114 => ⟨S4x2048x128, .f32⟩
  | 115 => ⟨S_, .i32⟩
  | 116 => ⟨S4x2048x128, .i32⟩
  | 117 => ⟨S4x2048x128, .i1⟩
  | 118 => ⟨S_, .i32⟩
  | 119 => ⟨S4x2048x128, .i32⟩
  | 120 => ⟨S4x2048x128, .i1⟩
  | 121 => ⟨S_, .f32⟩
  | 122 => ⟨S_, .f32⟩
  | 123 => ⟨S4x2048x128, .f32⟩
  | 124 => ⟨S4x2048x128, .f32⟩
  | 125 => ⟨S4x2048x128, .f32⟩
  | 126 => ⟨S_, .i32⟩
  | 127 => ⟨S4x2048x128, .i32⟩
  | _ => ⟨S2048x3200, .f32⟩

abbrev hbmTy0_1 (i : Nat) : BufTy := match i % 128 with
  | 0 => ⟨S4x2048x128, .i1⟩
  | 1 => ⟨S_, .i32⟩
  | 2 => ⟨S4x2048x128, .i32⟩
  | 3 => ⟨S4x2048x128, .i1⟩
  | 4 => ⟨S4x2048x128, .f32⟩
  | 5 => ⟨S4x2048x128, .f32⟩
  | 6 => ⟨S_, .f32⟩
  | 7 => ⟨S_, .f32⟩
  | 8 => ⟨S4x2048x128, .f32⟩
  | 9 => ⟨S4x2048x128, .f32⟩
  | 10 => ⟨S_, .i32⟩
  | 11 => ⟨S4x2048x128, .i32⟩
  | 12 => ⟨S4x2048x128, .i1⟩
  | 13 => ⟨S_, .i32⟩
  | 14 => ⟨S4x2048x128, .i32⟩
  | 15 => ⟨S4x2048x128, .i1⟩
  | 16 => ⟨S_, .f32⟩
  | 17 => ⟨S_, .f32⟩
  | 18 => ⟨S4x2048x128, .f32⟩
  | 19 => ⟨S4x2048x128, .f32⟩
  | 20 => ⟨S4x2048x128, .f32⟩
  | 21 => ⟨S_, .i32⟩
  | 22 => ⟨S4x2048x128, .i32⟩
  | 23 => ⟨S4x2048x128, .i1⟩
  | 24 => ⟨S_, .i32⟩
  | 25 => ⟨S4x2048x128, .i32⟩
  | 26 => ⟨S4x2048x128, .i1⟩
  | 27 => ⟨S4x2048x128, .f32⟩
  | 28 => ⟨S4x2048x128, .f32⟩
  | 29 => ⟨S_, .f32⟩
  | 30 => ⟨S_, .f32⟩
  | 31 => ⟨S4x2048x128, .f32⟩
  | 32 => ⟨S4x2048x128, .f32⟩
  | 33 => ⟨S4x2048x128, .bf16⟩
  | 34 => ⟨S4x2048x128, .bf16⟩
  | 35 => ⟨S2048x4x128, .f32⟩
  | 36 => ⟨S4x2048x128, .f32⟩
  | 37 => ⟨S2048x4x128, .f32⟩
  | 38 => ⟨S4x2048x128, .f32⟩
  | 39 => ⟨S4x1x2048x128, .f32⟩
  | 40 => ⟨S4x2048x128, .f32⟩
  | 41 => ⟨S4x1x2048x128, .f32⟩
  | 42 => ⟨S4x2048x128, .f32⟩
  | 43 => ⟨S_, .i32⟩
  | 44 => ⟨S4x2048x128, .i32⟩
  | 45 => ⟨S4x2048x128, .i1⟩
  | 46 => ⟨S_, .f32⟩
  | 47 => ⟨S4x2048x128, .f32⟩
  | 48 => ⟨S4x2048x128, .f32⟩
  | 49 => ⟨S_, .f32⟩
  | 50 => ⟨S_, .f32⟩
  | 51 => ⟨S4x2048x128, .f32⟩
  | 52 => ⟨S4x2048x128, .f32⟩
  | 53 => ⟨S_, .f32⟩
  | 54 => ⟨S_, .f32⟩
  | 55 => ⟨S4x2048x128, .f32⟩
  | 56 => ⟨S4x2048x128, .f32⟩
  | 57 => ⟨S4x2048x128, .bf16⟩
  | 58 => ⟨S4x2048x128, .f32⟩
  | 59 => ⟨S4x2048x128, .f32⟩
  | 60 => ⟨S4x2048x128, .bf16⟩
  | 61 => ⟨S4x2048x128, .f32⟩
  | 62 => ⟨S4x2048x128, .f32⟩
  | 63 => ⟨S4x2048x128, .f32⟩
  | 64 => ⟨S4x2048x128, .bf16⟩
  | 65 => ⟨S4x2048x128, .f32⟩
  | 66 => ⟨S4x2048x128, .bf16⟩
  | 67 => ⟨S4x2048x128, .f32⟩
  | 68 => ⟨S4x2048x128, .f32⟩
  | 69 => ⟨S4x2048x128, .bf16⟩
  | 70 => ⟨S4x2048x128, .f32⟩
  | 71 => ⟨S4x2048x128, .f32⟩
  | 72 => ⟨S4x2048x128, .f32⟩
  | 73 => ⟨S4x2048x128, .bf16⟩
  | 74 => ⟨S4x2048x128, .f32⟩
  | 75 => ⟨S_, .i32⟩
  | 76 => ⟨S4x2048x128, .i32⟩
  | 77 => ⟨S4x2048x128, .i1⟩
  | 78 => ⟨S_, .i32⟩
  | 79 => ⟨S4x2048x128, .i32⟩
  | 80 => ⟨S4x2048x128, .i1⟩
  | 81 => ⟨S_, .f32⟩
  | 82 => ⟨S_, .f32⟩
  | 83 => ⟨S4x2048x128, .f32⟩
  | 84 => ⟨S4x2048x128, .f32⟩
  | 85 => ⟨S4x2048x128, .f32⟩
  | 86 => ⟨S_, .i32⟩
  | 87 => ⟨S4x2048x128, .i32⟩
  | 88 => ⟨S4x2048x128, .i1⟩
  | 89 => ⟨S_, .i32⟩
  | 90 => ⟨S4x2048x128, .i32⟩
  | 91 => ⟨S4x2048x128, .i1⟩
  | 92 => ⟨S4x2048x128, .f32⟩
  | 93 => ⟨S4x2048x128, .f32⟩
  | 94 => ⟨S_, .f32⟩
  | 95 => ⟨S_, .f32⟩
  | 96 => ⟨S4x2048x128, .f32⟩
  | 97 => ⟨S4x2048x128, .f32⟩
  | 98 => ⟨S_, .i32⟩
  | 99 => ⟨S4x2048x128, .i32⟩
  | 100 => ⟨S4x2048x128, .i1⟩
  | 101 => ⟨S_, .i32⟩
  | 102 => ⟨S4x2048x128, .i32⟩
  | 103 => ⟨S4x2048x128, .i1⟩
  | 104 => ⟨S_, .f32⟩
  | 105 => ⟨S_, .f32⟩
  | 106 => ⟨S4x2048x128, .f32⟩
  | 107 => ⟨S4x2048x128, .f32⟩
  | 108 => ⟨S4x2048x128, .f32⟩
  | 109 => ⟨S_, .i32⟩
  | 110 => ⟨S4x2048x128, .i32⟩
  | 111 => ⟨S4x2048x128, .i1⟩
  | 112 => ⟨S_, .i32⟩
  | 113 => ⟨S4x2048x128, .i32⟩
  | 114 => ⟨S4x2048x128, .i1⟩
  | 115 => ⟨S4x2048x128, .f32⟩
  | 116 => ⟨S4x2048x128, .f32⟩
  | 117 => ⟨S_, .f32⟩
  | 118 => ⟨S_, .f32⟩
  | 119 => ⟨S4x2048x128, .f32⟩
  | 120 => ⟨S4x2048x128, .f32⟩
  | 121 => ⟨S_, .i32⟩
  | 122 => ⟨S4x2048x128, .i32⟩
  | 123 => ⟨S4x2048x128, .i1⟩
  | 124 => ⟨S_, .i32⟩
  | 125 => ⟨S4x2048x128, .i32⟩
  | 126 => ⟨S4x2048x128, .i1⟩
  | 127 => ⟨S_, .f32⟩
  | _ => ⟨S2048x3200, .f32⟩

abbrev hbmTy0_2 (i : Nat) : BufTy := match i % 128 with
  | 0 => ⟨S_, .f32⟩
  | 1 => ⟨S4x2048x128, .f32⟩
  | 2 => ⟨S4x2048x128, .f32⟩
  | 3 => ⟨S4x2048x128, .f32⟩
  | 4 => ⟨S_, .i32⟩
  | 5 => ⟨S4x2048x128, .i32⟩
  | 6 => ⟨S4x2048x128, .i1⟩
  | 7 => ⟨S_, .i32⟩
  | 8 => ⟨S4x2048x128, .i32⟩
  | 9 => ⟨S4x2048x128, .i1⟩
  | 10 => ⟨S4x2048x128, .f32⟩
  | 11 => ⟨S4x2048x128, .f32⟩
  | 12 => ⟨S_, .f32⟩
  | 13 => ⟨S_, .f32⟩
  | 14 => ⟨S4x2048x128, .f32⟩
  | 15 => ⟨S4x2048x128, .f32⟩
  | 16 => ⟨S4x2048x128, .bf16⟩
  | 17 => ⟨S4x2048x128, .bf16⟩
  | 18 => ⟨S4x1x2048x128, .bf16⟩
  | 19 => ⟨S4x1x2048x128, .bf16⟩
  | 20 => ⟨S4x2x2048x128, .bf16⟩
  | 21 => ⟨S8x2048x128, .bf16⟩
  | 22 => ⟨S4x1x2048x128, .bf16⟩
  | 23 => ⟨S4x1x2048x128, .bf16⟩
  | 24 => ⟨S4x2x2048x128, .bf16⟩
  | 25 => ⟨S8x2048x128, .bf16⟩
  | 26 => ⟨S2048x512, .f32⟩
  | 27 => ⟨S2048x512, .f32⟩
  | 28 => ⟨S2048x512, .f32⟩
  | 29 => ⟨S8x1x2048, .f32⟩
  | 30 => ⟨S8x4x16x512, .f32⟩
  | _ => ⟨S2048x3200, .f32⟩

abbrev hbmTy (i : Nat) : BufTy := match i / 128 with
  | 0 => hbmTy0_0 i
  | 1 => hbmTy0_1 i
  | 2 => hbmTy0_2 i
  | _ => ⟨S2048x3200, .f32⟩

abbrev bufTy : (tb : Table) → Fin (tcTables nBuf tb) → BufTy
  | .hbm, ⟨i, _⟩ => hbmTy i
  | .local _ .vmem, ⟨0, _⟩ => ⟨S2x512x128, .bf16⟩
  | .local _ .vmem, ⟨1, _⟩ => ⟨S2x512x128, .bf16⟩
  | .local _ .vmem, ⟨2, _⟩ => ⟨S2x512x128, .bf16⟩
  | .local _ .vmem, ⟨3, _⟩ => ⟨S2x512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S2x512x128, .f32⟩
  | .local _ .vmem, ⟨11, _⟩ => ⟨S2x512x128, .f32⟩
  | .local _ .vmem, ⟨12, _⟩ => ⟨S2048x128, .f32⟩
  | .local _ .vmem, ⟨13, _⟩ => ⟨S2048x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S2x1x512, .f32⟩
  | .local _ .vmem, ⟨19, _⟩ => ⟨S2x1x512, .f32⟩
  | .local _ .vmem, ⟨20, _⟩ => ⟨S2x4x16x512, .f32⟩
  | .local _ .vmem, ⟨21, _⟩ => ⟨S2x4x16x512, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_call1_v0 : Ref sig .tc := ⟨.hbm, 67, rfl⟩
abbrev main_call1_v1 : Ref sig .tc := ⟨.hbm, 68, rfl⟩
abbrev main_v54 : Ref sig .tc := ⟨.hbm, 69, rfl⟩
abbrev main_cst_5 : Ref sig .tc := ⟨.hbm, 70, rfl⟩
abbrev main_call2_v0 : Ref sig .tc := ⟨.hbm, 71, rfl⟩
abbrev main_call2_v1 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_6 : Ref sig .tc := ⟨.hbm, 92, rfl⟩
abbrev main_v74 : Ref sig .tc := ⟨.hbm, 93, rfl⟩
abbrev main_v75 : Ref sig .tc := ⟨.hbm, 94, rfl⟩
abbrev main_c_7 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_call3_v0 : Ref sig .tc := ⟨.hbm, 99, rfl⟩
abbrev main_call3_v1 : Ref sig .tc := ⟨.hbm, 100, rfl⟩
abbrev main_v78 : Ref sig .tc := ⟨.hbm, 101, rfl⟩
abbrev main_v79 : Ref sig .tc := ⟨.hbm, 102, rfl⟩
abbrev main_c_9 : Ref sig .tc := ⟨.hbm, 103, rfl⟩
abbrev main_v80 : Ref sig .tc := ⟨.hbm, 104, rfl⟩
abbrev main_v81 : Ref sig .tc := ⟨.hbm, 105, rfl⟩
abbrev main_c_10 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_11 : Ref sig .tc := ⟨.hbm, 111, rfl⟩
abbrev main_call6_v0 : Ref sig .tc := ⟨.hbm, 112, rfl⟩
abbrev main_call6_v1 : Ref sig .tc := ⟨.hbm, 113, rfl⟩
abbrev main_v86 : Ref sig .tc := ⟨.hbm, 114, rfl⟩
abbrev main_c_12 : Ref sig .tc := ⟨.hbm, 115, rfl⟩
abbrev main_v87 : Ref sig .tc := ⟨.hbm, 116, rfl⟩
abbrev main_v88 : Ref sig .tc := ⟨.hbm, 117, rfl⟩
abbrev main_c_13 : Ref sig .tc := ⟨.hbm, 118, rfl⟩
abbrev main_v89 : Ref sig .tc := ⟨.hbm, 119, rfl⟩
abbrev main_v90 : Ref sig .tc := ⟨.hbm, 120, rfl⟩
abbrev main_cst_14 : Ref sig .tc := ⟨.hbm, 121, rfl⟩
abbrev main_call7_v0 : Ref sig .tc := ⟨.hbm, 122, rfl⟩
abbrev main_call7_v1 : Ref sig .tc := ⟨.hbm, 123, rfl⟩
abbrev main_v91 : Ref sig .tc := ⟨.hbm, 124, rfl⟩
abbrev main_v92 : Ref sig .tc := ⟨.hbm, 125, rfl⟩
abbrev main_c_15 : Ref sig .tc := ⟨.hbm, 126, rfl⟩
abbrev main_v93 : Ref sig .tc := ⟨.hbm, 127, rfl⟩
abbrev main_v94 : Ref sig .tc := ⟨.hbm, 128, rfl⟩
abbrev main_c_16 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_17 : Ref sig .tc := ⟨.hbm, 134, rfl⟩
abbrev main_call10_v0 : Ref sig .tc := ⟨.hbm, 135, rfl⟩
abbrev main_call10_v1 : Ref sig .tc := ⟨.hbm, 136, rfl⟩
abbrev main_v99 : Ref sig .tc := ⟨.hbm, 137, rfl⟩
abbrev main_c_18 : Ref sig .tc := ⟨.hbm, 138, rfl⟩
abbrev main_v100 : Ref sig .tc := ⟨.hbm, 139, rfl⟩
abbrev main_v101 : Ref sig .tc := ⟨.hbm, 140, rfl⟩
abbrev main_c_19 : Ref sig .tc := ⟨.hbm, 141, rfl⟩
abbrev main_v102 : Ref sig .tc := ⟨.hbm, 142, rfl⟩
abbrev main_v103 : Ref sig .tc := ⟨.hbm, 143, rfl⟩
abbrev main_cst_20 : Ref sig .tc := ⟨.hbm, 144, rfl⟩
abbrev main_call11_v0 : Ref sig .tc := ⟨.hbm, 145, rfl⟩
abbrev main_call11_v1 : Ref sig .tc := ⟨.hbm, 146, rfl⟩
abbrev main_v104 : Ref sig .tc := ⟨.hbm, 147, rfl⟩
abbrev main_v105 : Ref sig .tc := ⟨.hbm, 148, rfl⟩
abbrev main_c_21 : Ref sig .tc := ⟨.hbm, 149, rfl⟩
abbrev main_v106 : Ref sig .tc := ⟨.hbm, 150, rfl⟩
abbrev main_v107 : Ref sig .tc := ⟨.hbm, 151, rfl⟩
abbrev main_c_22 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_23 : Ref sig .tc := ⟨.hbm, 157, rfl⟩
abbrev main_call14_v0 : Ref sig .tc := ⟨.hbm, 158, rfl⟩
abbrev main_call14_v1 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_24 : Ref sig .tc := ⟨.hbm, 171, rfl⟩
abbrev main_v123 : Ref sig .tc := ⟨.hbm, 172, rfl⟩
abbrev main_v124 : Ref sig .tc := ⟨.hbm, 173, rfl⟩
abbrev main_cst_25 : Ref sig .tc := ⟨.hbm, 174, rfl⟩
abbrev main_v125 : Ref sig .tc := ⟨.hbm, 175, rfl⟩
abbrev main_v126 : Ref sig .tc := ⟨.hbm, 176, rfl⟩
abbrev main_cst_26 : Ref sig .tc := ⟨.hbm, 177, rfl⟩
abbrev main_call15_v0 : Ref sig .tc := ⟨.hbm, 178, rfl⟩
abbrev main_call15_v1 : Ref sig .tc := ⟨.hbm, 179, rfl⟩
abbrev main_v127 : Ref sig .tc := ⟨.hbm, 180, rfl⟩
abbrev main_cst_27 : Ref sig .tc := ⟨.hbm, 181, rfl⟩
abbrev main_call16_v0 : Ref sig .tc := ⟨.hbm, 182, rfl⟩
abbrev main_call16_v1 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_c_28 : Ref sig .tc := ⟨.hbm, 203, rfl⟩
abbrev main_v147 : Ref sig .tc := ⟨.hbm, 204, rfl⟩
abbrev main_v148 : Ref sig .tc := ⟨.hbm, 205, rfl⟩
abbrev main_c_29 : Ref sig .tc := ⟨.hbm, 206, rfl⟩
abbrev main_v149 : Ref sig .tc := ⟨.hbm, 207, rfl⟩
abbrev main_v150 : Ref sig .tc := ⟨.hbm, 208, rfl⟩
abbrev main_cst_30 : Ref sig .tc := ⟨.hbm, 209, rfl⟩
abbrev main_call17_v0 : Ref sig .tc := ⟨.hbm, 210, rfl⟩
abbrev main_call17_v1 : Ref sig .tc := ⟨.hbm, 211, rfl⟩
abbrev main_v151 : Ref sig .tc := ⟨.hbm, 212, rfl⟩
abbrev main_v152 : Ref sig .tc := ⟨.hbm, 213, rfl⟩
abbrev main_c_31 : Ref sig .tc := ⟨.hbm, 214, rfl⟩
abbrev main_v153 : Ref sig .tc := ⟨.hbm, 215, rfl⟩
abbrev main_v154 : Ref sig .tc := ⟨.hbm, 216, rfl⟩
abbrev main_c_32 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_33 : Ref sig .tc := ⟨.hbm, 222, rfl⟩
abbrev main_call20_v0 : Ref sig .tc := ⟨.hbm, 223, rfl⟩
abbrev main_call20_v1 : Ref sig .tc := ⟨.hbm, 224, rfl⟩
abbrev main_v159 : Ref sig .tc := ⟨.hbm, 225, rfl⟩
abbrev main_c_34 : Ref sig .tc := ⟨.hbm, 226, rfl⟩
abbrev main_v160 : Ref sig .tc := ⟨.hbm, 227, rfl⟩
abbrev main_v161 : Ref sig .tc := ⟨.hbm, 228, rfl⟩
abbrev main_c_35 : Ref sig .tc := ⟨.hbm, 229, rfl⟩
abbrev main_v162 : Ref sig .tc := ⟨.hbm, 230, rfl⟩
abbrev main_v163 : Ref sig .tc := ⟨.hbm, 231, rfl⟩
abbrev main_cst_36 : Ref sig .tc := ⟨.hbm, 232, rfl⟩
abbrev main_call21_v0 : Ref sig .tc := ⟨.hbm, 233, rfl⟩
abbrev main_call21_v1 : Ref sig .tc := ⟨.hbm, 234, rfl⟩
abbrev main_v164 : Ref sig .tc := ⟨.hbm, 235, rfl⟩
abbrev main_v165 : Ref sig .tc := ⟨.hbm, 236, rfl⟩
abbrev main_c_37 : Ref sig .tc := ⟨.hbm, 237, rfl⟩
abbrev main_v166 : Ref sig .tc := ⟨.hbm, 238, rfl⟩
abbrev main_v167 : Ref sig .tc := ⟨.hbm, 239, rfl⟩
abbrev main_c_38 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_cst_39 : Ref sig .tc := ⟨.hbm, 245, rfl⟩
abbrev main_call24_v0 : Ref sig .tc := ⟨.hbm, 246, rfl⟩
abbrev main_call24_v1 : Ref sig .tc := ⟨.hbm, 247, rfl⟩
abbrev main_v172 : Ref sig .tc := ⟨.hbm, 248, rfl⟩
abbrev main_c_40 : Ref sig .tc := ⟨.hbm, 249, rfl⟩
abbrev main_v173 : Ref sig .tc := ⟨.hbm, 250, rfl⟩
abbrev main_v174 : Ref sig .tc := ⟨.hbm, 251, rfl⟩
abbrev main_c_41 : Ref sig .tc := ⟨.hbm, 252, rfl⟩
abbrev main_v175 : Ref sig .tc := ⟨.hbm, 253, rfl⟩
abbrev main_v176 : Ref sig .tc := ⟨.hbm, 254, rfl⟩
abbrev main_cst_42 : Ref sig .tc := ⟨.hbm, 255, rfl⟩
abbrev main_call25_v0 : Ref sig .tc := ⟨.hbm, 256, rfl⟩
abbrev main_call25_v1 : Ref sig .tc := ⟨.hbm, 257, rfl⟩
abbrev main_v177 : Ref sig .tc := ⟨.hbm, 258, rfl⟩
abbrev main_v178 : Ref sig .tc := ⟨.hbm, 259, rfl⟩
abbrev main_c_43 : Ref sig .tc := ⟨.hbm, 260, rfl⟩
abbrev main_v179 : Ref sig .tc := ⟨.hbm, 261, rfl⟩
abbrev main_v180 : Ref sig .tc := ⟨.hbm, 262, rfl⟩
abbrev main_c_44 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_cst_45 : Ref sig .tc := ⟨.hbm, 268, rfl⟩
abbrev main_call28_v0 : Ref sig .tc := ⟨.hbm, 269, rfl⟩
abbrev main_call28_v1 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196_0 : Ref sig .tc := ⟨.hbm, 282, rfl⟩
abbrev main_v196_1 : Ref sig .tc := ⟨.hbm, 283, rfl⟩
abbrev main_v196_2 : Ref sig .tc := ⟨.hbm, 284, rfl⟩
abbrev main_v196_3 : Ref sig .tc := ⟨.hbm, 285, rfl⟩
abbrev main_v196_4 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let arg1 : BitVec 32 := BitVec.ofNat 32 (i 1).val
  let v10 : BitVec 1 := Scalar.cmpi .sgt arg2 arg1
  let v11 : BitVec 32 := Scalar.extui v10
  let c0_i32_3 : BitVec 32 := 0#32
  let v12 : BitVec 1 := Scalar.cmpi .ne v11 c0_i32_3
  v12

def k0_off1 (i : grid0.Coords) : Fin 4 → Nat :=
  let c0_37 : Index := 0#32
  let arg2 : BitVec 32 := BitVec.ofNat 32 (i 2).val
  let v67 : Index := Scalar.indexCast arg2
  let c0_38 : Index := 0#32
  let c0_39 : Index := 0#32
  ![0, v67.toNat, 0, 0]
def k0_off2 (i : grid0.Coords) : Fin 4 → Nat :=
  let c1_69 : Index := 1#32
  let arg2 : BitVec 32 := BitVec.ofNat 32 (i 2).val
  let v121 : Index := Scalar.indexCast arg2
  let c0_70 : Index := 0#32
  let c0_71 : Index := 0#32
  ![1, v121.toNat, 0, 0]
def k0_mult1 (i : grid0.Coords) : BitVec 32 :=
  let arg2 : BitVec 32 := BitVec.ofNat 32 (i 2).val
  let c512_i32 : BitVec 32 := 512#32
  let v132 : BitVec 32 := Scalar.muli arg2 c512_i32
  v132
def k0_off3 (i : grid0.Coords) : Fin 2 → Nat :=
  let arg2 : BitVec 32 := BitVec.ofNat 32 (i 2).val
  let c512_i32 : BitVec 32 := 512#32
  let v132 : BitVec 32 := Scalar.muli arg2 c512_i32
  let v133 : BitVec 32 := v132
  let v134 : Index := Scalar.indexCast v133
  let c0_77 : Index := 0#32
  ![v134.toNat, 0]
def k0_cond4 (i : grid0.Coords) : BitVec 1 :=
  let arg2 : BitVec 32 := BitVec.ofNat 32 (i 2).val
  let arg1 : BitVec 32 := BitVec.ofNat 32 (i 1).val
  let v13 : BitVec 1 := Scalar.cmpi .eq arg2 arg1
  let v14 : BitVec 32 := Scalar.extui v13
  let c0_i32_4 : BitVec 32 := 0#32
  let v15 : BitVec 1 := Scalar.cmpi .ne v14 c0_i32_4
  v15

def k0_off4 (i : grid0.Coords) : Fin 4 → Nat :=
  let c0_38 : Index := 0#32
  let arg2 : BitVec 32 := BitVec.ofNat 32 (i 2).val
  let v72 : Index := Scalar.indexCast arg2
  let c0_39 : Index := 0#32
  let c0_40 : Index := 0#32
  ![0, v72.toNat, 0, 0]
def k0_off5 (i : grid0.Coords) : Fin 4 → Nat :=
  let c1_71 : Index := 1#32
  let arg2 : BitVec 32 := BitVec.ofNat 32 (i 2).val
  let v128 : Index := Scalar.indexCast arg2
  let c0_72 : Index := 0#32
  let c0_73 : Index := 0#32
  ![1, v128.toNat, 0, 0]
def k0_mult2 (i : grid0.Coords) : BitVec 32 :=
  let arg2 : BitVec 32 := BitVec.ofNat 32 (i 2).val
  let c512_i32 : BitVec 32 := 512#32
  let v139 : BitVec 32 := Scalar.muli arg2 c512_i32
  v139
def k0_off6 (i : grid0.Coords) : Fin 2 → Nat :=
  let arg2 : BitVec 32 := BitVec.ofNat 32 (i 2).val
  let c512_i32 : BitVec 32 := 512#32
  let v139 : BitVec 32 := Scalar.muli arg2 c512_i32
  let v140 : BitVec 32 := v139
  let v141 : Index := Scalar.indexCast v140
  let c0_79 : Index := 0#32
  ![v141.toNat, 0]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg2 : BitVec 32 := BitVec.ofNat 32 (i 2).val
  let c0_i32_0 : BitVec 32 := 0#32
  let v3 : BitVec 1 := Scalar.cmpi .eq arg2 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_cond2 (i : grid0.Coords) : BitVec 1 :=
  let arg2 : BitVec 32 := BitVec.ofNat 32 (i 2).val
  let arg1 : BitVec 32 := BitVec.ofNat 32 (i 1).val
  let v7 : BitVec 1 := Scalar.cmpi .eq arg2 arg1
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2x4x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S2048x3200 : Shape := ⟨2, ![2048, 3200]⟩
abbrev S8x2048 : Shape := ⟨2, ![8, 2048]⟩
abbrev S2048x1024 : Shape := ⟨2, ![2048, 1024]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x2048x64 : Shape := ⟨3, ![8, 2048, 64]⟩
abbrev S8x4x1x512 : Shape := ⟨4, ![8, 4, 1, 512]⟩
abbrev S8x4x16x512 : Shape := ⟨4, ![8, 4, 16, 512]⟩

abbrev nBuf : Space → Nat
  | .hbm => 122
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S8x2048, .f32⟩
  | .hbm, ⟨2, _⟩ => ⟨S2048x1024, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x8x64, .f32⟩
  | .hbm, ⟨7, _⟩ => ⟨S2048x8x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .i1⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .i1⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S2048x8x64, .f32⟩
  | .hbm, ⟨71, _⟩ => ⟨S8x64x2048, .f32⟩
  | .hbm, ⟨72, _⟩ => ⟨S2048x8x64, .f32⟩
  | .hbm, ⟨73, _⟩ => ⟨S2048x512, .f32⟩
  | .hbm, ⟨74, _⟩ => ⟨S2048x512, .f32⟩
  | .hbm, ⟨75, _⟩ => ⟨S2048x8x64, .f32⟩
  | .hbm, ⟨76, _⟩ => ⟨S8x64x2048, .f32⟩
  | .hbm, ⟨77, _⟩ => ⟨S8x2048x2048, .f32⟩
  | .hbm, ⟨78, _⟩ => ⟨S8x64x2048, .f32⟩
  | .hbm, ⟨79, _⟩ => ⟨S2048x8x64, .f32⟩
  | .hbm, ⟨80, _⟩ => ⟨S2048x512, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S8x2048x1, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x1x2048, .f32⟩
  | .hbm, ⟨102, _⟩ => ⟨S_, .f32⟩
  | .hbm, ⟨103, _⟩ => ⟨S8x2048, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048, .f32⟩
  | .hbm, ⟨109, _⟩ => ⟨S_, .f32⟩
  | .hbm, ⟨110, _⟩ => ⟨S8x2048x2048, .f32⟩
  | .hbm, ⟨111, _⟩ => ⟨S8x2048x2048, .f32⟩
  | .hbm, ⟨112, _⟩ => ⟨S8x2048x64, .f32⟩
  | .hbm, ⟨113, _⟩ => ⟨S2048x8x64, .f32⟩
  | .hbm, ⟨114, _⟩ => ⟨S8x2048x64, .f32⟩
  | .hbm, ⟨115, _⟩ => ⟨S2048x8x64, .f32⟩
  | .hbm, ⟨116, _⟩ => ⟨S2048x512, .f32⟩
  | .hbm, ⟨117, _⟩ => ⟨S2048x512, .f32⟩
  | .hbm, ⟨118, _⟩ => ⟨S8x1x2048, .f32⟩
  | .hbm, ⟨119, _⟩ => ⟨S8x1x2048, .f32⟩
  | .hbm, ⟨120, _⟩ => ⟨S8x4x1x512, .f32⟩
  | .hbm, ⟨121, _⟩ => ⟨S8x4x16x512, .f32⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel2.lean ====
abbrev S2048x1024 : Shape := ⟨2, ![2048, 1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S2x4x2048x704 : Shape := ⟨4, ![2, 4, 2048, 704]⟩
abbrev S4x2048x704 : Shape := ⟨3, ![4, 2048, 704]⟩
abbrev S1024x1024 : Shape := ⟨2, ![1024, 1024]⟩
abbrev S2x1x704x1024 : Shape := ⟨4, ![2, 1, 704, 1024]⟩
abbrev S2x1x1024x704 : Shape := ⟨4, ![2, 1, 1024, 704]⟩
abbrev S1x1024x704 : Shape := ⟨3, ![1, 1024, 704]⟩
abbrev S1x1x704x1024 : Shape := ⟨4, ![1, 1, 704, 1024]⟩
abbrev S704x1024 : Shape := ⟨2, ![704, 1024]⟩
abbrev S1024x704 : Shape := ⟨2, ![1024, 704]⟩
abbrev S1x1x1024x704 : Shape := ⟨4, ![1, 1, 1024, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S8x2048x704 : Shape := ⟨3, ![8, 2048, 704]⟩
abbrev S1x2048x704 : Shape := ⟨3, ![1, 2048, 704]⟩
abbrev S2048x704 : Shape := ⟨2, ![2048, 704]⟩
abbrev S8x704x1024 : Shape := ⟨3, ![8, 704, 1024]⟩
abbrev S8x512x704 : Shape := ⟨3, ![8, 512, 704]⟩

abbrev nBuf : Space → Nat
  | .hbm => 20
  | .vmem => 36
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S2048x1024, .f32⟩
  | .hbm, ⟨4, _⟩ => ⟨S2048x1024, .bf16⟩
  | .hbm, ⟨5, _⟩ => ⟨S2048x1024, .bf16⟩
  | .hbm, ⟨6, _⟩ => ⟨S5632x1024, .f32⟩
  | .hbm, ⟨7, _⟩ => ⟨S5632x1024, .bf16⟩
  | .hbm, ⟨8, _⟩ => ⟨S2x4x704x1024, .bf16⟩
  | .hbm, ⟨9, _⟩ => ⟨S2816x1024, .bf16⟩
  | .hbm, ⟨10, _⟩ => ⟨S4x704x1024, .bf16⟩
  | .hbm, ⟨11, _⟩ => ⟨S2x4x2048x704, .bf16⟩
  | .hbm, ⟨12, _⟩ => ⟨S4x2048x704, .bf16⟩
  | .hbm, ⟨13, _⟩ => ⟨S2048x1024, .f32⟩
  | .hbm, ⟨14, _⟩ => ⟨S2x4x2048x704, .bf16⟩
  | .hbm, ⟨15, _⟩ => ⟨S8x2048x704, .bf16⟩
  | .hbm, ⟨16, _⟩ => ⟨S4x704x1024, .f32⟩
  | .hbm, ⟨17, _⟩ => ⟨S8x704x1024, .f32⟩
  | .hbm, ⟨18, _⟩ => ⟨S8x704x1024, .bf16⟩
  | .hbm, ⟨19, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1x704x1024, .bf16⟩
  | .local _ .vmem, ⟨3, _⟩ => ⟨S2x1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S2x1x1024x704, .bf16⟩
  | .local _ .vmem, ⟨18, _⟩ => ⟨S2x1x1024x704, .bf16⟩
  | .local _ .vmem, ⟨19, _⟩ => ⟨S2x1x1024x704, .bf16⟩
  | .local _ .vmem, ⟨20, _⟩ => ⟨S2x1x1024x704, .bf16⟩
  | .local _ .vmem, ⟨21, _⟩ => ⟨S1x2048x704, .bf16⟩
  | .local _ .vmem, ⟨22, _⟩ => ⟨S1x2048x704, .bf16⟩
  | .local _ .vmem, ⟨23, _⟩ => ⟨S2048x1024, .bf16⟩
  | .local _ .vmem, ⟨24, _⟩ => ⟨S1x704x1024, .f32⟩
  | .local _ .vmem, ⟨25, _⟩ => ⟨S1x704x1024, .f32⟩
  | .local _ .vmem, ⟨26, _⟩ => ⟨S1x2048x704, .bf16⟩
  | .local _ .vmem, ⟨27, _⟩ => ⟨S1x2048x704, .bf16⟩
  | .local _ .vmem, ⟨28, _⟩ => ⟨S2048x1024, .bf16⟩
  | .local _ .vmem, ⟨29, _⟩ => ⟨S1x704x1024, .f32⟩
  | .local _ .vmem, ⟨30, _⟩ => ⟨S1x704x1024, .f32⟩
  | .local _ .vmem, ⟨31, _⟩ => ⟨S8x512x704, .bf16⟩
  | .local _ .vmem, ⟨32, _⟩ => ⟨S8x512x704, .bf16⟩
  | .local _ .vmem, ⟨33, _⟩ => ⟨S8x704x1024, .bf16⟩
  | .local _ .vmem, ⟨34, _⟩ => ⟨S512x1024, .f32⟩
  | .local _ .vmem, ⟨35, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x704x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2x1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2x1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![8, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x2048x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![4], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x512x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8x704x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== Reference2Ideal.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S1024x2816 : Shape := ⟨2, ![1024, 2816]⟩
abbrev S5632x1024 : Shape := ⟨2, ![5632, 1024]⟩
abbrev S8x704x1024 : Shape := ⟨3, ![8, 704, 1024]⟩
abbrev S4x704x1024 : Shape := ⟨3, ![4, 704, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S2048x1024, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S1024x2816, .f32⟩
  | .hbm, ⟨23, _⟩ => ⟨S2816x1024, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x5632, .f32⟩
  | .hbm, ⟨32, _⟩ => ⟨S5632x1024, .f32⟩
  | .hbm, ⟨33, _⟩ => ⟨S1024x5632, .f32⟩
  | .hbm, ⟨34, _⟩ => ⟨S2048x1024, .f32⟩
  | .hbm, ⟨35, _⟩ => ⟨S5632x1024, .f32⟩
  | .hbm, ⟨36, _⟩ => ⟨S8x704x1024, .f32⟩
  | .hbm, ⟨37, _⟩ => ⟨S4x704x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel3.lean ====
abbrev S2048x1024 : Shape := ⟨2, ![2048, 1024]⟩
abbrev S256x1024 : Shape := ⟨2, ![256, 1024]⟩
abbrev S1024x1024 : Shape := ⟨2, ![1024, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8x256x256 : Shape := ⟨3, ![8, 256, 256]⟩
abbrev S1x1024x256 : Shape := ⟨3, ![1, 1024, 256]⟩
abbrev S1x256x256 : Shape := ⟨3, ![1, 256, 256]⟩
abbrev S1024x256 : Shape := ⟨2, ![1024, 256]⟩
abbrev S256x256 : Shape := ⟨2, ![256, 256]⟩
abbrev S2048x256 : Shape := ⟨2, ![2048, 256]⟩
abbrev S2048 : Shape := ⟨1, ![2048]⟩
abbrev S2048x1 : Shape := ⟨2, ![2048, 1]⟩
abbrev S2x4x256x256 : Shape := ⟨4, ![2, 4, 256, 256]⟩
abbrev S2x1x256x256 : Shape := ⟨4, ![2, 1, 256, 256]⟩
abbrev S1x1x256x256 : Shape := ⟨4, ![1, 1, 256, 256]⟩

abbrev nBuf : Space → Nat
  | .hbm => 27
  | .vmem => 51
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024x1024, .f32⟩
  | .hbm, ⟨3, _⟩ => ⟨S1024x2048, .f32⟩
  | .hbm, ⟨4, _⟩ => ⟨S1024x1024, .f32⟩
  | .hbm, ⟨5, _⟩ => ⟨S2048x1024, .f32⟩
  | .hbm, ⟨6, _⟩ => ⟨S2048x1024, .bf16⟩
  | .hbm, ⟨7, _⟩ => ⟨S256x1024, .bf16⟩
  | .hbm, ⟨8, _⟩ => ⟨S2048x1024, .bf16⟩
  | .hbm, ⟨9, _⟩ => ⟨S1024x1024, .bf16⟩
  | .hbm, ⟨10, _⟩ => ⟨S1024x1024, .bf16⟩
  | .hbm, ⟨11, _⟩ => ⟨S1024x2048, .bf16⟩
  | .hbm, ⟨12, _⟩ => ⟨S1024x8x256, .bf16⟩
  | .hbm, ⟨13, _⟩ => ⟨S8x1024x256, .bf16⟩
  | .hbm, ⟨14, _⟩ => ⟨S8x256x256, .bf16⟩
  | .hbm, ⟨15, _⟩ => ⟨S2048x1024, .bf16⟩
  | .hbm, ⟨16, _⟩ => ⟨S2048x1024, .bf16⟩
  | .hbm, ⟨17, _⟩ => ⟨S2048x1024, .f32⟩
  | .hbm, ⟨18, _⟩ => ⟨S2048x1024, .bf16⟩
  | .hbm, ⟨19, _⟩ => ⟨S1024x1024, .f32⟩
  | .hbm, ⟨20, _⟩ => ⟨S2048x1024, .bf16⟩
  | .hbm, ⟨21, _⟩ => ⟨S2x4x256x256, .f32⟩
  | .hbm, ⟨22, _⟩ => ⟨S1024x1024, .f32⟩
  | .hbm, ⟨23, _⟩ => ⟨S2048x1024, .f32⟩
  | .hbm, ⟨24, _⟩ => ⟨S8x256x256, .f32⟩
  | .hbm, ⟨25, _⟩ => ⟨S8x1024x256, .f32⟩
  | .hbm, ⟨26, _⟩ => ⟨S256x1024, .f32⟩
  | .local _ .vmem, ⟨0, _⟩ => ⟨S256x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x256x256, .bf16⟩
  | .local _ .vmem, ⟨4, _⟩ => ⟨S1x256x256, .bf16⟩
  | .local _ .vmem, ⟨5, _⟩ => ⟨S2048x1024, .bf16⟩
  | .local _ .vmem, ⟨6, _⟩ => ⟨S1024x256, .bf16⟩
  | .local _ .vmem, ⟨7, _⟩ => ⟨S1024x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x1024, .bf16⟩
  | .local _ .vmem, ⟨17, _⟩ => ⟨S1024x1024, .bf16⟩
  | .local _ .vmem, ⟨18, _⟩ => ⟨S2048x1024, .f32⟩
  | .local _ .vmem, ⟨19, _⟩ => ⟨S2048x1024, .bf16⟩
  | .local _ .vmem, ⟨20, _⟩ => ⟨S1024x1024, .bf16⟩
  | .local _ .vmem, ⟨21, _⟩ => ⟨S2048x1024, .bf16⟩
  | .local _ .vmem, ⟨22, _⟩ => ⟨S2048x1024, .bf16⟩
  | .local _ .vmem, ⟨23, _⟩ => ⟨S2048x1024, .bf16⟩
  | .local _ .vmem, ⟨24, _⟩ => ⟨S1024x1024, .f32⟩
  | .local _ .vmem, ⟨25, _⟩ => ⟨S2048x256, .bf16⟩
  | .local _ .vmem, ⟨26, _⟩ => ⟨S2048x256, .bf16⟩
  | .local _ .vmem, ⟨27, _⟩ => ⟨S1x256x256, .bf16⟩
  | .local _ .vmem, ⟨28, _⟩ => ⟨S1x256x256, .bf16⟩
  | .local _ .vmem, ⟨29, _⟩ => ⟨S1x256x256, .bf16⟩
  | .local _ .vmem, ⟨30, _⟩ => ⟨S1x256x256, .bf16⟩
  | .local _ .vmem, ⟨31, _⟩ => ⟨S2048x256, .bf16⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2x1x256x256, .f32⟩
  | .local _ .vmem, ⟨36, _⟩ => ⟨S2x1x256x256, .f32⟩
  | .local _ .vmem, ⟨37, _⟩ => ⟨S2048x1024, .bf16⟩
  | .local _ .vmem, ⟨38, _⟩ => ⟨S2048x1024, .bf16⟩
  | .local _ .vmem, ⟨39, _⟩ => ⟨S1024x1024, .f32⟩
  | .local _ .vmem, ⟨40, _⟩ => ⟨S2048x1024, .bf16⟩
  | .local _ .vmem, ⟨41, _⟩ => ⟨S1024x1024, .bf16⟩
  | .local _ .vmem, ⟨42, _⟩ => ⟨S2048x1024, .f32⟩
  | .local _ .vmem, ⟨43, _⟩ => ⟨S256x1024, .bf16⟩
  | .local _ .vmem, ⟨44, _⟩ => ⟨S1x256x256, .f32⟩
  | .local _ .vmem, ⟨45, _⟩ => ⟨S1x256x256, .f32⟩
  | .local _ .vmem, ⟨46, _⟩ => ⟨S1x1024x256, .f32⟩
  | .local _ .vmem, ⟨47, _⟩ => ⟨S1x1024x256, .f32⟩
  | .local _ .vmem, ⟨48, _⟩ => ⟨S8x256x256, .f32⟩
  | .local _ .vmem, ⟨49, _⟩ => ⟨S8x1024x256, .bf16⟩
  | .local _ .vmem, ⟨50, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc5_stg4_0 : Ref sig .tc := ⟨.vmem, 33, rfl⟩
abbrev cc5_stg4_1 : Ref sig .tc := ⟨.vmem, 34, rfl⟩
abbrev cc5_stg5_0 : Ref sig .tc := ⟨.vmem, 35, rfl⟩
abbrev cc5_stg5_1 : Ref sig .tc := ⟨.vmem, 36, rfl⟩
abbrev cc6_stg0_0 : Ref sig .tc := ⟨.vmem, 37, rfl⟩
abbrev cc6_stg1_0 : Ref sig .tc := ⟨.vmem, 38, rfl⟩
abbrev cc6_stg2_0 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg1_0 : Ref sig .tc := ⟨.vmem, 44, rfl⟩
abbrev cc8_stg1_1 : Ref sig .tc := ⟨.vmem, 45, rfl⟩
abbrev cc8_stg2_0 : Ref sig .tc := ⟨.vmem, 46, rfl⟩
abbrev cc8_stg2_1 : Ref sig .tc := ⟨.vmem, 47, rfl⟩
abbrev cc9_stg0_0 : Ref sig .tc := ⟨.vmem, 48, rfl⟩
abbrev cc9_stg1_0 : Ref sig .tc := ⟨.vmem, 49, rfl⟩
abbrev cc9_stg2_0 : Ref sig .tc := ⟨.vmem, 50, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc3_sem0_0 : DmaSem sig := 19
abbrev cc3_sem1_0 : DmaSem sig := 20
abbrev cc3_sem2_0 : DmaSem sig := 21
abbrev cc4_sem0_0 : DmaSem sig := 22
abbrev cc4_sem1_0 : DmaSem sig := 23
abbrev cc4_sem2_0 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30
abbrev cc5_sem3_0 : DmaSem sig := 31
abbrev cc5_sem3_1 : DmaSem sig := 32
abbrev cc5_sem4_0 : DmaSem sig := 33
abbrev cc5_sem4_1 : DmaSem sig := 34
abbrev cc5_sem5_0 : DmaSem sig := 35
abbrev cc5_sem5_1 : DmaSem sig := 36
abbrev cc6_sem0_0 : DmaSem sig := 37
abbrev cc6_sem1_0 : DmaSem sig := 38
abbrev cc6_sem2_0 : DmaSem sig := 39
abbrev cc7_sem0_0 : DmaSem sig := 40
abbrev cc7_sem1_0 : DmaSem sig := 41
abbrev cc7_sem2_0 : DmaSem sig := 42
abbrev cc8_sem0_0 : DmaSem sig := 43
abbrev cc8_sem1_0 : DmaSem sig := 44
abbrev cc8_sem1_1 : DmaSem sig := 45
abbrev cc8_sem2_0 : DmaSem sig := 46
abbrev cc8_sem2_1 : DmaSem sig := 47
abbrev cc9_sem0_0 : DmaSem sig := 48
abbrev cc9_sem1_0 : DmaSem sig := 49
abbrev cc9_sem2_0 : DmaSem sig := 50

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, false]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S2048x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev grid5 : Pipeline.Grid := ⟨2, ![4, 1], ![false, false]⟩

def k5_cond1 (i : grid5.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_20 : BitVec 32 := 0#32
  let v38 : BitVec 1 := Scalar.cmpi .ne v37 c0_i32_20
  v38

def k5_cond2 (i : grid5.Coords) : BitVec 1 :=
  let arg1 : BitVec 32 := BitVec.ofNat 32 (i 1).val
  let c0_i32_21 : BitVec 32 := 0#32
  let v39 : BitVec 1 := Scalar.cmpi .sgt arg1 c0_i32_21
  let v40 : BitVec 32 := Scalar.extui v39
  let c0_i32_22 : BitVec 32 := 0#32
  let v41 : BitVec 1 := Scalar.cmpi .ne v40 c0_i32_22
  v41

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_5 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x256x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x256x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2048x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S2048x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S2x1x256x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true]

abbrev stage6_1 : Fin 1 → Memref sig .tc .vmem S2048x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, true]

abbrev stage6_2 : Fin 1 → Memref sig .tc .vmem S1024x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 1 → Memref sig .tc .vmem S2048x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S2048x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, false]

abbrev grid8 : Pipeline.Grid := ⟨2, ![8, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage8_0 : Fin 1 → Memref sig .tc .vmem S256x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, true]

abbrev stage8_1 : Fin 2 → Memref sig .tc .vmem S1x256x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1x1024x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨1, ![1], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S8x256x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S8x1024x256 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S256x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]
-- ==== Reference3Ideal.lean ====
abbrev S2048x1024 : Shape := ⟨2, ![2048, 1024]⟩
abbrev S256x1024 : Shape := ⟨2, ![256, 1024]⟩
abbrev S1024x1024 : Shape := ⟨2, ![1024, 1024]⟩
abbrev S1024x2048 : Shape := ⟨2, ![1024, 2048]⟩
abbrev S2048x4x256 : Shape := ⟨3, ![2048, 4, 256]⟩
abbrev S256x2048 : Shape := ⟨2, ![256, 2048]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩
abbrev S1024x8x256 : Shape := ⟨3, ![1024, 8, 256]⟩
abbrev S8x1024x256 : Shape := ⟨3, ![8, 1024, 256]⟩

abbrev nBuf : Space → Nat
  | .hbm => 100
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024x1024, .f32⟩
  | .hbm, ⟨3, _⟩ => ⟨S1024x2048, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x4x256, .f32⟩
  | .hbm, ⟨8, _⟩ => ⟨S256x2048, .f32⟩
  | .hbm, ⟨9, _⟩ => ⟨S256x1024, .f32⟩
  | .hbm, ⟨10, _⟩ => ⟨S256x1024, .f32⟩
  | .hbm, ⟨11, _⟩ => ⟨S256x4x256, .f32⟩
  | .hbm, ⟨12, _⟩ => ⟨S256x4x256, .f32⟩
  | .hbm, ⟨13, _⟩ => ⟨S4x2048x256, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .i1⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S4x2048, .i1⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S4x2048x256, .f32⟩
  | .hbm, ⟨50, _⟩ => ⟨S4x2048x256, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x256x2048, .f32⟩
  | .hbm, ⟨56, _⟩ => ⟨S2048x4x256, .f32⟩
  | .hbm, ⟨57, _⟩ => ⟨S2048x1024, .f32⟩
  | .hbm, ⟨58, _⟩ => ⟨S2048x1024, .f32⟩
  | .hbm, ⟨59, _⟩ => ⟨S1024x1024, .f32⟩
  | .hbm, ⟨60, _⟩ => ⟨S1024x1024, .f32⟩
  | .hbm, ⟨61, _⟩ => ⟨S2048x1024, .f32⟩
  | .hbm, ⟨62, _⟩ => ⟨S2048x4x256, .f32⟩
  | .hbm, ⟨63, _⟩ => ⟨S4x256x2048, .f32⟩
  | .hbm, ⟨64, _⟩ => ⟨S4x2048x256, .f32⟩
  | .hbm, ⟨65, _⟩ => ⟨S4x256x256, .f32⟩
  | .hbm, ⟨66, _⟩ => ⟨S256x4x256, .f32⟩
  | .hbm, ⟨67, _⟩ => ⟨S4x2048x256, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x1, .f32⟩
  | .hbm, ⟨73, _⟩ => ⟨S4x2048x1, .f32⟩
  | .hbm, ⟨74, _⟩ => ⟨S4x2048x256, .f32⟩
  | .hbm, ⟨75, _⟩ => ⟨S4x2048x256, .f32⟩
  | .hbm, ⟨76, _⟩ => ⟨S_, .f32⟩
  | .hbm, ⟨77, _⟩ => ⟨S4x2048, .f32⟩
  | .hbm, ⟨78, _⟩ => ⟨S4x2048x256, .f32⟩
  | .hbm, ⟨79, _⟩ => ⟨S4x2048x256, .f32⟩
  | .hbm, ⟨80, _⟩ => ⟨S4x2048x256, .f32⟩
  | .hbm, ⟨81, _⟩ => ⟨S_, .f32⟩
  | .hbm, ⟨82, _⟩ => ⟨S4x2048x256, .f32⟩
  | .hbm, ⟨83, _⟩ => ⟨S4x2048x256, .f32⟩
  | .hbm, ⟨84, _⟩ => ⟨S4x256x256, .f32⟩
  | .hbm, ⟨85, _⟩ => ⟨S256x4x256, .f32⟩
  | .hbm, ⟨86, _⟩ => ⟨S4x2048x256, .f32⟩
  | .hbm, ⟨87, _⟩ => ⟨S2048x4x256, .f32⟩
  | .hbm, ⟨88, _⟩ => ⟨S256x1024, .f32⟩
  | .hbm, ⟨89, _⟩ => ⟨S256x1024, .f32⟩
  | .hbm, ⟨90, _⟩ => ⟨S256x2048, .f32⟩
  | .hbm, ⟨91, _⟩ => ⟨S2048x1024, .f32⟩
  | .hbm, ⟨92, _⟩ => ⟨S1024x2048, .f32⟩
  | .hbm, ⟨93, _⟩ => ⟨S256x1024, .f32⟩
  | .hbm, ⟨94, _⟩ => ⟨S2048x1024, .f32⟩
  | .hbm, ⟨95, _⟩ => ⟨S1024x1024, .f32⟩
  | .hbm, ⟨96, _⟩ => ⟨S1024x1024, .f32⟩
  | .hbm, ⟨97, _⟩ => ⟨S2048x1024, .f32⟩
  | .hbm, ⟨98, _⟩ => ⟨S1024x8x256, .f32⟩
  | .hbm, ⟨99, _⟩ => ⟨S8x1024x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== Kernel4.lean ====
abbrev S2048x1024 : Shape := ⟨2, ![2048, 1024]⟩
abbrev S1024x2048 : Shape := ⟨2, ![1024, 2048]⟩
abbrev S4x256x256 : Shape := ⟨3, ![4, 256, 256]⟩
abbrev S1024x1024 : Shape := ⟨2, ![1024, 1024]⟩
abbrev S2048x2048 : Shape := ⟨2, ![2048, 2048]⟩
abbrev S1024x8x256 : Shape := ⟨3, ![1024, 8, 256]⟩
abbrev S8x1024x256 : Shape := ⟨3, ![8, 1024, 256]⟩
abbrev S2048x4x256 : Shape := ⟨3, ![2048, 4, 256]⟩
abbrev S4x2048x256 : Shape := ⟨3, ![4, 2048, 256]⟩
abbrev S1x4x256x256 : Shape := ⟨4, ![1, 4, 256, 256]⟩
abbrev S2x4x256x256 : Shape := ⟨4, ![2, 4, 256, 256]⟩
abbrev S2048x8x256 : Shape := ⟨3, ![2048, 8, 256]⟩
abbrev S8x2048x256 : Shape := ⟨3, ![8, 2048, 256]⟩
abbrev S1x4x2048x256 : Shape := ⟨4, ![1, 4, 2048, 256]⟩
abbrev S2x4x2048x256 : Shape := ⟨4, ![2, 4, 2048, 256]⟩
abbrev S1x1024x256 : Shape := ⟨3, ![1, 1024, 256]⟩
abbrev S1x2048x256 : Shape := ⟨3, ![1, 2048, 256]⟩
abbrev S1024x256 : Shape := ⟨2, ![1024, 256]⟩
abbrev S2048x256 : Shape := ⟨2, ![2048, 256]⟩
abbrev S1x1x256x256 : Shape := ⟨4, ![1, 1, 256, 256]⟩
abbrev S1x1x2048x256 : Shape := ⟨4, ![1, 1, 2048, 256]⟩
abbrev S256x256 : Shape := ⟨2, ![256, 256]⟩
abbrev S8x512x256 : Shape := ⟨3, ![8, 512, 256]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 43
  | .vmem => 36
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .f32⟩
  | .hbm, ⟨3, _⟩ => ⟨S4x256x256, .f32⟩
  | .hbm, ⟨4, _⟩ => ⟨S4x256x256, .f32⟩
  | .hbm, ⟨5, _⟩ => ⟨S2048x1024, .f32⟩
  | .hbm, ⟨6, _⟩ => ⟨S1024x1024, .f32⟩
  | .hbm, ⟨7, _⟩ => ⟨S2048x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S1024x1024, .bf16⟩
  | .hbm, ⟨15, _⟩ => ⟨S1024x2048, .bf16⟩
  | .hbm, ⟨16, _⟩ => ⟨S1024x8x256, .bf16⟩
  | .hbm, ⟨17, _⟩ => ⟨S8x1024x256, .bf16⟩
  | .hbm, ⟨18, _⟩ => ⟨S2048x4x256, .f32⟩
  | .hbm, ⟨19, _⟩ => ⟨S4x2048x256, .f32⟩
  | .hbm, ⟨20, _⟩ => ⟨S1x4x256x256, .f32⟩
  | .hbm, ⟨21, _⟩ => ⟨S1x4x256x256, .f32⟩
  | .hbm, ⟨22, _⟩ => ⟨S2x4x256x256, .f32⟩
  | .hbm, ⟨23, _⟩ => ⟨S2x4x256x256, .bf16⟩
  | .hbm, ⟨24, _⟩ => ⟨S2048x8x256, .f32⟩
  | .hbm, ⟨25, _⟩ => ⟨S8x2048x256, .f32⟩
  | .hbm, ⟨26, _⟩ => ⟨S8x2048x256, .bf16⟩
  | .hbm, ⟨27, _⟩ => ⟨S2048x4x256, .f32⟩
  | .hbm, ⟨28, _⟩ => ⟨S4x2048x256, .f32⟩
  | .hbm, ⟨29, _⟩ => ⟨S2048x4x256, .f32⟩
  | .hbm, ⟨30, _⟩ => ⟨S4x2048x256, .f32⟩
  | .hbm, ⟨31, _⟩ => ⟨S1x4x2048x256, .f32⟩
  | .hbm, ⟨32, _⟩ => ⟨S1x4x2048x256, .f32⟩
  | .hbm, ⟨33, _⟩ => ⟨S2x4x2048x256, .f32⟩
  | .hbm, ⟨34, _⟩ => ⟨S2x4x2048x256, .bf16⟩
  | .hbm, ⟨35, _⟩ => ⟨S8x2048x256, .f32⟩
  | .hbm, ⟨36, _⟩ => ⟨S2x4x2048x256, .f32⟩
  | .hbm, ⟨37, _⟩ => ⟨S2048x1024, .f32⟩
  | .hbm, ⟨38, _⟩ => ⟨S2048x1024, .f32⟩
  | .hbm, ⟨39, _⟩ => ⟨S1024x1024, .f32⟩
  | .hbm, ⟨40, _⟩ => ⟨S2x4x256x256, .f32⟩
  | .hbm, ⟨41, _⟩ => ⟨S8x1024x256, .f32⟩
  | .hbm, ⟨42, _⟩ => ⟨S2048x1024, .f32⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x1x256x256, .bf16⟩
  | .local _ .vmem, ⟨8, _⟩ => ⟨S1x1x256x256, .bf16⟩
  | .local _ .vmem, ⟨9, _⟩ => ⟨S1x1x2048x256, .f32⟩
  | .local _ .vmem, ⟨10, _⟩ => ⟨S1x1x2048x256, .f32⟩
  | .local _ .vmem, ⟨11, _⟩ => ⟨S2048x1024, .bf16⟩
  | .local _ .vmem, ⟨12, _⟩ => ⟨S1024x1024, .bf16⟩
  | .local _ .vmem, ⟨13, _⟩ => ⟨S2048x1024, .f32⟩
  | .local _ .vmem, ⟨14, _⟩ => ⟨S2048x1024, .bf16⟩
  | .local _ .vmem, ⟨15, _⟩ => ⟨S1024x1024, .bf16⟩
  | .local _ .vmem, ⟨16, _⟩ => ⟨S2048x1024, .f32⟩
  | .local _ .vmem, ⟨17, _⟩ => ⟨S2048x1024, .bf16⟩
  | .local _ .vmem, ⟨18, _⟩ => ⟨S2048x1024, .bf16⟩
  | .local _ .vmem, ⟨19, _⟩ => ⟨S1024x1024, .f32⟩
  | .local _ .vmem, ⟨20, _⟩ => ⟨S1x2048x256, .f32⟩
  | .local _ .vmem, ⟨21, _⟩ => ⟨S1x2048x256, .f32⟩
  | .local _ .vmem, ⟨22, _⟩ => ⟨S1x1x2048x256, .bf16⟩
  | .local _ .vmem, ⟨23, _⟩ => ⟨S1x1x2048x256, .bf16⟩
  | .local _ .vmem, ⟨24, _⟩ => ⟨S1x1x256x256, .f32⟩
  | .local _ .vmem, ⟨25, _⟩ => ⟨S1x1x256x256, .f32⟩
  | .local _ .vmem, ⟨26, _⟩ => ⟨S2048x1024, .bf16⟩
  | .local _ .vmem, ⟨27, _⟩ => ⟨S1x2048x256, .bf16⟩
  | .local _ .vmem, ⟨28, _⟩ => ⟨S1x2048x256, .bf16⟩
  | .local _ .vmem, ⟨29, _⟩ => ⟨S1x1024x256, .f32⟩
  | .local _ .vmem, ⟨30, _⟩ => ⟨S1x1024x256, .f32⟩
  | .local _ .vmem, ⟨31, _⟩ => ⟨S8x512x256, .bf16⟩
  | .local _ .vmem, ⟨32, _⟩ => ⟨S8x512x256, .bf16⟩
  | .local _ .vmem, ⟨33, _⟩ => ⟨S8x1024x256, .bf16⟩
  | .local _ .vmem, ⟨34, _⟩ => ⟨S512x1024, .f32⟩
  | .local _ .vmem, ⟨35, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc4_stg0_0 : Ref sig .tc := ⟨.vmem, 17, rfl⟩
abbrev cc4_stg1_0 : Ref sig .tc := ⟨.vmem, 18, rfl⟩
abbrev cc4_stg2_0 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc5_stg2_0 : Ref sig .tc := ⟨.vmem, 24, rfl⟩
abbrev cc5_stg2_1 : Ref sig .tc := ⟨.vmem, 25, rfl⟩
abbrev cc6_stg0_0 : Ref sig .tc := ⟨.vmem, 26, rfl⟩
abbrev cc6_stg1_0 : Ref sig .tc := ⟨.vmem, 27, rfl⟩
abbrev cc6_stg1_1 : Ref sig .tc := ⟨.vmem, 28, rfl⟩
abbrev cc6_stg2_0 : Ref sig .tc := ⟨.vmem, 29, rfl⟩
abbrev cc6_stg2_1 : Ref sig .tc := ⟨.vmem, 30, rfl⟩
abbrev cc7_stg0_0 : Ref sig .tc := ⟨.vmem, 31, rfl⟩
abbrev cc7_stg0_1 : Ref sig .tc := ⟨.vmem, 32, rfl⟩
abbrev cc7_stg1_0 : Ref sig .tc := ⟨.vmem, 33, rfl⟩
abbrev cc7_stg2_0 : Ref sig .tc := ⟨.vmem, 34, rfl⟩
abbrev cc7_stg2_1 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13
abbrev cc3_sem0_0 : DmaSem sig := 14
abbrev cc3_sem1_0 : DmaSem sig := 15
abbrev cc3_sem2_0 : DmaSem sig := 16
abbrev cc4_sem0_0 : DmaSem sig := 17
abbrev cc4_sem1_0 : DmaSem sig := 18
abbrev cc4_sem2_0 : DmaSem sig := 19
abbrev cc5_sem0_0 : DmaSem sig := 20
abbrev cc5_sem0_1 : DmaSem sig := 21
abbrev cc5_sem1_0 : DmaSem sig := 22
abbrev cc5_sem1_1 : DmaSem sig := 23
abbrev cc5_sem2_0 : DmaSem sig := 24
abbrev cc5_sem2_1 : DmaSem sig := 25
abbrev cc6_sem0_0 : DmaSem sig := 26
abbrev cc6_sem1_0 : DmaSem sig := 27
abbrev cc6_sem1_1 : DmaSem sig := 28
abbrev cc6_sem2_0 : DmaSem sig := 29
abbrev cc6_sem2_1 : DmaSem sig := 30
abbrev cc7_sem0_0 : DmaSem sig := 31
abbrev cc7_sem0_1 : DmaSem sig := 32
abbrev cc7_sem1_0 : DmaSem sig := 33
abbrev cc7_sem2_0 : DmaSem sig := 34
abbrev cc7_sem2_1 : DmaSem sig := 35

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨4, ![2, 4, 1, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true, false]

abbrev stage1_1 : Fin 2 → Memref sig .tc .vmem S1x1x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false, false]

abbrev stage1_2 : Fin 2 → Memref sig .tc .vmem S1x1x2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, false]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S2048x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev grid5 : Pipeline.Grid := ⟨3, ![2, 4, 1], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc5_transform_1 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc5_transform_2 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S1x1x2048x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, true]

abbrev stage5_2 : Fin 2 → Memref sig .tc .vmem S1x1x256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![8, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true]

abbrev stage6_1 : Fin 2 → Memref sig .tc .vmem S1x2048x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨1, ![4], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8x512x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S8x1024x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]
-- ==== Reference4Ideal.lean ====
abbrev S2048x1024 : Shape := ⟨2, ![2048, 1024]⟩
abbrev S1024x2048 : Shape := ⟨2, ![1024, 2048]⟩
abbrev S4x256x256 : Shape := ⟨3, ![4, 256, 256]⟩
abbrev S1024x1024 : Shape := ⟨2, ![1024, 1024]⟩
abbrev S2048x2048 : Shape := ⟨2, ![2048, 2048]⟩
abbrev S2048x4x256 : Shape := ⟨3, ![2048, 4, 256]⟩
abbrev S4x256x2048 : Shape := ⟨3, ![4, 256, 2048]⟩
abbrev S2048x8x256 : Shape := ⟨3, ![2048, 8, 256]⟩
abbrev S8x2048x256 : Shape := ⟨3, ![8, 2048, 256]⟩
abbrev S4x2048x256 : Shape := ⟨3, ![4, 2048, 256]⟩
abbrev S1x4x2048x256 : Shape := ⟨4, ![1, 4, 2048, 256]⟩
abbrev S2x4x2048x256 : Shape := ⟨4, ![2, 4, 2048, 256]⟩
abbrev S1x4x256x256 : Shape := ⟨4, ![1, 4, 256, 256]⟩
abbrev S2x4x256x256 : Shape := ⟨4, ![2, 4, 256, 256]⟩
abbrev S1024x8x256 : Shape := ⟨3, ![1024, 8, 256]⟩
abbrev S8x1024x256 : Shape := ⟨3, ![8, 1024, 256]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .f32⟩
  | .hbm, ⟨3, _⟩ => ⟨S4x256x256, .f32⟩
  | .hbm, ⟨4, _⟩ => ⟨S4x256x256, .f32⟩
  | .hbm, ⟨5, _⟩ => ⟨S2048x1024, .f32⟩
  | .hbm, ⟨6, _⟩ => ⟨S1024x1024, .f32⟩
  | .hbm, ⟨7, _⟩ => ⟨S2048x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x1024, .f32⟩
  | .hbm, ⟨13, _⟩ => ⟨S1024x2048, .f32⟩
  | .hbm, ⟨14, _⟩ => ⟨S2048x1024, .f32⟩
  | .hbm, ⟨15, _⟩ => ⟨S2048x4x256, .f32⟩
  | .hbm, ⟨16, _⟩ => ⟨S4x256x2048, .f32⟩
  | .hbm, ⟨17, _⟩ => ⟨S2048x4x256, .f32⟩
  | .hbm, ⟨18, _⟩ => ⟨S4x256x2048, .f32⟩
  | .hbm, ⟨19, _⟩ => ⟨S2048x4x256, .f32⟩
  | .hbm, ⟨20, _⟩ => ⟨S2048x4x256, .f32⟩
  | .hbm, ⟨21, _⟩ => ⟨S2048x4x256, .f32⟩
  | .hbm, ⟨22, _⟩ => ⟨S4x256x2048, .f32⟩
  | .hbm, ⟨23, _⟩ => ⟨S4x256x256, .f32⟩
  | .hbm, ⟨24, _⟩ => ⟨S4x256x256, .f32⟩
  | .hbm, ⟨25, _⟩ => ⟨S4x256x2048, .f32⟩
  | .hbm, ⟨26, _⟩ => ⟨S4x256x256, .f32⟩
  | .hbm, ⟨27, _⟩ => ⟨S4x256x256, .f32⟩
  | .hbm, ⟨28, _⟩ => ⟨S2048x1024, .f32⟩
  | .hbm, ⟨29, _⟩ => ⟨S1024x1024, .f32⟩
  | .hbm, ⟨30, _⟩ => ⟨S1024x1024, .f32⟩
  | .hbm, ⟨31, _⟩ => ⟨S2048x1024, .f32⟩
  | .hbm, ⟨32, _⟩ => ⟨S2048x8x256, .f32⟩
  | .hbm, ⟨33, _⟩ => ⟨S8x2048x256, .f32⟩
  | .hbm, ⟨34, _⟩ => ⟨S4x2048x256, .f32⟩
  | .hbm, ⟨35, _⟩ => ⟨S4x2048x256, .f32⟩
  | .hbm, ⟨36, _⟩ => ⟨S1x4x2048x256, .f32⟩
  | .hbm, ⟨37, _⟩ => ⟨S1x4x2048x256, .f32⟩
  | .hbm, ⟨38, _⟩ => ⟨S2x4x2048x256, .f32⟩
  | .hbm, ⟨39, _⟩ => ⟨S1x4x256x256, .f32⟩
  | .hbm, ⟨40, _⟩ => ⟨S1x4x256x256, .f32⟩
  | .hbm, ⟨41, _⟩ => ⟨S2x4x256x256, .f32⟩
  | .hbm, ⟨42, _⟩ => ⟨S1024x8x256, .f32⟩
  | .hbm, ⟨43, _⟩ => ⟨S8x1024x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel5.lean ====
abbrev S2048x1024 : Shape := ⟨2, ![2048, 1024]⟩
abbrev S1024x3080 : Shape := ⟨2, ![1024, 3080]⟩
abbrev S1024x1024 : Shape := ⟨2, ![1024, 1024]⟩
abbrev S2048x3080 : Shape := ⟨2, ![2048, 3080]⟩
abbrev S3080x1024 : Shape := ⟨2, ![3080, 1024]⟩
abbrev S1536x1024 : Shape := ⟨2, ![1536, 1024]⟩
abbrev S8x1024 : Shape := ⟨2, ![8, 1024]⟩
abbrev S_ : Shape := ⟨0, ![]⟩
abbrev S120x1024 : Shape := ⟨2, ![120, 1024]⟩
abbrev S3200x1024 : Shape := ⟨2, ![3200, 1024]⟩
abbrev S3080x2048 : Shape := ⟨2, ![3080, 2048]⟩
abbrev S1536x2048 : Shape := ⟨2, ![1536, 2048]⟩
abbrev S8x2048 : Shape := ⟨2, ![8, 2048]⟩
abbrev S120x2048 : Shape := ⟨2, ![120, 2048]⟩
abbrev S3200x2048 : Shape := ⟨2, ![3200, 2048]⟩
abbrev S2048x3200 : Shape := ⟨2, ![2048, 3200]⟩
abbrev S640x1024 : Shape := ⟨2, ![640, 1024]⟩
abbrev S2048x640 : Shape := ⟨2, ![2048, 640]⟩
abbrev S1024x3200 : Shape := ⟨2, ![1024, 3200]⟩

abbrev nBuf : Space → Nat
  | .hbm => 33
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S1024x3080, .f32⟩
  | .hbm, ⟨2, _⟩ => ⟨S2048x1024, .f32⟩
  | .hbm, ⟨3, _⟩ => ⟨S1024x1024, .f32⟩
  | .hbm, ⟨4, _⟩ => ⟨S2048x3080, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S1024x1024, .bf16⟩
  | .hbm, ⟨10, _⟩ => ⟨S3080x1024, .f32⟩
  | .hbm, ⟨11, _⟩ => ⟨S3080x1024, .bf16⟩
  | .hbm, ⟨12, _⟩ => ⟨S1536x1024, .bf16⟩
  | .hbm, ⟨13, _⟩ => ⟨S1536x1024, .bf16⟩
  | .hbm, ⟨14, _⟩ => ⟨S8x1024, .bf16⟩
  | .hbm, ⟨15, _⟩ => ⟨S_, .bf16⟩
  | .hbm, ⟨16, _⟩ => ⟨S120x1024, .bf16⟩
  | .hbm, ⟨17, _⟩ => ⟨S3200x1024, .bf16⟩
  | .hbm, ⟨18, _⟩ => ⟨S3080x2048, .f32⟩
  | .hbm, ⟨19, _⟩ => ⟨S1536x2048, .f32⟩
  | .hbm, ⟨20, _⟩ => ⟨S1536x2048, .f32⟩
  | .hbm, ⟨21, _⟩ => ⟨S8x2048, .f32⟩
  | .hbm, ⟨22, _⟩ => ⟨S_, .f32⟩
  | .hbm, ⟨23, _⟩ => ⟨S120x2048, .f32⟩
  | .hbm, ⟨24, _⟩ => ⟨S3200x2048, .f32⟩
  | .hbm, ⟨25, _⟩ => ⟨S2048x3200, .f32⟩
  | .hbm, ⟨26, _⟩ => ⟨S2048x3200, .bf16⟩
  | .hbm, ⟨27, _⟩ => ⟨S2048x3200, .f32⟩
  | .hbm, ⟨28, _⟩ => ⟨S2048x1024, .f32⟩
  | .hbm, ⟨29, _⟩ => ⟨S2048x1024, .f32⟩
  | .hbm, ⟨30, _⟩ => ⟨S1024x1024, .f32⟩
  | .hbm, ⟨31, _⟩ => ⟨S3200x1024, .f32⟩
  | .hbm, ⟨32, _⟩ => ⟨S2048x1024, .f32⟩
  | .local _ .vmem, ⟨0, _⟩ => ⟨S2048x1024, .bf16⟩
  | .local _ .vmem, ⟨1, _⟩ => ⟨S640x1024, .bf16⟩
  | .local _ .vmem, ⟨2, _⟩ => ⟨S640x1024, .bf16⟩
  | .local _ .vmem, ⟨3, _⟩ => ⟨S2048x640, .f32⟩
  | .local _ .vmem, ⟨4, _⟩ => ⟨S2048x640, .f32⟩
  | .local _ .vmem, ⟨5, _⟩ => ⟨S2048x1024, .bf16⟩
  | .local _ .vmem, ⟨6, _⟩ => ⟨S1024x1024, .bf16⟩
  | .local _ .vmem, ⟨7, _⟩ => ⟨S2048x1024, .f32⟩
  | .local _ .vmem, ⟨8, _⟩ => ⟨S2048x1024, .bf16⟩
  | .local _ .vmem, ⟨9, _⟩ => ⟨S1024x1024, .bf16⟩
  | .local _ .vmem, ⟨10, _⟩ => ⟨S2048x1024, .f32⟩
  | .local _ .vmem, ⟨11, _⟩ => ⟨S2048x1024, .bf16⟩
  | .local _ .vmem, ⟨12, _⟩ => ⟨S2048x1024, .bf16⟩
  | .local _ .vmem, ⟨13, _⟩ => ⟨S1024x1024, .f32⟩
  | .local _ .vmem, ⟨14, _⟩ => ⟨S2048x640, .bf16⟩
  | .local _ .vmem, ⟨15, _⟩ => ⟨S2048x640, .bf16⟩
  | .local _ .vmem, ⟨16, _⟩ => ⟨S2048x1024, .bf16⟩
  | .local _ .vmem, ⟨17, _⟩ => ⟨S640x1024, .f32⟩
  | .local _ .vmem, ⟨18, _⟩ => ⟨S640x1024, .f32⟩
  | .local _ .vmem, ⟨19, _⟩ => ⟨S1024x3200, .bf16⟩
  | .local _ .vmem, ⟨20, _⟩ => ⟨S1024x3200, .bf16⟩
  | .local _ .vmem, ⟨21, _⟩ => ⟨S3200x1024, .bf16⟩
  | .local _ .vmem, ⟨22, _⟩ => ⟨S1024x1024, .f32⟩
  | .local _ .vmem, ⟨23, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg1_0 : Ref sig .tc := ⟨.vmem, 12, rfl⟩
abbrev cc3_stg2_0 : Ref sig .tc := ⟨.vmem, 13, rfl⟩
abbrev cc4_stg0_0 : Ref sig .tc := ⟨.vmem, 14, rfl⟩
abbrev cc4_stg0_1 : Ref sig .tc := ⟨.vmem, 15, rfl⟩
abbrev cc4_stg1_0 : Ref sig .tc := ⟨.vmem, 16, rfl⟩
abbrev cc4_stg2_0 : Ref sig .tc := ⟨.vmem, 17, rfl⟩
abbrev cc4_stg2_1 : Ref sig .tc := ⟨.vmem, 18, rfl⟩
abbrev cc5_stg0_0 : Ref sig .tc := ⟨.vmem, 19, rfl⟩
abbrev cc5_stg0_1 : Ref sig .tc := ⟨.vmem, 20, rfl⟩
abbrev cc5_stg1_0 : Ref sig .tc := ⟨.vmem, 21, rfl⟩
abbrev cc5_stg2_0 : Ref sig .tc := ⟨.vmem, 22, rfl⟩
abbrev cc5_stg2_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem1_0 : DmaSem sig := 12
abbrev cc3_sem2_0 : DmaSem sig := 13
abbrev cc4_sem0_0 : DmaSem sig := 14
abbrev cc4_sem0_1 : DmaSem sig := 15
abbrev cc4_sem1_0 : DmaSem sig := 16
abbrev cc4_sem2_0 : DmaSem sig := 17
abbrev cc4_sem2_1 : DmaSem sig := 18
abbrev cc5_sem0_0 : DmaSem sig := 19
abbrev cc5_sem0_1 : DmaSem sig := 20
abbrev cc5_sem1_0 : DmaSem sig := 21
abbrev cc5_sem2_0 : DmaSem sig := 22
abbrev cc5_sem2_1 : DmaSem sig := 23

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, false]

abbrev stage1_2 : Fin 1 → Memref sig .tc .vmem S2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨2, ![5, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x640 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S640x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x3200 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, false]

abbrev stage5_1 : Fin 1 → Memref sig .tc .vmem S3200x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, false]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference5Ideal.lean ====
abbrev S2048x1024 : Shape := ⟨2, ![2048, 1024]⟩
abbrev S1024x3080 : Shape := ⟨2, ![1024, 3080]⟩
abbrev S1024x1024 : Shape := ⟨2, ![1024, 1024]⟩
abbrev S2048x3080 : Shape := ⟨2, ![2048, 3080]⟩
abbrev S3080x1024 : Shape := ⟨2, ![3080, 1024]⟩
abbrev S3080x2048 : Shape := ⟨2, ![3080, 2048]⟩
abbrev S1536x2048 : Shape := ⟨2, ![1536, 2048]⟩
abbrev S8x2048 : Shape := ⟨2, ![8, 2048]⟩
abbrev S_ : Shape := ⟨0, ![]⟩
abbrev S120x2048 : Shape := ⟨2, ![120, 2048]⟩
abbrev S3200x2048 : Shape := ⟨2, ![3200, 2048]⟩
abbrev S2048x3200 : Shape := ⟨2, ![2048, 3200]⟩
abbrev S1536x1024 : Shape := ⟨2, ![1536, 1024]⟩
abbrev S8x1024 : Shape := ⟨2, ![8, 1024]⟩
abbrev S120x1024 : Shape := ⟨2, ![120, 1024]⟩
abbrev S3200x1024 : Shape := ⟨2, ![3200, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3080, .f32⟩
  | .hbm, ⟨2, _⟩ => ⟨S2048x1024, .f32⟩
  | .hbm, ⟨3, _⟩ => ⟨S1024x1024, .f32⟩
  | .hbm, ⟨4, _⟩ => ⟨S2048x3080, .f32⟩
  | .hbm, ⟨5, _⟩ => ⟨S2048x1024, .f32⟩
  | .hbm, ⟨6, _⟩ => ⟨S2048x3080, .f32⟩
  | .hbm, ⟨7, _⟩ => ⟨S3080x1024, .f32⟩
  | .hbm, ⟨8, _⟩ => ⟨S1024x3080, .f32⟩
  | .hbm, ⟨9, _⟩ => ⟨S2048x1024, .f32⟩
  | .hbm, ⟨10, _⟩ => ⟨S2048x1024, .f32⟩
  | .hbm, ⟨11, _⟩ => ⟨S1024x1024, .f32⟩
  | .hbm, ⟨12, _⟩ => ⟨S1024x1024, .f32⟩
  | .hbm, ⟨13, _⟩ => ⟨S2048x1024, .f32⟩
  | .hbm, ⟨14, _⟩ => ⟨S3080x2048, .f32⟩
  | .hbm, ⟨15, _⟩ => ⟨S1536x2048, .f32⟩
  | .hbm, ⟨16, _⟩ => ⟨S1536x2048, .f32⟩
  | .hbm, ⟨17, _⟩ => ⟨S8x2048, .f32⟩
  | .hbm, ⟨18, _⟩ => ⟨S_, .f32⟩
  | .hbm, ⟨19, _⟩ => ⟨S120x2048, .f32⟩
  | .hbm, ⟨20, _⟩ => ⟨S3200x2048, .f32⟩
  | .hbm, ⟨21, _⟩ => ⟨S2048x3200, .f32⟩
  | .hbm, ⟨22, _⟩ => ⟨S3080x1024, .f32⟩
  | .hbm, ⟨23, _⟩ => ⟨S1536x1024, .f32⟩
  | .hbm, ⟨24, _⟩ => ⟨S1536x1024, .f32⟩
  | .hbm, ⟨25, _⟩ => ⟨S8x1024, .f32⟩
  | .hbm, ⟨26, _⟩ => ⟨S_, .f32⟩
  | .hbm, ⟨27, _⟩ => ⟨S120x1024, .f32⟩
  | .hbm, ⟨28, _⟩ => ⟨S3200x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel6.lean ====
abbrev S512x1024 : Shape := ⟨2, ![512, 1024]⟩
abbrev S4096x256 : Shape := ⟨2, ![4096, 256]⟩
abbrev S2816x1024 : Shape := ⟨2, ![2816, 1024]⟩
abbrev S1408x1024 : Shape := ⟨2, ![1408, 1024]⟩
abbrev S770x1024 : Shape := ⟨2, ![770, 1024]⟩
abbrev S256x1024 : Shape := ⟨2, ![256, 1024]⟩
abbrev S2048x256 : Shape := ⟨2, ![2048, 256]⟩
abbrev S256x256 : Shape := ⟨2, ![256, 256]⟩
abbrev S248x128 : Shape := ⟨2, ![248, 128]⟩
abbrev S128x1024 : Shape := ⟨2, ![128, 1024]⟩
abbrev S8x128 : Shape := ⟨2, ![8, 128]⟩

abbrev nBuf : Space → Nat
  | .hbm => 63
  | .vmem => 105
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S770x1024, .f32⟩
  | .hbm, ⟨17, _⟩ => ⟨S770x1024, .f32⟩
  | .hbm, ⟨18, _⟩ => ⟨S770x1024, .f32⟩
  | .hbm, ⟨19, _⟩ => ⟨S770x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S248x128, .f32⟩
  | .hbm, ⟨33, _⟩ => ⟨S248x128, .f32⟩
  | .hbm, ⟨34, _⟩ => ⟨S248x128, .f32⟩
  | .hbm, ⟨35, _⟩ => ⟨S248x128, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S2816x1024, .f32⟩
  | .hbm, ⟨43, _⟩ => ⟨S2816x1024, .f32⟩
  | .hbm, ⟨44, _⟩ => ⟨S2816x1024, .f32⟩
  | .hbm, ⟨45, _⟩ => ⟨S1408x1024, .f32⟩
  | .hbm, ⟨46, _⟩ => ⟨S1408x1024, .f32⟩
  | .hbm, ⟨47, _⟩ => ⟨S1408x1024, .f32⟩
  | .hbm, ⟨48, _⟩ => ⟨S770x1024, .f32⟩
  | .hbm, ⟨49, _⟩ => ⟨S770x1024, .f32⟩
  | .hbm, ⟨50, _⟩ => ⟨S770x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S248x128, .f32⟩
  | .hbm, ⟨61, _⟩ => ⟨S248x128, .f32⟩
  | .hbm, ⟨62, _⟩ => ⟨S248x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | .local _ .vmem, ⟨48, _⟩ => ⟨S128x1024, .f32⟩
  | .local _ .vmem, ⟨49, _⟩ => ⟨S128x1024, .f32⟩
  | .local _ .vmem, ⟨50, _⟩ => ⟨S128x1024, .f32⟩
  | .local _ .vmem, ⟨51, _⟩ => ⟨S128x1024, .f32⟩
  | .local _ .vmem, ⟨52, _⟩ => ⟨S128x1024, .f32⟩
  | .local _ .vmem, ⟨53, _⟩ => ⟨S128x1024, .f32⟩
  | .local _ .vmem, ⟨54, _⟩ => ⟨S128x1024, .f32⟩
  | .local _ .vmem, ⟨55, _⟩ => ⟨S128x1024, .f32⟩
  | .local _ .vmem, ⟨56, _⟩ => ⟨S770x1024, .f32⟩
  | .local _ .vmem, ⟨57, _⟩ => ⟨S770x1024, .f32⟩
  | .local _ .vmem, ⟨58, _⟩ => ⟨S770x1024, .f32⟩
  | .local _ .vmem, ⟨59, _⟩ => ⟨S770x1024, .f32⟩
  | .local _ .vmem, ⟨60, _⟩ => ⟨S770x1024, .f32⟩
  | .local _ .vmem, ⟨61, _⟩ => ⟨S770x1024, .f32⟩
  | .local _ .vmem, ⟨62, _⟩ => ⟨S770x1024, .f32⟩
  | .local _ .vmem, ⟨63, _⟩ => ⟨S256x1024, .f32⟩
  | .local _ .vmem, ⟨64, _⟩ => ⟨S256x1024, .f32⟩
  | .local _ .vmem, ⟨65, _⟩ => ⟨S256x1024, .f32⟩
  | .local _ .vmem, ⟨66, _⟩ => ⟨S256x1024, .f32⟩
  | .local _ .vmem, ⟨67, _⟩ => ⟨S256x1024, .f32⟩
  | .local _ .vmem, ⟨68, _⟩ => ⟨S256x1024, .f32⟩
  | .local _ .vmem, ⟨69, _⟩ => ⟨S256x1024, .f32⟩
  | .local _ .vmem, ⟨70, _⟩ => ⟨S256x256, .f32⟩
  | .local _ .vmem, ⟨71, _⟩ => ⟨S256x256, .f32⟩
  | .local _ .vmem, ⟨72, _⟩ => ⟨S256x256, .f32⟩
  | .local _ .vmem, ⟨73, _⟩ => ⟨S256x256, .f32⟩
  | .local _ .vmem, ⟨74, _⟩ => ⟨S256x256, .f32⟩
  | .local _ .vmem, ⟨75, _⟩ => ⟨S256x256, .f32⟩
  | .local _ .vmem, ⟨76, _⟩ => ⟨S256x256, .f32⟩
  | .local _ .vmem, ⟨77, _⟩ => ⟨S256x256, .f32⟩
  | .local _ .vmem, ⟨78, _⟩ => ⟨S256x256, .f32⟩
  | .local _ .vmem, ⟨79, _⟩ => ⟨S256x256, .f32⟩
  | .local _ .vmem, ⟨80, _⟩ => ⟨S256x256, .f32⟩
  | .local _ .vmem, ⟨81, _⟩ => ⟨S256x256, .f32⟩
  | .local _ .vmem, ⟨82, _⟩ => ⟨S256x256, .f32⟩
  | .local _ .vmem, ⟨83, _⟩ => ⟨S256x256, .f32⟩
  | .local _ .vmem, ⟨84, _⟩ => ⟨S256x256, .f32⟩
  | .local _ .vmem, ⟨85, _⟩ => ⟨S256x256, .f32⟩
  | .local _ .vmem, ⟨86, _⟩ => ⟨S256x256, .f32⟩
  | .local _ .vmem, ⟨87, _⟩ => ⟨S256x256, .f32⟩
  | .local _ .vmem, ⟨88, _⟩ => ⟨S256x256, .f32⟩
  | .local _ .vmem, ⟨89, _⟩ => ⟨S256x256, .f32⟩
  | .local _ .vmem, ⟨90, _⟩ => ⟨S256x256, .f32⟩
  | .local _ .vmem, ⟨91, _⟩ => ⟨S8x128, .f32⟩
  | .local _ .vmem, ⟨92, _⟩ => ⟨S8x128, .f32⟩
  | .local _ .vmem, ⟨93, _⟩ => ⟨S8x128, .f32⟩
  | .local _ .vmem, ⟨94, _⟩ => ⟨S8x128, .f32⟩
  | .local _ .vmem, ⟨95, _⟩ => ⟨S8x128, .f32⟩
  | .local _ .vmem, ⟨96, _⟩ => ⟨S8x128, .f32⟩
  | .local _ .vmem, ⟨97, _⟩ => ⟨S8x128, .f32⟩
  | .local _ .vmem, ⟨98, _⟩ => ⟨S8x128, .f32⟩
  | .local _ .vmem, ⟨99, _⟩ => ⟨S8x128, .f32⟩
  | .local _ .vmem, ⟨100, _⟩ => ⟨S8x128, .f32⟩
  | .local _ .vmem, ⟨101, _⟩ => ⟨S8x128, .f32⟩
  | .local _ .vmem, ⟨102, _⟩ => ⟨S8x128, .f32⟩
  | .local _ .vmem, ⟨103, _⟩ => ⟨S8x128, .f32⟩
  | .local _ .vmem, ⟨104, _⟩ => ⟨S8x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0_0 : Ref sig .tc := ⟨.hbm, 36, rfl⟩
abbrev main_v0_1 : Ref sig .tc := ⟨.hbm, 37, rfl⟩
abbrev main_v0_2 : Ref sig .tc := ⟨.hbm, 38, rfl⟩
abbrev main_v1_0 : Ref sig .tc := ⟨.hbm, 39, rfl⟩
abbrev main_v1_1 : Ref sig .tc := ⟨.hbm, 40, rfl⟩
abbrev main_v1_2 : Ref sig .tc := ⟨.hbm, 41, rfl⟩
abbrev main_v2_0 : Ref sig .tc := ⟨.hbm, 42, rfl⟩
abbrev main_v2_1 : Ref sig .tc := ⟨.hbm, 43, rfl⟩
abbrev main_v2_2 : Ref sig .tc := ⟨.hbm, 44, rfl⟩
abbrev main_v3_0 : Ref sig .tc := ⟨.hbm, 45, rfl⟩
abbrev main_v3_1 : Ref sig .tc := ⟨.hbm, 46, rfl⟩
abbrev main_v3_2 : Ref sig .tc := ⟨.hbm, 47, rfl⟩
abbrev main_v4_0 : Ref sig .tc := ⟨.hbm, 48, rfl⟩
abbrev main_v4_1 : Ref sig .tc := ⟨.hbm, 49, rfl⟩
abbrev main_v4_2 : Ref sig .tc := ⟨.hbm, 50, rfl⟩
abbrev main_v5_0 : Ref sig .tc := ⟨.hbm, 51, rfl⟩
abbrev main_v5_1 : Ref sig .tc := ⟨.hbm, 52, rfl⟩
abbrev main_v5_2 : Ref sig .tc := ⟨.hbm, 53, rfl⟩
abbrev main_v6_0 : Ref sig .tc := ⟨.hbm, 54, rfl⟩
abbrev main_v6_1 : Ref sig .tc := ⟨.hbm, 55, rfl⟩
abbrev main_v6_2 : Ref sig .tc := ⟨.hbm, 56, rfl⟩
abbrev main_v7_0 : Ref sig .tc := ⟨.hbm, 57, rfl⟩
abbrev main_v7_1 : Ref sig .tc := ⟨.hbm, 58, rfl⟩
abbrev main_v7_2 : Ref sig .tc := ⟨.hbm, 59, rfl⟩
abbrev main_v8_0 : Ref sig .tc := ⟨.hbm, 60, rfl⟩
abbrev main_v8_1 : Ref sig .tc := ⟨.hbm, 61, rfl⟩
abbrev main_v8_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc4_stg0_0 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc5_stg0_0 : Ref sig .tc := ⟨.vmem, 63, rfl⟩
abbrev cc5_stg1_0 : Ref sig .tc := ⟨.vmem, 64, rfl⟩
abbrev cc5_stg2_0 : Ref sig .tc := ⟨.vmem, 65, rfl⟩
abbrev cc5_stg3_0 : Ref sig .tc := ⟨.vmem, 66, rfl⟩
abbrev cc5_stg4_0 : Ref sig .tc := ⟨.vmem, 67, rfl⟩
abbrev cc5_stg5_0 : Ref sig .tc := ⟨.vmem, 68, rfl⟩
abbrev cc5_stg6_0 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg1_1 : Ref sig .tc := ⟨.vmem, 73, rfl⟩
abbrev cc6_stg2_0 : Ref sig .tc := ⟨.vmem, 74, rfl⟩
abbrev cc6_stg2_1 : Ref sig .tc := ⟨.vmem, 75, rfl⟩
abbrev cc6_stg3_0 : Ref sig .tc := ⟨.vmem, 76, rfl⟩
abbrev cc6_stg3_1 : Ref sig .tc := ⟨.vmem, 77, rfl⟩
abbrev cc6_stg4_0 : Ref sig .tc := ⟨.vmem, 78, rfl⟩
abbrev cc6_stg4_1 : Ref sig .tc := ⟨.vmem, 79, rfl⟩
abbrev cc6_stg5_0 : Ref sig .tc := ⟨.vmem, 80, rfl⟩
abbrev cc6_stg5_1 : Ref sig .tc := ⟨.vmem, 81, rfl⟩
abbrev cc6_stg6_0 : Ref sig .tc := ⟨.vmem, 82, rfl⟩
abbrev cc6_stg6_1 : Ref sig .tc := ⟨.vmem, 83, rfl⟩
abbrev cc7_stg0_0 : Ref sig .tc := ⟨.vmem, 84, rfl⟩
abbrev cc7_stg1_0 : Ref sig .tc := ⟨.vmem, 85, rfl⟩
abbrev cc7_stg2_0 : Ref sig .tc := ⟨.vmem, 86, rfl⟩
abbrev cc7_stg3_0 : Ref sig .tc := ⟨.vmem, 87, rfl⟩
abbrev cc7_stg4_0 : Ref sig .tc := ⟨.vmem, 88, rfl⟩
abbrev cc7_stg5_0 : Ref sig .tc := ⟨.vmem, 89, rfl⟩
abbrev cc7_stg6_0 : Ref sig .tc := ⟨.vmem, 90, rfl⟩
abbrev cc8_stg0_0 : Ref sig .tc := ⟨.vmem, 91, rfl⟩
abbrev cc8_stg0_1 : Ref sig .tc := ⟨.vmem, 92, rfl⟩
abbrev cc8_stg1_0 : Ref sig .tc := ⟨.vmem, 93, rfl⟩
abbrev cc8_stg1_1 : Ref sig .tc := ⟨.vmem, 94, rfl⟩
abbrev cc8_stg2_0 : Ref sig .tc := ⟨.vmem, 95, rfl⟩
abbrev cc8_stg2_1 : Ref sig .tc := ⟨.vmem, 96, rfl⟩
abbrev cc8_stg3_0 : Ref sig .tc := ⟨.vmem, 97, rfl⟩
abbrev cc8_stg3_1 : Ref sig .tc := ⟨.vmem, 98, rfl⟩
abbrev cc8_stg4_0 : Ref sig .tc := ⟨.vmem, 99, rfl⟩
abbrev cc8_stg4_1 : Ref sig .tc := ⟨.vmem, 100, rfl⟩
abbrev cc8_stg5_0 : Ref sig .tc := ⟨.vmem, 101, rfl⟩
abbrev cc8_stg5_1 : Ref sig .tc := ⟨.vmem, 102, rfl⟩
abbrev cc8_stg6_0 : Ref sig .tc := ⟨.vmem, 103, rfl⟩
abbrev cc8_stg6_1 : Ref sig .tc := ⟨.vmem, 104, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55
abbrev cc4_sem0_0 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc5_sem0_0 : DmaSem sig := 63
abbrev cc5_sem1_0 : DmaSem sig := 64
abbrev cc5_sem2_0 : DmaSem sig := 65
abbrev cc5_sem3_0 : DmaSem sig := 66
abbrev cc5_sem4_0 : DmaSem sig := 67
abbrev cc5_sem5_0 : DmaSem sig := 68
abbrev cc5_sem6_0 : DmaSem sig := 69
abbrev cc6_sem0_0 : DmaSem sig := 70
abbrev cc6_sem0_1 : DmaSem sig := 71
abbrev cc6_sem1_0 : DmaSem sig := 72
abbrev cc6_sem1_1 : DmaSem sig := 73
abbrev cc6_sem2_0 : DmaSem sig := 74
abbrev cc6_sem2_1 : DmaSem sig := 75
abbrev cc6_sem3_0 : DmaSem sig := 76
abbrev cc6_sem3_1 : DmaSem sig := 77
abbrev cc6_sem4_0 : DmaSem sig := 78
abbrev cc6_sem4_1 : DmaSem sig := 79
abbrev cc6_sem5_0 : DmaSem sig := 80
abbrev cc6_sem5_1 : DmaSem sig := 81
abbrev cc6_sem6_0 : DmaSem sig := 82
abbrev cc6_sem6_1 : DmaSem sig := 83
abbrev cc7_sem0_0 : DmaSem sig := 84
abbrev cc7_sem1_0 : DmaSem sig := 85
abbrev cc7_sem2_0 : DmaSem sig := 86
abbrev cc7_sem3_0 : DmaSem sig := 87
abbrev cc7_sem4_0 : DmaSem sig := 88
abbrev cc7_sem5_0 : DmaSem sig := 89
abbrev cc7_sem6_0 : DmaSem sig := 90
abbrev cc8_sem0_0 : DmaSem sig := 91
abbrev cc8_sem0_1 : DmaSem sig := 92
abbrev cc8_sem1_0 : DmaSem sig := 93
abbrev cc8_sem1_1 : DmaSem sig := 94
abbrev cc8_sem2_0 : DmaSem sig := 95
abbrev cc8_sem2_1 : DmaSem sig := 96
abbrev cc8_sem3_0 : DmaSem sig := 97
abbrev cc8_sem3_1 : DmaSem sig := 98
abbrev cc8_sem4_0 : DmaSem sig := 99
abbrev cc8_sem4_1 : DmaSem sig := 100
abbrev cc8_sem5_0 : DmaSem sig := 101
abbrev cc8_sem5_1 : DmaSem sig := 102
abbrev cc8_sem6_0 : DmaSem sig := 103
abbrev cc8_sem6_1 : DmaSem sig := 104

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![11], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S770x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S770x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S770x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S770x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S770x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S770x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S770x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S256x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S256x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S256x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S256x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S256x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S256x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S256x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S256x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S256x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S256x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev stage7_6 : Fin 1 → Memref sig .tc .vmem S256x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]

abbrev grid8 : Pipeline.Grid := ⟨1, ![31], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S8x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S8x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S8x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S8x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]
-- ==== Reference6Ideal.lean ====
abbrev S512x1024 : Shape := ⟨2, ![512, 1024]⟩
abbrev S4096x256 : Shape := ⟨2, ![4096, 256]⟩
abbrev S2816x1024 : Shape := ⟨2, ![2816, 1024]⟩
abbrev S1408x1024 : Shape := ⟨2, ![1408, 1024]⟩
abbrev S770x1024 : Shape := ⟨2, ![770, 1024]⟩
abbrev S256x1024 : Shape := ⟨2, ![256, 1024]⟩
abbrev S2048x256 : Shape := ⟨2, ![2048, 256]⟩
abbrev S256x256 : Shape := ⟨2, ![256, 256]⟩
abbrev S248x128 : Shape := ⟨2, ![248, 128]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S512x1024, .f32⟩
  | 1 => ⟨S512x1024, .f32⟩
  | 2 => ⟨S512x1024, .f32⟩
  | 3 => ⟨S512x1024, .f32⟩
  | 4 => ⟨S4096x256, .f32⟩
  | 5 => ⟨S4096x256, .f32⟩
  | 6 => ⟨S4096x256, .f32⟩
  | 7 => ⟨S4096x256, .f32⟩
  | 8 => ⟨S2816x1024, .f32⟩
  | 9 => ⟨S2816x1024, .f32⟩
  | 10 => ⟨S2816x1024, .f32⟩
  | 11 => ⟨S2816x1024, .f32⟩
  | 12 => ⟨S1408x1024, .f32⟩
  | 13 => ⟨S1408x1024, .f32⟩
  | 14 => ⟨S1408x1024, .f32⟩
  | 15 => ⟨S1408x1024, .f32⟩
  | 16 => ⟨S770x1024, .f32⟩
  | 17 => ⟨S770x1024, .f32⟩
  | 18 => ⟨S770x1024, .f32⟩
  | 19 => ⟨S770x1024, .f32⟩
  | 20 => ⟨S256x1024, .f32⟩
  | 21 => ⟨S256x1024, .f32⟩
  | 22 => ⟨S256x1024, .f32⟩
  | 23 => ⟨S256x1024, .f32⟩
  | 24 => ⟨S2048x256, .f32⟩
  | 25 => ⟨S2048x256, .f32⟩
  | 26 => ⟨S2048x256, .f32⟩
  | 27 => ⟨S2048x256, .f32⟩
  | 28 => ⟨S256x256, .f32⟩
  | 29 => ⟨S256x256, .f32⟩
  | 30 => ⟨S256x256, .f32⟩
  | 31 => ⟨S256x256, .f32⟩
  | 32 => ⟨S248x128, .f32⟩
  | 33 => ⟨S248x128, .f32⟩
  | 34 => ⟨S248x128, .f32⟩
  | 35 => ⟨S248x128, .f32⟩
  | 36 => ⟨S_, .f32⟩
  | 37 => ⟨S512x1024, .f32⟩
  | 38 => ⟨S512x1024, .f32⟩
  | 39 => ⟨S_, .f32⟩
  | 40 => ⟨S512x1024, .f32⟩
  | 41 => ⟨S512x1024, .f32⟩
  | 42 => ⟨S512x1024, .f32⟩
  | 43 => ⟨S_, .f32⟩
  | 44 => ⟨S512x1024, .f32⟩
  | 45 => ⟨S512x1024, .f32⟩
  | 46 => ⟨S512x1024, .f32⟩
  | 47 => ⟨S_, .f32⟩
  | 48 => ⟨S512x1024, .f32⟩
  | 49 => ⟨S512x1024, .f32⟩
  | 50 => ⟨S512x1024, .f32⟩
  | 51 => ⟨S_, .f32⟩
  | 52 => ⟨S512x1024, .f32⟩
  | 53 => ⟨S512x1024, .f32⟩
  | 54 => ⟨S_, .f32⟩
  | 55 => ⟨S512x1024, .f32⟩
  | 56 => ⟨S512x1024, .f32⟩
  | 57 => ⟨S512x1024, .f32⟩
  | 58 => ⟨S_, .f32⟩
  | 59 => ⟨S512x1024, .f32⟩
  | 60 => ⟨S512x1024, .f32⟩
  | 61 => ⟨S512x1024, .f32⟩
  | 62 => ⟨S_, .f32⟩
  | 63 => ⟨S512x1024, .f32⟩
  | 64 => ⟨S512x1024, .f32⟩
  | 65 => ⟨S512x1024, .f32⟩
  | 66 => ⟨S_, .f32⟩
  | 67 => ⟨S512x1024, .f32⟩
  | 68 => ⟨S512x1024, .f32⟩
  | 69 => ⟨S_, .f32⟩
  | 70 => ⟨S4096x256, .f32⟩
  | 71 => ⟨S4096x256, .f32⟩
  | 72 => ⟨S_, .f32⟩
  | 73 => ⟨S4096x256, .f32⟩
  | 74 => ⟨S4096x256, .f32⟩
  | 75 => ⟨S4096x256, .f32⟩
  | 76 => ⟨S_, .f32⟩
  | 77 => ⟨S4096x256, .f32⟩
  | 78 => ⟨S4096x256, .f32⟩
  | 79 => ⟨S4096x256, .f32⟩
  | 80 => ⟨S_, .f32⟩
  | 81 => ⟨S4096x256, .f32⟩
  | 82 => ⟨S4096x256, .f32⟩
  | 83 => ⟨S4096x256, .f32⟩
  | 84 => ⟨S_, .f32⟩
  | 85 => ⟨S4096x256, .f32⟩
  | 86 => ⟨S4096x256, .f32⟩
  | 87 => ⟨S_, .f32⟩
  | 88 => ⟨S4096x256, .f32⟩
  | 89 => ⟨S4096x256, .f32⟩
  | 90 => ⟨S4096x256, .f32⟩
  | 91 => ⟨S_, .f32⟩
  | 92 => ⟨S4096x256, .f32⟩
  | 93 => ⟨S4096x256, .f32⟩
  | 94 => ⟨S4096x256, .f32⟩
  | 95 => ⟨S_, .f32⟩
  | 96 => ⟨S4096x256, .f32⟩
  | 97 => ⟨S4096x256, .f32⟩
  | 98 => ⟨S4096x256, .f32⟩
  | 99 => ⟨S_, .f32⟩
  | 100 => ⟨S4096x256, .f32⟩
  | 101 => ⟨S4096x256, .f32⟩
  | 102 => ⟨S_, .f32⟩
  | 103 => ⟨S2816x1024, .f32⟩
  | 104 => ⟨S2816x1024, .f32⟩
  | 105 => ⟨S_, .f32⟩
  | 106 => ⟨S2816x1024, .f32⟩
  | 107 => ⟨S2816x1024, .f32⟩
  | 108 => ⟨S2816x1024, .f32⟩
  | 109 => ⟨S_, .f32⟩
  | 110 => ⟨S2816x1024, .f32⟩
  | 111 => ⟨S2816x1024, .f32⟩
  | 112 => ⟨S2816x1024, .f32⟩
  | 113 => ⟨S_, .f32⟩
  | 114 => ⟨S2816x1024, .f32⟩
  | 115 => ⟨S2816x1024, .f32⟩
  | 116 => ⟨S2816x1024, .f32⟩
  | 117 => ⟨S_, .f32⟩
  | 118 => ⟨S2816x1024, .f32⟩
  | 119 => ⟨S2816x1024, .f32⟩
  | 120 => ⟨S_, .f32⟩
  | 121 => ⟨S2816x1024, .f32⟩
  | 122 => ⟨S2816x1024, .f32⟩
  | 123 => ⟨S2816x1024, .f32⟩
  | 124 => ⟨S_, .f32⟩
  | 125 => ⟨S2816x1024, .f32⟩
  | 126 => ⟨S2816x1024, .f32⟩
  | 127 => ⟨S2816x1024, .f32⟩
  | _ => ⟨S512x1024, .f32⟩

abbrev hbmTy0_1 (i : Nat) : BufTy := match i % 128 with
  | 0 => ⟨S_, .f32⟩
  | 1 => ⟨S2816x1024, .f32⟩
  | 2 => ⟨S2816x1024, .f32⟩
  | 3 => ⟨S2816x1024, .f32⟩
  | 4 => ⟨S_, .f32⟩
  | 5 => ⟨S2816x1024, .f32⟩
  | 6 => ⟨S2816x1024, .f32⟩
  | 7 => ⟨S_, .f32⟩
  | 8 => ⟨S1408x1024, .f32⟩
  | 9 => ⟨S1408x1024, .f32⟩
  | 10 => ⟨S_, .f32⟩
  | 11 => ⟨S1408x1024, .f32⟩
  | 12 => ⟨S1408x1024, .f32⟩
  | 13 => ⟨S1408x1024, .f32⟩
  | 14 => ⟨S_, .f32⟩
  | 15 => ⟨S1408x1024, .f32⟩
  | 16 => ⟨S1408x1024, .f32⟩
  | 17 => ⟨S1408x1024, .f32⟩
  | 18 => ⟨S_, .f32⟩
  | 19 => ⟨S1408x1024, .f32⟩
  | 20 => ⟨S1408x1024, .f32⟩
  | 21 => ⟨S1408x1024, .f32⟩
  | 22 => ⟨S_, .f32⟩
  | 23 => ⟨S1408x1024, .f32⟩
  | 24 => ⟨S1408x1024, .f32⟩
  | 25 => ⟨S_, .f32⟩
  | 26 => ⟨S1408x1024, .f32⟩
  | 27 => ⟨S1408x1024, .f32⟩
  | 28 => ⟨S1408x1024, .f32⟩
  | 29 => ⟨S_, .f32⟩
  | 30 => ⟨S1408x1024, .f32⟩
  | 31 => ⟨S1408x1024, .f32⟩
  | 32 => ⟨S1408x1024, .f32⟩
  | 33 => ⟨S_, .f32⟩
  | 34 => ⟨S1408x1024, .f32⟩
  | 35 => ⟨S1408x1024, .f32⟩
  | 36 => ⟨S1408x1024, .f32⟩
  | 37 => ⟨S_, .f32⟩
  | 38 => ⟨S1408x1024, .f32⟩
  | 39 => ⟨S1408x1024, .f32⟩
  | 40 => ⟨S_, .f32⟩
  | 41 => ⟨S770x1024, .f32⟩
  | 42 => ⟨S770x1024, .f32⟩
  | 43 => ⟨S_, .f32⟩
  | 44 => ⟨S770x1024, .f32⟩
  | 45 => ⟨S770x1024, .f32⟩
  | 46 => ⟨S770x1024, .f32⟩
  | 47 => ⟨S_, .f32⟩
  | 48 => ⟨S770x1024, .f32⟩
  | 49 => ⟨S770x1024, .f32⟩
  | 50 => ⟨S770x1024, .f32⟩
  | 51 => ⟨S_, .f32⟩
  | 52 => ⟨S770x1024, .f32⟩
  | 53 => ⟨S770x1024, .f32⟩
  | 54 => ⟨S770x1024, .f32⟩
  | 55 => ⟨S_, .f32⟩
  | 56 => ⟨S770x1024, .f32⟩
  | 57 => ⟨S770x1024, .f32⟩
  | 58 => ⟨S_, .f32⟩
  | 59 => ⟨S770x1024, .f32⟩
  | 60 => ⟨S770x1024, .f32⟩
  | 61 => ⟨S770x1024, .f32⟩
  | 62 => ⟨S_, .f32⟩
  | 63 => ⟨S770x1024, .f32⟩
  | 64 => ⟨S770x1024, .f32⟩
  | 65 => ⟨S770x1024, .f32⟩
  | 66 => ⟨S_, .f32⟩
  | 67 => ⟨S770x1024, .f32⟩
  | 68 => ⟨S770x1024, .f32⟩
  | 69 => ⟨S770x1024, .f32⟩
  | 70 => ⟨S_, .f32⟩
  | 71 => ⟨S770x1024, .f32⟩
  | 72 => ⟨S770x1024, .f32⟩
  | 73 => ⟨S_, .f32⟩
  | 74 => ⟨S256x1024, .f32⟩
  | 75 => ⟨S256x1024, .f32⟩
  | 76 => ⟨S_, .f32⟩
  | 77 => ⟨S256x1024, .f32⟩
  | 78 => ⟨S256x1024, .f32⟩
  | 79 => ⟨S256x1024, .f32⟩
  | 80 => ⟨S_, .f32⟩
  | 81 => ⟨S256x1024, .f32⟩
  | 82 => ⟨S256x1024, .f32⟩
  | 83 => ⟨S256x1024, .f32⟩
  | 84 => ⟨S_, .f32⟩
  | 85 => ⟨S256x1024, .f32⟩
  | 86 => ⟨S256x1024, .f32⟩
  | 87 => ⟨S256x1024, .f32⟩
  | 88 => ⟨S_, .f32⟩
  | 89 => ⟨S256x1024, .f32⟩
  | 90 => ⟨S256x1024, .f32⟩
  | 91 => ⟨S_, .f32⟩
  | 92 => ⟨S256x1024, .f32⟩
  | 93 => ⟨S256x1024, .f32⟩
  | 94 => ⟨S256x1024, .f32⟩
  | 95 => ⟨S_, .f32⟩
  | 96 => ⟨S256x1024, .f32⟩
  | 97 => ⟨S256x1024, .f32⟩
  | 98 => ⟨S256x1024, .f32⟩
  | 99 => ⟨S_, .f32⟩
  | 100 => ⟨S256x1024, .f32⟩
  | 101 => ⟨S256x1024, .f32⟩
  | 102 => ⟨S256x1024, .f32⟩
  | 103 => ⟨S_, .f32⟩
  | 104 => ⟨S256x1024, .f32⟩
  | 105 => ⟨S256x1024, .f32⟩
  | 106 => ⟨S_, .f32⟩
  | 107 => ⟨S2048x256, .f32⟩
  | 108 => ⟨S2048x256, .f32⟩
  | 109 => ⟨S_, .f32⟩
  | 110 => ⟨S2048x256, .f32⟩
  | 111 => ⟨S2048x256, .f32⟩
  | 112 => ⟨S2048x256, .f32⟩
  | 113 => ⟨S_, .f32⟩
  | 114 => ⟨S2048x256, .f32⟩
  | 115 => ⟨S2048x256, .f32⟩
  | 116 => ⟨S2048x256, .f32⟩
  | 117 => ⟨S_, .f32⟩
  | 118 => ⟨S2048x256, .f32⟩
  | 119 => ⟨S2048x256, .f32⟩
  | 120 => ⟨S2048x256, .f32⟩
  | 121 => ⟨S_, .f32⟩
  | 122 => ⟨S2048x256, .f32⟩
  | 123 => ⟨S2048x256, .f32⟩
  | 124 => ⟨S_, .f32⟩
  | 125 => ⟨S2048x256, .f32⟩
  | 126 => ⟨S2048x256, .f32⟩
  | 127 => ⟨S2048x256, .f32⟩
  | _ => ⟨S512x1024, .f32⟩

abbrev hbmTy0_2 (i : Nat) : BufTy := match i % 128 with
  | 0 => ⟨S_, .f32⟩
  | 1 => ⟨S2048x256, .f32⟩
  | 2 => ⟨S2048x256, .f32⟩
  | 3 => ⟨S2048x256, .f32⟩
  | 4 => ⟨S_, .f32⟩
  | 5 => ⟨S2048x256, .f32⟩
  | 6 => ⟨S2048x256, .f32⟩
  | 7 => ⟨S2048x256, .f32⟩
  | 8 => ⟨S_, .f32⟩
  | 9 => ⟨S2048x256, .f32⟩
  | 10 => ⟨S2048x256, .f32⟩
  | 11 => ⟨S_, .f32⟩
  | 12 => ⟨S256x256, .f32⟩
  | 13 => ⟨S256x256, .f32⟩
  | 14 => ⟨S_, .f32⟩
  | 15 => ⟨S256x256, .f32⟩
  | 16 => ⟨S256x256, .f32⟩
  | 17 => ⟨S256x256, .f32⟩
  | 18 => ⟨S_, .f32⟩
  | 19 => ⟨S256x256, .f32⟩
  | 20 => ⟨S256x256, .f32⟩
  | 21 => ⟨S256x256, .f32⟩
  | 22 => ⟨S_, .f32⟩
  | 23 => ⟨S256x256, .f32⟩
  | 24 => ⟨S256x256, .f32⟩
  | 25 => ⟨S256x256, .f32⟩
  | 26 => ⟨S_, .f32⟩
  | 27 => ⟨S256x256, .f32⟩
  | 28 => ⟨S256x256, .f32⟩
  | 29 => ⟨S_, .f32⟩
  | 30 => ⟨S256x256, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S256x256, .f32⟩
  | 37 => ⟨S_, .f32⟩
  | 38 => ⟨S256x256, .f32⟩
  | 39 => ⟨S256x256, .f32⟩
  | 40 => ⟨S256x256, .f32⟩
  | 41 => ⟨S_, .f32⟩
  | 42 => ⟨S256x256, .f32⟩
  | 43 => ⟨S256x256, .f32⟩
  | 44 => ⟨S_, .f32⟩
  | 45 => ⟨S248x128, .f32⟩
  | 46 => ⟨S248x128, .f32⟩
  | 47 => ⟨S_, .f32⟩
  | 48 => ⟨S248x128, .f32⟩
  | 49 => ⟨S248x128, .f32⟩
  | 50 => ⟨S248x128, .f32⟩
  | 51 => ⟨S_, .f32⟩
  | 52 => ⟨S248x128, .f32⟩
  | 53 => ⟨S248x128, .f32⟩
  | 54 => ⟨S248x128, .f32⟩
  | 55 => ⟨S_, .f32⟩
  | 56 => ⟨S248x128, .f32⟩
  | 57 => ⟨S248x128, .f32⟩
  | 58 => ⟨S248x128, .f32⟩
  | 59 => ⟨S_, .f32⟩
  | 60 => ⟨S248x128, .f32⟩
  | 61 => ⟨S248x128, .f32⟩
  | 62 => ⟨S_, .f32⟩
  | 63 => ⟨S248x128, .f32⟩
  | 64 => ⟨S248x128, .f32⟩
  | 65 => ⟨S248x128, .f32⟩
  | 66 => ⟨S_, .f32⟩
  | 67 => ⟨S248x128, .f32⟩
  | 68 => ⟨S248x128, .f32⟩
  | 69 => ⟨S248x128, .f32⟩
  | 70 => ⟨S_, .f32⟩
  | 71 => ⟨S248x128, .f32⟩
  | 72 => ⟨S248x128, .f32⟩
  | 73 => ⟨S248x128, .f32⟩
  | 74 => ⟨S_, .f32⟩
  | 75 => ⟨S248x128, .f32⟩
  | 76 => ⟨S248x128, .f32⟩
  | _ => ⟨S512x1024, .f32⟩

abbrev hbmTy (i : Nat) : BufTy := match i / 128 with
  | 0 => hbmTy0_0 i
  | 1 => hbmTy0_1 i
  | 2 => hbmTy0_2 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== Proof.Steps.lean ====
/-
  What one grid point of the kernel does to its blocks, as functions of the input blocks and of the output blocks it
  finds: `off…` at a point below the diagonal (query block after key block), `dia…` at a point on the diagonal. The
  blocks: `x0` augmented queries, `x1` augmented keys, `x2` values, `x3` the output's cotangent, `x4` the forward output,
  `x5` the row log-sums; `y6` … `y10` the gradients of queries, keys, values and of the two gate sums.
-/
module

public import proofs.«01_k».proof.Proof.Gen.KernelIdeal.Frame
public import proofs.«01_k».proof.Proof.Gen.KernelIdeal.Skeleton
public import Idealize.ShloMosaic.Lib.WritesUnit
public import Idealize.ShloMosaic.Lib.WholeRead

@[expose] public section

set_option maxRecDepth 16384

noncomputable section

namespace Cert.Fox

open Idealize.ShloMosaic Idealize.ShloMosaic.TcCoe
open Cert.KernelIdeal Cert.KernelIdeal.Gen

variable {F : FTy → Type} [FloatOps F] [Named F]

/-- The lane number of every entry of a block. -/
abbrev lane : IVec S512x128 32 := iota .tc S512x128 32 [1] iota_S512x128_d1_w32

/-- A whole block, as a load reads it. -/
abbrev whole {e : EltTy} (x : Vec F S512x128 e) : Vec F S512x128 e :=
  View.ld (Val := Elt F) x (Rect.unit (s := S512x128) ![0, 0] S512x128.size inb_S512x128_S512x128_0_0)
/-- The first head's part of a pair's block. -/
abbrev head0 {e : EltTy} (x : Vec F S2x512x128 e) : Vec F S1x512x128 e :=
  View.ld (Val := Elt F) x (Rect.unit (s := S2x512x128) ![0, 0, 0] S1x512x128.size inb_S2x512x128_S1x512x128_0_0_0)
/-- The second head's part of a pair's block. -/
abbrev head1 {e : EltTy} (x : Vec F S2x512x128 e) : Vec F S1x512x128 e :=
  View.ld (Val := Elt F) x (Rect.unit (s := S2x512x128) ![1, 0, 0] S1x512x128.size inb_S2x512x128_S1x512x128_1_0_0)
/-- The first head's row of a pair's gate sums. -/
abbrev row0 (y : Vec F S2x1x512 .f32) : Vec F S1x1x512 .f32 :=
  View.ld (Val := Elt F) y (Rect.unit (s := S2x1x512) ![0, 0, 0] S1x1x512.size inb_S2x1x512_S1x1x512_0_0_0)
/-- The second head's row of a pair's gate sums. -/
abbrev row1 (y : Vec F S2x1x512 .f32) : Vec F S1x1x512 .f32 :=
  View.ld (Val := Elt F) y (Rect.unit (s := S2x1x512) ![1, 0, 0] S1x1x512.size inb_S2x1x512_S1x1x512_1_0_0)

/-- `y` with the box of sizes `size` at `off` replaced by `w`. -/
def put {s : Shape} {e : EltTy} (off size : Fin s.rank → ℕ) (w : ((a : Fin s.rank) → Fin (size a)) → Elt F e) (y : Vec F s e) :
    Vec F s e := fun j =>
  if h : ∀ a, off a ≤ (j a).val ∧ (j a).val < off a + size a then w (Rect.unitLocal (s := s) j h) else y j

/-- A list of stores, newest first, read back: the newest put over the rest. -/
theorem read_cons_put {sig : RefSig} {κ : Kind} {sp : Space} {s : Shape} {e : EltTy} (v : View sig κ sp s e)
    (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L))
      = put (F := F) (s := s) off size w (v.read (Elt F) (v.writes (Elt F) f L)) :=
  funext fun y => View.read_writes_cons_unit v f inb w L y rfl

/-- No store: what was there. -/
theorem read_nil {sig : RefSig} {κ : Kind} {sp : Space} {s : Shape} {e : EltTy} {m : Memref sig κ sp s e} (h : m.IsWhole)
    (X : Vec F s e) : m.view.read (Elt F) (m.view.writes (Elt F) (h.unread X) []) = X :=
  h.read_unread X

/-- A store of the whole block replaces it. -/
theorem put_all {s : Shape} {e : EltTy} (off : Fin s.rank → ℕ) (h0 : ∀ a, off a = 0) (w y : Vec F s e) :
    put (F := F) (s := s) off s.size w y = w := by
  funext j
  have h : ∀ a, off a ≤ (j a).val ∧ (j a).val < off a + s.size a := fun a => by rw [h0 a, Nat.zero_add]; exact ⟨Nat.zero_le _, (j a).isLt⟩
  unfold put; rw [dif_pos h]
  exact congrArg w (funext fun a => Fin.ext (by rw [Rect.unitLocal_val, h0 a]; exact Nat.sub_zero _))

/-- A load through what the stores leave, as a load of those contents. -/
theorem readCov_ld {sig : RefSig} {κ : Kind} {sp : Space} {s : Shape} {e : EltTy} (v : View sig κ sp s e)
    (L : List (View.Piece (Elt F) s e)) (r : Rect s) :
    v.readCov L r.toLoadRect = View.ld (v.read (Elt F) (v.writes (Elt F) v.junk L)) r := rfl

theorem put_all_dq (w y : Vec F S2048x128 .f32) : put (F := F) (s := S2048x128) ![0, 0] ![2048, 128] w y = w :=
  put_all (s := S2048x128) ![0, 0] (by decide) w y
theorem put_all_dk (w y : Vec F S512x128 .f32) : put (F := F) (s := S512x128) ![0, 0] ![512, 128] w y = w :=
  put_all (s := S512x128) ![0, 0] (by decide) w y
theorem put_all_dck (w y : Vec F S2x1x512 .f32) : put (F := F) (s := S2x1x512) ![0, 0, 0] ![2, 1, 512] w y = w :=
  put_all (s := S2x1x512) ![0, 0, 0] (by decide) w y
theorem put_all_dcq (w y : Vec F S2x4x16x512 .f32) :
    put (F := F) (s := S2x4x16x512) ![0, 0, 0, 0] ![2, 4, 16, 512] w y = w :=
  put_all (s := S2x4x16x512) ![0, 0, 0, 0] (by decide) w y

/-- A load of a box apart from the box that was put reads past it. -/
theorem ld_put_ne {s : Shape} {e : EltTy} (off size : Fin s.rank → ℕ)
    (w : ((a : Fin s.rank) → Fin (size a)) → Elt F e) (y : Vec F s e) {off' size' : Fin s.rank → ℕ}
    (inb : ∀ a, off' a + size' a ≤ s.size a) (a : Fin s.rank) (h : off a + size a ≤ off' a ∨ off' a + size' a ≤ off a) :
    View.ld (Val := Elt F) (put (F := F) (s := s) off size w y) (Rect.unit off' size' inb)
      = View.ld (Val := Elt F) y (Rect.unit off' size' inb) := by
  funext j
  refine dif_neg (fun hh => ?_)
  have h1 := hh a
  have h2 : (((Rect.unit off' size' inb).idx j) a).val = off' a + (j a).val := by
    show off' a + 1 * (j a).val = _; rw [Nat.one_mul]
  have h3 : (j a).val < size' a := (j a).isLt
  rw [h2] at h1
  omega

theorem ld_put_dcq {b : ℕ} (w : ((a : Fin 4) → Fin ((![1, 1, 16, 512] : Fin 4 → ℕ) a)) → Elt F .f32) (y : Vec F S2x4x16x512 .f32)
    (inb : ∀ a, (![1, b, 0, 0] : Fin 4 → ℕ) a + (![1, 1, 16, 512] : Fin 4 → ℕ) a ≤ S2x4x16x512.size a) :
    View.ld (Val := Elt F) (put (F := F) (s := S2x4x16x512) ![0, b, 0, 0] ![1, 1, 16, 512] w y)
        (Rect.unit (s := S2x4x16x512) ![1, b, 0, 0] ![1, 1, 16, 512] inb)
      = View.ld (Val := Elt F) y (Rect.unit (s := S2x4x16x512) ![1, b, 0, 0] ![1, 1, 16, 512] inb) :=
  ld_put_ne (s := S2x4x16x512) ![0, b, 0, 0] ![1, 1, 16, 512] w y inb 0 (Or.inl (by simp))

theorem ld_put_dck (w : ((a : Fin 3) → Fin ((![1, 1, 512] : Fin 3 → ℕ) a)) → Elt F .f32) (y : Vec F S2x1x512 .f32)
    (inb : ∀ a, (![1, 0, 0] : Fin 3 → ℕ) a + (![1, 1, 512] : Fin 3 → ℕ) a ≤ S2x1x512.size a) :
    View.ld (Val := Elt F) (put (F := F) (s := S2x1x512) ![0, 0, 0] ![1, 1, 512] w y)
        (Rect.unit (s := S2x1x512) ![1, 0, 0] ![1, 1, 512] inb)
      = View.ld (Val := Elt F) y (Rect.unit (s := S2x1x512) ![1, 0, 0] ![1, 1, 512] inb) :=
  ld_put_ne (s := S2x1x512) ![0, 0, 0] ![1, 1, 512] w y inb 0 (Or.inl (by simp))

variable (x0 x1 : Vec F S2x512x128 .bf16) (x2 x3 x4 : Vec F S512x128 .f32) (x5 : Vec F S2x512x128 .f32)

/-! ## Below the diagonal -/

def offDs0 : FVec F S512x512 .f32 := k0_pay25 lane (whole x3) (whole x4) (whole x2) (head0 x0) (head0 x1) (head0 x5)
def offDsb0 : FVec F S512x512 .bf16 := k0_pay26 lane (whole x3) (whole x4) (whole x2) (head0 x0) (head0 x1) (head0 x5)
def offDs1 : FVec F S512x512 .f32 := k0_pay38 (whole x3) (k0_pay15 (whole x4)) (k0_pay16 (whole x2)) (k0_pay32 lane) (k0_pay33 (head1 x0)) (k0_pay34 (head1 x1)) (Scalar.ofBits .f32 0x00000000#32) (head1 x5)
def offDsb1 : FVec F S512x512 .bf16 := k0_pay39 (whole x3) (k0_pay15 (whole x4)) (k0_pay16 (whole x2)) (k0_pay32 lane) (k0_pay33 (head1 x0)) (k0_pay34 (head1 x1)) (Scalar.ofBits .f32 0x00000000#32) (head1 x5)
def offLo1 : FVec F S512x512 .bf16 := k0_pay44 (whole x3) (k0_pay15 (whole x4)) (k0_pay16 (whole x2)) (k0_pay32 lane) (k0_pay33 (head1 x0)) (k0_pay34 (head1 x1)) (Scalar.ofBits .f32 0x00000000#32) (head1 x5)
/-- The point's addend to the queries' gradient. -/
def offDqT : FVec F S512x128 .f32 :=
  k0_pay40 (whole x3) (k0_pay15 (whole x4)) (k0_pay16 (whole x2)) (k0_pay27 lane (whole x3) (whole x4) (whole x2) (head0 x0) (head0 x1) (head0 x5)) (k0_pay32 lane) (k0_pay33 (head1 x0)) (k0_pay34 (head1 x1)) (Scalar.ofBits .f32 0x00000000#32) (head1 x5)
/-- The point's addend to the keys' gradient. -/
def offDkT : FVec F S512x128 .f32 :=
  k0_pay41 (whole x3) (k0_pay15 (whole x4)) (k0_pay16 (whole x2)) (k0_pay28 (k0_pay17 (F := F)) (k0_pay19 lane) (k0_pay20 (head0 x0)) (offDsb0 x0 x1 x2 x3 x4 x5)) (k0_pay32 lane) (k0_pay33 (head1 x0)) (k0_pay34 (head1 x1)) (Scalar.ofBits .f32 0x00000000#32) (head1 x5)
/-- The point's addend to the values' gradient. -/
def offDvT : FVec F S512x128 .f32 :=
  k0_pay42 (whole x3) (k0_pay29 (k0_pay18 (F := F)) (k0_pay23 lane (whole x3)) (k0_pay24 (head0 x0) (head0 x1) (head0 x5))) (k0_pay32 lane) (k0_pay33 (head1 x0)) (k0_pay34 (head1 x1)) (Scalar.ofBits .f32 0x00000000#32) (head1 x5)

variable (i : grid0.Coords) (y6 : Vec F S2048x128 .f32) (y7 y8 : Vec F S512x128 .f32) (y9 : Vec F S2x1x512 .f32)
  (y10 : Vec F S2x4x16x512 .f32)

def offDq (h : k0_cond3 i = 1#1) : Vec F S2048x128 .f32 :=
  put (F := F) (s := S2048x128) (k0_off3 i) S512x128.size (k0_pay8 (offDqT x0 x1 x2 x3 x4 x5) (View.ld (Val := Elt F) y6 (Rect.unit (s := S2048x128) (k0_off3 i) S512x128.size (k0_off3_inb i h)))) y6
def offDk : Vec F S512x128 .f32 := k0_pay9 (offDkT x0 x1 x2 x3 x4 x5) (whole y7)
def offDv : Vec F S512x128 .f32 := k0_pay10 (offDvT x0 x1 x3 x5) (whole y8)
def offDck : Vec F S2x1x512 .f32 :=
  put (F := F) (s := S2x1x512) ![1, 0, 0] S1x1x512.size (k0_pay43 (whole x3) (k0_pay15 (whole x4)) (k0_pay16 (whole x2)) (k0_pay32 lane) (k0_pay33 (head1 x0)) (k0_pay34 (head1 x1)) (Scalar.ofBits .f32 0x00000000#32) (head1 x5) (row1 y9))
    (put (F := F) (s := S2x1x512) ![0, 0, 0] S1x1x512.size (k0_pay30 (offDs0 x0 x1 x2 x3 x4 x5) (row0 y9)) y9)
def offDcq (h : k0_cond3 i = 1#1) : Vec F S2x4x16x512 .f32 :=
  put (F := F) (s := S2x4x16x512) (k0_off2 i) S1x1x16x512.size (k0_pay7 (offDsb1 x0 x1 x2 x3 x4 x5) (offLo1 x0 x1 x2 x3 x4 x5) (View.ld (Val := Elt F) y10 (Rect.unit (s := S2x4x16x512) (k0_off2 i) S1x1x16x512.size (k0_off2_inb i h))))
    (put (F := F) (s := S2x4x16x512) (k0_off1 i) S1x1x16x512.size (k0_pay31 (k0_pay1 (F := F)) (offDs0 x0 x1 x2 x3 x4 x5) (offDsb0 x0 x1 x2 x3 x4 x5) (View.ld (Val := Elt F) y10 (Rect.unit (s := S2x4x16x512) (k0_off1 i) S1x1x16x512.size (k0_off1_inb i h)))) y10)

/-! ## On the diagonal -/

def diaDs0 : FVec F S512x512 .f32 := k0_pay57 lane (whole x3) (whole x4) (whole x2) (head0 x0) (head0 x1) (head0 x5)
def diaDsb0 : FVec F S512x512 .bf16 := k0_pay58 lane (whole x3) (whole x4) (whole x2) (head0 x0) (head0 x1) (head0 x5)
def diaDs1 : FVec F S512x512 .f32 := k0_pay70 (whole x3) (k0_pay45 (whole x4)) (k0_pay46 (whole x2)) k0_pay47 (k0_pay64 lane) (k0_pay65 (head1 x0)) (head1 x1) (head1 x5)
def diaDsb1 : FVec F S512x512 .bf16 := k0_pay71 (whole x3) (k0_pay45 (whole x4)) (k0_pay46 (whole x2)) k0_pay47 (k0_pay64 lane) (k0_pay65 (head1 x0)) (head1 x1) (head1 x5)
/-- The point's addend to the queries' gradient. -/
def diaDqT : FVec F S512x128 .f32 :=
  k0_pay72 (whole x3) (k0_pay45 (whole x4)) (k0_pay46 (whole x2)) k0_pay47 (k0_pay59 (k0_pay48 (F := F)) (k0_pay51 lane) (k0_pay53 (head0 x1)) (diaDsb0 x0 x1 x2 x3 x4 x5)) (k0_pay64 lane) (k0_pay65 (head1 x0)) (head1 x1) (head1 x5)
/-- The point's addend to the keys' gradient. -/
def diaDkT : FVec F S512x128 .f32 :=
  k0_pay73 (whole x3) (k0_pay45 (whole x4)) (k0_pay46 (whole x2)) k0_pay47 (k0_pay60 (k0_pay49 (F := F)) (k0_pay51 lane) (k0_pay52 (head0 x0)) (diaDsb0 x0 x1 x2 x3 x4 x5)) (k0_pay64 lane) (k0_pay65 (head1 x0)) (head1 x1) (head1 x5)
/-- The point's addend to the values' gradient. -/
def diaDvT : FVec F S512x128 .f32 :=
  k0_pay74 (whole x3) k0_pay47 (k0_pay61 (k0_pay50 (F := F)) (k0_pay55 lane (whole x3)) (k0_pay56 (head0 x0) (head0 x1) (head0 x5))) (k0_pay64 lane) (k0_pay65 (head1 x0)) (head1 x1) (head1 x5)

def diaDq (h : k0_cond4 i = 1#1) : Vec F S2048x128 .f32 :=
  put (F := F) (s := S2048x128) (k0_off6 i) S512x128.size (k0_pay12 (diaDqT x0 x1 x2 x3 x4 x5) (View.ld (Val := Elt F) y6 (Rect.unit (s := S2048x128) (k0_off6 i) S512x128.size (k0_off6_inb i h)))) y6
def diaDk : Vec F S512x128 .f32 := k0_pay13 (diaDkT x0 x1 x2 x3 x4 x5) (whole (k0_pay4 (F := F)))
def diaDv : Vec F S512x128 .f32 := k0_pay14 (diaDvT x0 x1 x3 x5) (whole (k0_pay5 (F := F)))
def diaDck : Vec F S2x1x512 .f32 :=
  put (F := F) (s := S2x1x512) ![1, 0, 0] S1x1x512.size (k0_pay75 (whole x3) (k0_pay45 (whole x4)) (k0_pay46 (whole x2)) k0_pay47 (k0_pay64 lane) (k0_pay65 (head1 x0)) (head1 x1) (head1 x5) (row1 (k0_pay6 (F := F))))
    (put (F := F) (s := S2x1x512) ![0, 0, 0] S1x1x512.size (k0_pay62 (diaDs0 x0 x1 x2 x3 x4 x5) (row0 (k0_pay6 (F := F)))) (k0_pay6 (F := F)))
def diaDcq (h : k0_cond4 i = 1#1) : Vec F S2x4x16x512 .f32 :=
  put (F := F) (s := S2x4x16x512) (k0_off5 i) S1x1x16x512.size (k0_pay11 (diaDs1 x0 x1 x2 x3 x4 x5) (diaDsb1 x0 x1 x2 x3 x4 x5) (View.ld (Val := Elt F) y10 (Rect.unit (s := S2x4x16x512) (k0_off5 i) S1x1x16x512.size (k0_off5_inb i h))))
    (put (F := F) (s := S2x4x16x512) (k0_off4 i) S1x1x16x512.size (k0_pay63 (k0_pay1 (F := F)) (diaDs0 x0 x1 x2 x3 x4 x5) (diaDsb0 x0 x1 x2 x3 x4 x5) (View.ld (Val := Elt F) y10 (Rect.unit (s := S2x4x16x512) (k0_off4 i) S1x1x16x512.size (k0_off4_inb i h)))) y10)

end Cert.Fox

end
-- ==== Proof.RunA.lean ====
/-
  The body at the first point of a pair of heads (on the diagonal, the query gradient and its gate sum started at zero): on whole staging buffers the body runs and leaves every block as `Proof/Steps.lean` says.
-/
module

public import proofs.«01_k».proof.Proof.Steps
public import Idealize.ShloMosaic.Lib.Pipeline.ReadBack
public import Idealize.ShloMosaic.Lib.Pipeline.ValueKit.Acc

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

-- (the run's proof term is large: checking it walks past the default budget)
set_option maxHeartbeats 4000000 in
/-- The body at the first point of a pair of heads (on the diagonal, the query gradient and its gate sum started at zero). -/
theorem runA (c : Dev nD) (i : grid0.Coords) (arg3 : Memref sig .tc .vmem S2x512x128 .bf16) (harg3 : arg3.IsWhole) (arg4 : Memref sig .tc .vmem S2x512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x512x128 .f32) (harg8 : arg8.IsWhole) (arg9 : Memref sig .tc .vmem S2048x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2x1x512 .f32) (harg12 : arg12.IsWhole) (arg13 : Memref sig .tc .vmem S2x4x16x512 .f32) (harg13 : arg13.IsWhole) (hc0 : k0_cond1 i = 1#1) (hc1 : k0_cond2 i = 1#1) (hc2 : ¬(k0_cond3 i = 1#1)) (hc3 : k0_cond4 i = 1#1)
    (x0 : Vec F S2x512x128 .bf16) (x1 : Vec F S2x512x128 .bf16) (x2 : Vec F S512x128 .f32) (x3 : Vec F S512x128 .f32) (x4 : Vec F S512x128 .f32) (x5 : Vec F S2x512x128 .f32) (y6 : Vec F S2048x128 .f32) (y7 y8 : Vec F S512x128 .f32) (y9 : Vec F S2x1x512 .f32) (y10 : Vec F S2x4x16x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (diaDq x0 x1 x2 x3 x4 x5 i (k0_pay2 (F := F)) hc3) ∗ owns (c : Thread nD τ) arg10 fullShare (diaDk x0 x1 x2 x3 x4 x5) ∗ owns (c : Thread nD τ) arg11 fullShare (diaDv x0 x1 x3 x5) ∗ owns (c : Thread nD τ) arg12 fullShare (diaDck x0 x1 x2 x3 x4 x5) ∗ owns (c : Thread nD τ) arg13 fullShare (diaDcq x0 x1 x2 x3 x4 x5 i (k0_pay3 (F := F)) hc3)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    simp only [cc0_fox_bwd_eq_skeleton]; unfold cc0_fox_bwd_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      sl_unfold_words; simp only [View.readAt_eq_ld, Memref.IsWhole.read_unread, readCov_ld, read_cons_put, read_nil, put_all_dq, put_all_dk, put_all_dck, put_all_dcq, ld_put_dcq, ld_put_dck]
      first | rfl | exact (read_cons_put _ _ _ _ _).trans (congrArg _ ((read_cons_put _ _ _ _ _).trans (put_all (s := S2048x128) ![0, 0] (by decide) _ _)))
    isplitl [H7]
    · iexists _; isplitr; swap; · iexact H7
      ipureintro
      sl_unfold_words; simp only [View.readAt_eq_ld, Memref.IsWhole.read_unread, readCov_ld, read_cons_put, read_nil, put_all_dq, put_all_dk, put_all_dck, put_all_dcq, ld_put_dcq, ld_put_dck]
      first | rfl | exact (read_cons_put _ _ _ _ _).trans (put_all (s := S512x128) ![0, 0] (by decide) _ _)
    isplitl [H8]
    · iexists _; isplitr; swap; · iexact H8
      ipureintro
      sl_unfold_words; simp only [View.readAt_eq_ld, Memref.IsWhole.read_unread, readCov_ld, read_cons_put, read_nil, put_all_dq, put_all_dk, put_all_dck, put_all_dcq, ld_put_dcq, ld_put_dck]
      first | rfl | exact (read_cons_put _ _ _ _ _).trans (put_all (s := S512x128) ![0, 0] (by decide) _ _)
    isplitl [H9]
    · iexists _; isplitr; swap; · iexact H9
      ipureintro
      sl_unfold_words; simp only [View.readAt_eq_ld, Memref.IsWhole.read_unread, readCov_ld, read_cons_put, read_nil, put_all_dq, put_all_dk, put_all_dck, put_all_dcq, ld_put_dcq, ld_put_dck]
      first | rfl | exact (read_cons_put _ _ _ _ _).trans (congrArg _ ((read_cons_put _ _ _ _ _).trans (congrArg _ ((read_cons_put _ _ _ _ _).trans (put_all (s := S2x1x512) ![0, 0, 0] (by decide) _ _)))))
    iexists _; isplitr; swap; · iexact H10
    ipureintro
    sl_unfold_words; simp only [View.readAt_eq_ld, Memref.IsWhole.read_unread, readCov_ld, read_cons_put, read_nil, put_all_dq, put_all_dk, put_all_dck, put_all_dcq, ld_put_dcq, ld_put_dck]
    unfold diaDcq
    refine (read_cons_put _ _ _ _ _).trans (congr (congrArg (put (F := F) (s := S2x4x16x512) _ _) (congrArg (k0_pay11 _ _) ?_)) ((read_cons_put _ _ _ _ _).trans (congrArg _ ((read_cons_put _ _ _ _ _).trans (put_all (s := S2x4x16x512) ![0, 0, 0, 0] (by decide) _ _)))))
    refine (congrArg (fun y => View.ld (Val := Elt F) y (Rect.unit (s := S2x4x16x512) (k0_off5 i) S1x1x16x512.size (k0_off5_inb i hc3))) ((read_cons_put _ _ _ _ _).trans (congrArg _ ((read_cons_put _ _ _ _ _).trans (put_all (s := S2x4x16x512) ![0, 0, 0, 0] (by decide) _ _))))).trans ?_
    exact ld_put_ne (s := S2x4x16x512) (k0_off4 i) S1x1x16x512.size _ _ (k0_off5_inb i hc3) 0 (Or.inl (Nat.le_refl 1))

end Cert.Fox

end
-- ==== Proof.RunB.lean ====
/-
  The body at a point below the diagonal: on whole staging buffers the body runs and leaves every block as `Proof/Steps.lean` says.
-/
module

public import proofs.«01_k».proof.Proof.Steps
public import Idealize.ShloMosaic.Lib.Pipeline.ReadBack
public import Idealize.ShloMosaic.Lib.Pipeline.ValueKit.Acc

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

-- (the run's proof term is large: checking it walks past the default budget)
set_option maxHeartbeats 4000000 in
/-- The body at a point below the diagonal. -/
theorem runB (c : Dev nD) (i : grid0.Coords) (arg3 : Memref sig .tc .vmem S2x512x128 .bf16) (harg3 : arg3.IsWhole) (arg4 : Memref sig .tc .vmem S2x512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x512x128 .f32) (harg8 : arg8.IsWhole) (arg9 : Memref sig .tc .vmem S2048x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2x1x512 .f32) (harg12 : arg12.IsWhole) (arg13 : Memref sig .tc .vmem S2x4x16x512 .f32) (harg13 : arg13.IsWhole) (hc0 : ¬(k0_cond1 i = 1#1)) (hc1 : ¬(k0_cond2 i = 1#1)) (hc2 : k0_cond3 i = 1#1) (hc3 : ¬(k0_cond4 i = 1#1))
    (x0 : Vec F S2x512x128 .bf16) (x1 : Vec F S2x512x128 .bf16) (x2 : Vec F S512x128 .f32) (x3 : Vec F S512x128 .f32) (x4 : Vec F S512x128 .f32) (x5 : Vec F S2x512x128 .f32) (y6 : Vec F S2048x128 .f32) (y7 y8 : Vec F S512x128 .f32) (y9 : Vec F S2x1x512 .f32) (y10 : Vec F S2x4x16x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (offDq x0 x1 x2 x3 x4 x5 i y6 hc2) ∗ owns (c : Thread nD τ) arg10 fullShare (offDk x0 x1 x2 x3 x4 x5 y7) ∗ owns (c : Thread nD τ) arg11 fullShare (offDv x0 x1 x3 x5 y8) ∗ owns (c : Thread nD τ) arg12 fullShare (offDck x0 x1 x2 x3 x4 x5 y9) ∗ owns (c : Thread nD τ) arg13 fullShare (offDcq x0 x1 x2 x3 x4 x5 i y10 hc2)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    simp only [cc0_fox_bwd_eq_skeleton]; unfold cc0_fox_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      sl_unfold_words; simp only [View.readAt_eq_ld, Memref.IsWhole.read_unread]
      exact (read_cons_put _ _ _ _ _).trans (congrArg _ (read_nil harg9 y6))
    isplitl [H7]
    · iexists _; isplitr; swap; · iexact H7
      ipureintro
      sl_unfold_words; simp only [View.readAt_eq_ld, Memref.IsWhole.read_unread]
      exact (read_cons_put _ _ _ _ _).trans (put_all _ (by decide) _ _)
    isplitl [H8]
    · iexists _; isplitr; swap; · iexact H8
      ipureintro
      sl_unfold_words; simp only [View.readAt_eq_ld, Memref.IsWhole.read_unread]
      exact (read_cons_put _ _ _ _ _).trans (put_all _ (by decide) _ _)
    isplitl [H9]
    · iexists _; isplitr; swap; · iexact H9
      ipureintro
      sl_unfold_words; simp only [View.readAt_eq_ld, Memref.IsWhole.read_unread]
      exact (read_cons_put _ _ _ _ _).trans (congrArg _ ((read_cons_put _ _ _ _ _).trans (congrArg _ (read_nil harg12 y9))))
    iexists _; isplitr; swap; · iexact H10
    ipureintro
    sl_unfold_words; simp only [View.readAt_eq_ld, Memref.IsWhole.read_unread]
    exact (read_cons_put _ _ _ _ _).trans (congrArg _ ((read_cons_put _ _ _ _ _).trans (congrArg _ (read_nil harg13 y10))))

end Cert.Fox

end
-- ==== Proof.RunC.lean ====
/-
  The body at a point above the diagonal: nothing is touched: on whole staging buffers the body runs and leaves every block as `Proof/Steps.lean` says.
-/
module

public import proofs.«01_k».proof.Proof.Steps
public import Idealize.ShloMosaic.Lib.Pipeline.ReadBack
public import Idealize.ShloMosaic.Lib.Pipeline.ValueKit.Acc

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

-- (the run's proof term is large: checking it walks past the default budget)
set_option maxHeartbeats 4000000 in
/-- The body at a point above the diagonal: nothing is touched. -/
theorem runC (c : Dev nD) (i : grid0.Coords) (arg3 : Memref sig .tc .vmem S2x512x128 .bf16) (harg3 : arg3.IsWhole) (arg4 : Memref sig .tc .vmem S2x512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x512x128 .f32) (harg8 : arg8.IsWhole) (arg9 : Memref sig .tc .vmem S2048x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2x1x512 .f32) (harg12 : arg12.IsWhole) (arg13 : Memref sig .tc .vmem S2x4x16x512 .f32) (harg13 : arg13.IsWhole) (hc0 : ¬(k0_cond1 i = 1#1)) (hc1 : ¬(k0_cond2 i = 1#1)) (hc2 : ¬(k0_cond3 i = 1#1)) (hc3 : ¬(k0_cond4 i = 1#1))
    (x0 : Vec F S2x512x128 .bf16) (x1 : Vec F S2x512x128 .bf16) (x2 : Vec F S512x128 .f32) (x3 : Vec F S512x128 .f32) (x4 : Vec F S512x128 .f32) (x5 : Vec F S2x512x128 .f32) (y6 : Vec F S2048x128 .f32) (y7 y8 : Vec F S512x128 .f32) (y9 : Vec F S2x1x512 .f32) (y10 : Vec F S2x4x16x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (y6) ∗ owns (c : Thread nD τ) arg10 fullShare (y7) ∗ owns (c : Thread nD τ) arg11 fullShare (y8) ∗ owns (c : Thread nD τ) arg12 fullShare (y9) ∗ owns (c : Thread nD τ) arg13 fullShare (y10)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    simp only [cc0_fox_bwd_eq_skeleton]; unfold cc0_fox_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact harg9.read_unread _
    isplitl [H7]
    · iexists _; isplitr; swap; · iexact H7
      ipureintro
      exact harg10.read_unread _
    isplitl [H8]
    · iexists _; isplitr; swap; · iexact H8
      ipureintro
      exact harg11.read_unread _
    isplitl [H9]
    · iexists _; isplitr; swap; · iexact H9
      ipureintro
      exact harg12.read_unread _
    iexists _; isplitr; swap; · iexact H10
    ipureintro
    exact harg13.read_unread _

end Cert.Fox

end
-- ==== Proof.RunD.lean ====
/-
  The body at a point on the diagonal, not the first of its pair of heads: on whole staging buffers the body runs and leaves every block as `Proof/Steps.lean` says.
-/
module

public import proofs.«01_k».proof.Proof.Steps
public import Idealize.ShloMosaic.Lib.Pipeline.ReadBack
public import Idealize.ShloMosaic.Lib.Pipeline.ValueKit.Acc

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

-- (the run's proof term is large: checking it walks past the default budget)
set_option maxHeartbeats 4000000 in
/-- The body at a point on the diagonal, not the first of its pair of heads. -/
theorem runD (c : Dev nD) (i : grid0.Coords) (arg3 : Memref sig .tc .vmem S2x512x128 .bf16) (harg3 : arg3.IsWhole) (arg4 : Memref sig .tc .vmem S2x512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x512x128 .f32) (harg8 : arg8.IsWhole) (arg9 : Memref sig .tc .vmem S2048x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2x1x512 .f32) (harg12 : arg12.IsWhole) (arg13 : Memref sig .tc .vmem S2x4x16x512 .f32) (harg13 : arg13.IsWhole) (hc0 : ¬(k0_cond1 i = 1#1)) (hc1 : k0_cond2 i = 1#1) (hc2 : ¬(k0_cond3 i = 1#1)) (hc3 : k0_cond4 i = 1#1)
    (x0 : Vec F S2x512x128 .bf16) (x1 : Vec F S2x512x128 .bf16) (x2 : Vec F S512x128 .f32) (x3 : Vec F S512x128 .f32) (x4 : Vec F S512x128 .f32) (x5 : Vec F S2x512x128 .f32) (y6 : Vec F S2048x128 .f32) (y7 y8 : Vec F S512x128 .f32) (y9 : Vec F S2x1x512 .f32) (y10 : Vec F S2x4x16x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (diaDq x0 x1 x2 x3 x4 x5 i y6 hc3) ∗ owns (c : Thread nD τ) arg10 fullShare (diaDk x0 x1 x2 x3 x4 x5) ∗ owns (c : Thread nD τ) arg11 fullShare (diaDv x0 x1 x3 x5) ∗ owns (c : Thread nD τ) arg12 fullShare (diaDck x0 x1 x2 x3 x4 x5) ∗ owns (c : Thread nD τ) arg13 fullShare (diaDcq x0 x1 x2 x3 x4 x5 i y10 hc3)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    simp only [cc0_fox_bwd_eq_skeleton]; unfold cc0_fox_bwd_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      sl_unfold_words; simp only [View.readAt_eq_ld, Memref.IsWhole.read_unread, readCov_ld, read_cons_put, read_nil, put_all_dq, put_all_dk, put_all_dck, put_all_dcq, ld_put_dcq, ld_put_dck]
      first | rfl | exact (read_cons_put _ _ _ _ _).trans (congrArg _ (read_nil harg9 y6))
    isplitl [H7]
    · iexists _; isplitr; swap; · iexact H7
      ipureintro
      sl_unfold_words; simp only [View.readAt_eq_ld, Memref.IsWhole.read_unread, readCov_ld, read_cons_put, read_nil, put_all_dq, put_all_dk, put_all_dck, put_all_dcq, ld_put_dcq, ld_put_dck]
      first | rfl | exact (read_cons_put _ _ _ _ _).trans (put_all (s := S512x128) ![0, 0] (by decide) _ _)
    isplitl [H8]
    · iexists _; isplitr; swap; · iexact H8
      ipureintro
      sl_unfold_words; simp only [View.readAt_eq_ld, Memref.IsWhole.read_unread, readCov_ld, read_cons_put, read_nil, put_all_dq, put_all_dk, put_all_dck, put_all_dcq, ld_put_dcq, ld_put_dck]
      first | rfl | exact (read_cons_put _ _ _ _ _).trans (put_all (s := S512x128) ![0, 0] (by decide) _ _)
    isplitl [H9]
    · iexists _; isplitr; swap; · iexact H9
      ipureintro
      sl_unfold_words; simp only [View.readAt_eq_ld, Memref.IsWhole.read_unread, readCov_ld, read_cons_put, read_nil, put_all_dq, put_all_dk, put_all_dck, put_all_dcq, ld_put_dcq, ld_put_dck]
      first | rfl | exact (read_cons_put _ _ _ _ _).trans (congrArg _ ((read_cons_put _ _ _ _ _).trans (congrArg _ ((read_cons_put _ _ _ _ _).trans (put_all (s := S2x1x512) ![0, 0, 0] (by decide) _ _)))))
    iexists _; isplitr; swap; · iexact H10
    ipureintro
    sl_unfold_words; simp only [View.readAt_eq_ld, Memref.IsWhole.read_unread, readCov_ld, read_cons_put, read_nil, put_all_dq, put_all_dk, put_all_dck, put_all_dcq, ld_put_dcq, ld_put_dck]
    first | rfl | exact (read_cons_put _ _ _ _ _).trans (congrArg _ ((read_cons_put _ _ _ _ _).trans (congrArg _ (read_nil harg13 y10))))

end Cert.Fox

end
-- ==== Proof.Grid.lean ====
/-
  The grid: what one point leaves in each output block given what it finds there (`stepDq` …), the pipeline's proof data
  stated with these relations, the body's obligation at every point, and the run of the whole program: every output array
  then holds what the points left, and the arguments are unchanged.
-/
module

public import proofs.«01_k».proof.Proof.RunA
public import proofs.«01_k».proof.Proof.RunB
public import proofs.«01_k».proof.Proof.RunC
public import proofs.«01_k».proof.Proof.RunD
public import Idealize.ShloMosaic.Lib.Pipeline.ArrRel

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where the body's conditions hold -/

theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcond2 : ∀ t : Fin cfg0.N, k0_cond2 (grid0.coords t) = 1#1 ↔ t.val / 4 % 4 = t.val % 4 :=
  (by decide +kernel : ∀ t : Fin grid0.N, k0_cond2 (grid0.coords t) = 1#1 ↔ t.val / 4 % 4 = t.val % 4)
theorem hcond3 : ∀ t : Fin cfg0.N, k0_cond3 (grid0.coords t) = 1#1 ↔ t.val / 4 % 4 + 1 ≤ t.val % 4 :=
  (by decide +kernel : ∀ t : Fin grid0.N, k0_cond3 (grid0.coords t) = 1#1 ↔ t.val / 4 % 4 + 1 ≤ t.val % 4)
theorem hcond4 : ∀ t : Fin cfg0.N, k0_cond4 (grid0.coords t) = 1#1 ↔ t.val / 4 % 4 = t.val % 4 :=
  (by decide +kernel : ∀ t : Fin grid0.N, k0_cond4 (grid0.coords t) = 1#1 ↔ t.val / 4 % 4 = t.val % 4)

/-! ## What a point leaves -/

/-- What point `t` leaves of the queries' gradient, found at `y`. -/
def stepDq (c : Dev nD) (t : Fin cfg0.N) (y x : Vec F S2048x128 .f32) : Prop :=
  (∀ h : k0_cond3 (grid0.coords t) = 1#1, x = offDq (iblk m c 0 t) (iblk m c 1 t) (iblk m c 2 t) (iblk m c 3 t) (iblk m c 4 t) (iblk m c 5 t) (grid0.coords t) y h)
  ∧ (∀ h : k0_cond4 (grid0.coords t) = 1#1, x = diaDq (iblk m c 0 t) (iblk m c 1 t) (iblk m c 2 t) (iblk m c 3 t) (iblk m c 4 t) (iblk m c 5 t) (grid0.coords t) (if t.val % 16 = 0 then k0_pay2 (F := F) else y) h)
  ∧ (t.val % 4 < t.val / 4 % 4 → x = y)

/-- What point `t` leaves of the keys' gradient, found at `y`. -/
def stepDk (c : Dev nD) (t : Fin cfg0.N) (y x : Vec F S512x128 .f32) : Prop :=
  (∀ h : k0_cond3 (grid0.coords t) = 1#1, x = offDk (iblk m c 0 t) (iblk m c 1 t) (iblk m c 2 t) (iblk m c 3 t) (iblk m c 4 t) (iblk m c 5 t) y)
  ∧ (∀ h : k0_cond4 (grid0.coords t) = 1#1, x = diaDk (iblk m c 0 t) (iblk m c 1 t) (iblk m c 2 t) (iblk m c 3 t) (iblk m c 4 t) (iblk m c 5 t))
  ∧ (t.val % 4 < t.val / 4 % 4 → x = y)

/-- What point `t` leaves of the values' gradient, found at `y`. -/
def stepDv (c : Dev nD) (t : Fin cfg0.N) (y x : Vec F S512x128 .f32) : Prop :=
  (∀ h : k0_cond3 (grid0.coords t) = 1#1, x = offDv (iblk m c 0 t) (iblk m c 1 t) (iblk m c 3 t) (iblk m c 5 t) y)
  ∧ (∀ h : k0_cond4 (grid0.coords t) = 1#1, x = diaDv (iblk m c 0 t) (iblk m c 1 t) (iblk m c 3 t) (iblk m c 5 t))
  ∧ (t.val % 4 < t.val / 4 % 4 → x = y)

/-- What point `t` leaves of the gate sums over queries, found at `y`. -/
def stepDck (c : Dev nD) (t : Fin cfg0.N) (y x : Vec F S2x1x512 .f32) : Prop :=
  (∀ h : k0_cond3 (grid0.coords t) = 1#1, x = offDck (iblk m c 0 t) (iblk m c 1 t) (iblk m c 2 t) (iblk m c 3 t) (iblk m c 4 t) (iblk m c 5 t) y)
  ∧ (∀ h : k0_cond4 (grid0.coords t) = 1#1, x = diaDck (iblk m c 0 t) (iblk m c 1 t) (iblk m c 2 t) (iblk m c 3 t) (iblk m c 4 t) (iblk m c 5 t))
  ∧ (t.val % 4 < t.val / 4 % 4 → x = y)

/-- What point `t` leaves of the gate sums over keys, found at `y`. -/
def stepDcq (c : Dev nD) (t : Fin cfg0.N) (y x : Vec F S2x4x16x512 .f32) : Prop :=
  (∀ h : k0_cond3 (grid0.coords t) = 1#1, x = offDcq (iblk m c 0 t) (iblk m c 1 t) (iblk m c 2 t) (iblk m c 3 t) (iblk m c 4 t) (iblk m c 5 t) (grid0.coords t) y h)
  ∧ (∀ h : k0_cond4 (grid0.coords t) = 1#1, x = diaDcq (iblk m c 0 t) (iblk m c 1 t) (iblk m c 2 t) (iblk m c 3 t) (iblk m c 4 t) (iblk m c 5 t) (grid0.coords t) (if t.val % 16 = 0 then k0_pay3 (F := F) else y) h)
  ∧ (t.val % 4 < t.val / 4 % 4 → x = y)

/-! ## The proof data -/

/-- The arrays as the region finds them and each input's block; of the outputs nothing yet. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m c).A w = V m c (Pipeline.arrRef spec0 w) := by
  dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]

/-- The outputs' relations. -/
def outRel (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (fun t y x => stepDq m c t y x)
  | ⟨7, _⟩ => some (fun t y x => stepDk m c t y x)
  | ⟨8, _⟩ => some (fun t y x => stepDv m c t y x)
  | ⟨9, _⟩ => some (fun t y x => stepDck m c t y x)
  | ⟨10, _⟩ => some (fun t y x => stepDcq m c t y x)

/-- The proof data: inputs stay, each output changes by its relation. -/
def rdat (c : Dev nD) : RDat τ (Elt F) Unit ℕ (UR sig nD τ) ℕ cfg0 c := (dats m c).toR.override (outRel m c)

theorem finds_0 (c : Dev nD) (t : Fin cfg0.N) (Y) (h : (rdat m c).Finds 0 t Y) : Y = iblk m c 0 t := by
  obtain ⟨d, rfl⟩ := (dats m c).toR_finds 0 t Y (((dats m c).toR.override_finds (ovr := outRel m c) (w := 0) rfl t Y).mp h)
  exact before0_0_of m (dats m c) (A_eq m c 0) (after_0 m c) t d
theorem leaves_0 (c : Dev nD) (t : Fin cfg0.N) (Y) : (rdat m c).after 0 t Y (iblk m c 0 t) := by
  show (dats m c).Leaves 0 t _
  rw [Dat.Leaves.live_iff _ (Or.inl rfl)]
  exact (after_0 m c t).symm
theorem finds_1 (c : Dev nD) (t : Fin cfg0.N) (Y) (h : (rdat m c).Finds 1 t Y) : Y = iblk m c 1 t := by
  obtain ⟨d, rfl⟩ := (dats m c).toR_finds 1 t Y (((dats m c).toR.override_finds (ovr := outRel m c) (w := 1) rfl t Y).mp h)
  exact before0_1_of m (dats m c) (A_eq m c 1) (after_1 m c) t d
theorem leaves_1 (c : Dev nD) (t : Fin cfg0.N) (Y) : (rdat m c).after 1 t Y (iblk m c 1 t) := by
  show (dats m c).Leaves 1 t _
  rw [Dat.Leaves.live_iff _ (Or.inl rfl)]
  exact (after_1 m c t).symm
theorem finds_2 (c : Dev nD) (t : Fin cfg0.N) (Y) (h : (rdat m c).Finds 2 t Y) : Y = iblk m c 2 t := by
  obtain ⟨d, rfl⟩ := (dats m c).toR_finds 2 t Y (((dats m c).toR.override_finds (ovr := outRel m c) (w := 2) rfl t Y).mp h)
  exact before0_2_of m (dats m c) (A_eq m c 2) (after_2 m c) t d
theorem leaves_2 (c : Dev nD) (t : Fin cfg0.N) (Y) : (rdat m c).after 2 t Y (iblk m c 2 t) := by
  show (dats m c).Leaves 2 t _
  rw [Dat.Leaves.live_iff _ (Or.inl rfl)]
  exact (after_2 m c t).symm
theorem finds_3 (c : Dev nD) (t : Fin cfg0.N) (Y) (h : (rdat m c).Finds 3 t Y) : Y = iblk m c 3 t := by
  obtain ⟨d, rfl⟩ := (dats m c).toR_finds 3 t Y (((dats m c).toR.override_finds (ovr := outRel m c) (w := 3) rfl t Y).mp h)
  exact before0_3_of m (dats m c) (A_eq m c 3) (after_3 m c) t d
theorem leaves_3 (c : Dev nD) (t : Fin cfg0.N) (Y) : (rdat m c).after 3 t Y (iblk m c 3 t) := by
  show (dats m c).Leaves 3 t _
  rw [Dat.Leaves.live_iff _ (Or.inl rfl)]
  exact (after_3 m c t).symm
theorem finds_4 (c : Dev nD) (t : Fin cfg0.N) (Y) (h : (rdat m c).Finds 4 t Y) : Y = iblk m c 4 t := by
  obtain ⟨d, rfl⟩ := (dats m c).toR_finds 4 t Y (((dats m c).toR.override_finds (ovr := outRel m c) (w := 4) rfl t Y).mp h)
  exact before0_4_of m (dats m c) (A_eq m c 4) (after_4 m c) t d
theorem leaves_4 (c : Dev nD) (t : Fin cfg0.N) (Y) : (rdat m c).after 4 t Y (iblk m c 4 t) := by
  show (dats m c).Leaves 4 t _
  rw [Dat.Leaves.live_iff _ (Or.inl rfl)]
  exact (after_4 m c t).symm
theorem finds_5 (c : Dev nD) (t : Fin cfg0.N) (Y) (h : (rdat m c).Finds 5 t Y) : Y = iblk m c 5 t := by
  obtain ⟨d, rfl⟩ := (dats m c).toR_finds 5 t Y (((dats m c).toR.override_finds (ovr := outRel m c) (w := 5) rfl t Y).mp h)
  exact before0_5_of m (dats m c) (A_eq m c 5) (after_5 m c) t d
theorem leaves_5 (c : Dev nD) (t : Fin cfg0.N) (Y) : (rdat m c).after 5 t Y (iblk m c 5 t) := by
  show (dats m c).Leaves 5 t _
  rw [Dat.Leaves.live_iff _ (Or.inl rfl)]
  exact (after_5 m c t).symm
theorem after_6 (c : Dev nD) (t : Fin cfg0.N) (Y X) : (rdat m c).after 6 t Y X = stepDq m c t Y X := rfl
theorem after_7 (c : Dev nD) (t : Fin cfg0.N) (Y X) : (rdat m c).after 7 t Y X = stepDk m c t Y X := rfl
theorem after_8 (c : Dev nD) (t : Fin cfg0.N) (Y X) : (rdat m c).after 8 t Y X = stepDv m c t Y X := rfl
theorem after_9 (c : Dev nD) (t : Fin cfg0.N) (Y X) : (rdat m c).after 9 t Y X = stepDck m c t Y X := rfl
theorem after_10 (c : Dev nD) (t : Fin cfg0.N) (Y X) : (rdat m c).after 10 t Y X = stepDcq m c t Y X := rfl

/-! ## The body's obligation -/

/-- Each window's current staging block at a point. -/
abbrev ms0 (t : Fin cfg0.N) : Memref sig .tc .vmem S2x512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x512x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x1x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x4x16x512 .f32 := win0_10.stage (cfg0.slots t 10)
abbrev hs10 (t : Fin cfg0.N) : (ms10 t).IsWhole := hstage0_10 ((cfg0.slots t 10).cast nbuf0_10)

def bodyPre (c : Dev nD) (t : Fin cfg0.N) (y6 : Vec F S2048x128 .f32) (y7 : Vec F S512x128 .f32) (y8 : Vec F S512x128 .f32) (y9 : Vec F S2x1x512 .f32) (y10 : Vec F S2x4x16x512 .f32) : sProp 𝕄 :=
  iprop((rdat m c).Φ t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare y6
    ∗ owns (c : Thread nD τ) (ms7 t) fullShare y7
    ∗ owns (c : Thread nD τ) (ms8 t) fullShare y8
    ∗ owns (c : Thread nD τ) (ms9 t) fullShare y9
    ∗ owns (c : Thread nD τ) (ms10 t) fullShare y10)
def bodyPost (c : Dev nD) (t : Fin cfg0.N) (y6 : Vec F S2048x128 .f32) (y7 : Vec F S512x128 .f32) (y8 : Vec F S512x128 .f32) (y9 : Vec F S2x1x512 .f32) (y10 : Vec F S2x4x16x512 .f32) : sProp 𝕄 :=
  iprop((rdat m c).Φ t.succ ∗ (rdat m c).owesAt () t.succ
    ∗ (∃ X, ⌜(rdat m c).after 0 t (iblk m c 0 t) X⌝ ∗ owns (c : Thread nD τ) (ms0 t) fullShare X)
    ∗ (∃ X, ⌜(rdat m c).after 1 t (iblk m c 1 t) X⌝ ∗ owns (c : Thread nD τ) (ms1 t) fullShare X)
    ∗ (∃ X, ⌜(rdat m c).after 2 t (iblk m c 2 t) X⌝ ∗ owns (c : Thread nD τ) (ms2 t) fullShare X)
    ∗ (∃ X, ⌜(rdat m c).after 3 t (iblk m c 3 t) X⌝ ∗ owns (c : Thread nD τ) (ms3 t) fullShare X)
    ∗ (∃ X, ⌜(rdat m c).after 4 t (iblk m c 4 t) X⌝ ∗ owns (c : Thread nD τ) (ms4 t) fullShare X)
    ∗ (∃ X, ⌜(rdat m c).after 5 t (iblk m c 5 t) X⌝ ∗ owns (c : Thread nD τ) (ms5 t) fullShare X)
    ∗ (∃ X, ⌜stepDq m c t y6 X⌝ ∗ owns (c : Thread nD τ) (ms6 t) fullShare X)
    ∗ (∃ X, ⌜stepDk m c t y7 X⌝ ∗ owns (c : Thread nD τ) (ms7 t) fullShare X)
    ∗ (∃ X, ⌜stepDv m c t y8 X⌝ ∗ owns (c : Thread nD τ) (ms8 t) fullShare X)
    ∗ (∃ X, ⌜stepDck m c t y9 X⌝ ∗ owns (c : Thread nD τ) (ms9 t) fullShare X)
    ∗ (∃ X, ⌜stepDcq m c t y10 X⌝ ∗ owns (c : Thread nD τ) (ms10 t) fullShare X))

set_option maxHeartbeats 3200000 in
theorem sound_body (c : Dev nD) (t : Fin cfg0.N) (y6 : Vec F S2048x128 .f32) (y7 : Vec F S512x128 .f32) (y8 : Vec F S512x128 .f32) (y9 : Vec F S2x1x512 .f32) (y10 : Vec F S2x4x16x512 .f32) :
    bodyPre m c t y6 y7 y8 y9 y10 ⊢ wp frame (wpE (defs₀ (F := F)) Variants.none c none) Set.univ (bodyAt0 t) (fun _ => bodyPost m c t y6 y7 y8 y9 y10) := by
  unfold bodyPre bodyPost bodyAt0
  rw [show (rdat m c).Φ t.succ = (rdat m c).Φ t.castSucc from rfl,
    show (rdat m c).owesAt () t.succ = (rdat m c).owesAt () t.castSucc from rfl]
  have hN : t.val < 64 := lt_of_lt_of_eq t.isLt (show cfg0.N = 64 from N_0)
  by_cases h1 : t.val / 4 % 4 = t.val % 4
  · have h2 : ¬ (t.val / 4 % 4 + 1 ≤ t.val % 4) := by omega
    by_cases h0 : t.val % 16 = 0
    · iintro ⟨HΦ, Ho, H0, H1, H2, H3, H4, H5, H6, H7, H8, H9, H10⟩
      iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond1 t).mpr h0) ((hcond2 t).mpr h1) (fun h => h2 ((hcond3 t).mp h)) ((hcond4 t).mpr h1) (iblk m c 0 t) (iblk m c 1 t) (iblk m c 2 t) (iblk m c 3 t) (iblk m c 4 t) (iblk m c 5 t) y6 y7 y8 y9 y10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]
      · iexists _; isplitr; · ipureintro; exact leaves_0 m c t _
        iexact H0
      isplitl [H1]
      · iexists _; isplitr; · ipureintro; exact leaves_1 m c t _
        iexact H1
      isplitl [H2]
      · iexists _; isplitr; · ipureintro; exact leaves_2 m c t _
        iexact H2
      isplitl [H3]
      · iexists _; isplitr; · ipureintro; exact leaves_3 m c t _
        iexact H3
      isplitl [H4]
      · iexists _; isplitr; · ipureintro; exact leaves_4 m c t _
        iexact H4
      isplitl [H5]
      · iexists _; isplitr; · ipureintro; exact leaves_5 m c t _
        iexact H5
      isplitl [H6]
      · iexists (diaDq (iblk m c 0 t) (iblk m c 1 t) (iblk m c 2 t) (iblk m c 3 t) (iblk m c 4 t) (iblk m c 5 t) (grid0.coords t) (k0_pay2 (F := F)) ((hcond4 t).mpr h1)); isplitr; · ipureintro; exact ⟨fun h => absurd ((hcond3 t).mp h) h2, fun _ => by rw [if_pos h0], fun h => absurd h (by omega)⟩
        iexact H6
      isplitl [H7]
      · iexists _; isplitr; · ipureintro; exact ⟨fun h => absurd ((hcond3 t).mp h) h2, fun _ => rfl, fun h => absurd h (by omega)⟩
        iexact H7
      isplitl [H8]
      · iexists _; isplitr; · ipureintro; exact ⟨fun h => absurd ((hcond3 t).mp h) h2, fun _ => rfl, fun h => absurd h (by omega)⟩
        iexact H8
      isplitl [H9]
      · iexists _; isplitr; · ipureintro; exact ⟨fun h => absurd ((hcond3 t).mp h) h2, fun _ => rfl, fun h => absurd h (by omega)⟩
        iexact H9
      iexists (diaDcq (iblk m c 0 t) (iblk m c 1 t) (iblk m c 2 t) (iblk m c 3 t) (iblk m c 4 t) (iblk m c 5 t) (grid0.coords t) (k0_pay3 (F := F)) ((hcond4 t).mpr h1)); isplitr; · ipureintro; exact ⟨fun h => absurd ((hcond3 t).mp h) h2, fun _ => by rw [if_pos h0], fun h => absurd h (by omega)⟩
      iexact H10
    · iintro ⟨HΦ, Ho, H0, H1, H2, H3, H4, H5, H6, H7, H8, H9, H10⟩
      iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond1 t).mp h)) ((hcond2 t).mpr h1) (fun h => h2 ((hcond3 t).mp h)) ((hcond4 t).mpr h1) (iblk m c 0 t) (iblk m c 1 t) (iblk m c 2 t) (iblk m c 3 t) (iblk m c 4 t) (iblk m c 5 t) y6 y7 y8 y9 y10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]
      · iexists _; isplitr; · ipureintro; exact leaves_0 m c t _
        iexact H0
      isplitl [H1]
      · iexists _; isplitr; · ipureintro; exact leaves_1 m c t _
        iexact H1
      isplitl [H2]
      · iexists _; isplitr; · ipureintro; exact leaves_2 m c t _
        iexact H2
      isplitl [H3]
      · iexists _; isplitr; · ipureintro; exact leaves_3 m c t _
        iexact H3
      isplitl [H4]
      · iexists _; isplitr; · ipureintro; exact leaves_4 m c t _
        iexact H4
      isplitl [H5]
      · iexists _; isplitr; · ipureintro; exact leaves_5 m c t _
        iexact H5
      isplitl [H6]
      · iexists (diaDq (iblk m c 0 t) (iblk m c 1 t) (iblk m c 2 t) (iblk m c 3 t) (iblk m c 4 t) (iblk m c 5 t) (grid0.coords t) y6 ((hcond4 t).mpr h1)); isplitr; · ipureintro; exact ⟨fun h => absurd ((hcond3 t).mp h) h2, fun _ => by rw [if_neg h0], fun h => absurd h (by omega)⟩
        iexact H6
      isplitl [H7]
      · iexists _; isplitr; · ipureintro; exact ⟨fun h => absurd ((hcond3 t).mp h) h2, fun _ => rfl, fun h => absurd h (by omega)⟩
        iexact H7
      isplitl [H8]
      · iexists _; isplitr; · ipureintro; exact ⟨fun h => absurd ((hcond3 t).mp h) h2, fun _ => rfl, fun h => absurd h (by omega)⟩
        iexact H8
      isplitl [H9]
      · iexists _; isplitr; · ipureintro; exact ⟨fun h => absurd ((hcond3 t).mp h) h2, fun _ => rfl, fun h => absurd h (by omega)⟩
        iexact H9
      iexists (diaDcq (iblk m c 0 t) (iblk m c 1 t) (iblk m c 2 t) (iblk m c 3 t) (iblk m c 4 t) (iblk m c 5 t) (grid0.coords t) y10 ((hcond4 t).mpr h1)); isplitr; · ipureintro; exact ⟨fun h => absurd ((hcond3 t).mp h) h2, fun _ => by rw [if_neg h0], fun h => absurd h (by omega)⟩
      iexact H10
  · have h0 : ¬ t.val % 16 = 0 := by omega
    by_cases h2 : t.val / 4 % 4 + 1 ≤ t.val % 4
    · iintro ⟨HΦ, Ho, H0, H1, H2, H3, H4, H5, H6, H7, H8, H9, H10⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond1 t).mp h)) (fun h => h1 ((hcond2 t).mp h)) ((hcond3 t).mpr h2) (fun h => h1 ((hcond4 t).mp h)) (iblk m c 0 t) (iblk m c 1 t) (iblk m c 2 t) (iblk m c 3 t) (iblk m c 4 t) (iblk m c 5 t) y6 y7 y8 y9 y10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]
      · iexists _; isplitr; · ipureintro; exact leaves_0 m c t _
        iexact H0
      isplitl [H1]
      · iexists _; isplitr; · ipureintro; exact leaves_1 m c t _
        iexact H1
      isplitl [H2]
      · iexists _; isplitr; · ipureintro; exact leaves_2 m c t _
        iexact H2
      isplitl [H3]
      · iexists _; isplitr; · ipureintro; exact leaves_3 m c t _
        iexact H3
      isplitl [H4]
      · iexists _; isplitr; · ipureintro; exact leaves_4 m c t _
        iexact H4
      isplitl [H5]
      · iexists _; isplitr; · ipureintro; exact leaves_5 m c t _
        iexact H5
      isplitl [H6]
      · iexists (offDq (iblk m c 0 t) (iblk m c 1 t) (iblk m c 2 t) (iblk m c 3 t) (iblk m c 4 t) (iblk m c 5 t) (grid0.coords t) y6 ((hcond3 t).mpr h2)); isplitr; · ipureintro; exact ⟨fun _ => rfl, fun h => absurd ((hcond4 t).mp h) h1, fun h => absurd h (by omega)⟩
        iexact H6
      isplitl [H7]
      · iexists _; isplitr; · ipureintro; exact ⟨fun _ => rfl, fun h => absurd ((hcond4 t).mp h) h1, fun h => absurd h (by omega)⟩
        iexact H7
      isplitl [H8]
      · iexists _; isplitr; · ipureintro; exact ⟨fun _ => rfl, fun h => absurd ((hcond4 t).mp h) h1, fun h => absurd h (by omega)⟩
        iexact H8
      isplitl [H9]
      · iexists _; isplitr; · ipureintro; exact ⟨fun _ => rfl, fun h => absurd ((hcond4 t).mp h) h1, fun h => absurd h (by omega)⟩
        iexact H9
      iexists (offDcq (iblk m c 0 t) (iblk m c 1 t) (iblk m c 2 t) (iblk m c 3 t) (iblk m c 4 t) (iblk m c 5 t) (grid0.coords t) y10 ((hcond3 t).mpr h2)); isplitr; · ipureintro; exact ⟨fun _ => rfl, fun h => absurd ((hcond4 t).mp h) h1, fun h => absurd h (by omega)⟩
      iexact H10
    · iintro ⟨HΦ, Ho, H0, H1, H2, H3, H4, H5, H6, H7, H8, H9, H10⟩
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond1 t).mp h)) (fun h => h1 ((hcond2 t).mp h)) (fun h => h2 ((hcond3 t).mp h)) (fun h => h1 ((hcond4 t).mp h)) (iblk m c 0 t) (iblk m c 1 t) (iblk m c 2 t) (iblk m c 3 t) (iblk m c 4 t) (iblk m c 5 t) y6 y7 y8 y9 y10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]
      · iexists _; isplitr; · ipureintro; exact leaves_0 m c t _
        iexact H0
      isplitl [H1]
      · iexists _; isplitr; · ipureintro; exact leaves_1 m c t _
        iexact H1
      isplitl [H2]
      · iexists _; isplitr; · ipureintro; exact leaves_2 m c t _
        iexact H2
      isplitl [H3]
      · iexists _; isplitr; · ipureintro; exact leaves_3 m c t _
        iexact H3
      isplitl [H4]
      · iexists _; isplitr; · ipureintro; exact leaves_4 m c t _
        iexact H4
      isplitl [H5]
      · iexists _; isplitr; · ipureintro; exact leaves_5 m c t _
        iexact H5
      isplitl [H6]
      · iexists y6; isplitr; · ipureintro; exact ⟨fun h => absurd ((hcond3 t).mp h) h2, fun h => absurd ((hcond4 t).mp h) h1, fun _ => rfl⟩
        iexact H6
      isplitl [H7]
      · iexists _; isplitr; · ipureintro; exact ⟨fun h => absurd ((hcond3 t).mp h) h2, fun h => absurd ((hcond4 t).mp h) h1, fun _ => rfl⟩
        iexact H7
      isplitl [H8]
      · iexists _; isplitr; · ipureintro; exact ⟨fun h => absurd ((hcond3 t).mp h) h2, fun h => absurd ((hcond4 t).mp h) h1, fun _ => rfl⟩
        iexact H8
      isplitl [H9]
      · iexists _; isplitr; · ipureintro; exact ⟨fun h => absurd ((hcond3 t).mp h) h2, fun h => absurd ((hcond4 t).mp h) h1, fun _ => rfl⟩
        iexact H9
      iexists y10; isplitr; · ipureintro; exact ⟨fun h => absurd ((hcond3 t).mp h) h2, fun h => absurd ((hcond4 t).mp h) h1, fun _ => rfl⟩
      iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have e0 := finds_0 m c t _ (hY 0)
  have e1 := finds_1 m c t _ (hY 1)
  have e2 := finds_2 m c t _ (hY 2)
  have e3 := finds_3 m c t _ (hY 3)
  have e4 := finds_4 m c t _ (hY 4)
  have e5 := finds_5 m c t _ (hY 5)
  rw [e0, e1, e2, e3, e4, e5]
  exact sound_body m c t (Y 6) (Y 7) (Y 8) (Y 9) (Y 10)

/-! ## The run -/

set_option backward.isDefEq.respectTransparency.types false in
/-- The program runs; at the end every output array holds blocks the points may have left, every other array is as
    launched, and every counter is at zero. -/
theorem run_main : θ_run defs (onTc (τ := τ) (main (F := F))) (s₀ m ρ)
    (fun r => (Pipeline.RDat.FramePost (cfgs 0) (fun c => rdat m c) (V m)) r ∧ r.2.sem = fun _ => 0) :=
  Pipeline.RDat.θ_run_frame (Q' := _) cfgs (0 : Fin 1) launch0 defs₀ Variants.none (fun c => rdat m c) m ρ main
    (hbody := fun c => body_obligation m c) (hshare := fun c => (dats m c).share_full fun _ => rfl)
    (howed := fun _ _ => rfl) (V := V m) (hmain := hmain m Variants.none) (hA := A_eq m) (hΦ := fun _ _ => rfl)

set_option maxHeartbeats 3200000 in
/-- What the run says of the argument arrays. -/
theorem args_of {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 2 rfl).trans ((A_eq m c 2).trans (V_main_arg0 m c)),
    ((h c).2 main_arg1 (Pipeline.mem_restRefs_of main_arg1 (by decide) (by decide))).trans (V_main_arg1 m c),
    (h.arr_in c 3 rfl).trans ((A_eq m c 3).trans (V_main_arg2 m c))⟩

/-- The program runs, leaves its arguments unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_of m h.1 c, h.2⟩) (run_main m ρ)

end Cert.Fox

end
-- ==== Proof.Attn.lean ====
/-
  Forgetting attention over the reals, and the gradients of its five inputs: the mathematics that both programs compute.
-/
module

public import Idealize.ShloMosaic.Lib.Pointwise

@[expose] public section

noncomputable section

namespace Cert.Fox

/-- The attention's inputs by head, position and feature: queries, keys, values, the result's gradient, and by head and
    position the running sum of the forget gates' logarithms. -/
structure Args where
  q : Fin 8 → Fin 2048 → Fin 64 → ℝ
  k : Fin 8 → Fin 2048 → Fin 64 → ℝ
  v : Fin 8 → Fin 2048 → Fin 64 → ℝ
  g : Fin 8 → Fin 2048 → Fin 64 → ℝ
  u : Fin 8 → Fin 2048 → ℝ

namespace Args

variable (A : Args) (h : Fin 8) (a b : Fin 2048) (d : Fin 64)

/-- The logit of key `b` for query `a`. -/
def lg : ℝ := (∑ d, A.q h a d * A.k h b d) * (1 / 8) + A.u h a - A.u h b

/-- Its exponential where the key is not after the query. -/
def ew : ℝ := if b ≤ a then Real.exp (A.lg h a b) else 0

/-- The sum of a query's exponentials. -/
def Z : ℝ := ∑ b, A.ew h a b

/-- The attention weight. -/
def pr : ℝ := A.ew h a b / A.Z h a

/-- The attention's result. -/
def out : ℝ := ∑ b, A.pr h a b * A.v h b d

/-- The weight's gradient. -/
def dpr : ℝ := ∑ d, A.g h a d * A.v h b d

/-- The weights' gradients averaged with the weights. -/
def avg : ℝ := ∑ b, A.pr h a b * A.dpr h a b

/-- The logit's gradient. -/
def ds : ℝ := A.pr h a b * (A.dpr h a b - A.avg h a)

theorem ew_nonneg : 0 ≤ A.ew h a b := by
  unfold ew; split_ifs <;> [exact (Real.exp_pos _).le; exact le_rfl]

theorem Z_pos : 0 < A.Z h a :=
  Finset.sum_pos' (fun b _ => A.ew_nonneg h a b) ⟨a, Finset.mem_univ _, by simp [ew, Real.exp_pos]⟩

theorem pr_above (hab : ¬ b ≤ a) : A.pr h a b = 0 := by simp [pr, ew, hab]

theorem ds_above (hab : ¬ b ≤ a) : A.ds h a b = 0 := by simp [ds, A.pr_above h a b hab]

/-- The averaged gradient is the result's gradient against the result. -/
theorem avg_eq : A.avg h a = ∑ d, A.g h a d * A.out h a d := by
  simp only [avg, dpr, out, Finset.mul_sum]
  rw [Finset.sum_comm]
  exact Finset.sum_congr rfl fun d _ => Finset.sum_congr rfl fun b _ => by ring

end Args

/-- A finite sum of reals, as an extended real. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The largest of a family of reals and `⊥`, one at least real, is real. -/
theorem fold_max_real {ι : Type} (s : Finset ι) (f : ι → EReal) (i₀ : ι) (hi₀ : i₀ ∈ s) (r₀ : ℝ) (h₀ : f i₀ = r₀)
    (hf : ∀ i ∈ s, f i ≠ ⊤) : ∃ r : ℝ, s.fold max ⊥ f = r := by
  have h1 : s.fold max ⊥ f ≠ ⊥ := by
    have : f i₀ ≤ s.fold max ⊥ f := Finset.le_fold_max _ |>.2 (Or.inr ⟨i₀, hi₀, le_rfl⟩)
    intro h; rw [h, h₀] at this; simp at this
  have h2 : s.fold max ⊥ f ≠ ⊤ := by
    intro h
    have : (⊤ : EReal) ≤ s.fold max ⊥ f := h ▸ le_rfl
    rcases (Finset.le_fold_max _).1 this with h' | ⟨i, hi, h'⟩
    · simp at h'
    · exact hf i hi (top_le_iff.1 h')
  exact ⟨_, (EReal.coe_toReal h2 h1).symm⟩

end Cert.Fox

end
-- ==== Proof.RefDefs.lean ====
/-
  The reference's operations by stages, and its results as these stages' composition.
-/
module

public import proofs.«01_k».proof.Proof.Gen.ReferenceIdeal.Run
public import proofs.«01_k».proof.Proof.Attn
public import Idealize.ShloMosaic.Lib.IdealHost

@[expose] public section

set_option maxHeartbeats 1600000
set_option maxRecDepth 16384

noncomputable section

namespace Cert.Fox.Ref

open Idealize.ShloMosaic Cert.ReferenceIdeal Cert.ReferenceIdeal.Gen

variable (x0 : FVec Ideal S2048x3200 .f32) (x1 : FVec Ideal S8x2048 .f32) (x2 : FVec Ideal S2048x1024 .f32)

def heads (x : FVec Ideal S2048x512 .f32) : FVec Ideal S2048x8x64 .f32 := shapeCast _ x shapeCasts_S2048x512_S2048x8x64
def q3 : FVec Ideal S2048x8x64 .f32 := heads (extractStridedSlice S2048x512 ![0, 0] x0 slices_S2048x3200_S2048x512_0_0)
def k3 : FVec Ideal S2048x8x64 .f32 := heads (extractStridedSlice S2048x512 ![0, 512] x0 slices_S2048x3200_S2048x512_0_512)
def v3 : FVec Ideal S2048x8x64 .f32 := heads (extractStridedSlice S2048x512 ![0, 1024] x0 slices_S2048x3200_S2048x512_0_1024)
def gT : FVec Ideal S8x64x2048 .f32 := transpose S8x64x2048 [1, 2, 0] (heads (extractStridedSlice S2048x512 ![0, 0] x2 slices_S2048x1024_S2048x512_0_0)) transposes_S2048x8x64_S8x64x2048_1_2_0
def causal : IVec S8x2048x2048 1 := broadcastInDim S8x2048x2048 ![1, 2] bcast_S2048x2048_S8x2048x2048_1_2 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))
/-- The logits before the causal choice. -/
def raw : FVec Ideal S8x2048x2048 .f32 := subf (addf (mulf (Host.dotGeneral (F := Ideal) dot_S2048x8x64_S2048x8x64_S8x2048x2048_2_2_0_0_1_1 none (q3 x0 : FVec Ideal S2048x8x64 .f32) (k3 x0 : FVec Ideal S2048x8x64 .f32)) (broadcastInDim S8x2048x2048 ![] bcast_S_S8x2048x2048 (constant (F := Ideal) S_ .f32 0x3E000000#32))) (broadcastInDim S8x2048x2048 ![0, 1, 2] bcast_S8x2048x1_S8x2048x2048_0_1_2 (broadcastInDim S8x2048x1 ![0, 1] bcast_S8x2048_S8x2048x1_0_1 x1))) (broadcastInDim S8x2048x2048 ![0, 1, 2] bcast_S8x1x2048_S8x2048x2048_0_1_2 (broadcastInDim S8x1x2048 ![0, 2] bcast_S8x2048_S8x1x2048_0_2 x1))
def logits : FVec Ideal S8x2048x2048 .f32 := select causal (raw x0 x1) (broadcastInDim S8x2048x2048 ![] bcast_S_S8x2048x2048 (id (constant (F := Ideal) S_ .f32 0xFF800000#32)))
def mx0 : FVec Ideal S8x2048 .f32 := Host.reduce FloatOps.maximumf (logits x0 x1) (constant (F := Ideal) S_ .f32 0xFF800000#32) reducesTo_S8x2048x2048_S8x2048_d2 h_S_
def mx : FVec Ideal S8x2048 .f32 := maximumf (broadcastInDim S8x2048 ![] bcast_S_S8x2048 (constant (F := Ideal) S_ .f32 0xFF800000#32)) (mx0 x0 x1)
def ex : FVec Ideal S8x2048x2048 .f32 := Host.exp (subf (logits x0 x1) (broadcastInDim S8x2048x2048 ![0, 1, 2] bcast_S8x2048x1_S8x2048x2048_0_1_2 (broadcastInDim S8x2048x1 ![0, 1] bcast_S8x2048_S8x2048x1_0_1 (mx x0 x1))))
def tot : FVec Ideal S8x2048x1 .f32 := broadcastInDim S8x2048x1 ![0, 1] bcast_S8x2048_S8x2048x1_0_1 (Host.reduceAdd (ex x0 x1) (constant (F := Ideal) S_ .f32 0x00000000#32) reducesTo_S8x2048x2048_S8x2048_d2 h_S_)
def wt : FVec Ideal S8x2048x2048 .f32 := Host.divf (ex x0 x1) (broadcastInDim S8x2048x2048 ![0, 1, 2] bcast_S8x2048x1_S8x2048x2048_0_1_2 (tot x0 x1))
def dw : FVec Ideal S8x2048x2048 .f32 := Host.dotGeneral (F := Ideal) dot_S8x64x2048_S2048x8x64_S8x2048x2048_1_2_2_0_0_1 none (gT x2 : FVec Ideal S8x64x2048 .f32) (v3 x0 : FVec Ideal S2048x8x64 .f32)
def inv2 : FVec Ideal S8x2048x1 .f32 := Host.divf (broadcastInDim S8x2048x1 ![] bcast_S_S8x2048x1 (constant (F := Ideal) S_ .f32 0x3F800000#32)) (mulf (tot x0 x1) (tot x0 x1))
def corr : FVec Ideal S8x2048 .f32 := Host.reduceAdd (Host.negf (shapeCast S8x2048x1 (Host.reduceAdd (mulf (mulf (dw x0 x2) (broadcastInDim S8x2048x2048 ![0, 1, 2] bcast_S8x2048x1_S8x2048x2048_0_1_2 (inv2 x0 x1))) (ex x0 x1)) (constant (F := Ideal) S_ .f32 0x00000000#32) reducesTo_S8x2048x2048_S8x2048_d2 h_S_) shapeCasts_S8x2048_S8x2048x1)) (constant (F := Ideal) S_ .f32 0x00000000#32) reducesTo_S8x2048x1_S8x2048_d2 h_S_
def dlg : FVec Ideal S8x2048x2048 .f32 := select causal (mulf (addf (Host.divf (dw x0 x2) (broadcastInDim S8x2048x2048 ![0, 1, 2] bcast_S8x2048x1_S8x2048x2048_0_1_2 (tot x0 x1))) (broadcastInDim S8x2048x2048 ![0, 1] bcast_S8x2048_S8x2048x2048_0_1 (corr x0 x1 x2))) (ex x0 x1)) (broadcastInDim S8x2048x2048 ![] bcast_S_S8x2048x2048 (constant (F := Ideal) S_ .f32 0x00000000#32))
def dl8 : FVec Ideal S8x2048x2048 .f32 := mulf (dlg x0 x1 x2) (broadcastInDim S8x2048x2048 ![] bcast_S_S8x2048x2048 (constant (F := Ideal) S_ .f32 0x3E000000#32))
def rdv : FVec Ideal S2048x512 .f32 := shapeCast _ (transpose S2048x8x64 [2, 0, 1] (Host.dotGeneral (F := Ideal) dot_S8x64x2048_S8x2048x2048_S8x64x2048_2_1_1_2_0_0 none (gT x2 : FVec Ideal S8x64x2048 .f32) (wt x0 x1 : FVec Ideal S8x2048x2048 .f32) : FVec Ideal S8x64x2048 .f32) transposes_S8x64x2048_S2048x8x64_2_0_1) shapeCasts_S2048x8x64_S2048x512
def rdk : FVec Ideal S2048x512 .f32 := shapeCast _ (transpose S2048x8x64 [1, 0, 2] (Host.dotGeneral (F := Ideal) dot_S8x2048x2048_S2048x8x64_S8x2048x64_1_0_2_2_0_1 none (dl8 x0 x1 x2 : FVec Ideal S8x2048x2048 .f32) (q3 x0 : FVec Ideal S2048x8x64 .f32) : FVec Ideal S8x2048x64 .f32) transposes_S8x2048x64_S2048x8x64_1_0_2) shapeCasts_S2048x8x64_S2048x512
def rdq : FVec Ideal S2048x512 .f32 := shapeCast _ (transpose S2048x8x64 [1, 0, 2] (Host.dotGeneral (F := Ideal) dot_S8x2048x2048_S2048x8x64_S8x2048x64_2_0_1_2_0_1 none (dl8 x0 x1 x2 : FVec Ideal S8x2048x2048 .f32) (k3 x0 : FVec Ideal S2048x8x64 .f32) : FVec Ideal S8x2048x64 .f32) transposes_S8x2048x64_S2048x8x64_1_0_2) shapeCasts_S2048x8x64_S2048x512
def rdck : FVec Ideal S8x1x2048 .f32 := Host.negf (broadcastInDim S8x1x2048 ![0, 2] bcast_S8x2048_S8x1x2048_0_2 (Host.reduceAdd (shapeCast S8x1x2048 (Host.reduceAdd (Host.negf (dlg x0 x1 x2)) (constant (F := Ideal) S_ .f32 0x00000000#32) reducesTo_S8x2048x2048_S8x2048_d1 h_S_) shapeCasts_S8x2048_S8x1x2048) (constant (F := Ideal) S_ .f32 0x00000000#32) reducesTo_S8x1x2048_S8x2048_d1 h_S_))
def rdcq : FVec Ideal S8x4x16x512 .f32 := broadcastInDim S8x4x16x512 ![0, 1, 2, 3] bcast_S8x4x1x512_S8x4x16x512_0_1_2_3 (shapeCast S8x4x1x512 (Host.reduceAdd (shapeCast S8x2048x1 (Host.reduceAdd (dlg x0 x1 x2) (constant (F := Ideal) S_ .f32 0x00000000#32) reducesTo_S8x2048x2048_S8x2048_d2 h_S_) shapeCasts_S8x2048_S8x2048x1) (constant (F := Ideal) S_ .f32 0x00000000#32) reducesTo_S8x2048x1_S8x2048_d2 h_S_) shapeCasts_S8x2048_S8x4x1x512)

section
variable (m : (ℓ : Loc nD τ sig) → Buf (Elt Ideal) ℓ) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)
theorem res0_eq : Value.res_main_v88 m c = rdq X0 X1 X2 := by unfold Value.res_main_v88; rfl
theorem res1_eq : Value.res_main_v87 m c = rdk X0 X1 X2 := by unfold Value.res_main_v87; rfl
theorem res2_eq : Value.res_main_v60 m c = rdv X0 X1 X2 := by unfold Value.res_main_v60; rfl
theorem res3_eq : Value.res_main_v90 m c = rdck X0 X1 X2 := by unfold Value.res_main_v90; rfl
theorem res4_eq : Value.res_main_v92 m c = rdcq X0 X1 X2 := by unfold Value.res_main_v92; rfl
end

end Cert.Fox.Ref

end
-- ==== Proof.RefReads.lean ====
/-
  The reference's stages read at an index.
-/
module

public import proofs.«01_k».proof.Proof.RefDefs

@[expose] public section

set_option maxHeartbeats 1600000
set_option maxRecDepth 16384

noncomputable section

namespace Cert.Fox.Ref

open Idealize.ShloMosaic Cert.ReferenceIdeal Cert.ReferenceIdeal.Gen

variable (x0 : FVec Ideal S2048x3200 .f32) (x1 : FVec Ideal S8x2048 .f32) (x2 : FVec Ideal S2048x1024 .f32)

theorem q3_at (a : Fin 2048) (h : Fin 8) (d : Fin 64) : q3 x0 (ix3 a h d) = x0 (ix2 a ⟨h.val * 64 + d.val, by omega⟩) := by
  pointwise [q3, heads]
theorem k3_at (a : Fin 2048) (h : Fin 8) (d : Fin 64) : k3 x0 (ix3 a h d) = x0 (ix2 a ⟨512 + (h.val * 64 + d.val), by omega⟩) := by
  pointwise [k3, heads]
theorem v3_at (a : Fin 2048) (h : Fin 8) (d : Fin 64) : v3 x0 (ix3 a h d) = x0 (ix2 a ⟨1024 + (h.val * 64 + d.val), by omega⟩) := by
  pointwise [v3, heads]
theorem gT_at (a : Fin 2048) (h : Fin 8) (d : Fin 64) : gT x2 (ix3 h d a) = x2 (ix2 a ⟨h.val * 64 + d.val, by omega⟩) := by
  pointwise [gT, heads]

theorem sge_at (a b : Fin 2048) : IntOp.cmpi .sge (BitVec.ofNat 32 a.val) (BitVec.ofNat 32 b.val) = if b ≤ a then 1#1 else 0#1 := by
  have ha := a.isLt
  have hb := b.isLt
  have h1 : (BitVec.ofNat 32 b.val).sle (BitVec.ofNat 32 a.val) = decide (b ≤ a) := by
    rw [BitVec.sle_eq_decide, BitVec.toInt_eq_toNat_of_lt (by simp only [BitVec.toNat_ofNat]; omega), BitVec.toInt_eq_toNat_of_lt (by simp only [BitVec.toNat_ofNat]; omega)]
    simp only [BitVec.toNat_ofNat, Nat.mod_eq_of_lt (show a.val < 2 ^ 32 by omega), Nat.mod_eq_of_lt (show b.val < 2 ^ 32 by omega), Nat.cast_le, Fin.le_def]
  simp only [IntOp.cmpi, h1]
  by_cases hab : b ≤ a <;> simp [hab]

theorem causal_at (h : Fin 8) (a b : Fin 2048) : causal (ix3 h a b) = if b ≤ a then 1#1 else 0#1 := by
  pointwise [causal]
  exact sge_at a b
theorem raw_at (h : Fin 8) (a b : Fin 2048) : raw x0 x1 (ix3 h a b) = (∑ x, q3 x0 (ix3 a h x) * k3 x0 (ix3 b h x)) * Ideal.ofBits .f32 0x3E000000#32 + x1 (ix2 h a) - x1 (ix2 h b) := by
  pointwise [raw]
theorem logits_at (h : Fin 8) (a b : Fin 2048) : logits x0 x1 (ix3 h a b) = if b ≤ a then raw x0 x1 (ix3 h a b) else Ideal.ofBits .f32 0xFF800000#32 := by
  pointwise [logits]
  rw [causal_at]
  by_cases hab : b ≤ a <;> simp [hab, Scalar.select] <;> rfl

theorem max_at (y : FVec Ideal S8x2048x2048 .f32) (w : FVec Ideal S_ .f32) (h : Fin 8) (a : Fin 2048) : Host.reduce FloatOps.maximumf y w reducesTo_S8x2048x2048_S8x2048_d2 h_S_ (ix2 h a)
    = Finset.univ.fold max (w (Shape.Idx.first h_S_)) (fun x => y (ix3 h a x)) := by
  pointwise
theorem mx0_at (h : Fin 8) (a : Fin 2048) : mx0 x0 x1 (ix2 h a) = Finset.univ.fold max (Ideal.ofBits .f32 0xFF800000#32) (fun x => logits x0 x1 (ix3 h a x)) :=
  max_at (logits x0 x1) _ h a
theorem cap_at (y : FVec Ideal S8x2048 .f32) (w : FVec Ideal S_ .f32) (h : Fin 8) (a : Fin 2048) : maximumf (broadcastInDim S8x2048 ![] bcast_S_S8x2048 w) y (ix2 h a) = max (w ix0) (y (ix2 h a)) := by
  pointwise
theorem mx_at (h : Fin 8) (a : Fin 2048) : mx x0 x1 (ix2 h a) = max (Ideal.ofBits .f32 0xFF800000#32) (mx0 x0 x1 (ix2 h a)) :=
  cap_at (mx0 x0 x1) _ h a
theorem ex_at (h : Fin 8) (a b : Fin 2048) : ex x0 x1 (ix3 h a b) = Ideal.exp (logits x0 x1 (ix3 h a b) - mx x0 x1 (ix2 h a)) := by
  pointwise [ex]
theorem tot_at (h : Fin 8) (a : Fin 2048) : tot x0 x1 (ix3 h a 0) = ∑ x, ex x0 x1 (ix3 h a x) := by
  pointwise [tot]
theorem wt_at (h : Fin 8) (a b : Fin 2048) : wt x0 x1 (ix3 h a b) = Ideal.div (ex x0 x1 (ix3 h a b)) (tot x0 x1 (ix3 h a 0)) := by
  pointwise [wt]
theorem dw_at (h : Fin 8) (a b : Fin 2048) : dw x0 x2 (ix3 h a b) = ∑ x, gT x2 (ix3 h x a) * v3 x0 (ix3 b h x) := by
  pointwise [dw]
theorem inv2_at (h : Fin 8) (a : Fin 2048) : inv2 x0 x1 (ix3 h a 0) = Ideal.div 1 (tot x0 x1 (ix3 h a 0) * tot x0 x1 (ix3 h a 0)) := by
  pointwise [inv2]
theorem corr_at (h : Fin 8) (a : Fin 2048) : corr x0 x1 x2 (ix2 h a) = ∑ _x : Fin 1, -∑ x, dw x0 x2 (ix3 h a x) * inv2 x0 x1 (ix3 h a 0) * ex x0 x1 (ix3 h a x) := by
  pointwise [corr]
theorem dlg_at (h : Fin 8) (a b : Fin 2048) : dlg x0 x1 x2 (ix3 h a b) = if b ≤ a then (Ideal.div (dw x0 x2 (ix3 h a b)) (tot x0 x1 (ix3 h a 0)) + corr x0 x1 x2 (ix2 h a)) * ex x0 x1 (ix3 h a b) else 0 := by
  pointwise [dlg]
  rw [causal_at]
  by_cases hab : b ≤ a <;> simp [hab, Scalar.select]
theorem dl8_at (h : Fin 8) (a b : Fin 2048) : dl8 x0 x1 x2 (ix3 h a b) = dlg x0 x1 x2 (ix3 h a b) * Ideal.ofBits .f32 0x3E000000#32 := by
  pointwise [dl8]
theorem rdv_at (a : Fin 2048) (n : Fin 512) : rdv x0 x1 x2 (ix2 a n) = ∑ x, gT x2 (ix3 ⟨n.val / 64, by omega⟩ ⟨n.val % 64, by omega⟩ x) * wt x0 x1 (ix3 ⟨n.val / 64, by omega⟩ x a) := by
  pointwise [rdv]
theorem rdk_at (a : Fin 2048) (n : Fin 512) : rdk x0 x1 x2 (ix2 a n) = ∑ x, dl8 x0 x1 x2 (ix3 ⟨n.val / 64, by omega⟩ x a) * q3 x0 (ix3 x ⟨n.val / 64, by omega⟩ ⟨n.val % 64, by omega⟩) := by
  pointwise [rdk]
theorem rdq_at (a : Fin 2048) (n : Fin 512) : rdq x0 x1 x2 (ix2 a n) = ∑ x, dl8 x0 x1 x2 (ix3 ⟨n.val / 64, by omega⟩ a x) * k3 x0 (ix3 x ⟨n.val / 64, by omega⟩ ⟨n.val % 64, by omega⟩) := by
  pointwise [rdq]
theorem rdck_at (h : Fin 8) (a : Fin 2048) : rdck x0 x1 x2 (ix3 h 0 a) = -∑ _x : Fin 1, ∑ x, -dlg x0 x1 x2 (ix3 h x a) := by
  pointwise [rdck]
theorem rdcq_at (h : Fin 8) (i : Fin 4) (r : Fin 16) (a : Fin 512) : rdcq x0 x1 x2 (ix4 h i r a) = ∑ _x : Fin 1, ∑ x, dlg x0 x1 x2 (ix3 h ⟨i.val * 512 + a.val, by omega⟩ x) := by
  pointwise [rdcq]

end Cert.Fox.Ref

end
-- ==== Proof.RefVals.lean ====
/-
  The reference's results at finite arguments are the gradients over the reals.
-/
module

public import proofs.«01_k».proof.Proof.RefReads
public import proofs.«01_k».proof.Proof.Attn

@[expose] public section

set_option maxHeartbeats 1600000

noncomputable section

namespace Cert.Fox.Ref

open Idealize.ShloMosaic Cert.ReferenceIdeal Cert.ReferenceIdeal.Gen

/-- The pattern `0x3E000000` is one eighth. -/
theorem ofBits_eighth : Ideal.ofBits .f32 0x3E000000#32 = ((1 / 8 : ℝ) : EReal) := by
  simp [Ideal.ofBits, Ideal.ieee, -EReal.coe_mul]; norm_num

/-- The pattern `0xFF800000` is the least extended real. -/
theorem ofBits_bot : Ideal.ofBits .f32 0xFF800000#32 = ⊥ := by
  simp [Ideal.ofBits, Ideal.ieee]

/-- Every entry is a real. -/
def Fine {s : Shape} (x : FVec Ideal s .f32) : Prop := ∀ i, x i = ((x i).toReal : EReal)

variable (x0 : FVec Ideal S2048x3200 .f32) (x1 : FVec Ideal S8x2048 .f32) (x2 : FVec Ideal S2048x1024 .f32)

/-- The attention's inputs held by finite arguments. -/
def args : Args where
  q h a d := (x0 (ix2 a ⟨h.val * 64 + d.val, by omega⟩)).toReal
  k h a d := (x0 (ix2 a ⟨512 + (h.val * 64 + d.val), by omega⟩)).toReal
  v h a d := (x0 (ix2 a ⟨1024 + (h.val * 64 + d.val), by omega⟩)).toReal
  g h a d := (x2 (ix2 a ⟨h.val * 64 + d.val, by omega⟩)).toReal
  u h a := (x1 (ix2 h a)).toReal

variable (h0 : Fine x0) (h1 : Fine x1) (h2 : Fine x2)

local notation "A" => args x0 x1 x2

include h0 in
theorem q3_val (a : Fin 2048) (h : Fin 8) (d : Fin 64) : q3 x0 (ix3 a h d) = ((A).q h a d : ℝ) := by
  rw [q3_at, h0]; rfl
include h0 in
theorem k3_val (a : Fin 2048) (h : Fin 8) (d : Fin 64) : k3 x0 (ix3 a h d) = ((A).k h a d : ℝ) := by
  rw [k3_at, h0]; rfl
include h0 in
theorem v3_val (a : Fin 2048) (h : Fin 8) (d : Fin 64) : v3 x0 (ix3 a h d) = ((A).v h a d : ℝ) := by
  rw [v3_at, h0]; rfl
include h2 in
theorem gT_val (a : Fin 2048) (h : Fin 8) (d : Fin 64) : gT x2 (ix3 h d a) = ((A).g h a d : ℝ) := by
  rw [gT_at, h2]; rfl

include h0 h1 in
theorem raw_val (h : Fin 8) (a b : Fin 2048) : raw x0 x1 (ix3 h a b) = ((A).lg h a b : ℝ) := by
  rw [raw_at, ofBits_eighth, h1 (ix2 h a), h1 (ix2 h b)]
  simp only [q3_val x0 x1 x2 h0, k3_val x0 x1 x2 h0, ← EReal.coe_mul, sum_coe, ← EReal.coe_add, ← EReal.coe_sub]
  rfl

include h0 h1 in
theorem logits_val (h : Fin 8) (a b : Fin 2048) : logits x0 x1 (ix3 h a b) = if b ≤ a then ((A).lg h a b : EReal) else ⊥ := by
  rw [logits_at, raw_val x0 x1 x2 h0 h1, ofBits_bot]

include x2 h0 h1 in
theorem mx0_real (h : Fin 8) (a : Fin 2048) : ∃ r : ℝ, mx0 x0 x1 (ix2 h a) = r := by
  rw [mx0_at, ofBits_bot]
  refine fold_max_real _ _ a (Finset.mem_univ _) ((A).lg h a a) ?_ fun b _ => ?_
  · rw [logits_val x0 x1 x2 h0 h1, if_pos le_rfl]
  · rw [logits_val x0 x1 x2 h0 h1]; split_ifs <;> simp

/-- A query's largest logit, as a real. -/
def top (h : Fin 8) (a : Fin 2048) : ℝ := (mx0 x0 x1 (ix2 h a)).toReal

include x2 h0 h1 in
theorem mx0_val (h : Fin 8) (a : Fin 2048) : mx0 x0 x1 (ix2 h a) = (top x0 x1 h a : EReal) := by
  obtain ⟨r, hr⟩ := mx0_real x0 x1 x2 h0 h1 h a
  rw [top, hr, EReal.toReal_coe]

include h0 h1 in
theorem ex_val (h : Fin 8) (a b : Fin 2048) : ex x0 x1 (ix3 h a b) = (((A).ew h a b * Real.exp (-top x0 x1 h a) : ℝ) : EReal) := by
  rw [ex_at, mx_at, ofBits_bot, mx0_val x0 x1 x2 h0 h1, logits_val x0 x1 x2 h0 h1, max_eq_right bot_le, Args.ew]
  split_ifs
  · rw [← EReal.coe_sub, Ideal.exp_coe, sub_eq_add_neg, Real.exp_add]
  · rw [EReal.bot_sub, Ideal.exp_bot]; simp

include h0 h1 in
theorem tot_val (h : Fin 8) (a : Fin 2048) : tot x0 x1 (ix3 h a 0) = (((A).Z h a * Real.exp (-top x0 x1 h a) : ℝ) : EReal) := by
  rw [tot_at]
  simp only [ex_val x0 x1 x2 h0 h1, sum_coe, Args.Z, Finset.sum_mul]

theorem tot_pos (h : Fin 8) (a : Fin 2048) : (A).Z h a * Real.exp (-top x0 x1 h a) ≠ 0 :=
  mul_ne_zero ((A).Z_pos h a).ne' (Real.exp_pos _).ne'

include h0 h1 in
theorem wt_val (h : Fin 8) (a b : Fin 2048) : wt x0 x1 (ix3 h a b) = ((A).pr h a b : EReal) := by
  rw [wt_at, tot_val x0 x1 x2 h0 h1, ex_val x0 x1 x2 h0 h1, Ideal.div_coe (tot_pos x0 x1 x2 h a), ← EReal.coe_mul, Args.pr]
  congr 1
  have := ((A).Z_pos h a).ne'
  have := (Real.exp_pos (-top x0 x1 h a)).ne'
  field_simp

include h0 h2 in
theorem dw_val (h : Fin 8) (a b : Fin 2048) : dw x0 x2 (ix3 h a b) = ((A).dpr h a b : EReal) := by
  rw [dw_at]
  simp only [gT_val x0 x1 x2 h2, v3_val x0 x1 x2 h0, ← EReal.coe_mul, sum_coe]
  rfl

include h0 h1 in
theorem inv2_val (h : Fin 8) (a : Fin 2048) : inv2 x0 x1 (ix3 h a 0)
    = ((1 / ((A).Z h a * Real.exp (-top x0 x1 h a) * ((A).Z h a * Real.exp (-top x0 x1 h a))) : ℝ) : EReal) := by
  rw [inv2_at, tot_val x0 x1 x2 h0 h1, ← EReal.coe_mul, Ideal.div_coe (mul_ne_zero (tot_pos x0 x1 x2 h a) (tot_pos x0 x1 x2 h a)), one_mul]

include h0 h1 h2 in
theorem corr_val (h : Fin 8) (a : Fin 2048) : corr x0 x1 x2 (ix2 h a) = ((-((A).avg h a / ((A).Z h a * Real.exp (-top x0 x1 h a))) : ℝ) : EReal) := by
  rw [corr_at]
  simp only [dw_val x0 x1 x2 h0 h2, inv2_val x0 x1 x2 h0 h1, ex_val x0 x1 x2 h0 h1, ← EReal.coe_mul, sum_coe, ← EReal.coe_neg]
  congr 1
  rw [Finset.univ_unique, Finset.sum_singleton, Args.avg, Finset.sum_div]
  congr 1
  refine Finset.sum_congr rfl fun b _ => ?_
  have := ((A).Z_pos h a).ne'
  have := (Real.exp_pos (-top x0 x1 h a)).ne'
  rw [Args.pr]
  field_simp

include h0 h1 h2 in
theorem dlg_val (h : Fin 8) (a b : Fin 2048) : dlg x0 x1 x2 (ix3 h a b) = ((A).ds h a b : EReal) := by
  rw [dlg_at]
  split_ifs with hab
  · rw [tot_val x0 x1 x2 h0 h1, Ideal.div_coe (tot_pos x0 x1 x2 h a), corr_val x0 x1 x2 h0 h1 h2, ex_val x0 x1 x2 h0 h1, dw_val x0 x1 x2 h0 h2,
      ← EReal.coe_mul, ← EReal.coe_add, ← EReal.coe_mul, Args.ds, Args.pr]
    congr 1
    have := ((A).Z_pos h a).ne'
    have := (Real.exp_pos (-top x0 x1 h a)).ne'
    field_simp
    ring
  · rw [(A).ds_above h a b hab]; simp

/-! ## The results -/

include h0 h1 h2 in
theorem rdq_val (a : Fin 2048) (n : Fin 512) : rdq x0 x1 x2 (ix2 a n)
    = ((∑ b, (A).ds ⟨n.val / 64, by omega⟩ a b * (1 / 8) * (A).k ⟨n.val / 64, by omega⟩ b ⟨n.val % 64, by omega⟩ : ℝ) : EReal) := by
  rw [rdq_at]
  simp only [dl8_at, dlg_val x0 x1 x2 h0 h1 h2, ofBits_eighth, k3_val x0 x1 x2 h0, ← EReal.coe_mul, sum_coe]

include h0 h1 h2 in
theorem rdk_val (b : Fin 2048) (n : Fin 512) : rdk x0 x1 x2 (ix2 b n)
    = ((∑ a, (A).ds ⟨n.val / 64, by omega⟩ a b * (1 / 8) * (A).q ⟨n.val / 64, by omega⟩ a ⟨n.val % 64, by omega⟩ : ℝ) : EReal) := by
  rw [rdk_at]
  simp only [dl8_at, dlg_val x0 x1 x2 h0 h1 h2, ofBits_eighth, q3_val x0 x1 x2 h0, ← EReal.coe_mul, sum_coe]

include h0 h1 h2 in
theorem rdv_val (b : Fin 2048) (n : Fin 512) : rdv x0 x1 x2 (ix2 b n)
    = ((∑ a, (A).g ⟨n.val / 64, by omega⟩ a ⟨n.val % 64, by omega⟩ * (A).pr ⟨n.val / 64, by omega⟩ a b : ℝ) : EReal) := by
  rw [rdv_at]
  simp only [gT_val x0 x1 x2 h2, wt_val x0 x1 x2 h0 h1, ← EReal.coe_mul, sum_coe]

include h0 h1 h2 in
theorem rdck_val (h : Fin 8) (b : Fin 2048) : rdck x0 x1 x2 (ix3 h 0 b) = ((∑ a, (A).ds h a b : ℝ) : EReal) := by
  rw [rdck_at]
  simp only [dlg_val x0 x1 x2 h0 h1 h2, sum_coe, ← EReal.coe_neg]
  congr 1
  rw [Finset.univ_unique, Finset.sum_singleton, Finset.sum_neg_distrib, neg_neg]

include h0 h1 h2 in
theorem rdcq_val (h : Fin 8) (i : Fin 4) (r : Fin 16) (a : Fin 512) : rdcq x0 x1 x2 (ix4 h i r a)
    = ((∑ b, (A).ds h ⟨i.val * 512 + a.val, by omega⟩ b : ℝ) : EReal) := by
  rw [rdcq_at]
  simp only [dlg_val x0 x1 x2 h0 h1 h2, sum_coe]
  congr 1
  rw [Finset.univ_unique, Finset.sum_singleton]

end Cert.Fox.Ref

end
-- ==== Proof.Pre.lean ====
/-
  Finite arguments are real numbers.
-/
module

public import proofs.«01_k».proof.Pre_finite_arguments
public import proofs.«01_k».proof.Proof.RefVals
public import Idealize.ShloMosaic.Lib.Pointwise
public import Idealize.ShloMosaic.Lib.IdealHost

@[expose] public section

set_option maxHeartbeats 1600000

noncomputable section

namespace Cert.Pre_finite_arguments

open Idealize.ShloMosaic

variable (x0 : FVec Ideal S2048x3200 .f32) (x1 : FVec Ideal S8x2048 .f32) (x2 : FVec Ideal S2048x1024 .f32)

theorem bits_top : Ideal.ofBits .f32 0x7F800000#32 = ⊤ := by
  simp [Ideal.ofBits, Ideal.ieee]

/-- An extended real whose magnitude is below `⊤` is a real. -/
theorem real_of (x : EReal) (h : BitVec.ofBool (decide (FloatOps.absf (F := Ideal) (φ := .f32) x < Ideal.ofBits FTy.f32 2139095040#32)) = 1#1) : x = ((x.toReal : ℝ) : EReal) := by
  have hx : FloatOps.absf (F := Ideal) (φ := .f32) x < (⊤ : EReal) := by
    rw [← bits_top]
    by_contra hn
    rw [decide_eq_false hn] at h
    exact absurd h (by decide)
  change max x (-x) < ⊤ at hx
  rw [max_lt_iff] at hx
  refine (EReal.coe_toReal hx.1.ne ?_).symm
  intro hb; rw [hb] at hx; simp at hx

theorem fine [Facts] (h : fn x0 x1 x2 = fun _ => 1#1) : Cert.Fox.Ref.Fine x0 ∧ Cert.Fox.Ref.Fine x1 ∧ Cert.Fox.Ref.Fine x2 := by
  refine ⟨fun i => ?_, fun i => ?_, fun i => ?_⟩
  · obtain ⟨a, n, rfl⟩ : ∃ (a : Fin 2048) (n : Fin 3200), i = ix2 a n := ⟨i 0, i 1, eq_ix2 i⟩
    have e := congrFun h (ix2 a ⟨n.val, by omega⟩)
    pointwise [fn] at e
    exact real_of _ e
  · obtain ⟨hh, a, rfl⟩ : ∃ (hh : Fin 8) (a : Fin 2048), i = ix2 hh a := ⟨i 0, i 1, eq_ix2 i⟩
    have e := congrFun h (ix2 a ⟨4224 + hh.val, by omega⟩)
    pointwise [fn] at e
    rw [dif_neg (by omega), dif_neg (by omega)] at e
    have hi : (⟨4224 + hh.val - 3200 - 1024, by omega⟩ : Fin 8) = hh := Fin.ext (by show 4224 + hh.val - 3200 - 1024 = hh.val; omega)
    rw [hi] at e
    exact real_of _ e
  · obtain ⟨a, n, rfl⟩ : ∃ (a : Fin 2048) (n : Fin 1024), i = ix2 a n := ⟨i 0, i 1, eq_ix2 i⟩
    have e := congrFun h (ix2 a ⟨3200 + n.val, by omega⟩)
    pointwise [fn] at e
    exact real_of _ e

end Cert.Pre_finite_arguments

end
-- ==== Proof.HostQ.lean ====
/-
  The augmented queries and keys, which the host computes before the call.
-/
module

public import proofs.«01_k».proof.Proof.Gen.KernelIdeal.Frame
public import proofs.«01_k».proof.Proof.RefVals
public import Idealize.ShloMosaic.Lib.StableHlo.RunRead
public import Idealize.ShloMosaic.Lib.Pointwise
public import Idealize.ShloMosaic.Lib.IdealHost

@[expose] public section

set_option maxHeartbeats 1600000
set_option maxRecDepth 16384

noncomputable section

namespace Cert.Fox

open Idealize Idealize.SL Idealize.SL.Sem Idealize.ShloMosaic Idealize.ShloMosaic.StableHlo Cert.KernelIdeal Cert.KernelIdeal.Gen

variable (m : (ℓ : Loc nD τ sig) → Buf (Elt Ideal) ℓ) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)

/-- Whether an entry lies on lane `n`. -/
def isLane (n : BitVec 32) : IVec S4x2048x128 1 :=
  cmpi .eq (iotaInDim S4x2048x128 32 2) (broadcastInDim S4x2048x128 ![] bcast_S_S4x2048x128 (constantI S_ 32 n))
def ones3 : FVec Ideal S4x2048x128 .f32 := broadcastInDim S4x2048x128 ![] bcast_S_S4x2048x128 (constant (F := Ideal) S_ .f32 0x3F800000#32)
def zeros3 : FVec Ideal S4x2048x128 .f32 := broadcastInDim S4x2048x128 ![] bcast_S_S4x2048x128 (constant (F := Ideal) S_ .f32 0x00000000#32)
def eighth3 : FVec Ideal S4x2048x128 .f32 := broadcastInDim S4x2048x128 ![] bcast_S_S4x2048x128 (constant (F := Ideal) S_ .f32 0x3E000000#32)
/-- The three terms a number splits into. -/
def hi3 (z : FVec Ideal S4x2048x128 .f32) : FVec Ideal S4x2048x128 .f32 := extf .f32 (truncf .bf16 z bitsLt_bf16_f32) bitsLt_bf16_f32
def mid3 (z : FVec Ideal S4x2048x128 .f32) : FVec Ideal S4x2048x128 .f32 := hi3 (subf z (hi3 z))
def lo3 (z : FVec Ideal S4x2048x128 .f32) : FVec Ideal S4x2048x128 .f32 := hi3 (subf (subf z (hi3 z)) (mid3 z))
/-- The queries with the gate's terms on the other head's lanes. -/
def qOps (sel : IVec S4x2048x128 1) (qv cq : FVec Ideal S4x2048x128 .f32) (n0 n1 n2 n3 n4 n5 : BitVec 32) : FVec Ideal S4x2048x128 .bf16 :=
  truncf .bf16 (select (isLane n2) (lo3 cq) (select (isLane n5) ones3 (select (isLane n1) (mid3 cq) (select (isLane n4) ones3
    (select (isLane n0) (hi3 cq) (select (isLane n3) ones3 (select sel (mulf qv eighth3) zeros3))))))) bitsLt_bf16_f32
/-- The keys likewise. -/
def kOps (sel : IVec S4x2048x128 1) (kv ck : FVec Ideal S4x2048x128 .f32) (n0 n1 n2 n3 n4 n5 : BitVec 32) : FVec Ideal S4x2048x128 .bf16 :=
  truncf .bf16 (select (isLane n2) ones3 (select (isLane n5) (Host.negf (lo3 ck)) (select (isLane n1) ones3 (select (isLane n4) (Host.negf (mid3 ck))
    (select (isLane n0) ones3 (select (isLane n3) (Host.negf (hi3 ck)) (select sel kv zeros3))))))) bitsLt_bf16_f32
def pairs3 (x : FVec Ideal S2048x512 .f32) : FVec Ideal S4x2048x128 .f32 :=
  transpose S4x2048x128 [1, 0, 2] (shapeCast S2048x4x128 x shapeCasts_S2048x512_S2048x4x128) transposes_S2048x4x128_S4x2048x128_1_0_2
def qp (x : FVec Ideal S2048x3200 .f32) := pairs3 (extractStridedSlice S2048x512 ![0, 0] x slices_S2048x3200_S2048x512_0_0)
def kp (x : FVec Ideal S2048x3200 .f32) := pairs3 (extractStridedSlice S2048x512 ![0, 512] x slices_S2048x3200_S2048x512_0_512)
def cums (x1 : FVec Ideal S8x2048 .f32) : FVec Ideal S4x2x2048x128 .f32 :=
  shapeCast S4x2x2048x128 (broadcastInDim S8x2048x128 ![0, 1, 2] bcast_S8x2048x1_S8x2048x128_0_1_2 (broadcastInDim S8x2048x1 ![0, 1] bcast_S8x2048_S8x2048x1_0_1 x1)) shapeCasts_S8x2048x128_S4x2x2048x128
def cum0 (x1 : FVec Ideal S8x2048 .f32) : FVec Ideal S4x2048x128 .f32 :=
  shapeCast S4x2048x128 (extractStridedSlice S4x1x2048x128 ![0, 0, 0, 0] (cums x1) slices_S4x2x2048x128_S4x1x2048x128_0_0_0_0) shapeCasts_S4x1x2048x128_S4x2048x128
def cum1 (x1 : FVec Ideal S8x2048 .f32) : FVec Ideal S4x2048x128 .f32 :=
  shapeCast S4x2048x128 (extractStridedSlice S4x1x2048x128 ![0, 1, 0, 0] (cums x1) slices_S4x2x2048x128_S4x1x2048x128_0_1_0_0) shapeCasts_S4x1x2048x128_S4x2048x128
def selA : IVec S4x2048x128 1 := cmpi .slt (iotaInDim S4x2048x128 32 2) (broadcastInDim S4x2048x128 ![] bcast_S_S4x2048x128 (constantI S_ 32 64#32))
def selB : IVec S4x2048x128 1 := cmpi .sge (iotaInDim S4x2048x128 32 2) (broadcastInDim S4x2048x128 ![] bcast_S_S4x2048x128 (constantI S_ 32 64#32))

theorem V_113 : V m c main_v113 = qOps selA (qp X0) (cum0 X1) 64#32 65#32 66#32 67#32 68#32 69#32 := by
  after_reads_simp
  rfl
theorem V_114 : V m c main_v114 = kOps selA (kp X0) (cum0 X1) 64#32 65#32 66#32 67#32 68#32 69#32 := by
  after_reads_simp
  rfl
theorem V_186 : V m c main_v186 = qOps selB (qp X0) (cum1 X1) 0#32 1#32 2#32 3#32 4#32 5#32 := by
  after_reads_simp
  rfl
theorem V_187 : V m c main_v187 = kOps selB (kp X0) (cum1 X1) 0#32 1#32 2#32 3#32 4#32 5#32 := by
  after_reads_simp
  rfl

end Cert.Fox

end
-- ==== Proof.HostZ.lean ====
/-
  The stacked operands of the call.
-/
module

public import proofs.«01_k».proof.Proof.Gen.KernelIdeal.Frame
public import proofs.«01_k».proof.Proof.RefVals
public import Idealize.ShloMosaic.Lib.StableHlo.RunRead
public import Idealize.ShloMosaic.Lib.Pointwise
public import Idealize.ShloMosaic.Lib.IdealHost

@[expose] public section

set_option maxHeartbeats 1600000
set_option maxRecDepth 16384

noncomputable section

namespace Cert.Fox

open Idealize Idealize.SL Idealize.SL.Sem Idealize.ShloMosaic Idealize.ShloMosaic.StableHlo Cert.KernelIdeal Cert.KernelIdeal.Gen

variable (m : (ℓ : Loc nD τ sig) → Buf (Elt Ideal) ℓ) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)
/-- Both heads of every pair, stacked. -/
def stack2 (a b : FVec Ideal S4x2048x128 .bf16) : FVec Ideal S8x2048x128 .bf16 :=
  shapeCast S8x2048x128 (concatenate S4x2x2048x128 1 [⟨S4x1x2048x128, broadcastInDim S4x1x2048x128 ![0, 2, 3] bcast_S4x2048x128_S4x1x2048x128_0_2_3 a⟩, ⟨S4x1x2048x128, broadcastInDim S4x1x2048x128 ![0, 2, 3] bcast_S4x2048x128_S4x1x2048x128_0_2_3 b⟩] concatenates_S4x1x2048x128_S4x1x2048x128_S4x2x2048x128_d1) shapeCasts_S4x2x2048x128_S8x2048x128
theorem stack_of (x y : FVec Ideal S4x1x2048x128 .bf16) (a b : FVec Ideal S4x2048x128 .bf16)
    (hx : x = broadcastInDim S4x1x2048x128 ![0, 2, 3] bcast_S4x2048x128_S4x1x2048x128_0_2_3 a) (hy : y = broadcastInDim S4x1x2048x128 ![0, 2, 3] bcast_S4x2048x128_S4x1x2048x128_0_2_3 b) :
    shapeCast S8x2048x128 (concatenate S4x2x2048x128 1 [⟨S4x1x2048x128, x⟩, ⟨S4x1x2048x128, y⟩] concatenates_S4x1x2048x128_S4x1x2048x128_S4x2x2048x128_d1) shapeCasts_S4x2x2048x128_S8x2048x128 = stack2 a b := by
  subst hx hy; rfl
theorem V_191 : V m c main_v191 = stack2 (V m c main_v113) (V m c main_v186) := by
  after_reads_simp
  refine stack_of _ _ _ _ ?_ ?_
  · after_reads_simp
  · after_reads_simp
theorem V_195 : V m c main_v195 = stack2 (V m c main_v114) (V m c main_v187) := by
  after_reads_simp
  refine stack_of _ _ _ _ ?_ ?_
  · after_reads_simp
  · after_reads_simp
theorem stack2_at (a b : FVec Ideal S4x2048x128 .bf16) (h : Fin 8) (r : Fin 2048) (l : Fin 128) :
    stack2 a b (ix3 h r l) = if h.val % 2 = 0 then a (ix3 ⟨h.val / 2, by omega⟩ r l) else b (ix3 ⟨h.val / 2, by omega⟩ r l) := by
  pointwise [stack2]
  by_cases hh : h.val % 2 = 0
  · rw [dif_pos (by omega), if_pos hh]
  · rw [dif_neg (by omega), if_neg hh]
end Cert.Fox

end
-- ==== Proof.HostVals.lean ====
/-
  The augmented queries and keys, in real numbers: their product over the lanes is the logit.
-/
module

public import proofs.«01_k».proof.Proof.HostQ
public import proofs.«01_k».proof.Proof.HostZ

@[expose] public section

set_option maxHeartbeats 1600000
set_option maxRecDepth 16384

noncomputable section

namespace Cert.Fox

open Idealize.ShloMosaic Cert.KernelIdeal Cert.KernelIdeal.Gen

/-! ## In real numbers -/

namespace Args
variable (A : Args) (h : Fin 8)

/-- A query's lanes: its own, scaled, and on the other head's lanes its gate sum and the ones that meet the keys'. -/
def qa (r : Fin 2048) (l : Fin 128) : ℝ :=
  if l.val / 64 = h.val % 2 then A.q h r ⟨l.val % 64, Nat.mod_lt _ (by norm_num)⟩ * (1 / 8)
  else if l.val % 64 = 0 then A.u h r else if 3 ≤ l.val % 64 ∧ l.val % 64 < 6 then 1 else 0
/-- A key's lanes. -/
def ka (r : Fin 2048) (l : Fin 128) : ℝ :=
  if l.val / 64 = h.val % 2 then A.k h r ⟨l.val % 64, Nat.mod_lt _ (by norm_num)⟩
  else if l.val % 64 < 3 then 1 else if l.val % 64 = 3 then -A.u h r else 0

theorem sum_lanes (f : Fin 128 → ℝ) : ∑ l, f l = (∑ d : Fin 64, f ⟨d.val, by omega⟩) + ∑ d : Fin 64, f ⟨64 + d.val, by omega⟩ :=
  Fin.sum_univ_add (a := 64) (b := 64) f

theorem gate_sum (x y : ℝ) :
    (∑ d : Fin 64, (if d.val = 0 then x else if 3 ≤ d.val ∧ d.val < 6 then 1 else 0) * (if d.val < 3 then 1 else if d.val = 3 then -y else 0)) = x - y := by
  have e : ∀ d : Fin 64, (if d.val = 0 then x else if 3 ≤ d.val ∧ d.val < 6 then 1 else 0) * (if d.val < 3 then 1 else if d.val = 3 then -y else 0)
      = (if d = 0 then x else 0) + (if d = 3 then -y else 0) := by
    intro d
    have h0 : (d = 0) ↔ d.val = 0 := by rw [Fin.ext_iff]; rfl
    have h3 : (d = 3) ↔ d.val = 3 := by rw [Fin.ext_iff]; rfl
    simp only [h0, h3]
    by_cases a0 : d.val = 0
    · simp [a0]
    · by_cases a3 : d.val = 3
      · simp [a3]
      · by_cases a1 : d.val < 3
        · simp [a0, a3, a1]
        · simp [a0, a3, a1]
  simp only [e, Finset.sum_add_distrib, Finset.sum_ite_eq', Finset.mem_univ, if_true]
  ring

theorem qa_ka (a b : Fin 2048) : ∑ l, A.qa h a l * A.ka h b l = A.lg h a b := by
  rw [sum_lanes]
  have e0 : ∀ d : Fin 64, d.val / 64 = 0 := fun d => by omega
  have e1 : ∀ d : Fin 64, (64 + d.val) / 64 = 1 := fun d => by omega
  have e2 : ∀ d : Fin 64, d.val % 64 = d.val := fun d => by omega
  have e3 : ∀ d : Fin 64, (64 + d.val) % 64 = d.val := fun d => by omega
  unfold lg
  simp only [qa, ka, e0, e1, e2, e3]
  rcases Nat.mod_two_eq_zero_or_one h.val with hh | hh
  · simp only [hh, if_true, one_ne_zero, if_false]
    rw [gate_sum, Finset.sum_mul]
    have : ∀ d : Fin 64, A.q h a d * (1 / 8) * A.k h b d = A.q h a d * A.k h b d * (1 / 8) := fun d => by ring
    simp only [Fin.eta, this]; ring
  · simp only [hh, if_true, zero_ne_one, if_false]
    rw [gate_sum, Finset.sum_mul]
    have : ∀ d : Fin 64, A.q h a d * (1 / 8) * A.k h b d = A.q h a d * A.k h b d * (1 / 8) := fun d => by ring
    simp only [Fin.eta, this]; ring
end Args

/-! ## The host's values -/

theorem select_eq (l : Fin 128) (n : ℕ) (hn : n < 128) {α : Type} (a b : α) :
    Scalar.select (IntOp.cmpi .eq (BitVec.ofNat 32 l.val) (BitVec.ofNat 32 n)) a b = if l.val = n then a else b := by
  have h : ∀ (l : Fin 128) (n : Fin 128), IntOp.cmpi .eq (BitVec.ofNat 32 l.val) (BitVec.ofNat 32 n.val) = if l.val = n.val then 1#1 else 0#1 := by decide +kernel
  have := h l ⟨n, hn⟩
  simp only at this
  rw [this]; split <;> rfl

theorem qOps_val (sel : IVec S4x2048x128 1) (qv cq : FVec Ideal S4x2048x128 .f32) (n0 n1 n2 n3 n4 n5 : ℕ)
    (k0 : n0 < 128) (k1 : n1 < 128) (k2 : n2 < 128) (k3 : n3 < 128) (k4 : n4 < 128) (k5 : n5 < 128)
    (p : Fin 4) (r : Fin 2048) (l : Fin 128) (q c : ℝ) (hq : qv (ix3 p r l) = (q : EReal)) (hc : cq (ix3 p r l) = (c : EReal))
    (P : Prop) [Decidable P] (hs : ∀ a b : EReal, Scalar.select (sel (ix3 p r l)) a b = if P then a else b) :
    qOps sel qv cq (BitVec.ofNat 32 n0) (BitVec.ofNat 32 n1) (BitVec.ofNat 32 n2) (BitVec.ofNat 32 n3) (BitVec.ofNat 32 n4) (BitVec.ofNat 32 n5) (ix3 p r l)
      = ((if l.val = n2 then 0 else if l.val = n5 then 1 else if l.val = n1 then 0 else if l.val = n4 then 1 else if l.val = n0 then c
          else if l.val = n3 then 1 else if P then q * (1 / 8) else 0 : ℝ) : EReal) := by
  pointwise [qOps, lo3, mid3, hi3, isLane, ones3, zeros3, eighth3]
  rw [select_eq l n2 k2, select_eq l n5 k5, select_eq l n1 k1, select_eq l n4 k4, select_eq l n0 k0, select_eq l n3 k3, hs, hq, hc, Ref.ofBits_eighth]
  simp only [← EReal.coe_sub, sub_self, ← EReal.coe_mul]
  split_ifs <;> rfl

theorem kOps_val (sel : IVec S4x2048x128 1) (qv cq : FVec Ideal S4x2048x128 .f32) (n0 n1 n2 n3 n4 n5 : ℕ)
    (k0 : n0 < 128) (k1 : n1 < 128) (k2 : n2 < 128) (k3 : n3 < 128) (k4 : n4 < 128) (k5 : n5 < 128)
    (p : Fin 4) (r : Fin 2048) (l : Fin 128) (q c : ℝ) (hq : qv (ix3 p r l) = (q : EReal)) (hc : cq (ix3 p r l) = (c : EReal))
    (P : Prop) [Decidable P] (hs : ∀ a b : EReal, Scalar.select (sel (ix3 p r l)) a b = if P then a else b) :
    kOps sel qv cq (BitVec.ofNat 32 n0) (BitVec.ofNat 32 n1) (BitVec.ofNat 32 n2) (BitVec.ofNat 32 n3) (BitVec.ofNat 32 n4) (BitVec.ofNat 32 n5) (ix3 p r l)
      = ((if l.val = n2 then 1 else if l.val = n5 then 0 else if l.val = n1 then 1 else if l.val = n4 then 0 else if l.val = n0 then 1
          else if l.val = n3 then -c else if P then q else 0 : ℝ) : EReal) := by
  pointwise [kOps, lo3, mid3, hi3, isLane, ones3, zeros3, eighth3]
  rw [select_eq l n2 k2, select_eq l n5 k5, select_eq l n1 k1, select_eq l n4 k4, select_eq l n0 k0, select_eq l n3 k3, hs, hq, hc]
  simp only [← EReal.coe_sub, sub_self, ← EReal.coe_neg, neg_zero]
  split_ifs <;> rfl

theorem selA_at (p : Fin 4) (r : Fin 2048) (l : Fin 128) {α : Type} (a b : α) :
    Scalar.select (selA (ix3 p r l)) a b = if l.val / 64 = 0 then a else b := by
  have h : ∀ l : Fin 128, IntOp.cmpi .slt (BitVec.ofNat 32 l.val) 64#32 = if l.val / 64 = 0 then 1#1 else 0#1 := by decide +kernel
  have e : selA (ix3 p r l) = IntOp.cmpi .slt (BitVec.ofNat 32 l.val) 64#32 := by pointwise [selA]
  rw [e, h l]; split <;> rfl
theorem selB_at (p : Fin 4) (r : Fin 2048) (l : Fin 128) {α : Type} (a b : α) :
    Scalar.select (selB (ix3 p r l)) a b = if l.val / 64 = 1 then a else b := by
  have h : ∀ l : Fin 128, IntOp.cmpi .sge (BitVec.ofNat 32 l.val) 64#32 = if l.val / 64 = 1 then 1#1 else 0#1 := by decide +kernel
  have e : selB (ix3 p r l) = IntOp.cmpi .sge (BitVec.ofNat 32 l.val) 64#32 := by pointwise [selB]
  rw [e, h l]; split <;> rfl

variable (x0 : FVec Ideal S2048x3200 .f32) (x1 : FVec Ideal S8x2048 .f32) (x2 : FVec Ideal S2048x1024 .f32)
variable (h0 : Ref.Fine x0) (h1 : Ref.Fine x1)

theorem qp_at (p : Fin 4) (r : Fin 2048) (l : Fin 128) : qp x0 (ix3 p r l) = x0 (ix2 r ⟨p.val * 128 + l.val, by omega⟩) := by
  pointwise [qp, pairs3]
theorem kp_at (p : Fin 4) (r : Fin 2048) (l : Fin 128) : kp x0 (ix3 p r l) = x0 (ix2 r ⟨512 + (p.val * 128 + l.val), by omega⟩) := by
  pointwise [kp, pairs3]
theorem cum0_at (p : Fin 4) (r : Fin 2048) (l : Fin 128) : cum0 x1 (ix3 p r l) = x1 (ix2 ⟨p.val * 2, by omega⟩ r) := by
  pointwise [cum0, cums]
theorem cum1_at (p : Fin 4) (r : Fin 2048) (l : Fin 128) : cum1 x1 (ix3 p r l) = x1 (ix2 ⟨p.val * 2 + 1, by omega⟩ r) := by
  pointwise [cum1, cums]

include h0 h1

/-- The stacked queries. -/
theorem qa_val (h : Fin 8) (r : Fin 2048) (l : Fin 128) :
    stack2 (qOps selA (qp x0) (cum0 x1) 64#32 65#32 66#32 67#32 68#32 69#32) (qOps selB (qp x0) (cum1 x1) 0#32 1#32 2#32 3#32 4#32 5#32) (ix3 h r l)
      = (((Ref.args x0 x1 x2).qa h r l : ℝ) : EReal) := by
  rw [stack2_at]
  have hl := l.isLt
  split
  · rename_i hh
    rw [qOps_val selA (qp x0) (cum0 x1) 64 65 66 67 68 69 (by norm_num) (by norm_num) (by norm_num) (by norm_num) (by norm_num) (by norm_num) _ r l _ _
      ((qp_at x0 _ r l).trans (h0 _)) ((cum0_at x1 _ r l).trans (h1 _)) (l.val / 64 = 0) (fun a b => selA_at _ r l a b)]
    congr 1
    unfold Args.qa Ref.args
    simp only
    rw [hh]
    by_cases hown : l.val / 64 = 0
    · rw [if_pos hown, if_pos hown]
      rw [if_neg (by omega), if_neg (by omega), if_neg (by omega), if_neg (by omega), if_neg (by omega), if_neg (by omega)]
      congr 5; omega
    · rw [if_neg hown, if_neg hown]
      have hu : (⟨h.val / 2 * 2, by omega⟩ : Fin 8) = h := Fin.ext (by show h.val / 2 * 2 = h.val; omega)
      rw [hu]
      split_ifs <;> first | rfl | (exfalso; omega)
  · rename_i hh
    have hh' : h.val % 2 = 1 := by omega
    rw [qOps_val selB (qp x0) (cum1 x1) 0 1 2 3 4 5 (by norm_num) (by norm_num) (by norm_num) (by norm_num) (by norm_num) (by norm_num) _ r l _ _
      ((qp_at x0 _ r l).trans (h0 _)) ((cum1_at x1 _ r l).trans (h1 _)) (l.val / 64 = 1) (fun a b => selB_at _ r l a b)]
    congr 1
    unfold Args.qa Ref.args
    simp only
    rw [hh']
    by_cases hown : l.val / 64 = 1
    · rw [if_pos hown, if_pos hown]
      rw [if_neg (by omega), if_neg (by omega), if_neg (by omega), if_neg (by omega), if_neg (by omega), if_neg (by omega)]
      congr 5; omega
    · rw [if_neg hown, if_neg hown]
      have hu : (⟨h.val / 2 * 2 + 1, by omega⟩ : Fin 8) = h := Fin.ext (by show h.val / 2 * 2 + 1 = h.val; omega)
      rw [hu]
      split_ifs <;> first | rfl | (exfalso; omega)

/-- The stacked keys. -/
theorem ka_val (h : Fin 8) (r : Fin 2048) (l : Fin 128) :
    stack2 (kOps selA (kp x0) (cum0 x1) 64#32 65#32 66#32 67#32 68#32 69#32) (kOps selB (kp x0) (cum1 x1) 0#32 1#32 2#32 3#32 4#32 5#32) (ix3 h r l)
      = (((Ref.args x0 x1 x2).ka h r l : ℝ) : EReal) := by
  rw [stack2_at]
  have hl := l.isLt
  split
  · rename_i hh
    rw [kOps_val selA (kp x0) (cum0 x1) 64 65 66 67 68 69 (by norm_num) (by norm_num) (by norm_num) (by norm_num) (by norm_num) (by norm_num) _ r l _ _
      ((kp_at x0 _ r l).trans (h0 _)) ((cum0_at x1 _ r l).trans (h1 _)) (l.val / 64 = 0) (fun a b => selA_at _ r l a b)]
    congr 1
    unfold Args.ka Ref.args
    simp only
    rw [hh]
    by_cases hown : l.val / 64 = 0
    · rw [if_pos hown, if_pos hown]
      rw [if_neg (by omega), if_neg (by omega), if_neg (by omega), if_neg (by omega), if_neg (by omega), if_neg (by omega)]
      congr 4; omega
    · rw [if_neg hown, if_neg hown]
      have hu : (⟨h.val / 2 * 2, by omega⟩ : Fin 8) = h := Fin.ext (by show h.val / 2 * 2 = h.val; omega)
      rw [hu]
      split_ifs <;> first | rfl | (exfalso; omega)
  · rename_i hh
    have hh' : h.val % 2 = 1 := by omega
    rw [kOps_val selB (kp x0) (cum1 x1) 0 1 2 3 4 5 (by norm_num) (by norm_num) (by norm_num) (by norm_num) (by norm_num) (by norm_num) _ r l _ _
      ((kp_at x0 _ r l).trans (h0 _)) ((cum1_at x1 _ r l).trans (h1 _)) (l.val / 64 = 1) (fun a b => selB_at _ r l a b)]
    congr 1
    unfold Args.ka Ref.args
    simp only
    rw [hh']
    by_cases hown : l.val / 64 = 1
    · rw [if_pos hown, if_pos hown]
      rw [if_neg (by omega), if_neg (by omega), if_neg (by omega), if_neg (by omega), if_neg (by omega), if_neg (by omega)]
      congr 4; omega
    · rw [if_neg hown, if_neg hown]
      have hu : (⟨h.val / 2 * 2 + 1, by omega⟩ : Fin 8) = h := Fin.ext (by show h.val / 2 * 2 + 1 = h.val; omega)
      rw [hu]
      split_ifs <;> first | rfl | (exfalso; omega)

end Cert.Fox

end
-- ==== Proof.HostRow.lean ====
/-
  The outputs and the logarithms of the row sums, which the host computes before the call.
-/
module

public import proofs.«01_k».proof.Proof.Gen.KernelIdeal.Frame
public import proofs.«01_k».proof.Proof.RefVals
public import Idealize.ShloMosaic.Lib.StableHlo.RunRead
public import Idealize.ShloMosaic.Lib.Pointwise
public import Idealize.ShloMosaic.Lib.IdealHost

@[expose] public section

set_option maxHeartbeats 1600000
set_option maxRecDepth 16384

noncomputable section

namespace Cert.Fox

open Idealize Idealize.SL Idealize.SL.Sem Idealize.ShloMosaic Idealize.ShloMosaic.StableHlo Cert.KernelIdeal Cert.KernelIdeal.Gen

variable (m : (ℓ : Loc nD τ sig) → Buf (Elt Ideal) ℓ) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)

/-- The row maxima, exponentials, row sums, outputs and logarithms in terms of what they are computed from. -/
def exO (lg : FVec Ideal S8x2048x2048 .f32) (mx : FVec Ideal S8x2048 .f32) : FVec Ideal S8x2048x2048 .f32 :=
  Host.exp (subf lg (broadcastInDim S8x2048x2048 ![0, 1, 2] bcast_S8x2048x1_S8x2048x2048_0_1_2 (broadcastInDim S8x2048x1 ![0, 1] bcast_S8x2048_S8x2048x1_0_1 mx)))
def totO (e : FVec Ideal S8x2048x2048 .f32) : FVec Ideal S8x2048x1 .f32 :=
  broadcastInDim S8x2048x1 ![0, 1] bcast_S8x2048_S8x2048x1_0_1 (Host.reduceAdd e (constant (F := Ideal) S_ .f32 0x00000000#32) reducesTo_S8x2048x2048_S8x2048_d2 h_S_)
def mxO (lg : FVec Ideal S8x2048x2048 .f32) : FVec Ideal S8x2048 .f32 :=
  Host.reduce FloatOps.maximumf lg (constant (F := Ideal) S_ .f32 0xFF800000#32) reducesTo_S8x2048x2048_S8x2048_d2 h_S_
def outO (v : FVec Ideal S2048x8x64 .f32) (e : FVec Ideal S8x2048x2048 .f32) (t : FVec Ideal S8x2048x1 .f32) : FVec Ideal S2048x512 .f32 :=
  shapeCast S2048x512 (transpose S2048x8x64 [2, 0, 1] (Host.dotGeneral (F := Ideal) dot_S2048x8x64_S8x2048x2048_S8x64x2048_0_2_2_1_1_0 none
    (v : FVec Ideal S2048x8x64 .f32) (Host.divf e (broadcastInDim S8x2048x2048 ![0, 1, 2] bcast_S8x2048x1_S8x2048x2048_0_1_2 t) : FVec Ideal S8x2048x2048 .f32)) transposes_S8x64x2048_S2048x8x64_2_0_1) shapeCasts_S2048x8x64_S2048x512
def lseO (mx : FVec Ideal S8x2048 .f32) (t : FVec Ideal S8x2048x1 .f32) : FVec Ideal S8x2048x128 .f32 :=
  broadcastInDim S8x2048x128 ![0, 1, 2] bcast_S8x2048x1_S8x2048x128_0_1_2 (addf (broadcastInDim S8x2048x1 ![0, 1] bcast_S8x2048_S8x2048x1_0_1 mx) (Host.log t))

theorem V_21 : V m c main_v21 = Ref.logits X0 X1 := by
  after_reads_simp
  rfl
theorem V_22 : V m c main_v22 = mxO (V m c main_v21) := by
  unfold mxO
  after_reads_simp
theorem V_26 : V m c main_v26 = exO (V m c main_v21) (V m c main_v22) := by
  unfold exO
  after_reads_simp
theorem V_28 : V m c main_v28 = totO (V m c main_v26) := by
  unfold totO
  after_reads_simp
theorem V_34 : V m c main_v34 = outO (Ref.v3 X0) (V m c main_v26) (V m c main_v28) := by
  unfold outO
  after_reads_simp
  rfl
theorem V_37 : V m c main_v37 = lseO (V m c main_v22) (V m c main_v28) := by
  unfold lseO
  after_reads_simp

end Cert.Fox

end
-- ==== Proof.RowVals.lean ====
/-
  The outputs and the logarithms of the row sums, in real numbers.
-/
module

public import proofs.«01_k».proof.Proof.HostRow

@[expose] public section

set_option maxHeartbeats 1600000
set_option maxRecDepth 16384

noncomputable section

namespace Cert.Fox

open Idealize.ShloMosaic Cert.KernelIdeal Cert.KernelIdeal.Gen

variable (lg e : FVec Ideal S8x2048x2048 .f32) (mx : FVec Ideal S8x2048 .f32) (t : FVec Ideal S8x2048x1 .f32) (v : FVec Ideal S2048x8x64 .f32)

theorem exO_at (h : Fin 8) (a b : Fin 2048) : exO lg mx (ix3 h a b) = Ideal.exp (lg (ix3 h a b) - mx (ix2 h a)) := by
  pointwise [exO]
theorem totO_at (h : Fin 8) (a : Fin 2048) : totO e (ix3 h a 0) = ∑ b, e (ix3 h a b) := by
  pointwise [totO]
theorem outO_at (a : Fin 2048) (n : Fin 512) : outO v e t (ix2 a n)
    = ∑ b, v (ix3 b ⟨n.val / 64, by omega⟩ ⟨n.val % 64, Nat.mod_lt _ (by norm_num)⟩) * Ideal.div (e (ix3 ⟨n.val / 64, by omega⟩ a b)) (t (ix3 ⟨n.val / 64, by omega⟩ a 0)) := by
  pointwise [outO]
theorem lseO_at (h : Fin 8) (a : Fin 2048) (l : Fin 128) : lseO mx t (ix3 h a l) = mx (ix2 h a) + Ideal.log (t (ix3 h a 0)) := by
  pointwise [lseO]

variable (x0 : FVec Ideal S2048x3200 .f32) (x1 : FVec Ideal S8x2048 .f32) (x2 : FVec Ideal S2048x1024 .f32)
variable (h0 : Ref.Fine x0) (h1 : Ref.Fine x1)
local notation "A" => Ref.args x0 x1 x2

theorem mxO_eq : mxO (Ref.logits x0 x1) = Ref.mx0 x0 x1 := rfl

include h0 h1
theorem exO_val (h : Fin 8) (a b : Fin 2048) : exO (Ref.logits x0 x1) (Ref.mx0 x0 x1) (ix3 h a b) = (((A).ew h a b * Real.exp (-Ref.top x0 x1 h a) : ℝ) : EReal) := by
  rw [exO_at, Ref.mx0_val x0 x1 x2 h0 h1, Ref.logits_val x0 x1 x2 h0 h1, Args.ew]
  split_ifs
  · rw [← EReal.coe_sub, Ideal.exp_coe, sub_eq_add_neg, Real.exp_add]
  · rw [EReal.bot_sub, Ideal.exp_bot]; simp
theorem totO_val (h : Fin 8) (a : Fin 2048) : totO (exO (Ref.logits x0 x1) (Ref.mx0 x0 x1)) (ix3 h a 0) = (((A).Z h a * Real.exp (-Ref.top x0 x1 h a) : ℝ) : EReal) := by
  rw [totO_at]
  simp only [exO_val x0 x1 x2 h0 h1, sum_coe, Args.Z, Finset.sum_mul]
theorem outO_val (a : Fin 2048) (n : Fin 512) :
    outO (Ref.v3 x0) (exO (Ref.logits x0 x1) (Ref.mx0 x0 x1)) (totO (exO (Ref.logits x0 x1) (Ref.mx0 x0 x1))) (ix2 a n)
      = ((A).out ⟨n.val / 64, by omega⟩ a ⟨n.val % 64, Nat.mod_lt _ (by norm_num)⟩ : EReal) := by
  rw [outO_at]
  have e : ∀ b, Ideal.div (exO (Ref.logits x0 x1) (Ref.mx0 x0 x1) (ix3 ⟨n.val / 64, by omega⟩ a b)) (totO (exO (Ref.logits x0 x1) (Ref.mx0 x0 x1)) (ix3 ⟨n.val / 64, by omega⟩ a 0))
      = ((A).pr ⟨n.val / 64, by omega⟩ a b : EReal) := by
    intro b
    rw [exO_val x0 x1 x2 h0 h1, totO_val x0 x1 x2 h0 h1, Ideal.div_coe (Ref.tot_pos x0 x1 x2 _ a), ← EReal.coe_mul, Args.pr]
    congr 1
    have := ((A).Z_pos ⟨n.val / 64, by omega⟩ a).ne'
    have := (Real.exp_pos (-Ref.top x0 x1 ⟨n.val / 64, by omega⟩ a)).ne'
    field_simp
  simp only [e, Ref.v3_val x0 x1 x2 h0, ← EReal.coe_mul, sum_coe, Args.out, mul_comm]
theorem lseO_val (h : Fin 8) (a : Fin 2048) (l : Fin 128) :
    lseO (Ref.mx0 x0 x1) (totO (exO (Ref.logits x0 x1) (Ref.mx0 x0 x1))) (ix3 h a l) = ((Real.log ((A).Z h a) : ℝ) : EReal) := by
  have hz := (A).Z_pos h a
  have he := Real.exp_pos (-Ref.top x0 x1 h a)
  rw [lseO_at, totO_val x0 x1 x2 h0 h1, Ref.mx0_val x0 x1 x2 h0 h1, Ideal.log_coe, if_neg (not_le.mpr (mul_pos hz he)), ← EReal.coe_add,
    Real.log_mul hz.ne' he.ne', Real.log_exp]
  congr 1; ring

end Cert.Fox

end
-- ==== Proof.TileReal.lean ====
/-
  What one point of the grid computes, in real numbers: a tile of a pair of heads.
-/
module

public import proofs.«01_k».proof.Proof.Attn
public import proofs.«01_k».proof.Proof.RefVals
public import proofs.«01_k».proof.Proof.Steps
public import Idealize.ShloMosaic.Lib.Pointwise
public import Idealize.ShloMosaic.Lib.IdealHost

@[expose] public section

noncomputable section

namespace Cert.Fox

open Idealize.ShloMosaic Cert.KernelIdeal Cert.KernelIdeal.Gen

/-- The reals a point reads: the two heads' augmented queries and keys, the pair's values, output gradients and
    outputs, and each head's logarithms of the row sums. -/
structure Tile where
  Q : Fin 2 → Fin 512 → Fin 128 → ℝ
  K : Fin 2 → Fin 512 → Fin 128 → ℝ
  v : Fin 512 → Fin 128 → ℝ
  g : Fin 512 → Fin 128 → ℝ
  o : Fin 512 → Fin 128 → ℝ
  L : Fin 2 → Fin 512 → ℝ

/-- The head of a lane. -/
def hd (l : Fin 128) : Fin 2 := ⟨l.val / 64, by have := l.isLt; omega⟩

namespace Tile

variable (T : Tile)

/-- The output gradient's lanes of one head. -/
def gm (hh : Fin 2) (r : Fin 512) (l : Fin 128) : ℝ := if hd l = hh then T.g r l else 0

/-- The weights; `dg` says whether the tile lies on the diagonal, where a key past the query has none. -/
def p (dg : Bool) (hh : Fin 2) (r c : Fin 512) : ℝ :=
  if dg = true ∧ r < c then 0 else Real.exp ((∑ l, T.Q hh r l * T.K hh c l) - T.L hh r)

/-- The gradient of the logits. -/
def ds (dg : Bool) (hh : Fin 2) (r c : Fin 512) : ℝ :=
  T.p dg hh r c * ((∑ l, T.gm hh r l * T.v c l) - ∑ l, T.gm hh r l * T.o r l)

/-- The tile is what the six blocks hold. -/
structure Holds (x0 x1 : Vec Ideal S2x512x128 .bf16) (x2 x3 x4 : Vec Ideal S512x128 .f32)
    (x5 : Vec Ideal S2x512x128 .f32) : Prop where
  h0 : ∀ hh r l, x0 (ix3 hh r l) = ((T.Q hh r l : ℝ) : EReal)
  h1 : ∀ hh r l, x1 (ix3 hh r l) = ((T.K hh r l : ℝ) : EReal)
  h2 : ∀ r l, x2 (ix2 r l) = ((T.v r l : ℝ) : EReal)
  h3 : ∀ r l, x3 (ix2 r l) = ((T.g r l : ℝ) : EReal)
  h4 : ∀ r l, x4 (ix2 r l) = ((T.o r l : ℝ) : EReal)
  h5 : ∀ hh r l, x5 (ix3 hh r l) = ((T.L hh r : ℝ) : EReal)

end Tile

/-- A lane before lane 64 is the first head's. -/
theorem select_lt {α : Type} (l : Fin 128) (a b : α) :
    Scalar.select (IntOp.cmpi .slt (BitVec.ofNat 32 l.val) 64#32) a b = if hd l = 0 then a else b := by
  have h : ∀ l : Fin 128, IntOp.cmpi .slt (BitVec.ofNat 32 l.val) 64#32 = if hd l = 0 then 1#1 else 0#1 := by decide +kernel
  rw [h l]; split <;> rfl

/-- The others are the second's. -/
theorem select_ge {α : Type} (l : Fin 128) (a b : α) :
    Scalar.select (IntOp.cmpi .sge (BitVec.ofNat 32 l.val) 64#32) a b = if hd l = 1 then a else b := by
  have h : ∀ l : Fin 128, IntOp.cmpi .sge (BitVec.ofNat 32 l.val) 64#32 = if hd l = 1 then 1#1 else 0#1 := by decide +kernel
  rw [h l]; split <;> rfl

end Cert.Fox

end
-- ==== Proof.TileOff.lean ====
/-
  A point below the diagonal, read entry by entry.
-/
module

public import proofs.«01_k».proof.Proof.TileReal

@[expose] public section

set_option maxHeartbeats 1600000
set_option maxRecDepth 16384

noncomputable section

namespace Cert.Fox

open Idealize.ShloMosaic Cert.KernelIdeal Cert.KernelIdeal.Gen

variable (T : Tile) {x0 x1 : Vec Ideal S2x512x128 .bf16} {x2 x3 x4 : Vec Ideal S512x128 .f32} {x5 : Vec Ideal S2x512x128 .f32}

theorem sel0_at {α : Type} (r : Fin 512) (l : Fin 128) (a b : α) : Scalar.select (k0_pay19 lane (ix2 r l)) a b = if hd l = 0 then a else b := by
  rw [← select_lt]; congr 1; pointwise [k0_pay19]
theorem sel1_at {α : Type} (r : Fin 512) (l : Fin 128) (a b : α) : Scalar.select (k0_pay32 lane (ix2 r l)) a b = if hd l = 1 then a else b := by
  rw [← select_ge]; congr 1; pointwise [k0_pay32]
variable (H : T.Holds x0 x1 x2 x3 x4 x5)
include H
theorem p0_at (r c : Fin 512) : k0_pay24 (head0 x0) (head0 x1) (head0 x5) (ix2 r c) = ((T.p false 0 r c : ℝ) : EReal) := by
  pointwise [k0_pay24, k0_pay20, k0_pay21, head0]
  simp only [H.h0, H.h1, H.h5, dite_eq_ite, ite_self, ← EReal.coe_mul, sum_coe, ← EReal.coe_sub, Ideal.exp_coe, Tile.p, Bool.false_eq_true, false_and, if_false]
theorem p1_at (r c : Fin 512) : k0_pay37 (k0_pay33 (head1 x0)) (k0_pay34 (head1 x1)) (head1 x5) (ix2 r c) = ((T.p false 1 r c : ℝ) : EReal) := by
  pointwise [k0_pay37, k0_pay33, k0_pay34, head1]
  simp only [H.h0, H.h1, H.h5, dite_eq_ite, ite_self, ← EReal.coe_mul, sum_coe, ← EReal.coe_sub, Ideal.exp_coe, Tile.p, Bool.false_eq_true, false_and, if_false]
theorem g0_at (r : Fin 512) (l : Fin 128) : k0_pay22 lane (whole x3) (ix2 r l) = ((T.gm 0 r l : ℝ) : EReal) := by
  pointwise [k0_pay22, whole]
  simp only [sel0_at, H.h3, Tile.gm]; split <;> rfl
theorem g0b_at (r : Fin 512) (l : Fin 128) : k0_pay23 lane (whole x3) (ix2 r l) = ((T.gm 0 r l : ℝ) : EReal) :=
  g0_at T H r l
theorem g1_at (r : Fin 512) (l : Fin 128) : k0_pay35 (whole x3) (k0_pay32 lane) (Scalar.ofBits .f32 0x00000000#32) (ix2 r l) = ((T.gm 1 r l : ℝ) : EReal) := by
  pointwise [k0_pay35, whole]
  simp only [sel1_at, H.h3, Tile.gm]; split <;> simp
theorem g1b_at (r : Fin 512) (l : Fin 128) : k0_pay36 (whole x3) (k0_pay32 lane) (Scalar.ofBits .f32 0x00000000#32) (ix2 r l) = ((T.gm 1 r l : ℝ) : EReal) :=
  g1_at T H r l
theorem ds0_at (r c : Fin 512) : offDs0 x0 x1 x2 x3 x4 x5 (ix2 r c) = ((T.ds false 0 r c : ℝ) : EReal) := by
  have h : offDs0 x0 x1 x2 x3 x4 x5 (ix2 r c) = k0_pay24 (head0 x0) (head0 x1) (head0 x5) (ix2 r c) *
      ((∑ x, k0_pay23 lane (whole x3) (ix2 r x) * x2 (ix2 c x)) - ∑ x, k0_pay22 lane (whole x3) (ix2 r x) * x4 (ix2 r x)) := by
    pointwise [offDs0, k0_pay25, k0_pay16, k0_pay15, whole]
  rw [h, p0_at T H]
  simp only [g0_at T H, g0b_at T H, H.h2, H.h4, ← EReal.coe_mul, sum_coe, ← EReal.coe_sub, Tile.ds]
theorem ds1_at (r c : Fin 512) : offDs1 x0 x1 x2 x3 x4 x5 (ix2 r c) = ((T.ds false 1 r c : ℝ) : EReal) := by
  have h : offDs1 x0 x1 x2 x3 x4 x5 (ix2 r c) = k0_pay37 (k0_pay33 (head1 x0)) (k0_pay34 (head1 x1)) (head1 x5) (ix2 r c) *
      ((∑ x, k0_pay36 (whole x3) (k0_pay32 lane) (Scalar.ofBits .f32 0x00000000#32) (ix2 r x) * x2 (ix2 c x)) - ∑ x, k0_pay35 (whole x3) (k0_pay32 lane) (Scalar.ofBits .f32 0x00000000#32) (ix2 r x) * x4 (ix2 r x)) := by
    pointwise [offDs1, k0_pay38, k0_pay16, k0_pay15, whole]
  rw [h, p1_at T H]
  simp only [g1_at T H, g1b_at T H, H.h2, H.h4, ← EReal.coe_mul, sum_coe, ← EReal.coe_sub, Tile.ds]
theorem ds0b_at (r c : Fin 512) : offDsb0 x0 x1 x2 x3 x4 x5 (ix2 r c) = ((T.ds false 0 r c : ℝ) : EReal) := ds0_at T H r c
theorem ds1b_at (r c : Fin 512) : offDsb1 x0 x1 x2 x3 x4 x5 (ix2 r c) = ((T.ds false 1 r c : ℝ) : EReal) := ds1_at T H r c
theorem lo1_at (r c : Fin 512) : offLo1 x0 x1 x2 x3 x4 x5 (ix2 r c) = 0 := by
  have h : offLo1 x0 x1 x2 x3 x4 x5 (ix2 r c) = offDs1 x0 x1 x2 x3 x4 x5 (ix2 r c) - offDsb1 x0 x1 x2 x3 x4 x5 (ix2 r c) := by
    pointwise [offLo1, offDs1, offDsb1, k0_pay44]
  rw [h, ds1_at T H, ds1b_at T H, ← EReal.coe_sub, sub_self]; rfl

theorem offDqT_at (r : Fin 512) (l : Fin 128) : offDqT x0 x1 x2 x3 x4 x5 (ix2 r l)
    = ((if hd l = 1 then (∑ c, T.ds false 1 r c * T.K 1 c l) * (1/8) else (∑ c, T.ds false 0 r c * T.K 0 c l) * (1/8) : ℝ) : EReal) := by
  have h : offDqT x0 x1 x2 x3 x4 x5 (ix2 r l) = if hd l = 1 then (∑ c, offDsb1 x0 x1 x2 x3 x4 x5 (ix2 r c) * x1 (ix3 1 c l)) * Ideal.ofBits FTy.f32 1040187392#32
      else if hd l = 0 then (∑ c, offDsb0 x0 x1 x2 x3 x4 x5 (ix2 r c) * x1 (ix3 0 c l)) * Ideal.ofBits FTy.f32 1040187392#32 else 0 := by
    rw [← sel0_at r, ← sel1_at r]
    pointwise [offDqT, k0_pay40, k0_pay27, k0_pay34, k0_pay21, offDsb1, offDsb0, head0, head1, whole]
  rw [h]
  simp only [ds0b_at T H, ds1b_at T H, H.h1, Ref.ofBits_eighth, ← EReal.coe_mul, sum_coe]
  split
  · rfl
  · rename_i h1
    rw [if_pos (by unfold hd at *; simp [Fin.ext_iff] at *; omega)]
theorem offDkT_at (r : Fin 512) (l : Fin 128) : offDkT x0 x1 x2 x3 x4 x5 (ix2 r l)
    = ((if hd l = 1 then (∑ c, T.ds false 1 c r * T.Q 1 c l) else (∑ c, T.ds false 0 c r * T.Q 0 c l) : ℝ) : EReal) := by
  have h : offDkT x0 x1 x2 x3 x4 x5 (ix2 r l) = if hd l = 1 then (∑ c, offDsb1 x0 x1 x2 x3 x4 x5 (ix2 c r) * x0 (ix3 1 c l))
      else if hd l = 0 then (∑ c, offDsb0 x0 x1 x2 x3 x4 x5 (ix2 c r) * x0 (ix3 0 c l)) else 0 := by
    rw [← sel0_at r, ← sel1_at r]
    pointwise [offDkT, k0_pay41, k0_pay28, k0_pay33, k0_pay20, k0_pay17, offDsb1, head0, head1, whole]
  rw [h]
  simp only [ds0b_at T H, ds1b_at T H, H.h0, ← EReal.coe_mul, sum_coe]
  split
  · rfl
  · rename_i h1
    rw [if_pos (by unfold hd at *; simp [Fin.ext_iff] at *; omega)]
theorem offDvT_at (r : Fin 512) (l : Fin 128) : offDvT x0 x1 x3 x5 (ix2 r l)
    = (((∑ c, T.p false 0 c r * T.gm 0 c l) + (∑ c, T.p false 1 c r * T.gm 1 c l) : ℝ) : EReal) := by
  have h : offDvT x0 x1 x3 x5 (ix2 r l) = 0 + (∑ x, k0_pay24 (head0 x0) (head0 x1) (head0 x5) (ix2 x r) * k0_pay23 lane (whole x3) (ix2 x l)) +
      ∑ x,
        k0_pay37 (k0_pay33 (head1 x0)) (k0_pay34 (head1 x1)) (head1 x5) (ix2 x r) *
          k0_pay36 (whole x3) (k0_pay32 lane) (Scalar.ofBits .f32 0x00000000#32) (ix2 x l) := by
    pointwise [offDvT, k0_pay42, k0_pay29, k0_pay18]
  rw [h, zero_add]
  simp only [p0_at T H, p1_at T H, g0b_at T H, g1b_at T H, ← EReal.coe_mul, sum_coe, ← EReal.coe_add]

end Cert.Fox

end
-- ==== Proof.TileDia.lean ====
/-
  A point on the diagonal, read entry by entry.
-/
module

public import proofs.«01_k».proof.Proof.TileReal

@[expose] public section

set_option maxHeartbeats 1600000
set_option maxRecDepth 16384

noncomputable section

namespace Cert.Fox

open Idealize.ShloMosaic Cert.KernelIdeal Cert.KernelIdeal.Gen

variable (T : Tile) {x0 x1 : Vec Ideal S2x512x128 .bf16} {x2 x3 x4 : Vec Ideal S512x128 .f32} {x5 : Vec Ideal S2x512x128 .f32}

theorem selD0_at {α : Type} (r : Fin 512) (l : Fin 128) (a b : α) : Scalar.select (k0_pay51 lane (ix2 r l)) a b = if hd l = 0 then a else b := by
  rw [← select_lt]; congr 1; pointwise [k0_pay51]
theorem selD1_at {α : Type} (r : Fin 512) (l : Fin 128) (a b : α) : Scalar.select (k0_pay64 lane (ix2 r l)) a b = if hd l = 1 then a else b := by
  rw [← select_ge]; congr 1; pointwise [k0_pay64]
/-- A query sees its own position and those before it. -/
theorem select_caus {α : Type} (r c : Fin 512) (a b : α) :
    Scalar.select (IntOp.cmpi .sge (BitVec.ofNat 32 r.val) (BitVec.ofNat 32 c.val)) a b = if c ≤ r then a else b := by
  rw [Ref.sge_at ⟨r.val, by omega⟩ ⟨c.val, by omega⟩]; by_cases h : c ≤ r
  · rw [if_pos h, if_pos (by exact h)]; rfl
  · rw [if_neg h, if_neg (by exact h)]; rfl

theorem named_mask : Named.named (F := Ideal) κ "mask" (φ := .f32) 4048155338#32 = (⊥ : EReal) := rfl

variable (H : T.Holds x0 x1 x2 x3 x4 x5)
include H
theorem q0_at (r c : Fin 512) : k0_pay56 (head0 x0) (head0 x1) (head0 x5) (ix2 r c) = ((T.p true 0 r c : ℝ) : EReal) := by
  pointwise [k0_pay56, k0_pay52, k0_pay53, k0_pay47, head0]
  simp only [H.h0, H.h1, H.h5, dite_eq_ite, ite_self, ← EReal.coe_mul, sum_coe, select_caus, named_mask, Tile.p, true_and]
  by_cases hrc : r < c
  · rw [if_neg (by omega), if_pos hrc, EReal.bot_sub, Ideal.exp_bot]; rfl
  · rw [if_pos (by omega), if_neg hrc, ← EReal.coe_sub, Ideal.exp_coe]
theorem q1_at (r c : Fin 512) : k0_pay69 k0_pay47 (k0_pay65 (head1 x0)) (head1 x1) (head1 x5) (ix2 r c) = ((T.p true 1 r c : ℝ) : EReal) := by
  pointwise [k0_pay69, k0_pay65, k0_pay66, k0_pay47, head1]
  simp only [H.h0, H.h1, H.h5, dite_eq_ite, ite_self, ← EReal.coe_mul, sum_coe, select_caus, named_mask, Tile.p, true_and]
  by_cases hrc : r < c
  · rw [if_neg (by omega), if_pos hrc, EReal.bot_sub, Ideal.exp_bot]; rfl
  · rw [if_pos (by omega), if_neg hrc, ← EReal.coe_sub, Ideal.exp_coe]
theorem gD0_at (r : Fin 512) (l : Fin 128) : k0_pay54 lane (whole x3) (ix2 r l) = ((T.gm 0 r l : ℝ) : EReal) := by
  pointwise [k0_pay54, whole]
  simp only [selD0_at, H.h3, Tile.gm]; split <;> rfl
theorem gD0b_at (r : Fin 512) (l : Fin 128) : k0_pay55 lane (whole x3) (ix2 r l) = ((T.gm 0 r l : ℝ) : EReal) :=
  gD0_at T H r l
theorem gD1_at (r : Fin 512) (l : Fin 128) : k0_pay67 (whole x3) (k0_pay64 lane) (ix2 r l) = ((T.gm 1 r l : ℝ) : EReal) := by
  pointwise [k0_pay67, whole]
  simp only [selD1_at, H.h3, Tile.gm]; split <;> simp
theorem gD1b_at (r : Fin 512) (l : Fin 128) : k0_pay68 (whole x3) (k0_pay64 lane) (ix2 r l) = ((T.gm 1 r l : ℝ) : EReal) :=
  gD1_at T H r l
theorem dsD0_at (r c : Fin 512) : diaDs0 x0 x1 x2 x3 x4 x5 (ix2 r c) = ((T.ds true 0 r c : ℝ) : EReal) := by
  have h : diaDs0 x0 x1 x2 x3 x4 x5 (ix2 r c) = k0_pay56 (head0 x0) (head0 x1) (head0 x5) (ix2 r c) *
      ((∑ x, k0_pay55 lane (whole x3) (ix2 r x) * x2 (ix2 c x)) - ∑ x, k0_pay54 lane (whole x3) (ix2 r x) * x4 (ix2 r x)) := by
    pointwise [diaDs0, k0_pay57, k0_pay46, k0_pay45, whole]
  rw [h, q0_at T H]
  simp only [gD0_at T H, gD0b_at T H, H.h2, H.h4, ← EReal.coe_mul, sum_coe, ← EReal.coe_sub, Tile.ds]
theorem dsD1_at (r c : Fin 512) : diaDs1 x0 x1 x2 x3 x4 x5 (ix2 r c) = ((T.ds true 1 r c : ℝ) : EReal) := by
  have h : diaDs1 x0 x1 x2 x3 x4 x5 (ix2 r c) = k0_pay69 k0_pay47 (k0_pay65 (head1 x0)) (head1 x1) (head1 x5) (ix2 r c) *
      ((∑ x, k0_pay68 (whole x3) (k0_pay64 lane) (ix2 r x) * x2 (ix2 c x)) - ∑ x, k0_pay67 (whole x3) (k0_pay64 lane) (ix2 r x) * x4 (ix2 r x)) := by
    pointwise [diaDs1, k0_pay70, k0_pay46, k0_pay45, whole]
  rw [h, q1_at T H]
  simp only [gD1_at T H, gD1b_at T H, H.h2, H.h4, ← EReal.coe_mul, sum_coe, ← EReal.coe_sub, Tile.ds]
theorem dsD0b_at (r c : Fin 512) : diaDsb0 x0 x1 x2 x3 x4 x5 (ix2 r c) = ((T.ds true 0 r c : ℝ) : EReal) := dsD0_at T H r c
theorem dsD1b_at (r c : Fin 512) : diaDsb1 x0 x1 x2 x3 x4 x5 (ix2 r c) = ((T.ds true 1 r c : ℝ) : EReal) := dsD1_at T H r c
theorem diaDqT_at (r : Fin 512) (l : Fin 128) : diaDqT x0 x1 x2 x3 x4 x5 (ix2 r l)
    = ((if hd l = 1 then (∑ c, T.ds true 1 r c * T.K 1 c l) * (1/8) else (∑ c, T.ds true 0 r c * T.K 0 c l) * (1/8) : ℝ) : EReal) := by
  have h : diaDqT x0 x1 x2 x3 x4 x5 (ix2 r l) = if hd l = 1 then (∑ c, diaDsb1 x0 x1 x2 x3 x4 x5 (ix2 r c) * x1 (ix3 1 c l)) * Ideal.ofBits FTy.f32 1040187392#32
      else if hd l = 0 then (∑ c, diaDsb0 x0 x1 x2 x3 x4 x5 (ix2 r c) * x1 (ix3 0 c l)) * Ideal.ofBits FTy.f32 1040187392#32 else 0 := by
    rw [← selD0_at r, ← selD1_at r]
    pointwise [diaDqT, k0_pay72, k0_pay59, k0_pay66, k0_pay53, k0_pay48, diaDsb1, head0, head1, whole]
  rw [h]
  simp only [dsD0b_at T H, dsD1b_at T H, H.h1, Ref.ofBits_eighth, ← EReal.coe_mul, sum_coe]
  split
  · rfl
  · rename_i h1
    rw [if_pos (by unfold hd at *; simp [Fin.ext_iff] at *; omega)]
theorem diaDkT_at (r : Fin 512) (l : Fin 128) : diaDkT x0 x1 x2 x3 x4 x5 (ix2 r l)
    = ((if hd l = 1 then (∑ c, T.ds true 1 c r * T.Q 1 c l) else (∑ c, T.ds true 0 c r * T.Q 0 c l) : ℝ) : EReal) := by
  have h : diaDkT x0 x1 x2 x3 x4 x5 (ix2 r l) = if hd l = 1 then (∑ c, diaDsb1 x0 x1 x2 x3 x4 x5 (ix2 c r) * x0 (ix3 1 c l))
      else if hd l = 0 then (∑ c, diaDsb0 x0 x1 x2 x3 x4 x5 (ix2 c r) * x0 (ix3 0 c l)) else 0 := by
    rw [← selD0_at r, ← selD1_at r]
    pointwise [diaDkT, k0_pay73, k0_pay60, k0_pay65, k0_pay52, k0_pay49, diaDsb1, head0, head1, whole]
  rw [h]
  simp only [dsD0b_at T H, dsD1b_at T H, H.h0, ← EReal.coe_mul, sum_coe]
  split
  · rfl
  · rename_i h1
    rw [if_pos (by unfold hd at *; simp [Fin.ext_iff] at *; omega)]
theorem diaDvT_at (r : Fin 512) (l : Fin 128) : diaDvT x0 x1 x3 x5 (ix2 r l)
    = (((∑ c, T.p true 0 c r * T.gm 0 c l) + (∑ c, T.p true 1 c r * T.gm 1 c l) : ℝ) : EReal) := by
  have h : diaDvT x0 x1 x3 x5 (ix2 r l) = 0 + (∑ x, k0_pay56 (head0 x0) (head0 x1) (head0 x5) (ix2 x r) * k0_pay55 lane (whole x3) (ix2 x l)) +
      ∑ x,
        k0_pay69 k0_pay47 (k0_pay65 (head1 x0)) (head1 x1) (head1 x5) (ix2 x r) *
          k0_pay68 (whole x3) (k0_pay64 lane) (ix2 x l) := by
    pointwise [diaDvT, k0_pay74, k0_pay61, k0_pay50]
  rw [h, zero_add]
  simp only [q0_at T H, q1_at T H, gD0b_at T H, gD1b_at T H, ← EReal.coe_mul, sum_coe, ← EReal.coe_add]

end Cert.Fox

end
-- ==== Proof.TileStep.lean ====
/-
  What a point adds to each of the five results, entry by entry.
-/
module

public import proofs.«01_k».proof.Proof.TileOff
public import proofs.«01_k».proof.Proof.TileDia

@[expose] public section

set_option maxHeartbeats 1600000
set_option maxRecDepth 16384

noncomputable section

namespace Cert.Fox

open Idealize.ShloMosaic Cert.KernelIdeal Cert.KernelIdeal.Gen

/-- Where point `t` puts its rows of the queries' gradients. -/
theorem off3_val : ∀ t : Fin grid0.N, k0_off3 (grid0.coords t) = ![t.val % 4 * 512, 0] := by decide +kernel
theorem off6_val : ∀ t : Fin grid0.N, k0_off6 (grid0.coords t) = ![t.val % 4 * 512, 0] := by decide +kernel
theorem off1_val : ∀ t : Fin grid0.N, k0_off1 (grid0.coords t) = ![0, t.val % 4, 0, 0] := by decide +kernel
theorem off2_val : ∀ t : Fin grid0.N, k0_off2 (grid0.coords t) = ![1, t.val % 4, 0, 0] := by decide +kernel
theorem off4_val : ∀ t : Fin grid0.N, k0_off4 (grid0.coords t) = ![0, t.val % 4, 0, 0] := by decide +kernel
theorem off5_val : ∀ t : Fin grid0.N, k0_off5 (grid0.coords t) = ![1, t.val % 4, 0, 0] := by decide +kernel

/-- Rows put into the queries' gradient: an entry of them, or the entry that was there. -/
theorem put_rows (B : ℕ) (hB : B < 4) (off : Fin 2 → ℕ) (ho : off = ![B * 512, 0]) (w : Vec Ideal S512x128 .f32) (y : Vec Ideal S2048x128 .f32)
    (n : Fin 2048) (l : Fin 128) :
    put (F := Ideal) (s := S2048x128) off S512x128.size w y (ix2 n l)
      = if n.val / 512 = B then w (ix2 ⟨n.val % 512, Nat.mod_lt _ (by norm_num)⟩ l) else y (ix2 n l) := by
  subst ho
  unfold put
  have e0 : ((ix2 n l : S2048x128.Idx) 0).val = n.val := rfl
  have e1 : ((ix2 n l : S2048x128.Idx) 1).val = l.val := rfl
  have hn := n.isLt
  have hl := l.isLt
  by_cases h : n.val / 512 = B
  · rw [if_pos h, dif_pos (by
      intro a; fin_cases a
      · show B * 512 ≤ n.val ∧ n.val < B * 512 + 512; omega
      · show 0 ≤ l.val ∧ l.val < 0 + 128; omega)]
    congr 1
    funext a; apply Fin.ext; rw [Rect.unitLocal_val]
    fin_cases a
    · show n.val - B * 512 = n.val % 512; omega
    · show l.val - 0 = l.val; omega
  · rw [if_neg h, dif_neg]
    intro hh
    have := hh 0
    have h0 : B * 512 ≤ n.val ∧ n.val < B * 512 + 512 := this
    omega
theorem ld_rows (B : ℕ) (hB : B < 4) (off : Fin 2 → ℕ) (ho : off = ![B * 512, 0]) (y : Vec Ideal S2048x128 .f32)
    (inb : ∀ a, off a + S512x128.size a ≤ S2048x128.size a) (r : Fin 512) (l : Fin 128) :
    View.ld (Val := Elt Ideal) y (Rect.unit (s := S2048x128) off S512x128.size inb) (ix2 r l) = y (ix2 ⟨B * 512 + r.val, by omega⟩ l) := by
  subst ho
  show y _ = y _
  congr 1
  funext a; apply Fin.ext
  fin_cases a
  · show B * 512 + 1 * r.val = B * 512 + r.val; omega
  · show 0 + 1 * l.val = l.val; omega
theorem put_gate (H : ℕ) (B : ℕ) (hB : B < 4) (off : Fin 4 → ℕ) (ho : off = ![H, B, 0, 0]) (w : Vec Ideal S1x1x16x512 .f32) (y : Vec Ideal S2x4x16x512 .f32)
    (hh : Fin 2) (b : Fin 4) (s : Fin 16) (r : Fin 512) :
    put (F := Ideal) (s := S2x4x16x512) off S1x1x16x512.size w y (ix4 hh b s r)
      = if hh.val = H ∧ b.val = B then w (ix4 0 0 s r) else y (ix4 hh b s r) := by
  subst ho
  unfold put
  have hs := s.isLt
  have hr := r.isLt
  by_cases h : hh.val = H ∧ b.val = B
  · rw [if_pos h, dif_pos (by
      intro a; fin_cases a
      · show H ≤ hh.val ∧ hh.val < H + 1; omega
      · show B ≤ b.val ∧ b.val < B + 1; omega
      · show 0 ≤ s.val ∧ s.val < 0 + 16; omega
      · show 0 ≤ r.val ∧ r.val < 0 + 512; omega)]
    congr 1
    funext a; apply Fin.ext; rw [Rect.unitLocal_val]
    fin_cases a
    · show hh.val - H = 0; omega
    · show b.val - B = 0; omega
    · show s.val - 0 = s.val; omega
    · show r.val - 0 = r.val; omega
  · rw [if_neg h, dif_neg]
    intro hq
    have h0 : H ≤ hh.val ∧ hh.val < H + 1 := hq 0
    have h1 : B ≤ b.val ∧ b.val < B + 1 := hq 1
    omega
theorem ld_gate (hh : Fin 2) (b : Fin 4) (off : Fin 4 → ℕ) (ho : off = ![hh.val, b.val, 0, 0]) (y : Vec Ideal S2x4x16x512 .f32)
    (inb : ∀ a, off a + S1x1x16x512.size a ≤ S2x4x16x512.size a) (s : Fin 16) (r : Fin 512) :
    View.ld (Val := Elt Ideal) y (Rect.unit (s := S2x4x16x512) off S1x1x16x512.size inb) (ix4 0 0 s r) = y (ix4 hh b s r) := by
  subst ho
  show y _ = y _
  congr 1
  funext a; apply Fin.ext
  fin_cases a
  · show hh.val + 1 * 0 = hh.val; omega
  · show b.val + 1 * 0 = b.val; omega
  · show 0 + 1 * s.val = s.val; omega
  · show 0 + 1 * r.val = r.val; omega
theorem put_row (H : ℕ) (w : Vec Ideal S1x1x512 .f32) (y : Vec Ideal S2x1x512 .f32) (hh : Fin 2) (r : Fin 512) :
    put (F := Ideal) (s := S2x1x512) ![H, 0, 0] S1x1x512.size w y (ix3 hh 0 r)
      = if hh.val = H then w (ix3 0 0 r) else y (ix3 hh 0 r) := by
  unfold put
  have hr := r.isLt
  by_cases h : hh.val = H
  · rw [if_pos h, dif_pos (by
      intro a; fin_cases a
      · show H ≤ hh.val ∧ hh.val < H + 1; omega
      · show 0 ≤ 0 ∧ 0 < 0 + 1; omega
      · show 0 ≤ r.val ∧ r.val < 0 + 512; omega)]
    congr 1
    funext a; apply Fin.ext; rw [Rect.unitLocal_val]
    fin_cases a
    · show hh.val - H = 0; omega
    · rfl
    · show r.val - 0 = r.val; omega
  · rw [if_neg h, dif_neg]
    intro hq
    have h0 : H ≤ hh.val ∧ hh.val < H + 1 := hq 0
    omega

theorem ones_at (s : Fin 16) (r : Fin 512) : k0_pay1 (F := Ideal) (ix2 s r) = (1 : EReal) := by
  pointwise [k0_pay1]

variable (T : Tile) {x0 x1 : Vec Ideal S2x512x128 .bf16} {x2 x3 x4 : Vec Ideal S512x128 .f32} {x5 : Vec Ideal S2x512x128 .f32}
variable (H : T.Holds x0 x1 x2 x3 x4 x5)

namespace Tile
/-- The addend to the queries' gradient. -/
def dq (dg : Bool) (r : Fin 512) (l : Fin 128) : ℝ := (∑ c, T.ds dg (hd l) r c * T.K (hd l) c l) * (1/8)
def dk (dg : Bool) (c : Fin 512) (l : Fin 128) : ℝ := ∑ r, T.ds dg (hd l) r c * T.Q (hd l) r l
def dv (dg : Bool) (c : Fin 512) (l : Fin 128) : ℝ := ∑ r, T.p dg (hd l) r c * T.g r l
def dck (dg : Bool) (hh : Fin 2) (c : Fin 512) : ℝ := ∑ r, T.ds dg hh r c
def dcq (dg : Bool) (hh : Fin 2) (r : Fin 512) : ℝ := ∑ c, T.ds dg hh r c
end Tile

theorem hd_cases (l : Fin 128) : hd l = 0 ∨ hd l = 1 := by
  rcases (hd l) with ⟨n, hn⟩; interval_cases n <;> simp

theorem pick (l : Fin 128) (f : Fin 2 → ℝ) : (if hd l = 1 then f 1 else f 0) = f (hd l) := by
  rcases hd_cases l with h | h <;> simp [h]

theorem dv_pick (dg : Bool) (r : Fin 512) (l : Fin 128) :
    (∑ c, T.p dg 0 c r * T.gm 0 c l) + (∑ c, T.p dg 1 c r * T.gm 1 c l) = T.dv dg r l := by
  unfold Tile.dv Tile.gm
  rcases hd_cases l with h | h <;> simp [h]

include H

theorem offDk_at (y7 : Vec Ideal S512x128 .f32) (r : Fin 512) (l : Fin 128) :
    offDk x0 x1 x2 x3 x4 x5 y7 (ix2 r l) = y7 (ix2 r l) + ((T.dk false r l : ℝ) : EReal) := by
  have h : offDk x0 x1 x2 x3 x4 x5 y7 (ix2 r l) = y7 (ix2 r l) + offDkT x0 x1 x2 x3 x4 x5 (ix2 r l) := by
    pointwise [offDk, k0_pay9, whole]
  rw [h, offDkT_at T H, pick l (fun hh => ∑ c, T.ds false hh c r * T.Q hh c l)]; rfl
theorem diaDk_at (r : Fin 512) (l : Fin 128) :
    diaDk x0 x1 x2 x3 x4 x5 (ix2 r l) = ((T.dk true r l : ℝ) : EReal) := by
  have h : diaDk x0 x1 x2 x3 x4 x5 (ix2 r l) = 0 + diaDkT x0 x1 x2 x3 x4 x5 (ix2 r l) := by
    pointwise [diaDk, k0_pay13, k0_pay4, whole]
  rw [h, zero_add, diaDkT_at T H, pick l (fun hh => ∑ c, T.ds true hh c r * T.Q hh c l)]; rfl
theorem offDv_at (y8 : Vec Ideal S512x128 .f32) (r : Fin 512) (l : Fin 128) :
    offDv x0 x1 x3 x5 y8 (ix2 r l) = y8 (ix2 r l) + ((T.dv false r l : ℝ) : EReal) := by
  have h : offDv x0 x1 x3 x5 y8 (ix2 r l) = y8 (ix2 r l) + offDvT x0 x1 x3 x5 (ix2 r l) := by
    pointwise [offDv, k0_pay10, whole]
  rw [h, offDvT_at T H, dv_pick]
theorem diaDv_at (r : Fin 512) (l : Fin 128) :
    diaDv x0 x1 x3 x5 (ix2 r l) = ((T.dv true r l : ℝ) : EReal) := by
  have h : diaDv x0 x1 x3 x5 (ix2 r l) = 0 + diaDvT x0 x1 x3 x5 (ix2 r l) := by
    pointwise [diaDv, k0_pay14, k0_pay5, whole]
  rw [h, zero_add, diaDvT_at T H, dv_pick]
theorem offDck_at (y9 : Vec Ideal S2x1x512 .f32) (hh : Fin 2) (r : Fin 512) :
    offDck x0 x1 x2 x3 x4 x5 y9 (ix3 hh 0 r) = y9 (ix3 hh 0 r) + ((T.dck false hh r : ℝ) : EReal) := by
  have h0 : k0_pay30 (offDs0 x0 x1 x2 x3 x4 x5) (row0 y9) (ix3 0 0 r) = y9 (ix3 0 0 r) + ∑ c, offDs0 x0 x1 x2 x3 x4 x5 (ix2 c r) := by
    pointwise [k0_pay30, row0]
  have h1 : k0_pay43 (whole x3) (k0_pay15 (whole x4)) (k0_pay16 (whole x2)) (k0_pay32 lane) (k0_pay33 (head1 x0)) (k0_pay34 (head1 x1)) (Scalar.ofBits .f32 0x00000000#32) (head1 x5) (row1 y9) (ix3 0 0 r)
      = y9 (ix3 1 0 r) + ∑ c, offDs1 x0 x1 x2 x3 x4 x5 (ix2 c r) := by
    pointwise [k0_pay43, offDs1, row1]
  simp only [ds0_at T H, ds1_at T H, sum_coe] at h0 h1
  unfold offDck
  rw [put_row, put_row]
  obtain ⟨n, hn⟩ := hh
  interval_cases n
  · rw [if_neg (by simp), if_pos (by simp)]; exact h0
  · rw [if_pos (by simp)]; exact h1
theorem diaDck_at (hh : Fin 2) (r : Fin 512) :
    diaDck x0 x1 x2 x3 x4 x5 (ix3 hh 0 r) = ((T.dck true hh r : ℝ) : EReal) := by
  have h0 : k0_pay62 (diaDs0 x0 x1 x2 x3 x4 x5) (row0 (k0_pay6 (F := Ideal))) (ix3 0 0 r) = 0 + ∑ c, diaDs0 x0 x1 x2 x3 x4 x5 (ix2 c r) := by
    pointwise [k0_pay62, row0, k0_pay6]
  have h1 : k0_pay75 (whole x3) (k0_pay45 (whole x4)) (k0_pay46 (whole x2)) k0_pay47 (k0_pay64 lane) (k0_pay65 (head1 x0)) (head1 x1) (head1 x5) (row1 (k0_pay6 (F := Ideal))) (ix3 0 0 r)
      = 0 + ∑ c, diaDs1 x0 x1 x2 x3 x4 x5 (ix2 c r) := by
    pointwise [k0_pay75, diaDs1, row1, k0_pay6]
  simp only [dsD0_at T H, dsD1_at T H, sum_coe, zero_add] at h0 h1
  unfold diaDck
  rw [put_row, put_row]
  obtain ⟨n, hn⟩ := hh
  interval_cases n
  · rw [if_neg (by simp), if_pos (by simp)]; exact h0
  · rw [if_pos (by simp)]; exact h1
theorem offDq_at (t : Fin grid0.N) (y6 : Vec Ideal S2048x128 .f32) (h : k0_cond3 (grid0.coords t) = 1#1) (n : Fin 2048) (l : Fin 128) :
    offDq x0 x1 x2 x3 x4 x5 (grid0.coords t) y6 h (ix2 n l)
      = if n.val / 512 = t.val % 4 then y6 (ix2 n l) + ((T.dq false ⟨n.val % 512, Nat.mod_lt _ (by norm_num)⟩ l : ℝ) : EReal) else y6 (ix2 n l) := by
  have e : ∀ (w y : Vec Ideal S512x128 .f32) r, k0_pay8 w y (ix2 r l) = y (ix2 r l) + w (ix2 r l) := fun w y r => by pointwise [k0_pay8]
  unfold offDq
  rw [put_rows (t.val % 4) (by omega) _ (off3_val t)]
  split
  · rename_i hn
    rw [e, ld_rows (t.val % 4) (by omega) _ (off3_val t), offDqT_at T H, pick l (fun hh => (∑ c, T.ds false hh _ c * T.K hh c l) * (1/8))]
    congr 3
    apply Fin.ext; show t.val % 4 * 512 + n.val % 512 = n.val; omega
  · rfl
theorem diaDq_at (t : Fin grid0.N) (y6 : Vec Ideal S2048x128 .f32) (h : k0_cond4 (grid0.coords t) = 1#1) (n : Fin 2048) (l : Fin 128) :
    diaDq x0 x1 x2 x3 x4 x5 (grid0.coords t) y6 h (ix2 n l)
      = if n.val / 512 = t.val % 4 then y6 (ix2 n l) + ((T.dq true ⟨n.val % 512, Nat.mod_lt _ (by norm_num)⟩ l : ℝ) : EReal) else y6 (ix2 n l) := by
  have e : ∀ (w y : Vec Ideal S512x128 .f32) r, k0_pay12 w y (ix2 r l) = y (ix2 r l) + w (ix2 r l) := fun w y r => by pointwise [k0_pay12]
  unfold diaDq
  rw [put_rows (t.val % 4) (by omega) _ (off6_val t)]
  split
  · rename_i hn
    rw [e, ld_rows (t.val % 4) (by omega) _ (off6_val t), diaDqT_at T H, pick l (fun hh => (∑ c, T.ds true hh _ c * T.K hh c l) * (1/8))]
    congr 3
    apply Fin.ext; show t.val % 4 * 512 + n.val % 512 = n.val; omega
  · rfl
theorem offDcq_at (t : Fin grid0.N) (y10 : Vec Ideal S2x4x16x512 .f32) (h : k0_cond3 (grid0.coords t) = 1#1) (hh : Fin 2) (b : Fin 4) (s : Fin 16) (r : Fin 512) :
    offDcq x0 x1 x2 x3 x4 x5 (grid0.coords t) y10 h (ix4 hh b s r)
      = if b.val = t.val % 4 then y10 (ix4 hh b s r) + ((T.dcq false hh r : ℝ) : EReal) else y10 (ix4 hh b s r) := by
  have e0 : ∀ (y : Vec Ideal S1x1x16x512 .f32), k0_pay31 (k0_pay1 (F := Ideal)) (offDs0 x0 x1 x2 x3 x4 x5) (offDsb0 x0 x1 x2 x3 x4 x5) y (ix4 0 0 s r)
      = y (ix4 0 0 s r) + ((∑ c, k0_pay1 (F := Ideal) (ix2 s c) * offDsb0 x0 x1 x2 x3 x4 x5 (ix2 r c)) + ∑ c, k0_pay1 (F := Ideal) (ix2 s c) * (offDs0 x0 x1 x2 x3 x4 x5 (ix2 r c) - offDsb0 x0 x1 x2 x3 x4 x5 (ix2 r c))) := fun y => by
    pointwise [k0_pay31]
  have e1 : ∀ (y : Vec Ideal S1x1x16x512 .f32), k0_pay7 (offDsb1 x0 x1 x2 x3 x4 x5) (offLo1 x0 x1 x2 x3 x4 x5) y (ix4 0 0 s r)
      = y (ix4 0 0 s r) + ((∑ c, k0_pay1 (F := Ideal) (ix2 s c) * offDsb1 x0 x1 x2 x3 x4 x5 (ix2 r c)) + ∑ c, k0_pay1 (F := Ideal) (ix2 s c) * offLo1 x0 x1 x2 x3 x4 x5 (ix2 r c)) := fun y => by
    pointwise [k0_pay7]
  simp only [ones_at, one_mul, ds0b_at T H, ds1b_at T H, ds0_at T H, lo1_at T H, ← EReal.coe_sub, sum_coe, sub_self, EReal.coe_zero, Finset.sum_const_zero, add_zero] at e0 e1
  unfold offDcq
  rw [put_gate 1 (t.val % 4) (by omega) _ (off2_val t), put_gate 0 (t.val % 4) (by omega) _ (off1_val t)]
  obtain ⟨n, hn⟩ := hh
  by_cases hb : b.val = t.val % 4
  · interval_cases n
    · rw [if_neg (by simp), if_pos (by simp [hb]), if_pos hb, e0, ld_gate 0 b _ (by rw [off1_val t, ← hb]; rfl)]; rfl
    · rw [if_pos (by simp [hb]), if_pos hb, e1, ld_gate 1 b _ (by rw [off2_val t, ← hb]; rfl)]; rfl
  · rw [if_neg (fun h => hb h.2), if_neg (fun h => hb h.2), if_neg hb]
theorem diaDcq_at (t : Fin grid0.N) (y10 : Vec Ideal S2x4x16x512 .f32) (h : k0_cond4 (grid0.coords t) = 1#1) (hh : Fin 2) (b : Fin 4) (s : Fin 16) (r : Fin 512) :
    diaDcq x0 x1 x2 x3 x4 x5 (grid0.coords t) y10 h (ix4 hh b s r)
      = if b.val = t.val % 4 then y10 (ix4 hh b s r) + ((T.dcq true hh r : ℝ) : EReal) else y10 (ix4 hh b s r) := by
  have e0 : ∀ (y : Vec Ideal S1x1x16x512 .f32), k0_pay63 (k0_pay1 (F := Ideal)) (diaDs0 x0 x1 x2 x3 x4 x5) (diaDsb0 x0 x1 x2 x3 x4 x5) y (ix4 0 0 s r)
      = y (ix4 0 0 s r) + ((∑ c, k0_pay1 (F := Ideal) (ix2 s c) * diaDsb0 x0 x1 x2 x3 x4 x5 (ix2 r c)) + ∑ c, k0_pay1 (F := Ideal) (ix2 s c) * (diaDs0 x0 x1 x2 x3 x4 x5 (ix2 r c) - diaDsb0 x0 x1 x2 x3 x4 x5 (ix2 r c))) := fun y => by
    pointwise [k0_pay63]
  have e1 : ∀ (y : Vec Ideal S1x1x16x512 .f32), k0_pay11 (diaDs1 x0 x1 x2 x3 x4 x5) (diaDsb1 x0 x1 x2 x3 x4 x5) y (ix4 0 0 s r)
      = y (ix4 0 0 s r) + ((∑ c, k0_pay1 (F := Ideal) (ix2 s c) * diaDsb1 x0 x1 x2 x3 x4 x5 (ix2 r c)) + ∑ c, k0_pay1 (F := Ideal) (ix2 s c) * (diaDs1 x0 x1 x2 x3 x4 x5 (ix2 r c) - diaDsb1 x0 x1 x2 x3 x4 x5 (ix2 r c))) := fun y => by
    pointwise [k0_pay11]
  simp only [ones_at, one_mul, dsD0b_at T H, dsD1b_at T H, dsD0_at T H, dsD1_at T H, ← EReal.coe_sub, sum_coe, sub_self, EReal.coe_zero, Finset.sum_const_zero, add_zero] at e0 e1
  unfold diaDcq
  rw [put_gate 1 (t.val % 4) (by omega) _ (off5_val t), put_gate 0 (t.val % 4) (by omega) _ (off4_val t)]
  obtain ⟨n, hn⟩ := hh
  by_cases hb : b.val = t.val % 4
  · interval_cases n
    · rw [if_neg (by simp), if_pos (by simp [hb]), if_pos hb, e0, ld_gate 0 b _ (by rw [off4_val t, ← hb]; rfl)]; rfl
    · rw [if_pos (by simp [hb]), if_pos hb, e1, ld_gate 1 b _ (by rw [off5_val t, ← hb]; rfl)]; rfl
  · rw [if_neg (fun h => hb h.2), if_neg (fun h => hb h.2), if_neg hb]

end Cert.Fox

end
-- ==== Proof.Blocks.lean ====
/-
  What each window's block holds at a point of the grid, as a tile of the attention.
-/
module

public import proofs.«01_k».proof.Proof.HostVals
public import proofs.«01_k».proof.Proof.RowVals
public import proofs.«01_k».proof.Proof.TileStep
public import proofs.«01_k».proof.Proof.Grid
public import Idealize.ShloMosaic.Lib.Pipeline.ValueKit

@[expose] public section

set_option maxHeartbeats 1600000
set_option maxRecDepth 16384

noncomputable section

namespace Cert.Fox

open Idealize.ShloMosaic Cert.KernelIdeal Cert.KernelIdeal.Gen

theorem ix_0 : ∀ t : Fin cfg0.N, win0_0.index t = ![t.val / 16, max (t.val / 4 % 4) (t.val % 4), 0] := (by decide +kernel : ∀ t : Fin grid0.N, _)
theorem ix_1 : ∀ t : Fin cfg0.N, win0_1.index t = ![t.val / 16, t.val / 4 % 4, 0] := (by decide +kernel : ∀ t : Fin grid0.N, _)
theorem ix_2 : ∀ t : Fin cfg0.N, win0_2.index t = ![t.val / 4 % 4, 8 + t.val / 16] := (by decide +kernel : ∀ t : Fin grid0.N, _)
theorem ix_3 : ∀ t : Fin cfg0.N, win0_3.index t = ![max (t.val / 4 % 4) (t.val % 4), t.val / 16] := (by decide +kernel : ∀ t : Fin grid0.N, _)
theorem ix_4 : ∀ t : Fin cfg0.N, win0_4.index t = ![max (t.val / 4 % 4) (t.val % 4), t.val / 16] := (by decide +kernel : ∀ t : Fin grid0.N, _)
theorem ix_5 : ∀ t : Fin cfg0.N, win0_5.index t = ![t.val / 16, max (t.val / 4 % 4) (t.val % 4), 0] := (by decide +kernel : ∀ t : Fin grid0.N, _)
theorem ix_6 : ∀ t : Fin cfg0.N, win0_6.index t = ![0, t.val / 16] := (by decide +kernel : ∀ t : Fin grid0.N, _)
theorem ix_7 : ∀ t : Fin cfg0.N, win0_7.index t = ![t.val / 4 % 4, t.val / 16] := (by decide +kernel : ∀ t : Fin grid0.N, _)
theorem ix_8 : ∀ t : Fin cfg0.N, win0_8.index t = ![t.val / 4 % 4, t.val / 16] := (by decide +kernel : ∀ t : Fin grid0.N, _)
theorem ix_9 : ∀ t : Fin cfg0.N, win0_9.index t = ![t.val / 16, 0, t.val / 4 % 4] := (by decide +kernel : ∀ t : Fin grid0.N, _)
theorem ix_10 : ∀ t : Fin cfg0.N, win0_10.index t = ![t.val / 16, 0, 0, 0] := (by decide +kernel : ∀ t : Fin grid0.N, _)

theorem cov_6 : (cfg0.win 6).Covers := by decide +kernel
theorem cov_7 : (cfg0.win 7).Covers := by decide +kernel
theorem cov_8 : (cfg0.win 8).Covers := by decide +kernel
theorem cov_9 : (cfg0.win 9).Covers := by decide +kernel
theorem cov_10 : (cfg0.win 10).Covers := by decide +kernel

variable (m : (ℓ : Loc nD τ sig) → Buf (Elt Ideal) ℓ) (c : Dev nD) (t : Fin cfg0.N)

theorem t_lt : t.val < 64 := t.isLt
/-- The head `hh` of the point's pair. -/
def hq (hh : Fin 2) : Fin 8 := ⟨t.val / 16 * 2 + hh.val, by have := t_lt t; omega⟩
/-- Row `r` of the point's block of queries. -/
def qr (r : Fin 512) : Fin 2048 := ⟨max (t.val / 4 % 4) (t.val % 4) * 512 + r.val, by omega⟩
/-- Row `r` of the point's block of keys. -/
def kr (r : Fin 512) : Fin 2048 := ⟨t.val / 4 % 4 * 512 + r.val, by omega⟩
/-- The pair's lane `l` among the eight heads'. -/
def ln (l : Fin 128) : Fin 512 := ⟨t.val / 16 * 128 + l.val, by have := t_lt t; omega⟩

theorem rd_0 (G : Vec Ideal S8x2048x128 .bf16) (hh : Fin 2) (r : Fin 512) (l : Fin 128) : (win0_0.blk t).view.read (Elt Ideal) G (ix3 hh r l) = G (ix3 (hq t hh) (qr t r) l) := by
  have e : (win0_0.blk t).view.emb (ix3 hh r l) = (ix3 (hq t hh) (qr t r) l) := by blk_ext [ix_0, hq, qr]
  rw [View.read_apply]
  exact congrArg G e
theorem ib_0 : iblk m c 0 t = (win0_0.blk t).view.read (Elt Ideal) (V m c main_v191) := rfl
theorem blk_0 (hh : Fin 2) (r : Fin 512) (l : Fin 128) : iblk m c 0 t (ix3 hh r l) = (V m c main_v191 : Vec Ideal S8x2048x128 .bf16) (ix3 (hq t hh) (qr t r) l) := by
  rw [ib_0]
  exact rd_0 t (V m c main_v191) hh r l
theorem rd_1 (G : Vec Ideal S8x2048x128 .bf16) (hh : Fin 2) (r : Fin 512) (l : Fin 128) : (win0_1.blk t).view.read (Elt Ideal) G (ix3 hh r l) = G (ix3 (hq t hh) (kr t r) l) := by
  have e : (win0_1.blk t).view.emb (ix3 hh r l) = (ix3 (hq t hh) (kr t r) l) := by blk_ext [ix_1, hq, kr]
  rw [View.read_apply]
  exact congrArg G e
theorem ib_1 : iblk m c 1 t = (win0_1.blk t).view.read (Elt Ideal) (V m c main_v195) := rfl
theorem blk_1 (hh : Fin 2) (r : Fin 512) (l : Fin 128) : iblk m c 1 t (ix3 hh r l) = (V m c main_v195 : Vec Ideal S8x2048x128 .bf16) (ix3 (hq t hh) (kr t r) l) := by
  rw [ib_1]
  exact rd_1 t (V m c main_v195) hh r l
theorem rd_2 (G : Vec Ideal S2048x3200 .f32) (r : Fin 512) (l : Fin 128) : (win0_2.blk t).view.read (Elt Ideal) G (ix2 r l) = G (ix2 (kr t r) ⟨1024 + (ln t l).val, by omega⟩) := by
  have e : (win0_2.blk t).view.emb (ix2 r l) = (ix2 (kr t r) ⟨1024 + (ln t l).val, by omega⟩) := by blk_ext [ix_2, ln, kr]
  rw [View.read_apply]
  exact congrArg G e
theorem ib_2 : iblk m c 2 t = (win0_2.blk t).view.read (Elt Ideal) (V m c main_arg0) := rfl
theorem blk_2 (r : Fin 512) (l : Fin 128) : iblk m c 2 t (ix2 r l) = (V m c main_arg0 : Vec Ideal S2048x3200 .f32) (ix2 (kr t r) ⟨1024 + (ln t l).val, by omega⟩) := by
  rw [ib_2]
  exact rd_2 t (V m c main_arg0) r l
theorem rd_3 (G : Vec Ideal S2048x1024 .f32) (r : Fin 512) (l : Fin 128) : (win0_3.blk t).view.read (Elt Ideal) G (ix2 r l) = G (ix2 (qr t r) ⟨(ln t l).val, by omega⟩) := by
  have e : (win0_3.blk t).view.emb (ix2 r l) = (ix2 (qr t r) ⟨(ln t l).val, by omega⟩) := by blk_ext [ix_3, ln, qr]
  rw [View.read_apply]
  exact congrArg G e
theorem ib_3 : iblk m c 3 t = (win0_3.blk t).view.read (Elt Ideal) (V m c main_arg2) := rfl
theorem blk_3 (r : Fin 512) (l : Fin 128) : iblk m c 3 t (ix2 r l) = (V m c main_arg2 : Vec Ideal S2048x1024 .f32) (ix2 (qr t r) ⟨(ln t l).val, by omega⟩) := by
  rw [ib_3]
  exact rd_3 t (V m c main_arg2) r l
theorem rd_4 (G : Vec Ideal S2048x512 .f32) (r : Fin 512) (l : Fin 128) : (win0_4.blk t).view.read (Elt Ideal) G (ix2 r l) = G (ix2 (qr t r) (ln t l)) := by
  have e : (win0_4.blk t).view.emb (ix2 r l) = (ix2 (qr t r) (ln t l)) := by blk_ext [ix_4, ln, qr]
  rw [View.read_apply]
  exact congrArg G e
theorem ib_4 : iblk m c 4 t = (win0_4.blk t).view.read (Elt Ideal) (V m c main_v34) := rfl
theorem blk_4 (r : Fin 512) (l : Fin 128) : iblk m c 4 t (ix2 r l) = (V m c main_v34 : Vec Ideal S2048x512 .f32) (ix2 (qr t r) (ln t l)) := by
  rw [ib_4]
  exact rd_4 t (V m c main_v34) r l
theorem rd_5 (G : Vec Ideal S8x2048x128 .f32) (hh : Fin 2) (r : Fin 512) (l : Fin 128) : (win0_5.blk t).view.read (Elt Ideal) G (ix3 hh r l) = G (ix3 (hq t hh) (qr t r) l) := by
  have e : (win0_5.blk t).view.emb (ix3 hh r l) = (ix3 (hq t hh) (qr t r) l) := by blk_ext [ix_5, hq, qr]
  rw [View.read_apply]
  exact congrArg G e
theorem ib_5 : iblk m c 5 t = (win0_5.blk t).view.read (Elt Ideal) (V m c main_v37) := rfl
theorem blk_5 (hh : Fin 2) (r : Fin 512) (l : Fin 128) : iblk m c 5 t (ix3 hh r l) = (V m c main_v37 : Vec Ideal S8x2048x128 .f32) (ix3 (hq t hh) (qr t r) l) := by
  rw [ib_5]
  exact rd_5 t (V m c main_v37) hh r l

/-! ## The point's tile -/

local notation "X0" => m (Thread.loc (Dev.tc c : Thread nD τ) main_arg0)
local notation "X1" => m (Thread.loc (Dev.tc c : Thread nD τ) main_arg1)
local notation "X2" => m (Thread.loc (Dev.tc c : Thread nD τ) main_arg2)

/-- The tile of point `t`. -/
def tile (A : Args) : Tile where
  Q hh r l := A.qa (hq t hh) (qr t r) l
  K hh r l := A.ka (hq t hh) (kr t r) l
  v r l := A.v (hq t (hd l)) (kr t r) ⟨l.val % 64, Nat.mod_lt _ (by norm_num)⟩
  g r l := A.g (hq t (hd l)) (qr t r) ⟨l.val % 64, Nat.mod_lt _ (by norm_num)⟩
  o r l := A.out (hq t (hd l)) (qr t r) ⟨l.val % 64, Nat.mod_lt _ (by norm_num)⟩
  L hh r := Real.log (A.Z (hq t hh) (qr t r))

theorem ln_head (l : Fin 128) : (⟨(ln t l).val / 64, by omega⟩ : Fin 8) = hq t (hd l) := by
  apply Fin.ext; show (t.val / 16 * 128 + l.val) / 64 = t.val / 16 * 2 + l.val / 64; omega
theorem ln_lane (l : Fin 128) : (⟨(ln t l).val % 64, Nat.mod_lt _ (by norm_num)⟩ : Fin 64) = ⟨l.val % 64, Nat.mod_lt _ (by norm_num)⟩ := by
  apply Fin.ext; show (t.val / 16 * 128 + l.val) % 64 = l.val % 64; omega
theorem ln_eq (l : Fin 128) : (ln t l).val = (hq t (hd l)).val * 64 + l.val % 64 := by
  show t.val / 16 * 128 + l.val = (t.val / 16 * 2 + l.val / 64) * 64 + l.val % 64; omega

/-- The blocks hold the tile of the arguments. -/
theorem tile_holds (h0 : Ref.Fine X0) (h1 : Ref.Fine X1) (h2 : Ref.Fine X2) :
    (tile t (Ref.args X0 X1 X2)).Holds (iblk m c 0 t) (iblk m c 1 t) (iblk m c 2 t) (iblk m c 3 t) (iblk m c 4 t) (iblk m c 5 t) where
  h0 hh r l := by
    rw [blk_0, V_191, V_113, V_186]
    exact qa_val _ _ _ h0 h1 _ _ _
  h1 hh r l := by
    rw [blk_1, V_195, V_114, V_187]
    exact ka_val _ _ _ h0 h1 _ _ _
  h2 r l := by
    rw [blk_2, V_main_arg0]
    refine (h0 _).trans (congrArg _ ?_)
    show _ = (Ref.args X0 X1 X2).v _ _ _
    unfold Ref.args
    simp only [ln_eq]
  h3 r l := by
    rw [blk_3, V_main_arg2]
    refine (h2 _).trans (congrArg _ ?_)
    show _ = (Ref.args X0 X1 X2).g _ _ _
    unfold Ref.args
    simp only [ln_eq]
  h4 r l := by
    rw [blk_4, V_34, V_26, V_28, V_26, V_22, V_21]
    rw [mxO_eq, outO_val _ _ _ h0 h1, ln_head, ln_lane]
    rfl
  h5 hh r l := by
    rw [blk_5, V_37, V_28, V_26, V_22, V_21]
    rw [mxO_eq]
    exact lseO_val _ _ _ h0 h1 _ _ _

end Cert.Fox

end
-- ==== Proof.Sums.lean ====
/-
  The sums over the blocks of queries and of keys, as the grid's points build them up one block at a time.
-/
module

public import proofs.«01_k».proof.Proof.Blocks

@[expose] public section

set_option maxHeartbeats 1600000

noncomputable section

namespace Cert.Fox

open Idealize.ShloMosaic Cert.KernelIdeal Cert.KernelIdeal.Gen

/-- Row `c` of block `j`. -/
def seg (j : Fin 4) (c : Fin 512) : Fin 2048 := ⟨j.val * 512 + c.val, by omega⟩
/-- A block's part of a sum over the rows. -/
def bs (f : Fin 2048 → ℝ) (j : Fin 4) : ℝ := ∑ c, f (seg j c)

theorem sum_blocks (f : Fin 2048 → ℝ) : ∑ b, f b = ∑ j, bs f j := by
  unfold bs
  rw [← Fintype.sum_prod_type (f := fun p : Fin 4 × Fin 512 => f (seg p.1 p.2))]
  exact (Fintype.sum_equiv (finProdFinEquiv (m := 4) (n := 512)) _ _ (fun p => congrArg f (Fin.ext (by
    show p.1.val * 512 + p.2.val = p.2.val + 512 * p.1.val; omega)))).symm

/-- The key blocks a block of queries has met before point `τ` of a pair. -/
def rowSum (f : Fin 2048 → ℝ) (ν τ : ℕ) : ℝ := ∑ j : Fin 4, if j.val * 4 + ν < τ then bs f j else 0
/-- The query blocks below `ι`. -/
def colSum (f : Fin 2048 → ℝ) (ι : ℕ) : ℝ := ∑ i : Fin 4, if i.val < ι then bs f i else 0

theorem rowSum_zero (f : Fin 2048 → ℝ) (ν : ℕ) : rowSum f ν 0 = 0 := by simp [rowSum]
theorem rowSum_succ (f : Fin 2048 → ℝ) (ν τ : ℕ) (hν : ν < 4) (j : Fin 4) (hj : j.val = τ / 4) :
    rowSum f ν (τ + 1) = rowSum f ν τ + if ν = τ % 4 then bs f j else 0 := by
  have e : ∀ j' : Fin 4, (if j'.val * 4 + ν < τ + 1 then bs f j' else 0)
      = (if j'.val * 4 + ν < τ then bs f j' else 0) + (if j' = j then (if ν = τ % 4 then bs f j else 0) else 0) := by
    intro j'
    by_cases hjj : j' = j
    · subst hjj
      by_cases hn : ν = τ % 4
      · rw [if_pos (by omega), if_neg (by omega), if_pos rfl, if_pos hn, zero_add]
      · rw [if_pos rfl, if_neg hn, add_zero]
        by_cases hl : j'.val * 4 + ν < τ
        · rw [if_pos (by omega), if_pos hl]
        · rw [if_neg (by omega), if_neg hl]
    · have : j'.val ≠ j.val := fun h => hjj (Fin.ext h)
      rw [if_neg hjj, add_zero]
      by_cases hl : j'.val * 4 + ν < τ
      · rw [if_pos (by omega), if_pos hl]
      · rw [if_neg (by omega), if_neg hl]
  unfold rowSum
  rw [Finset.sum_congr rfl (fun j' _ => e j'), Finset.sum_add_distrib, Finset.sum_ite_eq' Finset.univ j, if_pos (Finset.mem_univ _)]
theorem rowSum_all (f : Fin 2048 → ℝ) (ν : ℕ) (hν : ν < 4) : rowSum f ν 16 = ∑ b, f b := by
  rw [sum_blocks]; unfold rowSum
  exact Finset.sum_congr rfl fun j _ => if_pos (by omega)

theorem colSum_succ (f : Fin 2048 → ℝ) (i : Fin 4) : colSum f (i.val + 1) = colSum f i.val + bs f i := by
  have e : ∀ j' : Fin 4, (if j'.val < i.val + 1 then bs f j' else 0)
      = (if j'.val < i.val then bs f j' else 0) + (if j' = i then bs f i else 0) := by
    intro j'
    by_cases hjj : j' = i
    · subst hjj; simp
    · have : j'.val ≠ i.val := fun h => hjj (Fin.ext h)
      rw [if_neg hjj, add_zero]
      by_cases hl : j'.val < i.val
      · rw [if_pos (by omega), if_pos hl]
      · rw [if_neg (by omega), if_neg hl]
  unfold colSum
  rw [Finset.sum_congr rfl (fun j' _ => e j'), Finset.sum_add_distrib, Finset.sum_ite_eq' Finset.univ i, if_pos (Finset.mem_univ _)]
theorem colSum_zero (f : Fin 2048 → ℝ) (ι : ℕ) (h : ∀ i : Fin 4, i.val < ι → bs f i = 0) : colSum f ι = 0 := by
  unfold colSum
  refine Finset.sum_eq_zero fun i _ => ?_
  split
  · rename_i hi; exact h i hi
  · rfl
theorem colSum_all (f : Fin 2048 → ℝ) : colSum f 4 = ∑ a, f a := by
  rw [sum_blocks]; unfold colSum
  exact Finset.sum_congr rfl fun j _ => if_pos (by omega)

/-- The block of keys of a point. -/
def kb (t : Fin cfg0.N) : Fin 4 := ⟨t.val / 4 % 4, by omega⟩
/-- The block of queries of a point. -/
def qb (t : Fin cfg0.N) : Fin 4 := ⟨t.val % 4, by omega⟩
/-- The point before. -/
def bef (t : Fin cfg0.N) : Fin cfg0.N := ⟨t.val - 1, Nat.lt_of_le_of_lt (Nat.sub_le _ _) t.isLt⟩

/-- An entry that gathers a query's sum over the keys, pair by pair. -/
theorem row_run (P : Fin cfg0.N → EReal → Prop) (F : Fin cfg0.N → Fin 2048 → ℝ) (ν : ℕ) (hν : ν < 4)
    (hF : ∀ t, t.val % 16 ≠ 0 → F (bef t) = F t) (hz : ∀ t j, ν < j.val → bs (F t) j = 0)
    (hstep : ∀ t x, P t x → ∃ y, (t.val % 16 ≠ 0 → P (bef t) y)
      ∧ (t.val / 4 % 4 ≤ t.val % 4 → x = if ν = t.val % 4 then (if t.val % 16 = 0 then 0 else y) + ((bs (F t) (kb t) : ℝ) : EReal) else if t.val % 16 = 0 then 0 else y)
      ∧ (t.val % 4 < t.val / 4 % 4 → x = y)) :
    ∀ t x, P t x → x = ((rowSum (F t) ν (t.val % 16 + 1) : ℝ) : EReal) := by
  have key : ∀ k : ℕ, ∀ t : Fin cfg0.N, t.val = k → ∀ x, P t x → x = ((rowSum (F t) ν (t.val % 16 + 1) : ℝ) : EReal) := by
    intro k
    induction k using Nat.strong_induction_on with
    | _ k ih =>
      intro t ht x hx
      obtain ⟨y, hy, hin, hout⟩ := hstep t x hx
      have hprev : t.val % 16 ≠ 0 → y = ((rowSum (F t) ν (t.val % 16) : ℝ) : EReal) := by
        intro h
        have := ih (t.val - 1) (by omega) (bef t) rfl y (hy h)
        rw [hF t h] at this
        have e : (bef t).val % 16 + 1 = t.val % 16 := by show (t.val - 1) % 16 + 1 = _; omega
        rw [e] at this; exact this
      rw [rowSum_succ (F t) ν (t.val % 16) hν (kb t) (by show t.val / 4 % 4 = t.val % 16 / 4; omega)]
      have e4 : t.val % 16 % 4 = t.val % 4 := by omega
      rw [e4]
      rcases Nat.lt_or_ge (t.val % 4) (t.val / 4 % 4) with hlt | hge
      · rw [hout hlt, hprev (by omega)]
        split
        · rename_i hn
          rw [hz t (kb t) (by show ν < t.val / 4 % 4; omega), add_zero]
        · rw [add_zero]
      · have hp : (if t.val % 16 = 0 then 0 else y) = ((rowSum (F t) ν (t.val % 16) : ℝ) : EReal) := by
          split
          · rename_i h; rw [h, rowSum_zero]; rfl
          · rename_i h; exact hprev h
        rw [hin hge, hp]
        split
        · rw [EReal.coe_add]
        · rw [add_zero]
  exact fun t x hx => key t.val t rfl x hx

/-- An entry that gathers a key's sum over the queries, key block by key block. -/
theorem col_run (P : Fin cfg0.N → EReal → Prop) (F : Fin cfg0.N → Fin 2048 → ℝ)
    (hF : ∀ t, t.val % 4 ≠ 0 → F (bef t) = F t) (hz : ∀ t i, i.val < t.val / 4 % 4 → bs (F t) i = 0)
    (hstep : ∀ t x, P t x → ∃ y, (t.val % 4 ≠ 0 → P (bef t) y)
      ∧ (t.val / 4 % 4 < t.val % 4 → x = y + ((bs (F t) (qb t) : ℝ) : EReal))
      ∧ (t.val / 4 % 4 = t.val % 4 → x = ((bs (F t) (qb t) : ℝ) : EReal))) :
    ∀ t x, P t x → t.val / 4 % 4 ≤ t.val % 4 → x = ((colSum (F t) (t.val % 4 + 1) : ℝ) : EReal) := by
  have key : ∀ k : ℕ, ∀ t : Fin cfg0.N, t.val = k → ∀ x, P t x → t.val / 4 % 4 ≤ t.val % 4 → x = ((colSum (F t) (t.val % 4 + 1) : ℝ) : EReal) := by
    intro k
    induction k using Nat.strong_induction_on with
    | _ k ih =>
      intro t ht x hx hle
      obtain ⟨y, hy, hoff, hdia⟩ := hstep t x hx
      have hs := colSum_succ (F t) (qb t)
      change colSum (F t) (t.val % 4 + 1) = colSum (F t) (t.val % 4) + _ at hs
      rw [hs]
      rcases Nat.lt_or_ge (t.val / 4 % 4) (t.val % 4) with hlt | hge
      · have := ih (t.val - 1) (by omega) (bef t) rfl y (hy (by omega)) (by show (t.val - 1) / 4 % 4 ≤ (t.val - 1) % 4; omega)
        rw [hF t (by omega)] at this
        have e : (bef t).val % 4 + 1 = t.val % 4 := by show (t.val - 1) % 4 + 1 = _; omega
        rw [e] at this
        rw [hoff hlt, this, EReal.coe_add]
      · have he : t.val / 4 % 4 = t.val % 4 := le_antisymm hle hge
        rw [hdia he, colSum_zero (F t) (t.val % 4) (fun i hi => hz t i (by omega)), zero_add]
  exact fun t x hx hle => key t.val t rfl x hx hle

end Cert.Fox

end
-- ==== Proof.Tiles.lean ====
/-
  A point's tile is the attention's: its weights, its gradients, and its contributions to each result.
-/
module

public import proofs.«01_k».proof.Proof.Sums

@[expose] public section

set_option maxHeartbeats 1600000

noncomputable section

namespace Cert.Fox

open Idealize.ShloMosaic Cert.KernelIdeal Cert.KernelIdeal.Gen

variable (A : Args) (t : Fin cfg0.N)

theorem kr_seg (c : Fin 512) : kr t c = seg (kb t) c := rfl
theorem qr_seg (hle : t.val / 4 % 4 ≤ t.val % 4) (r : Fin 512) : qr t r = seg (qb t) r := by
  apply Fin.ext; show max _ _ * 512 + _ = t.val % 4 * 512 + _; rw [max_eq_right hle]

theorem lanes_pick (f : Fin 2 → Fin 64 → ℝ) (hh : Fin 2) :
    ∑ l : Fin 128, (if hd l = hh then f (hd l) ⟨l.val % 64, Nat.mod_lt _ (by norm_num)⟩ else 0) = ∑ d, f hh d := by
  rw [Args.sum_lanes]
  have h0 : ∀ d : Fin 64, hd ⟨d.val, by omega⟩ = 0 := fun d => Fin.ext (by show d.val / 64 = 0; omega)
  have h1 : ∀ d : Fin 64, hd ⟨64 + d.val, by omega⟩ = 1 := fun d => Fin.ext (by show (64 + d.val) / 64 = 1; omega)
  have e2 : ∀ d : Fin 64, d.val % 64 = d.val := fun d => by omega
  have e3 : ∀ d : Fin 64, (64 + d.val) % 64 = d.val := fun d => by omega
  simp only [h0, h1, e2, e3, Fin.eta]
  have : hh = 0 ∨ hh = 1 := by rcases hh with ⟨n, hn⟩; interval_cases n <;> simp
  rcases this with rfl | rfl <;> simp

variable (dg : Bool) (hle : t.val / 4 % 4 ≤ t.val % 4) (hdg : dg = true ↔ t.val / 4 % 4 = t.val % 4)

include hle hdg

theorem tile_p (hh : Fin 2) (r c : Fin 512) : (tile t A).p dg hh r c = A.pr (hq t hh) (seg (qb t) r) (seg (kb t) c) := by
  rw [← qr_seg t hle, ← kr_seg]
  unfold Tile.p tile
  simp only
  rw [A.qa_ka]
  have hv : (kr t c ≤ qr t r) ↔ t.val / 4 % 4 * 512 + c.val ≤ t.val % 4 * 512 + r.val := by
    rw [Fin.le_def]; show t.val / 4 % 4 * 512 + c.val ≤ max _ _ * 512 + r.val ↔ _; rw [max_eq_right hle]
  have hr : r < c ↔ r.val < c.val := Fin.lt_def
  by_cases hba : kr t c ≤ qr t r
  · have hba' := hv.1 hba
    rw [if_neg (by rintro ⟨h1, h2⟩; have := hdg.1 h1; rw [hr] at h2; omega)]
    unfold Args.pr Args.ew
    rw [if_pos hba, Real.exp_sub, Real.exp_log (A.Z_pos _ _)]
  · have hba' := fun h => hba (hv.2 h)
    rw [A.pr_above _ _ _ hba, if_pos ⟨hdg.2 (by omega), hr.2 (by omega)⟩]

theorem tile_ds (hh : Fin 2) (r c : Fin 512) : (tile t A).ds dg hh r c = A.ds (hq t hh) (seg (qb t) r) (seg (kb t) c) := by
  unfold Tile.ds
  rw [tile_p A t dg hle hdg, ← qr_seg t hle, ← kr_seg]
  unfold Args.ds
  rw [A.avg_eq]
  unfold Args.dpr Tile.gm tile
  simp only [ite_mul, zero_mul]
  rw [lanes_pick (fun h d => A.g (hq t h) (qr t r) d * A.v (hq t h) (kr t c) d),
    lanes_pick (fun h d => A.g (hq t h) (qr t r) d * A.out (hq t h) (qr t r) d)]

omit hle hdg in
theorem own (l : Fin 128) : l.val / 64 = (hq t (hd l)).val % 2 := by
  show l.val / 64 = (t.val / 16 * 2 + l.val / 64) % 2; omega

theorem tile_dq (r : Fin 512) (l : Fin 128) : (tile t A).dq dg r l
    = bs (fun b => A.ds (hq t (hd l)) (seg (qb t) r) b * (1 / 8) * A.k (hq t (hd l)) b ⟨l.val % 64, Nat.mod_lt _ (by norm_num)⟩) (kb t) := by
  unfold Tile.dq bs
  rw [Finset.sum_mul]
  refine Finset.sum_congr rfl fun c _ => ?_
  rw [tile_ds A t dg hle hdg]
  have : (tile t A).K (hd l) c l = A.k (hq t (hd l)) (seg (kb t) c) ⟨l.val % 64, Nat.mod_lt _ (by norm_num)⟩ := by
    unfold tile Args.ka; simp only; rw [if_pos (own t l), kr_seg]
  rw [this]; ring
theorem tile_dk (c : Fin 512) (l : Fin 128) : (tile t A).dk dg c l
    = bs (fun a => A.ds (hq t (hd l)) a (seg (kb t) c) * (1 / 8) * A.q (hq t (hd l)) a ⟨l.val % 64, Nat.mod_lt _ (by norm_num)⟩) (qb t) := by
  unfold Tile.dk bs
  refine Finset.sum_congr rfl fun r _ => ?_
  rw [tile_ds A t dg hle hdg]
  have : (tile t A).Q (hd l) r l = A.q (hq t (hd l)) (seg (qb t) r) ⟨l.val % 64, Nat.mod_lt _ (by norm_num)⟩ * (1 / 8) := by
    unfold tile Args.qa; simp only; rw [if_pos (own t l), qr_seg t hle]
  rw [this]; ring
theorem tile_dv (c : Fin 512) (l : Fin 128) : (tile t A).dv dg c l
    = bs (fun a => A.g (hq t (hd l)) a ⟨l.val % 64, Nat.mod_lt _ (by norm_num)⟩ * A.pr (hq t (hd l)) a (seg (kb t) c)) (qb t) := by
  unfold Tile.dv bs
  refine Finset.sum_congr rfl fun r _ => ?_
  rw [tile_p A t dg hle hdg]
  have : (tile t A).g r l = A.g (hq t (hd l)) (seg (qb t) r) ⟨l.val % 64, Nat.mod_lt _ (by norm_num)⟩ := by
    unfold tile; simp only; rw [qr_seg t hle]
  rw [this]; ring
theorem tile_dck (hh : Fin 2) (c : Fin 512) : (tile t A).dck dg hh c = bs (fun a => A.ds (hq t hh) a (seg (kb t) c)) (qb t) := by
  unfold Tile.dck bs
  exact Finset.sum_congr rfl fun r _ => tile_ds A t dg hle hdg hh r c
theorem tile_dcq (hh : Fin 2) (r : Fin 512) : (tile t A).dcq dg hh r = bs (fun b => A.ds (hq t hh) (seg (qb t) r) b) (kb t) := by
  unfold Tile.dcq bs
  exact Finset.sum_congr rfl fun c _ => tile_ds A t dg hle hdg hh r c

end Cert.Fox

end
-- ==== Proof.Gather.lean ====
/-
  What each result's buffer holds after each point of the grid, for any run.
-/
module

public import proofs.«01_k».proof.Proof.Tiles

@[expose] public section

set_option maxHeartbeats 1600000

noncomputable section

namespace Cert.Fox

open Idealize.ShloMosaic Cert.KernelIdeal Cert.KernelIdeal.Gen

variable (m : (ℓ : Loc nD τ sig) → Buf (Elt Ideal) ℓ) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)
local notation "A" => Ref.args X0 X1 X2

/-- The lane's feature. -/
def ft (l : Fin 128) : Fin 64 := ⟨l.val % 64, Nat.mod_lt _ (by norm_num)⟩

theorem prev_6 (t : Fin cfg0.N) (Y) (h : (rdat m c).Finds 6 t Y) (ht : t.val % 16 ≠ 0) : (rdat m c).Leaves 6 (bef t) Y :=
  ((Pipeline.RDat.finds_of_pos _ (Pipeline.Window.fetch_out _ rfl t) (fun h => ht (by rw [h])) Y).1 h).resolve_left (fun hf => by
    have := (flush0_6 _).1 hf; simp only at this; omega)
theorem prev_10 (t : Fin cfg0.N) (Y) (h : (rdat m c).Finds 10 t Y) (ht : t.val % 16 ≠ 0) : (rdat m c).Leaves 10 (bef t) Y :=
  ((Pipeline.RDat.finds_of_pos _ (Pipeline.Window.fetch_out _ rfl t) (fun h => ht (by rw [h])) Y).1 h).resolve_left (fun hf => by
    have := (flush0_10 _).1 hf; simp only at this; omega)
theorem prev_7 (t : Fin cfg0.N) (Y) (h : (rdat m c).Finds 7 t Y) (ht : t.val % 4 ≠ 0) : (rdat m c).Leaves 7 (bef t) Y :=
  ((Pipeline.RDat.finds_of_pos _ (Pipeline.Window.fetch_out _ rfl t) (fun h => ht (by rw [h])) Y).1 h).resolve_left (fun hf => by
    have := (flush0_7 _).1 hf; simp only at this; omega)
theorem prev_8 (t : Fin cfg0.N) (Y) (h : (rdat m c).Finds 8 t Y) (ht : t.val % 4 ≠ 0) : (rdat m c).Leaves 8 (bef t) Y :=
  ((Pipeline.RDat.finds_of_pos _ (Pipeline.Window.fetch_out _ rfl t) (fun h => ht (by rw [h])) Y).1 h).resolve_left (fun hf => by
    have := (flush0_8 _).1 hf; simp only at this; omega)
theorem prev_9 (t : Fin cfg0.N) (Y) (h : (rdat m c).Finds 9 t Y) (ht : t.val % 4 ≠ 0) : (rdat m c).Leaves 9 (bef t) Y :=
  ((Pipeline.RDat.finds_of_pos _ (Pipeline.Window.fetch_out _ rfl t) (fun h => ht (by rw [h])) Y).1 h).resolve_left (fun hf => by
    have := (flush0_9 _).1 hf; simp only at this; omega)

theorem zero_6 (n : Fin 2048) (l : Fin 128) : k0_pay2 (F := Ideal) (ix2 n l) = 0 := by
  pointwise [k0_pay2]
theorem zero_10 (h : Fin 2) (b : Fin 4) (s : Fin 16) (r : Fin 512) : k0_pay3 (F := Ideal) (ix4 h b s r) = 0 := by
  pointwise [k0_pay3]

theorem bef_hq (t : Fin cfg0.N) (h : t.val % 16 ≠ 0) (hh : Fin 2) : hq (bef t) hh = hq t hh := by
  apply Fin.ext; show (t.val - 1) / 16 * 2 + _ = t.val / 16 * 2 + _; omega
theorem bef_kb (t : Fin cfg0.N) (h : t.val % 4 ≠ 0) : kb (bef t) = kb t := by
  apply Fin.ext; show (t.val - 1) / 4 % 4 = t.val / 4 % 4; omega

/-- A query's row is its block's. -/
theorem row_seg (t : Fin cfg0.N) (n : Fin 2048) (h : n.val / 512 = t.val % 4) : seg (qb t) ⟨n.val % 512, Nat.mod_lt _ (by norm_num)⟩ = n := by
  apply Fin.ext; show t.val % 4 * 512 + n.val % 512 = n.val; omega

theorem dq_leaves (h0 : Ref.Fine X0) (h1 : Ref.Fine X1) (h2 : Ref.Fine X2) (t : Fin cfg0.N) (X : Vec Ideal S2048x128 .f32) (hX : (rdat m c).Leaves 6 t X) (n : Fin 2048) (l : Fin 128) :
    X (ix2 n l) = ((rowSum (fun b => (A).ds (hq t (hd l)) n b * (1 / 8) * (A).k (hq t (hd l)) b (ft l)) (n.val / 512) (t.val % 16 + 1) : ℝ) : EReal) := by
  refine row_run (fun t x => ∃ X : Vec Ideal S2048x128 .f32, (rdat m c).Leaves 6 t X ∧ x = X (ix2 n l))
    (fun t b => (A).ds (hq t (hd l)) n b * (1 / 8) * (A).k (hq t (hd l)) b (ft l)) (n.val / 512) (by omega) ?_ ?_ ?_ t _ ⟨X, hX, rfl⟩
  · intro t ht; simp only [bef_hq t ht]
  · intro t j hj
    refine Finset.sum_eq_zero fun c _ => ?_
    dsimp only
    rw [(A).ds_above _ _ _ (by rw [Fin.le_def]; show ¬ j.val * 512 + c.val ≤ n.val; omega)]; ring
  · rintro t x ⟨X, ⟨Y, hY, hX⟩, rfl⟩
    change stepDq m c t Y X at hX
    have H := tile_holds m c t h0 h1 h2
    refine ⟨(Y : Vec Ideal S2048x128 .f32) (ix2 n l), fun ht => ⟨Y, prev_6 m c t Y hY ht, rfl⟩, fun hle => ?_, fun hlt => congrFun (hX.2.2 hlt) _⟩
    rcases Nat.lt_or_ge (t.val / 4 % 4) (t.val % 4) with hlt | hge
    · have hc := (hcond3 t).2 hlt
      rw [hX.1 hc, offDq_at _ H, if_neg (show ¬ t.val % 16 = 0 by omega)]
      split
      · rename_i hn
        rw [tile_dq _ t false hle (by simp; omega), row_seg t n hn]; rfl
      · rfl
    · have he : t.val / 4 % 4 = t.val % 4 := le_antisymm hle hge
      have hc := (hcond4 t).2 he
      have hy : (if t.val % 16 = 0 then k0_pay2 (F := Ideal) else Y : Vec Ideal S2048x128 .f32) (ix2 n l) = if t.val % 16 = 0 then (0 : EReal) else (Y : Vec Ideal S2048x128 .f32) (ix2 n l) := by
        split
        · exact zero_6 n l
        · rfl
      rw [hX.2.1 hc, diaDq_at _ H, hy]
      split
      · rename_i hn
        rw [tile_dq _ t true hle (by simp [he]), row_seg t n hn]; rfl
      · rfl

theorem dcq_leaves (h0 : Ref.Fine X0) (h1 : Ref.Fine X1) (h2 : Ref.Fine X2) (t : Fin cfg0.N) (X : Vec Ideal S2x4x16x512 .f32) (hX : (rdat m c).Leaves 10 t X) (hh : Fin 2) (b : Fin 4) (s : Fin 16) (r : Fin 512) :
    X (ix4 hh b s r) = ((rowSum (fun k => (A).ds (hq t hh) (seg b r) k) b.val (t.val % 16 + 1) : ℝ) : EReal) := by
  refine row_run (fun t x => ∃ X : Vec Ideal S2x4x16x512 .f32, (rdat m c).Leaves 10 t X ∧ x = X (ix4 hh b s r))
    (fun t k => (A).ds (hq t hh) (seg b r) k) b.val b.isLt ?_ ?_ ?_ t _ ⟨X, hX, rfl⟩
  · intro t ht; simp only [bef_hq t ht]
  · intro t j hj
    refine Finset.sum_eq_zero fun c _ => ?_
    exact (A).ds_above _ _ _ (by rw [Fin.le_def]; show ¬ j.val * 512 + c.val ≤ b.val * 512 + r.val; omega)
  · rintro t x ⟨X, ⟨Y, hY, hX⟩, rfl⟩
    change stepDcq m c t Y X at hX
    have H := tile_holds m c t h0 h1 h2
    have hb : b.val = t.val % 4 → qb t = b := fun h => Fin.ext h.symm
    refine ⟨(Y : Vec Ideal S2x4x16x512 .f32) (ix4 hh b s r), fun ht => ⟨Y, prev_10 m c t Y hY ht, rfl⟩, fun hle => ?_, fun hlt => congrFun (hX.2.2 hlt) _⟩
    rcases Nat.lt_or_ge (t.val / 4 % 4) (t.val % 4) with hlt | hge
    · have hc := (hcond3 t).2 hlt
      rw [hX.1 hc, offDcq_at _ H, if_neg (show ¬ t.val % 16 = 0 by omega)]
      split
      · rename_i hn
        rw [tile_dcq _ t false hle (by simp; omega), hb hn]
      · rfl
    · have he : t.val / 4 % 4 = t.val % 4 := le_antisymm hle hge
      have hc := (hcond4 t).2 he
      have hy : (if t.val % 16 = 0 then k0_pay3 (F := Ideal) else Y : Vec Ideal S2x4x16x512 .f32) (ix4 hh b s r) = if t.val % 16 = 0 then (0 : EReal) else (Y : Vec Ideal S2x4x16x512 .f32) (ix4 hh b s r) := by
        split
        · exact zero_10 hh b s r
        · rfl
      rw [hX.2.1 hc, diaDcq_at _ H, hy]
      split
      · rename_i hn
        rw [tile_dcq _ t true hle (by simp [he]), hb hn]
      · rfl

theorem dk_leaves (h0 : Ref.Fine X0) (h1 : Ref.Fine X1) (h2 : Ref.Fine X2) (t : Fin cfg0.N) (X : Vec Ideal S512x128 .f32) (hX : (rdat m c).Leaves 7 t X) (hle : t.val / 4 % 4 ≤ t.val % 4) (r : Fin 512) (l : Fin 128) :
    X (ix2 r l) = ((colSum (fun a => (A).ds (hq t (hd l)) a (seg (kb t) r) * (1 / 8) * (A).q (hq t (hd l)) a (ft l)) (t.val % 4 + 1) : ℝ) : EReal) := by
  refine col_run (fun t x => ∃ X : Vec Ideal S512x128 .f32, (rdat m c).Leaves 7 t X ∧ x = X (ix2 r l))
    (fun t a => (A).ds (hq t (hd l)) a (seg (kb t) r) * (1 / 8) * (A).q (hq t (hd l)) a (ft l)) ?_ ?_ ?_ t _ ⟨X, hX, rfl⟩ hle
  · intro t ht; simp only [bef_hq t (by omega), bef_kb t ht]
  · intro t i hi
    refine Finset.sum_eq_zero fun a _ => ?_
    dsimp only
    rw [(A).ds_above _ _ _ (by rw [Fin.le_def]; show ¬ t.val / 4 % 4 * 512 + r.val ≤ i.val * 512 + a.val; omega)]; ring
  · rintro t x ⟨X, ⟨Y, hY, hX⟩, rfl⟩
    change stepDk m c t Y X at hX
    have H := tile_holds m c t h0 h1 h2
    refine ⟨(Y : Vec Ideal S512x128 .f32) (ix2 r l), fun ht => ⟨Y, prev_7 m c t Y hY ht, rfl⟩, fun hlt => ?_, fun he => ?_⟩
    · rw [hX.1 ((hcond3 t).2 hlt), offDk_at _ H, tile_dk _ t false hlt.le (by simp; omega)]; rfl
    · rw [hX.2.1 ((hcond4 t).2 he), diaDk_at _ H, tile_dk _ t true he.le (by simp [he])]; rfl

theorem dv_leaves (h0 : Ref.Fine X0) (h1 : Ref.Fine X1) (h2 : Ref.Fine X2) (t : Fin cfg0.N) (X : Vec Ideal S512x128 .f32) (hX : (rdat m c).Leaves 8 t X) (hle : t.val / 4 % 4 ≤ t.val % 4) (r : Fin 512) (l : Fin 128) :
    X (ix2 r l) = ((colSum (fun a => (A).g (hq t (hd l)) a (ft l) * (A).pr (hq t (hd l)) a (seg (kb t) r)) (t.val % 4 + 1) : ℝ) : EReal) := by
  refine col_run (fun t x => ∃ X : Vec Ideal S512x128 .f32, (rdat m c).Leaves 8 t X ∧ x = X (ix2 r l))
    (fun t a => (A).g (hq t (hd l)) a (ft l) * (A).pr (hq t (hd l)) a (seg (kb t) r)) ?_ ?_ ?_ t _ ⟨X, hX, rfl⟩ hle
  · intro t ht; simp only [bef_hq t (by omega), bef_kb t ht]
  · intro t i hi
    refine Finset.sum_eq_zero fun a _ => ?_
    dsimp only
    rw [(A).pr_above _ _ _ (by rw [Fin.le_def]; show ¬ t.val / 4 % 4 * 512 + r.val ≤ i.val * 512 + a.val; omega)]; ring
  · rintro t x ⟨X, ⟨Y, hY, hX⟩, rfl⟩
    change stepDv m c t Y X at hX
    have H := tile_holds m c t h0 h1 h2
    refine ⟨(Y : Vec Ideal S512x128 .f32) (ix2 r l), fun ht => ⟨Y, prev_8 m c t Y hY ht, rfl⟩, fun hlt => ?_, fun he => ?_⟩
    · rw [hX.1 ((hcond3 t).2 hlt), offDv_at _ H, tile_dv _ t false hlt.le (by simp; omega)]; rfl
    · rw [hX.2.1 ((hcond4 t).2 he), diaDv_at _ H, tile_dv _ t true he.le (by simp [he])]; rfl

theorem dck_leaves (h0 : Ref.Fine X0) (h1 : Ref.Fine X1) (h2 : Ref.Fine X2) (t : Fin cfg0.N) (X : Vec Ideal S2x1x512 .f32) (hX : (rdat m c).Leaves 9 t X) (hle : t.val / 4 % 4 ≤ t.val % 4) (hh : Fin 2) (r : Fin 512) :
    X (ix3 hh 0 r) = ((colSum (fun a => (A).ds (hq t hh) a (seg (kb t) r)) (t.val % 4 + 1) : ℝ) : EReal) := by
  refine col_run (fun t x => ∃ X : Vec Ideal S2x1x512 .f32, (rdat m c).Leaves 9 t X ∧ x = X (ix3 hh 0 r))
    (fun t a => (A).ds (hq t hh) a (seg (kb t) r)) ?_ ?_ ?_ t _ ⟨X, hX, rfl⟩ hle
  · intro t ht; simp only [bef_hq t (by omega), bef_kb t ht]
  · intro t i hi
    refine Finset.sum_eq_zero fun a _ => ?_
    exact (A).ds_above _ _ _ (by rw [Fin.le_def]; show ¬ t.val / 4 % 4 * 512 + r.val ≤ i.val * 512 + a.val; omega)
  · rintro t x ⟨X, ⟨Y, hY, hX⟩, rfl⟩
    change stepDck m c t Y X at hX
    have H := tile_holds m c t h0 h1 h2
    refine ⟨(Y : Vec Ideal S2x1x512 .f32) (ix3 hh 0 r), fun ht => ⟨Y, prev_9 m c t Y hY ht, rfl⟩, fun hlt => ?_, fun he => ?_⟩
    · rw [hX.1 ((hcond3 t).2 hlt), offDck_at _ H, tile_dck _ t false hlt.le (by simp; omega)]
    · rw [hX.2.1 ((hcond4 t).2 he), diaDck_at _ H, tile_dck _ t true he.le (by simp [he])]

end Cert.Fox

end
-- ==== Proof.Final.lean ====
/-
  The five result arrays at the end of any run are the reference's.
-/
module

public import proofs.«01_k».proof.Proof.Gather

@[expose] public section

set_option maxHeartbeats 1600000

noncomputable section

namespace Cert.Fox

open Idealize.ShloMosaic Cert.KernelIdeal Cert.KernelIdeal.Gen

variable (m : (ℓ : Loc nD τ sig) → Buf (Elt Ideal) ℓ) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)
local notation "A" => Ref.args X0 X1 X2

variable (aft : (w : Fin cfg0.W) → Fin cfg0.N → (cfg0.win w).block.Idx → Elt Ideal (cfg0.win w).elt)
  (hL : ∀ (w : Fin cfg0.W) (u : Fin cfg0.N), (cfg0.win w).flush u = true → (rdat m c).Leaves w u (aft w u))
include hL

theorem dq_final (h0 : Ref.Fine X0) (h1 : Ref.Fine X1) (h2 : Ref.Fine X2) :
    ((rdat m c).withAfter aft).arrAt 6 cfg0.N = Ref.rdq X0 X1 X2 := by
  refine Pipeline.Dat.arrAt_eq_of_covers _ 6 _ cov_6 fun t hf y => ?_
  change (aft 6 t : Vec Ideal S2048x128 .f32) y = Ref.rdq X0 X1 X2 ((win0_6.blk t).view.emb y)
  have ht := (flush0_6 t).1 hf
  obtain ⟨n, l, rfl⟩ : ∃ (n : Fin 2048) (l : Fin 128), y = ix2 n l := ⟨y 0, y 1, eq_ix2 y⟩
  have e : (win0_6.blk t).view.emb (ix2 n l) = ix2 n (ln t l) := by blk_ext [ix_6, ln]
  rw [e, dq_leaves m c h0 h1 h2 t _ (hL 6 t hf) n l, ht, rowSum_all _ _ (by omega), Ref.rdq_val _ _ _ h0 h1 h2, ln_head, ln_lane]
  rfl

theorem dk_final (h0 : Ref.Fine X0) (h1 : Ref.Fine X1) (h2 : Ref.Fine X2) :
    ((rdat m c).withAfter aft).arrAt 7 cfg0.N = Ref.rdk X0 X1 X2 := by
  refine Pipeline.Dat.arrAt_eq_of_covers _ 7 _ cov_7 fun t hf y => ?_
  change (aft 7 t : Vec Ideal S512x128 .f32) y = Ref.rdk X0 X1 X2 ((win0_7.blk t).view.emb y)
  have ht := (flush0_7 t).1 hf
  obtain ⟨n, l, rfl⟩ : ∃ (n : Fin 512) (l : Fin 128), y = ix2 n l := ⟨y 0, y 1, eq_ix2 y⟩
  have e : (win0_7.blk t).view.emb (ix2 n l) = ix2 (seg (kb t) n) (ln t l) := by blk_ext [ix_7, ln, seg, kb]
  rw [e, dk_leaves m c h0 h1 h2 t _ (hL 7 t hf) (by omega) n l, ht, colSum_all, Ref.rdk_val _ _ _ h0 h1 h2, ln_head, ln_lane]
  rfl

theorem dv_final (h0 : Ref.Fine X0) (h1 : Ref.Fine X1) (h2 : Ref.Fine X2) :
    ((rdat m c).withAfter aft).arrAt 8 cfg0.N = Ref.rdv X0 X1 X2 := by
  refine Pipeline.Dat.arrAt_eq_of_covers _ 8 _ cov_8 fun t hf y => ?_
  change (aft 8 t : Vec Ideal S512x128 .f32) y = Ref.rdv X0 X1 X2 ((win0_8.blk t).view.emb y)
  have ht := (flush0_8 t).1 hf
  obtain ⟨n, l, rfl⟩ : ∃ (n : Fin 512) (l : Fin 128), y = ix2 n l := ⟨y 0, y 1, eq_ix2 y⟩
  have e : (win0_8.blk t).view.emb (ix2 n l) = ix2 (seg (kb t) n) (ln t l) := by blk_ext [ix_8, ln, seg, kb]
  rw [e, dv_leaves m c h0 h1 h2 t _ (hL 8 t hf) (by omega) n l, ht, colSum_all, Ref.rdv_val _ _ _ h0 h1 h2, ln_head, ln_lane]
  rfl

theorem dck_final (h0 : Ref.Fine X0) (h1 : Ref.Fine X1) (h2 : Ref.Fine X2) :
    ((rdat m c).withAfter aft).arrAt 9 cfg0.N = Ref.rdck X0 X1 X2 := by
  refine Pipeline.Dat.arrAt_eq_of_covers _ 9 _ cov_9 fun t hf y => ?_
  change (aft 9 t : Vec Ideal S2x1x512 .f32) y = Ref.rdck X0 X1 X2 ((win0_9.blk t).view.emb y)
  have ht := (flush0_9 t).1 hf
  obtain ⟨hh, r, rfl⟩ : ∃ (hh : Fin 2) (r : Fin 512), y = ix3 hh 0 r :=
    ⟨y 0, y 2, (eq_ix3 y).trans (congrArg (fun q : Fin 1 => (ix3 (y 0) q (y 2) : S2x1x512.Idx)) (Subsingleton.elim (α := Fin 1) _ _))⟩
  have e : (win0_9.blk t).view.emb (ix3 hh 0 r) = ix3 (hq t hh) 0 (seg (kb t) r) := by blk_ext [ix_9, hq, seg, kb]
  rw [e, dck_leaves m c h0 h1 h2 t _ (hL 9 t hf) (by omega) hh r, ht, colSum_all, Ref.rdck_val _ _ _ h0 h1 h2]

theorem dcq_final (h0 : Ref.Fine X0) (h1 : Ref.Fine X1) (h2 : Ref.Fine X2) :
    ((rdat m c).withAfter aft).arrAt 10 cfg0.N = Ref.rdcq X0 X1 X2 := by
  refine Pipeline.Dat.arrAt_eq_of_covers _ 10 _ cov_10 fun t hf y => ?_
  change (aft 10 t : Vec Ideal S2x4x16x512 .f32) y = Ref.rdcq X0 X1 X2 ((win0_10.blk t).view.emb y)
  have ht := (flush0_10 t).1 hf
  obtain ⟨hh, b, s, r, rfl⟩ : ∃ (hh : Fin 2) (b : Fin 4) (s : Fin 16) (r : Fin 512), y = ix4 hh b s r := ⟨y 0, y 1, y 2, y 3, eq_ix4 y⟩
  have e : (win0_10.blk t).view.emb (ix4 hh b s r) = ix4 (hq t hh) b s r := by blk_ext [ix_10, hq]
  rw [e, dcq_leaves m c h0 h1 h2 t _ (hL 10 t hf) hh b s r, ht, rowSum_all _ _ b.isLt, Ref.rdcq_val _ _ _ h0 h1 h2]
  rfl

end Cert.Fox

end
-- ==== Proof.Agree.lean ====
/-
  The kernel's results and the reference's are the same.
-/
module

public import proofs.«01_k».proof.Proof.Final
public import proofs.«01_k».proof.Proof.Gen.ReferenceIdeal.Run

@[expose] public section

set_option maxHeartbeats 1600000

noncomputable section

namespace Cert.Fox

open Idealize.ShloMosaic Cert.KernelIdeal Cert.KernelIdeal.Gen

variable (m : (ℓ : Loc nD τ sig) → Buf (Elt Ideal) ℓ) (ρ : Dev nD → PrngReg)

/-- From real arguments the program ends with the reference's five results, its arguments unchanged. -/
theorem kernel_run (h0 : ∀ c : Dev nD, Ref.Fine (m ((c.tc : Thread nD τ).loc main_arg0))) (h1 : ∀ c : Dev nD, Ref.Fine (m ((c.tc : Thread nD τ).loc main_arg1))) (h2 : ∀ c : Dev nD, Ref.Fine (m ((c.tc : Thread nD τ).loc main_arg2))) :
    θ_run defs (onTc (τ := τ) (main (F := Ideal))) ⟨m, fun _ => 0, ρ⟩ (fun r => ∀ c : Dev nD,
      r.2.mem ((c.tc : Thread nD τ).loc main_v196_0) = Ref.rdq (m ((c.tc : Thread nD τ).loc main_arg0)) (m ((c.tc : Thread nD τ).loc main_arg1)) (m ((c.tc : Thread nD τ).loc main_arg2))
      ∧ r.2.mem ((c.tc : Thread nD τ).loc main_v196_1) = Ref.rdk (m ((c.tc : Thread nD τ).loc main_arg0)) (m ((c.tc : Thread nD τ).loc main_arg1)) (m ((c.tc : Thread nD τ).loc main_arg2))
      ∧ r.2.mem ((c.tc : Thread nD τ).loc main_v196_2) = Ref.rdv (m ((c.tc : Thread nD τ).loc main_arg0)) (m ((c.tc : Thread nD τ).loc main_arg1)) (m ((c.tc : Thread nD τ).loc main_arg2))
      ∧ r.2.mem ((c.tc : Thread nD τ).loc main_v196_3) = Ref.rdck (m ((c.tc : Thread nD τ).loc main_arg0)) (m ((c.tc : Thread nD τ).loc main_arg1)) (m ((c.tc : Thread nD τ).loc main_arg2))
      ∧ r.2.mem ((c.tc : Thread nD τ).loc main_v196_4) = Ref.rdcq (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  obtain ⟨aft, hL, hA⟩ := Pipeline.RDat.FramePost.exists_exact h.1 c
  exact ⟨(hA 6).trans (dq_final m c aft hL (h0 c) (h1 c) (h2 c)), (hA 7).trans (dk_final m c aft hL (h0 c) (h1 c) (h2 c)),
    (hA 8).trans (dv_final m c aft hL (h0 c) (h1 c) (h2 c)), (hA 9).trans (dck_final m c aft hL (h0 c) (h1 c) (h2 c)),
    (hA 10).trans (dcq_final m c aft hL (h0 c) (h1 c) (h2 c)), args_of m h.1 c⟩

end Cert.Fox

end
-- ==== Proof.FfnOut.lean ====
/-
  What each of the six kernels of the feed-forward block leaves in its output block, element by element, from its input
  blocks.
-/
module

public import proofs.«01_k».proof.Proof.Gen.Kernel2Ideal.Frame
public import Idealize.ShloMosaic.Lib.Pipeline.ValueKit

@[expose] public section

set_option maxHeartbeats 1600000
set_option maxRecDepth 16384

noncomputable section

namespace Cert.Ffn

open Idealize.ShloMosaic Cert.Kernel2Ideal Cert.Kernel2Ideal.Gen

/-- The gate's and the up projection's block: rows of the input against rows of the weight. -/
theorem o0_2 (x0 : Vec Ideal S1024x1024 .bf16) (x1 : Vec Ideal S2x1x704x1024 .bf16) (q : Fin 2) (r : Fin 1024) (f : Fin 704) :
    out0_2 x0 x1 (ix4 q 0 r f) = ∑ k : Fin 1024, x0 (ix2 r k) * x1 (ix4 q 0 f k) := by
  canon_tiles x h
  · open_payloads
    obtain ⟨a, b, s, l, rfl⟩ : ∃ (a b : Fin 1) (s : Fin 1024) (l : Fin 704), x = ix4 a b s l := ⟨x 0, x 1, x 2, x 3, eq_ix4 x⟩
    obtain rfl : q = 1 := Fin.ext (by change q.val = 1 + a.val at h0; change a.val < 1 at x0_lt; simp; omega)
    obtain rfl : r = s := Fin.ext h2
    obtain rfl : f = l := Fin.ext h3
    pointwise [r0_2]
  · open_payloads
    obtain ⟨a, b, s, l, rfl⟩ : ∃ (a b : Fin 1) (s : Fin 1024) (l : Fin 704), x = ix4 a b s l := ⟨x 0, x 1, x 2, x 3, eq_ix4 x⟩
    obtain rfl : q = 0 := Fin.ext (by change q.val = a.val at h0; change a.val < 1 at x0_lt; simp; omega)
    obtain rfl : r = s := Fin.ext h2
    obtain rfl : f = l := Fin.ext h3
    pointwise [r0_1]

/-- The activation's block: gate times its logistic times up. -/
theorem o0_3 (x0 : Vec Ideal S1024x1024 .bf16) (x1 : Vec Ideal S2x1x704x1024 .bf16) (r : Fin 1024) (f : Fin 704) :
    out0_3 x0 x1 (ix3 0 r f) = (∑ k : Fin 1024, x0 (ix2 r k) * x1 (ix4 0 0 f k)) *
      Ideal.logistic (∑ k : Fin 1024, x0 (ix2 r k) * x1 (ix4 0 0 f k)) * ∑ k : Fin 1024, x0 (ix2 r k) * x1 (ix4 1 0 f k) := by
  unfold out0_3
  frame_out
  pointwise [k0_pay6, k0_pay2, k0_pay3, k0_pay1]

/-- The down projection's block: the sum over the four column blocks. -/
theorem o1_2 (x0 : Vec Ideal S4x512x704 .bf16) (x1 : Vec Ideal S4x704x1024 .bf16) (r : Fin 512) (n : Fin 1024) :
    out1_2 x0 x1 (ix2 r n) = ∑ q : Fin 4, ∑ f : Fin 704, x0 (ix3 q r f) * x1 (ix3 q f n) := by
  unfold out1_2
  frame_out
  pointwise [k1_pay1]
  rw [Fin.sum_univ_four]

/-- The gradients of the gate (`q = 0`) and of the up projection (`q = 1`), from the activation's gradient `d`, the gate `g` and the up `u`. -/
def dgu (q : Fin 2) (d g u : EReal) : EReal :=
  if q = 0 then d * u * (Ideal.logistic g * (1 + g * (1 - Ideal.logistic g))) else d * (g * Ideal.logistic g)

theorem o2_3 (x0 : Vec Ideal S1024x1024 .bf16) (x1 : Vec Ideal S1x704x1024 .bf16) (x2 : Vec Ideal S2x1x1024x704 .bf16) (q : Fin 2) (r : Fin 1024) (f : Fin 704) :
    out2_3 x0 x1 x2 (ix4 q 0 r f) = dgu q (∑ k : Fin 1024, x0 (ix2 r k) * x1 (ix3 0 f k)) (x2 (ix4 0 0 r f)) (x2 (ix4 1 0 r f)) := by
  canon_tiles x h
  · open_payloads
    obtain ⟨a, b, s, l, rfl⟩ : ∃ (a b : Fin 1) (s : Fin 1024) (l : Fin 704), x = ix4 a b s l := ⟨x 0, x 1, x 2, x 3, eq_ix4 x⟩
    obtain rfl : q = 1 := Fin.ext (by change q.val = 1 + a.val at h0; change a.val < 1 at x0_lt; simp; omega)
    obtain rfl : r = s := Fin.ext h2
    obtain rfl : f = l := Fin.ext h3
    pointwise [r2_2]
    rw [dgu, if_neg (by decide)]
  · open_payloads
    obtain ⟨a, b, s, l, rfl⟩ : ∃ (a b : Fin 1) (s : Fin 1024) (l : Fin 704), x = ix4 a b s l := ⟨x 0, x 1, x 2, x 3, eq_ix4 x⟩
    obtain rfl : q = 0 := Fin.ext (by change q.val = a.val at h0; change a.val < 1 at x0_lt; simp; omega)
    obtain rfl : r = s := Fin.ext h2
    obtain rfl : f = l := Fin.ext h3
    pointwise [r2_2]
    rw [dgu, if_pos rfl]

/-- A weight gradient's block: columns of the activations against columns of the gradient. -/
theorem o3_2 (x0 : Vec Ideal S1x2048x704 .bf16) (x1 : Vec Ideal S2048x1024 .bf16) (f : Fin 704) (n : Fin 1024) :
    out3_2 x0 x1 (ix3 0 f n) = ∑ r : Fin 2048, x0 (ix3 0 r f) * x1 (ix2 r n) := by
  unfold out3_2
  frame_out
  pointwise [k3_pay1]
theorem o4_2 (x0 : Vec Ideal S1x2048x704 .bf16) (x1 : Vec Ideal S2048x1024 .bf16) (f : Fin 704) (n : Fin 1024) :
    out4_2 x0 x1 (ix3 0 f n) = ∑ r : Fin 2048, x0 (ix3 0 r f) * x1 (ix2 r n) := by
  unfold out4_2
  frame_out
  pointwise [k4_pay1]

/-- The input gradient's block: the sum over the eight column blocks. -/
theorem o5_2 (x0 : Vec Ideal S8x512x704 .bf16) (x1 : Vec Ideal S8x704x1024 .bf16) (r : Fin 512) (n : Fin 1024) :
    out5_2 x0 x1 (ix2 r n) = ∑ q : Fin 8, ∑ f : Fin 704, x0 (ix3 q r f) * x1 (ix3 q f n) := by
  unfold out5_2
  frame_out
  pointwise [k5_pay1, k5_pay2, k5_pay3]
  rw [Fin.sum_univ_eight]

end Cert.Ffn

end
-- ==== Proof.FfnRegions.lean ====
/-
  What the six regions leave in their result arrays, from what their operands hold: each block of a result
  is its formula at the rows, columns and feature block of its point, and the blocks cover the array.
-/
module

public import proofs.«01_k».proof.Proof.FfnOut

@[expose] public section

set_option maxHeartbeats 1600000
set_option maxRecDepth 16384

noncomputable section

namespace Cert.Ffn

open Idealize.ShloMosaic Idealize.ShloMosaic.TcCoe Cert.Kernel2Ideal Cert.Kernel2Ideal.Gen

/-- The gate's (`q = 0`) and the up projection's (`q = 1`) pre-activations. -/
def upG (x : Vec Ideal S2048x1024 .bf16) (w : Vec Ideal S2x4x704x1024 .bf16) : Vec Ideal S2x4x2048x704 .bf16 :=
  fun i => ∑ k : Fin 1024, x (ix2 (i 2) k) * w (ix4 (i 0) (i 1) (i 3) k)
/-- The activation. -/
def actG (x : Vec Ideal S2048x1024 .bf16) (w : Vec Ideal S2x4x704x1024 .bf16) : Vec Ideal S4x2048x704 .bf16 :=
  fun i => upG x w (ix4 0 (i 0) (i 1) (i 2)) * Ideal.logistic (upG x w (ix4 0 (i 0) (i 1) (i 2))) * upG x w (ix4 1 (i 0) (i 1) (i 2))
/-- The down projection, from four blocks of features. -/
def downG (a : Vec Ideal S4x2048x704 .bf16) (w : Vec Ideal S4x704x1024 .bf16) : Vec Ideal S2048x1024 .f32 :=
  fun i => ∑ q : Fin 4, ∑ f : Fin 704, a (ix3 q (i 0) f) * w (ix3 q f (i 1))
/-- The gradients of both pre-activations. -/
def daG (dy : Vec Ideal S2048x1024 .bf16) (w : Vec Ideal S4x704x1024 .bf16) (gu : Vec Ideal S2x4x2048x704 .bf16) : Vec Ideal S2x4x2048x704 .bf16 :=
  fun i => dgu (i 0) (∑ k : Fin 1024, dy (ix2 (i 2) k) * w (ix3 (i 1) (i 3) k)) (gu (ix4 0 (i 1) (i 2) (i 3))) (gu (ix4 1 (i 1) (i 2) (i 3)))
/-- A weight gradient over four blocks of features. -/
def wg4 (a : Vec Ideal S4x2048x704 .bf16) (d : Vec Ideal S2048x1024 .bf16) : Vec Ideal S4x704x1024 .f32 :=
  fun i => ∑ r : Fin 2048, a (ix3 (i 0) r (i 1)) * d (ix2 r (i 2))
/-- A weight gradient over eight blocks of features. -/
def wg8 (a : Vec Ideal S8x2048x704 .bf16) (d : Vec Ideal S2048x1024 .bf16) : Vec Ideal S8x704x1024 .f32 :=
  fun i => ∑ r : Fin 2048, a (ix3 (i 0) r (i 1)) * d (ix2 r (i 2))
/-- The input's gradient, from eight blocks of features. -/
def dhG (a : Vec Ideal S8x2048x704 .bf16) (w : Vec Ideal S8x704x1024 .bf16) : Vec Ideal S2048x1024 .f32 :=
  fun i => ∑ q : Fin 8, ∑ f : Fin 704, a (ix3 q (i 0) f) * w (ix3 q f (i 1))

variable (V : (c : Dev nD) → (b : Ref sig .tc) → Buf (Elt Ideal) ((c : Thread nD τ).loc b)) (c : Dev nD)

/-! ## Region 0 -/

theorem ix0_0 : ∀ t : Fin cfg0.N, win0_0.index t = ![t.val % 2, 0] := (by decide +kernel : ∀ t : Fin grid0.N, _)
theorem rd0_0 (t : Fin cfg0.N) (G : Vec Ideal S2048x1024 .bf16) (r : Fin 1024) (k : Fin 1024) : (win0_0.blk t).view.read (Elt Ideal) G (ix2 r k) = G (ix2 ⟨t.val % 2 * 1024 + r.val, by omega⟩ k) := by
  have e : (win0_0.blk t).view.emb (ix2 r k) = (ix2 ⟨t.val % 2 * 1024 + r.val, by omega⟩ k) := by blk_ext [ix0_0]
  rw [View.read_apply]
  exact congrArg G e
theorem ib0_0 (t : Fin cfg0.N) : iblk0 V c 0 t = (win0_0.blk t).view.read (Elt Ideal) (V c main_v0) := rfl
theorem blk0_0 (t : Fin cfg0.N) (r : Fin 1024) (k : Fin 1024) : iblk0 V c 0 t (ix2 r k) = (V c main_v0 : Vec Ideal S2048x1024 .bf16) (ix2 ⟨t.val % 2 * 1024 + r.val, by omega⟩ k) := by
  rw [ib0_0]
  exact rd0_0 t (V c main_v0) r k
theorem ix0_1 : ∀ t : Fin cfg0.N, win0_1.index t = ![0, t.val / 2, 0, 0] := (by decide +kernel : ∀ t : Fin grid0.N, _)
theorem rd0_1 (t : Fin cfg0.N) (G : Vec Ideal S2x4x704x1024 .bf16) (q : Fin 2) (f : Fin 704) (k : Fin 1024) : (win0_1.blk t).view.read (Elt Ideal) G (ix4 q 0 f k) = G (ix4 q ⟨t.val / 2, by have := (show t.val < 8 from t.isLt); omega⟩ f k) := by
  have e : (win0_1.blk t).view.emb (ix4 q 0 f k) = (ix4 q ⟨t.val / 2, by have := (show t.val < 8 from t.isLt); omega⟩ f k) := by blk_ext [ix0_1]
  rw [View.read_apply]
  exact congrArg G e
theorem ib0_1 (t : Fin cfg0.N) : iblk0 V c 1 t = (win0_1.blk t).view.read (Elt Ideal) (V c main_v4) := rfl
theorem blk0_1 (t : Fin cfg0.N) (q : Fin 2) (f : Fin 704) (k : Fin 1024) : iblk0 V c 1 t (ix4 q 0 f k) = (V c main_v4 : Vec Ideal S2x4x704x1024 .bf16) (ix4 q ⟨t.val / 2, by have := (show t.val < 8 from t.isLt); omega⟩ f k) := by
  rw [ib0_1]
  exact rd0_1 t (V c main_v4) q f k
theorem ix0_2 : ∀ t : Fin cfg0.N, win0_2.index t = ![0, t.val / 2, t.val % 2, 0] := (by decide +kernel : ∀ t : Fin grid0.N, _)
theorem cov0_2 : (cfg0.win 2).Covers := by decide +kernel
theorem fin0_2 : (dat0 V c).arrAt 2 cfg0.N = upG (V c main_v0) (V c main_v4) := by
  refine Pipeline.Dat.arrAt_eq_of_covers _ 2 _ cov0_2 fun t hf y => ?_
  change ((dat0 V c).after 2 t : Vec Ideal S2x1x1024x704 .bf16) y = (upG (V c main_v0) (V c main_v4)) ((win0_2.blk t).view.emb y)
  obtain ⟨q, r, f, rfl⟩ : ∃ (q : Fin 2) (r : Fin 1024) (f : Fin 704), y = ix4 q 0 r f := ⟨y 0, y 2, y 3, (eq_ix4 y).trans (congrArg (fun p : Fin 1 => (ix4 (y 0) p (y 2) (y 3) : S2x1x1024x704.Idx)) (Subsingleton.elim (α := Fin 1) _ _))⟩
  have e : (win0_2.blk t).view.emb (ix4 q 0 r f) = (ix4 q ⟨t.val / 2, by have := (show t.val < 8 from t.isLt); omega⟩ ⟨t.val % 2 * 1024 + r.val, by omega⟩ f) := by blk_ext [ix0_2]
  rw [after0_2, o0_2, e]
  simp only [blk0_0, blk0_1]
  rfl

theorem ix0_3 : ∀ t : Fin cfg0.N, win0_3.index t = ![t.val / 2, t.val % 2, 0] := (by decide +kernel : ∀ t : Fin grid0.N, _)
theorem cov0_3 : (cfg0.win 3).Covers := by decide +kernel
theorem fin0_3 : (dat0 V c).arrAt 3 cfg0.N = actG (V c main_v0) (V c main_v4) := by
  refine Pipeline.Dat.arrAt_eq_of_covers _ 3 _ cov0_3 fun t hf y => ?_
  change ((dat0 V c).after 3 t : Vec Ideal S1x1024x704 .bf16) y = (actG (V c main_v0) (V c main_v4)) ((win0_3.blk t).view.emb y)
  obtain ⟨r, f, rfl⟩ : ∃ (r : Fin 1024) (f : Fin 704), y = ix3 0 r f := ⟨y 1, y 2, (eq_ix3 y).trans (congrArg (fun p : Fin 1 => (ix3 p (y 1) (y 2) : S1x1024x704.Idx)) (Subsingleton.elim (α := Fin 1) _ _))⟩
  have e : (win0_3.blk t).view.emb (ix3 0 r f) = (ix3 ⟨t.val / 2, by have := (show t.val < 8 from t.isLt); omega⟩ ⟨t.val % 2 * 1024 + r.val, by omega⟩ f) := by blk_ext [ix0_3]
  rw [after0_3, o0_3, e]
  simp only [blk0_0, blk0_1]
  rfl

/-! ## Region 1 -/

theorem ix1_0 : ∀ t : Fin cfg1.N, win1_0.index t = ![0, t.val, 0] := (by decide +kernel : ∀ t : Fin grid1.N, _)
theorem rd1_0 (t : Fin cfg1.N) (G : Vec Ideal S4x2048x704 .bf16) (q : Fin 4) (r : Fin 512) (f : Fin 704) : (win1_0.blk t).view.read (Elt Ideal) G (ix3 q r f) = G (ix3 q ⟨t.val * 512 + r.val, by have := (show t.val < 4 from t.isLt); omega⟩ f) := by
  have e : (win1_0.blk t).view.emb (ix3 q r f) = (ix3 q ⟨t.val * 512 + r.val, by have := (show t.val < 4 from t.isLt); omega⟩ f) := by blk_ext [ix1_0]
  rw [View.read_apply]
  exact congrArg G e
theorem ib1_0 (t : Fin cfg1.N) : iblk1 V c 0 t = (win1_0.blk t).view.read (Elt Ideal) (V c main_v7_1) := rfl
theorem blk1_0 (t : Fin cfg1.N) (q : Fin 4) (r : Fin 512) (f : Fin 704) : iblk1 V c 0 t (ix3 q r f) = (V c main_v7_1 : Vec Ideal S4x2048x704 .bf16) (ix3 q ⟨t.val * 512 + r.val, by have := (show t.val < 4 from t.isLt); omega⟩ f) := by
  rw [ib1_0]
  exact rd1_0 t (V c main_v7_1) q r f
theorem ix1_1 : ∀ t : Fin cfg1.N, win1_1.index t = ![0, 0, 0] := (by decide +kernel : ∀ t : Fin grid1.N, _)
theorem rd1_1 (t : Fin cfg1.N) (G : Vec Ideal S4x704x1024 .bf16) (q : Fin 4) (f : Fin 704) (n : Fin 1024) : (win1_1.blk t).view.read (Elt Ideal) G (ix3 q f n) = G (ix3 q f n) := by
  have e : (win1_1.blk t).view.emb (ix3 q f n) = (ix3 q f n) := by blk_ext [ix1_1]
  rw [View.read_apply]
  exact congrArg G e
theorem ib1_1 (t : Fin cfg1.N) : iblk1 V c 1 t = (win1_1.blk t).view.read (Elt Ideal) (V c main_v6) := rfl
theorem blk1_1 (t : Fin cfg1.N) (q : Fin 4) (f : Fin 704) (n : Fin 1024) : iblk1 V c 1 t (ix3 q f n) = (V c main_v6 : Vec Ideal S4x704x1024 .bf16) (ix3 q f n) := by
  rw [ib1_1]
  exact rd1_1 t (V c main_v6) q f n
theorem ix1_2 : ∀ t : Fin cfg1.N, win1_2.index t = ![t.val, 0] := (by decide +kernel : ∀ t : Fin grid1.N, _)
theorem cov1_2 : (cfg1.win 2).Covers := by decide +kernel
theorem fin1_2 : (dat1 V c).arrAt 2 cfg1.N = downG (V c main_v7_1) (V c main_v6) := by
  refine Pipeline.Dat.arrAt_eq_of_covers _ 2 _ cov1_2 fun t hf y => ?_
  change ((dat1 V c).after 2 t : Vec Ideal S512x1024 .f32) y = (downG (V c main_v7_1) (V c main_v6)) ((win1_2.blk t).view.emb y)
  obtain ⟨r, n, rfl⟩ : ∃ (r : Fin 512) (n : Fin 1024), y = ix2 r n := ⟨y 0, y 1, eq_ix2 y⟩
  have e : (win1_2.blk t).view.emb (ix2 r n) = (ix2 ⟨t.val * 512 + r.val, by have := (show t.val < 4 from t.isLt); omega⟩ n) := by blk_ext [ix1_2]
  rw [after1_2, o1_2, e]
  simp only [blk1_0, blk1_1]
  rfl

/-! ## Region 2 -/

theorem ix2_0 : ∀ t : Fin cfg2.N, win2_0.index t = ![t.val % 2, 0] := (by decide +kernel : ∀ t : Fin grid2.N, _)
theorem rd2_0 (t : Fin cfg2.N) (G : Vec Ideal S2048x1024 .bf16) (r : Fin 1024) (k : Fin 1024) : (win2_0.blk t).view.read (Elt Ideal) G (ix2 r k) = G (ix2 ⟨t.val % 2 * 1024 + r.val, by omega⟩ k) := by
  have e : (win2_0.blk t).view.emb (ix2 r k) = (ix2 ⟨t.val % 2 * 1024 + r.val, by omega⟩ k) := by blk_ext [ix2_0]
  rw [View.read_apply]
  exact congrArg G e
theorem ib2_0 (t : Fin cfg2.N) : iblk2 V c 0 t = (win2_0.blk t).view.read (Elt Ideal) (V c main_v1) := rfl
theorem blk2_0 (t : Fin cfg2.N) (r : Fin 1024) (k : Fin 1024) : iblk2 V c 0 t (ix2 r k) = (V c main_v1 : Vec Ideal S2048x1024 .bf16) (ix2 ⟨t.val % 2 * 1024 + r.val, by omega⟩ k) := by
  rw [ib2_0]
  exact rd2_0 t (V c main_v1) r k
theorem ix2_1 : ∀ t : Fin cfg2.N, win2_1.index t = ![t.val / 2, 0, 0] := (by decide +kernel : ∀ t : Fin grid2.N, _)
theorem rd2_1 (t : Fin cfg2.N) (G : Vec Ideal S4x704x1024 .bf16) (f : Fin 704) (k : Fin 1024) : (win2_1.blk t).view.read (Elt Ideal) G (ix3 0 f k) = G (ix3 ⟨t.val / 2, by have := (show t.val < 8 from t.isLt); omega⟩ f k) := by
  have e : (win2_1.blk t).view.emb (ix3 0 f k) = (ix3 ⟨t.val / 2, by have := (show t.val < 8 from t.isLt); omega⟩ f k) := by blk_ext [ix2_1]
  rw [View.read_apply]
  exact congrArg G e
theorem ib2_1 (t : Fin cfg2.N) : iblk2 V c 1 t = (win2_1.blk t).view.read (Elt Ideal) (V c main_v6) := rfl
theorem blk2_1 (t : Fin cfg2.N) (f : Fin 704) (k : Fin 1024) : iblk2 V c 1 t (ix3 0 f k) = (V c main_v6 : Vec Ideal S4x704x1024 .bf16) (ix3 ⟨t.val / 2, by have := (show t.val < 8 from t.isLt); omega⟩ f k) := by
  rw [ib2_1]
  exact rd2_1 t (V c main_v6) f k
theorem ix2_2 : ∀ t : Fin cfg2.N, win2_2.index t = ![0, t.val / 2, t.val % 2, 0] := (by decide +kernel : ∀ t : Fin grid2.N, _)
theorem rd2_2 (t : Fin cfg2.N) (G : Vec Ideal S2x4x2048x704 .bf16) (q : Fin 2) (r : Fin 1024) (f : Fin 704) : (win2_2.blk t).view.read (Elt Ideal) G (ix4 q 0 r f) = G (ix4 q ⟨t.val / 2, by have := (show t.val < 8 from t.isLt); omega⟩ ⟨t.val % 2 * 1024 + r.val, by omega⟩ f) := by
  have e : (win2_2.blk t).view.emb (ix4 q 0 r f) = (ix4 q ⟨t.val / 2, by have := (show t.val < 8 from t.isLt); omega⟩ ⟨t.val % 2 * 1024 + r.val, by omega⟩ f) := by blk_ext [ix2_2]
  rw [View.read_apply]
  exact congrArg G e
theorem ib2_2 (t : Fin cfg2.N) : iblk2 V c 2 t = (win2_2.blk t).view.read (Elt Ideal) (V c main_v7_0) := rfl
theorem blk2_2 (t : Fin cfg2.N) (q : Fin 2) (r : Fin 1024) (f : Fin 704) : iblk2 V c 2 t (ix4 q 0 r f) = (V c main_v7_0 : Vec Ideal S2x4x2048x704 .bf16) (ix4 q ⟨t.val / 2, by have := (show t.val < 8 from t.isLt); omega⟩ ⟨t.val % 2 * 1024 + r.val, by omega⟩ f) := by
  rw [ib2_2]
  exact rd2_2 t (V c main_v7_0) q r f
theorem ix2_3 : ∀ t : Fin cfg2.N, win2_3.index t = ![0, t.val / 2, t.val % 2, 0] := (by decide +kernel : ∀ t : Fin grid2.N, _)
theorem cov2_3 : (cfg2.win 3).Covers := by decide +kernel
theorem fin2_3 : (dat2 V c).arrAt 3 cfg2.N = daG (V c main_v1) (V c main_v6) (V c main_v7_0) := by
  refine Pipeline.Dat.arrAt_eq_of_covers _ 3 _ cov2_3 fun t hf y => ?_
  change ((dat2 V c).after 3 t : Vec Ideal S2x1x1024x704 .bf16) y = (daG (V c main_v1) (V c main_v6) (V c main_v7_0)) ((win2_3.blk t).view.emb y)
  obtain ⟨q, r, f, rfl⟩ : ∃ (q : Fin 2) (r : Fin 1024) (f : Fin 704), y = ix4 q 0 r f := ⟨y 0, y 2, y 3, (eq_ix4 y).trans (congrArg (fun p : Fin 1 => (ix4 (y 0) p (y 2) (y 3) : S2x1x1024x704.Idx)) (Subsingleton.elim (α := Fin 1) _ _))⟩
  have e : (win2_3.blk t).view.emb (ix4 q 0 r f) = (ix4 q ⟨t.val / 2, by have := (show t.val < 8 from t.isLt); omega⟩ ⟨t.val % 2 * 1024 + r.val, by omega⟩ f) := by blk_ext [ix2_3]
  rw [after2_3, o2_3, e]
  simp only [blk2_0, blk2_1, blk2_2]
  rfl

/-! ## Region 3 -/

theorem ix3_0 : ∀ t : Fin cfg3.N, win3_0.index t = ![t.val, 0, 0] := (by decide +kernel : ∀ t : Fin grid3.N, _)
theorem rd3_0 (t : Fin cfg3.N) (G : Vec Ideal S4x2048x704 .bf16) (r : Fin 2048) (f : Fin 704) : (win3_0.blk t).view.read (Elt Ideal) G (ix3 0 r f) = G (ix3 ⟨t.val, t.isLt⟩ r f) := by
  have e : (win3_0.blk t).view.emb (ix3 0 r f) = (ix3 ⟨t.val, t.isLt⟩ r f) := by blk_ext [ix3_0]
  rw [View.read_apply]
  exact congrArg G e
theorem ib3_0 (t : Fin cfg3.N) : iblk3 V c 0 t = (win3_0.blk t).view.read (Elt Ideal) (V c main_v7_1) := rfl
theorem blk3_0 (t : Fin cfg3.N) (r : Fin 2048) (f : Fin 704) : iblk3 V c 0 t (ix3 0 r f) = (V c main_v7_1 : Vec Ideal S4x2048x704 .bf16) (ix3 ⟨t.val, t.isLt⟩ r f) := by
  rw [ib3_0]
  exact rd3_0 t (V c main_v7_1) r f
theorem ix3_1 : ∀ t : Fin cfg3.N, win3_1.index t = ![0, 0] := (by decide +kernel : ∀ t : Fin grid3.N, _)
theorem rd3_1 (t : Fin cfg3.N) (G : Vec Ideal S2048x1024 .bf16) (r : Fin 2048) (n : Fin 1024) : (win3_1.blk t).view.read (Elt Ideal) G (ix2 r n) = G (ix2 r n) := by
  have e : (win3_1.blk t).view.emb (ix2 r n) = (ix2 r n) := by blk_ext [ix3_1]
  rw [View.read_apply]
  exact congrArg G e
theorem ib3_1 (t : Fin cfg3.N) : iblk3 V c 1 t = (win3_1.blk t).view.read (Elt Ideal) (V c main_v1) := rfl
theorem blk3_1 (t : Fin cfg3.N) (r : Fin 2048) (n : Fin 1024) : iblk3 V c 1 t (ix2 r n) = (V c main_v1 : Vec Ideal S2048x1024 .bf16) (ix2 r n) := by
  rw [ib3_1]
  exact rd3_1 t (V c main_v1) r n
theorem ix3_2 : ∀ t : Fin cfg3.N, win3_2.index t = ![t.val, 0, 0] := (by decide +kernel : ∀ t : Fin grid3.N, _)
theorem cov3_2 : (cfg3.win 2).Covers := by decide +kernel
theorem fin3_2 : (dat3 V c).arrAt 2 cfg3.N = wg4 (V c main_v7_1) (V c main_v1) := by
  refine Pipeline.Dat.arrAt_eq_of_covers _ 2 _ cov3_2 fun t hf y => ?_
  change ((dat3 V c).after 2 t : Vec Ideal S1x704x1024 .f32) y = (wg4 (V c main_v7_1) (V c main_v1)) ((win3_2.blk t).view.emb y)
  obtain ⟨f, n, rfl⟩ : ∃ (f : Fin 704) (n : Fin 1024), y = ix3 0 f n := ⟨y 1, y 2, (eq_ix3 y).trans (congrArg (fun p : Fin 1 => (ix3 p (y 1) (y 2) : S1x704x1024.Idx)) (Subsingleton.elim (α := Fin 1) _ _))⟩
  have e : (win3_2.blk t).view.emb (ix3 0 f n) = (ix3 ⟨t.val, t.isLt⟩ f n) := by blk_ext [ix3_2]
  rw [after3_2, o3_2, e]
  simp only [blk3_0, blk3_1]
  rfl

/-! ## Region 4 -/

theorem ix4_0 : ∀ t : Fin cfg4.N, win4_0.index t = ![t.val, 0, 0] := (by decide +kernel : ∀ t : Fin grid4.N, _)
theorem rd4_0 (t : Fin cfg4.N) (G : Vec Ideal S8x2048x704 .bf16) (r : Fin 2048) (f : Fin 704) : (win4_0.blk t).view.read (Elt Ideal) G (ix3 0 r f) = G (ix3 ⟨t.val, t.isLt⟩ r f) := by
  have e : (win4_0.blk t).view.emb (ix3 0 r f) = (ix3 ⟨t.val, t.isLt⟩ r f) := by blk_ext [ix4_0]
  rw [View.read_apply]
  exact congrArg G e
theorem ib4_0 (t : Fin cfg4.N) : iblk4 V c 0 t = (win4_0.blk t).view.read (Elt Ideal) (V c main_v10) := rfl
theorem blk4_0 (t : Fin cfg4.N) (r : Fin 2048) (f : Fin 704) : iblk4 V c 0 t (ix3 0 r f) = (V c main_v10 : Vec Ideal S8x2048x704 .bf16) (ix3 ⟨t.val, t.isLt⟩ r f) := by
  rw [ib4_0]
  exact rd4_0 t (V c main_v10) r f
theorem ix4_1 : ∀ t : Fin cfg4.N, win4_1.index t = ![0, 0] := (by decide +kernel : ∀ t : Fin grid4.N, _)
theorem rd4_1 (t : Fin cfg4.N) (G : Vec Ideal S2048x1024 .bf16) (r : Fin 2048) (n : Fin 1024) : (win4_1.blk t).view.read (Elt Ideal) G (ix2 r n) = G (ix2 r n) := by
  have e : (win4_1.blk t).view.emb (ix2 r n) = (ix2 r n) := by blk_ext [ix4_1]
  rw [View.read_apply]
  exact congrArg G e
theorem ib4_1 (t : Fin cfg4.N) : iblk4 V c 1 t = (win4_1.blk t).view.read (Elt Ideal) (V c main_v0) := rfl
theorem blk4_1 (t : Fin cfg4.N) (r : Fin 2048) (n : Fin 1024) : iblk4 V c 1 t (ix2 r n) = (V c main_v0 : Vec Ideal S2048x1024 .bf16) (ix2 r n) := by
  rw [ib4_1]
  exact rd4_1 t (V c main_v0) r n
theorem ix4_2 : ∀ t : Fin cfg4.N, win4_2.index t = ![t.val, 0, 0] := (by decide +kernel : ∀ t : Fin grid4.N, _)
theorem cov4_2 : (cfg4.win 2).Covers := by decide +kernel
theorem fin4_2 : (dat4 V c).arrAt 2 cfg4.N = wg8 (V c main_v10) (V c main_v0) := by
  refine Pipeline.Dat.arrAt_eq_of_covers _ 2 _ cov4_2 fun t hf y => ?_
  change ((dat4 V c).after 2 t : Vec Ideal S1x704x1024 .f32) y = (wg8 (V c main_v10) (V c main_v0)) ((win4_2.blk t).view.emb y)
  obtain ⟨f, n, rfl⟩ : ∃ (f : Fin 704) (n : Fin 1024), y = ix3 0 f n := ⟨y 1, y 2, (eq_ix3 y).trans (congrArg (fun p : Fin 1 => (ix3 p (y 1) (y 2) : S1x704x1024.Idx)) (Subsingleton.elim (α := Fin 1) _ _))⟩
  have e : (win4_2.blk t).view.emb (ix3 0 f n) = (ix3 ⟨t.val, t.isLt⟩ f n) := by blk_ext [ix4_2]
  rw [after4_2, o4_2, e]
  simp only [blk4_0, blk4_1]
  rfl

/-! ## Region 5 -/

theorem ix5_0 : ∀ t : Fin cfg5.N, win5_0.index t = ![0, t.val, 0] := (by decide +kernel : ∀ t : Fin grid5.N, _)
theorem rd5_0 (t : Fin cfg5.N) (G : Vec Ideal S8x2048x704 .bf16) (q : Fin 8) (r : Fin 512) (f : Fin 704) : (win5_0.blk t).view.read (Elt Ideal) G (ix3 q r f) = G (ix3 q ⟨t.val * 512 + r.val, by have := (show t.val < 4 from t.isLt); omega⟩ f) := by
  have e : (win5_0.blk t).view.emb (ix3 q r f) = (ix3 q ⟨t.val * 512 + r.val, by have := (show t.val < 4 from t.isLt); omega⟩ f) := by blk_ext [ix5_0]
  rw [View.read_apply]
  exact congrArg G e
theorem ib5_0 (t : Fin cfg5.N) : iblk5 V c 0 t = (win5_0.blk t).view.read (Elt Ideal) (V c main_v10) := rfl
theorem blk5_0 (t : Fin cfg5.N) (q : Fin 8) (r : Fin 512) (f : Fin 704) : iblk5 V c 0 t (ix3 q r f) = (V c main_v10 : Vec Ideal S8x2048x704 .bf16) (ix3 q ⟨t.val * 512 + r.val, by have := (show t.val < 4 from t.isLt); omega⟩ f) := by
  rw [ib5_0]
  exact rd5_0 t (V c main_v10) q r f
theorem ix5_1 : ∀ t : Fin cfg5.N, win5_1.index t = ![0, 0, 0] := (by decide +kernel : ∀ t : Fin grid5.N, _)
theorem rd5_1 (t : Fin cfg5.N) (G : Vec Ideal S8x704x1024 .bf16) (q : Fin 8) (f : Fin 704) (n : Fin 1024) : (win5_1.blk t).view.read (Elt Ideal) G (ix3 q f n) = G (ix3 q f n) := by
  have e : (win5_1.blk t).view.emb (ix3 q f n) = (ix3 q f n) := by blk_ext [ix5_1]
  rw [View.read_apply]
  exact congrArg G e
theorem ib5_1 (t : Fin cfg5.N) : iblk5 V c 1 t = (win5_1.blk t).view.read (Elt Ideal) (V c main_v13) := rfl
theorem blk5_1 (t : Fin cfg5.N) (q : Fin 8) (f : Fin 704) (n : Fin 1024) : iblk5 V c 1 t (ix3 q f n) = (V c main_v13 : Vec Ideal S8x704x1024 .bf16) (ix3 q f n) := by
  rw [ib5_1]
  exact rd5_1 t (V c main_v13) q f n
theorem ix5_2 : ∀ t : Fin cfg5.N, win5_2.index t = ![t.val, 0] := (by decide +kernel : ∀ t : Fin grid5.N, _)
theorem cov5_2 : (cfg5.win 2).Covers := by decide +kernel
theorem fin5_2 : (dat5 V c).arrAt 2 cfg5.N = dhG (V c main_v10) (V c main_v13) := by
  refine Pipeline.Dat.arrAt_eq_of_covers _ 2 _ cov5_2 fun t hf y => ?_
  change ((dat5 V c).after 2 t : Vec Ideal S512x1024 .f32) y = (dhG (V c main_v10) (V c main_v13)) ((win5_2.blk t).view.emb y)
  obtain ⟨r, n, rfl⟩ : ∃ (r : Fin 512) (n : Fin 1024), y = ix2 r n := ⟨y 0, y 1, eq_ix2 y⟩
  have e : (win5_2.blk t).view.emb (ix2 r n) = (ix2 ⟨t.val * 512 + r.val, by have := (show t.val < 4 from t.isLt); omega⟩ n) := by blk_ext [ix5_2]
  rw [after5_2, o5_2, e]
  simp only [blk5_0, blk5_1]
  rfl

end Cert.Ffn

end
-- ==== Proof.FfnRun.lean ====
/-
  The feed-forward kernel's four results at the end of any run, as formulas of its arguments: the host's casts
  and rearrangements, then the regions in order.
-/
module

public import proofs.«01_k».proof.Proof.FfnRegions
public import Idealize.ShloMosaic.Lib.StableHlo.RunRead

@[expose] public section

set_option maxHeartbeats 1600000
set_option maxRecDepth 16384

noncomputable section

namespace Cert.Ffn

open Idealize.ShloMosaic Idealize.ShloMosaic.TcCoe Cert.Kernel2Ideal Cert.Kernel2Ideal.Gen Cert.Kernel2Ideal.Facts

/-! ## The operands as the host prepares them, and the results -/

section Terms
variable (X : FVec Ideal S2048x1024 .f32) (G : FVec Ideal S1024x5632 .f32) (D : FVec Ideal S2816x1024 .f32) (Y : FVec Ideal S2048x1024 .f32)

/-- A row operand, in the kernel's format. -/
def rowB : FVec Ideal S2048x1024 .bf16 := truncf .bf16 X bitsLt_bf16_f32
/-- The gate and up weight, transposed, in eight blocks of features. -/
def wgu : FVec Ideal S2x4x704x1024 .bf16 :=
  shapeCast S2x4x704x1024 (truncf .bf16 (transpose S5632x1024 [1, 0] G transposes_S1024x5632_S5632x1024_1_0 : FVec Ideal S5632x1024 .f32) bitsLt_bf16_f32 : FVec Ideal S5632x1024 .bf16) shapeCasts_S5632x1024_S2x4x704x1024
/-- The down weight in four blocks of features. -/
def wdn : FVec Ideal S4x704x1024 .bf16 :=
  shapeCast S4x704x1024 (truncf .bf16 D bitsLt_bf16_f32 : FVec Ideal S2816x1024 .bf16) shapeCasts_S2816x1024_S4x704x1024
/-- The gradients of the pre-activations, in eight blocks of features. -/
def dgu8 : Vec Ideal S8x2048x704 .bf16 :=
  shapeCast S8x2048x704 (daG (rowB Y) (wdn D) (upG (rowB X) (wgu G)) : FVec Ideal S2x4x2048x704 .bf16) shapeCasts_S2x4x2048x704_S8x2048x704

def resY : Vec Ideal S2048x1024 .f32 := downG (actG (rowB X) (wgu G)) (wdn D)
def resDh : Vec Ideal S2048x1024 .f32 := dhG (dgu8 X G D Y) (shapeCast S8x704x1024 (wgu G : FVec Ideal S2x4x704x1024 .bf16) shapeCasts_S2x4x704x1024_S8x704x1024)
def resDwgu : Vec Ideal S8x704x1024 .f32 := wg8 (dgu8 X G D Y) (rowB X)
def resDwd : Vec Ideal S4x704x1024 .f32 := wg4 (actG (rowB X) (wgu G)) (rowB Y)
end Terms

variable (m : (ℓ : Loc nD τ sig) → Buf (Elt Ideal) ℓ) (ρ : Dev nD → PrngReg) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)
local notation "X3" => m (Thread.loc (Dev.tc c : Thread nD τ) main_arg3)

/-! ## After the first host stretch -/

theorem V1_0 : V1 m ρ c main_v0 = rowB X0 := by
  change StableHlo.after hostOps0 (W0 m ρ c) _ = _
  after_reads_simp
  rfl
theorem V1_1 : V1 m ρ c main_v1 = rowB X3 := by
  change StableHlo.after hostOps0 (W0 m ρ c) _ = _
  after_reads_simp
  rfl
theorem V1_4 : V1 m ρ c main_v4 = wgu X1 := by
  change StableHlo.after hostOps0 (W0 m ρ c) _ = _
  after_reads_simp
  rfl
theorem V1_6 : V1 m ρ c main_v6 = wdn X2 := by
  change StableHlo.after hostOps0 (W0 m ρ c) _ = _
  after_reads_simp
  rfl

/-! ## The regions in order -/

theorem V2_gu : V2 m ρ c main_v7_0 = upG (rowB X0) (wgu X1) := by
  refine (W2_arr m ρ c 2).trans ((fin0_2 (V1 m ρ) c).trans ?_)
  rw [V1_0, V1_4]
theorem V2_a : V2 m ρ c main_v7_1 = actG (rowB X0) (wgu X1) := by
  refine (W2_arr m ρ c 3).trans ((fin0_3 (V1 m ρ) c).trans ?_)
  rw [V1_0, V1_4]
theorem V2_6 : V2 m ρ c main_v6 = wdn X2 := (W2_of m ρ c main_v6 (by decide +kernel)).trans (V1_6 m ρ c)
theorem V2_1 : V2 m ρ c main_v1 = rowB X3 := (W2_of m ρ c main_v1 (by decide +kernel)).trans (V1_1 m ρ c)
theorem V2_0 : V2 m ρ c main_v0 = rowB X0 := (W2_of m ρ c main_v0 (by decide +kernel)).trans (V1_0 m ρ c)
theorem V2_4 : V2 m ρ c main_v4 = wgu X1 := (W2_of m ρ c main_v4 (by decide +kernel)).trans (V1_4 m ρ c)

theorem V3_y : V3 m ρ c main_v8 = resY X0 X1 X2 := by
  refine (W3_arr m ρ c 2).trans ((fin1_2 (V2 m ρ) c).trans ?_)
  rw [V2_a, V2_6]
  rfl
theorem V3_gu : V3 m ρ c main_v7_0 = upG (rowB X0) (wgu X1) := (W3_of m ρ c main_v7_0 (by decide +kernel)).trans (V2_gu m ρ c)
theorem V3_a : V3 m ρ c main_v7_1 = actG (rowB X0) (wgu X1) := (W3_of m ρ c main_v7_1 (by decide +kernel)).trans (V2_a m ρ c)
theorem V3_6 : V3 m ρ c main_v6 = wdn X2 := (W3_of m ρ c main_v6 (by decide +kernel)).trans (V2_6 m ρ c)
theorem V3_1 : V3 m ρ c main_v1 = rowB X3 := (W3_of m ρ c main_v1 (by decide +kernel)).trans (V2_1 m ρ c)
theorem V3_0 : V3 m ρ c main_v0 = rowB X0 := (W3_of m ρ c main_v0 (by decide +kernel)).trans (V2_0 m ρ c)
theorem V3_4 : V3 m ρ c main_v4 = wgu X1 := (W3_of m ρ c main_v4 (by decide +kernel)).trans (V2_4 m ρ c)

theorem V4_da : V4 m ρ c main_v9 = daG (rowB X3) (wdn X2) (upG (rowB X0) (wgu X1)) := by
  refine (W4_arr m ρ c 3).trans ((fin2_3 (V3 m ρ) c).trans ?_)
  rw [V3_1, V3_6, V3_gu]
theorem V4_y : V4 m ρ c main_v8 = resY X0 X1 X2 := (W4_of m ρ c main_v8 (by decide +kernel)).trans (V3_y m ρ c)
theorem V4_a : V4 m ρ c main_v7_1 = actG (rowB X0) (wgu X1) := (W4_of m ρ c main_v7_1 (by decide +kernel)).trans (V3_a m ρ c)
theorem V4_1 : V4 m ρ c main_v1 = rowB X3 := (W4_of m ρ c main_v1 (by decide +kernel)).trans (V3_1 m ρ c)
theorem V4_0 : V4 m ρ c main_v0 = rowB X0 := (W4_of m ρ c main_v0 (by decide +kernel)).trans (V3_0 m ρ c)
theorem V4_4 : V4 m ρ c main_v4 = wgu X1 := (W4_of m ρ c main_v4 (by decide +kernel)).trans (V3_4 m ρ c)

theorem V5_10 : V5 m ρ c main_v10 = dgu8 X0 X1 X2 X3 := by
  have e : V5 m ρ c main_v10 = shapeCast S8x2048x704 (V4 m ρ c main_v9 : FVec Ideal S2x4x2048x704 .bf16) shapeCasts_S2x4x2048x704_S8x2048x704 := by
    change StableHlo.after hostOps3 (W4 m ρ c) _ = _
    after_reads_simp
    rfl
  rw [e, V4_da]
  rfl
theorem V5_y : V5 m ρ c main_v8 = resY X0 X1 X2 := (W5_of m ρ c main_v8 (by decide +kernel)).trans (V4_y m ρ c)
theorem V5_a : V5 m ρ c main_v7_1 = actG (rowB X0) (wgu X1) := (W5_of m ρ c main_v7_1 (by decide +kernel)).trans (V4_a m ρ c)
theorem V5_1 : V5 m ρ c main_v1 = rowB X3 := (W5_of m ρ c main_v1 (by decide +kernel)).trans (V4_1 m ρ c)
theorem V5_0 : V5 m ρ c main_v0 = rowB X0 := (W5_of m ρ c main_v0 (by decide +kernel)).trans (V4_0 m ρ c)
theorem V5_4 : V5 m ρ c main_v4 = wgu X1 := (W5_of m ρ c main_v4 (by decide +kernel)).trans (V4_4 m ρ c)

theorem V6_dwd : V6 m ρ c main_v11 = resDwd X0 X1 X3 := by
  refine (W6_arr m ρ c 2).trans ((fin3_2 (V5 m ρ) c).trans ?_)
  rw [V5_a, V5_1]
  rfl
theorem V6_y : V6 m ρ c main_v8 = resY X0 X1 X2 := (W6_of m ρ c main_v8 (by decide +kernel)).trans (V5_y m ρ c)
theorem V6_10 : V6 m ρ c main_v10 = dgu8 X0 X1 X2 X3 := (W6_of m ρ c main_v10 (by decide +kernel)).trans (V5_10 m ρ c)
theorem V6_0 : V6 m ρ c main_v0 = rowB X0 := (W6_of m ρ c main_v0 (by decide +kernel)).trans (V5_0 m ρ c)
theorem V6_4 : V6 m ρ c main_v4 = wgu X1 := (W6_of m ρ c main_v4 (by decide +kernel)).trans (V5_4 m ρ c)

theorem V7_dwgu : V7 m ρ c main_v12 = resDwgu X0 X1 X2 X3 := by
  refine (W7_arr m ρ c 2).trans ((fin4_2 (V6 m ρ) c).trans ?_)
  rw [V6_10, V6_0]
  rfl
theorem V7_y : V7 m ρ c main_v8 = resY X0 X1 X2 := (W7_of m ρ c main_v8 (by decide +kernel)).trans (V6_y m ρ c)
theorem V7_dwd : V7 m ρ c main_v11 = resDwd X0 X1 X3 := (W7_of m ρ c main_v11 (by decide +kernel)).trans (V6_dwd m ρ c)
theorem V7_10 : V7 m ρ c main_v10 = dgu8 X0 X1 X2 X3 := (W7_of m ρ c main_v10 (by decide +kernel)).trans (V6_10 m ρ c)
theorem V7_4 : V7 m ρ c main_v4 = wgu X1 := (W7_of m ρ c main_v4 (by decide +kernel)).trans (V6_4 m ρ c)

theorem V8_13 : V8 m ρ c main_v13 = shapeCast S8x704x1024 (wgu X1 : FVec Ideal S2x4x704x1024 .bf16) shapeCasts_S2x4x704x1024_S8x704x1024 := by
  have e : V8 m ρ c main_v13 = shapeCast S8x704x1024 (V7 m ρ c main_v4 : FVec Ideal S2x4x704x1024 .bf16) shapeCasts_S2x4x704x1024_S8x704x1024 := by
    change StableHlo.after hostOps5 (W7 m ρ c) _ = _
    after_reads_simp
    rfl
  rw [e, V7_4]
theorem V8_y : V8 m ρ c main_v8 = resY X0 X1 X2 := (W8_of m ρ c main_v8 (by decide +kernel)).trans (V7_y m ρ c)
theorem V8_dwd : V8 m ρ c main_v11 = resDwd X0 X1 X3 := (W8_of m ρ c main_v11 (by decide +kernel)).trans (V7_dwd m ρ c)
theorem V8_dwgu : V8 m ρ c main_v12 = resDwgu X0 X1 X2 X3 := (W8_of m ρ c main_v12 (by decide +kernel)).trans (V7_dwgu m ρ c)
theorem V8_10 : V8 m ρ c main_v10 = dgu8 X0 X1 X2 X3 := (W8_of m ρ c main_v10 (by decide +kernel)).trans (V7_10 m ρ c)

theorem V9_dh : V9 m ρ c main_v14 = resDh X0 X1 X2 X3 := by
  refine (W9_arr m ρ c 2).trans ((fin5_2 (V8 m ρ) c).trans ?_)
  rw [V8_10, V8_13]
  rfl
theorem V9_y : V9 m ρ c main_v8 = resY X0 X1 X2 := (W9_of m ρ c main_v8 (by decide +kernel)).trans (V8_y m ρ c)
theorem V9_dwd : V9 m ρ c main_v11 = resDwd X0 X1 X3 := (W9_of m ρ c main_v11 (by decide +kernel)).trans (V8_dwd m ρ c)
theorem V9_dwgu : V9 m ρ c main_v12 = resDwgu X0 X1 X2 X3 := (W9_of m ρ c main_v12 (by decide +kernel)).trans (V8_dwgu m ρ c)

/-! ## The run: the generated frame's set-up, at the results as well as the arguments -/

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem ends : θ_run defs (onTc (τ := τ) (main (F := Ideal))) ⟨m, fun _ => 0, ρ⟩ (fun r => ∀ c : Dev nD,
      r.2.mem ((c.tc : Thread nD τ).loc main_v8) = V9 m ρ c main_v8
      ∧ r.2.mem ((c.tc : Thread nD τ).loc main_v14) = V9 m ρ c main_v14
      ∧ r.2.mem ((c.tc : Thread nD τ).loc main_v12) = V9 m ρ c main_v12
      ∧ r.2.mem ((c.tc : Thread nD τ).loc main_v11) = V9 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v8 (by decide)), h c _ (mem_uc main_v14 (by decide)), h c _ (mem_uc main_v12 (by decide)), h c _ (mem_uc main_v11 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

/-- Every run of the kernel ends with these results, its arguments unchanged. -/
theorem kernel_ends : θ_run defs (onTc (τ := τ) (main (F := Ideal))) ⟨m, fun _ => 0, ρ⟩ (fun r => ∀ c : Dev nD,
      r.2.mem ((c.tc : Thread nD τ).loc main_v8) = resY (m ((c.tc : Thread nD τ).loc main_arg0)) (m ((c.tc : Thread nD τ).loc main_arg1)) (m ((c.tc : Thread nD τ).loc main_arg2))
      ∧ r.2.mem ((c.tc : Thread nD τ).loc main_v14) = resDh (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v12) = resDwgu (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v11) = resDwd (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (ends m ρ)
  obtain ⟨h0, h1, h2, h3, ha⟩ := h c
  exact ⟨h0.trans (V9_y m ρ c), h1.trans (V9_dh m ρ c), h2.trans (V9_dwgu m ρ c), h3.trans (V9_dwd m ρ c), ha⟩

end Cert.Ffn

end
-- ==== Proof.FfnRef.lean ====
/-
  The feed-forward reference's operations by stages, and each stage element by element.
-/
module

public import proofs.«01_k».proof.Proof.Gen.Reference2Ideal.Run
public import Idealize.ShloMosaic.Lib.Pointwise
public import Idealize.ShloMosaic.Lib.IdealHost

@[expose] public section

set_option maxHeartbeats 1600000
set_option maxRecDepth 16384

noncomputable section

namespace Cert.Ffn.Ref

open Idealize.ShloMosaic Cert.Reference2Ideal Cert.Reference2Ideal.Gen Cert.Reference2Ideal.Facts

variable (x0 : FVec Ideal S2048x1024 .f32) (x1 : FVec Ideal S1024x5632 .f32) (x2 : FVec Ideal S2816x1024 .f32) (x3 : FVec Ideal S2048x1024 .f32)

/-- Gate and up pre-activations side by side. -/
def gu : FVec Ideal S2048x5632 .f32 := Host.dotGeneral (F := Ideal) dot_S2048x1024_S1024x5632_S2048x5632_1_0_0_1_n_n none x0 x1
def gt : FVec Ideal S2048x2816 .f32 := extractStridedSlice S2048x2816 ![0, 0] (gu x0 x1) slices_S2048x5632_S2048x2816_0_0
def up : FVec Ideal S2048x2816 .f32 := extractStridedSlice S2048x2816 ![0, 2816] (gu x0 x1) slices_S2048x5632_S2048x2816_0_2816
/-- The logistic function of the gate. -/
def sg : FVec Ideal S2048x2816 .f32 := Host.divf (broadcastInDim S2048x2816 ![] bcast_S_S2048x2816 (constant (F := Ideal) S_ .f32 0x3F800000#32)) (addf (broadcastInDim S2048x2816 ![] bcast_S_S2048x2816 (constant (F := Ideal) S_ .f32 0x3F800000#32)) (Host.exp (Host.negf (gt x0 x1))))
/-- The logistic function's derivative. -/
def sd : FVec Ideal S2048x2816 .f32 := mulf (sg x0 x1) (subf (broadcastInDim S2048x2816 ![] bcast_S_S2048x2816 (constant (F := Ideal) S_ .f32 0x3F800000#32)) (sg x0 x1))
def sl : FVec Ideal S2048x2816 .f32 := mulf (gt x0 x1) (sg x0 x1)
/-- The activation. -/
def act : FVec Ideal S2048x2816 .f32 := mulf (sl x0 x1) (up x0 x1)
/-- The activation's gradient. -/
def da : FVec Ideal S2048x2816 .f32 := Host.dotGeneral (F := Ideal) dot_S2048x1024_S2816x1024_S2048x2816_1_1_0_0_n_n none x3 x2
def dsl : FVec Ideal S2048x2816 .f32 := mulf (da x2 x3) (up x0 x1)
def dgt : FVec Ideal S2048x2816 .f32 := addf (mulf (dsl x0 x1 x2 x3) (sg x0 x1)) (mulf (mulf (gt x0 x1) (dsl x0 x1 x2 x3)) (sd x0 x1))
/-- The pre-activations' gradients side by side. -/
def dgu : FVec Ideal S2048x5632 .f32 := concatenate S2048x5632 1 [⟨S2048x2816, dgt x0 x1 x2 x3⟩, ⟨S2048x2816, mulf (sl x0 x1) (da x2 x3)⟩] concatenates_S2048x2816_S2048x2816_S2048x5632_d1
def rY : FVec Ideal S2048x1024 .f32 := Host.dotGeneral (F := Ideal) dot_S2048x2816_S2816x1024_S2048x1024_1_0_0_1_n_n none (act x0 x1) x2
def rDh : FVec Ideal S2048x1024 .f32 := Host.dotGeneral (F := Ideal) dot_S2048x5632_S1024x5632_S2048x1024_1_1_0_0_n_n none (dgu x0 x1 x2 x3) x1
def rDwgu : FVec Ideal S8x704x1024 .f32 := shapeCast S8x704x1024 (transpose S5632x1024 [1, 0] (transpose S1024x5632 [1, 0] (Host.dotGeneral (F := Ideal) dot_S2048x5632_S2048x1024_S5632x1024_0_0_1_1_n_n none (dgu x0 x1 x2 x3) x0 : FVec Ideal S5632x1024 .f32) transposes_S5632x1024_S1024x5632_1_0) transposes_S1024x5632_S5632x1024_1_0) shapeCasts_S5632x1024_S8x704x1024
def rDwd : FVec Ideal S4x704x1024 .f32 := shapeCast S4x704x1024 (transpose S2816x1024 [1, 0] (Host.dotGeneral (F := Ideal) dot_S2048x1024_S2048x2816_S1024x2816_0_0_1_1_n_n none x3 (act x0 x1) : FVec Ideal S1024x2816 .f32) transposes_S1024x2816_S2816x1024_1_0) shapeCasts_S2816x1024_S4x704x1024

/-! ## Element by element -/

theorem gu_at (s : Fin 2048) (n : Fin 5632) : gu x0 x1 (ix2 s n) = ∑ k : Fin 1024, x0 (ix2 s k) * x1 (ix2 k n) := by
  pointwise [gu]
theorem gt_at (s : Fin 2048) (n : Fin 2816) : gt x0 x1 (ix2 s n) = gu x0 x1 (ix2 s ⟨n.val, by omega⟩) := by
  pointwise [gt]
theorem up_at (s : Fin 2048) (n : Fin 2816) : up x0 x1 (ix2 s n) = gu x0 x1 (ix2 s ⟨2816 + n.val, by omega⟩) := by
  pointwise [up]
theorem sg_at (s : Fin 2048) (n : Fin 2816) : sg x0 x1 (ix2 s n) = Ideal.logistic (gt x0 x1 (ix2 s n)) := by
  pointwise [sg]
  rfl
theorem act_at (s : Fin 2048) (n : Fin 2816) : act x0 x1 (ix2 s n) = gt x0 x1 (ix2 s n) * sg x0 x1 (ix2 s n) * up x0 x1 (ix2 s n) := by
  pointwise [act, sl]
theorem da_at (s : Fin 2048) (n : Fin 2816) : da x2 x3 (ix2 s n) = ∑ k : Fin 1024, x3 (ix2 s k) * x2 (ix2 n k) := by
  pointwise [da]
theorem dgt_at (s : Fin 2048) (n : Fin 2816) : dgt x0 x1 x2 x3 (ix2 s n) = da x2 x3 (ix2 s n) * up x0 x1 (ix2 s n) * sg x0 x1 (ix2 s n)
    + gt x0 x1 (ix2 s n) * (da x2 x3 (ix2 s n) * up x0 x1 (ix2 s n)) * (sg x0 x1 (ix2 s n) * (1 - sg x0 x1 (ix2 s n))) := by
  pointwise [dgt, dsl, sd]
theorem dgu_gate (s : Fin 2048) (n : Fin 2816) : dgu x0 x1 x2 x3 (ix2 s ⟨n.val, by omega⟩) = dgt x0 x1 x2 x3 (ix2 s n) := by
  pointwise [dgu]
theorem dgu_up (s : Fin 2048) (n : Fin 2816) : dgu x0 x1 x2 x3 (ix2 s ⟨2816 + n.val, by omega⟩) = gt x0 x1 (ix2 s n) * sg x0 x1 (ix2 s n) * da x2 x3 (ix2 s n) := by
  pointwise [dgu, sl]
theorem rY_at (s : Fin 2048) (n : Fin 1024) : rY x0 x1 x2 (ix2 s n) = ∑ k : Fin 2816, act x0 x1 (ix2 s k) * x2 (ix2 k n) := by
  pointwise [rY]
theorem rDh_at (s : Fin 2048) (n : Fin 1024) : rDh x0 x1 x2 x3 (ix2 s n) = ∑ k : Fin 5632, dgu x0 x1 x2 x3 (ix2 s k) * x1 (ix2 n k) := by
  pointwise [rDh]
theorem rDwgu_at (q : Fin 8) (f : Fin 704) (n : Fin 1024) : rDwgu x0 x1 x2 x3 (ix3 q f n) = ∑ r : Fin 2048, dgu x0 x1 x2 x3 (ix2 r ⟨q.val * 704 + f.val, by omega⟩) * x0 (ix2 r n) := by
  pointwise [rDwgu]
theorem rDwd_at (q : Fin 4) (f : Fin 704) (n : Fin 1024) : rDwd x0 x1 x3 (ix3 q f n) = ∑ r : Fin 2048, x3 (ix2 r n) * act x0 x1 (ix2 r ⟨q.val * 704 + f.val, by omega⟩) := by
  pointwise [rDwd]

/-- Every run of the reference ends with these, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = rY (m ((c.tc : Thread nD τ).loc main_arg0)) (m ((c.tc : Thread nD τ).loc main_arg1)) (m ((c.tc : Thread nD τ).loc main_arg2))
      ∧ r.2.mem ((c.tc : Thread nD τ).loc main_v15) = rDh (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = rDwgu (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v18) = rDwd (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Value.run m ρ)

end Cert.Ffn.Ref

end
-- ==== Proof.FfnEq.lean ====
/-
  The feed-forward kernel's results are the reference's, at real arguments.
-/
module

public import proofs.«01_k».proof.Proof.FfnRun
public import proofs.«01_k».proof.Proof.FfnRef
public import proofs.«01_k».proof.Proof.Pre
public import proofs.«01_k».proof.Pre_finite_ffn

@[expose] public section

set_option maxHeartbeats 1600000
set_option maxRecDepth 16384

noncomputable section

namespace Cert.Ffn

open Idealize.ShloMosaic Cert.Kernel2Ideal Cert.Kernel2Ideal.Gen Cert.Kernel2Ideal.Facts
open Cert.Fox.Ref (Fine)

variable (X : FVec Ideal S2048x1024 .f32) (G : FVec Ideal S1024x5632 .f32) (D : FVec Ideal S2816x1024 .f32) (Y : FVec Ideal S2048x1024 .f32)

/-! ## The kernel's operands and intermediates, element by element -/

theorem rowB_at (s : Fin 2048) (k : Fin 1024) : rowB X (ix2 s k) = X (ix2 s k) := by
  pointwise [rowB]
theorem wgu_at (q : Fin 2) (j : Fin 4) (f : Fin 704) (k : Fin 1024) : wgu G (ix4 q j f k) = G (ix2 k ⟨(q.val * 4 + j.val) * 704 + f.val, by omega⟩) := by
  pointwise [wgu]
  exact congrArg (fun n => G (ix2 k n)) (Fin.ext (by show q.val * 2816 + j.val * 704 + f.val = (q.val * 4 + j.val) * 704 + f.val; omega))
theorem wdn_at (j : Fin 4) (f : Fin 704) (k : Fin 1024) : wdn D (ix3 j f k) = D (ix2 ⟨j.val * 704 + f.val, by omega⟩ k) := by
  pointwise [wdn]

theorem up_pre (q : Fin 2) (j : Fin 4) (s : Fin 2048) (f : Fin 704) :
    upG (rowB X) (wgu G) (ix4 q j s f) = Ref.gu X G (ix2 s ⟨(q.val * 4 + j.val) * 704 + f.val, by omega⟩) := by
  rw [Ref.gu_at]
  show (∑ k : Fin 1024, rowB X (ix2 s k) * wgu G (ix4 q j f k)) = _
  simp only [rowB_at, wgu_at]
theorem up_gate (j : Fin 4) (s : Fin 2048) (f : Fin 704) :
    upG (rowB X) (wgu G) (ix4 0 j s f) = Ref.gt X G (ix2 s ⟨j.val * 704 + f.val, by omega⟩) := by
  rw [up_pre, Ref.gt_at]
  exact congrArg (fun n => Ref.gu X G (ix2 s n)) (Fin.ext (by show (0 * 4 + j.val) * 704 + f.val = j.val * 704 + f.val; omega))
theorem up_up (j : Fin 4) (s : Fin 2048) (f : Fin 704) :
    upG (rowB X) (wgu G) (ix4 1 j s f) = Ref.up X G (ix2 s ⟨j.val * 704 + f.val, by omega⟩) := by
  rw [up_pre, Ref.up_at]
  exact congrArg (fun n => Ref.gu X G (ix2 s n)) (Fin.ext (by show (1 * 4 + j.val) * 704 + f.val = 2816 + (j.val * 704 + f.val); omega))
theorem act_pre (j : Fin 4) (s : Fin 2048) (f : Fin 704) :
    actG (rowB X) (wgu G) (ix3 j s f) = Ref.act X G (ix2 s ⟨j.val * 704 + f.val, by omega⟩) := by
  show upG (rowB X) (wgu G) (ix4 0 j s f) * Ideal.logistic (upG (rowB X) (wgu G) (ix4 0 j s f)) * upG (rowB X) (wgu G) (ix4 1 j s f) = _
  rw [up_gate, up_up, Ref.act_at, Ref.sg_at]
theorem da_pre (j : Fin 4) (s : Fin 2048) (f : Fin 704) :
    (∑ k : Fin 1024, rowB Y (ix2 s k) * wdn D (ix3 j f k)) = Ref.da D Y (ix2 s ⟨j.val * 704 + f.val, by omega⟩) := by
  rw [Ref.da_at]
  simp only [rowB_at, wdn_at]

/-! ## The gate's gradient, at a real up projection and output gradient -/

theorem sum_mul_real {n : Nat} (f g : Fin n → EReal) (hf : ∀ k, f k = ((f k).toReal : EReal)) (hg : ∀ k, g k = ((g k).toReal : EReal)) :
    ∃ r : ℝ, ∑ k, f k * g k = (r : EReal) := by
  refine ⟨∑ k, (f k).toReal * (g k).toReal, ?_⟩
  rw [← Cert.Fox.sum_coe]
  exact Finset.sum_congr rfl fun k _ => by rw [EReal.coe_mul, ← hf, ← hg]

theorem gate_grad (d u : ℝ) (g : EReal) :
    (d : EReal) * (u : EReal) * (Ideal.logistic g * (1 + g * (1 - Ideal.logistic g)))
      = (d : EReal) * (u : EReal) * Ideal.logistic g
        + g * ((d : EReal) * (u : EReal)) * (Ideal.logistic g * (1 - Ideal.logistic g)) := by
  have h1 : (1 : EReal) - 1 = 0 := by rw [← EReal.coe_one, ← EReal.coe_sub, sub_self, EReal.coe_zero]
  induction g with
  | bot => rw [Ideal.logistic_bot]; simp only [zero_mul, mul_zero, add_zero]
  | top => rw [Ideal.logistic_top, h1]; simp only [mul_zero, add_zero, mul_one]
  | coe g =>
    rw [Ideal.logistic_coe]
    generalize (1 + Real.exp (-g))⁻¹ = l
    rw [← EReal.coe_one]
    simp only [← EReal.coe_mul, ← EReal.coe_sub, ← EReal.coe_add]
    congr 1
    ring

/-- The up half's columns are real. -/
def FineUp : Prop := ∀ (k : Fin 1024) (a : Fin 2816), G (ix2 k ⟨2816 + a.val, by omega⟩) = ((G (ix2 k ⟨2816 + a.val, by omega⟩)).toReal : EReal)

/-- The kernel's gradients of the pre-activations are the reference's. -/
theorem dgu_pre (hX : Fine X) (hG : FineUp G) (hD : Fine D) (hY : Fine Y) (p : Fin 8) (s : Fin 2048) (f : Fin 704) :
    dgu8 X G D Y (ix3 p s f) = Ref.dgu X G D Y (ix2 s ⟨p.val * 704 + f.val, by omega⟩) := by
  have e : dgu8 X G D Y (ix3 p s f) = daG (rowB Y) (wdn D) (upG (rowB X) (wgu G)) (ix4 (⟨p.val / 4, by omega⟩ : Fin 2) (⟨p.val % 4, by omega⟩ : Fin 4) s f) := by
    unfold dgu8
    pointwise []
  rw [e]
  generalize hq : (⟨p.val / 4, by omega⟩ : Fin 2) = q
  generalize hj : (⟨p.val % 4, by omega⟩ : Fin 4) = j
  have hq' : p.val / 4 = q.val := congrArg Fin.val hq
  have hj' : p.val % 4 = j.val := congrArg Fin.val hj
  show dgu q (∑ k : Fin 1024, rowB Y (ix2 s k) * wdn D (ix3 j f k)) (upG (rowB X) (wgu G) (ix4 0 j s f)) (upG (rowB X) (wgu G) (ix4 1 j s f)) = _
  rw [da_pre, up_gate, up_up]
  by_cases h : q = 0
  · rw [dgu, if_pos h]
    have hn : (⟨p.val * 704 + f.val, by omega⟩ : Fin 5632) = ⟨(⟨j.val * 704 + f.val, by omega⟩ : Fin 2816).val, by omega⟩ :=
      Fin.ext (by show p.val * 704 + f.val = j.val * 704 + f.val; rw [h] at hq'; change p.val / 4 = 0 at hq'; omega)
    rw [hn, Ref.dgu_gate, Ref.dgt_at, Ref.sg_at, Ref.gt_at, Ref.up_at, Ref.da_at, Ref.gu_at, Ref.gu_at]
    obtain ⟨d, hd⟩ := sum_mul_real (fun k : Fin 1024 => Y (ix2 s k)) (fun k => D (ix2 (⟨j.val * 704 + f.val, by omega⟩ : Fin 2816) k)) (fun k => hY _) (fun k => hD _)
    obtain ⟨u, hu⟩ := sum_mul_real (fun k : Fin 1024 => X (ix2 s k)) (fun k => G (ix2 k (⟨2816 + (j.val * 704 + f.val), by omega⟩ : Fin 5632))) (fun k => hX _) (fun k => hG k ⟨j.val * 704 + f.val, by omega⟩)
    rw [hd, hu]
    exact gate_grad d u _
  · rw [dgu, if_neg h]
    have hq1 : q.val = 1 := by
      have : q.val ≠ 0 := fun h0 => h (Fin.ext h0)
      omega
    have hn : (⟨p.val * 704 + f.val, by omega⟩ : Fin 5632) = ⟨2816 + (⟨j.val * 704 + f.val, by omega⟩ : Fin 2816).val, by omega⟩ :=
      Fin.ext (by show p.val * 704 + f.val = 2816 + (j.val * 704 + f.val); omega)
    rw [hn, Ref.dgu_up, Ref.sg_at, mul_comm]

/-! ## The results -/

theorem sum4 (F : Fin 2816 → EReal) : ∑ n, F n = ∑ q : Fin 4, ∑ f : Fin 704, F ⟨q.val * 704 + f.val, by omega⟩ := by
  rw [← Fintype.sum_prod_type (f := fun p : Fin 4 × Fin 704 => F ⟨p.1.val * 704 + p.2.val, by omega⟩)]
  exact (Fintype.sum_equiv (finProdFinEquiv (m := 4) (n := 704)) _ _ (fun p => congrArg F (Fin.ext (by
    show p.1.val * 704 + p.2.val = p.2.val + 704 * p.1.val; omega)))).symm
theorem sum8 (F : Fin 5632 → EReal) : ∑ n, F n = ∑ q : Fin 8, ∑ f : Fin 704, F ⟨q.val * 704 + f.val, by omega⟩ := by
  rw [← Fintype.sum_prod_type (f := fun p : Fin 8 × Fin 704 => F ⟨p.1.val * 704 + p.2.val, by omega⟩)]
  exact (Fintype.sum_equiv (finProdFinEquiv (m := 8) (n := 704)) _ _ (fun p => congrArg F (Fin.ext (by
    show p.1.val * 704 + p.2.val = p.2.val + 704 * p.1.val; omega)))).symm

theorem wgu8_at (p : Fin 8) (f : Fin 704) (k : Fin 1024) :
    (shapeCast S8x704x1024 (wgu G : FVec Ideal S2x4x704x1024 .bf16) shapeCasts_S2x4x704x1024_S8x704x1024 : FVec Ideal S8x704x1024 .bf16) (ix3 p f k) = G (ix2 k ⟨p.val * 704 + f.val, by omega⟩) := by
  pointwise []
  rw [wgu_at]
  exact congrArg (fun n => G (ix2 k n)) (Fin.ext (by show (p.val / 4 * 4 + p.val % 4) * 704 + f.val = p.val * 704 + f.val; omega))

theorem resY_eq : resY X G D = Ref.rY X G D := by
  funext i
  obtain ⟨s, n, rfl⟩ : ∃ (s : Fin 2048) (n : Fin 1024), i = ix2 s n := ⟨i 0, i 1, eq_ix2 i⟩
  rw [Ref.rY_at, sum4]
  show (∑ q : Fin 4, ∑ f : Fin 704, actG (rowB X) (wgu G) (ix3 q s f) * wdn D (ix3 q f n)) = _
  simp only [act_pre, wdn_at]
theorem resDwd_eq : resDwd X G Y = Ref.rDwd X G Y := by
  funext i
  obtain ⟨q, f, n, rfl⟩ : ∃ (q : Fin 4) (f : Fin 704) (n : Fin 1024), i = ix3 q f n := ⟨i 0, i 1, i 2, eq_ix3 i⟩
  rw [Ref.rDwd_at]
  show (∑ r : Fin 2048, actG (rowB X) (wgu G) (ix3 q r f) * rowB Y (ix2 r n)) = _
  refine Finset.sum_congr rfl fun r _ => ?_
  rw [act_pre, rowB_at, mul_comm]
theorem resDwgu_eq (hX : Fine X) (hG : FineUp G) (hD : Fine D) (hY : Fine Y) : resDwgu X G D Y = Ref.rDwgu X G D Y := by
  funext i
  obtain ⟨q, f, n, rfl⟩ : ∃ (q : Fin 8) (f : Fin 704) (n : Fin 1024), i = ix3 q f n := ⟨i 0, i 1, i 2, eq_ix3 i⟩
  rw [Ref.rDwgu_at]
  show (∑ r : Fin 2048, dgu8 X G D Y (ix3 q r f) * rowB X (ix2 r n)) = _
  simp only [dgu_pre X G D Y hX hG hD hY, rowB_at]
theorem resDh_eq (hX : Fine X) (hG : FineUp G) (hD : Fine D) (hY : Fine Y) : resDh X G D Y = Ref.rDh X G D Y := by
  funext i
  obtain ⟨s, n, rfl⟩ : ∃ (s : Fin 2048) (n : Fin 1024), i = ix2 s n := ⟨i 0, i 1, eq_ix2 i⟩
  rw [Ref.rDh_at, sum8]
  show (∑ q : Fin 8, ∑ f : Fin 704, dgu8 X G D Y (ix3 q s f) * (shapeCast S8x704x1024 (wgu G : FVec Ideal S2x4x704x1024 .bf16) shapeCasts_S2x4x704x1024_S8x704x1024 : FVec Ideal S8x704x1024 .bf16) (ix3 q f n)) = _
  simp only [dgu_pre X G D Y hX hG hD hY, wgu8_at]

/-- The precondition makes the arguments real, of the gate and up weight the up half. -/
theorem fine_of [Cert.Pre_finite_ffn.Facts] (h : Cert.Pre_finite_ffn.fn X G D Y = fun _ => 1#1) : Fine X ∧ FineUp G ∧ Fine D ∧ Fine Y := by
  refine ⟨fun i => ?_, fun n a => ?_, fun i => ?_, fun i => ?_⟩
  · obtain ⟨a, n, rfl⟩ : ∃ (a : Fin 2048) (n : Fin 1024), i = ix2 a n := ⟨i 0, i 1, eq_ix2 i⟩
    have e := congrFun h (ix2 (⟨a.val, by omega⟩ : Fin 9728) n)
    pointwise [Cert.Pre_finite_ffn.fn] at e
    exact Cert.Pre_finite_arguments.real_of _ e
  · have e := congrFun h (ix2 (⟨2048 + a.val, by omega⟩ : Fin 9728) n)
    pointwise [Cert.Pre_finite_ffn.fn] at e
    exact Cert.Pre_finite_arguments.real_of _ e
  · obtain ⟨a, n, rfl⟩ : ∃ (a : Fin 2816) (n : Fin 1024), i = ix2 a n := ⟨i 0, i 1, eq_ix2 i⟩
    have e := congrFun h (ix2 (⟨4864 + a.val, by omega⟩ : Fin 9728) n)
    pointwise [Cert.Pre_finite_ffn.fn] at e
    rw [dif_neg (by omega), dif_neg (by omega), dif_pos (by omega)] at e
    have hi : (⟨4864 + a.val - 2048 - 2816, by omega⟩ : Fin 2816) = a := Fin.ext (by show 4864 + a.val - 2048 - 2816 = a.val; omega)
    rw [hi] at e
    exact Cert.Pre_finite_arguments.real_of _ e
  · obtain ⟨a, n, rfl⟩ : ∃ (a : Fin 2048) (n : Fin 1024), i = ix2 a n := ⟨i 0, i 1, eq_ix2 i⟩
    have e := congrFun h (ix2 (⟨7680 + a.val, by omega⟩ : Fin 9728) n)
    pointwise [Cert.Pre_finite_ffn.fn] at e
    rw [dif_neg (by omega), dif_neg (by omega), dif_neg (by omega)] at e
    have hi : (⟨7680 + a.val - 2048 - 2816 - 2816, by omega⟩ : Fin 2048) = a := Fin.ext (by show 7680 + a.val - 2048 - 2816 - 2816 = a.val; omega)
    rw [hi] at e
    exact Cert.Pre_finite_arguments.real_of _ e

end Cert.Ffn

end
-- ==== Proof.CrossOut.lean ====
/-
  What each of the ten kernels of the cross-attention leaves in its output block, element by element, from its input
  blocks.
-/
module

public import proofs.«01_k».proof.Proof.Gen.Kernel3Ideal.Frame
public import Idealize.ShloMosaic.Lib.Pipeline.ValueKit

@[expose] public section

set_option maxHeartbeats 1600000
set_option maxRecDepth 16384

noncomputable section

namespace Cert.Cross

open Idealize.ShloMosaic Cert.Kernel3Ideal Cert.Kernel3Ideal.Gen

/-- The scale of the scores, 1/16. -/
def sixteenth : EReal := Ideal.ofBits .f32 0x3D800000#32
/-- The largest of a row of scores. -/
def mx (f : Fin 256 → EReal) : EReal := Finset.univ.fold max (Ideal.ofBits .f32 0xFF800000#32) f
/-- The softmax of a row of scores. -/
def prob (f : Fin 256 → EReal) (b : Fin 256) : EReal := Ideal.div (Ideal.exp (f b - mx f)) (∑ n, Ideal.exp (f n - mx f))
/-- The gradient of a row's unscaled scores, from the scores `f` and the gradient `g` of their softmax. -/
def dsc (f g : Fin 256 → EReal) (b : Fin 256) : EReal := prob f b * (g b - ∑ n, g n * prob f n) * sixteenth

theorem o0_2 (x0 : Vec Ideal S256x1024 .bf16) (x1 : Vec Ideal S1x1024x256 .bf16) (b : Fin 256) (d : Fin 256) :
    out0_2 x0 x1 (ix3 0 b d) = ∑ k : Fin 1024, x0 (ix2 b k) * x1 (ix3 0 k d) := by
  unfold out0_2
  frame_out
  pointwise [k0_pay1]
theorem o1_4 (x0 : Vec Ideal S2048x1024 .bf16) (x1 : Vec Ideal S1024x256 .bf16) (x2 x3 : Vec Ideal S1x256x256 .bf16) (r : Fin 2048) (d : Fin 256) :
    out1_4 x0 x1 x2 x3 (ix2 r d) = ∑ k : Fin 1024, x0 (ix2 r k) * x1 (ix2 k d) := by
  unfold out1_4
  frame_out
  pointwise [k1_pay1]
theorem o1_5 (x0 : Vec Ideal S2048x1024 .bf16) (x1 : Vec Ideal S1024x256 .bf16) (x2 x3 : Vec Ideal S1x256x256 .bf16) (r : Fin 2048) (d : Fin 256) :
    out1_5 x0 x1 x2 x3 (ix2 r d) = ∑ b : Fin 256, prob (fun n => (∑ e : Fin 256, (∑ k : Fin 1024, x0 (ix2 r k) * x1 (ix2 k e)) * x2 (ix3 0 n e)) * sixteenth) b * x3 (ix3 0 b d) := by
  unfold out1_5
  frame_out
  pointwise [k1_pay2, k1_pay1]
  rfl
theorem o2_2 (x0 : Vec Ideal S2048x1024 .bf16) (x1 : Vec Ideal S1024x1024 .bf16) (r : Fin 2048) (n : Fin 1024) :
    out2_2 x0 x1 (ix2 r n) = ∑ k : Fin 1024, x0 (ix2 r k) * x1 (ix2 k n) := by
  unfold out2_2
  frame_out
  pointwise [k2_pay1]
theorem o3_2 (x0 : Vec Ideal S2048x1024 .bf16) (x1 : Vec Ideal S1024x1024 .bf16) (r : Fin 2048) (n : Fin 1024) :
    out3_2 x0 x1 (ix2 r n) = ∑ k : Fin 1024, x0 (ix2 r k) * x1 (ix2 n k) := by
  unfold out3_2
  frame_out
  pointwise [k3_pay1]
theorem o4_2 (x0 x1 : Vec Ideal S2048x1024 .bf16) (k : Fin 1024) (n : Fin 1024) :
    out4_2 x0 x1 (ix2 k n) = ∑ r : Fin 2048, x0 (ix2 r k) * x1 (ix2 r n) := by
  unfold out4_2
  frame_out
  pointwise [k4_pay1]
theorem o6_2 (x0 x1 : Vec Ideal S2048x1024 .bf16) (k : Fin 1024) (n : Fin 1024) :
    out6_2 x0 x1 (ix2 k n) = ∑ r : Fin 2048, x0 (ix2 r k) * x1 (ix2 r n) := by
  unfold out6_2
  frame_out
  pointwise [k6_pay1]
theorem o7_2 (x0 : Vec Ideal S2048x1024 .bf16) (x1 : Vec Ideal S1024x1024 .bf16) (r : Fin 2048) (n : Fin 1024) :
    out7_2 x0 x1 (ix2 r n) = ∑ k : Fin 1024, x0 (ix2 r k) * x1 (ix2 n k) := by
  unfold out7_2
  frame_out
  pointwise [k7_pay1]
theorem o8_2 (x0 : Vec Ideal S256x1024 .bf16) (x1 : Vec Ideal S1x256x256 .f32) (k : Fin 1024) (d : Fin 256) :
    out8_2 x0 x1 (ix3 0 k d) = ∑ b : Fin 256, x0 (ix2 b k) * x1 (ix3 0 b d) := by
  unfold out8_2
  frame_out
  pointwise [k8_pay1]
theorem o9_2 (x0 : Vec Ideal S8x256x256 .f32) (x1 : Vec Ideal S8x1024x256 .bf16) (b : Fin 256) (k : Fin 1024) :
    out9_2 x0 x1 (ix2 b k) = ∑ q : Fin 8, ∑ d : Fin 256, x0 (ix3 q b d) * x1 (ix3 q k d) := by
  unfold out9_2
  frame_out
  pointwise [k9_pay1, k9_pay2]
  rw [Fin.sum_univ_eight]

section
variable (c : Dev nD) (i : grid5.Coords) (arg2 : Memref sig .tc .vmem S2048x256 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2x1x256x256 .f32) (harg7 : arg7.IsWhole) (hc0 : cond5_0 i) (hc1 : ¬cond5_1 i)
    (x0 : Vec Ideal S2048x256 .bf16) (x1 : Vec Ideal S1x256x256 .bf16) (x2 : Vec Ideal S1x256x256 .bf16) (x3 : Vec Ideal S2048x256 .bf16)

/-- A query's scaled scores. -/
def scoreB (x0 : Vec Ideal S2048x256 .bf16) (x1 : Vec Ideal S1x256x256 .bf16) (r : Fin 2048) (n : Fin 256) : EReal := (∑ e : Fin 256, x0 (ix2 r e) * x1 (ix3 0 n e)) * sixteenth
/-- The gradient of a query's softmax. -/
def dprobB (x2 : Vec Ideal S1x256x256 .bf16) (x3 : Vec Ideal S2048x256 .bf16) (r : Fin 2048) (n : Fin 256) : EReal := ∑ e : Fin 256, x3 (ix2 r e) * x2 (ix3 0 n e)

theorem p9 (r : Fin 2048) (b : Fin 256) : (k5_pay9 x0 x1 : FVec Ideal S2048x256 .f32) (ix2 r b) = prob (scoreB x0 x1 r) b := by
  pointwise [k5_pay9, k5_pay6, k5_pay7]
  rfl
theorem p10 (r : Fin 2048) (b : Fin 256) : (k5_pay10 x0 x1 x2 x3 : FVec Ideal S2048x256 .bf16) (ix2 r b) = dsc (scoreB x0 x1 r) (dprobB x2 x3 r) b := by
  pointwise [k5_pay10, k5_pay8]
  simp only [p9]
  rfl
theorem p11 (r : Fin 2048) (d : Fin 256) : (k5_pay11 x0 x1 x2 x3 : FVec Ideal S2048x256 .bf16) (ix2 r d) = ∑ b : Fin 256, dsc (scoreB x0 x1 r) (dprobB x2 x3 r) b * x1 (ix3 0 b d) := by
  pointwise [k5_pay11, k5_pay7]
  simp only [p10]
theorem p12 (b d : Fin 256) : (k5_pay12 x0 x1 x2 x3 : FVec Ideal S256x256 .f32) (ix2 b d) = ∑ r : Fin 2048, dsc (scoreB x0 x1 r) (dprobB x2 x3 r) b * x0 (ix2 r d) := by
  pointwise [k5_pay12, k5_pay6]
  simp only [p10]

theorem o5_4 (r : Fin 2048) (d : Fin 256) : out5_A_4 c i arg2 harg2 arg3 harg3 arg4 harg4 arg5 harg5 arg6 harg6 arg7 harg7 hc0 hc1 x0 x1 x2 x3 (ix2 r d)
    = ∑ b : Fin 256, dsc (scoreB x0 x1 r) (dprobB x2 x3 r) b * x1 (ix3 0 b d) := by
  frame_out
  exact p11 x0 x1 x2 x3 r d
theorem o5_5 (q : Fin 2) (b d : Fin 256) : out5_A_5 c i arg2 harg2 arg3 harg3 arg4 harg4 arg5 harg5 arg6 harg6 arg7 harg7 hc0 hc1 x0 x1 x2 x3 (ix4 q 0 b d)
    = if q = 0 then ∑ r : Fin 2048, dsc (scoreB x0 x1 r) (dprobB x2 x3 r) b * x0 (ix2 r d) else ∑ r : Fin 2048, prob (scoreB x0 x1 r) b * x3 (ix2 r d) := by
  frame_out
  canon_tiles x h
  · open_payloads
    obtain ⟨a, o, s, l, rfl⟩ : ∃ (a o : Fin 1) (s l : Fin 256), x = ix4 a o s l := ⟨x 0, x 1, x 2, x 3, eq_ix4 x⟩
    obtain rfl : q = 1 := Fin.ext (by change q.val = 1 + a.val at h0; change a.val < 1 at x0_lt; simp; omega)
    obtain rfl : b = s := Fin.ext h2
    obtain rfl : d = l := Fin.ext h3
    pointwise [k5_pay3, k5_pay8, k5_pay13]
    rfl
  · open_payloads
    obtain ⟨a, o, s, l, rfl⟩ : ∃ (a o : Fin 1) (s l : Fin 256), x = ix4 a o s l := ⟨x 0, x 1, x 2, x 3, eq_ix4 x⟩
    obtain rfl : q = 0 := Fin.ext (by change q.val = a.val at h0; change a.val < 1 at x0_lt; simp; omega)
    obtain rfl : b = s := Fin.ext h2
    obtain rfl : d = l := Fin.ext h3
    pointwise [k5_pay2]
    rfl
end

end Cert.Cross

end
-- ==== Proof.CrossRegions.lean ====
/-
  What the ten regions of the cross-attention leave in their result arrays, from what their operands hold: each block
  of a result is its formula at its point, and the blocks cover the array.
-/
module

public import proofs.«01_k».proof.Proof.CrossOut

@[expose] public section

set_option maxHeartbeats 1600000
set_option maxRecDepth 16384

noncomputable section

namespace Cert.Cross

open Idealize.ShloMosaic Idealize.ShloMosaic.TcCoe Cert.Kernel3Ideal Cert.Kernel3Ideal.Gen

/-- A head's columns. -/
def cl (h : Fin 4) (d : Fin 256) : Fin 1024 := ⟨h.val * 256 + d.val, by omega⟩
/-- A column's head. -/
def hd (j : Fin 1024) : Fin 4 := ⟨j.val / 256, by omega⟩
/-- A column's place in its head. -/
def lo (j : Fin 1024) : Fin 256 := ⟨j.val % 256, by omega⟩
theorem hd_cl (h : Fin 4) (d : Fin 256) : hd (cl h d) = h := Fin.ext (by simp only [hd, cl]; omega)
theorem lo_cl (h : Fin 4) (d : Fin 256) : lo (cl h d) = d := Fin.ext (by simp only [lo, cl]; omega)
theorem cl_hd (j : Fin 1024) : cl (hd j) (lo j) = j := Fin.ext (by simp only [hd, lo, cl]; omega)
/-- A head's block of keys. -/
def kI (h : Fin 4) : Fin 8 := ⟨h.val, by omega⟩
/-- A head's block of values. -/
def vI (h : Fin 4) : Fin 8 := ⟨4 + h.val, by omega⟩

/-- The memory's keys and values, in eight blocks. -/
def kvG (m : Vec Ideal S256x1024 .bf16) (w : Vec Ideal S8x1024x256 .bf16) : Vec Ideal S8x256x256 .bf16 :=
  fun i => ∑ k : Fin 1024, m (ix2 (i 1) k) * w (ix3 (i 0) k (i 2))
/-- The queries. -/
def qG (x : Vec Ideal S2048x1024 .bf16) (w : Vec Ideal S1024x1024 .bf16) : Vec Ideal S2048x1024 .bf16 :=
  fun i => ∑ k : Fin 1024, x (ix2 (i 0) k) * w (ix2 k (i 1))
/-- A query's scaled scores in a head. -/
def scG (q : Vec Ideal S2048x1024 .bf16) (kv : Vec Ideal S8x256x256 .bf16) (h : Fin 4) (r : Fin 2048) (n : Fin 256) : EReal :=
  (∑ e : Fin 256, q (ix2 r (cl h e)) * kv (ix3 (kI h) n e)) * sixteenth
/-- The gradient of a query's softmax in a head. -/
def dpG (g : Vec Ideal S2048x1024 .bf16) (kv : Vec Ideal S8x256x256 .bf16) (h : Fin 4) (r : Fin 2048) (n : Fin 256) : EReal :=
  ∑ e : Fin 256, g (ix2 r (cl h e)) * kv (ix3 (vI h) n e)
/-- The heads' outputs. -/
def oG (q : Vec Ideal S2048x1024 .bf16) (kv : Vec Ideal S8x256x256 .bf16) : Vec Ideal S2048x1024 .bf16 :=
  fun i => ∑ b : Fin 256, prob (scG q kv (hd (i 1)) (i 0)) b * kv (ix3 (vI (hd (i 1))) b (lo (i 1)))
theorem oG_at (q : Vec Ideal S2048x1024 .bf16) (kv : Vec Ideal S8x256x256 .bf16) (h : Fin 4) (r : Fin 2048) (d : Fin 256) :
    oG q kv (ix2 r (cl h d)) = ∑ b : Fin 256, prob (scG q kv h r) b * kv (ix3 (vI h) b d) := by
  change (∑ b : Fin 256, prob (scG q kv (hd (cl h d)) r) b * kv (ix3 (vI (hd (cl h d))) b (lo (cl h d)))) = _
  rw [hd_cl, lo_cl]
/-- The block's output. -/
def yG (x : Vec Ideal S2048x1024 .bf16) (w : Vec Ideal S1024x1024 .bf16) : Vec Ideal S2048x1024 .f32 :=
  fun i => ∑ k : Fin 1024, x (ix2 (i 0) k) * w (ix2 k (i 1))
/-- The gradient of the heads' outputs. -/
def doG (x : Vec Ideal S2048x1024 .bf16) (w : Vec Ideal S1024x1024 .bf16) : Vec Ideal S2048x1024 .bf16 :=
  fun i => ∑ k : Fin 1024, x (ix2 (i 0) k) * w (ix2 (i 1) k)
/-- A square weight's gradient. -/
def tnG (x y : Vec Ideal S2048x1024 .bf16) : Vec Ideal S1024x1024 .f32 :=
  fun i => ∑ r : Fin 2048, x (ix2 r (i 0)) * y (ix2 r (i 1))
/-- The queries' gradient. -/
def dqG (q : Vec Ideal S2048x1024 .bf16) (kv : Vec Ideal S8x256x256 .bf16) (g : Vec Ideal S2048x1024 .bf16) : Vec Ideal S2048x1024 .bf16 :=
  fun i => ∑ b : Fin 256, dsc (scG q kv (hd (i 1)) (i 0)) (dpG g kv (hd (i 1)) (i 0)) b * kv (ix3 (kI (hd (i 1))) b (lo (i 1)))
theorem dqG_at (q : Vec Ideal S2048x1024 .bf16) (kv : Vec Ideal S8x256x256 .bf16) (g : Vec Ideal S2048x1024 .bf16) (h : Fin 4) (r : Fin 2048) (d : Fin 256) :
    dqG q kv g (ix2 r (cl h d)) = ∑ b : Fin 256, dsc (scG q kv h r) (dpG g kv h r) b * kv (ix3 (kI h) b d) := by
  change (∑ b : Fin 256, dsc (scG q kv (hd (cl h d)) r) (dpG g kv (hd (cl h d)) r) b * kv (ix3 (kI (hd (cl h d))) b (lo (cl h d)))) = _
  rw [hd_cl, lo_cl]
/-- The keys' (`0`) and the values' (`1`) gradients. -/
def dkvG (q : Vec Ideal S2048x1024 .bf16) (kv : Vec Ideal S8x256x256 .bf16) (g : Vec Ideal S2048x1024 .bf16) : Vec Ideal S2x4x256x256 .f32 :=
  fun i => if (show Fin 2 from i 0) = (0 : Fin 2) then ∑ r : Fin 2048, dsc (scG q kv (i 1) r) (dpG g kv (i 1) r) (i 2) * q (ix2 r (cl (i 1) (i 3)))
    else ∑ r : Fin 2048, prob (scG q kv (i 1) r) (i 2) * g (ix2 r (cl (i 1) (i 3)))
/-- The input's gradient. -/
def dhG (x : Vec Ideal S2048x1024 .bf16) (w : Vec Ideal S1024x1024 .bf16) : Vec Ideal S2048x1024 .f32 :=
  fun i => ∑ k : Fin 1024, x (ix2 (i 0) k) * w (ix2 (i 1) k)
/-- The key and value weight's gradient, in eight blocks. -/
def dwkvG (m : Vec Ideal S256x1024 .bf16) (g : Vec Ideal S8x256x256 .f32) : Vec Ideal S8x1024x256 .f32 :=
  fun i => ∑ b : Fin 256, m (ix2 b (i 1)) * g (ix3 (i 0) b (i 2))
/-- The memory rows' gradient. -/
def dmG (g : Vec Ideal S8x256x256 .f32) (w : Vec Ideal S8x1024x256 .bf16) : Vec Ideal S256x1024 .f32 :=
  fun i => ∑ q : Fin 8, ∑ d : Fin 256, g (ix3 q (i 0) d) * w (ix3 q (i 1) d)

variable (V : (c : Dev nD) → (b : Ref sig .tc) → Buf (Elt Ideal) ((c : Thread nD τ).loc b)) (c : Dev nD)

/-! ## Region 0 -/

theorem ix0_0 : ∀ t : Fin cfg0.N, win0_0.index t = ![0, 0] := (by decide +kernel : ∀ t : Fin grid0.N, _)
theorem rd0_0 (t : Fin cfg0.N) (G : Vec Ideal S256x1024 .bf16) (r : Fin 256) (n : Fin 1024) : (win0_0.blk t).view.read (Elt Ideal) G (ix2 r n) = G (ix2 r n) := by
  have e : (win0_0.blk t).view.emb (ix2 r n) = (ix2 r n) := by blk_ext [ix0_0]
  rw [View.read_apply]
  exact congrArg G e
theorem ib0_0 (t : Fin cfg0.N) : iblk0 V c 0 t = (win0_0.blk t).view.read (Elt Ideal) (V c main_v1) := rfl
theorem blk0_0 (t : Fin cfg0.N) (r : Fin 256) (n : Fin 1024) : iblk0 V c 0 t (ix2 r n) = (V c main_v1 : Vec Ideal S256x1024 .bf16) (ix2 r n) := by
  rw [ib0_0]
  exact rd0_0 t (V c main_v1) r n
theorem ix0_1 : ∀ t : Fin cfg0.N, win0_1.index t = ![t.val, 0, 0] := (by decide +kernel : ∀ t : Fin grid0.N, _)
theorem rd0_1 (t : Fin cfg0.N) (G : Vec Ideal S8x1024x256 .bf16) (r : Fin 1024) (n : Fin 256) : (win0_1.blk t).view.read (Elt Ideal) G (ix3 0 r n) = G (ix3 ⟨t.val, t.isLt⟩ r n) := by
  have e : (win0_1.blk t).view.emb (ix3 0 r n) = (ix3 ⟨t.val, t.isLt⟩ r n) := by blk_ext [ix0_1]
  rw [View.read_apply]
  exact congrArg G e
theorem ib0_1 (t : Fin cfg0.N) : iblk0 V c 1 t = (win0_1.blk t).view.read (Elt Ideal) (V c main_v7) := rfl
theorem blk0_1 (t : Fin cfg0.N) (r : Fin 1024) (n : Fin 256) : iblk0 V c 1 t (ix3 0 r n) = (V c main_v7 : Vec Ideal S8x1024x256 .bf16) (ix3 ⟨t.val, t.isLt⟩ r n) := by
  rw [ib0_1]
  exact rd0_1 t (V c main_v7) r n
theorem ix0_2 : ∀ t : Fin cfg0.N, win0_2.index t = ![t.val, 0, 0] := (by decide +kernel : ∀ t : Fin grid0.N, _)
theorem cov0_2 : (cfg0.win 2).Covers := by decide +kernel
theorem fin0_2 : (dat0 V c).arrAt 2 cfg0.N = kvG (V c main_v1) (V c main_v7) := by
  refine Pipeline.Dat.arrAt_eq_of_covers _ 2 _ cov0_2 fun t hf y => ?_
  change ((dat0 V c).after 2 t : Vec Ideal S1x256x256 .bf16) y = (kvG (V c main_v1) (V c main_v7)) ((win0_2.blk t).view.emb y)
  obtain ⟨r, n, rfl⟩ : ∃ (r : Fin 256) (n : Fin 256), y = ix3 0 r n := ⟨y 1, y 2, (eq_ix3 y).trans (congrArg (fun p : Fin 1 => (ix3 p (y 1) (y 2) : S1x256x256.Idx)) (Subsingleton.elim (α := Fin 1) _ _))⟩
  have e : (win0_2.blk t).view.emb (ix3 0 r n) = (ix3 ⟨t.val, t.isLt⟩ r n) := by
    blk_ext [ix0_2]
  rw [after0_2, o0_2, e]
  simp only [blk0_0, blk0_1]
  rfl

/-! ## Region 1 -/

theorem ix1_0 : ∀ t : Fin cfg1.N, win1_0.index t = ![0, 0] := (by decide +kernel : ∀ t : Fin grid1.N, _)
theorem rd1_0 (t : Fin cfg1.N) (G : Vec Ideal S2048x1024 .bf16) (r : Fin 2048) (n : Fin 1024) : (win1_0.blk t).view.read (Elt Ideal) G (ix2 r n) = G (ix2 r n) := by
  have e : (win1_0.blk t).view.emb (ix2 r n) = (ix2 r n) := by blk_ext [ix1_0]
  rw [View.read_apply]
  exact congrArg G e
theorem ib1_0 (t : Fin cfg1.N) : iblk1 V c 0 t = (win1_0.blk t).view.read (Elt Ideal) (V c main_v0) := rfl
theorem blk1_0 (t : Fin cfg1.N) (r : Fin 2048) (n : Fin 1024) : iblk1 V c 0 t (ix2 r n) = (V c main_v0 : Vec Ideal S2048x1024 .bf16) (ix2 r n) := by
  rw [ib1_0]
  exact rd1_0 t (V c main_v0) r n
theorem ix1_1 : ∀ t : Fin cfg1.N, win1_1.index t = ![0, t.val] := (by decide +kernel : ∀ t : Fin grid1.N, _)
theorem rd1_1 (t : Fin cfg1.N) (G : Vec Ideal S1024x1024 .bf16) (r : Fin 1024) (n : Fin 256) : (win1_1.blk t).view.read (Elt Ideal) G (ix2 r n) = G (ix2 r ⟨t.val * 256 + n.val, by have := (show t.val < 4 from t.isLt); omega⟩) := by
  have e : (win1_1.blk t).view.emb (ix2 r n) = (ix2 r ⟨t.val * 256 + n.val, by have := (show t.val < 4 from t.isLt); omega⟩) := by blk_ext [ix1_1]
  rw [View.read_apply]
  exact congrArg G e
theorem ib1_1 (t : Fin cfg1.N) : iblk1 V c 1 t = (win1_1.blk t).view.read (Elt Ideal) (V c main_v3) := rfl
theorem blk1_1 (t : Fin cfg1.N) (r : Fin 1024) (n : Fin 256) : iblk1 V c 1 t (ix2 r n) = (V c main_v3 : Vec Ideal S1024x1024 .bf16) (ix2 r ⟨t.val * 256 + n.val, by have := (show t.val < 4 from t.isLt); omega⟩) := by
  rw [ib1_1]
  exact rd1_1 t (V c main_v3) r n
theorem ix1_2 : ∀ t : Fin cfg1.N, win1_2.index t = ![t.val, 0, 0] := (by decide +kernel : ∀ t : Fin grid1.N, _)
theorem rd1_2 (t : Fin cfg1.N) (G : Vec Ideal S8x256x256 .bf16) (r : Fin 256) (n : Fin 256) : (win1_2.blk t).view.read (Elt Ideal) G (ix3 0 r n) = G (ix3 ⟨t.val, by have := (show t.val < 4 from t.isLt); omega⟩ r n) := by
  have e : (win1_2.blk t).view.emb (ix3 0 r n) = (ix3 ⟨t.val, by have := (show t.val < 4 from t.isLt); omega⟩ r n) := by blk_ext [ix1_2]
  rw [View.read_apply]
  exact congrArg G e
theorem ib1_2 (t : Fin cfg1.N) : iblk1 V c 2 t = (win1_2.blk t).view.read (Elt Ideal) (V c main_v8) := rfl
theorem blk1_2 (t : Fin cfg1.N) (r : Fin 256) (n : Fin 256) : iblk1 V c 2 t (ix3 0 r n) = (V c main_v8 : Vec Ideal S8x256x256 .bf16) (ix3 ⟨t.val, by have := (show t.val < 4 from t.isLt); omega⟩ r n) := by
  rw [ib1_2]
  exact rd1_2 t (V c main_v8) r n
theorem ix1_3 : ∀ t : Fin cfg1.N, win1_3.index t = ![4 + t.val, 0, 0] := (by decide +kernel : ∀ t : Fin grid1.N, _)
theorem rd1_3 (t : Fin cfg1.N) (G : Vec Ideal S8x256x256 .bf16) (r : Fin 256) (n : Fin 256) : (win1_3.blk t).view.read (Elt Ideal) G (ix3 0 r n) = G (ix3 ⟨4 + t.val, by have := (show t.val < 4 from t.isLt); omega⟩ r n) := by
  have e : (win1_3.blk t).view.emb (ix3 0 r n) = (ix3 ⟨4 + t.val, by have := (show t.val < 4 from t.isLt); omega⟩ r n) := by blk_ext [ix1_3]
  rw [View.read_apply]
  exact congrArg G e
theorem ib1_3 (t : Fin cfg1.N) : iblk1 V c 3 t = (win1_3.blk t).view.read (Elt Ideal) (V c main_v8) := rfl
theorem blk1_3 (t : Fin cfg1.N) (r : Fin 256) (n : Fin 256) : iblk1 V c 3 t (ix3 0 r n) = (V c main_v8 : Vec Ideal S8x256x256 .bf16) (ix3 ⟨4 + t.val, by have := (show t.val < 4 from t.isLt); omega⟩ r n) := by
  rw [ib1_3]
  exact rd1_3 t (V c main_v8) r n
theorem ix1_4 : ∀ t : Fin cfg1.N, win1_4.index t = ![0, t.val] := (by decide +kernel : ∀ t : Fin grid1.N, _)
theorem cov1_4 : (cfg1.win 4).Covers := by decide +kernel
theorem fin1_4 : (dat1 V c).arrAt 4 cfg1.N = qG (V c main_v0) (V c main_v3) := by
  refine Pipeline.Dat.arrAt_eq_of_covers _ 4 _ cov1_4 fun t hf y => ?_
  change ((dat1 V c).after 4 t : Vec Ideal S2048x256 .bf16) y = (qG (V c main_v0) (V c main_v3)) ((win1_4.blk t).view.emb y)
  obtain ⟨r, n, rfl⟩ : ∃ (r : Fin 2048) (n : Fin 256), y = ix2 r n := ⟨y 0, y 1, eq_ix2 y⟩
  have e : (win1_4.blk t).view.emb (ix2 r n) = (ix2 r ⟨t.val * 256 + n.val, by have := (show t.val < 4 from t.isLt); omega⟩) := by
    blk_ext [ix1_4]
  rw [after1_4, o1_4, e]
  simp only [blk1_0, blk1_1, blk1_2, blk1_3]
  rfl

theorem ix1_5 : ∀ t : Fin cfg1.N, win1_5.index t = ![0, t.val] := (by decide +kernel : ∀ t : Fin grid1.N, _)
theorem cov1_5 : (cfg1.win 5).Covers := by decide +kernel
theorem fin1_5 : (dat1 V c).arrAt 5 cfg1.N = oG (qG (V c main_v0) (V c main_v3)) (V c main_v8) := by
  refine Pipeline.Dat.arrAt_eq_of_covers _ 5 _ cov1_5 fun t hf y => ?_
  change ((dat1 V c).after 5 t : Vec Ideal S2048x256 .bf16) y = (oG (qG (V c main_v0) (V c main_v3)) (V c main_v8)) ((win1_5.blk t).view.emb y)
  obtain ⟨r, n, rfl⟩ : ∃ (r : Fin 2048) (n : Fin 256), y = ix2 r n := ⟨y 0, y 1, eq_ix2 y⟩
  have e : (win1_5.blk t).view.emb (ix2 r n) = (ix2 r (cl ⟨t.val, by have := (show t.val < 4 from t.isLt); omega⟩ n)) := by
    change _ = (ix2 r ⟨t.val * 256 + n.val, by have := (show t.val < 4 from t.isLt); omega⟩); blk_ext [ix1_5]
  rw [after1_5, o1_5, e, oG_at]
  simp only [blk1_0, blk1_1, blk1_2, blk1_3]
  rfl

/-! ## Region 2 -/

theorem ix2_0 : ∀ t : Fin cfg2.N, win2_0.index t = ![0, 0] := (by decide +kernel : ∀ t : Fin grid2.N, _)
theorem rd2_0 (t : Fin cfg2.N) (G : Vec Ideal S2048x1024 .bf16) (r : Fin 2048) (n : Fin 1024) : (win2_0.blk t).view.read (Elt Ideal) G (ix2 r n) = G (ix2 r n) := by
  have e : (win2_0.blk t).view.emb (ix2 r n) = (ix2 r n) := by blk_ext [ix2_0]
  rw [View.read_apply]
  exact congrArg G e
theorem ib2_0 (t : Fin cfg2.N) : iblk2 V c 0 t = (win2_0.blk t).view.read (Elt Ideal) (V c main_v9_1) := rfl
theorem blk2_0 (t : Fin cfg2.N) (r : Fin 2048) (n : Fin 1024) : iblk2 V c 0 t (ix2 r n) = (V c main_v9_1 : Vec Ideal S2048x1024 .bf16) (ix2 r n) := by
  rw [ib2_0]
  exact rd2_0 t (V c main_v9_1) r n
theorem ix2_1 : ∀ t : Fin cfg2.N, win2_1.index t = ![0, 0] := (by decide +kernel : ∀ t : Fin grid2.N, _)
theorem rd2_1 (t : Fin cfg2.N) (G : Vec Ideal S1024x1024 .bf16) (r : Fin 1024) (n : Fin 1024) : (win2_1.blk t).view.read (Elt Ideal) G (ix2 r n) = G (ix2 r n) := by
  have e : (win2_1.blk t).view.emb (ix2 r n) = (ix2 r n) := by blk_ext [ix2_1]
  rw [View.read_apply]
  exact congrArg G e
theorem ib2_1 (t : Fin cfg2.N) : iblk2 V c 1 t = (win2_1.blk t).view.read (Elt Ideal) (V c main_v4) := rfl
theorem blk2_1 (t : Fin cfg2.N) (r : Fin 1024) (n : Fin 1024) : iblk2 V c 1 t (ix2 r n) = (V c main_v4 : Vec Ideal S1024x1024 .bf16) (ix2 r n) := by
  rw [ib2_1]
  exact rd2_1 t (V c main_v4) r n
theorem ix2_2 : ∀ t : Fin cfg2.N, win2_2.index t = ![0, 0] := (by decide +kernel : ∀ t : Fin grid2.N, _)
theorem cov2_2 : (cfg2.win 2).Covers := by decide +kernel
theorem fin2_2 : (dat2 V c).arrAt 2 cfg2.N = yG (V c main_v9_1) (V c main_v4) := by
  refine Pipeline.Dat.arrAt_eq_of_covers _ 2 _ cov2_2 fun t hf y => ?_
  change ((dat2 V c).after 2 t : Vec Ideal S2048x1024 .f32) y = (yG (V c main_v9_1) (V c main_v4)) ((win2_2.blk t).view.emb y)
  obtain ⟨r, n, rfl⟩ : ∃ (r : Fin 2048) (n : Fin 1024), y = ix2 r n := ⟨y 0, y 1, eq_ix2 y⟩
  have e : (win2_2.blk t).view.emb (ix2 r n) = (ix2 r n) := by
    blk_ext [ix2_2]
  rw [after2_2, o2_2, e]
  simp only [blk2_0, blk2_1]
  rfl

/-! ## Region 3 -/

theorem ix3_0 : ∀ t : Fin cfg3.N, win3_0.index t = ![0, 0] := (by decide +kernel : ∀ t : Fin grid3.N, _)
theorem rd3_0 (t : Fin cfg3.N) (G : Vec Ideal S2048x1024 .bf16) (r : Fin 2048) (n : Fin 1024) : (win3_0.blk t).view.read (Elt Ideal) G (ix2 r n) = G (ix2 r n) := by
  have e : (win3_0.blk t).view.emb (ix2 r n) = (ix2 r n) := by blk_ext [ix3_0]
  rw [View.read_apply]
  exact congrArg G e
theorem ib3_0 (t : Fin cfg3.N) : iblk3 V c 0 t = (win3_0.blk t).view.read (Elt Ideal) (V c main_v2) := rfl
theorem blk3_0 (t : Fin cfg3.N) (r : Fin 2048) (n : Fin 1024) : iblk3 V c 0 t (ix2 r n) = (V c main_v2 : Vec Ideal S2048x1024 .bf16) (ix2 r n) := by
  rw [ib3_0]
  exact rd3_0 t (V c main_v2) r n
theorem ix3_1 : ∀ t : Fin cfg3.N, win3_1.index t = ![0, 0] := (by decide +kernel : ∀ t : Fin grid3.N, _)
theorem rd3_1 (t : Fin cfg3.N) (G : Vec Ideal S1024x1024 .bf16) (r : Fin 1024) (n : Fin 1024) : (win3_1.blk t).view.read (Elt Ideal) G (ix2 r n) = G (ix2 r n) := by
  have e : (win3_1.blk t).view.emb (ix2 r n) = (ix2 r n) := by blk_ext [ix3_1]
  rw [View.read_apply]
  exact congrArg G e
theorem ib3_1 (t : Fin cfg3.N) : iblk3 V c 1 t = (win3_1.blk t).view.read (Elt Ideal) (V c main_v4) := rfl
theorem blk3_1 (t : Fin cfg3.N) (r : Fin 1024) (n : Fin 1024) : iblk3 V c 1 t (ix2 r n) = (V c main_v4 : Vec Ideal S1024x1024 .bf16) (ix2 r n) := by
  rw [ib3_1]
  exact rd3_1 t (V c main_v4) r n
theorem ix3_2 : ∀ t : Fin cfg3.N, win3_2.index t = ![0, 0] := (by decide +kernel : ∀ t : Fin grid3.N, _)
theorem cov3_2 : (cfg3.win 2).Covers := by decide +kernel
theorem fin3_2 : (dat3 V c).arrAt 2 cfg3.N = doG (V c main_v2) (V c main_v4) := by
  refine Pipeline.Dat.arrAt_eq_of_covers _ 2 _ cov3_2 fun t hf y => ?_
  change ((dat3 V c).after 2 t : Vec Ideal S2048x1024 .bf16) y = (doG (V c main_v2) (V c main_v4)) ((win3_2.blk t).view.emb y)
  obtain ⟨r, n, rfl⟩ : ∃ (r : Fin 2048) (n : Fin 1024), y = ix2 r n := ⟨y 0, y 1, eq_ix2 y⟩
  have e : (win3_2.blk t).view.emb (ix2 r n) = (ix2 r n) := by
    blk_ext [ix3_2]
  rw [after3_2, o3_2, e]
  simp only [blk3_0, blk3_1]
  rfl

/-! ## Region 4 -/

theorem ix4_0 : ∀ t : Fin cfg4.N, win4_0.index t = ![0, 0] := (by decide +kernel : ∀ t : Fin grid4.N, _)
theorem rd4_0 (t : Fin cfg4.N) (G : Vec Ideal S2048x1024 .bf16) (r : Fin 2048) (n : Fin 1024) : (win4_0.blk t).view.read (Elt Ideal) G (ix2 r n) = G (ix2 r n) := by
  have e : (win4_0.blk t).view.emb (ix2 r n) = (ix2 r n) := by blk_ext [ix4_0]
  rw [View.read_apply]
  exact congrArg G e
theorem ib4_0 (t : Fin cfg4.N) : iblk4 V c 0 t = (win4_0.blk t).view.read (Elt Ideal) (V c main_v9_1) := rfl
theorem blk4_0 (t : Fin cfg4.N) (r : Fin 2048) (n : Fin 1024) : iblk4 V c 0 t (ix2 r n) = (V c main_v9_1 : Vec Ideal S2048x1024 .bf16) (ix2 r n) := by
  rw [ib4_0]
  exact rd4_0 t (V c main_v9_1) r n
theorem ix4_1 : ∀ t : Fin cfg4.N, win4_1.index t = ![0, 0] := (by decide +kernel : ∀ t : Fin grid4.N, _)
theorem rd4_1 (t : Fin cfg4.N) (G : Vec Ideal S2048x1024 .bf16) (r : Fin 2048) (n : Fin 1024) : (win4_1.blk t).view.read (Elt Ideal) G (ix2 r n) = G (ix2 r n) := by
  have e : (win4_1.blk t).view.emb (ix2 r n) = (ix2 r n) := by blk_ext [ix4_1]
  rw [View.read_apply]
  exact congrArg G e
theorem ib4_1 (t : Fin cfg4.N) : iblk4 V c 1 t = (win4_1.blk t).view.read (Elt Ideal) (V c main_v2) := rfl
theorem blk4_1 (t : Fin cfg4.N) (r : Fin 2048) (n : Fin 1024) : iblk4 V c 1 t (ix2 r n) = (V c main_v2 : Vec Ideal S2048x1024 .bf16) (ix2 r n) := by
  rw [ib4_1]
  exact rd4_1 t (V c main_v2) r n
theorem ix4_2 : ∀ t : Fin cfg4.N, win4_2.index t = ![0, 0] := (by decide +kernel : ∀ t : Fin grid4.N, _)
theorem cov4_2 : (cfg4.win 2).Covers := by decide +kernel
theorem fin4_2 : (dat4 V c).arrAt 2 cfg4.N = tnG (V c main_v9_1) (V c main_v2) := by
  refine Pipeline.Dat.arrAt_eq_of_covers _ 2 _ cov4_2 fun t hf y => ?_
  change ((dat4 V c).after 2 t : Vec Ideal S1024x1024 .f32) y = (tnG (V c main_v9_1) (V c main_v2)) ((win4_2.blk t).view.emb y)
  obtain ⟨r, n, rfl⟩ : ∃ (r : Fin 1024) (n : Fin 1024), y = ix2 r n := ⟨y 0, y 1, eq_ix2 y⟩
  have e : (win4_2.blk t).view.emb (ix2 r n) = (ix2 r n) := by
    blk_ext [ix4_2]
  rw [after4_2, o4_2, e]
  simp only [blk4_0, blk4_1]
  rfl

/-! ## Region 5 -/

theorem ix5_0 : ∀ t : Fin cfg5.N, win5_0.index t = ![0, t.val] := (by decide +kernel : ∀ t : Fin grid5.N, _)
theorem rd5_0 (t : Fin cfg5.N) (G : Vec Ideal S2048x1024 .bf16) (r : Fin 2048) (n : Fin 256) : (win5_0.blk t).view.read (Elt Ideal) G (ix2 r n) = G (ix2 r ⟨t.val * 256 + n.val, by have := (show t.val < 4 from t.isLt); omega⟩) := by
  have e : (win5_0.blk t).view.emb (ix2 r n) = (ix2 r ⟨t.val * 256 + n.val, by have := (show t.val < 4 from t.isLt); omega⟩) := by blk_ext [ix5_0]
  rw [View.read_apply]
  exact congrArg G e
theorem ib5_0 (t : Fin cfg5.N) : iblk5 V c 0 t = (win5_0.blk t).view.read (Elt Ideal) (V c main_v9_0) := rfl
theorem blk5_0 (t : Fin cfg5.N) (r : Fin 2048) (n : Fin 256) : iblk5 V c 0 t (ix2 r n) = (V c main_v9_0 : Vec Ideal S2048x1024 .bf16) (ix2 r ⟨t.val * 256 + n.val, by have := (show t.val < 4 from t.isLt); omega⟩) := by
  rw [ib5_0]
  exact rd5_0 t (V c main_v9_0) r n
theorem ix5_1 : ∀ t : Fin cfg5.N, win5_1.index t = ![t.val, 0, 0] := (by decide +kernel : ∀ t : Fin grid5.N, _)
theorem rd5_1 (t : Fin cfg5.N) (G : Vec Ideal S8x256x256 .bf16) (r : Fin 256) (n : Fin 256) : (win5_1.blk t).view.read (Elt Ideal) G (ix3 0 r n) = G (ix3 ⟨t.val, by have := (show t.val < 4 from t.isLt); omega⟩ r n) := by
  have e : (win5_1.blk t).view.emb (ix3 0 r n) = (ix3 ⟨t.val, by have := (show t.val < 4 from t.isLt); omega⟩ r n) := by blk_ext [ix5_1]
  rw [View.read_apply]
  exact congrArg G e
theorem ib5_1 (t : Fin cfg5.N) : iblk5 V c 1 t = (win5_1.blk t).view.read (Elt Ideal) (V c main_v8) := rfl
theorem blk5_1 (t : Fin cfg5.N) (r : Fin 256) (n : Fin 256) : iblk5 V c 1 t (ix3 0 r n) = (V c main_v8 : Vec Ideal S8x256x256 .bf16) (ix3 ⟨t.val, by have := (show t.val < 4 from t.isLt); omega⟩ r n) := by
  rw [ib5_1]
  exact rd5_1 t (V c main_v8) r n
theorem ix5_2 : ∀ t : Fin cfg5.N, win5_2.index t = ![4 + t.val, 0, 0] := (by decide +kernel : ∀ t : Fin grid5.N, _)
theorem rd5_2 (t : Fin cfg5.N) (G : Vec Ideal S8x256x256 .bf16) (r : Fin 256) (n : Fin 256) : (win5_2.blk t).view.read (Elt Ideal) G (ix3 0 r n) = G (ix3 ⟨4 + t.val, by have := (show t.val < 4 from t.isLt); omega⟩ r n) := by
  have e : (win5_2.blk t).view.emb (ix3 0 r n) = (ix3 ⟨4 + t.val, by have := (show t.val < 4 from t.isLt); omega⟩ r n) := by blk_ext [ix5_2]
  rw [View.read_apply]
  exact congrArg G e
theorem ib5_2 (t : Fin cfg5.N) : iblk5 V c 2 t = (win5_2.blk t).view.read (Elt Ideal) (V c main_v8) := rfl
theorem blk5_2 (t : Fin cfg5.N) (r : Fin 256) (n : Fin 256) : iblk5 V c 2 t (ix3 0 r n) = (V c main_v8 : Vec Ideal S8x256x256 .bf16) (ix3 ⟨4 + t.val, by have := (show t.val < 4 from t.isLt); omega⟩ r n) := by
  rw [ib5_2]
  exact rd5_2 t (V c main_v8) r n
theorem ix5_3 : ∀ t : Fin cfg5.N, win5_3.index t = ![0, t.val] := (by decide +kernel : ∀ t : Fin grid5.N, _)
theorem rd5_3 (t : Fin cfg5.N) (G : Vec Ideal S2048x1024 .bf16) (r : Fin 2048) (n : Fin 256) : (win5_3.blk t).view.read (Elt Ideal) G (ix2 r n) = G (ix2 r ⟨t.val * 256 + n.val, by have := (show t.val < 4 from t.isLt); omega⟩) := by
  have e : (win5_3.blk t).view.emb (ix2 r n) = (ix2 r ⟨t.val * 256 + n.val, by have := (show t.val < 4 from t.isLt); omega⟩) := by blk_ext [ix5_3]
  rw [View.read_apply]
  exact congrArg G e
theorem ib5_3 (t : Fin cfg5.N) : iblk5 V c 3 t = (win5_3.blk t).view.read (Elt Ideal) (V c main_v11) := rfl
theorem blk5_3 (t : Fin cfg5.N) (r : Fin 2048) (n : Fin 256) : iblk5 V c 3 t (ix2 r n) = (V c main_v11 : Vec Ideal S2048x1024 .bf16) (ix2 r ⟨t.val * 256 + n.val, by have := (show t.val < 4 from t.isLt); omega⟩) := by
  rw [ib5_3]
  exact rd5_3 t (V c main_v11) r n
theorem ix5_4 : ∀ t : Fin cfg5.N, win5_4.index t = ![0, t.val] := (by decide +kernel : ∀ t : Fin grid5.N, _)
theorem cov5_4 : (cfg5.win 4).Covers := by decide +kernel
theorem fin5_4 : (dat5 V c).arrAt 4 cfg5.N = dqG (V c main_v9_0) (V c main_v8) (V c main_v11) := by
  refine Pipeline.Dat.arrAt_eq_of_covers _ 4 _ cov5_4 fun t hf y => ?_
  change ((dat5 V c).after 4 t : Vec Ideal S2048x256 .bf16) y = (dqG (V c main_v9_0) (V c main_v8) (V c main_v11)) ((win5_4.blk t).view.emb y)
  obtain ⟨r, n, rfl⟩ : ∃ (r : Fin 2048) (n : Fin 256), y = ix2 r n := ⟨y 0, y 1, eq_ix2 y⟩
  have e : (win5_4.blk t).view.emb (ix2 r n) = (ix2 r (cl ⟨t.val, by have := (show t.val < 4 from t.isLt); omega⟩ n)) := by
    change _ = (ix2 r ⟨t.val * 256 + n.val, by have := (show t.val < 4 from t.isLt); omega⟩); blk_ext [ix5_4]
  rw [after5_4]
  unfold outsAt5
  dsimp only
  rw [o5_4, e, dqG_at]
  unfold scoreB dprobB
  simp only [blk5_0, blk5_1, blk5_2, blk5_3]
  rfl

theorem ix5_5 : ∀ t : Fin cfg5.N, win5_5.index t = ![0, t.val, 0, 0] := (by decide +kernel : ∀ t : Fin grid5.N, _)
theorem cov5_5 : (cfg5.win 5).Covers := by decide +kernel
theorem fin5_5 : (dat5 V c).arrAt 5 cfg5.N = dkvG (V c main_v9_0) (V c main_v8) (V c main_v11) := by
  refine Pipeline.Dat.arrAt_eq_of_covers _ 5 _ cov5_5 fun t hf y => ?_
  change ((dat5 V c).after 5 t : Vec Ideal S2x1x256x256 .f32) y = (dkvG (V c main_v9_0) (V c main_v8) (V c main_v11)) ((win5_5.blk t).view.emb y)
  obtain ⟨q, r, n, rfl⟩ : ∃ (q : Fin 2) (r : Fin 256) (n : Fin 256), y = ix4 q 0 r n := ⟨y 0, y 2, y 3, (eq_ix4 y).trans (congrArg (fun p : Fin 1 => (ix4 (y 0) p (y 2) (y 3) : S2x1x256x256.Idx)) (Subsingleton.elim (α := Fin 1) _ _))⟩
  have e : (win5_5.blk t).view.emb (ix4 q 0 r n) = (ix4 q ⟨t.val, by have := (show t.val < 4 from t.isLt); omega⟩ r n) := by
    blk_ext [ix5_5]
  rw [after5_5]
  unfold outsAt5
  dsimp only
  rw [o5_5, e]
  unfold scoreB dprobB
  simp only [blk5_0, blk5_1, blk5_2, blk5_3]
  rfl

/-! ## Region 6 -/

theorem ix6_0 : ∀ t : Fin cfg6.N, win6_0.index t = ![0, 0] := (by decide +kernel : ∀ t : Fin grid6.N, _)
theorem rd6_0 (t : Fin cfg6.N) (G : Vec Ideal S2048x1024 .bf16) (r : Fin 2048) (n : Fin 1024) : (win6_0.blk t).view.read (Elt Ideal) G (ix2 r n) = G (ix2 r n) := by
  have e : (win6_0.blk t).view.emb (ix2 r n) = (ix2 r n) := by blk_ext [ix6_0]
  rw [View.read_apply]
  exact congrArg G e
theorem ib6_0 (t : Fin cfg6.N) : iblk6 V c 0 t = (win6_0.blk t).view.read (Elt Ideal) (V c main_v0) := rfl
theorem blk6_0 (t : Fin cfg6.N) (r : Fin 2048) (n : Fin 1024) : iblk6 V c 0 t (ix2 r n) = (V c main_v0 : Vec Ideal S2048x1024 .bf16) (ix2 r n) := by
  rw [ib6_0]
  exact rd6_0 t (V c main_v0) r n
theorem ix6_1 : ∀ t : Fin cfg6.N, win6_1.index t = ![0, 0] := (by decide +kernel : ∀ t : Fin grid6.N, _)
theorem rd6_1 (t : Fin cfg6.N) (G : Vec Ideal S2048x1024 .bf16) (r : Fin 2048) (n : Fin 1024) : (win6_1.blk t).view.read (Elt Ideal) G (ix2 r n) = G (ix2 r n) := by
  have e : (win6_1.blk t).view.emb (ix2 r n) = (ix2 r n) := by blk_ext [ix6_1]
  rw [View.read_apply]
  exact congrArg G e
theorem ib6_1 (t : Fin cfg6.N) : iblk6 V c 1 t = (win6_1.blk t).view.read (Elt Ideal) (V c main_v13_0) := rfl
theorem blk6_1 (t : Fin cfg6.N) (r : Fin 2048) (n : Fin 1024) : iblk6 V c 1 t (ix2 r n) = (V c main_v13_0 : Vec Ideal S2048x1024 .bf16) (ix2 r n) := by
  rw [ib6_1]
  exact rd6_1 t (V c main_v13_0) r n
theorem ix6_2 : ∀ t : Fin cfg6.N, win6_2.index t = ![0, 0] := (by decide +kernel : ∀ t : Fin grid6.N, _)
theorem cov6_2 : (cfg6.win 2).Covers := by decide +kernel
theorem fin6_2 : (dat6 V c).arrAt 2 cfg6.N = tnG (V c main_v0) (V c main_v13_0) := by
  refine Pipeline.Dat.arrAt_eq_of_covers _ 2 _ cov6_2 fun t hf y => ?_
  change ((dat6 V c).after 2 t : Vec Ideal S1024x1024 .f32) y = (tnG (V c main_v0) (V c main_v13_0)) ((win6_2.blk t).view.emb y)
  obtain ⟨r, n, rfl⟩ : ∃ (r : Fin 1024) (n : Fin 1024), y = ix2 r n := ⟨y 0, y 1, eq_ix2 y⟩
  have e : (win6_2.blk t).view.emb (ix2 r n) = (ix2 r n) := by
    blk_ext [ix6_2]
  rw [after6_2, o6_2, e]
  simp only [blk6_0, blk6_1]
  rfl

/-! ## Region 7 -/

theorem ix7_0 : ∀ t : Fin cfg7.N, win7_0.index t = ![0, 0] := (by decide +kernel : ∀ t : Fin grid7.N, _)
theorem rd7_0 (t : Fin cfg7.N) (G : Vec Ideal S2048x1024 .bf16) (r : Fin 2048) (n : Fin 1024) : (win7_0.blk t).view.read (Elt Ideal) G (ix2 r n) = G (ix2 r n) := by
  have e : (win7_0.blk t).view.emb (ix2 r n) = (ix2 r n) := by blk_ext [ix7_0]
  rw [View.read_apply]
  exact congrArg G e
theorem ib7_0 (t : Fin cfg7.N) : iblk7 V c 0 t = (win7_0.blk t).view.read (Elt Ideal) (V c main_v13_0) := rfl
theorem blk7_0 (t : Fin cfg7.N) (r : Fin 2048) (n : Fin 1024) : iblk7 V c 0 t (ix2 r n) = (V c main_v13_0 : Vec Ideal S2048x1024 .bf16) (ix2 r n) := by
  rw [ib7_0]
  exact rd7_0 t (V c main_v13_0) r n
theorem ix7_1 : ∀ t : Fin cfg7.N, win7_1.index t = ![0, 0] := (by decide +kernel : ∀ t : Fin grid7.N, _)
theorem rd7_1 (t : Fin cfg7.N) (G : Vec Ideal S1024x1024 .bf16) (r : Fin 1024) (n : Fin 1024) : (win7_1.blk t).view.read (Elt Ideal) G (ix2 r n) = G (ix2 r n) := by
  have e : (win7_1.blk t).view.emb (ix2 r n) = (ix2 r n) := by blk_ext [ix7_1]
  rw [View.read_apply]
  exact congrArg G e
theorem ib7_1 (t : Fin cfg7.N) : iblk7 V c 1 t = (win7_1.blk t).view.read (Elt Ideal) (V c main_v3) := rfl
theorem blk7_1 (t : Fin cfg7.N) (r : Fin 1024) (n : Fin 1024) : iblk7 V c 1 t (ix2 r n) = (V c main_v3 : Vec Ideal S1024x1024 .bf16) (ix2 r n) := by
  rw [ib7_1]
  exact rd7_1 t (V c main_v3) r n
theorem ix7_2 : ∀ t : Fin cfg7.N, win7_2.index t = ![0, 0] := (by decide +kernel : ∀ t : Fin grid7.N, _)
theorem cov7_2 : (cfg7.win 2).Covers := by decide +kernel
theorem fin7_2 : (dat7 V c).arrAt 2 cfg7.N = dhG (V c main_v13_0) (V c main_v3) := by
  refine Pipeline.Dat.arrAt_eq_of_covers _ 2 _ cov7_2 fun t hf y => ?_
  change ((dat7 V c).after 2 t : Vec Ideal S2048x1024 .f32) y = (dhG (V c main_v13_0) (V c main_v3)) ((win7_2.blk t).view.emb y)
  obtain ⟨r, n, rfl⟩ : ∃ (r : Fin 2048) (n : Fin 1024), y = ix2 r n := ⟨y 0, y 1, eq_ix2 y⟩
  have e : (win7_2.blk t).view.emb (ix2 r n) = (ix2 r n) := by
    blk_ext [ix7_2]
  rw [after7_2, o7_2, e]
  simp only [blk7_0, blk7_1]
  rfl

/-! ## Region 8 -/

theorem ix8_0 : ∀ t : Fin cfg8.N, win8_0.index t = ![0, 0] := (by decide +kernel : ∀ t : Fin grid8.N, _)
theorem rd8_0 (t : Fin cfg8.N) (G : Vec Ideal S256x1024 .bf16) (r : Fin 256) (n : Fin 1024) : (win8_0.blk t).view.read (Elt Ideal) G (ix2 r n) = G (ix2 r n) := by
  have e : (win8_0.blk t).view.emb (ix2 r n) = (ix2 r n) := by blk_ext [ix8_0]
  rw [View.read_apply]
  exact congrArg G e
theorem ib8_0 (t : Fin cfg8.N) : iblk8 V c 0 t = (win8_0.blk t).view.read (Elt Ideal) (V c main_v1) := rfl
theorem blk8_0 (t : Fin cfg8.N) (r : Fin 256) (n : Fin 1024) : iblk8 V c 0 t (ix2 r n) = (V c main_v1 : Vec Ideal S256x1024 .bf16) (ix2 r n) := by
  rw [ib8_0]
  exact rd8_0 t (V c main_v1) r n
theorem ix8_1 : ∀ t : Fin cfg8.N, win8_1.index t = ![t.val, 0, 0] := (by decide +kernel : ∀ t : Fin grid8.N, _)
theorem rd8_1 (t : Fin cfg8.N) (G : Vec Ideal S8x256x256 .f32) (r : Fin 256) (n : Fin 256) : (win8_1.blk t).view.read (Elt Ideal) G (ix3 0 r n) = G (ix3 ⟨t.val, t.isLt⟩ r n) := by
  have e : (win8_1.blk t).view.emb (ix3 0 r n) = (ix3 ⟨t.val, t.isLt⟩ r n) := by blk_ext [ix8_1]
  rw [View.read_apply]
  exact congrArg G e
theorem ib8_1 (t : Fin cfg8.N) : iblk8 V c 1 t = (win8_1.blk t).view.read (Elt Ideal) (V c main_v16) := rfl
theorem blk8_1 (t : Fin cfg8.N) (r : Fin 256) (n : Fin 256) : iblk8 V c 1 t (ix3 0 r n) = (V c main_v16 : Vec Ideal S8x256x256 .f32) (ix3 ⟨t.val, t.isLt⟩ r n) := by
  rw [ib8_1]
  exact rd8_1 t (V c main_v16) r n
theorem ix8_2 : ∀ t : Fin cfg8.N, win8_2.index t = ![t.val, 0, 0] := (by decide +kernel : ∀ t : Fin grid8.N, _)
theorem cov8_2 : (cfg8.win 2).Covers := by decide +kernel
theorem fin8_2 : (dat8 V c).arrAt 2 cfg8.N = dwkvG (V c main_v1) (V c main_v16) := by
  refine Pipeline.Dat.arrAt_eq_of_covers _ 2 _ cov8_2 fun t hf y => ?_
  change ((dat8 V c).after 2 t : Vec Ideal S1x1024x256 .f32) y = (dwkvG (V c main_v1) (V c main_v16)) ((win8_2.blk t).view.emb y)
  obtain ⟨r, n, rfl⟩ : ∃ (r : Fin 1024) (n : Fin 256), y = ix3 0 r n := ⟨y 1, y 2, (eq_ix3 y).trans (congrArg (fun p : Fin 1 => (ix3 p (y 1) (y 2) : S1x1024x256.Idx)) (Subsingleton.elim (α := Fin 1) _ _))⟩
  have e : (win8_2.blk t).view.emb (ix3 0 r n) = (ix3 ⟨t.val, t.isLt⟩ r n) := by
    blk_ext [ix8_2]
  rw [after8_2, o8_2, e]
  simp only [blk8_0, blk8_1]
  rfl

/-! ## Region 9 -/

theorem ix9_0 : ∀ t : Fin cfg9.N, win9_0.index t = ![0, 0, 0] := (by decide +kernel : ∀ t : Fin grid9.N, _)
theorem rd9_0 (t : Fin cfg9.N) (G : Vec Ideal S8x256x256 .f32) (q : Fin 8) (r : Fin 256) (n : Fin 256) : (win9_0.blk t).view.read (Elt Ideal) G (ix3 q r n) = G (ix3 q r n) := by
  have e : (win9_0.blk t).view.emb (ix3 q r n) = (ix3 q r n) := by blk_ext [ix9_0]
  rw [View.read_apply]
  exact congrArg G e
theorem ib9_0 (t : Fin cfg9.N) : iblk9 V c 0 t = (win9_0.blk t).view.read (Elt Ideal) (V c main_v16) := rfl
theorem blk9_0 (t : Fin cfg9.N) (q : Fin 8) (r : Fin 256) (n : Fin 256) : iblk9 V c 0 t (ix3 q r n) = (V c main_v16 : Vec Ideal S8x256x256 .f32) (ix3 q r n) := by
  rw [ib9_0]
  exact rd9_0 t (V c main_v16) q r n
theorem ix9_1 : ∀ t : Fin cfg9.N, win9_1.index t = ![0, 0, 0] := (by decide +kernel : ∀ t : Fin grid9.N, _)
theorem rd9_1 (t : Fin cfg9.N) (G : Vec Ideal S8x1024x256 .bf16) (q : Fin 8) (r : Fin 1024) (n : Fin 256) : (win9_1.blk t).view.read (Elt Ideal) G (ix3 q r n) = G (ix3 q r n) := by
  have e : (win9_1.blk t).view.emb (ix3 q r n) = (ix3 q r n) := by blk_ext [ix9_1]
  rw [View.read_apply]
  exact congrArg G e
theorem ib9_1 (t : Fin cfg9.N) : iblk9 V c 1 t = (win9_1.blk t).view.read (Elt Ideal) (V c main_v7) := rfl
theorem blk9_1 (t : Fin cfg9.N) (q : Fin 8) (r : Fin 1024) (n : Fin 256) : iblk9 V c 1 t (ix3 q r n) = (V c main_v7 : Vec Ideal S8x1024x256 .bf16) (ix3 q r n) := by
  rw [ib9_1]
  exact rd9_1 t (V c main_v7) q r n
theorem ix9_2 : ∀ t : Fin cfg9.N, win9_2.index t = ![0, 0] := (by decide +kernel : ∀ t : Fin grid9.N, _)
theorem cov9_2 : (cfg9.win 2).Covers := by decide +kernel
theorem fin9_2 : (dat9 V c).arrAt 2 cfg9.N = dmG (V c main_v16) (V c main_v7) := by
  refine Pipeline.Dat.arrAt_eq_of_covers _ 2 _ cov9_2 fun t hf y => ?_
  change ((dat9 V c).after 2 t : Vec Ideal S256x1024 .f32) y = (dmG (V c main_v16) (V c main_v7)) ((win9_2.blk t).view.emb y)
  obtain ⟨r, n, rfl⟩ : ∃ (r : Fin 256) (n : Fin 1024), y = ix2 r n := ⟨y 0, y 1, eq_ix2 y⟩
  have e : (win9_2.blk t).view.emb (ix2 r n) = (ix2 r n) := by
    blk_ext [ix9_2]
  rw [after9_2, o9_2, e]
  simp only [blk9_0, blk9_1]
  rfl

end Cert.Cross

end
-- ==== Proof.CrossRun.lean ====
/-
  The cross-attention kernel's six results at the end of any run, as formulas of its arguments: the host's casts and
  rearrangements, then the regions in order.
-/
module

public import proofs.«01_k».proof.Proof.CrossRegions
public import Idealize.ShloMosaic.Lib.StableHlo.RunRead

@[expose] public section

set_option maxHeartbeats 1600000
set_option maxRecDepth 16384

noncomputable section

namespace Cert.Cross

open Idealize.ShloMosaic Idealize.ShloMosaic.TcCoe Cert.Kernel3Ideal Cert.Kernel3Ideal.Gen Cert.Kernel3Ideal.Facts

/-! ## The operands as the host prepares them, and the results -/

section Terms
variable (X : FVec Ideal S2048x1024 .f32) (M : FVec Ideal S256x1024 .f32) (Q : FVec Ideal S1024x1024 .f32) (K : FVec Ideal S1024x2048 .f32) (O : FVec Ideal S1024x1024 .f32) (Y : FVec Ideal S2048x1024 .f32)

/-- A row operand, in the kernel's format. -/
def rowB : FVec Ideal S2048x1024 .bf16 := truncf .bf16 X bitsLt_bf16_f32
/-- The memory's rows. -/
def memB : FVec Ideal S256x1024 .bf16 := truncf .bf16 M bitsLt_bf16_f32
/-- A square weight. -/
def sqB : FVec Ideal S1024x1024 .bf16 := truncf .bf16 Q bitsLt_bf16_f32
/-- The key and value weight in eight blocks of columns. -/
def wkvB : FVec Ideal S8x1024x256 .bf16 :=
  transpose S8x1024x256 [1, 0, 2] (shapeCast S1024x8x256 (truncf .bf16 K bitsLt_bf16_f32 : FVec Ideal S1024x2048 .bf16) shapeCasts_S1024x2048_S1024x8x256 : FVec Ideal S1024x8x256 .bf16) transposes_S1024x8x256_S8x1024x256_1_0_2
def kvT : Vec Ideal S8x256x256 .bf16 := kvG (memB M) (wkvB K)
def qT : Vec Ideal S2048x1024 .bf16 := qG (rowB X) (sqB Q)
def oT : Vec Ideal S2048x1024 .bf16 := oG (qT X Q) (kvT M K)
def doT : Vec Ideal S2048x1024 .bf16 := doG (rowB Y) (sqB O)
def dqT : Vec Ideal S2048x1024 .bf16 := dqG (qT X Q) (kvT M K) (doT O Y)
/-- The keys' and values' gradients in eight blocks. -/
def dkvT : Vec Ideal S8x256x256 .f32 := shapeCast S8x256x256 (dkvG (qT X Q) (kvT M K) (doT O Y) : FVec Ideal S2x4x256x256 .f32) shapeCasts_S2x4x256x256_S8x256x256

def resY : Vec Ideal S2048x1024 .f32 := yG (oT X M Q K) (sqB O)
def resDh : Vec Ideal S2048x1024 .f32 := dhG (dqT X M Q K O Y) (sqB Q)
def resDm : Vec Ideal S256x1024 .f32 := dmG (dkvT X M Q K O Y) (wkvB K)
def resDwq : Vec Ideal S1024x1024 .f32 := tnG (rowB X) (dqT X M Q K O Y)
def resDwkv : Vec Ideal S8x1024x256 .f32 := dwkvG (memB M) (dkvT X M Q K O Y)
def resDwo : Vec Ideal S1024x1024 .f32 := tnG (oT X M Q K) (rowB Y)
end Terms

variable (m : (ℓ : Loc nD τ sig) → Buf (Elt Ideal) ℓ) (ρ : Dev nD → PrngReg) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)
local notation "X3" => m (Thread.loc (Dev.tc c : Thread nD τ) main_arg3)
local notation "X4" => m (Thread.loc (Dev.tc c : Thread nD τ) main_arg4)
local notation "X5" => m (Thread.loc (Dev.tc c : Thread nD τ) main_arg5)

/-! ## After the first host stretch -/

theorem V1_v0 : V1 m ρ c main_v0 = rowB X0 := by
  change StableHlo.after hostOps0 (W0 m ρ c) _ = _
  after_reads_simp
  rfl
theorem V1_v1 : V1 m ρ c main_v1 = memB X1 := by
  change StableHlo.after hostOps0 (W0 m ρ c) _ = _
  after_reads_simp
  rfl
theorem V1_v2 : V1 m ρ c main_v2 = rowB X5 := by
  change StableHlo.after hostOps0 (W0 m ρ c) _ = _
  after_reads_simp
  rfl
theorem V1_v3 : V1 m ρ c main_v3 = sqB X2 := by
  change StableHlo.after hostOps0 (W0 m ρ c) _ = _
  after_reads_simp
  rfl
theorem V1_v4 : V1 m ρ c main_v4 = sqB X4 := by
  change StableHlo.after hostOps0 (W0 m ρ c) _ = _
  after_reads_simp
  rfl
theorem V1_v7 : V1 m ρ c main_v7 = wkvB X3 := by
  change StableHlo.after hostOps0 (W0 m ρ c) _ = _
  after_reads_simp
  rfl

/-! ## The regions in order -/

theorem V2_v8 : V2 m ρ c main_v8 = kvT X1 X3 := by
  refine (W2_arr m ρ c 2).trans ((fin0_2 (V1 m ρ) c).trans ?_)
  rw [V1_v1, V1_v7]
  rfl
theorem V2_v0 : V2 m ρ c main_v0 = rowB X0 := (W2_of m ρ c main_v0 (by decide +kernel)).trans (V1_v0 m ρ c)
theorem V2_v1 : V2 m ρ c main_v1 = memB X1 := (W2_of m ρ c main_v1 (by decide +kernel)).trans (V1_v1 m ρ c)
theorem V2_v2 : V2 m ρ c main_v2 = rowB X5 := (W2_of m ρ c main_v2 (by decide +kernel)).trans (V1_v2 m ρ c)
theorem V2_v3 : V2 m ρ c main_v3 = sqB X2 := (W2_of m ρ c main_v3 (by decide +kernel)).trans (V1_v3 m ρ c)
theorem V2_v4 : V2 m ρ c main_v4 = sqB X4 := (W2_of m ρ c main_v4 (by decide +kernel)).trans (V1_v4 m ρ c)
theorem V2_v7 : V2 m ρ c main_v7 = wkvB X3 := (W2_of m ρ c main_v7 (by decide +kernel)).trans (V1_v7 m ρ c)

theorem V3_v9_0 : V3 m ρ c main_v9_0 = qT X0 X2 := by
  refine (W3_arr m ρ c 4).trans ((fin1_4 (V2 m ρ) c).trans ?_)
  rw [V2_v0, V2_v3]
  rfl
theorem V3_v9_1 : V3 m ρ c main_v9_1 = oT X0 X1 X2 X3 := by
  refine (W3_arr m ρ c 5).trans ((fin1_5 (V2 m ρ) c).trans ?_)
  rw [V2_v0, V2_v3, V2_v8]
  rfl
theorem V3_v8 : V3 m ρ c main_v8 = kvT X1 X3 := (W3_of m ρ c main_v8 (by decide +kernel)).trans (V2_v8 m ρ c)
theorem V3_v0 : V3 m ρ c main_v0 = rowB X0 := (W3_of m ρ c main_v0 (by decide +kernel)).trans (V2_v0 m ρ c)
theorem V3_v1 : V3 m ρ c main_v1 = memB X1 := (W3_of m ρ c main_v1 (by decide +kernel)).trans (V2_v1 m ρ c)
theorem V3_v2 : V3 m ρ c main_v2 = rowB X5 := (W3_of m ρ c main_v2 (by decide +kernel)).trans (V2_v2 m ρ c)
theorem V3_v3 : V3 m ρ c main_v3 = sqB X2 := (W3_of m ρ c main_v3 (by decide +kernel)).trans (V2_v3 m ρ c)
theorem V3_v4 : V3 m ρ c main_v4 = sqB X4 := (W3_of m ρ c main_v4 (by decide +kernel)).trans (V2_v4 m ρ c)
theorem V3_v7 : V3 m ρ c main_v7 = wkvB X3 := (W3_of m ρ c main_v7 (by decide +kernel)).trans (V2_v7 m ρ c)

theorem V4_v10 : V4 m ρ c main_v10 = resY X0 X1 X2 X3 X4 := by
  refine (W4_arr m ρ c 2).trans ((fin2_2 (V3 m ρ) c).trans ?_)
  rw [V3_v9_1, V3_v4]
  rfl
theorem V4_v9_0 : V4 m ρ c main_v9_0 = qT X0 X2 := (W4_of m ρ c main_v9_0 (by decide +kernel)).trans (V3_v9_0 m ρ c)
theorem V4_v9_1 : V4 m ρ c main_v9_1 = oT X0 X1 X2 X3 := (W4_of m ρ c main_v9_1 (by decide +kernel)).trans (V3_v9_1 m ρ c)
theorem V4_v8 : V4 m ρ c main_v8 = kvT X1 X3 := (W4_of m ρ c main_v8 (by decide +kernel)).trans (V3_v8 m ρ c)
theorem V4_v0 : V4 m ρ c main_v0 = rowB X0 := (W4_of m ρ c main_v0 (by decide +kernel)).trans (V3_v0 m ρ c)
theorem V4_v1 : V4 m ρ c main_v1 = memB X1 := (W4_of m ρ c main_v1 (by decide +kernel)).trans (V3_v1 m ρ c)
theorem V4_v2 : V4 m ρ c main_v2 = rowB X5 := (W4_of m ρ c main_v2 (by decide +kernel)).trans (V3_v2 m ρ c)
theorem V4_v3 : V4 m ρ c main_v3 = sqB X2 := (W4_of m ρ c main_v3 (by decide +kernel)).trans (V3_v3 m ρ c)
theorem V4_v4 : V4 m ρ c main_v4 = sqB X4 := (W4_of m ρ c main_v4 (by decide +kernel)).trans (V3_v4 m ρ c)
theorem V4_v7 : V4 m ρ c main_v7 = wkvB X3 := (W4_of m ρ c main_v7 (by decide +kernel)).trans (V3_v7 m ρ c)

theorem V5_v11 : V5 m ρ c main_v11 = doT X4 X5 := by
  refine (W5_arr m ρ c 2).trans ((fin3_2 (V4 m ρ) c).trans ?_)
  rw [V4_v2, V4_v4]
  rfl
theorem V5_v10 : V5 m ρ c main_v10 = resY X0 X1 X2 X3 X4 := (W5_of m ρ c main_v10 (by decide +kernel)).trans (V4_v10 m ρ c)
theorem V5_v9_0 : V5 m ρ c main_v9_0 = qT X0 X2 := (W5_of m ρ c main_v9_0 (by decide +kernel)).trans (V4_v9_0 m ρ c)
theorem V5_v9_1 : V5 m ρ c main_v9_1 = oT X0 X1 X2 X3 := (W5_of m ρ c main_v9_1 (by decide +kernel)).trans (V4_v9_1 m ρ c)
theorem V5_v8 : V5 m ρ c main_v8 = kvT X1 X3 := (W5_of m ρ c main_v8 (by decide +kernel)).trans (V4_v8 m ρ c)
theorem V5_v0 : V5 m ρ c main_v0 = rowB X0 := (W5_of m ρ c main_v0 (by decide +kernel)).trans (V4_v0 m ρ c)
theorem V5_v1 : V5 m ρ c main_v1 = memB X1 := (W5_of m ρ c main_v1 (by decide +kernel)).trans (V4_v1 m ρ c)
theorem V5_v2 : V5 m ρ c main_v2 = rowB X5 := (W5_of m ρ c main_v2 (by decide +kernel)).trans (V4_v2 m ρ c)
theorem V5_v3 : V5 m ρ c main_v3 = sqB X2 := (W5_of m ρ c main_v3 (by decide +kernel)).trans (V4_v3 m ρ c)
theorem V5_v7 : V5 m ρ c main_v7 = wkvB X3 := (W5_of m ρ c main_v7 (by decide +kernel)).trans (V4_v7 m ρ c)

theorem V6_v12 : V6 m ρ c main_v12 = resDwo X0 X1 X2 X3 X5 := by
  refine (W6_arr m ρ c 2).trans ((fin4_2 (V5 m ρ) c).trans ?_)
  rw [V5_v9_1, V5_v2]
  rfl
theorem V6_v11 : V6 m ρ c main_v11 = doT X4 X5 := (W6_of m ρ c main_v11 (by decide +kernel)).trans (V5_v11 m ρ c)
theorem V6_v10 : V6 m ρ c main_v10 = resY X0 X1 X2 X3 X4 := (W6_of m ρ c main_v10 (by decide +kernel)).trans (V5_v10 m ρ c)
theorem V6_v9_0 : V6 m ρ c main_v9_0 = qT X0 X2 := (W6_of m ρ c main_v9_0 (by decide +kernel)).trans (V5_v9_0 m ρ c)
theorem V6_v8 : V6 m ρ c main_v8 = kvT X1 X3 := (W6_of m ρ c main_v8 (by decide +kernel)).trans (V5_v8 m ρ c)
theorem V6_v0 : V6 m ρ c main_v0 = rowB X0 := (W6_of m ρ c main_v0 (by decide +kernel)).trans (V5_v0 m ρ c)
theorem V6_v1 : V6 m ρ c main_v1 = memB X1 := (W6_of m ρ c main_v1 (by decide +kernel)).trans (V5_v1 m ρ c)
theorem V6_v3 : V6 m ρ c main_v3 = sqB X2 := (W6_of m ρ c main_v3 (by decide +kernel)).trans (V5_v3 m ρ c)
theorem V6_v7 : V6 m ρ c main_v7 = wkvB X3 := (W6_of m ρ c main_v7 (by decide +kernel)).trans (V5_v7 m ρ c)

theorem V7_v13_0 : V7 m ρ c main_v13_0 = dqT X0 X1 X2 X3 X4 X5 := by
  refine (W7_arr m ρ c 4).trans ((fin5_4 (V6 m ρ) c).trans ?_)
  rw [V6_v9_0, V6_v8, V6_v11]
  rfl
theorem V7_v13_1 : V7 m ρ c main_v13_1 = dkvG (qT X0 X2) (kvT X1 X3) (doT X4 X5) := by
  refine (W7_arr m ρ c 5).trans ((fin5_5 (V6 m ρ) c).trans ?_)
  rw [V6_v9_0, V6_v8, V6_v11]
theorem V7_v12 : V7 m ρ c main_v12 = resDwo X0 X1 X2 X3 X5 := (W7_of m ρ c main_v12 (by decide +kernel)).trans (V6_v12 m ρ c)
theorem V7_v10 : V7 m ρ c main_v10 = resY X0 X1 X2 X3 X4 := (W7_of m ρ c main_v10 (by decide +kernel)).trans (V6_v10 m ρ c)
theorem V7_v0 : V7 m ρ c main_v0 = rowB X0 := (W7_of m ρ c main_v0 (by decide +kernel)).trans (V6_v0 m ρ c)
theorem V7_v1 : V7 m ρ c main_v1 = memB X1 := (W7_of m ρ c main_v1 (by decide +kernel)).trans (V6_v1 m ρ c)
theorem V7_v3 : V7 m ρ c main_v3 = sqB X2 := (W7_of m ρ c main_v3 (by decide +kernel)).trans (V6_v3 m ρ c)
theorem V7_v7 : V7 m ρ c main_v7 = wkvB X3 := (W7_of m ρ c main_v7 (by decide +kernel)).trans (V6_v7 m ρ c)

theorem V8_v14 : V8 m ρ c main_v14 = resDwq X0 X1 X2 X3 X4 X5 := by
  refine (W8_arr m ρ c 2).trans ((fin6_2 (V7 m ρ) c).trans ?_)
  rw [V7_v0, V7_v13_0]
  rfl
theorem V8_v13_0 : V8 m ρ c main_v13_0 = dqT X0 X1 X2 X3 X4 X5 := (W8_of m ρ c main_v13_0 (by decide +kernel)).trans (V7_v13_0 m ρ c)
theorem V8_v13_1 : V8 m ρ c main_v13_1 = dkvG (qT X0 X2) (kvT X1 X3) (doT X4 X5) := (W8_of m ρ c main_v13_1 (by decide +kernel)).trans (V7_v13_1 m ρ c)
theorem V8_v12 : V8 m ρ c main_v12 = resDwo X0 X1 X2 X3 X5 := (W8_of m ρ c main_v12 (by decide +kernel)).trans (V7_v12 m ρ c)
theorem V8_v10 : V8 m ρ c main_v10 = resY X0 X1 X2 X3 X4 := (W8_of m ρ c main_v10 (by decide +kernel)).trans (V7_v10 m ρ c)
theorem V8_v1 : V8 m ρ c main_v1 = memB X1 := (W8_of m ρ c main_v1 (by decide +kernel)).trans (V7_v1 m ρ c)
theorem V8_v3 : V8 m ρ c main_v3 = sqB X2 := (W8_of m ρ c main_v3 (by decide +kernel)).trans (V7_v3 m ρ c)
theorem V8_v7 : V8 m ρ c main_v7 = wkvB X3 := (W8_of m ρ c main_v7 (by decide +kernel)).trans (V7_v7 m ρ c)

theorem V9_v15 : V9 m ρ c main_v15 = resDh X0 X1 X2 X3 X4 X5 := by
  refine (W9_arr m ρ c 2).trans ((fin7_2 (V8 m ρ) c).trans ?_)
  rw [V8_v13_0, V8_v3]
  rfl
theorem V9_v14 : V9 m ρ c main_v14 = resDwq X0 X1 X2 X3 X4 X5 := (W9_of m ρ c main_v14 (by decide +kernel)).trans (V8_v14 m ρ c)
theorem V9_v13_1 : V9 m ρ c main_v13_1 = dkvG (qT X0 X2) (kvT X1 X3) (doT X4 X5) := (W9_of m ρ c main_v13_1 (by decide +kernel)).trans (V8_v13_1 m ρ c)
theorem V9_v12 : V9 m ρ c main_v12 = resDwo X0 X1 X2 X3 X5 := (W9_of m ρ c main_v12 (by decide +kernel)).trans (V8_v12 m ρ c)
theorem V9_v10 : V9 m ρ c main_v10 = resY X0 X1 X2 X3 X4 := (W9_of m ρ c main_v10 (by decide +kernel)).trans (V8_v10 m ρ c)
theorem V9_v1 : V9 m ρ c main_v1 = memB X1 := (W9_of m ρ c main_v1 (by decide +kernel)).trans (V8_v1 m ρ c)
theorem V9_v7 : V9 m ρ c main_v7 = wkvB X3 := (W9_of m ρ c main_v7 (by decide +kernel)).trans (V8_v7 m ρ c)

theorem V10_v16 : V10 m ρ c main_v16 = dkvT X0 X1 X2 X3 X4 X5 := by
  have e : V10 m ρ c main_v16 = shapeCast S8x256x256 (V9 m ρ c main_v13_1 : FVec Ideal S2x4x256x256 .f32) shapeCasts_S2x4x256x256_S8x256x256 := by
    change StableHlo.after hostOps8 (W9 m ρ c) _ = _
    after_reads_simp
    rfl
  rw [e, V9_v13_1]
  rfl
theorem V10_v15 : V10 m ρ c main_v15 = resDh X0 X1 X2 X3 X4 X5 := (W10_of m ρ c main_v15 (by decide +kernel)).trans (V9_v15 m ρ c)
theorem V10_v14 : V10 m ρ c main_v14 = resDwq X0 X1 X2 X3 X4 X5 := (W10_of m ρ c main_v14 (by decide +kernel)).trans (V9_v14 m ρ c)
theorem V10_v12 : V10 m ρ c main_v12 = resDwo X0 X1 X2 X3 X5 := (W10_of m ρ c main_v12 (by decide +kernel)).trans (V9_v12 m ρ c)
theorem V10_v10 : V10 m ρ c main_v10 = resY X0 X1 X2 X3 X4 := (W10_of m ρ c main_v10 (by decide +kernel)).trans (V9_v10 m ρ c)
theorem V10_v1 : V10 m ρ c main_v1 = memB X1 := (W10_of m ρ c main_v1 (by decide +kernel)).trans (V9_v1 m ρ c)
theorem V10_v7 : V10 m ρ c main_v7 = wkvB X3 := (W10_of m ρ c main_v7 (by decide +kernel)).trans (V9_v7 m ρ c)

theorem V11_v17 : V11 m ρ c main_v17 = resDwkv X0 X1 X2 X3 X4 X5 := by
  refine (W11_arr m ρ c 2).trans ((fin8_2 (V10 m ρ) c).trans ?_)
  rw [V10_v1, V10_v16]
  rfl
theorem V11_v16 : V11 m ρ c main_v16 = dkvT X0 X1 X2 X3 X4 X5 := (W11_of m ρ c main_v16 (by decide +kernel)).trans (V10_v16 m ρ c)
theorem V11_v15 : V11 m ρ c main_v15 = resDh X0 X1 X2 X3 X4 X5 := (W11_of m ρ c main_v15 (by decide +kernel)).trans (V10_v15 m ρ c)
theorem V11_v14 : V11 m ρ c main_v14 = resDwq X0 X1 X2 X3 X4 X5 := (W11_of m ρ c main_v14 (by decide +kernel)).trans (V10_v14 m ρ c)
theorem V11_v12 : V11 m ρ c main_v12 = resDwo X0 X1 X2 X3 X5 := (W11_of m ρ c main_v12 (by decide +kernel)).trans (V10_v12 m ρ c)
theorem V11_v10 : V11 m ρ c main_v10 = resY X0 X1 X2 X3 X4 := (W11_of m ρ c main_v10 (by decide +kernel)).trans (V10_v10 m ρ c)
theorem V11_v7 : V11 m ρ c main_v7 = wkvB X3 := (W11_of m ρ c main_v7 (by decide +kernel)).trans (V10_v7 m ρ c)

theorem V12_v18 : V12 m ρ c main_v18 = resDm X0 X1 X2 X3 X4 X5 := by
  refine (W12_arr m ρ c 2).trans ((fin9_2 (V11 m ρ) c).trans ?_)
  rw [V11_v16, V11_v7]
  rfl
theorem V12_v17 : V12 m ρ c main_v17 = resDwkv X0 X1 X2 X3 X4 X5 := (W12_of m ρ c main_v17 (by decide +kernel)).trans (V11_v17 m ρ c)
theorem V12_v15 : V12 m ρ c main_v15 = resDh X0 X1 X2 X3 X4 X5 := (W12_of m ρ c main_v15 (by decide +kernel)).trans (V11_v15 m ρ c)
theorem V12_v14 : V12 m ρ c main_v14 = resDwq X0 X1 X2 X3 X4 X5 := (W12_of m ρ c main_v14 (by decide +kernel)).trans (V11_v14 m ρ c)
theorem V12_v12 : V12 m ρ c main_v12 = resDwo X0 X1 X2 X3 X5 := (W12_of m ρ c main_v12 (by decide +kernel)).trans (V11_v12 m ρ c)
theorem V12_v10 : V12 m ρ c main_v10 = resY X0 X1 X2 X3 X4 := (W12_of m ρ c main_v10 (by decide +kernel)).trans (V11_v10 m ρ c)

/-! ## The run: the generated frame's set-up, at the results as well as the arguments -/

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem ends : θ_run defs (onTc (τ := τ) (main (F := Ideal))) ⟨m, fun _ => 0, ρ⟩ (fun r => ∀ c : Dev nD,
      r.2.mem ((c.tc : Thread nD τ).loc main_v10) = V12 m ρ c main_v10
      ∧ r.2.mem ((c.tc : Thread nD τ).loc main_v15) = V12 m ρ c main_v15
      ∧ r.2.mem ((c.tc : Thread nD τ).loc main_v18) = V12 m ρ c main_v18
      ∧ r.2.mem ((c.tc : Thread nD τ).loc main_v14) = V12 m ρ c main_v14
      ∧ r.2.mem ((c.tc : Thread nD τ).loc main_v17) = V12 m ρ c main_v17
      ∧ r.2.mem ((c.tc : Thread nD τ).loc main_v12) = V12 m ρ c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨h c _ (mem_uc main_v10 (by decide)), h c _ (mem_uc main_v15 (by decide)), h c _ (mem_uc main_v18 (by decide)), h c _ (mem_uc main_v14 (by decide)), h c _ (mem_uc main_v17 (by decide)), h c _ (mem_uc main_v12 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

/-- Every run of the kernel ends with these results, its arguments unchanged. -/
theorem kernel_ends : θ_run defs (onTc (τ := τ) (main (F := Ideal))) ⟨m, fun _ => 0, ρ⟩ (fun r => ∀ c : Dev nD,
      r.2.mem ((c.tc : Thread nD τ).loc main_v10) = resY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v15) = resDh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v18) = resDm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14) = resDwq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v17) = resDwkv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v12) = resDwo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (ends m ρ)
  obtain ⟨h0, h1, h2, h3, h4, h5, ha⟩ := h c
  exact ⟨h0.trans (V12_v10 m ρ c), h1.trans (V12_v15 m ρ c), h2.trans (V12_v18 m ρ c), h3.trans (V12_v14 m ρ c), h4.trans (V12_v17 m ρ c), h5.trans (V12_v12 m ρ c), ha⟩

end Cert.Cross

end
-- ==== Proof.CrossRef.lean ====
/-
  The cross-attention reference's operations by stages, and each stage element by element.
-/
module

public import proofs.«01_k».proof.Proof.Gen.Reference3Ideal.Run
public import Idealize.ShloMosaic.Lib.Pointwise
public import Idealize.ShloMosaic.Lib.IdealHost

@[expose] public section

set_option maxHeartbeats 1600000
set_option maxRecDepth 16384

noncomputable section

namespace Cert.Cross.Ref

open Idealize.ShloMosaic Cert.Reference3Ideal Cert.Reference3Ideal.Gen Cert.Reference3Ideal.Facts

variable (x0 : FVec Ideal S2048x1024 .f32) (x1 : FVec Ideal S256x1024 .f32) (x2 : FVec Ideal S1024x1024 .f32) (x3 : FVec Ideal S1024x2048 .f32) (x4 : FVec Ideal S1024x1024 .f32) (x5 : FVec Ideal S2048x1024 .f32)

/-- The queries. -/
def qx : FVec Ideal S2048x1024 .f32 := Host.dotGeneral (F := Ideal) dot_S2048x1024_S1024x1024_S2048x1024_1_0_0_1_n_n none x0 x2
def q3 : FVec Ideal S2048x4x256 .f32 := shapeCast S2048x4x256 (qx x0 x2) shapeCasts_S2048x1024_S2048x4x256
/-- Keys and values side by side. -/
def kv2 : FVec Ideal S256x2048 .f32 := Host.dotGeneral (F := Ideal) dot_S256x1024_S1024x2048_S256x2048_1_0_0_1_n_n none x1 x3
def k3 : FVec Ideal S256x4x256 .f32 := shapeCast S256x4x256 (extractStridedSlice S256x1024 ![0, 0] (kv2 x1 x3) slices_S256x2048_S256x1024_0_0 : FVec Ideal S256x1024 .f32) shapeCasts_S256x1024_S256x4x256
def v3 : FVec Ideal S256x4x256 .f32 := shapeCast S256x4x256 (extractStridedSlice S256x1024 ![0, 1024] (kv2 x1 x3) slices_S256x2048_S256x1024_0_1024 : FVec Ideal S256x1024 .f32) shapeCasts_S256x1024_S256x4x256
/-- The scaled scores. -/
def sc : FVec Ideal S4x2048x256 .f32 := mulf (Host.dotGeneral (F := Ideal) dot_S2048x4x256_S256x4x256_S4x2048x256_2_2_0_0_1_1 none (q3 x0 x2) (k3 x1 x3)) (broadcastInDim S4x2048x256 ![] bcast_S_S4x2048x256 (constant (F := Ideal) S_ .f32 0x3D800000#32))
def mx0 : FVec Ideal S4x2048 .f32 := Host.reduce FloatOps.maximumf (sc x0 x1 x2 x3) (constant (F := Ideal) S_ .f32 0xFF800000#32) reducesTo_S4x2048x256_S4x2048_d2 h_S_
def mx1 : FVec Ideal S4x2048 .f32 := maximumf (broadcastInDim S4x2048 ![] bcast_S_S4x2048 (constant (F := Ideal) S_ .f32 0xFF800000#32)) (mx0 x0 x1 x2 x3)
def ex : FVec Ideal S4x2048x256 .f32 := Host.exp (subf (sc x0 x1 x2 x3) (broadcastInDim S4x2048x256 ![0, 1, 2] bcast_S4x2048x1_S4x2048x256_0_1_2 (broadcastInDim S4x2048x1 ![0, 1] bcast_S4x2048_S4x2048x1_0_1 (mx1 x0 x1 x2 x3))))
def tot : FVec Ideal S4x2048x1 .f32 := broadcastInDim S4x2048x1 ![0, 1] bcast_S4x2048_S4x2048x1_0_1 (Host.reduceAdd (ex x0 x1 x2 x3) (constant (F := Ideal) S_ .f32 0x00000000#32) reducesTo_S4x2048x256_S4x2048_d2 h_S_)
/-- The softmax. -/
def wt : FVec Ideal S4x2048x256 .f32 := Host.divf (ex x0 x1 x2 x3) (broadcastInDim S4x2048x256 ![0, 1, 2] bcast_S4x2048x1_S4x2048x256_0_1_2 (tot x0 x1 x2 x3))
def inv2 : FVec Ideal S4x2048x1 .f32 := Host.divf (broadcastInDim S4x2048x1 ![] bcast_S_S4x2048x1 (constant (F := Ideal) S_ .f32 0x3F800000#32)) (mulf (tot x0 x1 x2 x3) (tot x0 x1 x2 x3))
/-- The heads' outputs. -/
def o2 : FVec Ideal S2048x1024 .f32 := shapeCast S2048x1024 (transpose S2048x4x256 [2, 0, 1] (Host.dotGeneral (F := Ideal) dot_S256x4x256_S4x2048x256_S4x256x2048_0_2_2_1_1_0 none (v3 x1 x3) (wt x0 x1 x2 x3) : FVec Ideal S4x256x2048 .f32) transposes_S4x256x2048_S2048x4x256_2_0_1 : FVec Ideal S2048x4x256 .f32) shapeCasts_S2048x4x256_S2048x1024
def do2 : FVec Ideal S2048x1024 .f32 := Host.dotGeneral (F := Ideal) dot_S2048x1024_S1024x1024_S2048x1024_1_1_0_0_n_n none x5 x4
def gT : FVec Ideal S4x256x2048 .f32 := transpose S4x256x2048 [1, 2, 0] (shapeCast S2048x4x256 (do2 x4 x5) shapeCasts_S2048x1024_S2048x4x256 : FVec Ideal S2048x4x256 .f32) transposes_S2048x4x256_S4x256x2048_1_2_0
/-- The softmax's gradient. -/
def dp : FVec Ideal S4x2048x256 .f32 := Host.dotGeneral (F := Ideal) dot_S4x256x2048_S256x4x256_S4x2048x256_1_2_2_0_0_1 none (gT x4 x5) (v3 x1 x3)
def corr : FVec Ideal S4x2048 .f32 := Host.reduceAdd (Host.negf (shapeCast S4x2048x1 (Host.reduceAdd (mulf (mulf (dp x1 x3 x4 x5) (broadcastInDim S4x2048x256 ![0, 1, 2] bcast_S4x2048x1_S4x2048x256_0_1_2 (inv2 x0 x1 x2 x3))) (ex x0 x1 x2 x3)) (constant (F := Ideal) S_ .f32 0x00000000#32) reducesTo_S4x2048x256_S4x2048_d2 h_S_ : FVec Ideal S4x2048 .f32) shapeCasts_S4x2048_S4x2048x1 : FVec Ideal S4x2048x1 .f32)) (constant (F := Ideal) S_ .f32 0x00000000#32) reducesTo_S4x2048x1_S4x2048_d2 h_S_
/-- The unscaled scores' gradient. -/
def ds : FVec Ideal S4x2048x256 .f32 := mulf (mulf (addf (Host.divf (dp x1 x3 x4 x5) (broadcastInDim S4x2048x256 ![0, 1, 2] bcast_S4x2048x1_S4x2048x256_0_1_2 (tot x0 x1 x2 x3))) (broadcastInDim S4x2048x256 ![0, 1] bcast_S4x2048_S4x2048x256_0_1 (corr x0 x1 x2 x3 x4 x5))) (ex x0 x1 x2 x3)) (broadcastInDim S4x2048x256 ![] bcast_S_S4x2048x256 (constant (F := Ideal) S_ .f32 0x3D800000#32))
def dk2 : FVec Ideal S256x1024 .f32 := shapeCast S256x1024 (transpose S256x4x256 [1, 0, 2] (Host.dotGeneral (F := Ideal) dot_S4x2048x256_S2048x4x256_S4x256x256_1_0_2_2_0_1 none (ds x0 x1 x2 x3 x4 x5) (q3 x0 x2) : FVec Ideal S4x256x256 .f32) transposes_S4x256x256_S256x4x256_1_0_2 : FVec Ideal S256x4x256 .f32) shapeCasts_S256x4x256_S256x1024
def dv2 : FVec Ideal S256x1024 .f32 := shapeCast S256x1024 (transpose S256x4x256 [2, 0, 1] (Host.dotGeneral (F := Ideal) dot_S4x256x2048_S4x2048x256_S4x256x256_2_1_1_2_0_0 none (gT x4 x5) (wt x0 x1 x2 x3) : FVec Ideal S4x256x256 .f32) transposes_S4x256x256_S256x4x256_2_0_1 : FVec Ideal S256x4x256 .f32) shapeCasts_S256x4x256_S256x1024
def dq2 : FVec Ideal S2048x1024 .f32 := shapeCast S2048x1024 (transpose S2048x4x256 [1, 0, 2] (Host.dotGeneral (F := Ideal) dot_S4x2048x256_S256x4x256_S4x2048x256_2_0_1_2_0_1 none (ds x0 x1 x2 x3 x4 x5) (k3 x1 x3) : FVec Ideal S4x2048x256 .f32) transposes_S4x2048x256_S2048x4x256_1_0_2 : FVec Ideal S2048x4x256 .f32) shapeCasts_S2048x4x256_S2048x1024
/-- Keys' and values' gradients side by side. -/
def dkv : FVec Ideal S256x2048 .f32 := concatenate S256x2048 1 [⟨S256x1024, dk2 x0 x1 x2 x3 x4 x5⟩, ⟨S256x1024, dv2 x0 x1 x2 x3 x4 x5⟩] concatenates_S256x1024_S256x1024_S256x2048_d1
def rY : FVec Ideal S2048x1024 .f32 := Host.dotGeneral (F := Ideal) dot_S2048x1024_S1024x1024_S2048x1024_1_0_0_1_n_n none (o2 x0 x1 x2 x3) x4
def rDh : FVec Ideal S2048x1024 .f32 := Host.dotGeneral (F := Ideal) dot_S2048x1024_S1024x1024_S2048x1024_1_1_0_0_n_n none (dq2 x0 x1 x2 x3 x4 x5) x2
def rDm : FVec Ideal S256x1024 .f32 := Host.dotGeneral (F := Ideal) dot_S256x2048_S1024x2048_S256x1024_1_1_0_0_n_n none (dkv x0 x1 x2 x3 x4 x5) x3
def rDwq : FVec Ideal S1024x1024 .f32 := transpose S1024x1024 [1, 0] (Host.dotGeneral (F := Ideal) dot_S2048x1024_S2048x1024_S1024x1024_0_0_1_1_n_n none (dq2 x0 x1 x2 x3 x4 x5) x0 : FVec Ideal S1024x1024 .f32) transposes_S1024x1024_S1024x1024_1_0
def rDwkv : FVec Ideal S8x1024x256 .f32 := transpose S8x1024x256 [1, 0, 2] (shapeCast S1024x8x256 (transpose S1024x2048 [1, 0] (Host.dotGeneral (F := Ideal) dot_S256x2048_S256x1024_S2048x1024_0_0_1_1_n_n none (dkv x0 x1 x2 x3 x4 x5) x1 : FVec Ideal S2048x1024 .f32) transposes_S2048x1024_S1024x2048_1_0 : FVec Ideal S1024x2048 .f32) shapeCasts_S1024x2048_S1024x8x256 : FVec Ideal S1024x8x256 .f32) transposes_S1024x8x256_S8x1024x256_1_0_2
def rDwo : FVec Ideal S1024x1024 .f32 := transpose S1024x1024 [1, 0] (Host.dotGeneral (F := Ideal) dot_S2048x1024_S2048x1024_S1024x1024_0_0_1_1_n_n none x5 (o2 x0 x1 x2 x3) : FVec Ideal S1024x1024 .f32) transposes_S1024x1024_S1024x1024_1_0

/-! ## Element by element -/

theorem qx_at (r : Fin 2048) (n : Fin 1024) : qx x0 x2 (ix2 r n) = ∑ k : Fin 1024, x0 (ix2 r k) * x2 (ix2 k n) := by
  pointwise [qx]
theorem q3_at (r : Fin 2048) (h : Fin 4) (e : Fin 256) : q3 x0 x2 (ix3 r h e) = qx x0 x2 (ix2 r ⟨h.val * 256 + e.val, by omega⟩) := by
  pointwise [q3]
theorem kv2_at (b : Fin 256) (n : Fin 2048) : kv2 x1 x3 (ix2 b n) = ∑ k : Fin 1024, x1 (ix2 b k) * x3 (ix2 k n) := by
  pointwise [kv2]
theorem k3_at (b : Fin 256) (h : Fin 4) (e : Fin 256) : k3 x1 x3 (ix3 b h e) = kv2 x1 x3 (ix2 b ⟨h.val * 256 + e.val, by omega⟩) := by
  pointwise [k3]
theorem v3_at (b : Fin 256) (h : Fin 4) (e : Fin 256) : v3 x1 x3 (ix3 b h e) = kv2 x1 x3 (ix2 b ⟨1024 + (h.val * 256 + e.val), by omega⟩) := by
  pointwise [v3]
theorem sc_at (h : Fin 4) (r : Fin 2048) (b : Fin 256) : sc x0 x1 x2 x3 (ix3 h r b) = (∑ e : Fin 256, q3 x0 x2 (ix3 r h e) * k3 x1 x3 (ix3 b h e)) * Ideal.ofBits .f32 0x3D800000#32 := by
  pointwise [sc]
theorem max_at (y : FVec Ideal S4x2048x256 .f32) (w : FVec Ideal S_ .f32) (h : Fin 4) (a : Fin 2048) : Host.reduce FloatOps.maximumf y w reducesTo_S4x2048x256_S4x2048_d2 h_S_ (ix2 h a)
    = Finset.univ.fold max (w (Shape.Idx.first h_S_)) (fun x => y (ix3 h a x)) := by
  pointwise
theorem mx0_at (h : Fin 4) (a : Fin 2048) : mx0 x0 x1 x2 x3 (ix2 h a) = Finset.univ.fold max (Ideal.ofBits .f32 0xFF800000#32) (fun x => sc x0 x1 x2 x3 (ix3 h a x)) :=
  max_at (sc x0 x1 x2 x3) _ h a
theorem cap_at (y : FVec Ideal S4x2048 .f32) (w : FVec Ideal S_ .f32) (h : Fin 4) (a : Fin 2048) : maximumf (broadcastInDim S4x2048 ![] bcast_S_S4x2048 w) y (ix2 h a) = max (w ix0) (y (ix2 h a)) := by
  pointwise
theorem mx1_at (h : Fin 4) (a : Fin 2048) : mx1 x0 x1 x2 x3 (ix2 h a) = max (Ideal.ofBits .f32 0xFF800000#32) (mx0 x0 x1 x2 x3 (ix2 h a)) :=
  cap_at (mx0 x0 x1 x2 x3) _ h a
theorem ex_at (h : Fin 4) (r : Fin 2048) (b : Fin 256) : ex x0 x1 x2 x3 (ix3 h r b) = Ideal.exp (sc x0 x1 x2 x3 (ix3 h r b) - mx1 x0 x1 x2 x3 (ix2 h r)) := by
  pointwise [ex]
theorem tot_at (h : Fin 4) (r : Fin 2048) : tot x0 x1 x2 x3 (ix3 h r 0) = ∑ n, ex x0 x1 x2 x3 (ix3 h r n) := by
  pointwise [tot]
theorem wt_at (h : Fin 4) (r : Fin 2048) (b : Fin 256) : wt x0 x1 x2 x3 (ix3 h r b) = Ideal.div (ex x0 x1 x2 x3 (ix3 h r b)) (tot x0 x1 x2 x3 (ix3 h r 0)) := by
  pointwise [wt]
theorem inv2_at (h : Fin 4) (r : Fin 2048) : inv2 x0 x1 x2 x3 (ix3 h r 0) = Ideal.div 1 (tot x0 x1 x2 x3 (ix3 h r 0) * tot x0 x1 x2 x3 (ix3 h r 0)) := by
  pointwise [inv2]
theorem o2_at (r : Fin 2048) (n : Fin 1024) : o2 x0 x1 x2 x3 (ix2 r n) = ∑ b : Fin 256, v3 x1 x3 (ix3 b ⟨n.val / 256, by omega⟩ ⟨n.val % 256, by omega⟩) * wt x0 x1 x2 x3 (ix3 ⟨n.val / 256, by omega⟩ r b) := by
  pointwise [o2]
theorem do2_at (r : Fin 2048) (n : Fin 1024) : do2 x4 x5 (ix2 r n) = ∑ k : Fin 1024, x5 (ix2 r k) * x4 (ix2 n k) := by
  pointwise [do2]
theorem gT_at (r : Fin 2048) (h : Fin 4) (e : Fin 256) : gT x4 x5 (ix3 h e r) = do2 x4 x5 (ix2 r ⟨h.val * 256 + e.val, by omega⟩) := by
  pointwise [gT]
theorem dp_at (h : Fin 4) (r : Fin 2048) (b : Fin 256) : dp x1 x3 x4 x5 (ix3 h r b) = ∑ e : Fin 256, gT x4 x5 (ix3 h e r) * v3 x1 x3 (ix3 b h e) := by
  pointwise [dp]
theorem corr_at (h : Fin 4) (r : Fin 2048) : corr x0 x1 x2 x3 x4 x5 (ix2 h r) = ∑ _x : Fin 1, -∑ n, dp x1 x3 x4 x5 (ix3 h r n) * inv2 x0 x1 x2 x3 (ix3 h r 0) * ex x0 x1 x2 x3 (ix3 h r n) := by
  pointwise [corr]
theorem ds_at (h : Fin 4) (r : Fin 2048) (b : Fin 256) : ds x0 x1 x2 x3 x4 x5 (ix3 h r b) = (Ideal.div (dp x1 x3 x4 x5 (ix3 h r b)) (tot x0 x1 x2 x3 (ix3 h r 0)) + corr x0 x1 x2 x3 x4 x5 (ix2 h r)) * ex x0 x1 x2 x3 (ix3 h r b) * Ideal.ofBits .f32 0x3D800000#32 := by
  pointwise [ds]
theorem dk2_at (b : Fin 256) (n : Fin 1024) : dk2 x0 x1 x2 x3 x4 x5 (ix2 b n) = ∑ r : Fin 2048, ds x0 x1 x2 x3 x4 x5 (ix3 ⟨n.val / 256, by omega⟩ r b) * q3 x0 x2 (ix3 r ⟨n.val / 256, by omega⟩ ⟨n.val % 256, by omega⟩) := by
  pointwise [dk2]
theorem dv2_at (b : Fin 256) (n : Fin 1024) : dv2 x0 x1 x2 x3 x4 x5 (ix2 b n) = ∑ r : Fin 2048, gT x4 x5 (ix3 ⟨n.val / 256, by omega⟩ ⟨n.val % 256, by omega⟩ r) * wt x0 x1 x2 x3 (ix3 ⟨n.val / 256, by omega⟩ r b) := by
  pointwise [dv2]
theorem dq2_at (r : Fin 2048) (n : Fin 1024) : dq2 x0 x1 x2 x3 x4 x5 (ix2 r n) = ∑ b : Fin 256, ds x0 x1 x2 x3 x4 x5 (ix3 ⟨n.val / 256, by omega⟩ r b) * k3 x1 x3 (ix3 b ⟨n.val / 256, by omega⟩ ⟨n.val % 256, by omega⟩) := by
  pointwise [dq2]
theorem dkv_key (b : Fin 256) (n : Fin 1024) : dkv x0 x1 x2 x3 x4 x5 (ix2 b ⟨n.val, by omega⟩) = dk2 x0 x1 x2 x3 x4 x5 (ix2 b n) := by
  pointwise [dkv]
theorem dkv_val (b : Fin 256) (n : Fin 1024) : dkv x0 x1 x2 x3 x4 x5 (ix2 b ⟨1024 + n.val, by omega⟩) = dv2 x0 x1 x2 x3 x4 x5 (ix2 b n) := by
  pointwise [dkv]
theorem rY_at (r : Fin 2048) (n : Fin 1024) : rY x0 x1 x2 x3 x4 (ix2 r n) = ∑ k : Fin 1024, o2 x0 x1 x2 x3 (ix2 r k) * x4 (ix2 k n) := by
  pointwise [rY]
theorem rDh_at (r : Fin 2048) (n : Fin 1024) : rDh x0 x1 x2 x3 x4 x5 (ix2 r n) = ∑ k : Fin 1024, dq2 x0 x1 x2 x3 x4 x5 (ix2 r k) * x2 (ix2 n k) := by
  pointwise [rDh]
theorem rDm_at (b : Fin 256) (n : Fin 1024) : rDm x0 x1 x2 x3 x4 x5 (ix2 b n) = ∑ k : Fin 2048, dkv x0 x1 x2 x3 x4 x5 (ix2 b k) * x3 (ix2 n k) := by
  pointwise [rDm]
theorem rDwq_at (k n : Fin 1024) : rDwq x0 x1 x2 x3 x4 x5 (ix2 k n) = ∑ r : Fin 2048, dq2 x0 x1 x2 x3 x4 x5 (ix2 r n) * x0 (ix2 r k) := by
  pointwise [rDwq]
theorem rDwkv_at (q : Fin 8) (k : Fin 1024) (e : Fin 256) : rDwkv x0 x1 x2 x3 x4 x5 (ix3 q k e) = ∑ b : Fin 256, dkv x0 x1 x2 x3 x4 x5 (ix2 b ⟨q.val * 256 + e.val, by omega⟩) * x1 (ix2 b k) := by
  pointwise [rDwkv]
theorem rDwo_at (k n : Fin 1024) : rDwo x0 x1 x2 x3 x5 (ix2 k n) = ∑ r : Fin 2048, x5 (ix2 r n) * o2 x0 x1 x2 x3 (ix2 r k) := by
  pointwise [rDwo]

/-- Every run of the reference ends with these, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = rY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v77) = rDh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v73) = rDm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v76) = rDwq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v79) = rDwkv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v43) = rDwo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h0, h1, h2, h3, h4, h5, ha⟩ := h c
    exact ⟨h0.trans (by unfold Value.res_main_v41; rfl), h1.trans (by unfold Value.res_main_v77; rfl), h2.trans (by unfold Value.res_main_v73; rfl), h3.trans (by unfold Value.res_main_v76; rfl), h4.trans (by unfold Value.res_main_v79; rfl), h5.trans (by unfold Value.res_main_v43; rfl), ha⟩) (Value.run m ρ)

end Cert.Cross.Ref

end
-- ==== Proof.CrossEq.lean ====
/-
  The cross-attention kernel's results are the reference's: its output and the output weight's gradient always, the other
  gradients at real scores.
-/
module

public import proofs.«01_k».proof.Proof.CrossRun
public import proofs.«01_k».proof.Proof.CrossRef
public import proofs.«01_k».proof.Proof.FfnEq
public import proofs.«01_k».proof.Pre_finite_cross

@[expose] public section

set_option maxHeartbeats 1600000
set_option maxRecDepth 16384

noncomputable section

namespace Cert.Cross

open Idealize.ShloMosaic Cert.Kernel3Ideal Cert.Kernel3Ideal.Gen Cert.Kernel3Ideal.Facts
open Cert.Fox.Ref (Fine)

variable (X : FVec Ideal S2048x1024 .f32) (M : FVec Ideal S256x1024 .f32) (Q : FVec Ideal S1024x1024 .f32) (K : FVec Ideal S1024x2048 .f32) (O : FVec Ideal S1024x1024 .f32) (Y : FVec Ideal S2048x1024 .f32)

/-! ## The kernel's operands and intermediates, element by element -/

theorem rowB_at (s : Fin 2048) (k : Fin 1024) : rowB X (ix2 s k) = X (ix2 s k) := by
  pointwise [rowB]
theorem memB_at (s : Fin 256) (k : Fin 1024) : memB M (ix2 s k) = M (ix2 s k) := by
  pointwise [memB]
theorem sqB_at (s k : Fin 1024) : sqB Q (ix2 s k) = Q (ix2 s k) := by
  pointwise [sqB]
theorem wkvB_at (p : Fin 8) (k : Fin 1024) (d : Fin 256) : wkvB K (ix3 p k d) = K (ix2 k ⟨p.val * 256 + d.val, by omega⟩) := by
  pointwise [wkvB]

theorem kv_pre (p : Fin 8) (b d : Fin 256) : kvT M K (ix3 p b d) = Ref.kv2 M K (ix2 b ⟨p.val * 256 + d.val, by omega⟩) := by
  rw [Ref.kv2_at]
  show (∑ k : Fin 1024, memB M (ix2 b k) * wkvB K (ix3 p k d)) = _
  simp only [memB_at, wkvB_at]
theorem key_pre (h : Fin 4) (n e : Fin 256) : kvT M K (ix3 (kI h) n e) = Ref.k3 M K (ix3 n h e) := by
  rw [kv_pre, Ref.k3_at]
  rfl
theorem val_pre (h : Fin 4) (n e : Fin 256) : kvT M K (ix3 (vI h) n e) = Ref.v3 M K (ix3 n h e) := by
  rw [kv_pre, Ref.v3_at]
  exact congrArg (fun j => Ref.kv2 M K (ix2 n j)) (Fin.ext (by show (4 + h.val) * 256 + e.val = 1024 + (h.val * 256 + e.val); omega))
theorem q_pre (r : Fin 2048) (h : Fin 4) (e : Fin 256) : qT X Q (ix2 r (cl h e)) = Ref.q3 X Q (ix3 r h e) := by
  rw [Ref.q3_at, Ref.qx_at]
  show (∑ k : Fin 1024, rowB X (ix2 r k) * sqB Q (ix2 k (cl h e))) = _
  simp only [rowB_at, sqB_at]
  rfl
theorem sc_pre (h : Fin 4) (r : Fin 2048) (n : Fin 256) : scG (qT X Q) (kvT M K) h r n = Ref.sc X M Q K (ix3 h r n) := by
  rw [Ref.sc_at, scG]
  simp only [q_pre, key_pre]
  rfl
theorem mx_pre (h : Fin 4) (r : Fin 2048) : mx (scG (qT X Q) (kvT M K) h r) = Ref.mx1 X M Q K (ix2 h r) := by
  rw [Ref.mx1_at, Ref.mx0_at, Cert.Fox.Ref.ofBits_bot, max_eq_right bot_le, mx, Cert.Fox.Ref.ofBits_bot,
    show scG (qT X Q) (kvT M K) h r = fun x => Ref.sc X M Q K (ix3 h r x) from funext (sc_pre X M Q K h r)]
theorem prob_pre (h : Fin 4) (r : Fin 2048) (b : Fin 256) : prob (scG (qT X Q) (kvT M K) h r) b = Ref.wt X M Q K (ix3 h r b) := by
  rw [prob, mx_pre, Ref.wt_at, Ref.tot_at]
  simp only [Ref.ex_at, sc_pre]
theorem o_pre (r : Fin 2048) (h : Fin 4) (d : Fin 256) : oT X M Q K (ix2 r (cl h d)) = Ref.o2 X M Q K (ix2 r (cl h d)) := by
  rw [Ref.o2_at]
  change _ = ∑ b : Fin 256, Ref.v3 M K (ix3 b (hd (cl h d)) (lo (cl h d))) * Ref.wt X M Q K (ix3 (hd (cl h d)) r b)
  rw [hd_cl, lo_cl]
  refine (oG_at (qT X Q) (kvT M K) h r d).trans (Finset.sum_congr rfl fun b _ => ?_)
  rw [prob_pre, val_pre, mul_comm]
theorem o_eq (r : Fin 2048) (n : Fin 1024) : oT X M Q K (ix2 r n) = Ref.o2 X M Q K (ix2 r n) := by
  rw [← cl_hd n]
  exact o_pre X M Q K r (hd n) (lo n)
theorem do_pre (r : Fin 2048) (h : Fin 4) (e : Fin 256) : doT O Y (ix2 r (cl h e)) = Ref.gT O Y (ix3 h e r) := by
  rw [Ref.gT_at, Ref.do2_at]
  show (∑ k : Fin 1024, rowB Y (ix2 r k) * sqB O (ix2 (cl h e) k)) = _
  simp only [rowB_at, sqB_at]
  rfl
theorem dp_pre (h : Fin 4) (r : Fin 2048) (n : Fin 256) : dpG (doT O Y) (kvT M K) h r n = Ref.dp M K O Y (ix3 h r n) := by
  rw [Ref.dp_at, dpG]
  simp only [do_pre, val_pre]

/-! ## The softmax's gradient, at real scores -/

/-- A finite sum times a nonnegative real. -/
theorem sum_mul_nonneg {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert i s hi ih =>
    rw [Finset.sum_insert hi, Finset.sum_insert hi,
      EReal.right_distrib_of_nonneg_of_ne_top (EReal.coe_nonneg.2 hc) (EReal.coe_ne_top c), ih]

/-- The two ways of writing the softmax's gradient agree whatever the gradient of the softmax is. -/
theorem ds_real (e : Fin 256 → ℝ) (l : ℝ) (hl : 0 < l) (g : Fin 256 → EReal) (b : Fin 256) :
    ((e b * (1 / l) : ℝ) : EReal) * (g b - ∑ n, g n * ((e n * (1 / l) : ℝ) : EReal))
      = (g b * ((1 / l : ℝ) : EReal) + -∑ n, g n * ((1 / (l * l) : ℝ) : EReal) * (e n : EReal)) * (e b : EReal) := by
  have hc : (0 : ℝ) ≤ 1 / l := (one_div_pos.2 hl).le
  have h1 : ∑ n, g n * ((1 / (l * l) : ℝ) : EReal) * (e n : EReal) = (∑ n, g n * ((e n * (1 / l) : ℝ) : EReal)) * ((1 / l : ℝ) : EReal) := by
    rw [sum_mul_nonneg _ _ _ hc]
    refine Finset.sum_congr rfl fun n _ => ?_
    rw [mul_assoc, mul_assoc, ← EReal.coe_mul, ← EReal.coe_mul]
    congr 2
    have := hl.ne'
    field_simp
  rw [h1, ← EReal.neg_mul, ← EReal.right_distrib_of_nonneg_of_ne_top (EReal.coe_nonneg.2 hc) (EReal.coe_ne_top _), ← sub_eq_add_neg,
    EReal.coe_mul, mul_assoc, mul_comm]
  congr 1
  exact mul_comm _ _

theorem sixteenth_real : Ideal.ofBits .f32 0x3D800000#32 = ((1 / 16 : ℝ) : EReal) := by
  simp [Ideal.ofBits, Ideal.ieee, -EReal.coe_mul]
  norm_num

theorem toReal_of {x : EReal} (h : ∃ r : ℝ, x = r) : x = (x.toReal : EReal) := by
  obtain ⟨r, rfl⟩ := h
  rw [EReal.toReal_coe]

/-- The key half's columns are real. -/
def FineKey : Prop := ∀ (k : Fin 1024) (a : Fin 1024), K (ix2 k ⟨a.val, by omega⟩) = ((K (ix2 k ⟨a.val, by omega⟩)).toReal : EReal)

section Real
variable (hX : Fine X) (hM : Fine M) (hQ : Fine Q) (hK : FineKey K)

include hX hQ in
theorem q_real (r : Fin 2048) (h : Fin 4) (e : Fin 256) : ∃ s : ℝ, Ref.q3 X Q (ix3 r h e) = s := by
  rw [Ref.q3_at, Ref.qx_at]
  exact Cert.Ffn.sum_mul_real _ _ (fun k => hX _) (fun k => hQ _)
include hM hK in
theorem k_real (n : Fin 256) (h : Fin 4) (e : Fin 256) : ∃ s : ℝ, Ref.k3 M K (ix3 n h e) = s := by
  rw [Ref.k3_at, Ref.kv2_at]
  exact Cert.Ffn.sum_mul_real _ _ (fun k => hM _) (fun k => hK k (cl h e))
include hX hM hQ hK in
theorem sc_real (h : Fin 4) (r : Fin 2048) (n : Fin 256) : ∃ s : ℝ, Ref.sc X M Q K (ix3 h r n) = s := by
  rw [Ref.sc_at, sixteenth_real]
  obtain ⟨s, hs⟩ := Cert.Ffn.sum_mul_real (fun e : Fin 256 => Ref.q3 X Q (ix3 r h e)) (fun e => Ref.k3 M K (ix3 n h e))
    (fun e => toReal_of (q_real X Q hX hQ r h e)) (fun e => toReal_of (k_real M K hM hK n h e))
  exact ⟨s * (1 / 16), by rw [hs, EReal.coe_mul]⟩

include hX hM hQ hK in
theorem ds_pre (h : Fin 4) (r : Fin 2048) (b : Fin 256) :
    dsc (scG (qT X Q) (kvT M K) h r) (dpG (doT O Y) (kvT M K) h r) b = Ref.ds X M Q K O Y (ix3 h r b) := by
  choose s hs using sc_real X M Q K hX hM hQ hK h r
  obtain ⟨t, ht⟩ : ∃ t : ℝ, Ref.mx1 X M Q K (ix2 h r) = t := by
    rw [Ref.mx1_at, Ref.mx0_at, Cert.Fox.Ref.ofBits_bot, max_eq_right bot_le]
    exact Cert.Fox.fold_max_real _ _ 0 (Finset.mem_univ _) (s 0) (hs 0) fun n _ => by rw [hs]; exact EReal.coe_ne_top _
  have he : ∀ n, Ref.ex X M Q K (ix3 h r n) = ((Real.exp (s n - t) : ℝ) : EReal) := fun n => by
    rw [Ref.ex_at, hs, ht, ← EReal.coe_sub, Ideal.exp_coe]
  have hl : Ref.tot X M Q K (ix3 h r 0) = ((∑ n, Real.exp (s n - t) : ℝ) : EReal) := by
    rw [Ref.tot_at]
    simp only [he, Cert.Fox.sum_coe]
  have hp : 0 < ∑ n : Fin 256, Real.exp (s n - t) := Finset.sum_pos (fun n _ => Real.exp_pos _) ⟨0, Finset.mem_univ _⟩
  generalize (∑ n : Fin 256, Real.exp (s n - t)) = l at hl hp
  have hw : ∀ n, Ref.wt X M Q K (ix3 h r n) = ((Real.exp (s n - t) * (1 / l) : ℝ) : EReal) := fun n => by
    rw [Ref.wt_at, he, hl, Ideal.div_coe hp.ne', EReal.coe_mul]
  have hi : Ref.inv2 X M Q K (ix3 h r 0) = ((1 / (l * l) : ℝ) : EReal) := by
    rw [Ref.inv2_at, hl, ← EReal.coe_mul, Ideal.div_coe (mul_ne_zero hp.ne' hp.ne'), one_mul]
  have hc : Ref.corr X M Q K O Y (ix2 h r) = -∑ n, Ref.dp M K O Y (ix3 h r n) * ((1 / (l * l) : ℝ) : EReal) * ((Real.exp (s n - t) : ℝ) : EReal) := by
    rw [Ref.corr_at, Fin.sum_univ_one]
    simp only [hi, he]
  rw [Ref.ds_at, hc, hl, he, Ideal.div_coe hp.ne', dsc]
  simp only [prob_pre, dp_pre, hw]
  exact congrArg (fun z : EReal => z * sixteenth) (ds_real (fun n => Real.exp (s n - t)) l hp (fun n => Ref.dp M K O Y (ix3 h r n)) b)

include hX hM hQ hK in
theorem dq_eq (r : Fin 2048) (n : Fin 1024) : dqT X M Q K O Y (ix2 r n) = Ref.dq2 X M Q K O Y (ix2 r n) := by
  rw [Ref.dq2_at]
  change (∑ b : Fin 256, dsc (scG (qT X Q) (kvT M K) (hd n) r) (dpG (doT O Y) (kvT M K) (hd n) r) b * kvT M K (ix3 (kI (hd n)) b (lo n)))
    = ∑ b : Fin 256, Ref.ds X M Q K O Y (ix3 (hd n) r b) * Ref.k3 M K (ix3 b (hd n) (lo n))
  refine Finset.sum_congr rfl fun b _ => ?_
  rw [ds_pre X M Q K O Y hX hM hQ hK, key_pre]

include hX hM hQ hK in
theorem dkv_pre (p : Fin 8) (b d : Fin 256) : dkvT X M Q K O Y (ix3 p b d) = Ref.dkv X M Q K O Y (ix2 b ⟨p.val * 256 + d.val, by omega⟩) := by
  have e : dkvT X M Q K O Y (ix3 p b d) = dkvG (qT X Q) (kvT M K) (doT O Y) (ix4 (⟨p.val / 4, by omega⟩ : Fin 2) (⟨p.val % 4, by omega⟩ : Fin 4) b d) := by
    unfold dkvT
    pointwise []
  rw [e]
  generalize hz : (⟨p.val / 4, by omega⟩ : Fin 2) = z
  generalize hh : (⟨p.val % 4, by omega⟩ : Fin 4) = h
  have hz' : p.val / 4 = z.val := congrArg Fin.val hz
  have hh' : p.val % 4 = h.val := congrArg Fin.val hh
  change (if z = 0 then ∑ r : Fin 2048, dsc (scG (qT X Q) (kvT M K) h r) (dpG (doT O Y) (kvT M K) h r) b * qT X Q (ix2 r (cl h d))
    else ∑ r : Fin 2048, prob (scG (qT X Q) (kvT M K) h r) b * doT O Y (ix2 r (cl h d))) = _
  by_cases h0 : z = 0
  · have hn : (⟨p.val * 256 + d.val, by omega⟩ : Fin 2048) = ⟨(cl h d).val, by omega⟩ :=
      Fin.ext (by show p.val * 256 + d.val = h.val * 256 + d.val; rw [h0] at hz'; change p.val / 4 = 0 at hz'; omega)
    rw [if_pos h0, hn, Ref.dkv_key, Ref.dk2_at]
    change _ = ∑ r : Fin 2048, Ref.ds X M Q K O Y (ix3 (hd (cl h d)) r b) * Ref.q3 X Q (ix3 r (hd (cl h d)) (lo (cl h d)))
    rw [hd_cl, lo_cl]
    refine Finset.sum_congr rfl fun r _ => ?_
    rw [ds_pre X M Q K O Y hX hM hQ hK, q_pre]
  · have hz1 : z.val = 1 := by
      have : z.val ≠ 0 := fun h1 => h0 (Fin.ext h1)
      omega
    have hn : (⟨p.val * 256 + d.val, by omega⟩ : Fin 2048) = ⟨1024 + (cl h d).val, by omega⟩ :=
      Fin.ext (by show p.val * 256 + d.val = 1024 + (h.val * 256 + d.val); omega)
    rw [if_neg h0, hn, Ref.dkv_val, Ref.dv2_at]
    change _ = ∑ r : Fin 2048, Ref.gT O Y (ix3 (hd (cl h d)) (lo (cl h d)) r) * Ref.wt X M Q K (ix3 (hd (cl h d)) r b)
    rw [hd_cl, lo_cl]
    refine Finset.sum_congr rfl fun r _ => ?_
    rw [prob_pre, do_pre, mul_comm]
end Real

/-! ## The results -/

theorem sum8 (F : Fin 2048 → EReal) : ∑ n, F n = ∑ q : Fin 8, ∑ d : Fin 256, F ⟨q.val * 256 + d.val, by omega⟩ := by
  rw [← Fintype.sum_prod_type (f := fun p : Fin 8 × Fin 256 => F ⟨p.1.val * 256 + p.2.val, by omega⟩)]
  exact (Fintype.sum_equiv (finProdFinEquiv (m := 8) (n := 256)) _ _ (fun p => congrArg F (Fin.ext (by
    show p.1.val * 256 + p.2.val = p.2.val + 256 * p.1.val; omega)))).symm

theorem resY_eq : resY X M Q K O = Ref.rY X M Q K O := by
  funext i
  obtain ⟨s, n, rfl⟩ : ∃ (s : Fin 2048) (n : Fin 1024), i = ix2 s n := ⟨i 0, i 1, eq_ix2 i⟩
  rw [Ref.rY_at]
  show (∑ k : Fin 1024, oT X M Q K (ix2 s k) * sqB O (ix2 k n)) = _
  simp only [o_eq, sqB_at]
theorem resDwo_eq : resDwo X M Q K Y = Ref.rDwo X M Q K Y := by
  funext i
  obtain ⟨k, n, rfl⟩ : ∃ (k n : Fin 1024), i = ix2 k n := ⟨i 0, i 1, eq_ix2 i⟩
  rw [Ref.rDwo_at]
  show (∑ r : Fin 2048, oT X M Q K (ix2 r k) * rowB Y (ix2 r n)) = _
  refine Finset.sum_congr rfl fun r _ => ?_
  rw [o_eq, rowB_at, mul_comm]
section Real
variable (hX : Fine X) (hM : Fine M) (hQ : Fine Q) (hK : FineKey K)
include hX hM hQ hK

theorem resDh_eq : resDh X M Q K O Y = Ref.rDh X M Q K O Y := by
  funext i
  obtain ⟨s, n, rfl⟩ : ∃ (s : Fin 2048) (n : Fin 1024), i = ix2 s n := ⟨i 0, i 1, eq_ix2 i⟩
  rw [Ref.rDh_at]
  show (∑ k : Fin 1024, dqT X M Q K O Y (ix2 s k) * sqB Q (ix2 n k)) = _
  simp only [dq_eq X M Q K O Y hX hM hQ hK, sqB_at]
theorem resDm_eq : resDm X M Q K O Y = Ref.rDm X M Q K O Y := by
  funext i
  obtain ⟨s, n, rfl⟩ : ∃ (s : Fin 256) (n : Fin 1024), i = ix2 s n := ⟨i 0, i 1, eq_ix2 i⟩
  rw [Ref.rDm_at, sum8]
  show (∑ q : Fin 8, ∑ d : Fin 256, dkvT X M Q K O Y (ix3 q s d) * wkvB K (ix3 q n d)) = _
  simp only [dkv_pre X M Q K O Y hX hM hQ hK, wkvB_at]
theorem resDwq_eq : resDwq X M Q K O Y = Ref.rDwq X M Q K O Y := by
  funext i
  obtain ⟨k, n, rfl⟩ : ∃ (k n : Fin 1024), i = ix2 k n := ⟨i 0, i 1, eq_ix2 i⟩
  rw [Ref.rDwq_at]
  show (∑ r : Fin 2048, rowB X (ix2 r k) * dqT X M Q K O Y (ix2 r n)) = _
  refine Finset.sum_congr rfl fun r _ => ?_
  rw [dq_eq X M Q K O Y hX hM hQ hK, rowB_at, mul_comm]
theorem resDwkv_eq : resDwkv X M Q K O Y = Ref.rDwkv X M Q K O Y := by
  funext i
  obtain ⟨q, k, d, rfl⟩ : ∃ (q : Fin 8) (k : Fin 1024) (d : Fin 256), i = ix3 q k d := ⟨i 0, i 1, i 2, eq_ix3 i⟩
  rw [Ref.rDwkv_at]
  show (∑ b : Fin 256, memB M (ix2 b k) * dkvT X M Q K O Y (ix3 q b d)) = _
  refine Finset.sum_congr rfl fun b _ => ?_
  rw [dkv_pre X M Q K O Y hX hM hQ hK, memB_at, mul_comm]
end Real

/-- The precondition makes what the scores depend on real. -/
theorem fine_of [Cert.Pre_finite_cross.Facts] (h : Cert.Pre_finite_cross.fn X M Q K O Y = fun _ => 1#1) : Fine X ∧ Fine M ∧ Fine Q ∧ FineKey K := by
  refine ⟨fun i => ?_, fun i => ?_, fun i => ?_, fun n a => ?_⟩
  · obtain ⟨a, n, rfl⟩ : ∃ (a : Fin 2048) (n : Fin 1024), i = ix2 a n := ⟨i 0, i 1, eq_ix2 i⟩
    have e := congrFun h (ix2 (⟨a.val, by omega⟩ : Fin 4352) n)
    pointwise [Cert.Pre_finite_cross.fn] at e
    exact Cert.Pre_finite_arguments.real_of _ e
  · obtain ⟨a, n, rfl⟩ : ∃ (a : Fin 256) (n : Fin 1024), i = ix2 a n := ⟨i 0, i 1, eq_ix2 i⟩
    have e := congrFun h (ix2 (⟨2048 + a.val, by omega⟩ : Fin 4352) n)
    pointwise [Cert.Pre_finite_cross.fn] at e
    exact Cert.Pre_finite_arguments.real_of _ e
  · obtain ⟨a, n, rfl⟩ : ∃ (a : Fin 1024) (n : Fin 1024), i = ix2 a n := ⟨i 0, i 1, eq_ix2 i⟩
    have e := congrFun h (ix2 (⟨2304 + a.val, by omega⟩ : Fin 4352) n)
    pointwise [Cert.Pre_finite_cross.fn] at e
    rw [dif_neg (by omega), dif_neg (by omega), dif_pos (by omega)] at e
    have hi : (⟨2304 + a.val - 2048 - 256, by omega⟩ : Fin 1024) = a := Fin.ext (by show 2304 + a.val - 2048 - 256 = a.val; omega)
    rw [hi] at e
    exact Cert.Pre_finite_arguments.real_of _ e
  · have e := congrFun h (ix2 (⟨3328 + a.val, by omega⟩ : Fin 4352) n)
    pointwise [Cert.Pre_finite_cross.fn] at e
    rw [dif_neg (by omega), dif_neg (by omega), dif_neg (by omega)] at e
    have hi : (⟨3328 + a.val - 2048 - 256 - 1024, by omega⟩ : Fin 2048) = ⟨a.val, by omega⟩ := Fin.ext (by show 3328 + a.val - 2048 - 256 - 1024 = a.val; omega)
    rw [hi] at e
    exact Cert.Pre_finite_arguments.real_of _ e

end Cert.Cross

end
-- ==== Proof.LruOut.lean ====
/-
  What each of the eight kernels of the gated recurrence's products leaves in its output block, element by element, from
  its input blocks.
-/
module

public import proofs.«01_k».proof.Proof.Gen.Kernel4Ideal.Frame
public import Idealize.ShloMosaic.Lib.Pipeline.ValueKit

@[expose] public section

set_option maxHeartbeats 1600000
set_option maxRecDepth 16384

noncomputable section

namespace Cert.Lru

open Idealize.ShloMosaic Cert.Kernel4Ideal Cert.Kernel4Ideal.Gen

theorem o0_2 (x0 : Vec Ideal S2048x1024 .bf16) (x1 : Vec Ideal S1x1024x256 .bf16) (r : Fin 2048) (d : Fin 256) :
    out0_2 x0 x1 (ix3 0 r d) = ∑ k : Fin 1024, x0 (ix2 r k) * x1 (ix3 0 k d) := by
  unfold out0_2
  frame_out
  pointwise [k0_pay1]
theorem o1_2 (x0 : Vec Ideal S1x2048x256 .f32) (x1 : Vec Ideal S1x1x256x256 .bf16) (r : Fin 2048) (d : Fin 256) :
    out1_2 x0 x1 (ix4 0 0 r d) = ∑ k : Fin 256, x0 (ix3 0 r k) * x1 (ix4 0 0 k d) := by
  unfold out1_2
  frame_out
  pointwise [k1_pay1]
theorem o2_2 (x0 : Vec Ideal S2048x1024 .bf16) (x1 : Vec Ideal S1024x1024 .bf16) (r : Fin 2048) (n : Fin 1024) :
    out2_2 x0 x1 (ix2 r n) = ∑ k : Fin 1024, x0 (ix2 r k) * x1 (ix2 k n) := by
  unfold out2_2
  frame_out
  pointwise [k2_pay1]
theorem o3_2 (x0 : Vec Ideal S2048x1024 .bf16) (x1 : Vec Ideal S1024x1024 .bf16) (r : Fin 2048) (n : Fin 1024) :
    out3_2 x0 x1 (ix2 r n) = ∑ k : Fin 1024, x0 (ix2 r k) * x1 (ix2 n k) := by
  unfold out3_2
  frame_out
  pointwise [k3_pay1]
theorem o4_2 (x0 : Vec Ideal S2048x1024 .bf16) (x1 : Vec Ideal S2048x1024 .bf16) (k n : Fin 1024) :
    out4_2 x0 x1 (ix2 k n) = ∑ r : Fin 2048, x0 (ix2 r k) * x1 (ix2 r n) := by
  unfold out4_2
  frame_out
  pointwise [k4_pay1]
theorem o5_2 (x0 : Vec Ideal S1x2048x256 .f32) (x1 : Vec Ideal S1x1x2048x256 .bf16) (k d : Fin 256) :
    out5_2 x0 x1 (ix4 0 0 k d) = ∑ r : Fin 2048, x0 (ix3 0 r k) * x1 (ix4 0 0 r d) := by
  unfold out5_2
  frame_out
  pointwise [k5_pay1]
theorem o6_2 (x0 : Vec Ideal S2048x1024 .bf16) (x1 : Vec Ideal S1x2048x256 .bf16) (k : Fin 1024) (d : Fin 256) :
    out6_2 x0 x1 (ix3 0 k d) = ∑ r : Fin 2048, x0 (ix2 r k) * x1 (ix3 0 r d) := by
  unfold out6_2
  frame_out
  pointwise [k6_pay1]
/-- The input gradient's block: the sum over the eight column blocks. -/
theorem o7_2 (x0 : Vec Ideal S8x512x256 .bf16) (x1 : Vec Ideal S8x1024x256 .bf16) (r : Fin 512) (n : Fin 1024) :
    out7_2 x0 x1 (ix2 r n) = ∑ q : Fin 8, ∑ d : Fin 256, x0 (ix3 q r d) * x1 (ix3 q n d) := by
  unfold out7_2
  frame_out
  pointwise [k7_pay1, k7_pay2, k7_pay3]
  rw [Fin.sum_univ_eight]

end Cert.Lru

end
-- ==== Proof.LruRegions.lean ====
/-
  What the eight regions of the gated recurrence's products leave in their result arrays, from what their operands hold:
  each block of a result is its formula at its point, and the blocks cover the array.
-/
module

public import proofs.«01_k».proof.Proof.LruOut

@[expose] public section

set_option maxHeartbeats 1600000
set_option maxRecDepth 16384

noncomputable section

namespace Cert.Lru

open Idealize.ShloMosaic Idealize.ShloMosaic.TcCoe Cert.Kernel4Ideal Cert.Kernel4Ideal.Gen

/-- The input projection, in eight blocks. -/
def guG (x : Vec Ideal S2048x1024 .bf16) (w : Vec Ideal S8x1024x256 .bf16) : Vec Ideal S8x2048x256 .f32 :=
  fun i => ∑ k : Fin 1024, x (ix2 (i 1) k) * w (ix3 (i 0) k (i 2))
/-- The two gates' products, block by block. -/
def zG (u : Vec Ideal S4x2048x256 .f32) (w : Vec Ideal S2x4x256x256 .bf16) : Vec Ideal S2x4x2048x256 .f32 :=
  fun i => ∑ k : Fin 256, u (ix3 (i 1) (i 2) k) * w (ix4 (i 0) (i 1) k (i 3))
/-- The output projection. -/
def yG (x : Vec Ideal S2048x1024 .bf16) (w : Vec Ideal S1024x1024 .bf16) : Vec Ideal S2048x1024 .f32 :=
  fun i => ∑ k : Fin 1024, x (ix2 (i 0) k) * w (ix2 k (i 1))
/-- The gradient of the output projection's input. -/
def dypG (x : Vec Ideal S2048x1024 .bf16) (w : Vec Ideal S1024x1024 .bf16) : Vec Ideal S2048x1024 .f32 :=
  fun i => ∑ k : Fin 1024, x (ix2 (i 0) k) * w (ix2 (i 1) k)
/-- The output weight's gradient. -/
def dwoutG (x y : Vec Ideal S2048x1024 .bf16) : Vec Ideal S1024x1024 .f32 :=
  fun i => ∑ r : Fin 2048, x (ix2 r (i 0)) * y (ix2 r (i 1))
/-- The gate weights' gradients. -/
def dwaiG (u : Vec Ideal S4x2048x256 .f32) (g : Vec Ideal S2x4x2048x256 .bf16) : Vec Ideal S2x4x256x256 .f32 :=
  fun i => ∑ r : Fin 2048, u (ix3 (i 1) r (i 2)) * g (ix4 (i 0) (i 1) r (i 3))
/-- The input weight's gradient, in eight blocks. -/
def dwinG (x : Vec Ideal S2048x1024 .bf16) (g : Vec Ideal S8x2048x256 .bf16) : Vec Ideal S8x1024x256 .f32 :=
  fun i => ∑ r : Fin 2048, x (ix2 r (i 1)) * g (ix3 (i 0) r (i 2))
/-- The input's gradient. -/
def dhG (g : Vec Ideal S8x2048x256 .bf16) (w : Vec Ideal S8x1024x256 .bf16) : Vec Ideal S2048x1024 .f32 :=
  fun i => ∑ q : Fin 8, ∑ d : Fin 256, g (ix3 q (i 0) d) * w (ix3 q (i 1) d)

variable (V : (c : Dev nD) → (b : Ref sig .tc) → Buf (Elt Ideal) ((c : Thread nD τ).loc b)) (c : Dev nD)

/-! ## Region 0 -/

theorem ix0_0 : ∀ t : Fin cfg0.N, win0_0.index t = ![0, 0] := (by decide +kernel : ∀ t : Fin grid0.N, _)
theorem rd0_0 (t : Fin cfg0.N) (G : Vec Ideal S2048x1024 .bf16) (r : Fin 2048) (n : Fin 1024) : (win0_0.blk t).view.read (Elt Ideal) G (ix2 r n) = G (ix2 r n) := by
  have e : (win0_0.blk t).view.emb (ix2 r n) = (ix2 r n) := by blk_ext [ix0_0]
  rw [View.read_apply]
  exact congrArg G e
theorem ib0_0 (t : Fin cfg0.N) : iblk0 V c 0 t = (win0_0.blk t).view.read (Elt Ideal) (V c main_v0) := rfl
theorem blk0_0 (t : Fin cfg0.N) (r : Fin 2048) (n : Fin 1024) : iblk0 V c 0 t (ix2 r n) = (V c main_v0 : Vec Ideal S2048x1024 .bf16) (ix2 r n) := by
  rw [ib0_0]
  exact rd0_0 t (V c main_v0) r n
theorem ix0_1 : ∀ t : Fin cfg0.N, win0_1.index t = ![t.val, 0, 0] := (by decide +kernel : ∀ t : Fin grid0.N, _)
theorem rd0_1 (t : Fin cfg0.N) (G : Vec Ideal S8x1024x256 .bf16) (r : Fin 1024) (n : Fin 256) : (win0_1.blk t).view.read (Elt Ideal) G (ix3 0 r n) = G (ix3 ⟨t.val, t.isLt⟩ r n) := by
  have e : (win0_1.blk t).view.emb (ix3 0 r n) = (ix3 ⟨t.val, t.isLt⟩ r n) := by blk_ext [ix0_1]
  rw [View.read_apply]
  exact congrArg G e
theorem ib0_1 (t : Fin cfg0.N) : iblk0 V c 1 t = (win0_1.blk t).view.read (Elt Ideal) (V c main_v6) := rfl
theorem blk0_1 (t : Fin cfg0.N) (r : Fin 1024) (n : Fin 256) : iblk0 V c 1 t (ix3 0 r n) = (V c main_v6 : Vec Ideal S8x1024x256 .bf16) (ix3 ⟨t.val, t.isLt⟩ r n) := by
  rw [ib0_1]
  exact rd0_1 t (V c main_v6) r n
theorem ix0_2 : ∀ t : Fin cfg0.N, win0_2.index t = ![t.val, 0, 0] := (by decide +kernel : ∀ t : Fin grid0.N, _)
theorem cov0_2 : (cfg0.win 2).Covers := by decide +kernel
theorem fin0_2 : (dat0 V c).arrAt 2 cfg0.N = guG (V c main_v0) (V c main_v6) := by
  refine Pipeline.Dat.arrAt_eq_of_covers _ 2 _ cov0_2 fun t hf y => ?_
  change ((dat0 V c).after 2 t : Vec Ideal S1x2048x256 .f32) y = (guG (V c main_v0) (V c main_v6)) ((win0_2.blk t).view.emb y)
  obtain ⟨r, n, rfl⟩ : ∃ (r : Fin 2048) (n : Fin 256), y = ix3 0 r n := ⟨y 1, y 2, (eq_ix3 y).trans (congrArg (fun p : Fin 1 => (ix3 p (y 1) (y 2) : S1x2048x256.Idx)) (Subsingleton.elim (α := Fin 1) _ _))⟩
  have e : (win0_2.blk t).view.emb (ix3 0 r n) = (ix3 ⟨t.val, t.isLt⟩ r n) := by blk_ext [ix0_2]
  rw [after0_2, o0_2, e]
  simp only [blk0_0, blk0_1]
  rfl

/-! ## Region 1 -/

theorem ix1_0 : ∀ t : Fin cfg1.N, win1_0.index t = ![t.val % 4, 0, 0] := (by decide +kernel : ∀ t : Fin grid1.N, _)
theorem rd1_0 (t : Fin cfg1.N) (G : Vec Ideal S4x2048x256 .f32) (r : Fin 2048) (n : Fin 256) : (win1_0.blk t).view.read (Elt Ideal) G (ix3 0 r n) = G (ix3 ⟨t.val % 4, by omega⟩ r n) := by
  have e : (win1_0.blk t).view.emb (ix3 0 r n) = (ix3 ⟨t.val % 4, by omega⟩ r n) := by blk_ext [ix1_0]
  rw [View.read_apply]
  exact congrArg G e
theorem ib1_0 (t : Fin cfg1.N) : iblk1 V c 0 t = (win1_0.blk t).view.read (Elt Ideal) (V c main_v8) := rfl
theorem blk1_0 (t : Fin cfg1.N) (r : Fin 2048) (n : Fin 256) : iblk1 V c 0 t (ix3 0 r n) = (V c main_v8 : Vec Ideal S4x2048x256 .f32) (ix3 ⟨t.val % 4, by omega⟩ r n) := by
  rw [ib1_0]
  exact rd1_0 t (V c main_v8) r n
theorem ix1_1 : ∀ t : Fin cfg1.N, win1_1.index t = ![t.val / 4, t.val % 4, 0, 0] := (by decide +kernel : ∀ t : Fin grid1.N, _)
theorem rd1_1 (t : Fin cfg1.N) (G : Vec Ideal S2x4x256x256 .bf16) (r : Fin 256) (n : Fin 256) : (win1_1.blk t).view.read (Elt Ideal) G (ix4 0 0 r n) = G (ix4 ⟨t.val / 4, by have := (show t.val < 8 from t.isLt); omega⟩ ⟨t.val % 4, by omega⟩ r n) := by
  have e : (win1_1.blk t).view.emb (ix4 0 0 r n) = (ix4 ⟨t.val / 4, by have := (show t.val < 8 from t.isLt); omega⟩ ⟨t.val % 4, by omega⟩ r n) := by blk_ext [ix1_1]
  rw [View.read_apply]
  exact congrArg G e
theorem ib1_1 (t : Fin cfg1.N) : iblk1 V c 1 t = (win1_1.blk t).view.read (Elt Ideal) (V c main_v12) := rfl
theorem blk1_1 (t : Fin cfg1.N) (r : Fin 256) (n : Fin 256) : iblk1 V c 1 t (ix4 0 0 r n) = (V c main_v12 : Vec Ideal S2x4x256x256 .bf16) (ix4 ⟨t.val / 4, by have := (show t.val < 8 from t.isLt); omega⟩ ⟨t.val % 4, by omega⟩ r n) := by
  rw [ib1_1]
  exact rd1_1 t (V c main_v12) r n
theorem ix1_2 : ∀ t : Fin cfg1.N, win1_2.index t = ![t.val / 4, t.val % 4, 0, 0] := (by decide +kernel : ∀ t : Fin grid1.N, _)
theorem cov1_2 : (cfg1.win 2).Covers := by decide +kernel
theorem fin1_2 : (dat1 V c).arrAt 2 cfg1.N = zG (V c main_v8) (V c main_v12) := by
  refine Pipeline.Dat.arrAt_eq_of_covers _ 2 _ cov1_2 fun t hf y => ?_
  change ((dat1 V c).after 2 t : Vec Ideal S1x1x2048x256 .f32) y = (zG (V c main_v8) (V c main_v12)) ((win1_2.blk t).view.emb y)
  obtain ⟨r, n, rfl⟩ : ∃ (r : Fin 2048) (n : Fin 256), y = ix4 0 0 r n := ⟨y 2, y 3, (eq_ix4 y).trans (congrArg₂ (fun p q : Fin 1 => (ix4 p q (y 2) (y 3) : S1x1x2048x256.Idx)) (Subsingleton.elim (α := Fin 1) _ _) (Subsingleton.elim (α := Fin 1) _ _))⟩
  have e : (win1_2.blk t).view.emb (ix4 0 0 r n) = (ix4 ⟨t.val / 4, by have := (show t.val < 8 from t.isLt); omega⟩ ⟨t.val % 4, by omega⟩ r n) := by blk_ext [ix1_2]
  rw [after1_2, o1_2, e]
  simp only [blk1_0, blk1_1]
  rfl

/-! ## Region 2 -/

theorem ix2_0 : ∀ t : Fin cfg2.N, win2_0.index t = ![0, 0] := (by decide +kernel : ∀ t : Fin grid2.N, _)
theorem rd2_0 (t : Fin cfg2.N) (G : Vec Ideal S2048x1024 .bf16) (r : Fin 2048) (n : Fin 1024) : (win2_0.blk t).view.read (Elt Ideal) G (ix2 r n) = G (ix2 r n) := by
  have e : (win2_0.blk t).view.emb (ix2 r n) = (ix2 r n) := by blk_ext [ix2_0]
  rw [View.read_apply]
  exact congrArg G e
theorem ib2_0 (t : Fin cfg2.N) : iblk2 V c 0 t = (win2_0.blk t).view.read (Elt Ideal) (V c main_v1) := rfl
theorem blk2_0 (t : Fin cfg2.N) (r : Fin 2048) (n : Fin 1024) : iblk2 V c 0 t (ix2 r n) = (V c main_v1 : Vec Ideal S2048x1024 .bf16) (ix2 r n) := by
  rw [ib2_0]
  exact rd2_0 t (V c main_v1) r n
theorem ix2_1 : ∀ t : Fin cfg2.N, win2_1.index t = ![0, 0] := (by decide +kernel : ∀ t : Fin grid2.N, _)
theorem rd2_1 (t : Fin cfg2.N) (G : Vec Ideal S1024x1024 .bf16) (r : Fin 1024) (n : Fin 1024) : (win2_1.blk t).view.read (Elt Ideal) G (ix2 r n) = G (ix2 r n) := by
  have e : (win2_1.blk t).view.emb (ix2 r n) = (ix2 r n) := by blk_ext [ix2_1]
  rw [View.read_apply]
  exact congrArg G e
theorem ib2_1 (t : Fin cfg2.N) : iblk2 V c 1 t = (win2_1.blk t).view.read (Elt Ideal) (V c main_v3) := rfl
theorem blk2_1 (t : Fin cfg2.N) (r : Fin 1024) (n : Fin 1024) : iblk2 V c 1 t (ix2 r n) = (V c main_v3 : Vec Ideal S1024x1024 .bf16) (ix2 r n) := by
  rw [ib2_1]
  exact rd2_1 t (V c main_v3) r n
theorem ix2_2 : ∀ t : Fin cfg2.N, win2_2.index t = ![0, 0] := (by decide +kernel : ∀ t : Fin grid2.N, _)
theorem cov2_2 : (cfg2.win 2).Covers := by decide +kernel
theorem fin2_2 : (dat2 V c).arrAt 2 cfg2.N = yG (V c main_v1) (V c main_v3) := by
  refine Pipeline.Dat.arrAt_eq_of_covers _ 2 _ cov2_2 fun t hf y => ?_
  change ((dat2 V c).after 2 t : Vec Ideal S2048x1024 .f32) y = (yG (V c main_v1) (V c main_v3)) ((win2_2.blk t).view.emb y)
  obtain ⟨r, n, rfl⟩ : ∃ (r : Fin 2048) (n : Fin 1024), y = ix2 r n := ⟨y 0, y 1, eq_ix2 y⟩
  have e : (win2_2.blk t).view.emb (ix2 r n) = (ix2 r n) := by blk_ext [ix2_2]
  rw [after2_2, o2_2, e]
  simp only [blk2_0, blk2_1]
  rfl

/-! ## Region 3 -/

theorem ix3_0 : ∀ t : Fin cfg3.N, win3_0.index t = ![0, 0] := (by decide +kernel : ∀ t : Fin grid3.N, _)
theorem rd3_0 (t : Fin cfg3.N) (G : Vec Ideal S2048x1024 .bf16) (r : Fin 2048) (n : Fin 1024) : (win3_0.blk t).view.read (Elt Ideal) G (ix2 r n) = G (ix2 r n) := by
  have e : (win3_0.blk t).view.emb (ix2 r n) = (ix2 r n) := by blk_ext [ix3_0]
  rw [View.read_apply]
  exact congrArg G e
theorem ib3_0 (t : Fin cfg3.N) : iblk3 V c 0 t = (win3_0.blk t).view.read (Elt Ideal) (V c main_v2) := rfl
theorem blk3_0 (t : Fin cfg3.N) (r : Fin 2048) (n : Fin 1024) : iblk3 V c 0 t (ix2 r n) = (V c main_v2 : Vec Ideal S2048x1024 .bf16) (ix2 r n) := by
  rw [ib3_0]
  exact rd3_0 t (V c main_v2) r n
theorem ix3_1 : ∀ t : Fin cfg3.N, win3_1.index t = ![0, 0] := (by decide +kernel : ∀ t : Fin grid3.N, _)
theorem rd3_1 (t : Fin cfg3.N) (G : Vec Ideal S1024x1024 .bf16) (r : Fin 1024) (n : Fin 1024) : (win3_1.blk t).view.read (Elt Ideal) G (ix2 r n) = G (ix2 r n) := by
  have e : (win3_1.blk t).view.emb (ix2 r n) = (ix2 r n) := by blk_ext [ix3_1]
  rw [View.read_apply]
  exact congrArg G e
theorem ib3_1 (t : Fin cfg3.N) : iblk3 V c 1 t = (win3_1.blk t).view.read (Elt Ideal) (V c main_v3) := rfl
theorem blk3_1 (t : Fin cfg3.N) (r : Fin 1024) (n : Fin 1024) : iblk3 V c 1 t (ix2 r n) = (V c main_v3 : Vec Ideal S1024x1024 .bf16) (ix2 r n) := by
  rw [ib3_1]
  exact rd3_1 t (V c main_v3) r n
theorem ix3_2 : ∀ t : Fin cfg3.N, win3_2.index t = ![0, 0] := (by decide +kernel : ∀ t : Fin grid3.N, _)
theorem cov3_2 : (cfg3.win 2).Covers := by decide +kernel
theorem fin3_2 : (dat3 V c).arrAt 2 cfg3.N = dypG (V c main_v2) (V c main_v3) := by
  refine Pipeline.Dat.arrAt_eq_of_covers _ 2 _ cov3_2 fun t hf y => ?_
  change ((dat3 V c).after 2 t : Vec Ideal S2048x1024 .f32) y = (dypG (V c main_v2) (V c main_v3)) ((win3_2.blk t).view.emb y)
  obtain ⟨r, n, rfl⟩ : ∃ (r : Fin 2048) (n : Fin 1024), y = ix2 r n := ⟨y 0, y 1, eq_ix2 y⟩
  have e : (win3_2.blk t).view.emb (ix2 r n) = (ix2 r n) := by blk_ext [ix3_2]
  rw [after3_2, o3_2, e]
  simp only [blk3_0, blk3_1]
  rfl

/-! ## Region 4 -/

theorem ix4_0 : ∀ t : Fin cfg4.N, win4_0.index t = ![0, 0] := (by decide +kernel : ∀ t : Fin grid4.N, _)
theorem rd4_0 (t : Fin cfg4.N) (G : Vec Ideal S2048x1024 .bf16) (r : Fin 2048) (n : Fin 1024) : (win4_0.blk t).view.read (Elt Ideal) G (ix2 r n) = G (ix2 r n) := by
  have e : (win4_0.blk t).view.emb (ix2 r n) = (ix2 r n) := by blk_ext [ix4_0]
  rw [View.read_apply]
  exact congrArg G e
theorem ib4_0 (t : Fin cfg4.N) : iblk4 V c 0 t = (win4_0.blk t).view.read (Elt Ideal) (V c main_v1) := rfl
theorem blk4_0 (t : Fin cfg4.N) (r : Fin 2048) (n : Fin 1024) : iblk4 V c 0 t (ix2 r n) = (V c main_v1 : Vec Ideal S2048x1024 .bf16) (ix2 r n) := by
  rw [ib4_0]
  exact rd4_0 t (V c main_v1) r n
theorem ix4_1 : ∀ t : Fin cfg4.N, win4_1.index t = ![0, 0] := (by decide +kernel : ∀ t : Fin grid4.N, _)
theorem rd4_1 (t : Fin cfg4.N) (G : Vec Ideal S2048x1024 .bf16) (r : Fin 2048) (n : Fin 1024) : (win4_1.blk t).view.read (Elt Ideal) G (ix2 r n) = G (ix2 r n) := by
  have e : (win4_1.blk t).view.emb (ix2 r n) = (ix2 r n) := by blk_ext [ix4_1]
  rw [View.read_apply]
  exact congrArg G e
theorem ib4_1 (t : Fin cfg4.N) : iblk4 V c 1 t = (win4_1.blk t).view.read (Elt Ideal) (V c main_v2) := rfl
theorem blk4_1 (t : Fin cfg4.N) (r : Fin 2048) (n : Fin 1024) : iblk4 V c 1 t (ix2 r n) = (V c main_v2 : Vec Ideal S2048x1024 .bf16) (ix2 r n) := by
  rw [ib4_1]
  exact rd4_1 t (V c main_v2) r n
theorem ix4_2 : ∀ t : Fin cfg4.N, win4_2.index t = ![0, 0] := (by decide +kernel : ∀ t : Fin grid4.N, _)
theorem cov4_2 : (cfg4.win 2).Covers := by decide +kernel
theorem fin4_2 : (dat4 V c).arrAt 2 cfg4.N = dwoutG (V c main_v1) (V c main_v2) := by
  refine Pipeline.Dat.arrAt_eq_of_covers _ 2 _ cov4_2 fun t hf y => ?_
  change ((dat4 V c).after 2 t : Vec Ideal S1024x1024 .f32) y = (dwoutG (V c main_v1) (V c main_v2)) ((win4_2.blk t).view.emb y)
  obtain ⟨r, n, rfl⟩ : ∃ (r : Fin 1024) (n : Fin 1024), y = ix2 r n := ⟨y 0, y 1, eq_ix2 y⟩
  have e : (win4_2.blk t).view.emb (ix2 r n) = (ix2 r n) := by blk_ext [ix4_2]
  rw [after4_2, o4_2, e]
  simp only [blk4_0, blk4_1]
  rfl

/-! ## Region 5 -/

theorem ix5_0 : ∀ t : Fin cfg5.N, win5_0.index t = ![t.val % 4, 0, 0] := (by decide +kernel : ∀ t : Fin grid5.N, _)
theorem rd5_0 (t : Fin cfg5.N) (G : Vec Ideal S4x2048x256 .f32) (r : Fin 2048) (n : Fin 256) : (win5_0.blk t).view.read (Elt Ideal) G (ix3 0 r n) = G (ix3 ⟨t.val % 4, by omega⟩ r n) := by
  have e : (win5_0.blk t).view.emb (ix3 0 r n) = (ix3 ⟨t.val % 4, by omega⟩ r n) := by blk_ext [ix5_0]
  rw [View.read_apply]
  exact congrArg G e
theorem ib5_0 (t : Fin cfg5.N) : iblk5 V c 0 t = (win5_0.blk t).view.read (Elt Ideal) (V c main_v8) := rfl
theorem blk5_0 (t : Fin cfg5.N) (r : Fin 2048) (n : Fin 256) : iblk5 V c 0 t (ix3 0 r n) = (V c main_v8 : Vec Ideal S4x2048x256 .f32) (ix3 ⟨t.val % 4, by omega⟩ r n) := by
  rw [ib5_0]
  exact rd5_0 t (V c main_v8) r n
theorem ix5_1 : ∀ t : Fin cfg5.N, win5_1.index t = ![t.val / 4, t.val % 4, 0, 0] := (by decide +kernel : ∀ t : Fin grid5.N, _)
theorem rd5_1 (t : Fin cfg5.N) (G : Vec Ideal S2x4x2048x256 .bf16) (r : Fin 2048) (n : Fin 256) : (win5_1.blk t).view.read (Elt Ideal) G (ix4 0 0 r n) = G (ix4 ⟨t.val / 4, by have := (show t.val < 8 from t.isLt); omega⟩ ⟨t.val % 4, by omega⟩ r n) := by
  have e : (win5_1.blk t).view.emb (ix4 0 0 r n) = (ix4 ⟨t.val / 4, by have := (show t.val < 8 from t.isLt); omega⟩ ⟨t.val % 4, by omega⟩ r n) := by blk_ext [ix5_1]
  rw [View.read_apply]
  exact congrArg G e
theorem ib5_1 (t : Fin cfg5.N) : iblk5 V c 1 t = (win5_1.blk t).view.read (Elt Ideal) (V c main_v23) := rfl
theorem blk5_1 (t : Fin cfg5.N) (r : Fin 2048) (n : Fin 256) : iblk5 V c 1 t (ix4 0 0 r n) = (V c main_v23 : Vec Ideal S2x4x2048x256 .bf16) (ix4 ⟨t.val / 4, by have := (show t.val < 8 from t.isLt); omega⟩ ⟨t.val % 4, by omega⟩ r n) := by
  rw [ib5_1]
  exact rd5_1 t (V c main_v23) r n
theorem ix5_2 : ∀ t : Fin cfg5.N, win5_2.index t = ![t.val / 4, t.val % 4, 0, 0] := (by decide +kernel : ∀ t : Fin grid5.N, _)
theorem cov5_2 : (cfg5.win 2).Covers := by decide +kernel
theorem fin5_2 : (dat5 V c).arrAt 2 cfg5.N = dwaiG (V c main_v8) (V c main_v23) := by
  refine Pipeline.Dat.arrAt_eq_of_covers _ 2 _ cov5_2 fun t hf y => ?_
  change ((dat5 V c).after 2 t : Vec Ideal S1x1x256x256 .f32) y = (dwaiG (V c main_v8) (V c main_v23)) ((win5_2.blk t).view.emb y)
  obtain ⟨r, n, rfl⟩ : ∃ (r : Fin 256) (n : Fin 256), y = ix4 0 0 r n := ⟨y 2, y 3, (eq_ix4 y).trans (congrArg₂ (fun p q : Fin 1 => (ix4 p q (y 2) (y 3) : S1x1x256x256.Idx)) (Subsingleton.elim (α := Fin 1) _ _) (Subsingleton.elim (α := Fin 1) _ _))⟩
  have e : (win5_2.blk t).view.emb (ix4 0 0 r n) = (ix4 ⟨t.val / 4, by have := (show t.val < 8 from t.isLt); omega⟩ ⟨t.val % 4, by omega⟩ r n) := by blk_ext [ix5_2]
  rw [after5_2, o5_2, e]
  simp only [blk5_0, blk5_1]
  rfl

/-! ## Region 6 -/

theorem ix6_0 : ∀ t : Fin cfg6.N, win6_0.index t = ![0, 0] := (by decide +kernel : ∀ t : Fin grid6.N, _)
theorem rd6_0 (t : Fin cfg6.N) (G : Vec Ideal S2048x1024 .bf16) (r : Fin 2048) (n : Fin 1024) : (win6_0.blk t).view.read (Elt Ideal) G (ix2 r n) = G (ix2 r n) := by
  have e : (win6_0.blk t).view.emb (ix2 r n) = (ix2 r n) := by blk_ext [ix6_0]
  rw [View.read_apply]
  exact congrArg G e
theorem ib6_0 (t : Fin cfg6.N) : iblk6 V c 0 t = (win6_0.blk t).view.read (Elt Ideal) (V c main_v0) := rfl
theorem blk6_0 (t : Fin cfg6.N) (r : Fin 2048) (n : Fin 1024) : iblk6 V c 0 t (ix2 r n) = (V c main_v0 : Vec Ideal S2048x1024 .bf16) (ix2 r n) := by
  rw [ib6_0]
  exact rd6_0 t (V c main_v0) r n
theorem ix6_1 : ∀ t : Fin cfg6.N, win6_1.index t = ![t.val, 0, 0] := (by decide +kernel : ∀ t : Fin grid6.N, _)
theorem rd6_1 (t : Fin cfg6.N) (G : Vec Ideal S8x2048x256 .bf16) (r : Fin 2048) (n : Fin 256) : (win6_1.blk t).view.read (Elt Ideal) G (ix3 0 r n) = G (ix3 ⟨t.val, t.isLt⟩ r n) := by
  have e : (win6_1.blk t).view.emb (ix3 0 r n) = (ix3 ⟨t.val, t.isLt⟩ r n) := by blk_ext [ix6_1]
  rw [View.read_apply]
  exact congrArg G e
theorem ib6_1 (t : Fin cfg6.N) : iblk6 V c 1 t = (win6_1.blk t).view.read (Elt Ideal) (V c main_v15) := rfl
theorem blk6_1 (t : Fin cfg6.N) (r : Fin 2048) (n : Fin 256) : iblk6 V c 1 t (ix3 0 r n) = (V c main_v15 : Vec Ideal S8x2048x256 .bf16) (ix3 ⟨t.val, t.isLt⟩ r n) := by
  rw [ib6_1]
  exact rd6_1 t (V c main_v15) r n
theorem ix6_2 : ∀ t : Fin cfg6.N, win6_2.index t = ![t.val, 0, 0] := (by decide +kernel : ∀ t : Fin grid6.N, _)
theorem cov6_2 : (cfg6.win 2).Covers := by decide +kernel
theorem fin6_2 : (dat6 V c).arrAt 2 cfg6.N = dwinG (V c main_v0) (V c main_v15) := by
  refine Pipeline.Dat.arrAt_eq_of_covers _ 2 _ cov6_2 fun t hf y => ?_
  change ((dat6 V c).after 2 t : Vec Ideal S1x1024x256 .f32) y = (dwinG (V c main_v0) (V c main_v15)) ((win6_2.blk t).view.emb y)
  obtain ⟨r, n, rfl⟩ : ∃ (r : Fin 1024) (n : Fin 256), y = ix3 0 r n := ⟨y 1, y 2, (eq_ix3 y).trans (congrArg (fun p : Fin 1 => (ix3 p (y 1) (y 2) : S1x1024x256.Idx)) (Subsingleton.elim (α := Fin 1) _ _))⟩
  have e : (win6_2.blk t).view.emb (ix3 0 r n) = (ix3 ⟨t.val, t.isLt⟩ r n) := by blk_ext [ix6_2]
  rw [after6_2, o6_2, e]
  simp only [blk6_0, blk6_1]
  rfl

/-! ## Region 7 -/

theorem ix7_0 : ∀ t : Fin cfg7.N, win7_0.index t = ![0, t.val, 0] := (by decide +kernel : ∀ t : Fin grid7.N, _)
theorem rd7_0 (t : Fin cfg7.N) (G : Vec Ideal S8x2048x256 .bf16) (q : Fin 8) (r : Fin 512) (n : Fin 256) : (win7_0.blk t).view.read (Elt Ideal) G (ix3 q r n) = G (ix3 q ⟨t.val * 512 + r.val, by have := (show t.val < 4 from t.isLt); omega⟩ n) := by
  have e : (win7_0.blk t).view.emb (ix3 q r n) = (ix3 q ⟨t.val * 512 + r.val, by have := (show t.val < 4 from t.isLt); omega⟩ n) := by blk_ext [ix7_0]
  rw [View.read_apply]
  exact congrArg G e
theorem ib7_0 (t : Fin cfg7.N) : iblk7 V c 0 t = (win7_0.blk t).view.read (Elt Ideal) (V c main_v15) := rfl
theorem blk7_0 (t : Fin cfg7.N) (q : Fin 8) (r : Fin 512) (n : Fin 256) : iblk7 V c 0 t (ix3 q r n) = (V c main_v15 : Vec Ideal S8x2048x256 .bf16) (ix3 q ⟨t.val * 512 + r.val, by have := (show t.val < 4 from t.isLt); omega⟩ n) := by
  rw [ib7_0]
  exact rd7_0 t (V c main_v15) q r n
theorem ix7_1 : ∀ t : Fin cfg7.N, win7_1.index t = ![0, 0, 0] := (by decide +kernel : ∀ t : Fin grid7.N, _)
theorem rd7_1 (t : Fin cfg7.N) (G : Vec Ideal S8x1024x256 .bf16) (q : Fin 8) (r : Fin 1024) (n : Fin 256) : (win7_1.blk t).view.read (Elt Ideal) G (ix3 q r n) = G (ix3 q r n) := by
  have e : (win7_1.blk t).view.emb (ix3 q r n) = (ix3 q r n) := by blk_ext [ix7_1]
  rw [View.read_apply]
  exact congrArg G e
theorem ib7_1 (t : Fin cfg7.N) : iblk7 V c 1 t = (win7_1.blk t).view.read (Elt Ideal) (V c main_v6) := rfl
theorem blk7_1 (t : Fin cfg7.N) (q : Fin 8) (r : Fin 1024) (n : Fin 256) : iblk7 V c 1 t (ix3 q r n) = (V c main_v6 : Vec Ideal S8x1024x256 .bf16) (ix3 q r n) := by
  rw [ib7_1]
  exact rd7_1 t (V c main_v6) q r n
theorem ix7_2 : ∀ t : Fin cfg7.N, win7_2.index t = ![t.val, 0] := (by decide +kernel : ∀ t : Fin grid7.N, _)
theorem cov7_2 : (cfg7.win 2).Covers := by decide +kernel
theorem fin7_2 : (dat7 V c).arrAt 2 cfg7.N = dhG (V c main_v15) (V c main_v6) := by
  refine Pipeline.Dat.arrAt_eq_of_covers _ 2 _ cov7_2 fun t hf y => ?_
  change ((dat7 V c).after 2 t : Vec Ideal S512x1024 .f32) y = (dhG (V c main_v15) (V c main_v6)) ((win7_2.blk t).view.emb y)
  obtain ⟨r, n, rfl⟩ : ∃ (r : Fin 512) (n : Fin 1024), y = ix2 r n := ⟨y 0, y 1, eq_ix2 y⟩
  have e : (win7_2.blk t).view.emb (ix2 r n) = (ix2 ⟨t.val * 512 + r.val, by have := (show t.val < 4 from t.isLt); omega⟩ n) := by blk_ext [ix7_2]
  rw [after7_2, o7_2, e]
  simp only [blk7_0, blk7_1]
  rfl

end Cert.Lru

end
-- ==== Proof.LruRun.lean ====
/-
  The eight results of the gated recurrence's products at the end of any run, as formulas of the arguments: the host's
  casts and rearrangements, then the regions in order.
-/
module

public import proofs.«01_k».proof.Proof.LruRegions
public import Idealize.ShloMosaic.Lib.StableHlo.RunRead

@[expose] public section

set_option maxHeartbeats 1600000
set_option maxRecDepth 16384

noncomputable section

namespace Cert.Lru

open Idealize.ShloMosaic Idealize.ShloMosaic.TcCoe Cert.Kernel4Ideal Cert.Kernel4Ideal.Gen Cert.Kernel4Ideal.Facts

/-! ## The operands as the host prepares them, and the results -/

section Terms
variable (H : FVec Ideal S2048x1024 .f32) (Wi : FVec Ideal S1024x2048 .f32) (U : FVec Ideal S2048x1024 .f32) (A B : FVec Ideal S4x256x256 .f32) (P : FVec Ideal S2048x1024 .f32)
  (Wo : FVec Ideal S1024x1024 .f32) (D : FVec Ideal S2048x2048 .f32) (DR DI Y : FVec Ideal S2048x1024 .f32)

/-- A row operand, in the kernel's format. -/
def rowB : FVec Ideal S2048x1024 .bf16 := truncf .bf16 H bitsLt_bf16_f32
/-- The output weight. -/
def woB : FVec Ideal S1024x1024 .bf16 := truncf .bf16 Wo bitsLt_bf16_f32
/-- The input weight in eight blocks of columns. -/
def winB : FVec Ideal S8x1024x256 .bf16 :=
  transpose S8x1024x256 [1, 0, 2] (shapeCast S1024x8x256 (truncf .bf16 Wi bitsLt_bf16_f32 : FVec Ideal S1024x2048 .bf16) shapeCasts_S1024x2048_S1024x8x256 : FVec Ideal S1024x8x256 .bf16) transposes_S1024x8x256_S8x1024x256_1_0_2
/-- A row operand in four blocks of columns. -/
def blkU : FVec Ideal S4x2048x256 .f32 :=
  transpose S4x2048x256 [1, 0, 2] (shapeCast S2048x4x256 U shapeCasts_S2048x1024_S2048x4x256 : FVec Ideal S2048x4x256 .f32) transposes_S2048x4x256_S4x2048x256_1_0_2
/-- The two gates' weights, one above the other. -/
def waiB : FVec Ideal S2x4x256x256 .bf16 :=
  truncf .bf16 (concatenate S2x4x256x256 0 [⟨S1x4x256x256, broadcastInDim S1x4x256x256 ![1, 2, 3] bcast_S4x256x256_S1x4x256x256_1_2_3 A⟩, ⟨S1x4x256x256, broadcastInDim S1x4x256x256 ![1, 2, 3] bcast_S4x256x256_S1x4x256x256_1_2_3 B⟩] concatenates_S1x4x256x256_S1x4x256x256_S2x4x256x256_d0 : FVec Ideal S2x4x256x256 .f32) bitsLt_bf16_f32
/-- The input projection's cotangent in eight blocks. -/
def dguB : FVec Ideal S8x2048x256 .bf16 :=
  truncf .bf16 (transpose S8x2048x256 [1, 0, 2] (shapeCast S2048x8x256 D shapeCasts_S2048x2048_S2048x8x256 : FVec Ideal S2048x8x256 .f32) transposes_S2048x8x256_S8x2048x256_1_0_2 : FVec Ideal S8x2048x256 .f32) bitsLt_bf16_f32
/-- The two gates' cotangents, one above the other. -/
def dzB : FVec Ideal S2x4x2048x256 .bf16 :=
  truncf .bf16 (concatenate S2x4x2048x256 0 [⟨S1x4x2048x256, broadcastInDim S1x4x2048x256 ![1, 2, 3] bcast_S4x2048x256_S1x4x2048x256_1_2_3 (blkU DR)⟩, ⟨S1x4x2048x256, broadcastInDim S1x4x2048x256 ![1, 2, 3] bcast_S4x2048x256_S1x4x2048x256_1_2_3 (blkU DI)⟩] concatenates_S1x4x2048x256_S1x4x2048x256_S2x4x2048x256_d0 : FVec Ideal S2x4x2048x256 .f32) bitsLt_bf16_f32

def resGu : Vec Ideal S8x2048x256 .f32 := guG (rowB H) (winB Wi)
def resZ : Vec Ideal S2x4x2048x256 .f32 := zG (blkU U) (waiB A B)
def resY : Vec Ideal S2048x1024 .f32 := yG (rowB P) (woB Wo)
def resDyp : Vec Ideal S2048x1024 .f32 := dypG (rowB Y) (woB Wo)
def resDwout : Vec Ideal S1024x1024 .f32 := dwoutG (rowB P) (rowB Y)
def resDwai : Vec Ideal S2x4x256x256 .f32 := dwaiG (blkU U) (dzB DR DI)
def resDwin : Vec Ideal S8x1024x256 .f32 := dwinG (rowB H) (dguB D)
def resDh : Vec Ideal S2048x1024 .f32 := dhG (dguB D) (winB Wi)
end Terms

variable (m : (ℓ : Loc nD τ sig) → Buf (Elt Ideal) ℓ) (ρ : Dev nD → PrngReg) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)
local notation "X3" => m (Thread.loc (Dev.tc c : Thread nD τ) main_arg3)
local notation "X4" => m (Thread.loc (Dev.tc c : Thread nD τ) main_arg4)
local notation "X5" => m (Thread.loc (Dev.tc c : Thread nD τ) main_arg5)
local notation "X6" => m (Thread.loc (Dev.tc c : Thread nD τ) main_arg6)
local notation "X7" => m (Thread.loc (Dev.tc c : Thread nD τ) main_arg7)
local notation "X8" => m (Thread.loc (Dev.tc c : Thread nD τ) main_arg8)
local notation "X9" => m (Thread.loc (Dev.tc c : Thread nD τ) main_arg9)
local notation "X10" => m (Thread.loc (Dev.tc c : Thread nD τ) main_arg10)

/-! ## After the host's stretch -/

theorem V1_v0 : V1 m ρ c main_v0 = rowB X0 := by
  change StableHlo.after hostOps0 (W0 m ρ c) _ = _
  after_reads_simp
  rfl
theorem V1_v1 : V1 m ρ c main_v1 = rowB X5 := by
  change StableHlo.after hostOps0 (W0 m ρ c) _ = _
  after_reads_simp
  rfl
theorem V1_v2 : V1 m ρ c main_v2 = rowB X10 := by
  change StableHlo.after hostOps0 (W0 m ρ c) _ = _
  after_reads_simp
  rfl
theorem V1_v3 : V1 m ρ c main_v3 = woB X6 := by
  change StableHlo.after hostOps0 (W0 m ρ c) _ = _
  after_reads_simp
  rfl
theorem V1_v6 : V1 m ρ c main_v6 = winB X1 := by
  change StableHlo.after hostOps0 (W0 m ρ c) _ = _
  after_reads_simp
  rfl
theorem V1_v8 : V1 m ρ c main_v8 = blkU X2 := by
  change StableHlo.after hostOps0 (W0 m ρ c) _ = _
  after_reads_simp
  rfl
theorem V1_v12 : V1 m ρ c main_v12 = waiB X3 X4 := by
  change StableHlo.after hostOps0 (W0 m ρ c) _ = _
  after_reads_simp
  rfl
theorem V1_v15 : V1 m ρ c main_v15 = dguB X7 := by
  change StableHlo.after hostOps0 (W0 m ρ c) _ = _
  after_reads_simp
  rfl
theorem V1_v23 : V1 m ρ c main_v23 = dzB X8 X9 := by
  change StableHlo.after hostOps0 (W0 m ρ c) _ = _
  after_reads_simp
  rfl

/-! ## The regions in order -/

theorem V2_v24 : V2 m ρ c main_v24 = resGu X0 X1 := by
  refine (W2_arr m ρ c 2).trans ((fin0_2 (V1 m ρ) c).trans ?_)
  rw [V1_v0, V1_v6]
  rfl
theorem V2_v0 : V2 m ρ c main_v0 = rowB X0 := (W2_of m ρ c main_v0 (by decide +kernel)).trans (V1_v0 m ρ c)
theorem V2_v1 : V2 m ρ c main_v1 = rowB X5 := (W2_of m ρ c main_v1 (by decide +kernel)).trans (V1_v1 m ρ c)
theorem V2_v2 : V2 m ρ c main_v2 = rowB X10 := (W2_of m ρ c main_v2 (by decide +kernel)).trans (V1_v2 m ρ c)
theorem V2_v3 : V2 m ρ c main_v3 = woB X6 := (W2_of m ρ c main_v3 (by decide +kernel)).trans (V1_v3 m ρ c)
theorem V2_v6 : V2 m ρ c main_v6 = winB X1 := (W2_of m ρ c main_v6 (by decide +kernel)).trans (V1_v6 m ρ c)
theorem V2_v8 : V2 m ρ c main_v8 = blkU X2 := (W2_of m ρ c main_v8 (by decide +kernel)).trans (V1_v8 m ρ c)
theorem V2_v12 : V2 m ρ c main_v12 = waiB X3 X4 := (W2_of m ρ c main_v12 (by decide +kernel)).trans (V1_v12 m ρ c)
theorem V2_v15 : V2 m ρ c main_v15 = dguB X7 := (W2_of m ρ c main_v15 (by decide +kernel)).trans (V1_v15 m ρ c)
theorem V2_v23 : V2 m ρ c main_v23 = dzB X8 X9 := (W2_of m ρ c main_v23 (by decide +kernel)).trans (V1_v23 m ρ c)

theorem V3_v25 : V3 m ρ c main_v25 = resZ X2 X3 X4 := by
  refine (W3_arr m ρ c 2).trans ((fin1_2 (V2 m ρ) c).trans ?_)
  rw [V2_v8, V2_v12]
  rfl
theorem V3_v24 : V3 m ρ c main_v24 = resGu X0 X1 := (W3_of m ρ c main_v24 (by decide +kernel)).trans (V2_v24 m ρ c)
theorem V3_v0 : V3 m ρ c main_v0 = rowB X0 := (W3_of m ρ c main_v0 (by decide +kernel)).trans (V2_v0 m ρ c)
theorem V3_v1 : V3 m ρ c main_v1 = rowB X5 := (W3_of m ρ c main_v1 (by decide +kernel)).trans (V2_v1 m ρ c)
theorem V3_v2 : V3 m ρ c main_v2 = rowB X10 := (W3_of m ρ c main_v2 (by decide +kernel)).trans (V2_v2 m ρ c)
theorem V3_v3 : V3 m ρ c main_v3 = woB X6 := (W3_of m ρ c main_v3 (by decide +kernel)).trans (V2_v3 m ρ c)
theorem V3_v6 : V3 m ρ c main_v6 = winB X1 := (W3_of m ρ c main_v6 (by decide +kernel)).trans (V2_v6 m ρ c)
theorem V3_v8 : V3 m ρ c main_v8 = blkU X2 := (W3_of m ρ c main_v8 (by decide +kernel)).trans (V2_v8 m ρ c)
theorem V3_v15 : V3 m ρ c main_v15 = dguB X7 := (W3_of m ρ c main_v15 (by decide +kernel)).trans (V2_v15 m ρ c)
theorem V3_v23 : V3 m ρ c main_v23 = dzB X8 X9 := (W3_of m ρ c main_v23 (by decide +kernel)).trans (V2_v23 m ρ c)

theorem V4_v26 : V4 m ρ c main_v26 = resY X5 X6 := by
  refine (W4_arr m ρ c 2).trans ((fin2_2 (V3 m ρ) c).trans ?_)
  rw [V3_v1, V3_v3]
  rfl
theorem V4_v25 : V4 m ρ c main_v25 = resZ X2 X3 X4 := (W4_of m ρ c main_v25 (by decide +kernel)).trans (V3_v25 m ρ c)
theorem V4_v24 : V4 m ρ c main_v24 = resGu X0 X1 := (W4_of m ρ c main_v24 (by decide +kernel)).trans (V3_v24 m ρ c)
theorem V4_v0 : V4 m ρ c main_v0 = rowB X0 := (W4_of m ρ c main_v0 (by decide +kernel)).trans (V3_v0 m ρ c)
theorem V4_v1 : V4 m ρ c main_v1 = rowB X5 := (W4_of m ρ c main_v1 (by decide +kernel)).trans (V3_v1 m ρ c)
theorem V4_v2 : V4 m ρ c main_v2 = rowB X10 := (W4_of m ρ c main_v2 (by decide +kernel)).trans (V3_v2 m ρ c)
theorem V4_v3 : V4 m ρ c main_v3 = woB X6 := (W4_of m ρ c main_v3 (by decide +kernel)).trans (V3_v3 m ρ c)
theorem V4_v6 : V4 m ρ c main_v6 = winB X1 := (W4_of m ρ c main_v6 (by decide +kernel)).trans (V3_v6 m ρ c)
theorem V4_v8 : V4 m ρ c main_v8 = blkU X2 := (W4_of m ρ c main_v8 (by decide +kernel)).trans (V3_v8 m ρ c)
theorem V4_v15 : V4 m ρ c main_v15 = dguB X7 := (W4_of m ρ c main_v15 (by decide +kernel)).trans (V3_v15 m ρ c)
theorem V4_v23 : V4 m ρ c main_v23 = dzB X8 X9 := (W4_of m ρ c main_v23 (by decide +kernel)).trans (V3_v23 m ρ c)

theorem V5_v27 : V5 m ρ c main_v27 = resDyp X6 X10 := by
  refine (W5_arr m ρ c 2).trans ((fin3_2 (V4 m ρ) c).trans ?_)
  rw [V4_v2, V4_v3]
  rfl
theorem V5_v26 : V5 m ρ c main_v26 = resY X5 X6 := (W5_of m ρ c main_v26 (by decide +kernel)).trans (V4_v26 m ρ c)
theorem V5_v25 : V5 m ρ c main_v25 = resZ X2 X3 X4 := (W5_of m ρ c main_v25 (by decide +kernel)).trans (V4_v25 m ρ c)
theorem V5_v24 : V5 m ρ c main_v24 = resGu X0 X1 := (W5_of m ρ c main_v24 (by decide +kernel)).trans (V4_v24 m ρ c)
theorem V5_v0 : V5 m ρ c main_v0 = rowB X0 := (W5_of m ρ c main_v0 (by decide +kernel)).trans (V4_v0 m ρ c)
theorem V5_v1 : V5 m ρ c main_v1 = rowB X5 := (W5_of m ρ c main_v1 (by decide +kernel)).trans (V4_v1 m ρ c)
theorem V5_v2 : V5 m ρ c main_v2 = rowB X10 := (W5_of m ρ c main_v2 (by decide +kernel)).trans (V4_v2 m ρ c)
theorem V5_v6 : V5 m ρ c main_v6 = winB X1 := (W5_of m ρ c main_v6 (by decide +kernel)).trans (V4_v6 m ρ c)
theorem V5_v8 : V5 m ρ c main_v8 = blkU X2 := (W5_of m ρ c main_v8 (by decide +kernel)).trans (V4_v8 m ρ c)
theorem V5_v15 : V5 m ρ c main_v15 = dguB X7 := (W5_of m ρ c main_v15 (by decide +kernel)).trans (V4_v15 m ρ c)
theorem V5_v23 : V5 m ρ c main_v23 = dzB X8 X9 := (W5_of m ρ c main_v23 (by decide +kernel)).trans (V4_v23 m ρ c)

theorem V6_v28 : V6 m ρ c main_v28 = resDwout X5 X10 := by
  refine (W6_arr m ρ c 2).trans ((fin4_2 (V5 m ρ) c).trans ?_)
  rw [V5_v1, V5_v2]
  rfl
theorem V6_v27 : V6 m ρ c main_v27 = resDyp X6 X10 := (W6_of m ρ c main_v27 (by decide +kernel)).trans (V5_v27 m ρ c)
theorem V6_v26 : V6 m ρ c main_v26 = resY X5 X6 := (W6_of m ρ c main_v26 (by decide +kernel)).trans (V5_v26 m ρ c)
theorem V6_v25 : V6 m ρ c main_v25 = resZ X2 X3 X4 := (W6_of m ρ c main_v25 (by decide +kernel)).trans (V5_v25 m ρ c)
theorem V6_v24 : V6 m ρ c main_v24 = resGu X0 X1 := (W6_of m ρ c main_v24 (by decide +kernel)).trans (V5_v24 m ρ c)
theorem V6_v0 : V6 m ρ c main_v0 = rowB X0 := (W6_of m ρ c main_v0 (by decide +kernel)).trans (V5_v0 m ρ c)
theorem V6_v6 : V6 m ρ c main_v6 = winB X1 := (W6_of m ρ c main_v6 (by decide +kernel)).trans (V5_v6 m ρ c)
theorem V6_v8 : V6 m ρ c main_v8 = blkU X2 := (W6_of m ρ c main_v8 (by decide +kernel)).trans (V5_v8 m ρ c)
theorem V6_v15 : V6 m ρ c main_v15 = dguB X7 := (W6_of m ρ c main_v15 (by decide +kernel)).trans (V5_v15 m ρ c)
theorem V6_v23 : V6 m ρ c main_v23 = dzB X8 X9 := (W6_of m ρ c main_v23 (by decide +kernel)).trans (V5_v23 m ρ c)

theorem V7_v29 : V7 m ρ c main_v29 = resDwai X2 X8 X9 := by
  refine (W7_arr m ρ c 2).trans ((fin5_2 (V6 m ρ) c).trans ?_)
  rw [V6_v8, V6_v23]
  rfl
theorem V7_v28 : V7 m ρ c main_v28 = resDwout X5 X10 := (W7_of m ρ c main_v28 (by decide +kernel)).trans (V6_v28 m ρ c)
theorem V7_v27 : V7 m ρ c main_v27 = resDyp X6 X10 := (W7_of m ρ c main_v27 (by decide +kernel)).trans (V6_v27 m ρ c)
theorem V7_v26 : V7 m ρ c main_v26 = resY X5 X6 := (W7_of m ρ c main_v26 (by decide +kernel)).trans (V6_v26 m ρ c)
theorem V7_v25 : V7 m ρ c main_v25 = resZ X2 X3 X4 := (W7_of m ρ c main_v25 (by decide +kernel)).trans (V6_v25 m ρ c)
theorem V7_v24 : V7 m ρ c main_v24 = resGu X0 X1 := (W7_of m ρ c main_v24 (by decide +kernel)).trans (V6_v24 m ρ c)
theorem V7_v0 : V7 m ρ c main_v0 = rowB X0 := (W7_of m ρ c main_v0 (by decide +kernel)).trans (V6_v0 m ρ c)
theorem V7_v6 : V7 m ρ c main_v6 = winB X1 := (W7_of m ρ c main_v6 (by decide +kernel)).trans (V6_v6 m ρ c)
theorem V7_v15 : V7 m ρ c main_v15 = dguB X7 := (W7_of m ρ c main_v15 (by decide +kernel)).trans (V6_v15 m ρ c)

theorem V8_v30 : V8 m ρ c main_v30 = resDwin X0 X7 := by
  refine (W8_arr m ρ c 2).trans ((fin6_2 (V7 m ρ) c).trans ?_)
  rw [V7_v0, V7_v15]
  rfl
theorem V8_v29 : V8 m ρ c main_v29 = resDwai X2 X8 X9 := (W8_of m ρ c main_v29 (by decide +kernel)).trans (V7_v29 m ρ c)
theorem V8_v28 : V8 m ρ c main_v28 = resDwout X5 X10 := (W8_of m ρ c main_v28 (by decide +kernel)).trans (V7_v28 m ρ c)
theorem V8_v27 : V8 m ρ c main_v27 = resDyp X6 X10 := (W8_of m ρ c main_v27 (by decide +kernel)).trans (V7_v27 m ρ c)
theorem V8_v26 : V8 m ρ c main_v26 = resY X5 X6 := (W8_of m ρ c main_v26 (by decide +kernel)).trans (V7_v26 m ρ c)
theorem V8_v25 : V8 m ρ c main_v25 = resZ X2 X3 X4 := (W8_of m ρ c main_v25 (by decide +kernel)).trans (V7_v25 m ρ c)
theorem V8_v24 : V8 m ρ c main_v24 = resGu X0 X1 := (W8_of m ρ c main_v24 (by decide +kernel)).trans (V7_v24 m ρ c)
theorem V8_v6 : V8 m ρ c main_v6 = winB X1 := (W8_of m ρ c main_v6 (by decide +kernel)).trans (V7_v6 m ρ c)
theorem V8_v15 : V8 m ρ c main_v15 = dguB X7 := (W8_of m ρ c main_v15 (by decide +kernel)).trans (V7_v15 m ρ c)

theorem V9_v31 : V9 m ρ c main_v31 = resDh X1 X7 := by
  refine (W9_arr m ρ c 2).trans ((fin7_2 (V8 m ρ) c).trans ?_)
  rw [V8_v15, V8_v6]
  rfl
theorem V9_v30 : V9 m ρ c main_v30 = resDwin X0 X7 := (W9_of m ρ c main_v30 (by decide +kernel)).trans (V8_v30 m ρ c)
theorem V9_v29 : V9 m ρ c main_v29 = resDwai X2 X8 X9 := (W9_of m ρ c main_v29 (by decide +kernel)).trans (V8_v29 m ρ c)
theorem V9_v28 : V9 m ρ c main_v28 = resDwout X5 X10 := (W9_of m ρ c main_v28 (by decide +kernel)).trans (V8_v28 m ρ c)
theorem V9_v27 : V9 m ρ c main_v27 = resDyp X6 X10 := (W9_of m ρ c main_v27 (by decide +kernel)).trans (V8_v27 m ρ c)
theorem V9_v26 : V9 m ρ c main_v26 = resY X5 X6 := (W9_of m ρ c main_v26 (by decide +kernel)).trans (V8_v26 m ρ c)
theorem V9_v25 : V9 m ρ c main_v25 = resZ X2 X3 X4 := (W9_of m ρ c main_v25 (by decide +kernel)).trans (V8_v25 m ρ c)
theorem V9_v24 : V9 m ρ c main_v24 = resGu X0 X1 := (W9_of m ρ c main_v24 (by decide +kernel)).trans (V8_v24 m ρ c)

/-! ## The run: the generated frame's set-up, at the results as well as the arguments -/

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem ends : θ_run defs (onTc (τ := τ) (main (F := Ideal))) ⟨m, fun _ => 0, ρ⟩ (fun r => ∀ c : Dev nD,
      r.2.mem ((c.tc : Thread nD τ).loc main_v24) = V9 m ρ c main_v24
      ∧ r.2.mem ((c.tc : Thread nD τ).loc main_v25) = V9 m ρ c main_v25
      ∧ r.2.mem ((c.tc : Thread nD τ).loc main_v26) = V9 m ρ c main_v26
      ∧ r.2.mem ((c.tc : Thread nD τ).loc main_v27) = V9 m ρ c main_v27
      ∧ r.2.mem ((c.tc : Thread nD τ).loc main_v28) = V9 m ρ c main_v28
      ∧ r.2.mem ((c.tc : Thread nD τ).loc main_v29) = V9 m ρ c main_v29
      ∧ r.2.mem ((c.tc : Thread nD τ).loc main_v30) = V9 m ρ c main_v30
      ∧ r.2.mem ((c.tc : Thread nD τ).loc main_v31) = V9 m ρ c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v24 (by decide)), h c _ (mem_uc main_v25 (by decide)), h c _ (mem_uc main_v26 (by decide)), h c _ (mem_uc main_v27 (by decide)), h c _ (mem_uc main_v28 (by decide)), h c _ (mem_uc main_v29 (by decide)), h c _ (mem_uc main_v30 (by decide)), h c _ (mem_uc main_v31 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

/-- Every run of the kernel ends with these results, its arguments unchanged. -/
theorem kernel_ends : θ_run defs (onTc (τ := τ) (main (F := Ideal))) ⟨m, fun _ => 0, ρ⟩ (fun r => ∀ c : Dev nD,
      r.2.mem ((c.tc : Thread nD τ).loc main_v24) = resGu (m ((c.tc : Thread nD τ).loc main_arg0)) (m ((c.tc : Thread nD τ).loc main_arg1))
      ∧ r.2.mem ((c.tc : Thread nD τ).loc main_v25) = resZ (m ((c.tc : Thread nD τ).loc main_arg2)) (m ((c.tc : Thread nD τ).loc main_arg3)) (m ((c.tc : Thread nD τ).loc main_arg4))
      ∧ r.2.mem ((c.tc : Thread nD τ).loc main_v26) = resY (m ((c.tc : Thread nD τ).loc main_arg5)) (m ((c.tc : Thread nD τ).loc main_arg6))
      ∧ r.2.mem ((c.tc : Thread nD τ).loc main_v27) = resDyp (m ((c.tc : Thread nD τ).loc main_arg6)) (m ((c.tc : Thread nD τ).loc main_arg10))
      ∧ r.2.mem ((c.tc : Thread nD τ).loc main_v28) = resDwout (m ((c.tc : Thread nD τ).loc main_arg5)) (m ((c.tc : Thread nD τ).loc main_arg10))
      ∧ r.2.mem ((c.tc : Thread nD τ).loc main_v29) = resDwai (m ((c.tc : Thread nD τ).loc main_arg2)) (m ((c.tc : Thread nD τ).loc main_arg8)) (m ((c.tc : Thread nD τ).loc main_arg9))
      ∧ r.2.mem ((c.tc : Thread nD τ).loc main_v30) = resDwin (m ((c.tc : Thread nD τ).loc main_arg0)) (m ((c.tc : Thread nD τ).loc main_arg7))
      ∧ r.2.mem ((c.tc : Thread nD τ).loc main_v31) = resDh (m ((c.tc : Thread nD τ).loc main_arg1)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (ends m ρ)
  obtain ⟨h0, h1, h2, h3, h4, h5, h6, h7, ha⟩ := h c
  exact ⟨h0.trans (V9_v24 m ρ c), h1.trans (V9_v25 m ρ c), h2.trans (V9_v26 m ρ c), h3.trans (V9_v27 m ρ c), h4.trans (V9_v28 m ρ c), h5.trans (V9_v29 m ρ c), h6.trans (V9_v30 m ρ c), h7.trans (V9_v31 m ρ c), ha⟩

end Cert.Lru

end
-- ==== Proof.LruRef.lean ====
/-
  The gated recurrence's reference products by stages, and each stage element by element.
-/
module

public import proofs.«01_k».proof.Proof.Gen.Reference4Ideal.Run
public import Idealize.ShloMosaic.Lib.Pointwise
public import Idealize.ShloMosaic.Lib.IdealHost

@[expose] public section

set_option maxHeartbeats 1600000
set_option maxRecDepth 16384

noncomputable section

namespace Cert.Lru.Ref

open Idealize.ShloMosaic Cert.Reference4Ideal Cert.Reference4Ideal.Gen Cert.Reference4Ideal.Facts

variable (H : FVec Ideal S2048x1024 .f32) (Wi : FVec Ideal S1024x2048 .f32) (U : FVec Ideal S2048x1024 .f32) (A B : FVec Ideal S4x256x256 .f32) (P : FVec Ideal S2048x1024 .f32)
  (Wo : FVec Ideal S1024x1024 .f32) (D : FVec Ideal S2048x2048 .f32) (DR DI Y : FVec Ideal S2048x1024 .f32)

def u3 : FVec Ideal S2048x4x256 .f32 := shapeCast S2048x4x256 U shapeCasts_S2048x1024_S2048x4x256
/-- One gate's products. -/
def gate : FVec Ideal S4x2048x256 .f32 := transpose S4x2048x256 [1, 0, 2] (transpose S2048x4x256 [2, 0, 1] (Host.dotGeneral (F := Ideal) dot_S4x256x256_S2048x4x256_S4x256x2048_1_2_2_0_0_1 none A (u3 U) : FVec Ideal S4x256x2048 .f32) transposes_S4x256x2048_S2048x4x256_2_0_1 : FVec Ideal S2048x4x256 .f32) transposes_S2048x4x256_S4x2048x256_1_0_2
/-- One gate's weight gradient. -/
def dgate : FVec Ideal S4x256x256 .f32 := transpose S4x256x256 [0, 2, 1] (Host.dotGeneral (F := Ideal) dot_S4x256x2048_S2048x4x256_S4x256x256_2_0_1_2_0_1 none (transpose S4x256x2048 [1, 2, 0] (u3 DR) transposes_S2048x4x256_S4x256x2048_1_2_0 : FVec Ideal S4x256x2048 .f32) (u3 U) : FVec Ideal S4x256x256 .f32) transposes_S4x256x256_S4x256x256_0_2_1
def rGu : FVec Ideal S8x2048x256 .f32 := transpose S8x2048x256 [1, 0, 2] (shapeCast S2048x8x256 (Host.dotGeneral (F := Ideal) dot_S2048x1024_S1024x2048_S2048x2048_1_0_0_1_n_n none H Wi : FVec Ideal S2048x2048 .f32) shapeCasts_S2048x2048_S2048x8x256 : FVec Ideal S2048x8x256 .f32) transposes_S2048x8x256_S8x2048x256_1_0_2
def rZ : FVec Ideal S2x4x2048x256 .f32 := concatenate S2x4x2048x256 0 [⟨S1x4x2048x256, broadcastInDim S1x4x2048x256 ![1, 2, 3] bcast_S4x2048x256_S1x4x2048x256_1_2_3 (gate U A)⟩, ⟨S1x4x2048x256, broadcastInDim S1x4x2048x256 ![1, 2, 3] bcast_S4x2048x256_S1x4x2048x256_1_2_3 (gate U B)⟩] concatenates_S1x4x2048x256_S1x4x2048x256_S2x4x2048x256_d0
def rY : FVec Ideal S2048x1024 .f32 := Host.dotGeneral (F := Ideal) dot_S2048x1024_S1024x1024_S2048x1024_1_0_0_1_n_n none P Wo
def rDyp : FVec Ideal S2048x1024 .f32 := Host.dotGeneral (F := Ideal) dot_S2048x1024_S1024x1024_S2048x1024_1_1_0_0_n_n none Y Wo
def rDwout : FVec Ideal S1024x1024 .f32 := transpose S1024x1024 [1, 0] (Host.dotGeneral (F := Ideal) dot_S2048x1024_S2048x1024_S1024x1024_0_0_1_1_n_n none Y P : FVec Ideal S1024x1024 .f32) transposes_S1024x1024_S1024x1024_1_0
def rDwai : FVec Ideal S2x4x256x256 .f32 := concatenate S2x4x256x256 0 [⟨S1x4x256x256, broadcastInDim S1x4x256x256 ![1, 2, 3] bcast_S4x256x256_S1x4x256x256_1_2_3 (dgate U DR)⟩, ⟨S1x4x256x256, broadcastInDim S1x4x256x256 ![1, 2, 3] bcast_S4x256x256_S1x4x256x256_1_2_3 (dgate U DI)⟩] concatenates_S1x4x256x256_S1x4x256x256_S2x4x256x256_d0
def rDwin : FVec Ideal S8x1024x256 .f32 := transpose S8x1024x256 [1, 0, 2] (shapeCast S1024x8x256 (transpose S1024x2048 [1, 0] (Host.dotGeneral (F := Ideal) dot_S2048x2048_S2048x1024_S2048x1024_0_0_1_1_n_n none D H : FVec Ideal S2048x1024 .f32) transposes_S2048x1024_S1024x2048_1_0 : FVec Ideal S1024x2048 .f32) shapeCasts_S1024x2048_S1024x8x256 : FVec Ideal S1024x8x256 .f32) transposes_S1024x8x256_S8x1024x256_1_0_2
def rDh : FVec Ideal S2048x1024 .f32 := Host.dotGeneral (F := Ideal) dot_S2048x2048_S1024x2048_S2048x1024_1_1_0_0_n_n none D Wi

/-! ## Element by element -/

theorem u3_at (r : Fin 2048) (n : Fin 4) (e : Fin 256) : u3 U (ix3 r n e) = U (ix2 r ⟨n.val * 256 + e.val, by omega⟩) := by
  pointwise [u3]
theorem gate_at (n : Fin 4) (r : Fin 2048) (e : Fin 256) : gate U A (ix3 n r e) = ∑ k : Fin 256, A (ix3 n k e) * u3 U (ix3 r n k) := by
  pointwise [gate]
theorem dgate_at (n : Fin 4) (k e : Fin 256) : dgate U DR (ix3 n k e) = ∑ r : Fin 2048, u3 DR (ix3 r n e) * u3 U (ix3 r n k) := by
  pointwise [dgate]
theorem rGu_at (q : Fin 8) (r : Fin 2048) (e : Fin 256) : rGu H Wi (ix3 q r e) = ∑ k : Fin 1024, H (ix2 r k) * Wi (ix2 k ⟨q.val * 256 + e.val, by omega⟩) := by
  pointwise [rGu]
theorem rZ_0 (n : Fin 4) (r : Fin 2048) (e : Fin 256) : rZ U A B (ix4 0 n r e) = gate U A (ix3 n r e) := by
  pointwise [rZ]
theorem rZ_1 (n : Fin 4) (r : Fin 2048) (e : Fin 256) : rZ U A B (ix4 1 n r e) = gate U B (ix3 n r e) := by
  pointwise [rZ]
theorem rY_at (r : Fin 2048) (n : Fin 1024) : rY P Wo (ix2 r n) = ∑ k : Fin 1024, P (ix2 r k) * Wo (ix2 k n) := by
  pointwise [rY]
theorem rDyp_at (r : Fin 2048) (n : Fin 1024) : rDyp Wo Y (ix2 r n) = ∑ k : Fin 1024, Y (ix2 r k) * Wo (ix2 n k) := by
  pointwise [rDyp]
theorem rDwout_at (k n : Fin 1024) : rDwout P Y (ix2 k n) = ∑ r : Fin 2048, Y (ix2 r n) * P (ix2 r k) := by
  pointwise [rDwout]
theorem rDwai_0 (n : Fin 4) (k e : Fin 256) : rDwai U DR DI (ix4 0 n k e) = dgate U DR (ix3 n k e) := by
  pointwise [rDwai]
theorem rDwai_1 (n : Fin 4) (k e : Fin 256) : rDwai U DR DI (ix4 1 n k e) = dgate U DI (ix3 n k e) := by
  pointwise [rDwai]
theorem rDwin_at (q : Fin 8) (k : Fin 1024) (e : Fin 256) : rDwin H D (ix3 q k e) = ∑ r : Fin 2048, D (ix2 r ⟨q.val * 256 + e.val, by omega⟩) * H (ix2 r k) := by
  pointwise [rDwin]
theorem rDh_at (r : Fin 2048) (n : Fin 1024) : rDh Wi D (ix2 r n) = ∑ k : Fin 2048, D (ix2 r k) * Wi (ix2 n k) := by
  pointwise [rDh]

/-- Every run of the reference ends with these, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = rGu (m ((c.tc : Thread nD τ).loc main_arg0)) (m ((c.tc : Thread nD τ).loc main_arg1))
      ∧ r.2.mem ((c.tc : Thread nD τ).loc main_v27) = rZ (m ((c.tc : Thread nD τ).loc main_arg2)) (m ((c.tc : Thread nD τ).loc main_arg3)) (m ((c.tc : Thread nD τ).loc main_arg4))
      ∧ r.2.mem ((c.tc : Thread nD τ).loc main_v17) = rY (m ((c.tc : Thread nD τ).loc main_arg5)) (m ((c.tc : Thread nD τ).loc main_arg6))
      ∧ r.2.mem ((c.tc : Thread nD τ).loc main_v20) = rDyp (m ((c.tc : Thread nD τ).loc main_arg6)) (m ((c.tc : Thread nD τ).loc main_arg10))
      ∧ r.2.mem ((c.tc : Thread nD τ).loc main_v19) = rDwout (m ((c.tc : Thread nD τ).loc main_arg5)) (m ((c.tc : Thread nD τ).loc main_arg10))
      ∧ r.2.mem ((c.tc : Thread nD τ).loc main_v30) = rDwai (m ((c.tc : Thread nD τ).loc main_arg2)) (m ((c.tc : Thread nD τ).loc main_arg8)) (m ((c.tc : Thread nD τ).loc main_arg9))
      ∧ r.2.mem ((c.tc : Thread nD τ).loc main_v32) = rDwin (m ((c.tc : Thread nD τ).loc main_arg0)) (m ((c.tc : Thread nD τ).loc main_arg7))
      ∧ r.2.mem ((c.tc : Thread nD τ).loc main_v3) = rDh (m ((c.tc : Thread nD τ).loc main_arg1)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    obtain ⟨h0, h1, h2, h3, h4, h5, h6, h7, ha⟩ := h c
    exact ⟨h0.trans rfl, h1.trans rfl, h2.trans rfl, h3.trans rfl, h4.trans rfl, h5.trans rfl, h6.trans rfl, h7.trans rfl, ha⟩) (Value.run m ρ)

end Cert.Lru.Ref

end
-- ==== Proof.LruEq.lean ====
/-
  The gated recurrence's eight products are the reference's, whatever the arguments hold.
-/
module

public import proofs.«01_k».proof.Proof.LruRun
public import proofs.«01_k».proof.Proof.LruRef
public import proofs.«01_k».proof.Proof.CrossEq

@[expose] public section

set_option maxHeartbeats 1600000
set_option maxRecDepth 16384

noncomputable section

namespace Cert.Lru

open Idealize.ShloMosaic Cert.Kernel4Ideal Cert.Kernel4Ideal.Gen Cert.Kernel4Ideal.Facts

variable (H : FVec Ideal S2048x1024 .f32) (Wi : FVec Ideal S1024x2048 .f32) (U : FVec Ideal S2048x1024 .f32) (A B : FVec Ideal S4x256x256 .f32) (P : FVec Ideal S2048x1024 .f32)
  (Wo : FVec Ideal S1024x1024 .f32) (D : FVec Ideal S2048x2048 .f32) (DR DI Y : FVec Ideal S2048x1024 .f32)

/-! ## The kernel's operands, element by element -/

theorem rowB_at (s : Fin 2048) (k : Fin 1024) : rowB H (ix2 s k) = H (ix2 s k) := by
  pointwise [rowB]
theorem woB_at (s k : Fin 1024) : woB Wo (ix2 s k) = Wo (ix2 s k) := by
  pointwise [woB]
theorem winB_at (q : Fin 8) (k : Fin 1024) (d : Fin 256) : winB Wi (ix3 q k d) = Wi (ix2 k ⟨q.val * 256 + d.val, by omega⟩) := by
  pointwise [winB]
theorem dguB_at (q : Fin 8) (s : Fin 2048) (d : Fin 256) : dguB D (ix3 q s d) = D (ix2 s ⟨q.val * 256 + d.val, by omega⟩) := by
  pointwise [dguB]
theorem blkU_at (n : Fin 4) (s : Fin 2048) (d : Fin 256) : blkU U (ix3 n s d) = U (ix2 s ⟨n.val * 256 + d.val, by omega⟩) := by
  pointwise [blkU]
theorem blkU_ref (n : Fin 4) (s : Fin 2048) (d : Fin 256) : blkU U (ix3 n s d) = Ref.u3 U (ix3 s n d) := by
  rw [blkU_at, Ref.u3_at]
theorem waiB_0 (n : Fin 4) (k d : Fin 256) : waiB A B (ix4 0 n k d) = A (ix3 n k d) := by
  pointwise [waiB]
theorem waiB_1 (n : Fin 4) (k d : Fin 256) : waiB A B (ix4 1 n k d) = B (ix3 n k d) := by
  pointwise [waiB]
theorem dzB_0 (n : Fin 4) (s : Fin 2048) (d : Fin 256) : dzB DR DI (ix4 0 n s d) = blkU DR (ix3 n s d) := by
  pointwise [dzB]
theorem dzB_1 (n : Fin 4) (s : Fin 2048) (d : Fin 256) : dzB DR DI (ix4 1 n s d) = blkU DI (ix3 n s d) := by
  pointwise [dzB]

/-! ## The results -/

theorem resGu_eq : resGu H Wi = Ref.rGu H Wi := by
  funext i
  obtain ⟨q, s, d, rfl⟩ : ∃ (q : Fin 8) (s : Fin 2048) (d : Fin 256), i = ix3 q s d := ⟨i 0, i 1, i 2, eq_ix3 i⟩
  rw [Ref.rGu_at]
  show (∑ k : Fin 1024, rowB H (ix2 s k) * winB Wi (ix3 q k d)) = _
  simp only [rowB_at, winB_at]
theorem resZ_eq : resZ U A B = Ref.rZ U A B := by
  funext i
  obtain ⟨q, n, s, d, rfl⟩ : ∃ (q : Fin 2) (n : Fin 4) (s : Fin 2048) (d : Fin 256), i = ix4 q n s d := ⟨i 0, i 1, i 2, i 3, eq_ix4 i⟩
  show (∑ k : Fin 256, blkU U (ix3 n s k) * waiB A B (ix4 q n k d)) = _
  by_cases h : q = 0
  · subst h
    rw [Ref.rZ_0, Ref.gate_at]
    refine Finset.sum_congr rfl fun k _ => ?_
    rw [waiB_0, blkU_ref, mul_comm]
  · obtain rfl : q = 1 := by omega
    rw [Ref.rZ_1, Ref.gate_at]
    refine Finset.sum_congr rfl fun k _ => ?_
    rw [waiB_1, blkU_ref, mul_comm]
theorem resY_eq : resY P Wo = Ref.rY P Wo := by
  funext i
  obtain ⟨s, n, rfl⟩ : ∃ (s : Fin 2048) (n : Fin 1024), i = ix2 s n := ⟨i 0, i 1, eq_ix2 i⟩
  rw [Ref.rY_at]
  show (∑ k : Fin 1024, rowB P (ix2 s k) * woB Wo (ix2 k n)) = _
  simp only [rowB_at, woB_at]
theorem resDyp_eq : resDyp Wo Y = Ref.rDyp Wo Y := by
  funext i
  obtain ⟨s, n, rfl⟩ : ∃ (s : Fin 2048) (n : Fin 1024), i = ix2 s n := ⟨i 0, i 1, eq_ix2 i⟩
  rw [Ref.rDyp_at]
  show (∑ k : Fin 1024, rowB Y (ix2 s k) * woB Wo (ix2 n k)) = _
  simp only [rowB_at, woB_at]
theorem resDwout_eq : resDwout P Y = Ref.rDwout P Y := by
  funext i
  obtain ⟨k, n, rfl⟩ : ∃ (k n : Fin 1024), i = ix2 k n := ⟨i 0, i 1, eq_ix2 i⟩
  rw [Ref.rDwout_at]
  show (∑ r : Fin 2048, rowB P (ix2 r k) * rowB Y (ix2 r n)) = _
  refine Finset.sum_congr rfl fun r _ => ?_
  rw [rowB_at, rowB_at, mul_comm]
theorem resDwai_eq : resDwai U DR DI = Ref.rDwai U DR DI := by
  funext i
  obtain ⟨q, n, k, d, rfl⟩ : ∃ (q : Fin 2) (n : Fin 4) (k d : Fin 256), i = ix4 q n k d := ⟨i 0, i 1, i 2, i 3, eq_ix4 i⟩
  show (∑ r : Fin 2048, blkU U (ix3 n r k) * dzB DR DI (ix4 q n r d)) = _
  by_cases h : q = 0
  · subst h
    rw [Ref.rDwai_0, Ref.dgate_at]
    refine Finset.sum_congr rfl fun r _ => ?_
    rw [dzB_0, blkU_ref, blkU_ref, mul_comm]
  · obtain rfl : q = 1 := by omega
    rw [Ref.rDwai_1, Ref.dgate_at]
    refine Finset.sum_congr rfl fun r _ => ?_
    rw [dzB_1, blkU_ref, blkU_ref, mul_comm]
theorem resDwin_eq : resDwin H D = Ref.rDwin H D := by
  funext i
  obtain ⟨q, k, d, rfl⟩ : ∃ (q : Fin 8) (k : Fin 1024) (d : Fin 256), i = ix3 q k d := ⟨i 0, i 1, i 2, eq_ix3 i⟩
  rw [Ref.rDwin_at]
  show (∑ r : Fin 2048, rowB H (ix2 r k) * dguB D (ix3 q r d)) = _
  refine Finset.sum_congr rfl fun r _ => ?_
  rw [rowB_at, dguB_at, mul_comm]
theorem resDh_eq : resDh Wi D = Ref.rDh Wi D := by
  funext i
  obtain ⟨s, n, rfl⟩ : ∃ (s : Fin 2048) (n : Fin 1024), i = ix2 s n := ⟨i 0, i 1, eq_ix2 i⟩
  rw [Ref.rDh_at, Cert.Cross.sum8]
  show (∑ q : Fin 8, ∑ d : Fin 256, dguB D (ix3 q s d) * winB Wi (ix3 q n d)) = _
  simp only [dguB_at, winB_at]

end Cert.Lru

end
-- ==== Proof.ProjOut.lean ====
/-
  What each of the six kernels of the projections' products leaves in its output block, element by element, from
  its input blocks.
-/
module

public import proofs.«01_k».proof.Proof.Gen.Kernel5Ideal.Frame
public import Idealize.ShloMosaic.Lib.Pipeline.ValueKit

@[expose] public section

set_option maxHeartbeats 1600000
set_option maxRecDepth 16384

noncomputable section

namespace Cert.Proj

open Idealize.ShloMosaic Cert.Kernel5Ideal Cert.Kernel5Ideal.Gen

theorem o0_2 (x0 : Vec Ideal S2048x1024 .bf16) (x1 : Vec Ideal S640x1024 .bf16) (r : Fin 2048) (n : Fin 640) :
    out0_2 x0 x1 (ix2 r n) = ∑ k : Fin 1024, x0 (ix2 r k) * x1 (ix2 n k) := by
  unfold out0_2
  frame_out
  pointwise [k0_pay1]
theorem o1_2 (x0 : Vec Ideal S2048x1024 .bf16) (x1 : Vec Ideal S1024x1024 .bf16) (r : Fin 2048) (n : Fin 1024) :
    out1_2 x0 x1 (ix2 r n) = ∑ k : Fin 1024, x0 (ix2 r k) * x1 (ix2 k n) := by
  unfold out1_2
  frame_out
  pointwise [k1_pay1]
theorem o2_2 (x0 : Vec Ideal S2048x1024 .bf16) (x1 : Vec Ideal S1024x1024 .bf16) (r : Fin 2048) (n : Fin 1024) :
    out2_2 x0 x1 (ix2 r n) = ∑ k : Fin 1024, x0 (ix2 r k) * x1 (ix2 n k) := by
  unfold out2_2
  frame_out
  pointwise [k2_pay1]
theorem o3_2 (x0 : Vec Ideal S2048x1024 .bf16) (x1 : Vec Ideal S2048x1024 .bf16) (k n : Fin 1024) :
    out3_2 x0 x1 (ix2 k n) = ∑ r : Fin 2048, x0 (ix2 r k) * x1 (ix2 r n) := by
  unfold out3_2
  frame_out
  pointwise [k3_pay1]
theorem o4_2 (x0 : Vec Ideal S2048x640 .bf16) (x1 : Vec Ideal S2048x1024 .bf16) (k : Fin 640) (n : Fin 1024) :
    out4_2 x0 x1 (ix2 k n) = ∑ r : Fin 2048, x0 (ix2 r k) * x1 (ix2 r n) := by
  unfold out4_2
  frame_out
  pointwise [k4_pay1]
theorem o5_2 (x0 : Vec Ideal S1024x3200 .bf16) (x1 : Vec Ideal S3200x1024 .bf16) (r : Fin 1024) (n : Fin 1024) :
    out5_2 x0 x1 (ix2 r n) = ∑ k : Fin 3200, x0 (ix2 r k) * x1 (ix2 k n) := by
  unfold out5_2
  frame_out
  pointwise [k5_pay1]

end Cert.Proj

end
-- ==== Proof.ProjRegions.lean ====
/-
  What the six regions of the projections' products leave in their result arrays, from what their operands hold:
  each block of a result is its formula at its point, and the blocks cover the array.
-/
module

public import proofs.«01_k».proof.Proof.ProjOut

@[expose] public section

set_option maxHeartbeats 1600000
set_option maxRecDepth 16384

noncomputable section

namespace Cert.Proj

open Idealize.ShloMosaic Idealize.ShloMosaic.TcCoe Cert.Kernel5Ideal Cert.Kernel5Ideal.Gen

/-- The packed input projection. -/
def projG (x : Vec Ideal S2048x1024 .bf16) (y : Vec Ideal S3200x1024 .bf16) : Vec Ideal S2048x3200 .f32 :=
  fun i => ∑ k : Fin 1024, x (ix2 (i 0) k) * y (ix2 (i 1) k)
/-- The output projection. -/
def yG (x : Vec Ideal S2048x1024 .bf16) (y : Vec Ideal S1024x1024 .bf16) : Vec Ideal S2048x1024 .f32 :=
  fun i => ∑ k : Fin 1024, x (ix2 (i 0) k) * y (ix2 k (i 1))
/-- The gradient of the output projection's input. -/
def dcatG (x : Vec Ideal S2048x1024 .bf16) (y : Vec Ideal S1024x1024 .bf16) : Vec Ideal S2048x1024 .f32 :=
  fun i => ∑ k : Fin 1024, x (ix2 (i 0) k) * y (ix2 (i 1) k)
/-- The output weight's gradient. -/
def dwoutG (x : Vec Ideal S2048x1024 .bf16) (y : Vec Ideal S2048x1024 .bf16) : Vec Ideal S1024x1024 .f32 :=
  fun i => ∑ r : Fin 2048, x (ix2 r (i 0)) * y (ix2 r (i 1))
/-- The packed input weight's gradient. -/
def dwallG (x : Vec Ideal S2048x3200 .bf16) (y : Vec Ideal S2048x1024 .bf16) : Vec Ideal S3200x1024 .f32 :=
  fun i => ∑ r : Fin 2048, x (ix2 r (i 0)) * y (ix2 r (i 1))
/-- The input's gradient. -/
def dhG (x : Vec Ideal S2048x3200 .bf16) (y : Vec Ideal S3200x1024 .bf16) : Vec Ideal S2048x1024 .f32 :=
  fun i => ∑ k : Fin 3200, x (ix2 (i 0) k) * y (ix2 k (i 1))

variable (V : (c : Dev nD) → (b : Ref sig .tc) → Buf (Elt Ideal) ((c : Thread nD τ).loc b)) (c : Dev nD)

/-! ## Region 0 -/

theorem ix0_0 : ∀ t : Fin cfg0.N, win0_0.index t = ![0, 0] := (by decide +kernel : ∀ t : Fin grid0.N, _)
theorem rd0_0 (t : Fin cfg0.N) (G : Vec Ideal S2048x1024 .bf16) (r : Fin 2048) (n : Fin 1024) : (win0_0.blk t).view.read (Elt Ideal) G (ix2 r n) = G (ix2 r n) := by
  have e : (win0_0.blk t).view.emb (ix2 r n) = (ix2 r n) := by blk_ext [ix0_0]
  rw [View.read_apply]
  exact congrArg G e
theorem ib0_0 (t : Fin cfg0.N) : iblk0 V c 0 t = (win0_0.blk t).view.read (Elt Ideal) (V c main_v0) := rfl
theorem blk0_0 (t : Fin cfg0.N) (r : Fin 2048) (n : Fin 1024) : iblk0 V c 0 t (ix2 r n) = (V c main_v0 : Vec Ideal S2048x1024 .bf16) (ix2 r n) := by
  rw [ib0_0]
  exact rd0_0 t (V c main_v0) r n
theorem ix0_1 : ∀ t : Fin cfg0.N, win0_1.index t = ![t.val, 0] := (by decide +kernel : ∀ t : Fin grid0.N, _)
theorem rd0_1 (t : Fin cfg0.N) (G : Vec Ideal S3200x1024 .bf16) (r : Fin 640) (n : Fin 1024) : (win0_1.blk t).view.read (Elt Ideal) G (ix2 r n) = G (ix2 ⟨t.val * 640 + r.val, by have := (show t.val < 5 from t.isLt); omega⟩ n) := by
  have e : (win0_1.blk t).view.emb (ix2 r n) = (ix2 ⟨t.val * 640 + r.val, by have := (show t.val < 5 from t.isLt); omega⟩ n) := by blk_ext [ix0_1]
  rw [View.read_apply]
  exact congrArg G e
theorem ib0_1 (t : Fin cfg0.N) : iblk0 V c 1 t = (win0_1.blk t).view.read (Elt Ideal) (V c main_v10) := rfl
theorem blk0_1 (t : Fin cfg0.N) (r : Fin 640) (n : Fin 1024) : iblk0 V c 1 t (ix2 r n) = (V c main_v10 : Vec Ideal S3200x1024 .bf16) (ix2 ⟨t.val * 640 + r.val, by have := (show t.val < 5 from t.isLt); omega⟩ n) := by
  rw [ib0_1]
  exact rd0_1 t (V c main_v10) r n
theorem ix0_2 : ∀ t : Fin cfg0.N, win0_2.index t = ![0, t.val] := (by decide +kernel : ∀ t : Fin grid0.N, _)
theorem cov0_2 : (cfg0.win 2).Covers := by decide +kernel
theorem fin0_2 : (dat0 V c).arrAt 2 cfg0.N = projG (V c main_v0) (V c main_v10) := by
  refine Pipeline.Dat.arrAt_eq_of_covers _ 2 _ cov0_2 fun t hf y => ?_
  change ((dat0 V c).after 2 t : Vec Ideal S2048x640 .f32) y = (projG (V c main_v0) (V c main_v10)) ((win0_2.blk t).view.emb y)
  obtain ⟨r, n, rfl⟩ : ∃ (r : Fin 2048) (n : Fin 640), y = ix2 r n := ⟨y 0, y 1, eq_ix2 y⟩
  have e : (win0_2.blk t).view.emb (ix2 r n) = (ix2 r ⟨t.val * 640 + n.val, by have := (show t.val < 5 from t.isLt); omega⟩) := by blk_ext [ix0_2]
  rw [after0_2, o0_2, e]
  simp only [blk0_0, blk0_1]
  rfl

/-! ## Region 1 -/

theorem ix1_0 : ∀ t : Fin cfg1.N, win1_0.index t = ![0, 0] := (by decide +kernel : ∀ t : Fin grid1.N, _)
theorem rd1_0 (t : Fin cfg1.N) (G : Vec Ideal S2048x1024 .bf16) (r : Fin 2048) (n : Fin 1024) : (win1_0.blk t).view.read (Elt Ideal) G (ix2 r n) = G (ix2 r n) := by
  have e : (win1_0.blk t).view.emb (ix2 r n) = (ix2 r n) := by blk_ext [ix1_0]
  rw [View.read_apply]
  exact congrArg G e
theorem ib1_0 (t : Fin cfg1.N) : iblk1 V c 0 t = (win1_0.blk t).view.read (Elt Ideal) (V c main_v1) := rfl
theorem blk1_0 (t : Fin cfg1.N) (r : Fin 2048) (n : Fin 1024) : iblk1 V c 0 t (ix2 r n) = (V c main_v1 : Vec Ideal S2048x1024 .bf16) (ix2 r n) := by
  rw [ib1_0]
  exact rd1_0 t (V c main_v1) r n
theorem ix1_1 : ∀ t : Fin cfg1.N, win1_1.index t = ![0, 0] := (by decide +kernel : ∀ t : Fin grid1.N, _)
theorem rd1_1 (t : Fin cfg1.N) (G : Vec Ideal S1024x1024 .bf16) (r : Fin 1024) (n : Fin 1024) : (win1_1.blk t).view.read (Elt Ideal) G (ix2 r n) = G (ix2 r n) := by
  have e : (win1_1.blk t).view.emb (ix2 r n) = (ix2 r n) := by blk_ext [ix1_1]
  rw [View.read_apply]
  exact congrArg G e
theorem ib1_1 (t : Fin cfg1.N) : iblk1 V c 1 t = (win1_1.blk t).view.read (Elt Ideal) (V c main_v3) := rfl
theorem blk1_1 (t : Fin cfg1.N) (r : Fin 1024) (n : Fin 1024) : iblk1 V c 1 t (ix2 r n) = (V c main_v3 : Vec Ideal S1024x1024 .bf16) (ix2 r n) := by
  rw [ib1_1]
  exact rd1_1 t (V c main_v3) r n
theorem ix1_2 : ∀ t : Fin cfg1.N, win1_2.index t = ![0, 0] := (by decide +kernel : ∀ t : Fin grid1.N, _)
theorem cov1_2 : (cfg1.win 2).Covers := by decide +kernel
theorem fin1_2 : (dat1 V c).arrAt 2 cfg1.N = yG (V c main_v1) (V c main_v3) := by
  refine Pipeline.Dat.arrAt_eq_of_covers _ 2 _ cov1_2 fun t hf y => ?_
  change ((dat1 V c).after 2 t : Vec Ideal S2048x1024 .f32) y = (yG (V c main_v1) (V c main_v3)) ((win1_2.blk t).view.emb y)
  obtain ⟨r, n, rfl⟩ : ∃ (r : Fin 2048) (n : Fin 1024), y = ix2 r n := ⟨y 0, y 1, eq_ix2 y⟩
  have e : (win1_2.blk t).view.emb (ix2 r n) = (ix2 r n) := by blk_ext [ix1_2]
  rw [after1_2, o1_2, e]
  simp only [blk1_0, blk1_1]
  rfl

/-! ## Region 2 -/

theorem ix2_0 : ∀ t : Fin cfg2.N, win2_0.index t = ![0, 0] := (by decide +kernel : ∀ t : Fin grid2.N, _)
theorem rd2_0 (t : Fin cfg2.N) (G : Vec Ideal S2048x1024 .bf16) (r : Fin 2048) (n : Fin 1024) : (win2_0.blk t).view.read (Elt Ideal) G (ix2 r n) = G (ix2 r n) := by
  have e : (win2_0.blk t).view.emb (ix2 r n) = (ix2 r n) := by blk_ext [ix2_0]
  rw [View.read_apply]
  exact congrArg G e
theorem ib2_0 (t : Fin cfg2.N) : iblk2 V c 0 t = (win2_0.blk t).view.read (Elt Ideal) (V c main_v2) := rfl
theorem blk2_0 (t : Fin cfg2.N) (r : Fin 2048) (n : Fin 1024) : iblk2 V c 0 t (ix2 r n) = (V c main_v2 : Vec Ideal S2048x1024 .bf16) (ix2 r n) := by
  rw [ib2_0]
  exact rd2_0 t (V c main_v2) r n
theorem ix2_1 : ∀ t : Fin cfg2.N, win2_1.index t = ![0, 0] := (by decide +kernel : ∀ t : Fin grid2.N, _)
theorem rd2_1 (t : Fin cfg2.N) (G : Vec Ideal S1024x1024 .bf16) (r : Fin 1024) (n : Fin 1024) : (win2_1.blk t).view.read (Elt Ideal) G (ix2 r n) = G (ix2 r n) := by
  have e : (win2_1.blk t).view.emb (ix2 r n) = (ix2 r n) := by blk_ext [ix2_1]
  rw [View.read_apply]
  exact congrArg G e
theorem ib2_1 (t : Fin cfg2.N) : iblk2 V c 1 t = (win2_1.blk t).view.read (Elt Ideal) (V c main_v3) := rfl
theorem blk2_1 (t : Fin cfg2.N) (r : Fin 1024) (n : Fin 1024) : iblk2 V c 1 t (ix2 r n) = (V c main_v3 : Vec Ideal S1024x1024 .bf16) (ix2 r n) := by
  rw [ib2_1]
  exact rd2_1 t (V c main_v3) r n
theorem ix2_2 : ∀ t : Fin cfg2.N, win2_2.index t = ![0, 0] := (by decide +kernel : ∀ t : Fin grid2.N, _)
theorem cov2_2 : (cfg2.win 2).Covers := by decide +kernel
theorem fin2_2 : (dat2 V c).arrAt 2 cfg2.N = dcatG (V c main_v2) (V c main_v3) := by
  refine Pipeline.Dat.arrAt_eq_of_covers _ 2 _ cov2_2 fun t hf y => ?_
  change ((dat2 V c).after 2 t : Vec Ideal S2048x1024 .f32) y = (dcatG (V c main_v2) (V c main_v3)) ((win2_2.blk t).view.emb y)
  obtain ⟨r, n, rfl⟩ : ∃ (r : Fin 2048) (n : Fin 1024), y = ix2 r n := ⟨y 0, y 1, eq_ix2 y⟩
  have e : (win2_2.blk t).view.emb (ix2 r n) = (ix2 r n) := by blk_ext [ix2_2]
  rw [after2_2, o2_2, e]
  simp only [blk2_0, blk2_1]
  rfl

/-! ## Region 3 -/

theorem ix3_0 : ∀ t : Fin cfg3.N, win3_0.index t = ![0, 0] := (by decide +kernel : ∀ t : Fin grid3.N, _)
theorem rd3_0 (t : Fin cfg3.N) (G : Vec Ideal S2048x1024 .bf16) (r : Fin 2048) (n : Fin 1024) : (win3_0.blk t).view.read (Elt Ideal) G (ix2 r n) = G (ix2 r n) := by
  have e : (win3_0.blk t).view.emb (ix2 r n) = (ix2 r n) := by blk_ext [ix3_0]
  rw [View.read_apply]
  exact congrArg G e
theorem ib3_0 (t : Fin cfg3.N) : iblk3 V c 0 t = (win3_0.blk t).view.read (Elt Ideal) (V c main_v1) := rfl
theorem blk3_0 (t : Fin cfg3.N) (r : Fin 2048) (n : Fin 1024) : iblk3 V c 0 t (ix2 r n) = (V c main_v1 : Vec Ideal S2048x1024 .bf16) (ix2 r n) := by
  rw [ib3_0]
  exact rd3_0 t (V c main_v1) r n
theorem ix3_1 : ∀ t : Fin cfg3.N, win3_1.index t = ![0, 0] := (by decide +kernel : ∀ t : Fin grid3.N, _)
theorem rd3_1 (t : Fin cfg3.N) (G : Vec Ideal S2048x1024 .bf16) (r : Fin 2048) (n : Fin 1024) : (win3_1.blk t).view.read (Elt Ideal) G (ix2 r n) = G (ix2 r n) := by
  have e : (win3_1.blk t).view.emb (ix2 r n) = (ix2 r n) := by blk_ext [ix3_1]
  rw [View.read_apply]
  exact congrArg G e
theorem ib3_1 (t : Fin cfg3.N) : iblk3 V c 1 t = (win3_1.blk t).view.read (Elt Ideal) (V c main_v2) := rfl
theorem blk3_1 (t : Fin cfg3.N) (r : Fin 2048) (n : Fin 1024) : iblk3 V c 1 t (ix2 r n) = (V c main_v2 : Vec Ideal S2048x1024 .bf16) (ix2 r n) := by
  rw [ib3_1]
  exact rd3_1 t (V c main_v2) r n
theorem ix3_2 : ∀ t : Fin cfg3.N, win3_2.index t = ![0, 0] := (by decide +kernel : ∀ t : Fin grid3.N, _)
theorem cov3_2 : (cfg3.win 2).Covers := by decide +kernel
theorem fin3_2 : (dat3 V c).arrAt 2 cfg3.N = dwoutG (V c main_v1) (V c main_v2) := by
  refine Pipeline.Dat.arrAt_eq_of_covers _ 2 _ cov3_2 fun t hf y => ?_
  change ((dat3 V c).after 2 t : Vec Ideal S1024x1024 .f32) y = (dwoutG (V c main_v1) (V c main_v2)) ((win3_2.blk t).view.emb y)
  obtain ⟨r, n, rfl⟩ : ∃ (r : Fin 1024) (n : Fin 1024), y = ix2 r n := ⟨y 0, y 1, eq_ix2 y⟩
  have e : (win3_2.blk t).view.emb (ix2 r n) = (ix2 r n) := by blk_ext [ix3_2]
  rw [after3_2, o3_2, e]
  simp only [blk3_0, blk3_1]
  rfl

/-! ## Region 4 -/

theorem ix4_0 : ∀ t : Fin cfg4.N, win4_0.index t = ![0, t.val] := (by decide +kernel : ∀ t : Fin grid4.N, _)
theorem rd4_0 (t : Fin cfg4.N) (G : Vec Ideal S2048x3200 .bf16) (r : Fin 2048) (n : Fin 640) : (win4_0.blk t).view.read (Elt Ideal) G (ix2 r n) = G (ix2 r ⟨t.val * 640 + n.val, by have := (show t.val < 5 from t.isLt); omega⟩) := by
  have e : (win4_0.blk t).view.emb (ix2 r n) = (ix2 r ⟨t.val * 640 + n.val, by have := (show t.val < 5 from t.isLt); omega⟩) := by blk_ext [ix4_0]
  rw [View.read_apply]
  exact congrArg G e
theorem ib4_0 (t : Fin cfg4.N) : iblk4 V c 0 t = (win4_0.blk t).view.read (Elt Ideal) (V c main_v18) := rfl
theorem blk4_0 (t : Fin cfg4.N) (r : Fin 2048) (n : Fin 640) : iblk4 V c 0 t (ix2 r n) = (V c main_v18 : Vec Ideal S2048x3200 .bf16) (ix2 r ⟨t.val * 640 + n.val, by have := (show t.val < 5 from t.isLt); omega⟩) := by
  rw [ib4_0]
  exact rd4_0 t (V c main_v18) r n
theorem ix4_1 : ∀ t : Fin cfg4.N, win4_1.index t = ![0, 0] := (by decide +kernel : ∀ t : Fin grid4.N, _)
theorem rd4_1 (t : Fin cfg4.N) (G : Vec Ideal S2048x1024 .bf16) (r : Fin 2048) (n : Fin 1024) : (win4_1.blk t).view.read (Elt Ideal) G (ix2 r n) = G (ix2 r n) := by
  have e : (win4_1.blk t).view.emb (ix2 r n) = (ix2 r n) := by blk_ext [ix4_1]
  rw [View.read_apply]
  exact congrArg G e
theorem ib4_1 (t : Fin cfg4.N) : iblk4 V c 1 t = (win4_1.blk t).view.read (Elt Ideal) (V c main_v0) := rfl
theorem blk4_1 (t : Fin cfg4.N) (r : Fin 2048) (n : Fin 1024) : iblk4 V c 1 t (ix2 r n) = (V c main_v0 : Vec Ideal S2048x1024 .bf16) (ix2 r n) := by
  rw [ib4_1]
  exact rd4_1 t (V c main_v0) r n
theorem ix4_2 : ∀ t : Fin cfg4.N, win4_2.index t = ![t.val, 0] := (by decide +kernel : ∀ t : Fin grid4.N, _)
theorem cov4_2 : (cfg4.win 2).Covers := by decide +kernel
theorem fin4_2 : (dat4 V c).arrAt 2 cfg4.N = dwallG (V c main_v18) (V c main_v0) := by
  refine Pipeline.Dat.arrAt_eq_of_covers _ 2 _ cov4_2 fun t hf y => ?_
  change ((dat4 V c).after 2 t : Vec Ideal S640x1024 .f32) y = (dwallG (V c main_v18) (V c main_v0)) ((win4_2.blk t).view.emb y)
  obtain ⟨r, n, rfl⟩ : ∃ (r : Fin 640) (n : Fin 1024), y = ix2 r n := ⟨y 0, y 1, eq_ix2 y⟩
  have e : (win4_2.blk t).view.emb (ix2 r n) = (ix2 ⟨t.val * 640 + r.val, by have := (show t.val < 5 from t.isLt); omega⟩ n) := by blk_ext [ix4_2]
  rw [after4_2, o4_2, e]
  simp only [blk4_0, blk4_1]
  rfl

/-! ## Region 5 -/

theorem ix5_0 : ∀ t : Fin cfg5.N, win5_0.index t = ![t.val, 0] := (by decide +kernel : ∀ t : Fin grid5.N, _)
theorem rd5_0 (t : Fin cfg5.N) (G : Vec Ideal S2048x3200 .bf16) (r : Fin 1024) (n : Fin 3200) : (win5_0.blk t).view.read (Elt Ideal) G (ix2 r n) = G (ix2 ⟨t.val * 1024 + r.val, by have := (show t.val < 2 from t.isLt); omega⟩ n) := by
  have e : (win5_0.blk t).view.emb (ix2 r n) = (ix2 ⟨t.val * 1024 + r.val, by have := (show t.val < 2 from t.isLt); omega⟩ n) := by blk_ext [ix5_0]
  rw [View.read_apply]
  exact congrArg G e
theorem ib5_0 (t : Fin cfg5.N) : iblk5 V c 0 t = (win5_0.blk t).view.read (Elt Ideal) (V c main_v18) := rfl
theorem blk5_0 (t : Fin cfg5.N) (r : Fin 1024) (n : Fin 3200) : iblk5 V c 0 t (ix2 r n) = (V c main_v18 : Vec Ideal S2048x3200 .bf16) (ix2 ⟨t.val * 1024 + r.val, by have := (show t.val < 2 from t.isLt); omega⟩ n) := by
  rw [ib5_0]
  exact rd5_0 t (V c main_v18) r n
theorem ix5_1 : ∀ t : Fin cfg5.N, win5_1.index t = ![0, 0] := (by decide +kernel : ∀ t : Fin grid5.N, _)
theorem rd5_1 (t : Fin cfg5.N) (G : Vec Ideal S3200x1024 .bf16) (r : Fin 3200) (n : Fin 1024) : (win5_1.blk t).view.read (Elt Ideal) G (ix2 r n) = G (ix2 r n) := by
  have e : (win5_1.blk t).view.emb (ix2 r n) = (ix2 r n) := by blk_ext [ix5_1]
  rw [View.read_apply]
  exact congrArg G e
theorem ib5_1 (t : Fin cfg5.N) : iblk5 V c 1 t = (win5_1.blk t).view.read (Elt Ideal) (V c main_v10) := rfl
theorem blk5_1 (t : Fin cfg5.N) (r : Fin 3200) (n : Fin 1024) : iblk5 V c 1 t (ix2 r n) = (V c main_v10 : Vec Ideal S3200x1024 .bf16) (ix2 r n) := by
  rw [ib5_1]
  exact rd5_1 t (V c main_v10) r n
theorem ix5_2 : ∀ t : Fin cfg5.N, win5_2.index t = ![t.val, 0] := (by decide +kernel : ∀ t : Fin grid5.N, _)
theorem cov5_2 : (cfg5.win 2).Covers := by decide +kernel
theorem fin5_2 : (dat5 V c).arrAt 2 cfg5.N = dhG (V c main_v18) (V c main_v10) := by
  refine Pipeline.Dat.arrAt_eq_of_covers _ 2 _ cov5_2 fun t hf y => ?_
  change ((dat5 V c).after 2 t : Vec Ideal S1024x1024 .f32) y = (dhG (V c main_v18) (V c main_v10)) ((win5_2.blk t).view.emb y)
  obtain ⟨r, n, rfl⟩ : ∃ (r : Fin 1024) (n : Fin 1024), y = ix2 r n := ⟨y 0, y 1, eq_ix2 y⟩
  have e : (win5_2.blk t).view.emb (ix2 r n) = (ix2 ⟨t.val * 1024 + r.val, by have := (show t.val < 2 from t.isLt); omega⟩ n) := by blk_ext [ix5_2]
  rw [after5_2, o5_2, e]
  simp only [blk5_0, blk5_1]
  rfl

end Cert.Proj

end
-- ==== Proof.ProjRun.lean ====
/-
  The six results of the projections' products at the end of any run, as formulas of the arguments: the host's casts and
  packing, then the regions in order.
-/
module

public import proofs.«01_k».proof.Proof.ProjRegions
public import Idealize.ShloMosaic.Lib.StableHlo.RunRead

@[expose] public section

set_option maxHeartbeats 1600000
set_option maxRecDepth 16384

noncomputable section

namespace Cert.Proj

open Idealize.ShloMosaic Idealize.ShloMosaic.TcCoe Cert.Kernel5Ideal Cert.Kernel5Ideal.Gen Cert.Kernel5Ideal.Facts

/-! ## The operands as the host prepares them, and the results -/

section Terms
variable (H : FVec Ideal S2048x1024 .f32) (Wi : FVec Ideal S1024x3080 .f32) (C : FVec Ideal S2048x1024 .f32)
  (Wo : FVec Ideal S1024x1024 .f32) (D : FVec Ideal S2048x3080 .f32) (Y : FVec Ideal S2048x1024 .f32)

/-- A row operand, in the kernel's format. -/
def rowB : FVec Ideal S2048x1024 .bf16 := truncf .bf16 H bitsLt_bf16_f32
/-- The output weight. -/
def woB : FVec Ideal S1024x1024 .bf16 := truncf .bf16 Wo bitsLt_bf16_f32
/-- The input weight, transposed. -/
def wiT : FVec Ideal S3080x1024 .bf16 := truncf .bf16 (transpose S3080x1024 [1, 0] Wi transposes_S1024x3080_S3080x1024_1_0 : FVec Ideal S3080x1024 .f32) bitsLt_bf16_f32
/-- The input weight's packed rows: the gates' eight columns moved last, then zeros. -/
def wallB : FVec Ideal S3200x1024 .bf16 :=
  concatenate S3200x1024 0 [⟨S1536x1024, extractStridedSlice S1536x1024 ![0, 0] (wiT Wi) slices_S3080x1024_S1536x1024_0_0⟩, ⟨S1536x1024, extractStridedSlice S1536x1024 ![1544, 0] (wiT Wi) slices_S3080x1024_S1536x1024_1544_0⟩, ⟨S8x1024, extractStridedSlice S8x1024 ![1536, 0] (wiT Wi) slices_S3080x1024_S8x1024_1536_0⟩, ⟨S120x1024, broadcastInDim S120x1024 ![] bcast_S_S120x1024 (constant S_ .bf16 0x0000#16 : FVec Ideal S_ .bf16)⟩] concatenates_S1536x1024_S1536x1024_S8x1024_S120x1024_S3200x1024_d0
/-- The projection's cotangent, transposed. -/
def dT : FVec Ideal S3080x2048 .f32 := transpose S3080x2048 [1, 0] D transposes_S2048x3080_S3080x2048_1_0
/-- The projection's cotangent with its columns packed the same way. -/
def dB : FVec Ideal S2048x3200 .bf16 :=
  truncf .bf16 (transpose S2048x3200 [1, 0] (concatenate S3200x2048 0 [⟨S1536x2048, extractStridedSlice S1536x2048 ![0, 0] (dT D) slices_S3080x2048_S1536x2048_0_0⟩, ⟨S1536x2048, extractStridedSlice S1536x2048 ![1544, 0] (dT D) slices_S3080x2048_S1536x2048_1544_0⟩, ⟨S8x2048, extractStridedSlice S8x2048 ![1536, 0] (dT D) slices_S3080x2048_S8x2048_1536_0⟩, ⟨S120x2048, broadcastInDim S120x2048 ![] bcast_S_S120x2048 (constant S_ .f32 0x00000000#32 : FVec Ideal S_ .f32)⟩] concatenates_S1536x2048_S1536x2048_S8x2048_S120x2048_S3200x2048_d0 : FVec Ideal S3200x2048 .f32) transposes_S3200x2048_S2048x3200_1_0 : FVec Ideal S2048x3200 .f32) bitsLt_bf16_f32

def resProj : Vec Ideal S2048x3200 .f32 := projG (rowB H) (wallB Wi)
def resY : Vec Ideal S2048x1024 .f32 := yG (rowB C) (woB Wo)
def resDcat : Vec Ideal S2048x1024 .f32 := dcatG (rowB Y) (woB Wo)
def resDwout : Vec Ideal S1024x1024 .f32 := dwoutG (rowB C) (rowB Y)
def resDwall : Vec Ideal S3200x1024 .f32 := dwallG (dB D) (rowB H)
def resDh : Vec Ideal S2048x1024 .f32 := dhG (dB D) (wallB Wi)
end Terms

variable (m : (ℓ : Loc nD τ sig) → Buf (Elt Ideal) ℓ) (ρ : Dev nD → PrngReg) (c : Dev nD)
local notation "X0" => m (Thread.loc (Dev.tc c : Thread nD τ) main_arg0)
local notation "X1" => m (Thread.loc (Dev.tc c : Thread nD τ) main_arg1)
local notation "X2" => m (Thread.loc (Dev.tc c : Thread nD τ) main_arg2)
local notation "X3" => m (Thread.loc (Dev.tc c : Thread nD τ) main_arg3)
local notation "X4" => m (Thread.loc (Dev.tc c : Thread nD τ) main_arg4)
local notation "X5" => m (Thread.loc (Dev.tc c : Thread nD τ) main_arg5)

/-! ## After the host's stretch -/

theorem V1_v0 : V1 m ρ c main_v0 = rowB X0 := by
  change StableHlo.after hostOps0 (W0 m ρ c) _ = _
  after_reads_simp
  rfl
theorem V1_v1 : V1 m ρ c main_v1 = rowB X2 := by
  change StableHlo.after hostOps0 (W0 m ρ c) _ = _
  after_reads_simp
  rfl
theorem V1_v2 : V1 m ρ c main_v2 = rowB X5 := by
  change StableHlo.after hostOps0 (W0 m ρ c) _ = _
  after_reads_simp
  rfl
theorem V1_v3 : V1 m ρ c main_v3 = woB X3 := by
  change StableHlo.after hostOps0 (W0 m ρ c) _ = _
  after_reads_simp
  rfl
theorem V1_v10 : V1 m ρ c main_v10 = wallB X1 := by
  change StableHlo.after hostOps0 (W0 m ρ c) _ = _
  after_reads_simp
  rfl
theorem V1_v18 : V1 m ρ c main_v18 = dB X4 := by
  change StableHlo.after hostOps0 (W0 m ρ c) _ = _
  after_reads_simp
  rfl

/-! ## The regions in order -/

theorem V2_v19 : V2 m ρ c main_v19 = resProj X0 X1 := by
  refine (W2_arr m ρ c 2).trans ((fin0_2 (V1 m ρ) c).trans ?_)
  rw [V1_v0, V1_v10]
  rfl
theorem V2_v0 : V2 m ρ c main_v0 = rowB X0 := (W2_of m ρ c main_v0 (by decide +kernel)).trans (V1_v0 m ρ c)
theorem V2_v1 : V2 m ρ c main_v1 = rowB X2 := (W2_of m ρ c main_v1 (by decide +kernel)).trans (V1_v1 m ρ c)
theorem V2_v2 : V2 m ρ c main_v2 = rowB X5 := (W2_of m ρ c main_v2 (by decide +kernel)).trans (V1_v2 m ρ c)
theorem V2_v3 : V2 m ρ c main_v3 = woB X3 := (W2_of m ρ c main_v3 (by decide +kernel)).trans (V1_v3 m ρ c)
theorem V2_v10 : V2 m ρ c main_v10 = wallB X1 := (W2_of m ρ c main_v10 (by decide +kernel)).trans (V1_v10 m ρ c)
theorem V2_v18 : V2 m ρ c main_v18 = dB X4 := (W2_of m ρ c main_v18 (by decide +kernel)).trans (V1_v18 m ρ c)

theorem V3_v20 : V3 m ρ c main_v20 = resY X2 X3 := by
  refine (W3_arr m ρ c 2).trans ((fin1_2 (V2 m ρ) c).trans ?_)
  rw [V2_v1, V2_v3]
  rfl
theorem V3_v19 : V3 m ρ c main_v19 = resProj X0 X1 := (W3_of m ρ c main_v19 (by decide +kernel)).trans (V2_v19 m ρ c)
theorem V3_v0 : V3 m ρ c main_v0 = rowB X0 := (W3_of m ρ c main_v0 (by decide +kernel)).trans (V2_v0 m ρ c)
theorem V3_v1 : V3 m ρ c main_v1 = rowB X2 := (W3_of m ρ c main_v1 (by decide +kernel)).trans (V2_v1 m ρ c)
theorem V3_v2 : V3 m ρ c main_v2 = rowB X5 := (W3_of m ρ c main_v2 (by decide +kernel)).trans (V2_v2 m ρ c)
theorem V3_v3 : V3 m ρ c main_v3 = woB X3 := (W3_of m ρ c main_v3 (by decide +kernel)).trans (V2_v3 m ρ c)
theorem V3_v10 : V3 m ρ c main_v10 = wallB X1 := (W3_of m ρ c main_v10 (by decide +kernel)).trans (V2_v10 m ρ c)
theorem V3_v18 : V3 m ρ c main_v18 = dB X4 := (W3_of m ρ c main_v18 (by decide +kernel)).trans (V2_v18 m ρ c)

theorem V4_v21 : V4 m ρ c main_v21 = resDcat X3 X5 := by
  refine (W4_arr m ρ c 2).trans ((fin2_2 (V3 m ρ) c).trans ?_)
  rw [V3_v2, V3_v3]
  rfl
theorem V4_v20 : V4 m ρ c main_v20 = resY X2 X3 := (W4_of m ρ c main_v20 (by decide +kernel)).trans (V3_v20 m ρ c)
theorem V4_v19 : V4 m ρ c main_v19 = resProj X0 X1 := (W4_of m ρ c main_v19 (by decide +kernel)).trans (V3_v19 m ρ c)
theorem V4_v0 : V4 m ρ c main_v0 = rowB X0 := (W4_of m ρ c main_v0 (by decide +kernel)).trans (V3_v0 m ρ c)
theorem V4_v1 : V4 m ρ c main_v1 = rowB X2 := (W4_of m ρ c main_v1 (by decide +kernel)).trans (V3_v1 m ρ c)
theorem V4_v2 : V4 m ρ c main_v2 = rowB X5 := (W4_of m ρ c main_v2 (by decide +kernel)).trans (V3_v2 m ρ c)
theorem V4_v10 : V4 m ρ c main_v10 = wallB X1 := (W4_of m ρ c main_v10 (by decide +kernel)).trans (V3_v10 m ρ c)
theorem V4_v18 : V4 m ρ c main_v18 = dB X4 := (W4_of m ρ c main_v18 (by decide +kernel)).trans (V3_v18 m ρ c)

theorem V5_v22 : V5 m ρ c main_v22 = resDwout X2 X5 := by
  refine (W5_arr m ρ c 2).trans ((fin3_2 (V4 m ρ) c).trans ?_)
  rw [V4_v1, V4_v2]
  rfl
theorem V5_v21 : V5 m ρ c main_v21 = resDcat X3 X5 := (W5_of m ρ c main_v21 (by decide +kernel)).trans (V4_v21 m ρ c)
theorem V5_v20 : V5 m ρ c main_v20 = resY X2 X3 := (W5_of m ρ c main_v20 (by decide +kernel)).trans (V4_v20 m ρ c)
theorem V5_v19 : V5 m ρ c main_v19 = resProj X0 X1 := (W5_of m ρ c main_v19 (by decide +kernel)).trans (V4_v19 m ρ c)
theorem V5_v0 : V5 m ρ c main_v0 = rowB X0 := (W5_of m ρ c main_v0 (by decide +kernel)).trans (V4_v0 m ρ c)
theorem V5_v10 : V5 m ρ c main_v10 = wallB X1 := (W5_of m ρ c main_v10 (by decide +kernel)).trans (V4_v10 m ρ c)
theorem V5_v18 : V5 m ρ c main_v18 = dB X4 := (W5_of m ρ c main_v18 (by decide +kernel)).trans (V4_v18 m ρ c)

theorem V6_v23 : V6 m ρ c main_v23 = resDwall X0 X4 := by
  refine (W6_arr m ρ c 2).trans ((fin4_2 (V5 m ρ) c).trans ?_)
  rw [V5_v18, V5_v0]
  rfl
theorem V6_v22 : V6 m ρ c main_v22 = resDwout X2 X5 := (W6_of m ρ c main_v22 (by decide +kernel)).trans (V5_v22 m ρ c)
theorem V6_v21 : V6 m ρ c main_v21 = resDcat X3 X5 := (W6_of m ρ c main_v21 (by decide +kernel)).trans (V5_v21 m ρ c)
theorem V6_v20 : V6 m ρ c main_v20 = resY X2 X3 := (W6_of m ρ c main_v20 (by decide +kernel)).trans (V5_v20 m ρ c)
theorem V6_v19 : V6 m ρ c main_v19 = resProj X0 X1 := (W6_of m ρ c main_v19 (by decide +kernel)).trans (V5_v19 m ρ c)
theorem V6_v10 : V6 m ρ c main_v10 = wallB X1 := (W6_of m ρ c main_v10 (by decide +kernel)).trans (V5_v10 m ρ c)
theorem V6_v18 : V6 m ρ c main_v18 = dB X4 := (W6_of m ρ c main_v18 (by decide +kernel)).trans (V5_v18 m ρ c)

theorem V7_v24 : V7 m ρ c main_v24 = resDh X1 X4 := by
  refine (W7_arr m ρ c 2).trans ((fin5_2 (V6 m ρ) c).trans ?_)
  rw [V6_v18, V6_v10]
  rfl
theorem V7_v23 : V7 m ρ c main_v23 = resDwall X0 X4 := (W7_of m ρ c main_v23 (by decide +kernel)).trans (V6_v23 m ρ c)
theorem V7_v22 : V7 m ρ c main_v22 = resDwout X2 X5 := (W7_of m ρ c main_v22 (by decide +kernel)).trans (V6_v22 m ρ c)
theorem V7_v21 : V7 m ρ c main_v21 = resDcat X3 X5 := (W7_of m ρ c main_v21 (by decide +kernel)).trans (V6_v21 m ρ c)
theorem V7_v20 : V7 m ρ c main_v20 = resY X2 X3 := (W7_of m ρ c main_v20 (by decide +kernel)).trans (V6_v20 m ρ c)
theorem V7_v19 : V7 m ρ c main_v19 = resProj X0 X1 := (W7_of m ρ c main_v19 (by decide +kernel)).trans (V6_v19 m ρ c)

/-! ## The run: the generated frame's set-up, at the results as well as the arguments -/

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem ends : θ_run defs (onTc (τ := τ) (main (F := Ideal))) ⟨m, fun _ => 0, ρ⟩ (fun r => ∀ c : Dev nD,
      r.2.mem ((c.tc : Thread nD τ).loc main_v19) = V7 m ρ c main_v19
      ∧ r.2.mem ((c.tc : Thread nD τ).loc main_v20) = V7 m ρ c main_v20
      ∧ r.2.mem ((c.tc : Thread nD τ).loc main_v21) = V7 m ρ c main_v21
      ∧ r.2.mem ((c.tc : Thread nD τ).loc main_v22) = V7 m ρ c main_v22
      ∧ r.2.mem ((c.tc : Thread nD τ).loc main_v23) = V7 m ρ c main_v23
      ∧ r.2.mem ((c.tc : Thread nD τ).loc main_v24) = V7 m ρ c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v19 (by decide)), h c _ (mem_uc main_v20 (by decide)), h c _ (mem_uc main_v21 (by decide)), h c _ (mem_uc main_v22 (by decide)), h c _ (mem_uc main_v23 (by decide)), h c _ (mem_uc main_v24 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

/-- Every run of the kernel ends with these results, its arguments unchanged. -/
theorem kernel_ends : θ_run defs (onTc (τ := τ) (main (F := Ideal))) ⟨m, fun _ => 0, ρ⟩ (fun r => ∀ c : Dev nD,
      r.2.mem ((c.tc : Thread nD τ).loc main_v19) = resProj (m ((c.tc : Thread nD τ).loc main_arg0)) (m ((c.tc : Thread nD τ).loc main_arg1))
      ∧ r.2.mem ((c.tc : Thread nD τ).loc main_v20) = resY (m ((c.tc : Thread nD τ).loc main_arg2)) (m ((c.tc : Thread nD τ).loc main_arg3))
      ∧ r.2.mem ((c.tc : Thread nD τ).loc main_v21) = resDcat (m ((c.tc : Thread nD τ).loc main_arg3)) (m ((c.tc : Thread nD τ).loc main_arg5))
      ∧ r.2.mem ((c.tc : Thread nD τ).loc main_v22) = resDwout (m ((c.tc : Thread nD τ).loc main_arg2)) (m ((c.tc : Thread nD τ).loc main_arg5))
      ∧ r.2.mem ((c.tc : Thread nD τ).loc main_v23) = resDwall (m ((c.tc : Thread nD τ).loc main_arg0)) (m ((c.tc : Thread nD τ).loc main_arg4))
      ∧ r.2.mem ((c.tc : Thread nD τ).loc main_v24) = resDh (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (ends m ρ)
  obtain ⟨h0, h1, h2, h3, h4, h5, ha⟩ := h c
  exact ⟨h0.trans (V7_v19 m ρ c), h1.trans (V7_v20 m ρ c), h2.trans (V7_v21 m ρ c), h3.trans (V7_v22 m ρ c), h4.trans (V7_v23 m ρ c), h5.trans (V7_v24 m ρ c), ha⟩

end Cert.Proj

end
-- ==== Proof.ProjRef.lean ====
/-
  The projections' reference products by stages, and each stage element by element.
-/
module

public import proofs.«01_k».proof.Proof.Gen.Reference5Ideal.Run
public import Idealize.ShloMosaic.Lib.Pointwise
public import Idealize.ShloMosaic.Lib.IdealHost

@[expose] public section

set_option maxHeartbeats 1600000
set_option maxRecDepth 16384

noncomputable section

namespace Cert.Proj.Ref

open Idealize.ShloMosaic Cert.Reference5Ideal Cert.Reference5Ideal.Gen Cert.Reference5Ideal.Facts

variable (H : FVec Ideal S2048x1024 .f32) (Wi : FVec Ideal S1024x3080 .f32) (C : FVec Ideal S2048x1024 .f32)
  (Wo : FVec Ideal S1024x1024 .f32) (D : FVec Ideal S2048x3080 .f32) (Y : FVec Ideal S2048x1024 .f32)

/-- The input projection, transposed. -/
def projT : FVec Ideal S3080x2048 .f32 := transpose S3080x2048 [1, 0] (Host.dotGeneral (F := Ideal) dot_S2048x1024_S1024x3080_S2048x3080_1_0_0_1_n_n none H Wi : FVec Ideal S2048x3080 .f32) transposes_S2048x3080_S3080x2048_1_0
def rProj : FVec Ideal S2048x3200 .f32 := transpose S2048x3200 [1, 0] (concatenate S3200x2048 0 [⟨S1536x2048, extractStridedSlice S1536x2048 ![0, 0] (projT H Wi) slices_S3080x2048_S1536x2048_0_0⟩, ⟨S1536x2048, extractStridedSlice S1536x2048 ![1544, 0] (projT H Wi) slices_S3080x2048_S1536x2048_1544_0⟩, ⟨S8x2048, extractStridedSlice S8x2048 ![1536, 0] (projT H Wi) slices_S3080x2048_S8x2048_1536_0⟩, ⟨S120x2048, broadcastInDim S120x2048 ![] bcast_S_S120x2048 (constant S_ .f32 0x00000000#32 : FVec Ideal S_ .f32)⟩] concatenates_S1536x2048_S1536x2048_S8x2048_S120x2048_S3200x2048_d0 : FVec Ideal S3200x2048 .f32) transposes_S3200x2048_S2048x3200_1_0
def rY : FVec Ideal S2048x1024 .f32 := Host.dotGeneral (F := Ideal) dot_S2048x1024_S1024x1024_S2048x1024_1_0_0_1_n_n none C Wo
def rDcat : FVec Ideal S2048x1024 .f32 := Host.dotGeneral (F := Ideal) dot_S2048x1024_S1024x1024_S2048x1024_1_1_0_0_n_n none Y Wo
def rDwout : FVec Ideal S1024x1024 .f32 := transpose S1024x1024 [1, 0] (Host.dotGeneral (F := Ideal) dot_S2048x1024_S2048x1024_S1024x1024_0_0_1_1_n_n none Y C : FVec Ideal S1024x1024 .f32) transposes_S1024x1024_S1024x1024_1_0
/-- The input weight's gradient, transposed. -/
def dwT : FVec Ideal S3080x1024 .f32 := transpose S3080x1024 [1, 0] (transpose S1024x3080 [1, 0] (Host.dotGeneral (F := Ideal) dot_S2048x3080_S2048x1024_S3080x1024_0_0_1_1_n_n none D H : FVec Ideal S3080x1024 .f32) transposes_S3080x1024_S1024x3080_1_0 : FVec Ideal S1024x3080 .f32) transposes_S1024x3080_S3080x1024_1_0
def rDwall : FVec Ideal S3200x1024 .f32 := concatenate S3200x1024 0 [⟨S1536x1024, extractStridedSlice S1536x1024 ![0, 0] (dwT H D) slices_S3080x1024_S1536x1024_0_0⟩, ⟨S1536x1024, extractStridedSlice S1536x1024 ![1544, 0] (dwT H D) slices_S3080x1024_S1536x1024_1544_0⟩, ⟨S8x1024, extractStridedSlice S8x1024 ![1536, 0] (dwT H D) slices_S3080x1024_S8x1024_1536_0⟩, ⟨S120x1024, broadcastInDim S120x1024 ![] bcast_S_S120x1024 (constant S_ .f32 0x00000000#32 : FVec Ideal S_ .f32)⟩] concatenates_S1536x1024_S1536x1024_S8x1024_S120x1024_S3200x1024_d0
def rDh : FVec Ideal S2048x1024 .f32 := Host.dotGeneral (F := Ideal) dot_S2048x3080_S1024x3080_S2048x1024_1_1_0_0_n_n none D Wi

/-! ## Element by element -/

theorem projT_at (j : Fin 3080) (r : Fin 2048) : projT H Wi (ix2 j r) = ∑ k : Fin 1024, H (ix2 r k) * Wi (ix2 k j) := by
  pointwise [projT]
theorem dwT_at (j : Fin 3080) (n : Fin 1024) : dwT H D (ix2 j n) = ∑ r : Fin 2048, D (ix2 r j) * H (ix2 r n) := by
  pointwise [dwT]
theorem rProj_a (j : Fin 1536) (r : Fin 2048) : rProj H Wi (ix2 r ⟨j.val, by omega⟩) = projT H Wi (ix2 ⟨j.val, by omega⟩ r) := by
  pointwise [rProj]
theorem rProj_b (j : Fin 1536) (r : Fin 2048) : rProj H Wi (ix2 r ⟨1536 + j.val, by omega⟩) = projT H Wi (ix2 ⟨1544 + j.val, by omega⟩ r) := by
  pointwise [rProj]
theorem rProj_c (j : Fin 8) (r : Fin 2048) : rProj H Wi (ix2 r ⟨3072 + j.val, by omega⟩) = projT H Wi (ix2 ⟨1536 + j.val, by omega⟩ r) := by
  pointwise [rProj]
  rw [dif_neg (by omega), dif_neg (by omega), dif_pos (by omega)]
  exact congrArg (fun q => projT H Wi (ix2 q r)) (Fin.ext (by show 1536 + (3072 + j.val - 1536 - 1536) = 1536 + j.val; omega))
theorem rProj_z (j : Fin 120) (r : Fin 2048) : rProj H Wi (ix2 r ⟨3080 + j.val, by omega⟩) = 0 := by
  pointwise [rProj]
  rw [dif_neg (by omega), dif_neg (by omega), dif_neg (by omega)]
theorem rDwall_a (j : Fin 1536) (n : Fin 1024) : rDwall H D (ix2 ⟨j.val, by omega⟩ n) = dwT H D (ix2 ⟨j.val, by omega⟩ n) := by
  pointwise [rDwall]
theorem rDwall_b (j : Fin 1536) (n : Fin 1024) : rDwall H D (ix2 ⟨1536 + j.val, by omega⟩ n) = dwT H D (ix2 ⟨1544 + j.val, by omega⟩ n) := by
  pointwise [rDwall]
theorem rDwall_c (j : Fin 8) (n : Fin 1024) : rDwall H D (ix2 ⟨3072 + j.val, by omega⟩ n) = dwT H D (ix2 ⟨1536 + j.val, by omega⟩ n) := by
  pointwise [rDwall]
  rw [dif_neg (by omega), dif_neg (by omega), dif_pos (by omega)]
  exact congrArg (fun q => dwT H D (ix2 q n)) (Fin.ext (by show 1536 + (3072 + j.val - 1536 - 1536) = 1536 + j.val; omega))
theorem rDwall_z (j : Fin 120) (n : Fin 1024) : rDwall H D (ix2 ⟨3080 + j.val, by omega⟩ n) = 0 := by
  pointwise [rDwall]
  rw [dif_neg (by omega), dif_neg (by omega), dif_neg (by omega)]
theorem rY_at (r : Fin 2048) (n : Fin 1024) : rY C Wo (ix2 r n) = ∑ k : Fin 1024, C (ix2 r k) * Wo (ix2 k n) := by
  pointwise [rY]
theorem rDcat_at (r : Fin 2048) (n : Fin 1024) : rDcat Wo Y (ix2 r n) = ∑ k : Fin 1024, Y (ix2 r k) * Wo (ix2 n k) := by
  pointwise [rDcat]
theorem rDwout_at (k n : Fin 1024) : rDwout C Y (ix2 k n) = ∑ r : Fin 2048, Y (ix2 r n) * C (ix2 r k) := by
  pointwise [rDwout]
theorem rDh_at (r : Fin 2048) (n : Fin 1024) : rDh Wi D (ix2 r n) = ∑ k : Fin 3080, D (ix2 r k) * Wi (ix2 n k) := by
  pointwise [rDh]

/-- Every run of the reference ends with these, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = rProj (m ((c.tc : Thread nD τ).loc main_arg0)) (m ((c.tc : Thread nD τ).loc main_arg1))
      ∧ r.2.mem ((c.tc : Thread nD τ).loc main_v4) = rY (m ((c.tc : Thread nD τ).loc main_arg2)) (m ((c.tc : Thread nD τ).loc main_arg3))
      ∧ r.2.mem ((c.tc : Thread nD τ).loc main_v7) = rDcat (m ((c.tc : Thread nD τ).loc main_arg3)) (m ((c.tc : Thread nD τ).loc main_arg5))
      ∧ r.2.mem ((c.tc : Thread nD τ).loc main_v6) = rDwout (m ((c.tc : Thread nD τ).loc main_arg2)) (m ((c.tc : Thread nD τ).loc main_arg5))
      ∧ r.2.mem ((c.tc : Thread nD τ).loc main_v20) = rDwall (m ((c.tc : Thread nD τ).loc main_arg0)) (m ((c.tc : Thread nD τ).loc main_arg4))
      ∧ r.2.mem ((c.tc : Thread nD τ).loc main_v3) = rDh (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h0, h1, h2, h3, h4, h5, ha⟩ := h c
    exact ⟨h0.trans rfl, h1.trans rfl, h2.trans rfl, h3.trans rfl, h4.trans rfl, h5.trans rfl, ha⟩) (Value.run m ρ)

end Cert.Proj.Ref

end
-- ==== Proof.ProjEq.lean ====
/-
  The projections' six products are the reference's, whatever the arguments hold: the packed rows and columns are the
  reference's moved, and the padding adds zeros.
-/
module

public import proofs.«01_k».proof.Proof.ProjRun
public import proofs.«01_k».proof.Proof.ProjRef

@[expose] public section

set_option maxHeartbeats 1600000
set_option maxRecDepth 16384

noncomputable section

namespace Cert.Proj

open Idealize.ShloMosaic Cert.Kernel5Ideal Cert.Kernel5Ideal.Gen Cert.Kernel5Ideal.Facts

variable (H : FVec Ideal S2048x1024 .f32) (Wi : FVec Ideal S1024x3080 .f32) (C : FVec Ideal S2048x1024 .f32)
  (Wo : FVec Ideal S1024x1024 .f32) (D : FVec Ideal S2048x3080 .f32) (Y : FVec Ideal S2048x1024 .f32)

/-! ## The kernel's operands, element by element -/

theorem rowB_at (s : Fin 2048) (k : Fin 1024) : rowB H (ix2 s k) = H (ix2 s k) := by
  pointwise [rowB]
theorem woB_at (s k : Fin 1024) : woB Wo (ix2 s k) = Wo (ix2 s k) := by
  pointwise [woB]
theorem wiT_at (j : Fin 3080) (k : Fin 1024) : wiT Wi (ix2 j k) = Wi (ix2 k j) := by
  pointwise [wiT]
theorem dT_at (j : Fin 3080) (r : Fin 2048) : dT D (ix2 j r) = D (ix2 r j) := by
  pointwise [dT]
theorem wallB_a (j : Fin 1536) (k : Fin 1024) : wallB Wi (ix2 ⟨j.val, by omega⟩ k) = Wi (ix2 k ⟨j.val, by omega⟩) := by
  refine Eq.trans ?_ (wiT_at Wi _ _)
  pointwise [wallB]
theorem wallB_b (j : Fin 1536) (k : Fin 1024) : wallB Wi (ix2 ⟨1536 + j.val, by omega⟩ k) = Wi (ix2 k ⟨1544 + j.val, by omega⟩) := by
  refine Eq.trans ?_ (wiT_at Wi _ _)
  pointwise [wallB]
theorem wallB_c (j : Fin 8) (k : Fin 1024) : wallB Wi (ix2 ⟨3072 + j.val, by omega⟩ k) = Wi (ix2 k ⟨1536 + j.val, by omega⟩) := by
  refine Eq.trans ?_ (wiT_at Wi _ _)
  pointwise [wallB]
  rw [dif_neg (by omega), dif_neg (by omega), dif_pos (by omega)]
  exact congrArg (fun q => wiT Wi (ix2 q k)) (Fin.ext (by show 1536 + (3072 + j.val - 1536 - 1536) = 1536 + j.val; omega))
theorem wallB_z (j : Fin 120) (k : Fin 1024) : wallB Wi (ix2 ⟨3080 + j.val, by omega⟩ k) = 0 := by
  pointwise [wallB]
  rw [dif_neg (by omega), dif_neg (by omega), dif_neg (by omega)]
theorem dB_a (j : Fin 1536) (r : Fin 2048) : dB D (ix2 r ⟨j.val, by omega⟩) = D (ix2 r ⟨j.val, by omega⟩) := by
  refine Eq.trans ?_ (dT_at D _ _)
  pointwise [dB]
theorem dB_b (j : Fin 1536) (r : Fin 2048) : dB D (ix2 r ⟨1536 + j.val, by omega⟩) = D (ix2 r ⟨1544 + j.val, by omega⟩) := by
  refine Eq.trans ?_ (dT_at D _ _)
  pointwise [dB]
theorem dB_c (j : Fin 8) (r : Fin 2048) : dB D (ix2 r ⟨3072 + j.val, by omega⟩) = D (ix2 r ⟨1536 + j.val, by omega⟩) := by
  refine Eq.trans ?_ (dT_at D _ _)
  pointwise [dB]
  rw [dif_neg (by omega), dif_neg (by omega), dif_pos (by omega)]
  exact congrArg (fun q => dT D (ix2 q r)) (Fin.ext (by show 1536 + (3072 + j.val - 1536 - 1536) = 1536 + j.val; omega))
theorem dB_z (j : Fin 120) (r : Fin 2048) : dB D (ix2 r ⟨3080 + j.val, by omega⟩) = 0 := by
  pointwise [dB]
  rw [dif_neg (by omega), dif_neg (by omega), dif_neg (by omega)]

/-! ## The packed positions -/

theorem pos (p : Fin 3200) : (∃ j : Fin 1536, p = ⟨j.val, by omega⟩) ∨ (∃ j : Fin 1536, p = ⟨1536 + j.val, by omega⟩)
    ∨ (∃ j : Fin 8, p = ⟨3072 + j.val, by omega⟩) ∨ (∃ j : Fin 120, p = ⟨3080 + j.val, by omega⟩) := by
  have hp := p.isLt
  by_cases h0 : p.val < 1536
  · exact Or.inl ⟨⟨p.val, h0⟩, rfl⟩
  by_cases h1 : p.val < 3072
  · exact Or.inr (Or.inl ⟨⟨p.val - 1536, by omega⟩, Fin.ext (by show p.val = 1536 + (p.val - 1536); omega)⟩)
  by_cases h2 : p.val < 3080
  · exact Or.inr (Or.inr (Or.inl ⟨⟨p.val - 3072, by omega⟩, Fin.ext (by show p.val = 3072 + (p.val - 3072); omega)⟩))
  · exact Or.inr (Or.inr (Or.inr ⟨⟨p.val - 3080, by omega⟩, Fin.ext (by show p.val = 3080 + (p.val - 3080); omega)⟩))
theorem sum3200 (f : Fin 3200 → EReal) : ∑ p : Fin 3200, f p
    = ((∑ j : Fin 1536, f ⟨j.val, by omega⟩) + ∑ j : Fin 1536, f ⟨1536 + j.val, by omega⟩)
      + (∑ j : Fin 8, f ⟨3072 + j.val, by omega⟩) + ∑ j : Fin 120, f ⟨3080 + j.val, by omega⟩ := by
  refine (Fin.sum_univ_add (a := 3080) (b := 120) f).trans ?_
  refine congrArg₂ (· + ·) ?_ rfl
  refine (Fin.sum_univ_add (a := 3072) (b := 8) fun p : Fin 3080 => f ⟨p.val, by omega⟩).trans ?_
  refine congrArg₂ (· + ·) ?_ rfl
  exact Fin.sum_univ_add (a := 1536) (b := 1536) fun p : Fin 3072 => f ⟨p.val, by omega⟩
theorem sum3080 (f : Fin 3080 → EReal) : ∑ p : Fin 3080, f p
    = ((∑ j : Fin 1536, f ⟨j.val, by omega⟩) + ∑ j : Fin 8, f ⟨1536 + j.val, by omega⟩) + ∑ j : Fin 1536, f ⟨1544 + j.val, by omega⟩ := by
  refine (Fin.sum_univ_add (a := 1544) (b := 1536) f).trans ?_
  refine congrArg₂ (· + ·) ?_ rfl
  exact Fin.sum_univ_add (a := 1536) (b := 8) fun p : Fin 1544 => f ⟨p.val, by omega⟩

/-! ## The results -/

theorem resProj_eq : resProj H Wi = Ref.rProj H Wi := by
  funext i
  obtain ⟨s, p, rfl⟩ : ∃ (s : Fin 2048) (p : Fin 3200), i = ix2 s p := ⟨i 0, i 1, eq_ix2 i⟩
  show (∑ k : Fin 1024, rowB H (ix2 s k) * wallB Wi (ix2 p k)) = _
  simp only [rowB_at]
  rcases pos p with ⟨j, rfl⟩ | ⟨j, rfl⟩ | ⟨j, rfl⟩ | ⟨j, rfl⟩
  · rw [Ref.rProj_a, Ref.projT_at]
    simp only [wallB_a]
  · rw [Ref.rProj_b, Ref.projT_at]
    simp only [wallB_b]
  · rw [Ref.rProj_c, Ref.projT_at]
    simp only [wallB_c]
  · rw [Ref.rProj_z]
    simp only [wallB_z, mul_zero, Finset.sum_const_zero]
theorem resY_eq : resY C Wo = Ref.rY C Wo := by
  funext i
  obtain ⟨s, n, rfl⟩ : ∃ (s : Fin 2048) (n : Fin 1024), i = ix2 s n := ⟨i 0, i 1, eq_ix2 i⟩
  rw [Ref.rY_at]
  show (∑ k : Fin 1024, rowB C (ix2 s k) * woB Wo (ix2 k n)) = _
  simp only [rowB_at, woB_at]
theorem resDcat_eq : resDcat Wo Y = Ref.rDcat Wo Y := by
  funext i
  obtain ⟨s, n, rfl⟩ : ∃ (s : Fin 2048) (n : Fin 1024), i = ix2 s n := ⟨i 0, i 1, eq_ix2 i⟩
  rw [Ref.rDcat_at]
  show (∑ k : Fin 1024, rowB Y (ix2 s k) * woB Wo (ix2 n k)) = _
  simp only [rowB_at, woB_at]
theorem resDwout_eq : resDwout C Y = Ref.rDwout C Y := by
  funext i
  obtain ⟨k, n, rfl⟩ : ∃ (k n : Fin 1024), i = ix2 k n := ⟨i 0, i 1, eq_ix2 i⟩
  rw [Ref.rDwout_at]
  show (∑ r : Fin 2048, rowB C (ix2 r k) * rowB Y (ix2 r n)) = _
  refine Finset.sum_congr rfl fun r _ => ?_
  rw [rowB_at, rowB_at, mul_comm]
theorem resDwall_eq : resDwall H D = Ref.rDwall H D := by
  funext i
  obtain ⟨p, n, rfl⟩ : ∃ (p : Fin 3200) (n : Fin 1024), i = ix2 p n := ⟨i 0, i 1, eq_ix2 i⟩
  show (∑ r : Fin 2048, dB D (ix2 r p) * rowB H (ix2 r n)) = _
  simp only [rowB_at]
  rcases pos p with ⟨j, rfl⟩ | ⟨j, rfl⟩ | ⟨j, rfl⟩ | ⟨j, rfl⟩
  · rw [Ref.rDwall_a, Ref.dwT_at]
    simp only [dB_a]
  · rw [Ref.rDwall_b, Ref.dwT_at]
    simp only [dB_b]
  · rw [Ref.rDwall_c, Ref.dwT_at]
    simp only [dB_c]
  · rw [Ref.rDwall_z]
    simp only [dB_z, zero_mul, Finset.sum_const_zero]
theorem resDh_eq : resDh Wi D = Ref.rDh Wi D := by
  funext i
  obtain ⟨s, n, rfl⟩ : ∃ (s : Fin 2048) (n : Fin 1024), i = ix2 s n := ⟨i 0, i 1, eq_ix2 i⟩
  rw [Ref.rDh_at, sum3080]
  show (∑ k : Fin 3200, dB D (ix2 s k) * wallB Wi (ix2 k n)) = _
  rw [sum3200]
  simp only [dB_a, dB_b, dB_c, dB_z, wallB_a, wallB_b, wallB_c, wallB_z, mul_zero, Finset.sum_const_zero, add_zero]
  exact add_right_comm _ _ _

end Cert.Proj

end
-- ==== Proof.AdamVal.lean ====
/-
  One AdamW step at one element, and over an array.
-/
module

public import Idealize.ShloMosaic.Lib.Pipeline.ValueKit
public import Idealize.ShloMosaic.Lib.IdealHost

@[expose] public section

noncomputable section

namespace Cert.Adam

open Idealize.ShloMosaic

/-- The first moment. -/
def am (g m : EReal) : EReal := Ideal.ofBits FTy.f32 0x3F666666#32 * m + Ideal.ofBits FTy.f32 0x3DCCCCCD#32 * g
/-- The second moment. -/
def av (g v : EReal) : EReal := Ideal.ofBits FTy.f32 0x3F7FBE77#32 * v + Ideal.ofBits FTy.f32 0x3A83126F#32 * (g * g)
/-- The weight's change. -/
def ad (w g m v : EReal) : EReal :=
  Ideal.ofBits FTy.f32 0xBA83126F#32 * (Ideal.div (Ideal.div (am g m) (Ideal.ofBits FTy.f32 0x3F26BD02#32))
    (Ideal.sqrt (Ideal.div (av g v) (Ideal.ofBits FTy.f32 0x3C231ACC#32)) + Ideal.ofBits FTy.f32 0x322BCC77#32)
    + Ideal.ofBits FTy.f32 0x3C23D70A#32 * w)

variable {s : Shape}

/-- The first moments of an array. -/
def arrM (G M : FVec Ideal s .f32) : FVec Ideal s .f32 := fun i => am (G i) (M i)
/-- The second moments of an array. -/
def arrV (G V : FVec Ideal s .f32) : FVec Ideal s .f32 := fun i => av (G i) (V i)
/-- The changes of an array. -/
def arrD (W G M V : FVec Ideal s .f32) : FVec Ideal s .f32 := fun i => ad (W i) (G i) (M i) (V i)

end Cert.Adam

end
-- ==== Proof.AdamOut.lean ====
/-
  What each of the nine AdamW kernels leaves in its three output blocks, from its input blocks.
-/
module

public import proofs.«01_k».proof.Proof.Gen.Kernel6Ideal.Frame
public import proofs.«01_k».proof.Proof.AdamVal

@[expose] public section

set_option maxHeartbeats 1600000
set_option maxRecDepth 16384

noncomputable section

namespace Cert.Adam

open Idealize.ShloMosaic Cert.Kernel6Ideal Cert.Kernel6Ideal.Gen

theorem o0_4 (x0 x1 x2 x3 : Vec Ideal S256x1024 .f32) : out0_4 x0 x1 x2 x3 = arrD x0 x1 x2 x3 := by
  funext y
  obtain ⟨r, n, rfl⟩ : ∃ (r : Fin 256) (n : Fin 1024), y = ix2 r n := ⟨y 0, y 1, eq_ix2 y⟩
  unfold out0_4
  frame_out
  pointwise [k0_pay3, k0_pay2, k0_pay1, arrD, ad, am, av]
theorem o0_5 (x0 x1 x2 x3 : Vec Ideal S256x1024 .f32) : out0_5 x0 x1 x2 x3 = arrM x1 x2 := by
  funext y
  obtain ⟨r, n, rfl⟩ : ∃ (r : Fin 256) (n : Fin 1024), y = ix2 r n := ⟨y 0, y 1, eq_ix2 y⟩
  unfold out0_5
  frame_out
  pointwise [k0_pay1, arrM, am]
theorem o0_6 (x0 x1 x2 x3 : Vec Ideal S256x1024 .f32) : out0_6 x0 x1 x2 x3 = arrV x1 x3 := by
  funext y
  obtain ⟨r, n, rfl⟩ : ∃ (r : Fin 256) (n : Fin 1024), y = ix2 r n := ⟨y 0, y 1, eq_ix2 y⟩
  unfold out0_6
  frame_out
  pointwise [k0_pay2, arrV, av]
theorem o1_4 (x0 x1 x2 x3 : Vec Ideal S256x256 .f32) : out1_4 x0 x1 x2 x3 = arrD x0 x1 x2 x3 := by
  funext y
  obtain ⟨r, n, rfl⟩ : ∃ (r : Fin 256) (n : Fin 256), y = ix2 r n := ⟨y 0, y 1, eq_ix2 y⟩
  unfold out1_4
  frame_out
  pointwise [k1_pay3, k1_pay2, k1_pay1, arrD, ad, am, av]
theorem o1_5 (x0 x1 x2 x3 : Vec Ideal S256x256 .f32) : out1_5 x0 x1 x2 x3 = arrM x1 x2 := by
  funext y
  obtain ⟨r, n, rfl⟩ : ∃ (r : Fin 256) (n : Fin 256), y = ix2 r n := ⟨y 0, y 1, eq_ix2 y⟩
  unfold out1_5
  frame_out
  pointwise [k1_pay1, arrM, am]
theorem o1_6 (x0 x1 x2 x3 : Vec Ideal S256x256 .f32) : out1_6 x0 x1 x2 x3 = arrV x1 x3 := by
  funext y
  obtain ⟨r, n, rfl⟩ : ∃ (r : Fin 256) (n : Fin 256), y = ix2 r n := ⟨y 0, y 1, eq_ix2 y⟩
  unfold out1_6
  frame_out
  pointwise [k1_pay2, arrV, av]
theorem o2_4 (x0 x1 x2 x3 : Vec Ideal S256x1024 .f32) : out2_4 x0 x1 x2 x3 = arrD x0 x1 x2 x3 := by
  funext y
  obtain ⟨r, n, rfl⟩ : ∃ (r : Fin 256) (n : Fin 1024), y = ix2 r n := ⟨y 0, y 1, eq_ix2 y⟩
  unfold out2_4
  frame_out
  pointwise [k2_pay3, k2_pay2, k2_pay1, arrD, ad, am, av]
theorem o2_5 (x0 x1 x2 x3 : Vec Ideal S256x1024 .f32) : out2_5 x0 x1 x2 x3 = arrM x1 x2 := by
  funext y
  obtain ⟨r, n, rfl⟩ : ∃ (r : Fin 256) (n : Fin 1024), y = ix2 r n := ⟨y 0, y 1, eq_ix2 y⟩
  unfold out2_5
  frame_out
  pointwise [k2_pay1, arrM, am]
theorem o2_6 (x0 x1 x2 x3 : Vec Ideal S256x1024 .f32) : out2_6 x0 x1 x2 x3 = arrV x1 x3 := by
  funext y
  obtain ⟨r, n, rfl⟩ : ∃ (r : Fin 256) (n : Fin 1024), y = ix2 r n := ⟨y 0, y 1, eq_ix2 y⟩
  unfold out2_6
  frame_out
  pointwise [k2_pay2, arrV, av]
theorem o3_4 (x0 x1 x2 x3 : Vec Ideal S128x1024 .f32) : out3_4 x0 x1 x2 x3 = arrD x0 x1 x2 x3 := by
  funext y
  obtain ⟨r, n, rfl⟩ : ∃ (r : Fin 128) (n : Fin 1024), y = ix2 r n := ⟨y 0, y 1, eq_ix2 y⟩
  unfold out3_4
  frame_out
  pointwise [k3_pay3, k3_pay2, k3_pay1, arrD, ad, am, av]
theorem o3_5 (x0 x1 x2 x3 : Vec Ideal S128x1024 .f32) : out3_5 x0 x1 x2 x3 = arrM x1 x2 := by
  funext y
  obtain ⟨r, n, rfl⟩ : ∃ (r : Fin 128) (n : Fin 1024), y = ix2 r n := ⟨y 0, y 1, eq_ix2 y⟩
  unfold out3_5
  frame_out
  pointwise [k3_pay1, arrM, am]
theorem o3_6 (x0 x1 x2 x3 : Vec Ideal S128x1024 .f32) : out3_6 x0 x1 x2 x3 = arrV x1 x3 := by
  funext y
  obtain ⟨r, n, rfl⟩ : ∃ (r : Fin 128) (n : Fin 1024), y = ix2 r n := ⟨y 0, y 1, eq_ix2 y⟩
  unfold out3_6
  frame_out
  pointwise [k3_pay2, arrV, av]
theorem o4_4 (x0 x1 x2 x3 : Vec Ideal S770x1024 .f32) : out4_4 x0 x1 x2 x3 = arrD x0 x1 x2 x3 := by
  funext y
  obtain ⟨r, n, rfl⟩ : ∃ (r : Fin 770) (n : Fin 1024), y = ix2 r n := ⟨y 0, y 1, eq_ix2 y⟩
  unfold out4_4
  frame_out
  pointwise [k4_pay3, k4_pay2, k4_pay1, arrD, ad, am, av]
theorem o4_5 (x0 x1 x2 x3 : Vec Ideal S770x1024 .f32) : out4_5 x0 x1 x2 x3 = arrM x1 x2 := by
  funext y
  obtain ⟨r, n, rfl⟩ : ∃ (r : Fin 770) (n : Fin 1024), y = ix2 r n := ⟨y 0, y 1, eq_ix2 y⟩
  unfold out4_5
  frame_out
  pointwise [k4_pay1, arrM, am]
theorem o4_6 (x0 x1 x2 x3 : Vec Ideal S770x1024 .f32) : out4_6 x0 x1 x2 x3 = arrV x1 x3 := by
  funext y
  obtain ⟨r, n, rfl⟩ : ∃ (r : Fin 770) (n : Fin 1024), y = ix2 r n := ⟨y 0, y 1, eq_ix2 y⟩
  unfold out4_6
  frame_out
  pointwise [k4_pay2, arrV, av]
theorem o5_4 (x0 x1 x2 x3 : Vec Ideal S256x1024 .f32) : out5_4 x0 x1 x2 x3 = arrD x0 x1 x2 x3 := by
  funext y
  obtain ⟨r, n, rfl⟩ : ∃ (r : Fin 256) (n : Fin 1024), y = ix2 r n := ⟨y 0, y 1, eq_ix2 y⟩
  unfold out5_4
  frame_out
  pointwise [k5_pay3, k5_pay2, k5_pay1, arrD, ad, am, av]
theorem o5_5 (x0 x1 x2 x3 : Vec Ideal S256x1024 .f32) : out5_5 x0 x1 x2 x3 = arrM x1 x2 := by
  funext y
  obtain ⟨r, n, rfl⟩ : ∃ (r : Fin 256) (n : Fin 1024), y = ix2 r n := ⟨y 0, y 1, eq_ix2 y⟩
  unfold out5_5
  frame_out
  pointwise [k5_pay1, arrM, am]
theorem o5_6 (x0 x1 x2 x3 : Vec Ideal S256x1024 .f32) : out5_6 x0 x1 x2 x3 = arrV x1 x3 := by
  funext y
  obtain ⟨r, n, rfl⟩ : ∃ (r : Fin 256) (n : Fin 1024), y = ix2 r n := ⟨y 0, y 1, eq_ix2 y⟩
  unfold out5_6
  frame_out
  pointwise [k5_pay2, arrV, av]
theorem o6_4 (x0 x1 x2 x3 : Vec Ideal S256x256 .f32) : out6_4 x0 x1 x2 x3 = arrD x0 x1 x2 x3 := by
  funext y
  obtain ⟨r, n, rfl⟩ : ∃ (r : Fin 256) (n : Fin 256), y = ix2 r n := ⟨y 0, y 1, eq_ix2 y⟩
  unfold out6_4
  frame_out
  pointwise [k6_pay3, k6_pay2, k6_pay1, arrD, ad, am, av]
theorem o6_5 (x0 x1 x2 x3 : Vec Ideal S256x256 .f32) : out6_5 x0 x1 x2 x3 = arrM x1 x2 := by
  funext y
  obtain ⟨r, n, rfl⟩ : ∃ (r : Fin 256) (n : Fin 256), y = ix2 r n := ⟨y 0, y 1, eq_ix2 y⟩
  unfold out6_5
  frame_out
  pointwise [k6_pay1, arrM, am]
theorem o6_6 (x0 x1 x2 x3 : Vec Ideal S256x256 .f32) : out6_6 x0 x1 x2 x3 = arrV x1 x3 := by
  funext y
  obtain ⟨r, n, rfl⟩ : ∃ (r : Fin 256) (n : Fin 256), y = ix2 r n := ⟨y 0, y 1, eq_ix2 y⟩
  unfold out6_6
  frame_out
  pointwise [k6_pay2, arrV, av]
theorem o7_4 (x0 x1 x2 x3 : Vec Ideal S256x256 .f32) : out7_4 x0 x1 x2 x3 = arrD x0 x1 x2 x3 := by
  funext y
  obtain ⟨r, n, rfl⟩ : ∃ (r : Fin 256) (n : Fin 256), y = ix2 r n := ⟨y 0, y 1, eq_ix2 y⟩
  unfold out7_4
  frame_out
  pointwise [k7_pay3, k7_pay2, k7_pay1, arrD, ad, am, av]
theorem o7_5 (x0 x1 x2 x3 : Vec Ideal S256x256 .f32) : out7_5 x0 x1 x2 x3 = arrM x1 x2 := by
  funext y
  obtain ⟨r, n, rfl⟩ : ∃ (r : Fin 256) (n : Fin 256), y = ix2 r n := ⟨y 0, y 1, eq_ix2 y⟩
  unfold out7_5
  frame_out
  pointwise [k7_pay1, arrM, am]
theorem o7_6 (x0 x1 x2 x3 : Vec Ideal S256x256 .f32) : out7_6 x0 x1 x2 x3 = arrV x1 x3 := by
  funext y
  obtain ⟨r, n, rfl⟩ : ∃ (r : Fin 256) (n : Fin 256), y = ix2 r n := ⟨y 0, y 1, eq_ix2 y⟩
  unfold out7_6
  frame_out
  pointwise [k7_pay2, arrV, av]
theorem o8_4 (x0 x1 x2 x3 : Vec Ideal S8x128 .f32) : out8_4 x0 x1 x2 x3 = arrD x0 x1 x2 x3 := by
  funext y
  obtain ⟨r, n, rfl⟩ : ∃ (r : Fin 8) (n : Fin 128), y = ix2 r n := ⟨y 0, y 1, eq_ix2 y⟩
  unfold out8_4
  frame_out
  pointwise [k8_pay3, k8_pay2, k8_pay1, arrD, ad, am, av]
theorem o8_5 (x0 x1 x2 x3 : Vec Ideal S8x128 .f32) : out8_5 x0 x1 x2 x3 = arrM x1 x2 := by
  funext y
  obtain ⟨r, n, rfl⟩ : ∃ (r : Fin 8) (n : Fin 128), y = ix2 r n := ⟨y 0, y 1, eq_ix2 y⟩
  unfold out8_5
  frame_out
  pointwise [k8_pay1, arrM, am]
theorem o8_6 (x0 x1 x2 x3 : Vec Ideal S8x128 .f32) : out8_6 x0 x1 x2 x3 = arrV x1 x3 := by
  funext y
  obtain ⟨r, n, rfl⟩ : ∃ (r : Fin 8) (n : Fin 128), y = ix2 r n := ⟨y 0, y 1, eq_ix2 y⟩
  unfold out8_6
  frame_out
  pointwise [k8_pay2, arrV, av]

end Cert.Adam

end
-- ==== Proof.AdamRegions.lean ====
/-
  What the nine AdamW regions leave in their result arrays, from what their operands hold: each block of a result is the
  step at its point, and the blocks cover the array.
-/
module

public import proofs.«01_k».proof.Proof.AdamOut

@[expose] public section

set_option maxHeartbeats 1600000
set_option maxRecDepth 16384

noncomputable section

namespace Cert.Adam

open Idealize.ShloMosaic Idealize.ShloMosaic.TcCoe Cert.Kernel6Ideal Cert.Kernel6Ideal.Gen

variable (V : (c : Dev nD) → (b : Ref sig .tc) → Buf (Elt Ideal) ((c : Thread nD τ).loc b)) (c : Dev nD)

/-! ## Region 0 -/

theorem cov0_4 : (cfg0.win 4).Covers := by decide +kernel
theorem fin0_4 : (dat0 V c).arrAt 4 cfg0.N = arrD (V c main_arg0 : Vec Ideal S512x1024 .f32) (V c main_arg1 : Vec Ideal S512x1024 .f32) (V c main_arg2 : Vec Ideal S512x1024 .f32) (V c main_arg3 : Vec Ideal S512x1024 .f32) := by
  refine Pipeline.Dat.arrAt_eq_of_covers _ 4 _ cov0_4 fun t hf y => ?_
  change ((dat0 V c).after 4 t : Vec Ideal S256x1024 .f32) y = (arrD (V c main_arg0 : Vec Ideal S512x1024 .f32) (V c main_arg1 : Vec Ideal S512x1024 .f32) (V c main_arg2 : Vec Ideal S512x1024 .f32) (V c main_arg3 : Vec Ideal S512x1024 .f32)) ((win0_4.blk t).view.emb y)
  rw [after0_4, o0_4]
  rfl
theorem cov0_5 : (cfg0.win 5).Covers := by decide +kernel
theorem fin0_5 : (dat0 V c).arrAt 5 cfg0.N = arrM (V c main_arg1 : Vec Ideal S512x1024 .f32) (V c main_arg2 : Vec Ideal S512x1024 .f32) := by
  refine Pipeline.Dat.arrAt_eq_of_covers _ 5 _ cov0_5 fun t hf y => ?_
  change ((dat0 V c).after 5 t : Vec Ideal S256x1024 .f32) y = (arrM (V c main_arg1 : Vec Ideal S512x1024 .f32) (V c main_arg2 : Vec Ideal S512x1024 .f32)) ((win0_5.blk t).view.emb y)
  rw [after0_5, o0_5]
  rfl
theorem cov0_6 : (cfg0.win 6).Covers := by decide +kernel
theorem fin0_6 : (dat0 V c).arrAt 6 cfg0.N = arrV (V c main_arg1 : Vec Ideal S512x1024 .f32) (V c main_arg3 : Vec Ideal S512x1024 .f32) := by
  refine Pipeline.Dat.arrAt_eq_of_covers _ 6 _ cov0_6 fun t hf y => ?_
  change ((dat0 V c).after 6 t : Vec Ideal S256x1024 .f32) y = (arrV (V c main_arg1 : Vec Ideal S512x1024 .f32) (V c main_arg3 : Vec Ideal S512x1024 .f32)) ((win0_6.blk t).view.emb y)
  rw [after0_6, o0_6]
  rfl

/-! ## Region 1 -/

theorem cov1_4 : (cfg1.win 4).Covers := by decide +kernel
theorem fin1_4 : (dat1 V c).arrAt 4 cfg1.N = arrD (V c main_arg4 : Vec Ideal S4096x256 .f32) (V c main_arg5 : Vec Ideal S4096x256 .f32) (V c main_arg6 : Vec Ideal S4096x256 .f32) (V c main_arg7 : Vec Ideal S4096x256 .f32) := by
  refine Pipeline.Dat.arrAt_eq_of_covers _ 4 _ cov1_4 fun t hf y => ?_
  change ((dat1 V c).after 4 t : Vec Ideal S256x256 .f32) y = (arrD (V c main_arg4 : Vec Ideal S4096x256 .f32) (V c main_arg5 : Vec Ideal S4096x256 .f32) (V c main_arg6 : Vec Ideal S4096x256 .f32) (V c main_arg7 : Vec Ideal S4096x256 .f32)) ((win1_4.blk t).view.emb y)
  rw [after1_4, o1_4]
  rfl
theorem cov1_5 : (cfg1.win 5).Covers := by decide +kernel
theorem fin1_5 : (dat1 V c).arrAt 5 cfg1.N = arrM (V c main_arg5 : Vec Ideal S4096x256 .f32) (V c main_arg6 : Vec Ideal S4096x256 .f32) := by
  refine Pipeline.Dat.arrAt_eq_of_covers _ 5 _ cov1_5 fun t hf y => ?_
  change ((dat1 V c).after 5 t : Vec Ideal S256x256 .f32) y = (arrM (V c main_arg5 : Vec Ideal S4096x256 .f32) (V c main_arg6 : Vec Ideal S4096x256 .f32)) ((win1_5.blk t).view.emb y)
  rw [after1_5, o1_5]
  rfl
theorem cov1_6 : (cfg1.win 6).Covers := by decide +kernel
theorem fin1_6 : (dat1 V c).arrAt 6 cfg1.N = arrV (V c main_arg5 : Vec Ideal S4096x256 .f32) (V c main_arg7 : Vec Ideal S4096x256 .f32) := by
  refine Pipeline.Dat.arrAt_eq_of_covers _ 6 _ cov1_6 fun t hf y => ?_
  change ((dat1 V c).after 6 t : Vec Ideal S256x256 .f32) y = (arrV (V c main_arg5 : Vec Ideal S4096x256 .f32) (V c main_arg7 : Vec Ideal S4096x256 .f32)) ((win1_6.blk t).view.emb y)
  rw [after1_6, o1_6]
  rfl

/-! ## Region 2 -/

theorem cov2_4 : (cfg2.win 4).Covers := by decide +kernel
theorem fin2_4 : (dat2 V c).arrAt 4 cfg2.N = arrD (V c main_arg8 : Vec Ideal S2816x1024 .f32) (V c main_arg9 : Vec Ideal S2816x1024 .f32) (V c main_arg10 : Vec Ideal S2816x1024 .f32) (V c main_arg11 : Vec Ideal S2816x1024 .f32) := by
  refine Pipeline.Dat.arrAt_eq_of_covers _ 4 _ cov2_4 fun t hf y => ?_
  change ((dat2 V c).after 4 t : Vec Ideal S256x1024 .f32) y = (arrD (V c main_arg8 : Vec Ideal S2816x1024 .f32) (V c main_arg9 : Vec Ideal S2816x1024 .f32) (V c main_arg10 : Vec Ideal S2816x1024 .f32) (V c main_arg11 : Vec Ideal S2816x1024 .f32)) ((win2_4.blk t).view.emb y)
  rw [after2_4, o2_4]
  rfl
theorem cov2_5 : (cfg2.win 5).Covers := by decide +kernel
theorem fin2_5 : (dat2 V c).arrAt 5 cfg2.N = arrM (V c main_arg9 : Vec Ideal S2816x1024 .f32) (V c main_arg10 : Vec Ideal S2816x1024 .f32) := by
  refine Pipeline.Dat.arrAt_eq_of_covers _ 5 _ cov2_5 fun t hf y => ?_
  change ((dat2 V c).after 5 t : Vec Ideal S256x1024 .f32) y = (arrM (V c main_arg9 : Vec Ideal S2816x1024 .f32) (V c main_arg10 : Vec Ideal S2816x1024 .f32)) ((win2_5.blk t).view.emb y)
  rw [after2_5, o2_5]
  rfl
theorem cov2_6 : (cfg2.win 6).Covers := by decide +kernel
theorem fin2_6 : (dat2 V c).arrAt 6 cfg2.N = arrV (V c main_arg9 : Vec Ideal S2816x1024 .f32) (V c main_arg11 : Vec Ideal S2816x1024 .f32) := by
  refine Pipeline.Dat.arrAt_eq_of_covers _ 6 _ cov2_6 fun t hf y => ?_
  change ((dat2 V c).after 6 t : Vec Ideal S256x1024 .f32) y = (arrV (V c main_arg9 : Vec Ideal S2816x1024 .f32) (V c main_arg11 : Vec Ideal S2816x1024 .f32)) ((win2_6.blk t).view.emb y)
  rw [after2_6, o2_6]
  rfl

/-! ## Region 3 -/

theorem cov3_4 : (cfg3.win 4).Covers := by decide +kernel
theorem fin3_4 : (dat3 V c).arrAt 4 cfg3.N = arrD (V c main_arg12 : Vec Ideal S1408x1024 .f32) (V c main_arg13 : Vec Ideal S1408x1024 .f32) (V c main_arg14 : Vec Ideal S1408x1024 .f32) (V c main_arg15 : Vec Ideal S1408x1024 .f32) := by
  refine Pipeline.Dat.arrAt_eq_of_covers _ 4 _ cov3_4 fun t hf y => ?_
  change ((dat3 V c).after 4 t : Vec Ideal S128x1024 .f32) y = (arrD (V c main_arg12 : Vec Ideal S1408x1024 .f32) (V c main_arg13 : Vec Ideal S1408x1024 .f32) (V c main_arg14 : Vec Ideal S1408x1024 .f32) (V c main_arg15 : Vec Ideal S1408x1024 .f32)) ((win3_4.blk t).view.emb y)
  rw [after3_4, o3_4]
  rfl
theorem cov3_5 : (cfg3.win 5).Covers := by decide +kernel
theorem fin3_5 : (dat3 V c).arrAt 5 cfg3.N = arrM (V c main_arg13 : Vec Ideal S1408x1024 .f32) (V c main_arg14 : Vec Ideal S1408x1024 .f32) := by
  refine Pipeline.Dat.arrAt_eq_of_covers _ 5 _ cov3_5 fun t hf y => ?_
  change ((dat3 V c).after 5 t : Vec Ideal S128x1024 .f32) y = (arrM (V c main_arg13 : Vec Ideal S1408x1024 .f32) (V c main_arg14 : Vec Ideal S1408x1024 .f32)) ((win3_5.blk t).view.emb y)
  rw [after3_5, o3_5]
  rfl
theorem cov3_6 : (cfg3.win 6).Covers := by decide +kernel
theorem fin3_6 : (dat3 V c).arrAt 6 cfg3.N = arrV (V c main_arg13 : Vec Ideal S1408x1024 .f32) (V c main_arg15 : Vec Ideal S1408x1024 .f32) := by
  refine Pipeline.Dat.arrAt_eq_of_covers _ 6 _ cov3_6 fun t hf y => ?_
  change ((dat3 V c).after 6 t : Vec Ideal S128x1024 .f32) y = (arrV (V c main_arg13 : Vec Ideal S1408x1024 .f32) (V c main_arg15 : Vec Ideal S1408x1024 .f32)) ((win3_6.blk t).view.emb y)
  rw [after3_6, o3_6]
  rfl

/-! ## Region 4 -/

theorem cov4_4 : (cfg4.win 4).Covers := by decide +kernel
theorem fin4_4 : (dat4 V c).arrAt 4 cfg4.N = arrD (V c main_arg16 : Vec Ideal S770x1024 .f32) (V c main_arg17 : Vec Ideal S770x1024 .f32) (V c main_arg18 : Vec Ideal S770x1024 .f32) (V c main_arg19 : Vec Ideal S770x1024 .f32) := by
  refine Pipeline.Dat.arrAt_eq_of_covers _ 4 _ cov4_4 fun t hf y => ?_
  change ((dat4 V c).after 4 t : Vec Ideal S770x1024 .f32) y = (arrD (V c main_arg16 : Vec Ideal S770x1024 .f32) (V c main_arg17 : Vec Ideal S770x1024 .f32) (V c main_arg18 : Vec Ideal S770x1024 .f32) (V c main_arg19 : Vec Ideal S770x1024 .f32)) ((win4_4.blk t).view.emb y)
  rw [after4_4, o4_4]
  rfl
theorem cov4_5 : (cfg4.win 5).Covers := by decide +kernel
theorem fin4_5 : (dat4 V c).arrAt 5 cfg4.N = arrM (V c main_arg17 : Vec Ideal S770x1024 .f32) (V c main_arg18 : Vec Ideal S770x1024 .f32) := by
  refine Pipeline.Dat.arrAt_eq_of_covers _ 5 _ cov4_5 fun t hf y => ?_
  change ((dat4 V c).after 5 t : Vec Ideal S770x1024 .f32) y = (arrM (V c main_arg17 : Vec Ideal S770x1024 .f32) (V c main_arg18 : Vec Ideal S770x1024 .f32)) ((win4_5.blk t).view.emb y)
  rw [after4_5, o4_5]
  rfl
theorem cov4_6 : (cfg4.win 6).Covers := by decide +kernel
theorem fin4_6 : (dat4 V c).arrAt 6 cfg4.N = arrV (V c main_arg17 : Vec Ideal S770x1024 .f32) (V c main_arg19 : Vec Ideal S770x1024 .f32) := by
  refine Pipeline.Dat.arrAt_eq_of_covers _ 6 _ cov4_6 fun t hf y => ?_
  change ((dat4 V c).after 6 t : Vec Ideal S770x1024 .f32) y = (arrV (V c main_arg17 : Vec Ideal S770x1024 .f32) (V c main_arg19 : Vec Ideal S770x1024 .f32)) ((win4_6.blk t).view.emb y)
  rw [after4_6, o4_6]
  rfl

/-! ## Region 5 -/

theorem cov5_4 : (cfg5.win 4).Covers := by decide +kernel
theorem fin5_4 : (dat5 V c).arrAt 4 cfg5.N = arrD (V c main_arg20 : Vec Ideal S256x1024 .f32) (V c main_arg21 : Vec Ideal S256x1024 .f32) (V c main_arg22 : Vec Ideal S256x1024 .f32) (V c main_arg23 : Vec Ideal S256x1024 .f32) := by
  refine Pipeline.Dat.arrAt_eq_of_covers _ 4 _ cov5_4 fun t hf y => ?_
  change ((dat5 V c).after 4 t : Vec Ideal S256x1024 .f32) y = (arrD (V c main_arg20 : Vec Ideal S256x1024 .f32) (V c main_arg21 : Vec Ideal S256x1024 .f32) (V c main_arg22 : Vec Ideal S256x1024 .f32) (V c main_arg23 : Vec Ideal S256x1024 .f32)) ((win5_4.blk t).view.emb y)
  rw [after5_4, o5_4]
  rfl
theorem cov5_5 : (cfg5.win 5).Covers := by decide +kernel
theorem fin5_5 : (dat5 V c).arrAt 5 cfg5.N = arrM (V c main_arg21 : Vec Ideal S256x1024 .f32) (V c main_arg22 : Vec Ideal S256x1024 .f32) := by
  refine Pipeline.Dat.arrAt_eq_of_covers _ 5 _ cov5_5 fun t hf y => ?_
  change ((dat5 V c).after 5 t : Vec Ideal S256x1024 .f32) y = (arrM (V c main_arg21 : Vec Ideal S256x1024 .f32) (V c main_arg22 : Vec Ideal S256x1024 .f32)) ((win5_5.blk t).view.emb y)
  rw [after5_5, o5_5]
  rfl
theorem cov5_6 : (cfg5.win 6).Covers := by decide +kernel
theorem fin5_6 : (dat5 V c).arrAt 6 cfg5.N = arrV (V c main_arg21 : Vec Ideal S256x1024 .f32) (V c main_arg23 : Vec Ideal S256x1024 .f32) := by
  refine Pipeline.Dat.arrAt_eq_of_covers _ 6 _ cov5_6 fun t hf y => ?_
  change ((dat5 V c).after 6 t : Vec Ideal S256x1024 .f32) y = (arrV (V c main_arg21 : Vec Ideal S256x1024 .f32) (V c main_arg23 : Vec Ideal S256x1024 .f32)) ((win5_6.blk t).view.emb y)
  rw [after5_6, o5_6]
  rfl

/-! ## Region 6 -/

theorem cov6_4 : (cfg6.win 4).Covers := by decide +kernel
theorem fin6_4 : (dat6 V c).arrAt 4 cfg6.N = arrD (V c main_arg24 : Vec Ideal S2048x256 .f32) (V c main_arg25 : Vec Ideal S2048x256 .f32) (V c main_arg26 : Vec Ideal S2048x256 .f32) (V c main_arg27 : Vec Ideal S2048x256 .f32) := by
  refine Pipeline.Dat.arrAt_eq_of_covers _ 4 _ cov6_4 fun t hf y => ?_
  change ((dat6 V c).after 4 t : Vec Ideal S256x256 .f32) y = (arrD (V c main_arg24 : Vec Ideal S2048x256 .f32) (V c main_arg25 : Vec Ideal S2048x256 .f32) (V c main_arg26 : Vec Ideal S2048x256 .f32) (V c main_arg27 : Vec Ideal S2048x256 .f32)) ((win6_4.blk t).view.emb y)
  rw [after6_4, o6_4]
  rfl
theorem cov6_5 : (cfg6.win 5).Covers := by decide +kernel
theorem fin6_5 : (dat6 V c).arrAt 5 cfg6.N = arrM (V c main_arg25 : Vec Ideal S2048x256 .f32) (V c main_arg26 : Vec Ideal S2048x256 .f32) := by
  refine Pipeline.Dat.arrAt_eq_of_covers _ 5 _ cov6_5 fun t hf y => ?_
  change ((dat6 V c).after 5 t : Vec Ideal S256x256 .f32) y = (arrM (V c main_arg25 : Vec Ideal S2048x256 .f32) (V c main_arg26 : Vec Ideal S2048x256 .f32)) ((win6_5.blk t).view.emb y)
  rw [after6_5, o6_5]
  rfl
theorem cov6_6 : (cfg6.win 6).Covers := by decide +kernel
theorem fin6_6 : (dat6 V c).arrAt 6 cfg6.N = arrV (V c main_arg25 : Vec Ideal S2048x256 .f32) (V c main_arg27 : Vec Ideal S2048x256 .f32) := by
  refine Pipeline.Dat.arrAt_eq_of_covers _ 6 _ cov6_6 fun t hf y => ?_
  change ((dat6 V c).after 6 t : Vec Ideal S256x256 .f32) y = (arrV (V c main_arg25 : Vec Ideal S2048x256 .f32) (V c main_arg27 : Vec Ideal S2048x256 .f32)) ((win6_6.blk t).view.emb y)
  rw [after6_6, o6_6]
  rfl

/-! ## Region 7 -/

theorem cov7_4 : (cfg7.win 4).Covers := by decide +kernel
theorem fin7_4 : (dat7 V c).arrAt 4 cfg7.N = arrD (V c main_arg28 : Vec Ideal S256x256 .f32) (V c main_arg29 : Vec Ideal S256x256 .f32) (V c main_arg30 : Vec Ideal S256x256 .f32) (V c main_arg31 : Vec Ideal S256x256 .f32) := by
  refine Pipeline.Dat.arrAt_eq_of_covers _ 4 _ cov7_4 fun t hf y => ?_
  change ((dat7 V c).after 4 t : Vec Ideal S256x256 .f32) y = (arrD (V c main_arg28 : Vec Ideal S256x256 .f32) (V c main_arg29 : Vec Ideal S256x256 .f32) (V c main_arg30 : Vec Ideal S256x256 .f32) (V c main_arg31 : Vec Ideal S256x256 .f32)) ((win7_4.blk t).view.emb y)
  rw [after7_4, o7_4]
  rfl
theorem cov7_5 : (cfg7.win 5).Covers := by decide +kernel
theorem fin7_5 : (dat7 V c).arrAt 5 cfg7.N = arrM (V c main_arg29 : Vec Ideal S256x256 .f32) (V c main_arg30 : Vec Ideal S256x256 .f32) := by
  refine Pipeline.Dat.arrAt_eq_of_covers _ 5 _ cov7_5 fun t hf y => ?_
  change ((dat7 V c).after 5 t : Vec Ideal S256x256 .f32) y = (arrM (V c main_arg29 : Vec Ideal S256x256 .f32) (V c main_arg30 : Vec Ideal S256x256 .f32)) ((win7_5.blk t).view.emb y)
  rw [after7_5, o7_5]
  rfl
theorem cov7_6 : (cfg7.win 6).Covers := by decide +kernel
theorem fin7_6 : (dat7 V c).arrAt 6 cfg7.N = arrV (V c main_arg29 : Vec Ideal S256x256 .f32) (V c main_arg31 : Vec Ideal S256x256 .f32) := by
  refine Pipeline.Dat.arrAt_eq_of_covers _ 6 _ cov7_6 fun t hf y => ?_
  change ((dat7 V c).after 6 t : Vec Ideal S256x256 .f32) y = (arrV (V c main_arg29 : Vec Ideal S256x256 .f32) (V c main_arg31 : Vec Ideal S256x256 .f32)) ((win7_6.blk t).view.emb y)
  rw [after7_6, o7_6]
  rfl

/-! ## Region 8 -/

theorem cov8_4 : (cfg8.win 4).Covers := by decide +kernel
theorem fin8_4 : (dat8 V c).arrAt 4 cfg8.N = arrD (V c main_arg32 : Vec Ideal S248x128 .f32) (V c main_arg33 : Vec Ideal S248x128 .f32) (V c main_arg34 : Vec Ideal S248x128 .f32) (V c main_arg35 : Vec Ideal S248x128 .f32) := by
  refine Pipeline.Dat.arrAt_eq_of_covers _ 4 _ cov8_4 fun t hf y => ?_
  change ((dat8 V c).after 4 t : Vec Ideal S8x128 .f32) y = (arrD (V c main_arg32 : Vec Ideal S248x128 .f32) (V c main_arg33 : Vec Ideal S248x128 .f32) (V c main_arg34 : Vec Ideal S248x128 .f32) (V c main_arg35 : Vec Ideal S248x128 .f32)) ((win8_4.blk t).view.emb y)
  rw [after8_4, o8_4]
  rfl
theorem cov8_5 : (cfg8.win 5).Covers := by decide +kernel
theorem fin8_5 : (dat8 V c).arrAt 5 cfg8.N = arrM (V c main_arg33 : Vec Ideal S248x128 .f32) (V c main_arg34 : Vec Ideal S248x128 .f32) := by
  refine Pipeline.Dat.arrAt_eq_of_covers _ 5 _ cov8_5 fun t hf y => ?_
  change ((dat8 V c).after 5 t : Vec Ideal S8x128 .f32) y = (arrM (V c main_arg33 : Vec Ideal S248x128 .f32) (V c main_arg34 : Vec Ideal S248x128 .f32)) ((win8_5.blk t).view.emb y)
  rw [after8_5, o8_5]
  rfl
theorem cov8_6 : (cfg8.win 6).Covers := by decide +kernel
theorem fin8_6 : (dat8 V c).arrAt 6 cfg8.N = arrV (V c main_arg33 : Vec Ideal S248x128 .f32) (V c main_arg35 : Vec Ideal S248x128 .f32) := by
  refine Pipeline.Dat.arrAt_eq_of_covers _ 6 _ cov8_6 fun t hf y => ?_
  change ((dat8 V c).after 6 t : Vec Ideal S8x128 .f32) y = (arrV (V c main_arg33 : Vec Ideal S248x128 .f32) (V c main_arg35 : Vec Ideal S248x128 .f32)) ((win8_6.blk t).view.emb y)
  rw [after8_6, o8_6]
  rfl

end Cert.Adam

end
-- ==== Proof.AdamRun.lean ====
/-
  The twenty-seven results of the AdamW calls at the end of any run, as formulas of the arguments: the regions in order.
-/
module

public import proofs.«01_k».proof.Proof.AdamRegions
public import Idealize.ShloMosaic.Lib.StableHlo.RunRead

@[expose] public section

set_option maxHeartbeats 1600000
set_option maxRecDepth 16384

noncomputable section

namespace Cert.Adam

open Idealize.ShloMosaic Idealize.ShloMosaic.TcCoe Cert.Kernel6Ideal Cert.Kernel6Ideal.Gen

/-! ## The results, of the arguments -/

section
variable (m : (ℓ : Loc nD τ sig) → Buf (Elt Ideal) ℓ) (c : Dev nD)
local notation "𝔸" r => m (Thread.loc (Dev.tc c : Thread nD τ) r)
def D0 : FVec Ideal S512x1024 .f32 := arrD (𝔸 main_arg0) (𝔸 main_arg1) (𝔸 main_arg2) (𝔸 main_arg3)
def M0 : FVec Ideal S512x1024 .f32 := arrM (𝔸 main_arg1) (𝔸 main_arg2)
def N0 : FVec Ideal S512x1024 .f32 := arrV (𝔸 main_arg1) (𝔸 main_arg3)
def D1 : FVec Ideal S4096x256 .f32 := arrD (𝔸 main_arg4) (𝔸 main_arg5) (𝔸 main_arg6) (𝔸 main_arg7)
def M1 : FVec Ideal S4096x256 .f32 := arrM (𝔸 main_arg5) (𝔸 main_arg6)
def N1 : FVec Ideal S4096x256 .f32 := arrV (𝔸 main_arg5) (𝔸 main_arg7)
def D2 : FVec Ideal S2816x1024 .f32 := arrD (𝔸 main_arg8) (𝔸 main_arg9) (𝔸 main_arg10) (𝔸 main_arg11)
def M2 : FVec Ideal S2816x1024 .f32 := arrM (𝔸 main_arg9) (𝔸 main_arg10)
def N2 : FVec Ideal S2816x1024 .f32 := arrV (𝔸 main_arg9) (𝔸 main_arg11)
def D3 : FVec Ideal S1408x1024 .f32 := arrD (𝔸 main_arg12) (𝔸 main_arg13) (𝔸 main_arg14) (𝔸 main_arg15)
def M3 : FVec Ideal S1408x1024 .f32 := arrM (𝔸 main_arg13) (𝔸 main_arg14)
def N3 : FVec Ideal S1408x1024 .f32 := arrV (𝔸 main_arg13) (𝔸 main_arg15)
def D4 : FVec Ideal S770x1024 .f32 := arrD (𝔸 main_arg16) (𝔸 main_arg17) (𝔸 main_arg18) (𝔸 main_arg19)
def M4 : FVec Ideal S770x1024 .f32 := arrM (𝔸 main_arg17) (𝔸 main_arg18)
def N4 : FVec Ideal S770x1024 .f32 := arrV (𝔸 main_arg17) (𝔸 main_arg19)
def D5 : FVec Ideal S256x1024 .f32 := arrD (𝔸 main_arg20) (𝔸 main_arg21) (𝔸 main_arg22) (𝔸 main_arg23)
def M5 : FVec Ideal S256x1024 .f32 := arrM (𝔸 main_arg21) (𝔸 main_arg22)
def N5 : FVec Ideal S256x1024 .f32 := arrV (𝔸 main_arg21) (𝔸 main_arg23)
def D6 : FVec Ideal S2048x256 .f32 := arrD (𝔸 main_arg24) (𝔸 main_arg25) (𝔸 main_arg26) (𝔸 main_arg27)
def M6 : FVec Ideal S2048x256 .f32 := arrM (𝔸 main_arg25) (𝔸 main_arg26)
def N6 : FVec Ideal S2048x256 .f32 := arrV (𝔸 main_arg25) (𝔸 main_arg27)
def D7 : FVec Ideal S256x256 .f32 := arrD (𝔸 main_arg28) (𝔸 main_arg29) (𝔸 main_arg30) (𝔸 main_arg31)
def M7 : FVec Ideal S256x256 .f32 := arrM (𝔸 main_arg29) (𝔸 main_arg30)
def N7 : FVec Ideal S256x256 .f32 := arrV (𝔸 main_arg29) (𝔸 main_arg31)
def D8 : FVec Ideal S248x128 .f32 := arrD (𝔸 main_arg32) (𝔸 main_arg33) (𝔸 main_arg34) (𝔸 main_arg35)
def M8 : FVec Ideal S248x128 .f32 := arrM (𝔸 main_arg33) (𝔸 main_arg34)
def N8 : FVec Ideal S248x128 .f32 := arrV (𝔸 main_arg33) (𝔸 main_arg35)
end

section
variable (m : (ℓ : Loc nD τ sig) → Buf (Elt Ideal) ℓ) (ρ : Dev nD → PrngReg) (c : Dev nD) (r : Ref sig .tc)

/-! ## What the later regions leave alone -/

abbrev K8 (r : Ref sig .tc) : Prop := (∀ w : Fin cfg8.W, Pipeline.arrRef spec8 w = r → (cfg8.win w).isOut = false)
theorem up8 (h : K8 r) : V9 m ρ c r = V8 m ρ c r := W9_of m ρ c r h
abbrev K7 (r : Ref sig .tc) : Prop := (∀ w : Fin cfg7.W, Pipeline.arrRef spec7 w = r → (cfg7.win w).isOut = false) ∧ K8 r
theorem up7 (h : K7 r) : V9 m ρ c r = V7 m ρ c r := (up8 m ρ c r h.2).trans (W8_of m ρ c r h.1)
abbrev K6 (r : Ref sig .tc) : Prop := (∀ w : Fin cfg6.W, Pipeline.arrRef spec6 w = r → (cfg6.win w).isOut = false) ∧ K7 r
theorem up6 (h : K6 r) : V9 m ρ c r = V6 m ρ c r := (up7 m ρ c r h.2).trans (W7_of m ρ c r h.1)
abbrev K5 (r : Ref sig .tc) : Prop := (∀ w : Fin cfg5.W, Pipeline.arrRef spec5 w = r → (cfg5.win w).isOut = false) ∧ K6 r
theorem up5 (h : K5 r) : V9 m ρ c r = V5 m ρ c r := (up6 m ρ c r h.2).trans (W6_of m ρ c r h.1)
abbrev K4 (r : Ref sig .tc) : Prop := (∀ w : Fin cfg4.W, Pipeline.arrRef spec4 w = r → (cfg4.win w).isOut = false) ∧ K5 r
theorem up4 (h : K4 r) : V9 m ρ c r = V4 m ρ c r := (up5 m ρ c r h.2).trans (W5_of m ρ c r h.1)
abbrev K3 (r : Ref sig .tc) : Prop := (∀ w : Fin cfg3.W, Pipeline.arrRef spec3 w = r → (cfg3.win w).isOut = false) ∧ K4 r
theorem up3 (h : K3 r) : V9 m ρ c r = V3 m ρ c r := (up4 m ρ c r h.2).trans (W4_of m ρ c r h.1)
abbrev K2 (r : Ref sig .tc) : Prop := (∀ w : Fin cfg2.W, Pipeline.arrRef spec2 w = r → (cfg2.win w).isOut = false) ∧ K3 r
theorem up2 (h : K2 r) : V9 m ρ c r = V2 m ρ c r := (up3 m ρ c r h.2).trans (W3_of m ρ c r h.1)
abbrev K1 (r : Ref sig .tc) : Prop := (∀ w : Fin cfg1.W, Pipeline.arrRef spec1 w = r → (cfg1.win w).isOut = false) ∧ K2 r
theorem up1 (h : K1 r) : V9 m ρ c r = V1 m ρ c r := (up2 m ρ c r h.2).trans (W2_of m ρ c r h.1)

/-! ## The regions in order -/

theorem a0 : V0 m ρ c main_arg0 = m ((c.tc : Thread nD τ).loc main_arg0) := W0_args m ρ c _ (by decide)
theorem a1 : V0 m ρ c main_arg1 = m ((c.tc : Thread nD τ).loc main_arg1) := W0_args m ρ c _ (by decide)
theorem a2 : V0 m ρ c main_arg2 = m ((c.tc : Thread nD τ).loc main_arg2) := W0_args m ρ c _ (by decide)
theorem a3 : V0 m ρ c main_arg3 = m ((c.tc : Thread nD τ).loc main_arg3) := W0_args m ρ c _ (by decide)
theorem e0_0 : V9 m ρ c main_v0_0 = D0 m c := by
  refine (up1 m ρ c _ (by decide +kernel)).trans ((W1_arr m ρ c 4).trans ((fin0_4 (V0 m ρ) c).trans ?_))
  rw [a0, a1, a2, a3]
  rfl
theorem e0_1 : V9 m ρ c main_v0_1 = M0 m c := by
  refine (up1 m ρ c _ (by decide +kernel)).trans ((W1_arr m ρ c 5).trans ((fin0_5 (V0 m ρ) c).trans ?_))
  rw [a1, a2]
  rfl
theorem e0_2 : V9 m ρ c main_v0_2 = N0 m c := by
  refine (up1 m ρ c _ (by decide +kernel)).trans ((W1_arr m ρ c 6).trans ((fin0_6 (V0 m ρ) c).trans ?_))
  rw [a1, a3]
  rfl
theorem a4 : V1 m ρ c main_arg4 = m ((c.tc : Thread nD τ).loc main_arg4) := W1_args m ρ c _ (by decide)
theorem a5 : V1 m ρ c main_arg5 = m ((c.tc : Thread nD τ).loc main_arg5) := W1_args m ρ c _ (by decide)
theorem a6 : V1 m ρ c main_arg6 = m ((c.tc : Thread nD τ).loc main_arg6) := W1_args m ρ c _ (by decide)
theorem a7 : V1 m ρ c main_arg7 = m ((c.tc : Thread nD τ).loc main_arg7) := W1_args m ρ c _ (by decide)
theorem e1_0 : V9 m ρ c main_v1_0 = D1 m c := by
  refine (up2 m ρ c _ (by decide +kernel)).trans ((W2_arr m ρ c 4).trans ((fin1_4 (V1 m ρ) c).trans ?_))
  rw [a4, a5, a6, a7]
  rfl
theorem e1_1 : V9 m ρ c main_v1_1 = M1 m c := by
  refine (up2 m ρ c _ (by decide +kernel)).trans ((W2_arr m ρ c 5).trans ((fin1_5 (V1 m ρ) c).trans ?_))
  rw [a5, a6]
  rfl
theorem e1_2 : V9 m ρ c main_v1_2 = N1 m c := by
  refine (up2 m ρ c _ (by decide +kernel)).trans ((W2_arr m ρ c 6).trans ((fin1_6 (V1 m ρ) c).trans ?_))
  rw [a5, a7]
  rfl
theorem a8 : V2 m ρ c main_arg8 = m ((c.tc : Thread nD τ).loc main_arg8) := W2_args m ρ c _ (by decide)
theorem a9 : V2 m ρ c main_arg9 = m ((c.tc : Thread nD τ).loc main_arg9) := W2_args m ρ c _ (by decide)
theorem a10 : V2 m ρ c main_arg10 = m ((c.tc : Thread nD τ).loc main_arg10) := W2_args m ρ c _ (by decide)
theorem a11 : V2 m ρ c main_arg11 = m ((c.tc : Thread nD τ).loc main_arg11) := W2_args m ρ c _ (by decide)
theorem e2_0 : V9 m ρ c main_v2_0 = D2 m c := by
  refine (up3 m ρ c _ (by decide +kernel)).trans ((W3_arr m ρ c 4).trans ((fin2_4 (V2 m ρ) c).trans ?_))
  rw [a8, a9, a10, a11]
  rfl
theorem e2_1 : V9 m ρ c main_v2_1 = M2 m c := by
  refine (up3 m ρ c _ (by decide +kernel)).trans ((W3_arr m ρ c 5).trans ((fin2_5 (V2 m ρ) c).trans ?_))
  rw [a9, a10]
  rfl
theorem e2_2 : V9 m ρ c main_v2_2 = N2 m c := by
  refine (up3 m ρ c _ (by decide +kernel)).trans ((W3_arr m ρ c 6).trans ((fin2_6 (V2 m ρ) c).trans ?_))
  rw [a9, a11]
  rfl
theorem a12 : V3 m ρ c main_arg12 = m ((c.tc : Thread nD τ).loc main_arg12) := W3_args m ρ c _ (by decide)
theorem a13 : V3 m ρ c main_arg13 = m ((c.tc : Thread nD τ).loc main_arg13) := W3_args m ρ c _ (by decide)
theorem a14 : V3 m ρ c main_arg14 = m ((c.tc : Thread nD τ).loc main_arg14) := W3_args m ρ c _ (by decide)
theorem a15 : V3 m ρ c main_arg15 = m ((c.tc : Thread nD τ).loc main_arg15) := W3_args m ρ c _ (by decide)
theorem e3_0 : V9 m ρ c main_v3_0 = D3 m c := by
  refine (up4 m ρ c _ (by decide +kernel)).trans ((W4_arr m ρ c 4).trans ((fin3_4 (V3 m ρ) c).trans ?_))
  rw [a12, a13, a14, a15]
  rfl
theorem e3_1 : V9 m ρ c main_v3_1 = M3 m c := by
  refine (up4 m ρ c _ (by decide +kernel)).trans ((W4_arr m ρ c 5).trans ((fin3_5 (V3 m ρ) c).trans ?_))
  rw [a13, a14]
  rfl
theorem e3_2 : V9 m ρ c main_v3_2 = N3 m c := by
  refine (up4 m ρ c _ (by decide +kernel)).trans ((W4_arr m ρ c 6).trans ((fin3_6 (V3 m ρ) c).trans ?_))
  rw [a13, a15]
  rfl
theorem a16 : V4 m ρ c main_arg16 = m ((c.tc : Thread nD τ).loc main_arg16) := W4_args m ρ c _ (by decide)
theorem a17 : V4 m ρ c main_arg17 = m ((c.tc : Thread nD τ).loc main_arg17) := W4_args m ρ c _ (by decide)
theorem a18 : V4 m ρ c main_arg18 = m ((c.tc : Thread nD τ).loc main_arg18) := W4_args m ρ c _ (by decide)
theorem a19 : V4 m ρ c main_arg19 = m ((c.tc : Thread nD τ).loc main_arg19) := W4_args m ρ c _ (by decide)
theorem e4_0 : V9 m ρ c main_v4_0 = D4 m c := by
  refine (up5 m ρ c _ (by decide +kernel)).trans ((W5_arr m ρ c 4).trans ((fin4_4 (V4 m ρ) c).trans ?_))
  rw [a16, a17, a18, a19]
  rfl
theorem e4_1 : V9 m ρ c main_v4_1 = M4 m c := by
  refine (up5 m ρ c _ (by decide +kernel)).trans ((W5_arr m ρ c 5).trans ((fin4_5 (V4 m ρ) c).trans ?_))
  rw [a17, a18]
  rfl
theorem e4_2 : V9 m ρ c main_v4_2 = N4 m c := by
  refine (up5 m ρ c _ (by decide +kernel)).trans ((W5_arr m ρ c 6).trans ((fin4_6 (V4 m ρ) c).trans ?_))
  rw [a17, a19]
  rfl
theorem a20 : V5 m ρ c main_arg20 = m ((c.tc : Thread nD τ).loc main_arg20) := W5_args m ρ c _ (by decide)
theorem a21 : V5 m ρ c main_arg21 = m ((c.tc : Thread nD τ).loc main_arg21) := W5_args m ρ c _ (by decide)
theorem a22 : V5 m ρ c main_arg22 = m ((c.tc : Thread nD τ).loc main_arg22) := W5_args m ρ c _ (by decide)
theorem a23 : V5 m ρ c main_arg23 = m ((c.tc : Thread nD τ).loc main_arg23) := W5_args m ρ c _ (by decide)
theorem e5_0 : V9 m ρ c main_v5_0 = D5 m c := by
  refine (up6 m ρ c _ (by decide +kernel)).trans ((W6_arr m ρ c 4).trans ((fin5_4 (V5 m ρ) c).trans ?_))
  rw [a20, a21, a22, a23]
  rfl
theorem e5_1 : V9 m ρ c main_v5_1 = M5 m c := by
  refine (up6 m ρ c _ (by decide +kernel)).trans ((W6_arr m ρ c 5).trans ((fin5_5 (V5 m ρ) c).trans ?_))
  rw [a21, a22]
  rfl
theorem e5_2 : V9 m ρ c main_v5_2 = N5 m c := by
  refine (up6 m ρ c _ (by decide +kernel)).trans ((W6_arr m ρ c 6).trans ((fin5_6 (V5 m ρ) c).trans ?_))
  rw [a21, a23]
  rfl
theorem a24 : V6 m ρ c main_arg24 = m ((c.tc : Thread nD τ).loc main_arg24) := W6_args m ρ c _ (by decide)
theorem a25 : V6 m ρ c main_arg25 = m ((c.tc : Thread nD τ).loc main_arg25) := W6_args m ρ c _ (by decide)
theorem a26 : V6 m ρ c main_arg26 = m ((c.tc : Thread nD τ).loc main_arg26) := W6_args m ρ c _ (by decide)
theorem a27 : V6 m ρ c main_arg27 = m ((c.tc : Thread nD τ).loc main_arg27) := W6_args m ρ c _ (by decide)
theorem e6_0 : V9 m ρ c main_v6_0 = D6 m c := by
  refine (up7 m ρ c _ (by decide +kernel)).trans ((W7_arr m ρ c 4).trans ((fin6_4 (V6 m ρ) c).trans ?_))
  rw [a24, a25, a26, a27]
  rfl
theorem e6_1 : V9 m ρ c main_v6_1 = M6 m c := by
  refine (up7 m ρ c _ (by decide +kernel)).trans ((W7_arr m ρ c 5).trans ((fin6_5 (V6 m ρ) c).trans ?_))
  rw [a25, a26]
  rfl
theorem e6_2 : V9 m ρ c main_v6_2 = N6 m c := by
  refine (up7 m ρ c _ (by decide +kernel)).trans ((W7_arr m ρ c 6).trans ((fin6_6 (V6 m ρ) c).trans ?_))
  rw [a25, a27]
  rfl
theorem a28 : V7 m ρ c main_arg28 = m ((c.tc : Thread nD τ).loc main_arg28) := W7_args m ρ c _ (by decide)
theorem a29 : V7 m ρ c main_arg29 = m ((c.tc : Thread nD τ).loc main_arg29) := W7_args m ρ c _ (by decide)
theorem a30 : V7 m ρ c main_arg30 = m ((c.tc : Thread nD τ).loc main_arg30) := W7_args m ρ c _ (by decide)
theorem a31 : V7 m ρ c main_arg31 = m ((c.tc : Thread nD τ).loc main_arg31) := W7_args m ρ c _ (by decide)
theorem e7_0 : V9 m ρ c main_v7_0 = D7 m c := by
  refine (up8 m ρ c _ (by decide +kernel)).trans ((W8_arr m ρ c 4).trans ((fin7_4 (V7 m ρ) c).trans ?_))
  rw [a28, a29, a30, a31]
  rfl
theorem e7_1 : V9 m ρ c main_v7_1 = M7 m c := by
  refine (up8 m ρ c _ (by decide +kernel)).trans ((W8_arr m ρ c 5).trans ((fin7_5 (V7 m ρ) c).trans ?_))
  rw [a29, a30]
  rfl
theorem e7_2 : V9 m ρ c main_v7_2 = N7 m c := by
  refine (up8 m ρ c _ (by decide +kernel)).trans ((W8_arr m ρ c 6).trans ((fin7_6 (V7 m ρ) c).trans ?_))
  rw [a29, a31]
  rfl
theorem a32 : V8 m ρ c main_arg32 = m ((c.tc : Thread nD τ).loc main_arg32) := W8_args m ρ c _ (by decide)
theorem a33 : V8 m ρ c main_arg33 = m ((c.tc : Thread nD τ).loc main_arg33) := W8_args m ρ c _ (by decide)
theorem a34 : V8 m ρ c main_arg34 = m ((c.tc : Thread nD τ).loc main_arg34) := W8_args m ρ c _ (by decide)
theorem a35 : V8 m ρ c main_arg35 = m ((c.tc : Thread nD τ).loc main_arg35) := W8_args m ρ c _ (by decide)
theorem e8_0 : V9 m ρ c main_v8_0 = D8 m c := by
  refine ((W9_arr m ρ c 4).trans ((fin8_4 (V8 m ρ) c).trans ?_))
  rw [a32, a33, a34, a35]
  rfl
theorem e8_1 : V9 m ρ c main_v8_1 = M8 m c := by
  refine ((W9_arr m ρ c 5).trans ((fin8_5 (V8 m ρ) c).trans ?_))
  rw [a33, a34]
  rfl
theorem e8_2 : V9 m ρ c main_v8_2 = N8 m c := by
  refine ((W9_arr m ρ c 6).trans ((fin8_6 (V8 m ρ) c).trans ?_))
  rw [a33, a35]
  rfl
end

variable (m : (ℓ : Loc nD τ sig) → Buf (Elt Ideal) ℓ) (ρ : Dev nD → PrngReg)

/-! ## The run: the generated frame's set-up, at the results as well as the arguments -/

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem kernel_ends : θ_run defs (onTc (τ := τ) (main (F := Ideal))) ⟨m, fun _ => 0, ρ⟩ (fun r => ∀ c : Dev nD,
      r.2.mem ((c.tc : Thread nD τ).loc main_v0_0) = D0 m c
      ∧ r.2.mem ((c.tc : Thread nD τ).loc main_v0_1) = M0 m c
      ∧ r.2.mem ((c.tc : Thread nD τ).loc main_v0_2) = N0 m c
      ∧ r.2.mem ((c.tc : Thread nD τ).loc main_v1_0) = D1 m c
      ∧ r.2.mem ((c.tc : Thread nD τ).loc main_v1_1) = M1 m c
      ∧ r.2.mem ((c.tc : Thread nD τ).loc main_v1_2) = N1 m c
      ∧ r.2.mem ((c.tc : Thread nD τ).loc main_v2_0) = D2 m c
      ∧ r.2.mem ((c.tc : Thread nD τ).loc main_v2_1) = M2 m c
      ∧ r.2.mem ((c.tc : Thread nD τ).loc main_v2_2) = N2 m c
      ∧ r.2.mem ((c.tc : Thread nD τ).loc main_v3_0) = D3 m c
      ∧ r.2.mem ((c.tc : Thread nD τ).loc main_v3_1) = M3 m c
      ∧ r.2.mem ((c.tc : Thread nD τ).loc main_v3_2) = N3 m c
      ∧ r.2.mem ((c.tc : Thread nD τ).loc main_v4_0) = D4 m c
      ∧ r.2.mem ((c.tc : Thread nD τ).loc main_v4_1) = M4 m c
      ∧ r.2.mem ((c.tc : Thread nD τ).loc main_v4_2) = N4 m c
      ∧ r.2.mem ((c.tc : Thread nD τ).loc main_v5_0) = D5 m c
      ∧ r.2.mem ((c.tc : Thread nD τ).loc main_v5_1) = M5 m c
      ∧ r.2.mem ((c.tc : Thread nD τ).loc main_v5_2) = N5 m c
      ∧ r.2.mem ((c.tc : Thread nD τ).loc main_v6_0) = D6 m c
      ∧ r.2.mem ((c.tc : Thread nD τ).loc main_v6_1) = M6 m c
      ∧ r.2.mem ((c.tc : Thread nD τ).loc main_v6_2) = N6 m c
      ∧ r.2.mem ((c.tc : Thread nD τ).loc main_v7_0) = D7 m c
      ∧ r.2.mem ((c.tc : Thread nD τ).loc main_v7_1) = M7 m c
      ∧ r.2.mem ((c.tc : Thread nD τ).loc main_v7_2) = N7 m c
      ∧ r.2.mem ((c.tc : Thread nD τ).loc main_v8_0) = D8 m c
      ∧ r.2.mem ((c.tc : Thread nD τ).loc main_v8_1) = M8 m c
      ∧ r.2.mem ((c.tc : Thread nD τ).loc main_v8_2) = N8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨(h c _ (mem_uc main_v0_0 (by decide))).trans (e0_0 m ρ c),
       (h c _ (mem_uc main_v0_1 (by decide))).trans (e0_1 m ρ c),
       (h c _ (mem_uc main_v0_2 (by decide))).trans (e0_2 m ρ c),
       (h c _ (mem_uc main_v1_0 (by decide))).trans (e1_0 m ρ c),
       (h c _ (mem_uc main_v1_1 (by decide))).trans (e1_1 m ρ c),
       (h c _ (mem_uc main_v1_2 (by decide))).trans (e1_2 m ρ c),
       (h c _ (mem_uc main_v2_0 (by decide))).trans (e2_0 m ρ c),
       (h c _ (mem_uc main_v2_1 (by decide))).trans (e2_1 m ρ c),
       (h c _ (mem_uc main_v2_2 (by decide))).trans (e2_2 m ρ c),
       (h c _ (mem_uc main_v3_0 (by decide))).trans (e3_0 m ρ c),
       (h c _ (mem_uc main_v3_1 (by decide))).trans (e3_1 m ρ c),
       (h c _ (mem_uc main_v3_2 (by decide))).trans (e3_2 m ρ c),
       (h c _ (mem_uc main_v4_0 (by decide))).trans (e4_0 m ρ c),
       (h c _ (mem_uc main_v4_1 (by decide))).trans (e4_1 m ρ c),
       (h c _ (mem_uc main_v4_2 (by decide))).trans (e4_2 m ρ c),
       (h c _ (mem_uc main_v5_0 (by decide))).trans (e5_0 m ρ c),
       (h c _ (mem_uc main_v5_1 (by decide))).trans (e5_1 m ρ c),
       (h c _ (mem_uc main_v5_2 (by decide))).trans (e5_2 m ρ c),
       (h c _ (mem_uc main_v6_0 (by decide))).trans (e6_0 m ρ c),
       (h c _ (mem_uc main_v6_1 (by decide))).trans (e6_1 m ρ c),
       (h c _ (mem_uc main_v6_2 (by decide))).trans (e6_2 m ρ c),
       (h c _ (mem_uc main_v7_0 (by decide))).trans (e7_0 m ρ c),
       (h c _ (mem_uc main_v7_1 (by decide))).trans (e7_1 m ρ c),
       (h c _ (mem_uc main_v7_2 (by decide))).trans (e7_2 m ρ c),
       (h c _ (mem_uc main_v8_0 (by decide))).trans (e8_0 m ρ c),
       (h c _ (mem_uc main_v8_1 (by decide))).trans (e8_1 m ρ c),
       (h c _ (mem_uc main_v8_2 (by decide))).trans (e8_2 m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c),
       (h c _ (mem_uc main_arg24 (by decide))).trans (W9_main_arg24 m ρ c),
       (h c _ (mem_uc main_arg25 (by decide))).trans (W9_main_arg25 m ρ c),
       (h c _ (mem_uc main_arg26 (by decide))).trans (W9_main_arg26 m ρ c),
       (h c _ (mem_uc main_arg27 (by decide))).trans (W9_main_arg27 m ρ c),
       (h c _ (mem_uc main_arg28 (by decide))).trans (W9_main_arg28 m ρ c),
       (h c _ (mem_uc main_arg29 (by decide))).trans (W9_main_arg29 m ρ c),
       (h c _ (mem_uc main_arg30 (by decide))).trans (W9_main_arg30 m ρ c),
       (h c _ (mem_uc main_arg31 (by decide))).trans (W9_main_arg31 m ρ c),
       (h c _ (mem_uc main_arg32 (by decide))).trans (W9_main_arg32 m ρ c),
       (h c _ (mem_uc main_arg33 (by decide))).trans (W9_main_arg33 m ρ c),
       (h c _ (mem_uc main_arg34 (by decide))).trans (W9_main_arg34 m ρ c),
       (h c _ (mem_uc main_arg35 (by decide))).trans (W9_main_arg35 m ρ c)⟩)

end Cert.Adam

end
-- ==== Proof.AdamRef.lean ====
/-
  The AdamW reference's terms at any shape, that they are the step at every element, and what its runs end with.
-/
module

public import proofs.«01_k».proof.Proof.Gen.Reference6Ideal.Run
public import proofs.«01_k».proof.Proof.AdamVal
public import Idealize.ShloMosaic.Lib.Pointwise

@[expose] public section

set_option maxHeartbeats 1600000
set_option maxRecDepth 16384

noncomputable section

namespace Cert.Adam.Ref

open Idealize.ShloMosaic Cert.Reference6Ideal Cert.Reference6Ideal.Gen Cert.Reference6Ideal.Facts

section
variable {s : Shape} (b : S_.BroadcastsInDim s (![] : Fin 0 → Fin s.rank)) (W G M V : FVec Ideal s .f32)

/-- A constant over an array. -/
def cst (x : BitVec 32) : FVec Ideal s .f32 := broadcastInDim s ![] b (constant (F := Ideal) S_ .f32 x)
def m : FVec Ideal s .f32 := addf (mulf (cst b 0x3F666666#32) M) (mulf (cst b 0x3DCCCCCD#32) G)
def v : FVec Ideal s .f32 := addf (mulf (cst b 0x3F7FBE77#32) V) (mulf (cst b 0x3A83126F#32) (mulf G G))
def d : FVec Ideal s .f32 := mulf (cst b 0xBA83126F#32) (addf (Host.divf (Host.divf (m b G M) (cst b 0x3F26BD02#32)) (addf (Host.sqrt (Host.divf (v b G V) (cst b 0x3C231ACC#32))) (cst b 0x322BCC77#32))) (mulf (cst b 0x3C23D70A#32) W))
theorem m_eq : m b G M = arrM G M := rfl
theorem v_eq : v b G V = arrV G V := rfl
theorem d_eq : d b W G M V = arrD W G M V := rfl
end

section
variable (m : (ℓ : Loc nD τ sig) → Buf (Elt Ideal) ℓ) (c : Dev nD)
local notation "𝔸" r => m (Thread.loc (Dev.tc c : Thread nD τ) r)
def D0 : FVec Ideal S512x1024 .f32 := arrD (𝔸 main_arg0) (𝔸 main_arg1) (𝔸 main_arg2) (𝔸 main_arg3)
def M0 : FVec Ideal S512x1024 .f32 := arrM (𝔸 main_arg1) (𝔸 main_arg2)
def N0 : FVec Ideal S512x1024 .f32 := arrV (𝔸 main_arg1) (𝔸 main_arg3)
def D1 : FVec Ideal S4096x256 .f32 := arrD (𝔸 main_arg4) (𝔸 main_arg5) (𝔸 main_arg6) (𝔸 main_arg7)
def M1 : FVec Ideal S4096x256 .f32 := arrM (𝔸 main_arg5) (𝔸 main_arg6)
def N1 : FVec Ideal S4096x256 .f32 := arrV (𝔸 main_arg5) (𝔸 main_arg7)
def D2 : FVec Ideal S2816x1024 .f32 := arrD (𝔸 main_arg8) (𝔸 main_arg9) (𝔸 main_arg10) (𝔸 main_arg11)
def M2 : FVec Ideal S2816x1024 .f32 := arrM (𝔸 main_arg9) (𝔸 main_arg10)
def N2 : FVec Ideal S2816x1024 .f32 := arrV (𝔸 main_arg9) (𝔸 main_arg11)
def D3 : FVec Ideal S1408x1024 .f32 := arrD (𝔸 main_arg12) (𝔸 main_arg13) (𝔸 main_arg14) (𝔸 main_arg15)
def M3 : FVec Ideal S1408x1024 .f32 := arrM (𝔸 main_arg13) (𝔸 main_arg14)
def N3 : FVec Ideal S1408x1024 .f32 := arrV (𝔸 main_arg13) (𝔸 main_arg15)
def D4 : FVec Ideal S770x1024 .f32 := arrD (𝔸 main_arg16) (𝔸 main_arg17) (𝔸 main_arg18) (𝔸 main_arg19)
def M4 : FVec Ideal S770x1024 .f32 := arrM (𝔸 main_arg17) (𝔸 main_arg18)
def N4 : FVec Ideal S770x1024 .f32 := arrV (𝔸 main_arg17) (𝔸 main_arg19)
def D5 : FVec Ideal S256x1024 .f32 := arrD (𝔸 main_arg20) (𝔸 main_arg21) (𝔸 main_arg22) (𝔸 main_arg23)
def M5 : FVec Ideal S256x1024 .f32 := arrM (𝔸 main_arg21) (𝔸 main_arg22)
def N5 : FVec Ideal S256x1024 .f32 := arrV (𝔸 main_arg21) (𝔸 main_arg23)
def D6 : FVec Ideal S2048x256 .f32 := arrD (𝔸 main_arg24) (𝔸 main_arg25) (𝔸 main_arg26) (𝔸 main_arg27)
def M6 : FVec Ideal S2048x256 .f32 := arrM (𝔸 main_arg25) (𝔸 main_arg26)
def N6 : FVec Ideal S2048x256 .f32 := arrV (𝔸 main_arg25) (𝔸 main_arg27)
def D7 : FVec Ideal S256x256 .f32 := arrD (𝔸 main_arg28) (𝔸 main_arg29) (𝔸 main_arg30) (𝔸 main_arg31)
def M7 : FVec Ideal S256x256 .f32 := arrM (𝔸 main_arg29) (𝔸 main_arg30)
def N7 : FVec Ideal S256x256 .f32 := arrV (𝔸 main_arg29) (𝔸 main_arg31)
def D8 : FVec Ideal S248x128 .f32 := arrD (𝔸 main_arg32) (𝔸 main_arg33) (𝔸 main_arg34) (𝔸 main_arg35)
def M8 : FVec Ideal S248x128 .f32 := arrM (𝔸 main_arg33) (𝔸 main_arg34)
def N8 : FVec Ideal S248x128 .f32 := arrV (𝔸 main_arg33) (𝔸 main_arg35)
end

/-- Every run of the reference ends with these, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = D0 m c
      ∧ r.2.mem ((c.tc : Thread nD τ).loc main_v4) = M0 m c
      ∧ r.2.mem ((c.tc : Thread nD τ).loc main_v10) = N0 m c
      ∧ r.2.mem ((c.tc : Thread nD τ).loc main_v47) = D1 m c
      ∧ r.2.mem ((c.tc : Thread nD τ).loc main_v28) = M1 m c
      ∧ r.2.mem ((c.tc : Thread nD τ).loc main_v34) = N1 m c
      ∧ r.2.mem ((c.tc : Thread nD τ).loc main_v71) = D2 m c
      ∧ r.2.mem ((c.tc : Thread nD τ).loc main_v52) = M2 m c
      ∧ r.2.mem ((c.tc : Thread nD τ).loc main_v58) = N2 m c
      ∧ r.2.mem ((c.tc : Thread nD τ).loc main_v95) = D3 m c
      ∧ r.2.mem ((c.tc : Thread nD τ).loc main_v76) = M3 m c
      ∧ r.2.mem ((c.tc : Thread nD τ).loc main_v82) = N3 m c
      ∧ r.2.mem ((c.tc : Thread nD τ).loc main_v119) = D4 m c
      ∧ r.2.mem ((c.tc : Thread nD τ).loc main_v100) = M4 m c
      ∧ r.2.mem ((c.tc : Thread nD τ).loc main_v106) = N4 m c
      ∧ r.2.mem ((c.tc : Thread nD τ).loc main_v143) = D5 m c
      ∧ r.2.mem ((c.tc : Thread nD τ).loc main_v124) = M5 m c
      ∧ r.2.mem ((c.tc : Thread nD τ).loc main_v130) = N5 m c
      ∧ r.2.mem ((c.tc : Thread nD τ).loc main_v167) = D6 m c
      ∧ r.2.mem ((c.tc : Thread nD τ).loc main_v148) = M6 m c
      ∧ r.2.mem ((c.tc : Thread nD τ).loc main_v154) = N6 m c
      ∧ r.2.mem ((c.tc : Thread nD τ).loc main_v191) = D7 m c
      ∧ r.2.mem ((c.tc : Thread nD τ).loc main_v172) = M7 m c
      ∧ r.2.mem ((c.tc : Thread nD τ).loc main_v178) = N7 m c
      ∧ r.2.mem ((c.tc : Thread nD τ).loc main_v215) = D8 m c
      ∧ r.2.mem ((c.tc : Thread nD τ).loc main_v196) = M8 m c
      ∧ r.2.mem ((c.tc : Thread nD τ).loc main_v202) = N8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun _ h c => by
    obtain ⟨h0, h1, h2, h3, h4, h5, h6, h7, h8, h9, h10, h11, h12, h13, h14, h15, h16, h17, h18, h19, h20, h21, h22, h23, h24, h25, h26, ha⟩ := h c
    exact ⟨h0.trans (d_eq bcast_S_S512x1024 _ _ _ _), h1.trans (m_eq bcast_S_S512x1024 _ _), h2.trans (v_eq bcast_S_S512x1024 _ _), h3.trans (d_eq bcast_S_S4096x256 _ _ _ _), h4.trans (m_eq bcast_S_S4096x256 _ _), h5.trans (v_eq bcast_S_S4096x256 _ _), h6.trans (d_eq bcast_S_S2816x1024 _ _ _ _), h7.trans (m_eq bcast_S_S2816x1024 _ _), h8.trans (v_eq bcast_S_S2816x1024 _ _), h9.trans (d_eq bcast_S_S1408x1024 _ _ _ _), h10.trans (m_eq bcast_S_S1408x1024 _ _), h11.trans (v_eq bcast_S_S1408x1024 _ _), h12.trans (d_eq bcast_S_S770x1024 _ _ _ _), h13.trans (m_eq bcast_S_S770x1024 _ _), h14.trans (v_eq bcast_S_S770x1024 _ _), h15.trans (d_eq bcast_S_S256x1024 _ _ _ _), h16.trans (m_eq bcast_S_S256x1024 _ _), h17.trans (v_eq bcast_S_S256x1024 _ _), h18.trans (d_eq bcast_S_S2048x256 _ _ _ _), h19.trans (m_eq bcast_S_S2048x256 _ _), h20.trans (v_eq bcast_S_S2048x256 _ _), h21.trans (d_eq bcast_S_S256x256 _ _ _ _), h22.trans (m_eq bcast_S_S256x256 _ _), h23.trans (v_eq bcast_S_S256x256 _ _), h24.trans (d_eq bcast_S_S248x128 _ _ _ _), h25.trans (m_eq bcast_S_S248x128 _ _), h26.trans (v_eq bcast_S_S248x128 _ _), ha⟩) (Value.run m ρ)

end Cert.Adam.Ref

end
-- ==== Proof.BitsPoints.lean ====
/-
  The kernel as it runs on words: the conditions of its body over the grid, and each window's staging block.
-/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FoxBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- A condition of the body, from the grid coordinates. -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 16 = 0)

/-- A condition of the body, from the grid coordinates. -/
abbrev cond0_1 (i : grid0.Coords) : Prop := k0_cond2 i = 1#1
/-- It holds at the points whose coordinates have i1 = i2 — decided over the grid. -/
theorem hcond0_1 : ∀ t : Fin cfg0.N, cond0_1 (grid0.coords t) ↔ t.val / 4 % 4 = t.val % 4 :=
  (by decide +kernel : ∀ t : Fin grid0.N, cond0_1 (grid0.coords t) ↔ t.val / 4 % 4 = t.val % 4)

/-- A condition of the body, from the grid coordinates. -/
abbrev cond0_2 (i : grid0.Coords) : Prop := k0_cond3 i = 1#1
/-- It holds at the points whose coordinates have i1 + 1 ≤ i2 — decided over the grid. -/
theorem hcond0_2 : ∀ t : Fin cfg0.N, cond0_2 (grid0.coords t) ↔ t.val / 4 % 4 + 1 ≤ t.val % 4 :=
  (by decide +kernel : ∀ t : Fin grid0.N, cond0_2 (grid0.coords t) ↔ t.val / 4 % 4 + 1 ≤ t.val % 4)

/-- A condition of the body, from the grid coordinates. -/
abbrev cond0_3 (i : grid0.Coords) : Prop := k0_cond4 i = 1#1
/-- It holds at the points whose coordinates have i1 = i2 — decided over the grid. -/
theorem hcond0_3 : ∀ t : Fin cfg0.N, cond0_3 (grid0.coords t) ↔ t.val / 4 % 4 = t.val % 4 :=
  (by decide +kernel : ∀ t : Fin grid0.N, cond0_3 (grid0.coords t) ↔ t.val / 4 % 4 = t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x4x16x512 .f32 := win0_10.stage (cfg0.slots t 10)
abbrev hs0_10 (t : Fin cfg0.N) : (ms0_10 t).IsWhole := hstage0_10 ((cfg0.slots t 10).cast nbuf0_10)

end Cert.FoxBits

end
-- ==== Proof.BitsRunA.lean ====
/-
  The kernel on words: its body at the first point of a pair of heads.
-/
module

public import proofs.«01_k».proof.Proof.BitsPoints

@[expose] public section

set_option maxRecDepth 16384

noncomputable section

namespace Cert.FoxBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at the first point of a pair of heads: on whole staging blocks it runs, the inputs unchanged, the outputs at some contents. -/
theorem kernelRun0_A (c : Dev nD) (i : grid0.Coords) (arg3 : Memref sig .tc .vmem S2x512x128 .bf16) (harg3 : arg3.IsWhole) (arg4 : Memref sig .tc .vmem S2x512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x512x128 .f32) (harg8 : arg8.IsWhole) (arg9 : Memref sig .tc .vmem S2048x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2x1x512 .f32) (harg12 : arg12.IsWhole) (arg13 : Memref sig .tc .vmem S2x4x16x512 .f32) (harg13 : arg13.IsWhole) (hc0 : cond0_0 i) (hc1 : cond0_1 i) (hc2 : ¬cond0_2 i) (hc3 : cond0_3 i)
    (x0 : Vec F S2x512x128 .bf16) (x1 : Vec F S2x512x128 .bf16) (x2 : Vec F S512x128 .f32) (x3 : Vec F S512x128 .f32) (x4 : Vec F S512x128 .f32) (x5 : Vec F S2x512x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    intro E K
    simp only [cc0_fox_bwd_eq_skeleton]; unfold cc0_fox_bwd_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.FoxBits

end
-- ==== Proof.BitsRunB.lean ====
/-
  The kernel on words: its body at a point below the diagonal.
-/
module

public import proofs.«01_k».proof.Proof.BitsRunA

@[expose] public section

set_option maxRecDepth 16384

noncomputable section

namespace Cert.FoxBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a point below the diagonal: on whole staging blocks it runs, the inputs unchanged, the outputs at some contents. -/
theorem kernelRun0_B (c : Dev nD) (i : grid0.Coords) (arg3 : Memref sig .tc .vmem S2x512x128 .bf16) (harg3 : arg3.IsWhole) (arg4 : Memref sig .tc .vmem S2x512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x512x128 .f32) (harg8 : arg8.IsWhole) (arg9 : Memref sig .tc .vmem S2048x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2x1x512 .f32) (harg12 : arg12.IsWhole) (arg13 : Memref sig .tc .vmem S2x4x16x512 .f32) (harg13 : arg13.IsWhole) (hc0 : ¬cond0_0 i) (hc1 : ¬cond0_1 i) (hc2 : cond0_2 i) (hc3 : ¬cond0_3 i)
    (x0 : Vec F S2x512x128 .bf16) (x1 : Vec F S2x512x128 .bf16) (x2 : Vec F S512x128 .f32) (x3 : Vec F S512x128 .f32) (x4 : Vec F S512x128 .f32) (x5 : Vec F S2x512x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    intro E K
    simp only [cc0_fox_bwd_eq_skeleton]; unfold cc0_fox_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.FoxBits

end
-- ==== Proof.BitsRunC.lean ====
/-
  The kernel on words: its body at a point above the diagonal.
-/
module

public import proofs.«01_k».proof.Proof.BitsRunB

@[expose] public section

set_option maxRecDepth 16384

noncomputable section

namespace Cert.FoxBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a point above the diagonal: on whole staging blocks it runs, the inputs unchanged, the outputs at some contents. -/
theorem kernelRun0_C (c : Dev nD) (i : grid0.Coords) (arg3 : Memref sig .tc .vmem S2x512x128 .bf16) (harg3 : arg3.IsWhole) (arg4 : Memref sig .tc .vmem S2x512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x512x128 .f32) (harg8 : arg8.IsWhole) (arg9 : Memref sig .tc .vmem S2048x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2x1x512 .f32) (harg12 : arg12.IsWhole) (arg13 : Memref sig .tc .vmem S2x4x16x512 .f32) (harg13 : arg13.IsWhole) (hc0 : ¬cond0_0 i) (hc1 : ¬cond0_1 i) (hc2 : ¬cond0_2 i) (hc3 : ¬cond0_3 i)
    (x0 : Vec F S2x512x128 .bf16) (x1 : Vec F S2x512x128 .bf16) (x2 : Vec F S512x128 .f32) (x3 : Vec F S512x128 .f32) (x4 : Vec F S512x128 .f32) (x5 : Vec F S2x512x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    intro E K
    simp only [cc0_fox_bwd_eq_skeleton]; unfold cc0_fox_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.FoxBits

end
-- ==== Proof.BitsRunD.lean ====
/-
  The kernel on words: its body at a point on the diagonal, not the first of its pair of heads.
-/
module

public import proofs.«01_k».proof.Proof.BitsRunC

@[expose] public section

set_option maxRecDepth 16384

noncomputable section

namespace Cert.FoxBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a point on the diagonal, not the first of its pair of heads: on whole staging blocks it runs, the inputs unchanged, the outputs at some contents. -/
theorem kernelRun0_D (c : Dev nD) (i : grid0.Coords) (arg3 : Memref sig .tc .vmem S2x512x128 .bf16) (harg3 : arg3.IsWhole) (arg4 : Memref sig .tc .vmem S2x512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x512x128 .f32) (harg8 : arg8.IsWhole) (arg9 : Memref sig .tc .vmem S2048x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2x1x512 .f32) (harg12 : arg12.IsWhole) (arg13 : Memref sig .tc .vmem S2x4x16x512 .f32) (harg13 : arg13.IsWhole) (hc0 : ¬cond0_0 i) (hc1 : cond0_1 i) (hc2 : ¬cond0_2 i) (hc3 : cond0_3 i)
    (x0 : Vec F S2x512x128 .bf16) (x1 : Vec F S2x512x128 .bf16) (x2 : Vec F S512x128 .f32) (x3 : Vec F S512x128 .f32) (x4 : Vec F S512x128 .f32) (x5 : Vec F S2x512x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    intro E K
    simp only [cc0_fox_bwd_eq_skeleton]; unfold cc0_fox_bwd_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.FoxBits

end
-- ==== Proof.BitsFrame.lean ====
/-
  The kernel on words: its run, leaving the arguments unchanged and the counters at zero.
-/
module

public import proofs.«01_k».proof.Proof.BitsRunD
public import Idealize.ShloMosaic.Lib.Claim

@[expose] public section

set_option maxRecDepth 16384

noncomputable section

namespace Cert.FoxBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 64 := lt_of_lt_of_eq t.isLt (show cfg0.N = 64 from N_0)
  by_cases h0 : t.val % 16 = 0
  · by_cases h1 : t.val / 4 % 4 = t.val % 4
    · by_cases h2 : t.val / 4 % 4 + 1 ≤ t.val % 4
      · exfalso; omega
      · by_cases h3 : t.val / 4 % 4 = t.val % 4
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          iintro ⟨H0, H1, H2, H3, H4, H5, H6, H7, H8, H9, H10⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; omega
    · exfalso; omega
  · by_cases h1 : t.val / 4 % 4 = t.val % 4
    · by_cases h2 : t.val / 4 % 4 + 1 ≤ t.val % 4
      · exfalso; omega
      · by_cases h3 : t.val / 4 % 4 = t.val % 4
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_D c (grid0.coords t) _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          iintro ⟨H0, H1, H2, H3, H4, H5, H6, H7, H8, H9, H10⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; omega
    · by_cases h2 : t.val / 4 % 4 + 1 ≤ t.val % 4
      · by_cases h3 : t.val / 4 % 4 = t.val % 4
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          iintro ⟨H0, H1, H2, H3, H4, H5, H6, H7, H8, H9, H10⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
      · by_cases h3 : t.val / 4 % 4 = t.val % 4
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          iintro ⟨H0, H1, H2, H3, H4, H5, H6, H7, H8, H9, H10⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- Every weakly fair execution terminates, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 3200000 in
/-- The kernel runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 2 rfl).trans ((A_eq m c 2).trans (V_main_arg0 m c)),
      ((h.1 c).2 main_arg1 (Pipeline.mem_restRefs_of main_arg1 (by decide) (by decide))).trans (V_main_arg1 m c),
      (h.1.arr_in c 3 rfl).trans ((A_eq m c 3).trans (V_main_arg2 m c))⟩, h.2⟩) (run_main_quiescent m ρ)

end Cert.FoxBits

end
-- ==== Proof.lean ====
/-
  The claim: the kernel runs, leaves its arguments unchanged and its counters at zero; so do the idealised kernel and the
  reference; the idealised kernel is the kernel with the mask's constant named; and from finite arguments the idealised
  kernel's five results are the reference's. The same of the feed-forward block's six calls, whose four results are the
  reference's, of the memory cross-attention block's ten, whose six results are the reference's,
  of the gated recurrence block's eight, whose eight results are the reference's, of the
  attention block's six projection products, whose six results are the reference's, and of the optimiser's nine calls,
  whose twenty-seven results are the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_arguments
public import proofs.«01_k».proof.Proof.Grid
public import proofs.«01_k».proof.Proof.Pre
public import proofs.«01_k».proof.Proof.Agree
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Pre_finite_ffn
public import proofs.«01_k».proof.Proof.FfnEq
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite_cross
public import proofs.«01_k».proof.Proof.CrossEq
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.LruEq
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.ProjEq
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.AdamRun
public import proofs.«01_k».proof.Proof.AdamRef
public import proofs.«01_k».proof.Proof.BitsFrame

@[expose] public section

set_option maxHeartbeats 1600000

noncomputable section

namespace Cert.Proof

open Idealize.ShloMosaic Idealize.SL.Sem

theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2.2, Idealize.ShloMosaic.sem_eq_zero_of_no_sems (by decide) r.2⟩) (Cert.ReferenceIdeal.Value.run m ρ)

theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run _ _ _).mono (fun r h => ⟨fun c => (h c).2.2.2.2, Idealize.ShloMosaic.sem_eq_zero_of_no_sems (by decide) r.2⟩) (Cert.Ffn.Ref.run m ρ)

theorem reference3_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run _ _ _).mono (fun r h => ⟨fun c => (h c).2.2.2.2.2.2, Idealize.ShloMosaic.sem_eq_zero_of_no_sems (by decide) r.2⟩) (Cert.Cross.Ref.run m ρ)

theorem reference4_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0) :=
  (θ_run _ _ _).mono (fun r h => ⟨fun c => (h c).2.2.2.2.2.2.2.2, Idealize.ShloMosaic.sem_eq_zero_of_no_sems (by decide) r.2⟩) (Cert.Lru.Ref.run m ρ)

theorem reference5_frame (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0) :=
  (θ_run _ _ _).mono (fun r h => ⟨fun c => (h c).2.2.2.2.2.2, Idealize.ShloMosaic.sem_eq_zero_of_no_sems (by decide) r.2⟩) (Cert.Proj.Ref.run m ρ)

section
open Cert.Reference6Ideal in
theorem reference6_frame (m : (ℓ : Loc nD τ sig) → Buf (Elt Ideal) ℓ) (ρ : Dev nD → PrngReg) :
    θ_run (Cert.Reference6Ideal.defs (F := Ideal)) (onTc (τ := τ) (Cert.Reference6Ideal.main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35))
      ∧ r.2.sem = fun _ => 0) :=
  (θ_run _ _ _).mono (fun r h => ⟨fun c => (h c).2.2.2.2.2.2.2.2.2.2.2.2.2.2.2.2.2.2.2.2.2.2.2.2.2.2.2, Idealize.ShloMosaic.sem_eq_zero_of_no_sems (by decide) r.2⟩) (Cert.Adam.Ref.run m ρ)
end

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_arguments.Gen.facts, Cert.Pre_finite_ffn.Gen.facts, Cert.Pre_finite_cross.Gen.facts,
  fun m ρ _ => Cert.FoxBits.frame m ρ,
  fun m ρ _ => Cert.Fox.frame_ideal m ρ,
  fun m ρ _ => Cert.Fox.frame_ideal m ρ,
  fun m ρ _ => reference_frame m ρ,
  fun m ρ _ => reference_frame m ρ,
  fun m ρ _ => Cert.Kernel2.Gen.frame m ρ,
  fun m ρ _ => Cert.Kernel2Ideal.Gen.frame m ρ,
  fun m ρ _ => Cert.Kernel2Ideal.Gen.frame m ρ,
  fun m ρ _ => reference2_frame m ρ,
  fun m ρ _ => reference2_frame m ρ,
  fun m ρ _ => Cert.Kernel3.Gen.frame m ρ,
  fun m ρ _ => Cert.Kernel3Ideal.Gen.frame m ρ,
  fun m ρ _ => Cert.Kernel3Ideal.Gen.frame m ρ,
  fun m ρ _ => reference3_frame m ρ,
  fun m ρ _ => reference3_frame m ρ,
  fun m ρ _ => Cert.Kernel4.Gen.frame m ρ,
  fun m ρ _ => Cert.Kernel4Ideal.Gen.frame m ρ,
  fun m ρ _ => reference4_frame m ρ,
  fun m ρ _ => Cert.Kernel5.Gen.frame m ρ,
  fun m ρ _ => Cert.Kernel5Ideal.Gen.frame m ρ,
  fun m ρ _ => reference5_frame m ρ,
  fun m ρ _ => Cert.Kernel6.Gen.frame m ρ,
  fun m ρ _ => Cert.Kernel6Ideal.Gen.frame m ρ,
  fun m ρ _ => reference6_frame m ρ,
  IdealRules.named_const.statement Cert.KernelIdeal.κ "mask" .f32 0xF149F2CA#32 ⊥ rfl,
  fun m ρ m' ρ' hpre heq => by
    have hf := fun c => Cert.Pre_finite_arguments.fine _ _ _ (hpre c)
    refine ⟨_, _, _, _, _, Cert.Fox.kernel_run m ρ (fun c => (hf c).1) (fun c => (hf c).2.1) (fun c => (hf c).2.2), ?_⟩
    refine (θ_run _ _ _).mono (fun r h c => ?_) (Cert.ReferenceIdeal.Value.run m' ρ')
    obtain ⟨e0, e1, e2⟩ := heq c
    obtain ⟨r0, r1, r2, r3, r4, ra⟩ := h c
    rw [Cert.Fox.Ref.res0_eq, e0, e1, e2] at r0
    rw [Cert.Fox.Ref.res1_eq, e0, e1, e2] at r1
    rw [Cert.Fox.Ref.res2_eq, e0, e1, e2] at r2
    rw [Cert.Fox.Ref.res3_eq, e0, e1, e2] at r3
    rw [Cert.Fox.Ref.res4_eq, e0, e1, e2] at r4
    exact ⟨r0, r1, r2, r3, r4, ra⟩,
  trivial,
  fun m ρ m' ρ' hpre heq => by
    have hf := fun c => Cert.Ffn.fine_of _ _ _ _ (hpre c)
    refine ⟨_, _, _, _, Cert.Ffn.kernel_ends m ρ, ?_⟩
    refine (θ_run _ _ _).mono (fun r h c => ?_) (Cert.Ffn.Ref.run m' ρ')
    obtain ⟨e0, e1, e2, e3⟩ := heq c
    obtain ⟨hX, hG, hD, hY⟩ := hf c
    obtain ⟨r0, r1, r2, r3, ra⟩ := h c
    rw [e0, e1, e2, ← Cert.Ffn.resY_eq] at r0
    rw [e0, e1, e2, e3, ← Cert.Ffn.resDh_eq _ _ _ _ hX hG hD hY] at r1
    rw [e0, e1, e2, e3, ← Cert.Ffn.resDwgu_eq _ _ _ _ hX hG hD hY] at r2
    rw [e0, e1, e3, ← Cert.Ffn.resDwd_eq] at r3
    exact ⟨r0, r1, r2, r3, ra⟩,
  trivial,
  fun m ρ m' ρ' hpre heq => by
    have hf := fun c => Cert.Cross.fine_of _ _ _ _ _ _ (hpre c)
    refine ⟨_, _, _, _, _, _, Cert.Cross.kernel_ends m ρ, ?_⟩
    refine (θ_run _ _ _).mono (fun r h c => ?_) (Cert.Cross.Ref.run m' ρ')
    obtain ⟨e0, e1, e2, e3, e4, e5⟩ := heq c
    obtain ⟨hX, hM, hQ, hK⟩ := hf c
    obtain ⟨r0, r1, r2, r3, r4, r5, ra⟩ := h c
    rw [e0, e1, e2, e3, e4, ← Cert.Cross.resY_eq] at r0
    rw [e0, e1, e2, e3, e4, e5, ← Cert.Cross.resDh_eq _ _ _ _ _ _ hX hM hQ hK] at r1
    rw [e0, e1, e2, e3, e4, e5, ← Cert.Cross.resDm_eq _ _ _ _ _ _ hX hM hQ hK] at r2
    rw [e0, e1, e2, e3, e4, e5, ← Cert.Cross.resDwq_eq _ _ _ _ _ _ hX hM hQ hK] at r3
    rw [e0, e1, e2, e3, e4, e5, ← Cert.Cross.resDwkv_eq _ _ _ _ _ _ hX hM hQ hK] at r4
    rw [e0, e1, e2, e3, e5, ← Cert.Cross.resDwo_eq] at r5
    exact ⟨r0, r1, r2, r3, r4, r5, ra⟩,
  trivial,
  fun m ρ m' ρ' _ heq => by
    refine ⟨_, _, _, _, _, _, _, _, Cert.Lru.kernel_ends m ρ, ?_⟩
    refine (θ_run _ _ _).mono (fun r h c => ?_) (Cert.Lru.Ref.run m' ρ')
    obtain ⟨e0, e1, e2, e3, e4, e5, e6, e7, e8, e9, e10⟩ := heq c
    obtain ⟨r0, r1, r2, r3, r4, r5, r6, r7, ra⟩ := h c
    rw [e0, e1, ← Cert.Lru.resGu_eq] at r0
    rw [e2, e3, e4, ← Cert.Lru.resZ_eq] at r1
    rw [e5, e6, ← Cert.Lru.resY_eq] at r2
    rw [e6, e10, ← Cert.Lru.resDyp_eq] at r3
    rw [e5, e10, ← Cert.Lru.resDwout_eq] at r4
    rw [e2, e8, e9, ← Cert.Lru.resDwai_eq] at r5
    rw [e0, e7, ← Cert.Lru.resDwin_eq] at r6
    rw [e1, e7, ← Cert.Lru.resDh_eq] at r7
    exact ⟨r0, r1, r2, r3, r4, r5, r6, r7, ra⟩,
  trivial,
  fun m ρ m' ρ' _ heq => by
    refine ⟨_, _, _, _, _, _, Cert.Proj.kernel_ends m ρ, ?_⟩
    refine (θ_run _ _ _).mono (fun r h c => ?_) (Cert.Proj.Ref.run m' ρ')
    obtain ⟨e0, e1, e2, e3, e4, e5⟩ := heq c
    obtain ⟨r0, r1, r2, r3, r4, r5, ra⟩ := h c
    rw [e0, e1, ← Cert.Proj.resProj_eq] at r0
    rw [e2, e3, ← Cert.Proj.resY_eq] at r1
    rw [e3, e5, ← Cert.Proj.resDcat_eq] at r2
    rw [e2, e5, ← Cert.Proj.resDwout_eq] at r3
    rw [e0, e4, ← Cert.Proj.resDwall_eq] at r4
    rw [e1, e4, ← Cert.Proj.resDh_eq] at r5
    exact ⟨r0, r1, r2, r3, r4, r5, ra⟩,
  trivial,
  fun m ρ m' ρ' _ heq => by
    refine ⟨_, _, _, _, _, _, _, _, _, _, _, _, _, _, _, _, _, _, _, _, _, _, _, _, _, _, _, Cert.Adam.kernel_ends m ρ, ?_⟩
    refine (θ_run _ _ _).mono (fun r h c => ?_) (Cert.Adam.Ref.run m' ρ')
    obtain ⟨e0, e1, e2, e3, e4, e5, e6, e7, e8, e9, e10, e11, e12, e13, e14, e15, e16, e17, e18, e19, e20, e21, e22, e23, e24, e25, e26, e27, e28, e29, e30, e31, e32, e33, e34, e35⟩ := heq c
    obtain ⟨r0, r1, r2, r3, r4, r5, r6, r7, r8, r9, r10, r11, r12, r13, r14, r15, r16, r17, r18, r19, r20, r21, r22, r23, r24, r25, r26, ra⟩ := h c
    rw [Cert.Adam.Ref.D0, e0, e1, e2, e3] at r0
    rw [Cert.Adam.Ref.M0, e1, e2] at r1
    rw [Cert.Adam.Ref.N0, e1, e3] at r2
    rw [Cert.Adam.Ref.D1, e4, e5, e6, e7] at r3
    rw [Cert.Adam.Ref.M1, e5, e6] at r4
    rw [Cert.Adam.Ref.N1, e5, e7] at r5
    rw [Cert.Adam.Ref.D2, e8, e9, e10, e11] at r6
    rw [Cert.Adam.Ref.M2, e9, e10] at r7
    rw [Cert.Adam.Ref.N2, e9, e11] at r8
    rw [Cert.Adam.Ref.D3, e12, e13, e14, e15] at r9
    rw [Cert.Adam.Ref.M3, e13, e14] at r10
    rw [Cert.Adam.Ref.N3, e13, e15] at r11
    rw [Cert.Adam.Ref.D4, e16, e17, e18, e19] at r12
    rw [Cert.Adam.Ref.M4, e17, e18] at r13
    rw [Cert.Adam.Ref.N4, e17, e19] at r14
    rw [Cert.Adam.Ref.D5, e20, e21, e22, e23] at r15
    rw [Cert.Adam.Ref.M5, e21, e22] at r16
    rw [Cert.Adam.Ref.N5, e21, e23] at r17
    rw [Cert.Adam.Ref.D6, e24, e25, e26, e27] at r18
    rw [Cert.Adam.Ref.M6, e25, e26] at r19
    rw [Cert.Adam.Ref.N6, e25, e27] at r20
    rw [Cert.Adam.Ref.D7, e28, e29, e30, e31] at r21
    rw [Cert.Adam.Ref.M7, e29, e30] at r22
    rw [Cert.Adam.Ref.N7, e29, e31] at r23
    rw [Cert.Adam.Ref.D8, e32, e33, e34, e35] at r24
    rw [Cert.Adam.Ref.M8, e33, e34] at r25
    rw [Cert.Adam.Ref.N8, e33, e35] at r26
    exact ⟨r0, r1, r2, r3, r4, r5, r6, r7, r8, r9, r10, r11, r12, r13, r14, r15, r16, r17, r18, r19, r20, r21, r22, r23, r24, r25, r26, ra⟩⟩

end Cert.Proof

end
